-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_fit : Cert.Pre_tables_fit.Facts] (m : (ℓ : Loc Cert.Kernel2.nD Cert.Kernel2.τ Cert.Kernel2.sig) → Buf (Elt Bits) ℓ) : Prop :=
  ∀ c : Dev Cert.Kernel2.nD,
    (Cert.Pre_tables_fit.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Reference2 [hPre_tables_fit : Cert.Pre_tables_fit.Facts] (m : (ℓ : Loc Cert.Reference2.nD Cert.Reference2.τ Cert.Reference2.sig) → Buf (Elt Bits) ℓ) : Prop :=
  ∀ c : Dev Cert.Reference2.nD,
    (Cert.Pre_tables_fit.fn (F := Bits) (m ((c.tc : Thread Cert.Reference2.nD Cert.Reference2.τ).loc Cert.Reference2.main_arg0)) (m ((c.tc : Thread Cert.Reference2.nD Cert.Reference2.τ).loc Cert.Reference2.main_arg1)) (m ((c.tc : Thread Cert.Reference2.nD Cert.Reference2.τ).loc Cert.Reference2.main_arg2)) (m ((c.tc : Thread Cert.Reference2.nD Cert.Reference2.τ).loc Cert.Reference2.main_arg3)) (m ((c.tc : Thread Cert.Reference2.nD Cert.Reference2.τ).loc Cert.Reference2.main_arg4)) (m ((c.tc : Thread Cert.Reference2.nD Cert.Reference2.τ).loc Cert.Reference2.main_arg5)) (m ((c.tc : Thread Cert.Reference2.nD Cert.Reference2.τ).loc Cert.Reference2.main_arg6)) (m ((c.tc : Thread Cert.Reference2.nD Cert.Reference2.τ).loc Cert.Reference2.main_arg7)) (m ((c.tc : Thread Cert.Reference2.nD Cert.Reference2.τ).loc Cert.Reference2.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_tables_fit : Cert.Pre_tables_fit.Facts] (m : (ℓ : Loc Cert.Kernel4.nD Cert.Kernel4.τ Cert.Kernel4.sig) → Buf (Elt Bits) ℓ) : Prop :=
  ∀ c : Dev Cert.Kernel4.nD,
    (Cert.Pre_tables_fit.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8))) = (fun _ => 1#1)

def Pre_Reference4 [hPre_tables_fit : Cert.Pre_tables_fit.Facts] (m : (ℓ : Loc Cert.Reference4.nD Cert.Reference4.τ Cert.Reference4.sig) → Buf (Elt Bits) ℓ) : Prop :=
  ∀ c : Dev Cert.Reference4.nD,
    (Cert.Pre_tables_fit.fn (F := Bits) (m ((c.tc : Thread Cert.Reference4.nD Cert.Reference4.τ).loc Cert.Reference4.main_arg0)) (m ((c.tc : Thread Cert.Reference4.nD Cert.Reference4.τ).loc Cert.Reference4.main_arg1)) (m ((c.tc : Thread Cert.Reference4.nD Cert.Reference4.τ).loc Cert.Reference4.main_arg2)) (m ((c.tc : Thread Cert.Reference4.nD Cert.Reference4.τ).loc Cert.Reference4.main_arg3)) (m ((c.tc : Thread Cert.Reference4.nD Cert.Reference4.τ).loc Cert.Reference4.main_arg4)) (m ((c.tc : Thread Cert.Reference4.nD Cert.Reference4.τ).loc Cert.Reference4.main_arg5)) (m ((c.tc : Thread Cert.Reference4.nD Cert.Reference4.τ).loc Cert.Reference4.main_arg6)) (m ((c.tc : Thread Cert.Reference4.nD Cert.Reference4.τ).loc Cert.Reference4.main_arg7)) (m ((c.tc : Thread Cert.Reference4.nD Cert.Reference4.τ).loc Cert.Reference4.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_tables_fit : Cert.Pre_tables_fit.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Reference2 [hReference2 : Cert.Reference2.Facts] [hPre_tables_fit : Cert.Pre_tables_fit.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7)
      ∧ r.2.mem ((c.tc : Thread Cert.Reference2.nD Cert.Reference2.τ).loc Cert.Reference2.main_arg8) = m ((c.tc : Thread Cert.Reference2.nD Cert.Reference2.τ).loc Cert.Reference2.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_tables_fit : Cert.Pre_tables_fit.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Reference4 [hReference4 : Cert.Reference4.Facts] [hPre_tables_fit : Cert.Pre_tables_fit.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6)
      ∧ r.2.mem ((c.tc : Thread Cert.Reference4.nD Cert.Reference4.τ).loc Cert.Reference4.main_arg7) = m ((c.tc : Thread Cert.Reference4.nD Cert.Reference4.τ).loc Cert.Reference4.main_arg7)
      ∧ r.2.mem ((c.tc : Thread Cert.Reference4.nD Cert.Reference4.τ).loc Cert.Reference4.main_arg8) = m ((c.tc : Thread Cert.Reference4.nD Cert.Reference4.τ).loc Cert.Reference4.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def bitexact_Kernel2_Reference2 [hKernel2 : Cert.Kernel2.Facts] [hReference2 : Cert.Reference2.Facts] [hPre_tables_fit : Cert.Pre_tables_fit.Facts] : Prop :=
  ∀ (m : (ℓ : Loc Cert.Kernel2.nD Cert.Kernel2.τ Cert.Kernel2.sig) → Buf (Elt Bits) ℓ) (g : Dev Cert.Kernel2.nD → PrngReg)
    (m' : (ℓ : Loc Cert.Reference2.nD Cert.Reference2.τ Cert.Reference2.sig) → Buf (Elt Bits) ℓ) (g' : Dev Cert.Reference2.nD → PrngReg), Pre_Kernel2 m →
    (∀ c : Dev Cert.Kernel2.nD,
      m' ((c.tc : Thread Cert.Reference2.nD Cert.Reference2.τ).loc Cert.Reference2.main_arg0) = m ((c.tc : Thread Cert.Kernel2.nD Cert.Kernel2.τ).loc Cert.Kernel2.main_arg0)
      ∧ m' ((c.tc : Thread Cert.Reference2.nD Cert.Reference2.τ).loc Cert.Reference2.main_arg1) = m ((c.tc : Thread Cert.Kernel2.nD Cert.Kernel2.τ).loc Cert.Kernel2.main_arg1)
      ∧ m' ((c.tc : Thread Cert.Reference2.nD Cert.Reference2.τ).loc Cert.Reference2.main_arg2) = m ((c.tc : Thread Cert.Kernel2.nD Cert.Kernel2.τ).loc Cert.Kernel2.main_arg2)
      ∧ m' ((c.tc : Thread Cert.Reference2.nD Cert.Reference2.τ).loc Cert.Reference2.main_arg3) = m ((c.tc : Thread Cert.Kernel2.nD Cert.Kernel2.τ).loc Cert.Kernel2.main_arg3)
      ∧ m' ((c.tc : Thread Cert.Reference2.nD Cert.Reference2.τ).loc Cert.Reference2.main_arg4) = m ((c.tc : Thread Cert.Kernel2.nD Cert.Kernel2.τ).loc Cert.Kernel2.main_arg4)
      ∧ m' ((c.tc : Thread Cert.Reference2.nD Cert.Reference2.τ).loc Cert.Reference2.main_arg5) = m ((c.tc : Thread Cert.Kernel2.nD Cert.Kernel2.τ).loc Cert.Kernel2.main_arg5)
      ∧ m' ((c.tc : Thread Cert.Reference2.nD Cert.Reference2.τ).loc Cert.Reference2.main_arg6) = m ((c.tc : Thread Cert.Kernel2.nD Cert.Kernel2.τ).loc Cert.Kernel2.main_arg6)
      ∧ m' ((c.tc : Thread Cert.Reference2.nD Cert.Reference2.τ).loc Cert.Reference2.main_arg7) = m ((c.tc : Thread Cert.Kernel2.nD Cert.Kernel2.τ).loc Cert.Kernel2.main_arg7)
      ∧ m' ((c.tc : Thread Cert.Reference2.nD Cert.Reference2.τ).loc Cert.Reference2.main_arg8) = m ((c.tc : Thread Cert.Kernel2.nD Cert.Kernel2.τ).loc Cert.Kernel2.main_arg8)) →
    ∃ (v0 : (c : Dev Cert.Kernel2.nD) → Buf (Elt Bits) ((c.tc : Thread Cert.Kernel2.nD Cert.Kernel2.τ).loc Cert.Kernel2.main_v0)),
      θ_run (Cert.Kernel2.defs (F := Bits)) (onTc (τ := Cert.Kernel2.τ) (Cert.Kernel2.main (F := Bits))) ⟨m, fun _ => 0, g⟩ (fun r => ∀ c : Dev Cert.Kernel2.nD,
          r.2.mem ((c.tc : Thread Cert.Kernel2.nD Cert.Kernel2.τ).loc Cert.Kernel2.main_v0) = v0 c
          ∧ r.2.mem ((c.tc : Thread Cert.Kernel2.nD Cert.Kernel2.τ).loc Cert.Kernel2.main_arg0) = m ((c.tc : Thread Cert.Kernel2.nD Cert.Kernel2.τ).loc Cert.Kernel2.main_arg0)
          ∧ r.2.mem ((c.tc : Thread Cert.Kernel2.nD Cert.Kernel2.τ).loc Cert.Kernel2.main_arg1) = m ((c.tc : Thread Cert.Kernel2.nD Cert.Kernel2.τ).loc Cert.Kernel2.main_arg1)
          ∧ r.2.mem ((c.tc : Thread Cert.Kernel2.nD Cert.Kernel2.τ).loc Cert.Kernel2.main_arg2) = m ((c.tc : Thread Cert.Kernel2.nD Cert.Kernel2.τ).loc Cert.Kernel2.main_arg2)
          ∧ r.2.mem ((c.tc : Thread Cert.Kernel2.nD Cert.Kernel2.τ).loc Cert.Kernel2.main_arg3) = m ((c.tc : Thread Cert.Kernel2.nD Cert.Kernel2.τ).loc Cert.Kernel2.main_arg3)
          ∧ r.2.mem ((c.tc : Thread Cert.Kernel2.nD Cert.Kernel2.τ).loc Cert.Kernel2.main_arg4) = m ((c.tc : Thread Cert.Kernel2.nD Cert.Kernel2.τ).loc Cert.Kernel2.main_arg4)
          ∧ r.2.mem ((c.tc : Thread Cert.Kernel2.nD Cert.Kernel2.τ).loc Cert.Kernel2.main_arg5) = m ((c.tc : Thread Cert.Kernel2.nD Cert.Kernel2.τ).loc Cert.Kernel2.main_arg5)
          ∧ r.2.mem ((c.tc : Thread Cert.Kernel2.nD Cert.Kernel2.τ).loc Cert.Kernel2.main_arg6) = m ((c.tc : Thread Cert.Kernel2.nD Cert.Kernel2.τ).loc Cert.Kernel2.main_arg6)
          ∧ r.2.mem ((c.tc : Thread Cert.Kernel2.nD Cert.Kernel2.τ).loc Cert.Kernel2.main_arg7) = m ((c.tc : Thread Cert.Kernel2.nD Cert.Kernel2.τ).loc Cert.Kernel2.main_arg7)
          ∧ r.2.mem ((c.tc : Thread Cert.Kernel2.nD Cert.Kernel2.τ).loc Cert.Kernel2.main_arg8) = m ((c.tc : Thread Cert.Kernel2.nD Cert.Kernel2.τ).loc Cert.Kernel2.main_arg8))
      ∧ θ_run (Cert.Reference2.defs (F := Bits)) (onTc (τ := Cert.Reference2.τ) (Cert.Reference2.main (F := Bits))) ⟨m', fun _ => 0, g'⟩ (fun r => ∀ c : Dev Cert.Reference2.nD,
          r.2.mem ((c.tc : Thread Cert.Reference2.nD Cert.Reference2.τ).loc Cert.Reference2.main_v6) = v0 c
          ∧ r.2.mem ((c.tc : Thread Cert.Reference2.nD Cert.Reference2.τ).loc Cert.Reference2.main_arg0) = m' ((c.tc : Thread Cert.Reference2.nD Cert.Reference2.τ).loc Cert.Reference2.main_arg0)
          ∧ r.2.mem ((c.tc : Thread Cert.Reference2.nD Cert.Reference2.τ).loc Cert.Reference2.main_arg1) = m' ((c.tc : Thread Cert.Reference2.nD Cert.Reference2.τ).loc Cert.Reference2.main_arg1)
          ∧ r.2.mem ((c.tc : Thread Cert.Reference2.nD Cert.Reference2.τ).loc Cert.Reference2.main_arg2) = m' ((c.tc : Thread Cert.Reference2.nD Cert.Reference2.τ).loc Cert.Reference2.main_arg2)
          ∧ r.2.mem ((c.tc : Thread Cert.Reference2.nD Cert.Reference2.τ).loc Cert.Reference2.main_arg3) = m' ((c.tc : Thread Cert.Reference2.nD Cert.Reference2.τ).loc Cert.Reference2.main_arg3)
          ∧ r.2.mem ((c.tc : Thread Cert.Reference2.nD Cert.Reference2.τ).loc Cert.Reference2.main_arg4) = m' ((c.tc : Thread Cert.Reference2.nD Cert.Reference2.τ).loc Cert.Reference2.main_arg4)
          ∧ r.2.mem ((c.tc : Thread Cert.Reference2.nD Cert.Reference2.τ).loc Cert.Reference2.main_arg5) = m' ((c.tc : Thread Cert.Reference2.nD Cert.Reference2.τ).loc Cert.Reference2.main_arg5)
          ∧ r.2.mem ((c.tc : Thread Cert.Reference2.nD Cert.Reference2.τ).loc Cert.Reference2.main_arg6) = m' ((c.tc : Thread Cert.Reference2.nD Cert.Reference2.τ).loc Cert.Reference2.main_arg6)
          ∧ r.2.mem ((c.tc : Thread Cert.Reference2.nD Cert.Reference2.τ).loc Cert.Reference2.main_arg7) = m' ((c.tc : Thread Cert.Reference2.nD Cert.Reference2.τ).loc Cert.Reference2.main_arg7)
          ∧ r.2.mem ((c.tc : Thread Cert.Reference2.nD Cert.Reference2.τ).loc Cert.Reference2.main_arg8) = m' ((c.tc : Thread Cert.Reference2.nD Cert.Reference2.τ).loc Cert.Reference2.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def bitexact_Kernel4_Reference4 [hKernel4 : Cert.Kernel4.Facts] [hReference4 : Cert.Reference4.Facts] [hPre_tables_fit : Cert.Pre_tables_fit.Facts] : Prop :=
  ∀ (m : (ℓ : Loc Cert.Kernel4.nD Cert.Kernel4.τ Cert.Kernel4.sig) → Buf (Elt Bits) ℓ) (g : Dev Cert.Kernel4.nD → PrngReg)
    (m' : (ℓ : Loc Cert.Reference4.nD Cert.Reference4.τ Cert.Reference4.sig) → Buf (Elt Bits) ℓ) (g' : Dev Cert.Reference4.nD → PrngReg), Pre_Kernel4 m →
    (∀ c : Dev Cert.Kernel4.nD,
      m' ((c.tc : Thread Cert.Reference4.nD Cert.Reference4.τ).loc Cert.Reference4.main_arg0) = m ((c.tc : Thread Cert.Kernel4.nD Cert.Kernel4.τ).loc Cert.Kernel4.main_arg0)
      ∧ m' ((c.tc : Thread Cert.Reference4.nD Cert.Reference4.τ).loc Cert.Reference4.main_arg1) = m ((c.tc : Thread Cert.Kernel4.nD Cert.Kernel4.τ).loc Cert.Kernel4.main_arg1)
      ∧ m' ((c.tc : Thread Cert.Reference4.nD Cert.Reference4.τ).loc Cert.Reference4.main_arg2) = m ((c.tc : Thread Cert.Kernel4.nD Cert.Kernel4.τ).loc Cert.Kernel4.main_arg2)
      ∧ m' ((c.tc : Thread Cert.Reference4.nD Cert.Reference4.τ).loc Cert.Reference4.main_arg3) = m ((c.tc : Thread Cert.Kernel4.nD Cert.Kernel4.τ).loc Cert.Kernel4.main_arg3)
      ∧ m' ((c.tc : Thread Cert.Reference4.nD Cert.Reference4.τ).loc Cert.Reference4.main_arg4) = m ((c.tc : Thread Cert.Kernel4.nD Cert.Kernel4.τ).loc Cert.Kernel4.main_arg4)
      ∧ m' ((c.tc : Thread Cert.Reference4.nD Cert.Reference4.τ).loc Cert.Reference4.main_arg5) = m ((c.tc : Thread Cert.Kernel4.nD Cert.Kernel4.τ).loc Cert.Kernel4.main_arg5)
      ∧ m' ((c.tc : Thread Cert.Reference4.nD Cert.Reference4.τ).loc Cert.Reference4.main_arg6) = m ((c.tc : Thread Cert.Kernel4.nD Cert.Kernel4.τ).loc Cert.Kernel4.main_arg6)
      ∧ m' ((c.tc : Thread Cert.Reference4.nD Cert.Reference4.τ).loc Cert.Reference4.main_arg7) = m ((c.tc : Thread Cert.Kernel4.nD Cert.Kernel4.τ).loc Cert.Kernel4.main_arg7)
      ∧ m' ((c.tc : Thread Cert.Reference4.nD Cert.Reference4.τ).loc Cert.Reference4.main_arg8) = m ((c.tc : Thread Cert.Kernel4.nD Cert.Kernel4.τ).loc Cert.Kernel4.main_arg8)) →
    ∃ (v0 : (c : Dev Cert.Kernel4.nD) → Buf (Elt Bits) ((c.tc : Thread Cert.Kernel4.nD Cert.Kernel4.τ).loc Cert.Kernel4.main_v0)),
      θ_run (Cert.Kernel4.defs (F := Bits)) (onTc (τ := Cert.Kernel4.τ) (Cert.Kernel4.main (F := Bits))) ⟨m, fun _ => 0, g⟩ (fun r => ∀ c : Dev Cert.Kernel4.nD,
          r.2.mem ((c.tc : Thread Cert.Kernel4.nD Cert.Kernel4.τ).loc Cert.Kernel4.main_v0) = v0 c
          ∧ r.2.mem ((c.tc : Thread Cert.Kernel4.nD Cert.Kernel4.τ).loc Cert.Kernel4.main_arg0) = m ((c.tc : Thread Cert.Kernel4.nD Cert.Kernel4.τ).loc Cert.Kernel4.main_arg0)
          ∧ r.2.mem ((c.tc : Thread Cert.Kernel4.nD Cert.Kernel4.τ).loc Cert.Kernel4.main_arg1) = m ((c.tc : Thread Cert.Kernel4.nD Cert.Kernel4.τ).loc Cert.Kernel4.main_arg1)
          ∧ r.2.mem ((c.tc : Thread Cert.Kernel4.nD Cert.Kernel4.τ).loc Cert.Kernel4.main_arg2) = m ((c.tc : Thread Cert.Kernel4.nD Cert.Kernel4.τ).loc Cert.Kernel4.main_arg2)
          ∧ r.2.mem ((c.tc : Thread Cert.Kernel4.nD Cert.Kernel4.τ).loc Cert.Kernel4.main_arg3) = m ((c.tc : Thread Cert.Kernel4.nD Cert.Kernel4.τ).loc Cert.Kernel4.main_arg3)
          ∧ r.2.mem ((c.tc : Thread Cert.Kernel4.nD Cert.Kernel4.τ).loc Cert.Kernel4.main_arg4) = m ((c.tc : Thread Cert.Kernel4.nD Cert.Kernel4.τ).loc Cert.Kernel4.main_arg4)
          ∧ r.2.mem ((c.tc : Thread Cert.Kernel4.nD Cert.Kernel4.τ).loc Cert.Kernel4.main_arg5) = m ((c.tc : Thread Cert.Kernel4.nD Cert.Kernel4.τ).loc Cert.Kernel4.main_arg5)
          ∧ r.2.mem ((c.tc : Thread Cert.Kernel4.nD Cert.Kernel4.τ).loc Cert.Kernel4.main_arg6) = m ((c.tc : Thread Cert.Kernel4.nD Cert.Kernel4.τ).loc Cert.Kernel4.main_arg6)
          ∧ r.2.mem ((c.tc : Thread Cert.Kernel4.nD Cert.Kernel4.τ).loc Cert.Kernel4.main_arg7) = m ((c.tc : Thread Cert.Kernel4.nD Cert.Kernel4.τ).loc Cert.Kernel4.main_arg7)
          ∧ r.2.mem ((c.tc : Thread Cert.Kernel4.nD Cert.Kernel4.τ).loc Cert.Kernel4.main_arg8) = m ((c.tc : Thread Cert.Kernel4.nD Cert.Kernel4.τ).loc Cert.Kernel4.main_arg8))
      ∧ θ_run (Cert.Reference4.defs (F := Bits)) (onTc (τ := Cert.Reference4.τ) (Cert.Reference4.main (F := Bits))) ⟨m', fun _ => 0, g'⟩ (fun r => ∀ c : Dev Cert.Reference4.nD,
          r.2.mem ((c.tc : Thread Cert.Reference4.nD Cert.Reference4.τ).loc Cert.Reference4.main_v6) = v0 c
          ∧ r.2.mem ((c.tc : Thread Cert.Reference4.nD Cert.Reference4.τ).loc Cert.Reference4.main_arg0) = m' ((c.tc : Thread Cert.Reference4.nD Cert.Reference4.τ).loc Cert.Reference4.main_arg0)
          ∧ r.2.mem ((c.tc : Thread Cert.Reference4.nD Cert.Reference4.τ).loc Cert.Reference4.main_arg1) = m' ((c.tc : Thread Cert.Reference4.nD Cert.Reference4.τ).loc Cert.Reference4.main_arg1)
          ∧ r.2.mem ((c.tc : Thread Cert.Reference4.nD Cert.Reference4.τ).loc Cert.Reference4.main_arg2) = m' ((c.tc : Thread Cert.Reference4.nD Cert.Reference4.τ).loc Cert.Reference4.main_arg2)
          ∧ r.2.mem ((c.tc : Thread Cert.Reference4.nD Cert.Reference4.τ).loc Cert.Reference4.main_arg3) = m' ((c.tc : Thread Cert.Reference4.nD Cert.Reference4.τ).loc Cert.Reference4.main_arg3)
          ∧ r.2.mem ((c.tc : Thread Cert.Reference4.nD Cert.Reference4.τ).loc Cert.Reference4.main_arg4) = m' ((c.tc : Thread Cert.Reference4.nD Cert.Reference4.τ).loc Cert.Reference4.main_arg4)
          ∧ r.2.mem ((c.tc : Thread Cert.Reference4.nD Cert.Reference4.τ).loc Cert.Reference4.main_arg5) = m' ((c.tc : Thread Cert.Reference4.nD Cert.Reference4.τ).loc Cert.Reference4.main_arg5)
          ∧ r.2.mem ((c.tc : Thread Cert.Reference4.nD Cert.Reference4.τ).loc Cert.Reference4.main_arg6) = m' ((c.tc : Thread Cert.Reference4.nD Cert.Reference4.τ).loc Cert.Reference4.main_arg6)
          ∧ r.2.mem ((c.tc : Thread Cert.Reference4.nD Cert.Reference4.τ).loc Cert.Reference4.main_arg7) = m' ((c.tc : Thread Cert.Reference4.nD Cert.Reference4.τ).loc Cert.Reference4.main_arg7)
          ∧ r.2.mem ((c.tc : Thread Cert.Reference4.nD Cert.Reference4.τ).loc Cert.Reference4.main_arg8) = m' ((c.tc : Thread Cert.Reference4.nD Cert.Reference4.τ).loc Cert.Reference4.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hReference2 : Cert.Reference2.Facts) (hKernel3 : Cert.Kernel3.Facts) (hKernel3Ideal : Cert.Kernel3Ideal.Facts) (hReference3Ideal : Cert.Reference3Ideal.Facts) (hKernel4 : Cert.Kernel4.Facts) (hReference4 : Cert.Reference4.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_tables_fit : Cert.Pre_tables_fit.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_fit := hPre_tables_fit)
    ∧ quiescent_Reference2 (hReference2 := hReference2) (hPre_tables_fit := hPre_tables_fit)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_tables_fit := hPre_tables_fit)
    ∧ quiescent_Reference4 (hReference4 := hReference4) (hPre_tables_fit := hPre_tables_fit)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ bitexact_Kernel2_Reference2 (hKernel2 := hKernel2) (hReference2 := hReference2) (hPre_tables_fit := hPre_tables_fit)
    ∧ preserves_Kernel3_Kernel3Ideal
    ∧ algebraic_Kernel3Ideal_Reference3Ideal (hKernel3Ideal := hKernel3Ideal) (hReference3Ideal := hReference3Ideal)
    ∧ bitexact_Kernel4_Reference4 (hKernel4 := hKernel4) (hReference4 := hReference4) (hPre_tables_fit := hPre_tables_fit)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_tables_fit.lean ====
abbrev S167936x512 : Shape := ⟨2, ![167936, 512]⟩
abbrev S328 : Shape := ⟨1, ![328]⟩
abbrev S64 : Shape := ⟨1, ![64]⟩
abbrev S2 : Shape := ⟨1, ![2]⟩
abbrev S2x64x1024x256 : Shape := ⟨4, ![2, 64, 1024, 256]⟩
abbrev S2x64x256x1024 : Shape := ⟨4, ![2, 64, 256, 1024]⟩
abbrev S1 : Shape := ⟨1, ![1]⟩
abbrev S_ : Shape := ⟨0, ![]⟩
abbrev S327 : Shape := ⟨1, ![327]⟩
abbrev S1116 : Shape := ⟨1, ![1116]⟩

class Facts : Prop where
  slices_S2_S1_0 : S2.Slices ![0] S1
  shapeCasts_S1_S_ : S1.ShapeCasts S_
  slices_S2_S1_1 : S2.Slices ![1] S1
  bcast_S_S1 : S_.BroadcastsInDim S1 (![] : Fin 0 → Fin S1.rank)
  bcast_S_S328 : S_.BroadcastsInDim S328 (![] : Fin 0 → Fin S328.rank)
  slices_S328_S1_0 : S328.Slices ![0] S1
  slices_S328_S327_1 : S328.Slices ![1] S327
  slices_S328_S327_0 : S328.Slices ![0] S327
  bcast_S_S64 : S_.BroadcastsInDim S64 (![] : Fin 0 → Fin S64.rank)
  concatenates_S1_S1_S1_S328_S1_S1_S327_S328_S64_S64_S1116_d0 : Shape.Concatenates [S1, S1, S1, S328, S1, S1, S327, S328, S64, S64] S1116 0

variable [Facts]

def fn_part2 {F : FTy → Type} [FloatOps F] (main_arg4 : IVec S64 32) (main_v7 : IVec S1 1) (main_v10 : IVec S1 1) (main_v13 : IVec S1 1) (main_v18 : IVec S328 1) (main_v21 : IVec S1 1) (main_v24 : IVec S1 1) (main_v29 : IVec S327 1) (main_v37 : IVec S328 1) (main_c_8 : IVec S_ 32) : IVec S1116 1 :=
  let main_v38 : IVec S64 32 := broadcastInDim S64 ![] bcast_S_S64 main_c_8
  let main_v39 : IVec S64 1 := cmpi .sge main_arg4 main_v38
  let main_c_9 : IVec S_ 32 := constantI S_ 32 64#32
  let main_v40 : IVec S64 32 := broadcastInDim S64 ![] bcast_S_S64 main_c_9
  let main_v41 : IVec S64 1 := cmpi .slt main_arg4 main_v40
  let main_v42 : IVec S1116 1 := concatenate S1116 0 [⟨S1, main_v7⟩, ⟨S1, main_v10⟩, ⟨S1, main_v13⟩, ⟨S328, main_v18⟩, ⟨S1, main_v21⟩, ⟨S1, main_v24⟩, ⟨S327, main_v29⟩, ⟨S328, main_v37⟩, ⟨S64, main_v39⟩, ⟨S64, main_v41⟩] concatenates_S1_S1_S1_S328_S1_S1_S327_S328_S64_S64_S1116_d0
  main_v42

def fn_part1 {F : FTy → Type} [FloatOps F] (main_arg2 : IVec S328 32) (main_arg3 : IVec S328 32) (main_arg4 : IVec S64 32) (main_v1 : IVec S_ 32) (main_v3 : IVec S_ 32) (main_v4 : IVec S328 32) (main_v7 : IVec S1 1) (main_v10 : IVec S1 1) (main_v13 : IVec S1 1) (main_v18 : IVec S328 1) : IVec S1116 1 :=
  let main_v19 : IVec S1 32 := (extractStridedSlice S1 ![0] · slices_S328_S1_0) main_arg2
  let main_c_4 : IVec S_ 32 := constantI S_ 32 1#32
  let main_v20 : IVec S1 32 := broadcastInDim S1 ![] bcast_S_S1 main_c_4
  let main_v21 : IVec S1 1 := cmpi .eq main_v19 main_v20
  let main_v22 : IVec S1 32 := (extractStridedSlice S1 ![0] · slices_S328_S1_0) main_arg3
  let main_c_5 : IVec S_ 32 := constantI S_ 32 0#32
  let main_v23 : IVec S1 32 := broadcastInDim S1 ![] bcast_S_S1 main_c_5
  let main_v24 : IVec S1 1 := cmpi .eq main_v22 main_v23
  let main_v25 : IVec S327 32 := (extractStridedSlice S327 ![1] · slices_S328_S327_1) main_arg3
  let main_v26 : IVec S327 32 := (extractStridedSlice S327 ![0] · slices_S328_S327_0) main_arg3
  let main_v27 : IVec S327 32 := (extractStridedSlice S327 ![1] · slices_S328_S327_1) main_arg2
  let main_v28 : IVec S327 32 := addi main_v26 main_v27
  let main_v29 : IVec S327 1 := cmpi .eq main_v25 main_v28
  let main_c_6 : IVec S_ 32 := constantI S_ 32 1#32
  let main_v30 : IVec S_ 32 := subi main_v1 main_c_6
  let main_v31 : IVec S328 32 := broadcastInDim S328 ![] bcast_S_S328 main_v30
  let main_v32 : IVec S328 1 := cmpi .ne main_v4 main_v31
  let main_c_7 : IVec S_ 32 := constantI S_ 32 1#32
  let main_v33 : IVec S328 32 := broadcastInDim S328 ![] bcast_S_S328 main_c_7
  let main_v34 : IVec S328 32 := addi main_arg3 main_v33
  let main_v35 : IVec S328 32 := broadcastInDim S328 ![] bcast_S_S328 main_v3
  let main_v36 : IVec S328 1 := cmpi .eq main_v34 main_v35
  let main_v37 : IVec S328 1 := ori main_v32 main_v36
  let main_c_8 : IVec S_ 32 := constantI S_ 32 0#32
  fn_part2 (F := F) main_arg4 main_v7 main_v10 main_v13 main_v18 main_v21 main_v24 main_v29 main_v37 main_c_8

def fn {F : FTy → Type} [FloatOps F] (main_arg0 : IVec S167936x512 32) (main_arg1 : IVec S328 32) (main_arg2 : IVec S328 32) (main_arg3 : IVec S328 32) (main_arg4 : IVec S64 32) (main_arg5 : IVec S2 32) (main_arg6 : FVec F S2x64x1024x256 .f32) (main_arg7 : FVec F S2x64x1024x256 .f32) (main_arg8 : FVec F S2x64x256x1024 .f32) : IVec S1116 1 :=
  let main_v0 : IVec S1 32 := (extractStridedSlice S1 ![0] · slices_S2_S1_0) main_arg5
  let main_v1 : IVec S_ 32 := shapeCast S_ main_v0 shapeCasts_S1_S_
  let main_v2 : IVec S1 32 := (extractStridedSlice S1 ![1] · slices_S2_S1_1) main_arg5
  let main_v3 : IVec S_ 32 := shapeCast S_ main_v2 shapeCasts_S1_S_
  let main_v4 : IVec S328 32 := iotaInDim S328 32 0
  let main_v5 : IVec S1 32 := (extractStridedSlice S1 ![0] · slices_S2_S1_0) main_arg5
  let main_c : IVec S_ 32 := constantI S_ 32 1#32
  let main_v6 : IVec S1 32 := broadcastInDim S1 ![] bcast_S_S1 main_c
  let main_v7 : IVec S1 1 := cmpi .sge main_v5 main_v6
  let main_v8 : IVec S1 32 := (extractStridedSlice S1 ![0] · slices_S2_S1_0) main_arg5
  let main_c_0 : IVec S_ 32 := constantI S_ 32 328#32
  let main_v9 : IVec S1 32 := broadcastInDim S1 ![] bcast_S_S1 main_c_0
  let main_v10 : IVec S1 1 := cmpi .sle main_v8 main_v9
  let main_v11 : IVec S1 32 := (extractStridedSlice S1 ![1] · slices_S2_S1_1) main_arg5
  let main_c_1 : IVec S_ 32 := constantI S_ 32 64#32
  let main_v12 : IVec S1 32 := broadcastInDim S1 ![] bcast_S_S1 main_c_1
  let main_v13 : IVec S1 1 := cmpi .sle main_v11 main_v12
  let main_c_2 : IVec S_ 32 := constantI S_ 32 0#32
  let main_v14 : IVec S328 32 := broadcastInDim S328 ![] bcast_S_S328 main_c_2
  let main_v15 : IVec S328 1 := cmpi .eq main_arg2 main_v14
  let main_c_3 : IVec S_ 32 := constantI S_ 32 1#32
  let main_v16 : IVec S328 32 := broadcastInDim S328 ![] bcast_S_S328 main_c_3
  let main_v17 : IVec S328 1 := cmpi .eq main_arg2 main_v16
  let main_v18 : IVec S328 1 := ori main_v15 main_v17
  fn_part1 (F := F) main_arg2 main_arg3 main_arg4 main_v1 main_v3 main_v4 main_v7 main_v10 main_v13 main_v18
-- ==== Kernel.lean ====
abbrev S8x16896x512 : Shape := ⟨3, ![8, 16896, 512]⟩
abbrev S8x16896 : Shape := ⟨2, ![8, 16896]⟩
abbrev S2x8448x512 : Shape := ⟨3, ![2, 8448, 512]⟩
abbrev S2x1024x256 : Shape := ⟨3, ![2, 1024, 256]⟩
abbrev S2x256x1024 : Shape := ⟨3, ![2, 256, 1024]⟩
abbrev S2x8448x1024 : Shape := ⟨3, ![2, 8448, 1024]⟩
abbrev S8x6144 : Shape := ⟨2, ![8, 6144]⟩
abbrev S2x6144 : Shape := ⟨2, ![2, 6144]⟩
abbrev S2x6x1024 : Shape := ⟨3, ![2, 6, 1024]⟩
abbrev S1x6144 : Shape := ⟨2, ![1, 6144]⟩
abbrev S6144 : Shape := ⟨1, ![6144]⟩
abbrev S1x6x1024 : Shape := ⟨3, ![1, 6, 1024]⟩
abbrev S2x1x6x1024 : Shape := ⟨4, ![2, 1, 6, 1024]⟩
abbrev S2x2x6x1024 : Shape := ⟨4, ![2, 2, 6, 1024]⟩
abbrev S16896x8 : Shape := ⟨2, ![16896, 8]⟩
abbrev S2x8448x8 : Shape := ⟨3, ![2, 8448, 8]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S2x8192x1024 : Shape := ⟨3, ![2, 8192, 1024]⟩
abbrev S8x256x512 : Shape := ⟨3, ![8, 256, 512]⟩
abbrev S1x256x8 : Shape := ⟨3, ![1, 256, 8]⟩
abbrev S1x256x512 : Shape := ⟨3, ![1, 256, 512]⟩
abbrev S1x1x6x1024 : Shape := ⟨4, ![1, 1, 6, 1024]⟩
abbrev S256x8 : Shape := ⟨2, ![256, 8]⟩
abbrev S256x512 : Shape := ⟨2, ![256, 512]⟩
abbrev S256x1 : Shape := ⟨2, ![256, 1]⟩
abbrev S256x256 : Shape := ⟨2, ![256, 256]⟩
abbrev S1x1x1x1024 : Shape := ⟨4, ![1, 1, 1, 1024]⟩
abbrev S1x1024 : Shape := ⟨2, ![1, 1024]⟩

abbrev nBuf : Space → Nat
  | .hbm => 29
  | .vmem => 15
  | .smem => 0
  | _ => 0

abbrev bufTy : (tb : Table) → Fin (tcTables nBuf tb) → BufTy
  | .hbm, ⟨0, _⟩ => ⟨S8x16896x512, .i32⟩
  | .hbm, ⟨1, _⟩ => ⟨S8x16896, .f32⟩
  | .hbm, ⟨2, _⟩ => ⟨S2x8448x512, .i32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S2x8448x1024, .f32⟩
  | .hbm, ⟨7, _⟩ => ⟨S8x6144, .f32⟩
  | .hbm, ⟨8, _⟩ => ⟨S2x6144, .f32⟩
  | .hbm, ⟨9, _⟩ => ⟨S2x6x1024, .f32⟩
  | .hbm, ⟨10, _⟩ => ⟨S1x6144, .f32⟩
  | .hbm, ⟨11, _⟩ => ⟨S6144, .f32⟩
  | .hbm, ⟨12, _⟩ => ⟨S1x6x1024, .f32⟩
  | .hbm, ⟨13, _⟩ => ⟨S2x6x1024, .f32⟩
  | .hbm, ⟨14, _⟩ => ⟨S2x1x6x1024, .f32⟩
  | .hbm, ⟨15, _⟩ => ⟨S2x1x6x1024, .f32⟩
  | .hbm, ⟨16, _⟩ => ⟨S2x2x6x1024, .f32⟩
  | .hbm, ⟨17, _⟩ => ⟨S16896x8, .f32⟩
  | .hbm, ⟨18, _⟩ => ⟨S2x8448x8, .f32⟩
  | .hbm, ⟨19, _⟩ => ⟨S1x1024x256, .f32⟩
  | .hbm, ⟨20, _⟩ => ⟨S1024x256, .f32⟩
  | .hbm, ⟨21, _⟩ => ⟨S1024x256, .bf16⟩
  | .hbm, ⟨22, _⟩ => ⟨S1x1024x256, .f32⟩
  | .hbm, ⟨23, _⟩ => ⟨S1024x256, .f32⟩
  | .hbm, ⟨24, _⟩ => ⟨S1024x256, .bf16⟩
  | .hbm, ⟨25, _⟩ => ⟨S1x256x1024, .f32⟩
  | .hbm, ⟨26, _⟩ => ⟨S256x1024, .f32⟩
  | .hbm, ⟨27, _⟩ => ⟨S256x1024, .bf16⟩
  | .hbm, ⟨28, _⟩ => ⟨S2x8192x1024, .f32⟩
  | .local _ .vmem, ⟨0, _⟩ => ⟨S8x256x512, .i32⟩
  | .local _ .vmem, ⟨1, _⟩ => ⟨S8x256x512, .i32⟩
  | .local _ .vmem, ⟨2, _⟩ => ⟨S1x256x8, .f32⟩
  | .local _ .vmem, ⟨3, _⟩ => ⟨S1x256x8, .f32⟩
  | .local _ .vmem, ⟨4, _⟩ => ⟨S1x256x512, .i32⟩
  | .local _ .vmem, ⟨5, _⟩ => ⟨S1x256x512, .i32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S1x256x1024, .f32⟩
  | .local _ .vmem, ⟨14, _⟩ => ⟨S1x256x1024, .f32⟩
  | _, _ => ⟨S8x16896x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c1_i32 : BitVec 32 := 1#32
  let v2 : BitVec 32 := Scalar.addi v1 c1_i32
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![arg0.toNat, v2.toNat, c0_i32_2.toNat, c0_i32_3.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x16896x512 : Shape := ⟨3, ![8, 16896, 512]⟩
abbrev S8x16896 : Shape := ⟨2, ![8, 16896]⟩
abbrev S2x8448x512 : Shape := ⟨3, ![2, 8448, 512]⟩
abbrev S2x1024x256 : Shape := ⟨3, ![2, 1024, 256]⟩
abbrev S2x256x1024 : Shape := ⟨3, ![2, 256, 1024]⟩
abbrev S2x8448x1024 : Shape := ⟨3, ![2, 8448, 1024]⟩
abbrev S8x6144 : Shape := ⟨2, ![8, 6144]⟩
abbrev S2x8448x512x2 : Shape := ⟨4, ![2, 8448, 512, 2]⟩
abbrev S2x8448x512x1 : Shape := ⟨4, ![2, 8448, 512, 1]⟩
abbrev S1x1024x256 : Shape := ⟨3, ![1, 1024, 256]⟩
abbrev S1024x256 : Shape := ⟨2, ![1024, 256]⟩
abbrev S2x8448x256 : Shape := ⟨3, ![2, 8448, 256]⟩
abbrev S_ : Shape := ⟨0, ![]⟩
abbrev S1x256x1024 : Shape := ⟨3, ![1, 256, 1024]⟩
abbrev S256x1024 : Shape := ⟨2, ![256, 1024]⟩
abbrev S8x16896x1 : Shape := ⟨3, ![8, 16896, 1]⟩
abbrev S8x16896x512x2 : Shape := ⟨4, ![8, 16896, 512, 2]⟩
abbrev S8x16896x512x1 : Shape := ⟨4, ![8, 16896, 512, 1]⟩
abbrev S8x16896x1024 : Shape := ⟨3, ![8, 16896, 1024]⟩
abbrev S16896x1024 : Shape := ⟨2, ![16896, 1024]⟩
abbrev S2x1024 : Shape := ⟨2, ![2, 1024]⟩
abbrev S2x1x1024 : Shape := ⟨3, ![2, 1, 1024]⟩
abbrev S2x8192x1024 : Shape := ⟨3, ![2, 8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x16896x512, .i32⟩
  | .hbm, ⟨1, _⟩ => ⟨S8x16896, .f32⟩
  | .hbm, ⟨2, _⟩ => ⟨S2x8448x512, .i32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S2x8448x1024, .f32⟩
  | .hbm, ⟨7, _⟩ => ⟨S8x6144, .f32⟩
  | .hbm, ⟨8, _⟩ => ⟨S2x8448x512x2, .bf16⟩
  | .hbm, ⟨9, _⟩ => ⟨S2x8448x512x2, .f32⟩
  | .hbm, ⟨10, _⟩ => ⟨S2x8448x512x1, .f32⟩
  | .hbm, ⟨11, _⟩ => ⟨S2x8448x512, .f32⟩
  | .hbm, ⟨12, _⟩ => ⟨S2x8448x512x1, .f32⟩
  | .hbm, ⟨13, _⟩ => ⟨S2x8448x512, .f32⟩
  | .hbm, ⟨14, _⟩ => ⟨S2x8448x1024, .f32⟩
  | .hbm, ⟨15, _⟩ => ⟨S1x1024x256, .f32⟩
  | .hbm, ⟨16, _⟩ => ⟨S1024x256, .f32⟩
  | .hbm, ⟨17, _⟩ => ⟨S2x8448x256, .f32⟩
  | .hbm, ⟨18, _⟩ => ⟨S2x8448x256, .f32⟩
  | .hbm, ⟨19, _⟩ => ⟨S2x8448x256, .f32⟩
  | .hbm, ⟨20, _⟩ => ⟨S_, .f32⟩
  | .hbm, ⟨21, _⟩ => ⟨S2x8448x256, .f32⟩
  | .hbm, ⟨22, _⟩ => ⟨S2x8448x256, .f32⟩
  | .hbm, ⟨23, _⟩ => ⟨S_, .f32⟩
  | .hbm, ⟨24, _⟩ => ⟨S2x8448x256, .f32⟩
  | .hbm, ⟨25, _⟩ => ⟨S2x8448x256, .f32⟩
  | .hbm, ⟨26, _⟩ => ⟨S2x8448x256, .f32⟩
  | .hbm, ⟨27, _⟩ => ⟨S1x1024x256, .f32⟩
  | .hbm, ⟨28, _⟩ => ⟨S1024x256, .f32⟩
  | .hbm, ⟨29, _⟩ => ⟨S2x8448x256, .f32⟩
  | .hbm, ⟨30, _⟩ => ⟨S2x8448x256, .f32⟩
  | .hbm, ⟨31, _⟩ => ⟨S1x256x1024, .f32⟩
  | .hbm, ⟨32, _⟩ => ⟨S256x1024, .f32⟩
  | .hbm, ⟨33, _⟩ => ⟨S2x8448x1024, .f32⟩
  | .hbm, ⟨34, _⟩ => ⟨S8x16896x1, .f32⟩
  | .hbm, ⟨35, _⟩ => ⟨S8x16896x512x2, .bf16⟩
  | .hbm, ⟨36, _⟩ => ⟨S8x16896x512x2, .f32⟩
  | .hbm, ⟨37, _⟩ => ⟨S8x16896x512x1, .f32⟩
  | .hbm, ⟨38, _⟩ => ⟨S8x16896x512, .f32⟩
  | .hbm, ⟨39, _⟩ => ⟨S8x16896x512x1, .f32⟩
  | .hbm, ⟨40, _⟩ => ⟨S8x16896x512, .f32⟩
  | .hbm, ⟨41, _⟩ => ⟨S8x16896x1024, .f32⟩
  | .hbm, ⟨42, _⟩ => ⟨S8x16896x1024, .f32⟩
  | .hbm, ⟨43, _⟩ => ⟨S8x16896x1024, .f32⟩
  | .hbm, ⟨44, _⟩ => ⟨S_, .f32⟩
  | .hbm, ⟨45, _⟩ => ⟨S16896x1024, .f32⟩
  | .hbm, ⟨46, _⟩ => ⟨S2x8448x1024, .f32⟩
  | .hbm, ⟨47, _⟩ => ⟨S2x1024, .f32⟩
  | .hbm, ⟨48, _⟩ => ⟨S2x1x1024, .f32⟩
  | .hbm, ⟨49, _⟩ => ⟨S2x8448x1024, .f32⟩
  | .hbm, ⟨50, _⟩ => ⟨S2x8448x1024, .f32⟩
  | .hbm, ⟨51, _⟩ => ⟨S2x8448x1024, .f32⟩
  | .hbm, ⟨52, _⟩ => ⟨S2x8448x1024, .f32⟩
  | .hbm, ⟨53, _⟩ => ⟨S2x8192x1024, .f32⟩
  | _, _ => ⟨S8x16896x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Kernel2.lean ====
abbrev S167936x512 : Shape := ⟨2, ![167936, 512]⟩
abbrev S328 : Shape := ⟨1, ![328]⟩
abbrev S64 : Shape := ⟨1, ![64]⟩
abbrev S2 : Shape := ⟨1, ![2]⟩
abbrev S2x64x1024x256 : Shape := ⟨4, ![2, 64, 1024, 256]⟩
abbrev S2x64x256x1024 : Shape := ⟨4, ![2, 64, 256, 1024]⟩
abbrev S512x512 : Shape := ⟨2, ![512, 512]⟩
abbrev S1024x256 : Shape := ⟨2, ![1024, 256]⟩
abbrev S256x1024 : Shape := ⟨2, ![256, 1024]⟩
abbrev S3x512x512 : Shape := ⟨3, ![3, 512, 512]⟩
abbrev S3 : Shape := ⟨1, ![3]⟩
abbrev S2x1024x256 : Shape := ⟨3, ![2, 1024, 256]⟩
abbrev S2x256x1024 : Shape := ⟨3, ![2, 256, 1024]⟩
abbrev S2x3 : Shape := ⟨2, ![2, 3]⟩
abbrev S1 : Shape := ⟨1, ![1]⟩
abbrev S1x1 : Shape := ⟨2, ![1, 1]⟩
abbrev S_ : Shape := ⟨0, ![]⟩
abbrev S1x1024x256 : Shape := ⟨3, ![1, 1024, 256]⟩
abbrev S1x1x1024x256 : Shape := ⟨4, ![1, 1, 1024, 256]⟩
abbrev S1x256x1024 : Shape := ⟨3, ![1, 256, 1024]⟩
abbrev S1x1x256x1024 : Shape := ⟨4, ![1, 1, 256, 1024]⟩
abbrev S1x512x512 : Shape := ⟨3, ![1, 512, 512]⟩
abbrev S512x1024 : Shape := ⟨2, ![512, 1024]⟩
abbrev S512x256 : Shape := ⟨2, ![512, 256]⟩

abbrev nBuf : Space → Nat
  | .hbm => 5
  | .vmem => 9
  | .smem => 5
  | _ => 0

abbrev bufTy : (tb : Table) → Fin (tcTables nBuf tb) → BufTy
  | .hbm, ⟨0, _⟩ => ⟨S167936x512, .i32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S167936x512, .i32⟩
  | .local _ .vmem, ⟨0, _⟩ => ⟨S512x512, .i32⟩
  | .local _ .vmem, ⟨1, _⟩ => ⟨S512x512, .i32⟩
  | .local _ .vmem, ⟨2, _⟩ => ⟨S1024x256, .bf16⟩
  | .local _ .vmem, ⟨3, _⟩ => ⟨S1024x256, .bf16⟩
  | .local _ .vmem, ⟨4, _⟩ => ⟨S256x1024, .bf16⟩
  | .local _ .vmem, ⟨5, _⟩ => ⟨S3x512x512, .i32⟩
  | .local _ .vmem, ⟨6, _⟩ => ⟨S2x1024x256, .f32⟩
  | .local _ .vmem, ⟨7, _⟩ => ⟨S2x1024x256, .f32⟩
  | .local _ .vmem, ⟨8, _⟩ => ⟨S2x256x1024, .f32⟩
  | .local _ .smem, ⟨0, _⟩ => ⟨S328, .i32⟩
  | .local _ .smem, ⟨1, _⟩ => ⟨S328, .i32⟩
  | .local _ .smem, ⟨2, _⟩ => ⟨S328, .i32⟩
  | .local _ .smem, ⟨3, _⟩ => ⟨S64, .i32⟩
  | .local _ .smem, ⟨4, _⟩ => ⟨S2, .i32⟩
  | _, _ => ⟨S167936x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev main_arg5 : Ref sig .tc := ⟨.smem, 4, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev cc0_sem0_1 : DmaSem sig := 1

abbrev nD : Nat := 1
abbrev τ : Topo := Topo.v7x

variable {F : FTy → Type} [BitOps F]

abbrev grid0 : Pipeline.Grid := ⟨1, ![328], ![false]⟩

abbrev pre0 : Pipeline.Prefetch sig := ⟨5, ![main_arg1.idx, main_arg2.idx, main_arg3.idx, main_arg4.idx, main_arg5.idx], fun | 0 => main_arg1.names | 1 => main_arg2.names | 2 => main_arg3.names | 3 => main_arg4.names | 4 => main_arg5.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 : Fin 2 → Nat :=
  let c0_i32_12 : BitVec 32 := 0#32
  let c2_i32_13 : BitVec 32 := 2#32
  let v31 : BitVec 32 := Scalar.remsi c0_i32_12 c2_i32_13
  let c0_i32_16 : BitVec 32 := 0#32
  ![v31.toNat, 0]
def k0_off2 : Fin 3 → Nat :=
  let c0_i32_12 : BitVec 32 := 0#32
  let c2_i32_13 : BitVec 32 := 2#32
  let v31 : BitVec 32 := Scalar.remsi c0_i32_12 c2_i32_13
  let c0_i32_17 : BitVec 32 := 0#32
  let c0_i32_18 : BitVec 32 := 0#32
  ![v31.toNat, 0, 0]
def k0_off3 (v32 : BitVec 32) : Fin 4 → Nat :=
  let c1_i32_15 : BitVec 32 := 1#32
  let c0_i32_19 : BitVec 32 := 0#32
  let c0_i32_20 : BitVec 32 := 0#32
  ![1, v32.toNat, 0, 0]
def k0_cond2 (v1 : BitVec 32) : BitVec 1 :=
  let c0_i32_8 : BitVec 32 := 0#32
  let v25 : BitVec 1 := Scalar.cmpi .sgt v1 c0_i32_8
  let v26 : BitVec 32 := Scalar.extui v25
  let c0_i32_9 : BitVec 32 := 0#32
  let v27 : BitVec 1 := Scalar.cmpi .ne v26 c0_i32_9
  v27

def k0_off4 : Fin 2 → Nat :=
  let c0_i32_12 : BitVec 32 := 0#32
  let c2_i32_13 : BitVec 32 := 2#32
  let v31 : BitVec 32 := Scalar.remsi c0_i32_12 c2_i32_13
  let c1_i32_22 : BitVec 32 := 1#32
  ![v31.toNat, 1]
def k0_off5 : Fin 3 → Nat :=
  let c0_i32_12 : BitVec 32 := 0#32
  let c2_i32_13 : BitVec 32 := 2#32
  let v31 : BitVec 32 := Scalar.remsi c0_i32_12 c2_i32_13
  let c0_i32_23 : BitVec 32 := 0#32
  let c0_i32_24 : BitVec 32 := 0#32
  ![v31.toNat, 0, 0]
def k0_off6 : Fin 2 → Nat :=
  let c0_i32_12 : BitVec 32 := 0#32
  let c2_i32_13 : BitVec 32 := 2#32
  let v31 : BitVec 32 := Scalar.remsi c0_i32_12 c2_i32_13
  let c2_i32_28 : BitVec 32 := 2#32
  ![v31.toNat, 2]
def k0_off7 : Fin 3 → Nat :=
  let c0_i32_12 : BitVec 32 := 0#32
  let c2_i32_13 : BitVec 32 := 2#32
  let v31 : BitVec 32 := Scalar.remsi c0_i32_12 c2_i32_13
  let c0_i32_29 : BitVec 32 := 0#32
  let c0_i32_30 : BitVec 32 := 0#32
  ![v31.toNat, 0, 0]
def k0_off8 (v32 : BitVec 32) : Fin 4 → Nat :=
  let c1_i32_27 : BitVec 32 := 1#32
  let c0_i32_31 : BitVec 32 := 0#32
  let c0_i32_32 : BitVec 32 := 0#32
  ![1, v32.toNat, 0, 0]

def k0_chk1 (i : grid0.Coords) (v1 : BitVec 32) (v32 : BitVec 32) : Prop :=
  (∀ (k0_h1 : k0_cond1 i = 1#1), ∀ (k0_h2 : k0_cond2 v1 = 1#1), ∀ a, (k0_off3 v32) a + S1x1x1024x256.size a ≤ S2x64x1024x256.size a) ∧
  (∀ (k0_h1 : k0_cond1 i = 1#1), ∀ (k0_h2 : k0_cond2 v1 = 1#1), ∀ a, (k0_off8 v32) a + S1x1x256x1024.size a ≤ S2x64x256x1024.size a)
theorem k0_off3_inb : ∀ (i : grid0.Coords) (v1 : BitVec 32) (v32 : BitVec 32) (k0_hw1 : k0_chk1 i v1 v32), ∀ (k0_h1 : k0_cond1 i = 1#1), ∀ (k0_h2 : k0_cond2 v1 = 1#1), ∀ a, (k0_off3 v32) a + S1x1x1024x256.size a ≤ S2x64x1024x256.size a := fun i v1 v32 k0_hw1 k0_h1 k0_h2 => k0_hw1.1 k0_h1 k0_h2
theorem k0_off8_inb : ∀ (i : grid0.Coords) (v1 : BitVec 32) (v32 : BitVec 32) (k0_hw1 : k0_chk1 i v1 v32), ∀ (k0_h1 : k0_cond1 i = 1#1), ∀ (k0_h2 : k0_cond2 v1 = 1#1), ∀ a, (k0_off8 v32) a + S1x1x256x1024.size a ≤ S2x64x256x1024.size a := fun i v1 v32 k0_hw1 k0_h1 k0_h2 => k0_hw1.2 k0_h1 k0_h2

def k0_off9 : Fin 2 → Nat :=
  let c1_i32_12 : BitVec 32 := 1#32
  let c2_i32_13 : BitVec 32 := 2#32
  let v31 : BitVec 32 := Scalar.remsi c1_i32_12 c2_i32_13
  let c0_i32_16 : BitVec 32 := 0#32
  ![v31.toNat, 0]
def k0_off10 : Fin 3 → Nat :=
  let c1_i32_12 : BitVec 32 := 1#32
  let c2_i32_13 : BitVec 32 := 2#32
  let v31 : BitVec 32 := Scalar.remsi c1_i32_12 c2_i32_13
  let c0_i32_17 : BitVec 32 := 0#32
  let c0_i32_18 : BitVec 32 := 0#32
  ![v31.toNat, 0, 0]
def k0_off11 (v32 : BitVec 32) : Fin 4 → Nat :=
  let c1_i32_15 : BitVec 32 := 1#32
  let c0_i32_19 : BitVec 32 := 0#32
  let c0_i32_20 : BitVec 32 := 0#32
  ![1, v32.toNat, 0, 0]
def k0_cond3 (v1 : BitVec 32) : BitVec 1 :=
  let c1_i32_10 : BitVec 32 := 1#32
  let v28 : BitVec 1 := Scalar.cmpi .sgt v1 c1_i32_10
  let v29 : BitVec 32 := Scalar.extui v28
  let c0_i32_11 : BitVec 32 := 0#32
  let v30 : BitVec 1 := Scalar.cmpi .ne v29 c0_i32_11
  v30

def k0_off12 : Fin 2 → Nat :=
  let c1_i32_12 : BitVec 32 := 1#32
  let c2_i32_13 : BitVec 32 := 2#32
  let v31 : BitVec 32 := Scalar.remsi c1_i32_12 c2_i32_13
  let c1_i32_22 : BitVec 32 := 1#32
  ![v31.toNat, 1]
def k0_off13 : Fin 3 → Nat :=
  let c1_i32_12 : BitVec 32 := 1#32
  let c2_i32_13 : BitVec 32 := 2#32
  let v31 : BitVec 32 := Scalar.remsi c1_i32_12 c2_i32_13
  let c0_i32_23 : BitVec 32 := 0#32
  let c0_i32_24 : BitVec 32 := 0#32
  ![v31.toNat, 0, 0]
def k0_off14 : Fin 2 → Nat :=
  let c1_i32_12 : BitVec 32 := 1#32
  let c2_i32_13 : BitVec 32 := 2#32
  let v31 : BitVec 32 := Scalar.remsi c1_i32_12 c2_i32_13
  let c2_i32_28 : BitVec 32 := 2#32
  ![v31.toNat, 2]
def k0_off15 : Fin 3 → Nat :=
  let c1_i32_12 : BitVec 32 := 1#32
  let c2_i32_13 : BitVec 32 := 2#32
  let v31 : BitVec 32 := Scalar.remsi c1_i32_12 c2_i32_13
  let c0_i32_29 : BitVec 32 := 0#32
  let c0_i32_30 : BitVec 32 := 0#32
  ![v31.toNat, 0, 0]
def k0_off16 (v32 : BitVec 32) : Fin 4 → Nat :=
  let c1_i32_27 : BitVec 32 := 1#32
  let c0_i32_31 : BitVec 32 := 0#32
  let c0_i32_32 : BitVec 32 := 0#32
  ![1, v32.toNat, 0, 0]

def k0_chk2 (i : grid0.Coords) (v1 : BitVec 32) (v32 : BitVec 32) : Prop :=
  (∀ (k0_h1 : k0_cond1 i = 1#1), ∀ (k0_h3 : k0_cond3 v1 = 1#1), ∀ a, (k0_off11 v32) a + S1x1x1024x256.size a ≤ S2x64x1024x256.size a) ∧
  (∀ (k0_h1 : k0_cond1 i = 1#1), ∀ (k0_h3 : k0_cond3 v1 = 1#1), ∀ a, (k0_off16 v32) a + S1x1x256x1024.size a ≤ S2x64x256x1024.size a)
theorem k0_off11_inb : ∀ (i : grid0.Coords) (v1 : BitVec 32) (v32 : BitVec 32) (k0_hw2 : k0_chk2 i v1 v32), ∀ (k0_h1 : k0_cond1 i = 1#1), ∀ (k0_h3 : k0_cond3 v1 = 1#1), ∀ a, (k0_off11 v32) a + S1x1x1024x256.size a ≤ S2x64x1024x256.size a := fun i v1 v32 k0_hw2 k0_h1 k0_h3 => k0_hw2.1 k0_h1 k0_h3
theorem k0_off16_inb : ∀ (i : grid0.Coords) (v1 : BitVec 32) (v32 : BitVec 32) (k0_hw2 : k0_chk2 i v1 v32), ∀ (k0_h1 : k0_cond1 i = 1#1), ∀ (k0_h3 : k0_cond3 v1 = 1#1), ∀ a, (k0_off16 v32) a + S1x1x256x1024.size a ≤ S2x64x256x1024.size a := fun i v1 v32 k0_hw2 k0_h1 k0_h3 => k0_hw2.2 k0_h1 k0_h3

def k0_cond4 (i : grid0.Coords) : BitVec 1 :=
  let arg0 : BitVec 32 := BitVec.ofNat 32 (i 0).val
  let c0_i32_1 : BitVec 32 := 0#32
  let v6 : BitVec 1 := Scalar.cmpi .eq arg0 c0_i32_1
  let v7 : BitVec 32 := Scalar.extui v6
  let c0_i32_2 : BitVec 32 := 0#32
  let v8 : BitVec 1 := Scalar.cmpi .ne v7 c0_i32_2
  v8

def k0_mult1 : BitVec 32 :=
  let c0_i32_13 : BitVec 32 := 0#32
  c0_i32_13
def k0_off17 : Fin 1 → Nat :=
  let c0_i32_12 : BitVec 32 := 0#32
  let c3_i32 : BitVec 32 := 3#32
  let v31 : BitVec 32 := Scalar.remsi c0_i32_12 c3_i32
  ![v31.toNat]
def k0_off18 : Fin 3 → Nat :=
  let c0_i32_12 : BitVec 32 := 0#32
  let c3_i32 : BitVec 32 := 3#32
  let v31 : BitVec 32 := Scalar.remsi c0_i32_12 c3_i32
  let c0_i32_14 : BitVec 32 := 0#32
  let c0_i32_15 : BitVec 32 := 0#32
  ![v31.toNat, 0, 0]
def k0_mult2 : BitVec 32 :=
  let c512_i32 : BitVec 32 := 512#32
  c512_i32
def k0_off19 : Fin 1 → Nat :=
  let c1_i32_12 : BitVec 32 := 1#32
  let c3_i32 : BitVec 32 := 3#32
  let v31 : BitVec 32 := Scalar.remsi c1_i32_12 c3_i32
  ![v31.toNat]
def k0_off20 : Fin 3 → Nat :=
  let c1_i32_12 : BitVec 32 := 1#32
  let c3_i32 : BitVec 32 := 3#32
  let v31 : BitVec 32 := Scalar.remsi c1_i32_12 c3_i32
  let c0_i32_13 : BitVec 32 := 0#32
  let c0_i32_14 : BitVec 32 := 0#32
  ![v31.toNat, 0, 0]
def k0_mult3 (i : grid0.Coords) : BitVec 32 :=
  let arg0 : BitVec 32 := BitVec.ofNat 32 (i 0).val
  let c2_i32_8 : BitVec 32 := 2#32
  let v25 : BitVec 32 := Scalar.addi arg0 c2_i32_8
  let c512_i32 : BitVec 32 := 512#32
  let v27 : BitVec 32 := Scalar.muli v25 c512_i32
  v27
def k0_off21 (i : grid0.Coords) : Fin 1 → Nat :=
  let arg0 : BitVec 32 := BitVec.ofNat 32 (i 0).val
  let c2_i32_8 : BitVec 32 := 2#32
  let v25 : BitVec 32 := Scalar.addi arg0 c2_i32_8
  let c3_i32 : BitVec 32 := 3#32
  let v26 : BitVec 32 := Scalar.remsi v25 c3_i32
  ![v26.toNat]
def k0_off22 (i : grid0.Coords) : Fin 3 → Nat :=
  let arg0 : BitVec 32 := BitVec.ofNat 32 (i 0).val
  let c2_i32_8 : BitVec 32 := 2#32
  let v25 : BitVec 32 := Scalar.addi arg0 c2_i32_8
  let c3_i32 : BitVec 32 := 3#32
  let v26 : BitVec 32 := Scalar.remsi v25 c3_i32
  let c0_i32_9 : BitVec 32 := 0#32
  let c0_i32_10 : BitVec 32 := 0#32
  ![v26.toNat, 0, 0]
def k0_off23 (i : grid0.Coords) : Fin 2 → Nat :=
  let arg0 : BitVec 32 := BitVec.ofNat 32 (i 0).val
  let c2_i32_8 : BitVec 32 := 2#32
  let v25 : BitVec 32 := Scalar.addi arg0 c2_i32_8
  let c512_i32 : BitVec 32 := 512#32
  let v27 : BitVec 32 := Scalar.muli v25 c512_i32
  let v28 : BitVec 32 := v27
  let c0_i32_11 : BitVec 32 := 0#32
  ![v28.toNat, 0]
def k0_cond7 (i : grid0.Coords) (v0 : BitVec 32) : BitVec 1 :=
  let arg0 : BitVec 32 := BitVec.ofNat 32 (i 0).val
  let c2_i32 : BitVec 32 := 2#32
  let v9 : BitVec 32 := Scalar.addi arg0 c2_i32
  let v10 : BitVec 1 := Scalar.cmpi .slt v9 v0
  let v11 : BitVec 32 := Scalar.extui v10
  let c0_i32_3 : BitVec 32 := 0#32
  let v12 : BitVec 1 := Scalar.cmpi .ne v11 c0_i32_3
  v12

def k0_chk3 (i : grid0.Coords) (v0 : BitVec 32) : Prop :=
  (∀ (k0_h7 : k0_cond7 i v0 = 1#1), ∀ a, (k0_off23 i) a + S512x512.size a ≤ S167936x512.size a)
theorem k0_off23_inb : ∀ (i : grid0.Coords) (v0 : BitVec 32) (k0_hw3 : k0_chk3 i v0), ∀ (k0_h7 : k0_cond7 i v0 = 1#1), ∀ a, (k0_off23 i) a + S512x512.size a ≤ S167936x512.size a := fun i v0 k0_hw3 k0_h7 => k0_hw3 k0_h7

def k0_off24 (i : grid0.Coords) : Fin 1 → Nat :=
  let arg0 : BitVec 32 := BitVec.ofNat 32 (i 0).val
  let v13 : Index := Scalar.indexCast arg0
  ![v13.toNat]
def k0_off25 (i : grid0.Coords) : Fin 1 → Nat :=
  let arg0 : BitVec 32 := BitVec.ofNat 32 (i 0).val
  let v25 : Index := Scalar.indexCast arg0
  ![v25.toNat]
def k0_off26 (v26 : BitVec 32) : Fin 1 → Nat :=
  let v28 : Index := Scalar.indexCast v26
  ![v28.toNat]
def k0_cond8 (i : grid0.Coords) (v0 : BitVec 32) (v14 : BitVec 32) : BitVec 1 :=
  let arg0 : BitVec 32 := BitVec.ofNat 32 (i 0).val
  let v2 : BitVec 1 := Scalar.cmpi .slt arg0 v0
  let c1_i32 : BitVec 32 := 1#32
  let v15 : BitVec 1 := Scalar.cmpi .eq v14 c1_i32
  let v16 : BitVec 1 := Scalar.andi v2 v15
  let v17 : BitVec 32 := Scalar.extui v16
  let c0_i32_4 : BitVec 32 := 0#32
  let v18 : BitVec 1 := Scalar.cmpi .ne v17 c0_i32_4
  v18

def k0_off27 (v26 : BitVec 32) : Fin 2 → Nat :=
  let c2_i32_8 : BitVec 32 := 2#32
  let v27 : BitVec 32 := Scalar.remsi v26 c2_i32_8
  let c0_i32_10 : BitVec 32 := 0#32
  ![v27.toNat, 0]
def k0_off28 (v26 : BitVec 32) : Fin 3 → Nat :=
  let c2_i32_8 : BitVec 32 := 2#32
  let v27 : BitVec 32 := Scalar.remsi v26 c2_i32_8
  let c0_i32_11 : BitVec 32 := 0#32
  let c0_i32_12 : BitVec 32 := 0#32
  ![v27.toNat, 0, 0]
def k0_off29 (v29 : BitVec 32) : Fin 4 → Nat :=
  let c1_i32_9 : BitVec 32 := 1#32
  let c0_i32_13 : BitVec 32 := 0#32
  let c0_i32_14 : BitVec 32 := 0#32
  ![1, v29.toNat, 0, 0]

def k0_off30 (v26 : BitVec 32) : Fin 2 → Nat :=
  let c2_i32_8 : BitVec 32 := 2#32
  let v27 : BitVec 32 := Scalar.remsi v26 c2_i32_8
  let c1_i32_16 : BitVec 32 := 1#32
  ![v27.toNat, 1]
def k0_off31 (v26 : BitVec 32) : Fin 3 → Nat :=
  let c2_i32_8 : BitVec 32 := 2#32
  let v27 : BitVec 32 := Scalar.remsi v26 c2_i32_8
  let c0_i32_17 : BitVec 32 := 0#32
  let c0_i32_18 : BitVec 32 := 0#32
  ![v27.toNat, 0, 0]
def k0_off32 (v26 : BitVec 32) : Fin 2 → Nat :=
  let c2_i32_8 : BitVec 32 := 2#32
  let v27 : BitVec 32 := Scalar.remsi v26 c2_i32_8
  let c2_i32_22 : BitVec 32 := 2#32
  ![v27.toNat, 2]
def k0_off33 (v26 : BitVec 32) : Fin 3 → Nat :=
  let c2_i32_8 : BitVec 32 := 2#32
  let v27 : BitVec 32 := Scalar.remsi v26 c2_i32_8
  let c0_i32_23 : BitVec 32 := 0#32
  let c0_i32_24 : BitVec 32 := 0#32
  ![v27.toNat, 0, 0]
def k0_off34 (v29 : BitVec 32) : Fin 4 → Nat :=
  let c1_i32_21 : BitVec 32 := 1#32
  let c0_i32_25 : BitVec 32 := 0#32
  let c0_i32_26 : BitVec 32 := 0#32
  ![1, v29.toNat, 0, 0]

def k0_chk5 (i : grid0.Coords) (v0 : BitVec 32) (v14 : BitVec 32) (v29 : BitVec 32) : Prop :=
  (∀ (k0_h8 : k0_cond8 i v0 v14 = 1#1), ∀ a, (k0_off29 v29) a + S1x1x1024x256.size a ≤ S2x64x1024x256.size a) ∧
  (∀ (k0_h8 : k0_cond8 i v0 v14 = 1#1), ∀ a, (k0_off34 v29) a + S1x1x256x1024.size a ≤ S2x64x256x1024.size a)
theorem k0_off29_inb : ∀ (i : grid0.Coords) (v0 : BitVec 32) (v14 : BitVec 32) (v29 : BitVec 32) (k0_hw5 : k0_chk5 i v0 v14 v29), ∀ (k0_h8 : k0_cond8 i v0 v14 = 1#1), ∀ a, (k0_off29 v29) a + S1x1x1024x256.size a ≤ S2x64x1024x256.size a := fun i v0 v14 v29 k0_hw5 k0_h8 => k0_hw5.1 k0_h8
theorem k0_off34_inb : ∀ (i : grid0.Coords) (v0 : BitVec 32) (v14 : BitVec 32) (v29 : BitVec 32) (k0_hw5 : k0_chk5 i v0 v14 v29), ∀ (k0_h8 : k0_cond8 i v0 v14 = 1#1), ∀ a, (k0_off34 v29) a + S1x1x256x1024.size a ≤ S2x64x256x1024.size a := fun i v0 v14 v29 k0_hw5 k0_h8 => k0_hw5.2 k0_h8

def k0_off35 (v26 : BitVec 32) : Fin 3 → Nat :=
  let c2_i32_27 : BitVec 32 := 2#32
  let v48 : BitVec 32 := Scalar.remsi v26 c2_i32_27
  let v49 : Index := Scalar.indexCast v48
  let c0_28 : Index := 0#32
  let c0_29 : Index := 0#32
  ![v49.toNat, 0, 0]
def k0_off36 (v26 : BitVec 32) : Fin 3 → Nat :=
  let c2_i32_27 : BitVec 32 := 2#32
  let v48 : BitVec 32 := Scalar.remsi v26 c2_i32_27
  let v63 : Index := Scalar.indexCast v48
  let c0_36 : Index := 0#32
  let c0_37 : Index := 0#32
  ![v63.toNat, 0, 0]
def k0_off37 (v26 : BitVec 32) : Fin 1 → Nat :=
  let c2_i32_42 : BitVec 32 := 2#32
  let v74 : BitVec 32 := Scalar.addi v26 c2_i32_42
  let v76 : Index := Scalar.indexCast v74
  ![v76.toNat]
def k0_cond9 (v1 : BitVec 32) (v26 : BitVec 32) : BitVec 1 :=
  let c2_i32_40 : BitVec 32 := 2#32
  let v70 : BitVec 32 := Scalar.addi v26 c2_i32_40
  let v71 : BitVec 1 := Scalar.cmpi .slt v70 v1
  let v72 : BitVec 32 := Scalar.extui v71
  let c0_i32_41 : BitVec 32 := 0#32
  let v73 : BitVec 1 := Scalar.cmpi .ne v72 c0_i32_41
  v73

def k0_off38 (v26 : BitVec 32) : Fin 2 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_45 : BitVec 32 := 0#32
  ![v75.toNat, 0]
def k0_off39 (v26 : BitVec 32) : Fin 3 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_46 : BitVec 32 := 0#32
  let c0_i32_47 : BitVec 32 := 0#32
  ![v75.toNat, 0, 0]
def k0_off40 (v77 : BitVec 32) : Fin 4 → Nat :=
  let c1_i32_44 : BitVec 32 := 1#32
  let c0_i32_48 : BitVec 32 := 0#32
  let c0_i32_49 : BitVec 32 := 0#32
  ![1, v77.toNat, 0, 0]

def k0_off41 (v26 : BitVec 32) : Fin 2 → Nat :=
  let c2_i32_42 : BitVec 32 := 2#32
  let v74 : BitVec 32 := Scalar.addi v26 c2_i32_42
  let c2_i32_43 : BitVec 32 := 2#32
  let v75 : BitVec 32 := Scalar.remsi v74 c2_i32_43
  let c1_i32_51 : BitVec 32 := 1#32
  ![v75.toNat, 1]
def k0_off42 (v26 : BitVec 32) : Fin 3 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_52 : BitVec 32 := 0#32
  let c0_i32_53 : BitVec 32 := 0#32
  ![v75.toNat, 0, 0]
def k0_off43 (v26 : BitVec 32) : Fin 2 → Nat :=
  let c2_i32_42 : BitVec 32 := 2#32
  let v74 : BitVec 32 := Scalar.addi v26 c2_i32_42
  let c2_i32_43 : BitVec 32 := 2#32
  let v75 : BitVec 32 := Scalar.remsi v74 c2_i32_43
  let c2_i32_57 : BitVec 32 := 2#32
  ![v75.toNat, 2]
def k0_off44 (v26 : BitVec 32) : Fin 3 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_58 : BitVec 32 := 0#32
  let c0_i32_59 : BitVec 32 := 0#32
  ![v75.toNat, 0, 0]

def k0_chk4 (i : grid0.Coords) (v0 : BitVec 32) (v1 : BitVec 32) (v14 : BitVec 32) (v26 : BitVec 32) : Prop :=
  (∀ (k0_h8 : k0_cond8 i v0 v14 = 1#1), ∀ a, (k0_off26 v26) a + S1.size a ≤ S64.size a) ∧
  (∀ (k0_h8 : k0_cond8 i v0 v14 = 1#1), ∀ a, (k0_off27 v26) a + S1x1.size a ≤ S2x3.size a) ∧
  (∀ (k0_h8 : k0_cond8 i v0 v14 = 1#1), ∀ a, (k0_off28 v26) a + S1x1024x256.size a ≤ S2x1024x256.size a) ∧
  (∀ (k0_h8 : k0_cond8 i v0 v14 = 1#1), ∀ a, (k0_off30 v26) a + S1x1.size a ≤ S2x3.size a) ∧
  (∀ (k0_h8 : k0_cond8 i v0 v14 = 1#1), ∀ a, (k0_off31 v26) a + S1x1024x256.size a ≤ S2x1024x256.size a) ∧
  (∀ (k0_h8 : k0_cond8 i v0 v14 = 1#1), ∀ a, (k0_off32 v26) a + S1x1.size a ≤ S2x3.size a) ∧
  (∀ (k0_h8 : k0_cond8 i v0 v14 = 1#1), ∀ a, (k0_off33 v26) a + S1x256x1024.size a ≤ S2x256x1024.size a) ∧
  (∀ (k0_h8 : k0_cond8 i v0 v14 = 1#1), ∀ a, (k0_off35 v26) a + S1x1024x256.size a ≤ S2x1024x256.size a) ∧
  (∀ (k0_h8 : k0_cond8 i v0 v14 = 1#1), ∀ a, (k0_off36 v26) a + S1x256x1024.size a ≤ S2x256x1024.size a) ∧
  (∀ (k0_h8 : k0_cond8 i v0 v14 = 1#1), ∀ (k0_h9 : k0_cond9 v1 v26 = 1#1), ∀ a, (k0_off37 v26) a + S1.size a ≤ S64.size a) ∧
  (∀ (k0_h8 : k0_cond8 i v0 v14 = 1#1), ∀ (k0_h9 : k0_cond9 v1 v26 = 1#1), ∀ a, (k0_off38 v26) a + S1x1.size a ≤ S2x3.size a) ∧
  (∀ (k0_h8 : k0_cond8 i v0 v14 = 1#1), ∀ (k0_h9 : k0_cond9 v1 v26 = 1#1), ∀ a, (k0_off39 v26) a + S1x1024x256.size a ≤ S2x1024x256.size a) ∧
  (∀ (k0_h8 : k0_cond8 i v0 v14 = 1#1), ∀ (k0_h9 : k0_cond9 v1 v26 = 1#1), ∀ a, (k0_off41 v26) a + S1x1.size a ≤ S2x3.size a) ∧
  (∀ (k0_h8 : k0_cond8 i v0 v14 = 1#1), ∀ (k0_h9 : k0_cond9 v1 v26 = 1#1), ∀ a, (k0_off42 v26) a + S1x1024x256.size a ≤ S2x1024x256.size a) ∧
  (∀ (k0_h8 : k0_cond8 i v0 v14 = 1#1), ∀ (k0_h9 : k0_cond9 v1 v26 = 1#1), ∀ a, (k0_off43 v26) a + S1x1.size a ≤ S2x3.size a) ∧
  (∀ (k0_h8 : k0_cond8 i v0 v14 = 1#1), ∀ (k0_h9 : k0_cond9 v1 v26 = 1#1), ∀ a, (k0_off44 v26) a + S1x256x1024.size a ≤ S2x256x1024.size a)
theorem k0_off26_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off26 v26) a + S1.size a ≤ S64.size a := fun i v0 v1 v14 v26 k0_hw4 k0_h8 => k0_hw4.1 k0_h8
theorem k0_off27_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off27 v26) a + S1x1.size a ≤ S2x3.size a := fun i v0 v1 v14 v26 k0_hw4 k0_h8 => k0_hw4.2.1 k0_h8
theorem k0_off28_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off28 v26) a + S1x1024x256.size a ≤ S2x1024x256.size a := fun i v0 v1 v14 v26 k0_hw4 k0_h8 => k0_hw4.2.2.1 k0_h8
theorem k0_off30_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off30 v26) a + S1x1.size a ≤ S2x3.size a := fun i v0 v1 v14 v26 k0_hw4 k0_h8 => k0_hw4.2.2.2.1 k0_h8
theorem k0_off31_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off31 v26) a + S1x1024x256.size a ≤ S2x1024x256.size a := fun i v0 v1 v14 v26 k0_hw4 k0_h8 => k0_hw4.2.2.2.2.1 k0_h8
theorem k0_off32_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off32 v26) a + S1x1.size a ≤ S2x3.size a := fun i v0 v1 v14 v26 k0_hw4 k0_h8 => k0_hw4.2.2.2.2.2.1 k0_h8
theorem k0_off33_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off33 v26) a + S1x256x1024.size a ≤ S2x256x1024.size a := fun i v0 v1 v14 v26 k0_hw4 k0_h8 => k0_hw4.2.2.2.2.2.2.1 k0_h8
theorem k0_off35_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off35 v26) a + S1x1024x256.size a ≤ S2x1024x256.size a := fun i v0 v1 v14 v26 k0_hw4 k0_h8 => k0_hw4.2.2.2.2.2.2.2.1 k0_h8
theorem k0_off36_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off36 v26) a + S1x256x1024.size a ≤ S2x256x1024.size a := fun i v0 v1 v14 v26 k0_hw4 k0_h8 => k0_hw4.2.2.2.2.2.2.2.2.1 k0_h8
theorem k0_off37_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off37 v26) a + S1.size a ≤ S64.size a := fun i v0 v1 v14 v26 k0_hw4 k0_h8 k0_h9 => k0_hw4.2.2.2.2.2.2.2.2.2.1 k0_h8 k0_h9
theorem k0_off38_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off38 v26) a + S1x1.size a ≤ S2x3.size a := fun i v0 v1 v14 v26 k0_hw4 k0_h8 k0_h9 => k0_hw4.2.2.2.2.2.2.2.2.2.2.1 k0_h8 k0_h9
theorem k0_off39_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off39 v26) a + S1x1024x256.size a ≤ S2x1024x256.size a := fun i v0 v1 v14 v26 k0_hw4 k0_h8 k0_h9 => k0_hw4.2.2.2.2.2.2.2.2.2.2.2.1 k0_h8 k0_h9
theorem k0_off41_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off41 v26) a + S1x1.size a ≤ S2x3.size a := fun i v0 v1 v14 v26 k0_hw4 k0_h8 k0_h9 => k0_hw4.2.2.2.2.2.2.2.2.2.2.2.2.1 k0_h8 k0_h9
theorem k0_off42_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off42 v26) a + S1x1024x256.size a ≤ S2x1024x256.size a := fun i v0 v1 v14 v26 k0_hw4 k0_h8 k0_h9 => k0_hw4.2.2.2.2.2.2.2.2.2.2.2.2.2.1 k0_h8 k0_h9
theorem k0_off43_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off43 v26) a + S1x1.size a ≤ S2x3.size a := fun i v0 v1 v14 v26 k0_hw4 k0_h8 k0_h9 => k0_hw4.2.2.2.2.2.2.2.2.2.2.2.2.2.2.1 k0_h8 k0_h9
theorem k0_off44_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off44 v26) a + S1x256x1024.size a ≤ S2x256x1024.size a := fun i v0 v1 v14 v26 k0_hw4 k0_h8 k0_h9 => k0_hw4.2.2.2.2.2.2.2.2.2.2.2.2.2.2.2 k0_h8 k0_h9

def k0_off45 (v77 : BitVec 32) : Fin 4 → Nat :=
  let c1_i32_56 : BitVec 32 := 1#32
  let c0_i32_60 : BitVec 32 := 0#32
  let c0_i32_61 : BitVec 32 := 0#32
  ![1, v77.toNat, 0, 0]

def k0_chk6 (i : grid0.Coords) (v0 : BitVec 32) (v1 : BitVec 32) (v14 : BitVec 32) (v26 : BitVec 32) (v77 : BitVec 32) : Prop :=
  (∀ (k0_h8 : k0_cond8 i v0 v14 = 1#1), ∀ (k0_h9 : k0_cond9 v1 v26 = 1#1), ∀ a, (k0_off40 v77) a + S1x1x1024x256.size a ≤ S2x64x1024x256.size a) ∧
  (∀ (k0_h8 : k0_cond8 i v0 v14 = 1#1), ∀ (k0_h9 : k0_cond9 v1 v26 = 1#1), ∀ a, (k0_off45 v77) a + S1x1x256x1024.size a ≤ S2x64x256x1024.size a)
theorem k0_off40_inb : ∀ (i : grid0.Coords) (v0 : BitVec 32) (v1 : BitVec 32) (v14 : BitVec 32) (v26 : BitVec 32) (v77 : BitVec 32) (k0_hw6 : k0_chk6 i v0 v1 v14 v26 v77), ∀ (k0_h8 : k0_cond8 i v0 v14 = 1#1), ∀ (k0_h9 : k0_cond9 v1 v26 = 1#1), ∀ a, (k0_off40 v77) a + S1x1x1024x256.size a ≤ S2x64x1024x256.size a := fun i v0 v1 v14 v26 v77 k0_hw6 k0_h8 k0_h9 => k0_hw6.1 k0_h8 k0_h9
theorem k0_off45_inb : ∀ (i : grid0.Coords) (v0 : BitVec 32) (v1 : BitVec 32) (v14 : BitVec 32) (v26 : BitVec 32) (v77 : BitVec 32) (k0_hw6 : k0_chk6 i v0 v1 v14 v26 v77), ∀ (k0_h8 : k0_cond8 i v0 v14 = 1#1), ∀ (k0_h9 : k0_cond9 v1 v26 = 1#1), ∀ a, (k0_off45 v77) a + S1x1x256x1024.size a ≤ S2x64x256x1024.size a := fun i v0 v1 v14 v26 v77 k0_hw6 k0_h8 k0_h9 => k0_hw6.2 k0_h8 k0_h9

def k0_mult4 (i : grid0.Coords) : BitVec 32 :=
  let arg0 : BitVec 32 := BitVec.ofNat 32 (i 0).val
  let c512_i32 : BitVec 32 := 512#32
  let v26 : BitVec 32 := Scalar.muli arg0 c512_i32
  v26
def k0_off46 (i : grid0.Coords) : Fin 1 → Nat :=
  let arg0 : BitVec 32 := BitVec.ofNat 32 (i 0).val
  let c3_i32 : BitVec 32 := 3#32
  let v25 : BitVec 32 := Scalar.remsi arg0 c3_i32
  ![v25.toNat]
def k0_off47 (i : grid0.Coords) : Fin 3 → Nat :=
  let arg0 : BitVec 32 := BitVec.ofNat 32 (i 0).val
  let c3_i32 : BitVec 32 := 3#32
  let v25 : BitVec 32 := Scalar.remsi arg0 c3_i32
  let c0_i32_8 : BitVec 32 := 0#32
  let c0_i32_9 : BitVec 32 := 0#32
  ![v25.toNat, 0, 0]
def k0_off48 (i : grid0.Coords) : Fin 2 → Nat :=
  let arg0 : BitVec 32 := BitVec.ofNat 32 (i 0).val
  let c512_i32 : BitVec 32 := 512#32
  let v26 : BitVec 32 := Scalar.muli arg0 c512_i32
  let v27 : BitVec 32 := v26
  let c0_i32_10 : BitVec 32 := 0#32
  ![v27.toNat, 0]
def k0_off49 (i : grid0.Coords) : Fin 3 → Nat :=
  let arg0 : BitVec 32 := BitVec.ofNat 32 (i 0).val
  let c3_i32_11 : BitVec 32 := 3#32
  let v33 : BitVec 32 := Scalar.remsi arg0 c3_i32_11
  let v34 : Index := Scalar.indexCast v33
  let c0_12 : Index := 0#32
  let c0_13 : Index := 0#32
  ![v34.toNat, 0, 0]
def k0_off50 (i : grid0.Coords) : Fin 1 → Nat :=
  let arg0 : BitVec 32 := BitVec.ofNat 32 (i 0).val
  let v38 : Index := Scalar.indexCast arg0
  ![v38.toNat]
def k0_cond10 (i : grid0.Coords) (v0 : BitVec 32) : BitVec 1 :=
  let arg0 : BitVec 32 := BitVec.ofNat 32 (i 0).val
  let v2 : BitVec 1 := Scalar.cmpi .slt arg0 v0
  let v19 : BitVec 32 := Scalar.extui v2
  let c0_i32_5 : BitVec 32 := 0#32
  let v20 : BitVec 1 := Scalar.cmpi .ne v19 c0_i32_5
  v20

def k0_cond11 (i : grid0.Coords) (v21 : BitVec 32) : BitVec 1 :=
  let arg0 : BitVec 32 := BitVec.ofNat 32 (i 0).val
  let v22 : BitVec 1 := Scalar.cmpi .sge arg0 v21
  let v23 : BitVec 32 := Scalar.extui v22
  let c0_i32_7 : BitVec 32 := 0#32
  let v24 : BitVec 1 := Scalar.cmpi .ne v23 c0_i32_7
  v24

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference2.lean ====
abbrev S167936x512 : Shape := ⟨2, ![167936, 512]⟩
abbrev S328 : Shape := ⟨1, ![328]⟩
abbrev S64 : Shape := ⟨1, ![64]⟩
abbrev S2 : Shape := ⟨1, ![2]⟩
abbrev S2x64x1024x256 : Shape := ⟨4, ![2, 64, 1024, 256]⟩
abbrev S2x64x256x1024 : Shape := ⟨4, ![2, 64, 256, 1024]⟩
abbrev S1x64x1024x256 : Shape := ⟨4, ![1, 64, 1024, 256]⟩
abbrev S64x1024x256 : Shape := ⟨3, ![64, 1024, 256]⟩
abbrev S1x64x256x1024 : Shape := ⟨4, ![1, 64, 256, 1024]⟩
abbrev S64x256x1024 : Shape := ⟨3, ![64, 256, 1024]⟩
abbrev S1 : Shape := ⟨1, ![1]⟩
abbrev S512x512 : Shape := ⟨2, ![512, 512]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 5
  | .smem => 4
  | _ => 0

abbrev bufTy : (tb : Table) → Fin (tcTables nBuf tb) → BufTy
  | .hbm, ⟨0, _⟩ => ⟨S167936x512, .i32⟩
  | .hbm, ⟨1, _⟩ => ⟨S328, .i32⟩
  | .hbm, ⟨2, _⟩ => ⟨S328, .i32⟩
  | .hbm, ⟨3, _⟩ => ⟨S328, .i32⟩
  | .hbm, ⟨4, _⟩ => ⟨S64, .i32⟩
  | .hbm, ⟨5, _⟩ => ⟨S2, .i32⟩
  | .hbm, ⟨6, _⟩ => ⟨S2x64x1024x256, .f32⟩
  | .hbm, ⟨7, _⟩ => ⟨S2x64x1024x256, .f32⟩
  | .hbm, ⟨8, _⟩ => ⟨S2x64x256x1024, .f32⟩
  | .hbm, ⟨9, _⟩ => ⟨S1x64x1024x256, .f32⟩
  | .hbm, ⟨10, _⟩ => ⟨S64x1024x256, .f32⟩
  | .hbm, ⟨11, _⟩ => ⟨S1x64x1024x256, .f32⟩
  | .hbm, ⟨12, _⟩ => ⟨S64x1024x256, .f32⟩
  | .hbm, ⟨13, _⟩ => ⟨S1x64x256x1024, .f32⟩
  | .hbm, ⟨14, _⟩ => ⟨S64x256x1024, .f32⟩
  | .hbm, ⟨15, _⟩ => ⟨S167936x512, .i32⟩
  | .local _ .vmem, ⟨0, _⟩ => ⟨S167936x512, .i32⟩
  | .local _ .vmem, ⟨1, _⟩ => ⟨S64x1024x256, .f32⟩
  | .local _ .vmem, ⟨2, _⟩ => ⟨S64x1024x256, .f32⟩
  | .local _ .vmem, ⟨3, _⟩ => ⟨S64x256x1024, .f32⟩
  | .local _ .vmem, ⟨4, _⟩ => ⟨S167936x512, .i32⟩
  | .local _ .smem, ⟨0, _⟩ => ⟨S328, .i32⟩
  | .local _ .smem, ⟨1, _⟩ => ⟨S64, .i32⟩
  | .local _ .smem, ⟨2, _⟩ => ⟨S328, .i32⟩
  | .local _ .smem, ⟨3, _⟩ => ⟨S2, .i32⟩
  | _, _ => ⟨S167936x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c328_i32 : BitVec 32 := 328#32
  let v0 : BitVec 32 := Scalar.addi c0_i32 c328_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let v3 : Index := Scalar.indexCast arg9
  ![v3.toNat]
def k0_off2 (k0_t1 : Fin k0_t1_loop.trips) (v1 : BitVec 32) (v4 : BitVec 32) : Fin 1 → Nat :=
  let c0_i32 : BitVec 32 := 0#32
  let c1_i32 : BitVec 32 := 1#32
  let arg9 : BitVec 32 := Scf.iv c0_i32 c1_i32 k0_t1
  let v2 : BitVec 1 := Scalar.cmpi .slt arg9 v1
  let c0_i32_1 : BitVec 32 := 0#32
  let v5 : BitVec 32 := Scalar.select v2 v4 c0_i32_1
  let v6 : Index := Scalar.indexCast v5
  ![v6.toNat]

def k0_chk1 (k0_t1 : Fin k0_t1_loop.trips) (v1 : BitVec 32) (v4 : BitVec 32) : Prop :=
  (∀ a, (k0_off2 k0_t1 v1 v4) a + S1.size a ≤ S64.size a)
theorem k0_off2_inb : ∀ (k0_t1 : Fin k0_t1_loop.trips) (v1 : BitVec 32) (v4 : BitVec 32) (k0_hw1 : k0_chk1 k0_t1 v1 v4), ∀ a, (k0_off2 k0_t1 v1 v4) a + S1.size a ≤ S64.size a := fun k0_t1 v1 v4 k0_hw1 => k0_hw1

def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  v8
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  let v9 : BitVec 32 := v8
  let v10 : Index := Scalar.indexCast v9
  let c0_2 : Index := 0#32
  ![v10.toNat, 0]
def k0_off4 (k0_t1 : Fin k0_t1_loop.trips) : Fin 1 → Nat :=
  let c0_i32 : BitVec 32 := 0#32
  let c1_i32 : BitVec 32 := 1#32
  let arg9 : BitVec 32 := Scf.iv c0_i32 c1_i32 k0_t1
  let v13 : Index := Scalar.indexCast arg9
  ![v13.toNat]
def k0_off5 (v7 : BitVec 32) : Fin 3 → Nat :=
  let v23 : Index := Scalar.indexCast v7
  let c0_4 : Index := 0#32
  let c0_5 : Index := 0#32
  ![v23.toNat, 0, 0]

def k0_off6 (v7 : BitVec 32) : Fin 3 → Nat :=
  let v43 : Index := Scalar.indexCast v7
  let c0_12 : Index := 0#32
  let c0_13 : Index := 0#32
  ![v43.toNat, 0, 0]

def k0_chk2 (v7 : BitVec 32) : Prop :=
  (∀ a, (k0_off5 v7) a + S1x1024x256.size a ≤ S64x1024x256.size a) ∧
  (∀ a, (k0_off6 v7) a + S1x256x1024.size a ≤ S64x256x1024.size a)
theorem k0_off5_inb : ∀ (v7 : BitVec 32) (k0_hw2 : k0_chk2 v7), ∀ a, (k0_off5 v7) a + S1x1024x256.size a ≤ S64x1024x256.size a := fun v7 k0_hw2 => k0_hw2.1
theorem k0_off6_inb : ∀ (v7 : BitVec 32) (k0_hw2 : k0_chk2 v7), ∀ a, (k0_off6 v7) a + S1x256x1024.size a ≤ S64x256x1024.size a := fun v7 k0_hw2 => k0_hw2.2

def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  let v9 : BitVec 32 := v8
  let v53 : Index := Scalar.indexCast v9
  let c0_16 : Index := 0#32
  ![v53.toNat, 0]
abbrev stage0_0 : Fin 1 → Memref sig .tc .smem S328 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S328 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S167936x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S167936x512 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel3.lean ====
abbrev S2x8448x256 : Shape := ⟨3, ![2, 8448, 256]⟩
abbrev S2x8448x128 : Shape := ⟨3, ![2, 8448, 128]⟩
abbrev S_ : Shape := ⟨0, ![]⟩
abbrev S1x768x256 : Shape := ⟨3, ![1, 768, 256]⟩
abbrev S1x2816x128 : Shape := ⟨3, ![1, 2816, 128]⟩
abbrev S1x2816x256 : Shape := ⟨3, ![1, 2816, 256]⟩
abbrev S3x1024x128 : Shape := ⟨3, ![3, 1024, 128]⟩
abbrev S3x1024x1 : Shape := ⟨3, ![3, 1024, 1]⟩
abbrev S1x256x256 : Shape := ⟨3, ![1, 256, 256]⟩
abbrev S256x256 : Shape := ⟨2, ![256, 256]⟩
abbrev S256x128 : Shape := ⟨2, ![256, 128]⟩
abbrev S1024x128 : Shape := ⟨2, ![1024, 128]⟩
abbrev S1x1024x128 : Shape := ⟨3, ![1, 1024, 128]⟩
abbrev S2816x128 : Shape := ⟨2, ![2816, 128]⟩
abbrev S1x512x128 : Shape := ⟨3, ![1, 512, 128]⟩
abbrev S512x128 : Shape := ⟨2, ![512, 128]⟩
abbrev S512x2816 : Shape := ⟨2, ![512, 2816]⟩
abbrev S1x512x1 : Shape := ⟨3, ![1, 512, 1]⟩
abbrev S512x1 : Shape := ⟨2, ![512, 1]⟩
abbrev S512 : Shape := ⟨1, ![512]⟩
abbrev S1x256x128 : Shape := ⟨3, ![1, 256, 128]⟩
abbrev S512x256 : Shape := ⟨2, ![512, 256]⟩

abbrev nBuf : Space → Nat
  | .hbm => 18
  | .vmem => 11
  | .smem => 0
  | _ => 0

abbrev bufTy : (tb : Table) → Fin (tcTables nBuf tb) → BufTy
  | .hbm, ⟨0, _⟩ => ⟨S2x8448x256, .bf16⟩
  | .hbm, ⟨1, _⟩ => ⟨S2x8448x128, .bf16⟩
  | .hbm, ⟨2, _⟩ => ⟨S2x8448x128, .f32⟩
  | .hbm, ⟨3, _⟩ => ⟨S2x8448x128, .i32⟩
  | .hbm, ⟨4, _⟩ => ⟨S_, .i32⟩
  | .hbm, ⟨5, _⟩ => ⟨S2x8448x128, .i32⟩
  | .hbm, ⟨6, _⟩ => ⟨S2x8448x128, .i1⟩
  | .hbm, ⟨7, _⟩ => ⟨S_, .f32⟩
  | .hbm, ⟨8, _⟩ => ⟨S_, .f32⟩
  | .hbm, ⟨9, _⟩ => ⟨S2x8448x128, .f32⟩
  | .hbm, ⟨10, _⟩ => ⟨S2x8448x128, .f32⟩
  | .hbm, ⟨11, _⟩ => ⟨S_, .f32⟩
  | .hbm, ⟨12, _⟩ => ⟨S_, .f32⟩
  | .hbm, ⟨13, _⟩ => ⟨S2x8448x128, .f32⟩
  | .hbm, ⟨14, _⟩ => ⟨S2x8448x128, .f32⟩
  | .hbm, ⟨15, _⟩ => ⟨S2x8448x256, .f32⟩
  | .hbm, ⟨16, _⟩ => ⟨S2x8448x256, .bf16⟩
  | .hbm, ⟨17, _⟩ => ⟨S2x8448x256, .bf16⟩
  | .local _ .vmem, ⟨0, _⟩ => ⟨S1x768x256, .bf16⟩
  | .local _ .vmem, ⟨1, _⟩ => ⟨S1x768x256, .bf16⟩
  | .local _ .vmem, ⟨2, _⟩ => ⟨S1x2816x128, .bf16⟩
  | .local _ .vmem, ⟨3, _⟩ => ⟨S1x2816x128, .bf16⟩
  | .local _ .vmem, ⟨4, _⟩ => ⟨S1x2816x256, .bf16⟩
  | .local _ .vmem, ⟨5, _⟩ => ⟨S1x2816x256, .bf16⟩
  | .local _ .vmem, ⟨6, _⟩ => ⟨S1x768x256, .bf16⟩
  | .local _ .vmem, ⟨7, _⟩ => ⟨S1x768x256, .bf16⟩
  | .local _ .vmem, ⟨8, _⟩ => ⟨S3x1024x128, .bf16⟩
  | .local _ .vmem, ⟨9, _⟩ => ⟨S3x1024x1, .f32⟩
  | .local _ .vmem, ⟨10, _⟩ => ⟨S3x1024x128, .f32⟩
  | _, _ => ⟨S2x8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 11, 3], ![false, false, false]⟩

def k0_cond8 (i : grid0.Coords) : BitVec 1 :=
  let arg2 : BitVec 32 := BitVec.ofNat 32 (i 2).val
  let c2_i32_20 : BitVec 32 := 2#32
  let v36 : BitVec 1 := Scalar.cmpi .eq arg2 c2_i32_20
  let v37 : BitVec 32 := Scalar.extui v36
  let c0_i32_21 : BitVec 32 := 0#32
  let v38 : BitVec 1 := Scalar.cmpi .ne v37 c0_i32_21
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2816x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2816x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2x8448x256 : Shape := ⟨3, ![2, 8448, 256]⟩
abbrev S2x8448x128 : Shape := ⟨3, ![2, 8448, 128]⟩
abbrev S2x8448x2x2x64 : Shape := ⟨5, ![2, 8448, 2, 2, 64]⟩
abbrev S2x8448x2x64 : Shape := ⟨4, ![2, 8448, 2, 64]⟩
abbrev S2x2x8448x8448x2 : Shape := ⟨5, ![2, 2, 8448, 8448, 2]⟩
abbrev S2x2x2x8448x8448 : Shape := ⟨5, ![2, 2, 2, 8448, 8448]⟩
abbrev S8448 : Shape := ⟨1, ![8448]⟩
abbrev S8448x1 : Shape := ⟨2, ![8448, 1]⟩
abbrev S_ : Shape := ⟨0, ![]⟩
abbrev S1x8448 : Shape := ⟨2, ![1, 8448]⟩
abbrev S8448x8448 : Shape := ⟨2, ![8448, 8448]⟩
abbrev S2x2x2x8448 : Shape := ⟨4, ![2, 2, 2, 8448]⟩
abbrev S2x2x2x8448x1 : Shape := ⟨5, ![2, 2, 2, 8448, 1]⟩
abbrev S2x2x64x2x8448 : Shape := ⟨5, ![2, 2, 64, 2, 8448]⟩
abbrev S2x2x2x8448x64 : Shape := ⟨5, ![2, 2, 2, 8448, 64]⟩

abbrev nBuf : Space → Nat
  | .hbm => 45
  | .vmem => 0
  | .smem => 0
  | _ => 0

abbrev bufTy : (tb : Table) → Fin (tcTables nBuf tb) → BufTy
  | .hbm, ⟨0, _⟩ => ⟨S2x8448x256, .bf16⟩
  | .hbm, ⟨1, _⟩ => ⟨S2x8448x128, .bf16⟩
  | .hbm, ⟨2, _⟩ => ⟨S2x8448x128, .f32⟩
  | .hbm, ⟨3, _⟩ => ⟨S2x8448x2x2x64, .bf16⟩
  | .hbm, ⟨4, _⟩ => ⟨S2x8448x2x2x64, .f32⟩
  | .hbm, ⟨5, _⟩ => ⟨S2x8448x2x64, .bf16⟩
  | .hbm, ⟨6, _⟩ => ⟨S2x8448x2x64, .f32⟩
  | .hbm, ⟨7, _⟩ => ⟨S2x8448x2x64, .f32⟩
  | .hbm, ⟨8, _⟩ => ⟨S2x2x8448x8448x2, .f32⟩
  | .hbm, ⟨9, _⟩ => ⟨S2x2x2x8448x8448, .f32⟩
  | .hbm, ⟨10, _⟩ => ⟨S8448, .i32⟩
  | .hbm, ⟨11, _⟩ => ⟨S8448x1, .i32⟩
  | .hbm, ⟨12, _⟩ => ⟨S_, .i32⟩
  | .hbm, ⟨13, _⟩ => ⟨S8448x1, .i32⟩
  | .hbm, ⟨14, _⟩ => ⟨S8448x1, .i1⟩
  | .hbm, ⟨15, _⟩ => ⟨S1x8448, .i32⟩
  | .hbm, ⟨16, _⟩ => ⟨S_, .i32⟩
  | .hbm, ⟨17, _⟩ => ⟨S1x8448, .i32⟩
  | .hbm, ⟨18, _⟩ => ⟨S1x8448, .i1⟩
  | .hbm, ⟨19, _⟩ => ⟨S8448x8448, .i1⟩
  | .hbm, ⟨20, _⟩ => ⟨S8448x8448, .i1⟩
  | .hbm, ⟨21, _⟩ => ⟨S8448x8448, .i1⟩
  | .hbm, ⟨22, _⟩ => ⟨S_, .f32⟩
  | .hbm, ⟨23, _⟩ => ⟨S_, .f32⟩
  | .hbm, ⟨24, _⟩ => ⟨S2x2x2x8448x8448, .i1⟩
  | .hbm, ⟨25, _⟩ => ⟨S2x2x2x8448x8448, .f32⟩
  | .hbm, ⟨26, _⟩ => ⟨S2x2x2x8448x8448, .f32⟩
  | .hbm, ⟨27, _⟩ => ⟨S_, .f32⟩
  | .hbm, ⟨28, _⟩ => ⟨S2x2x2x8448x8448, .f32⟩
  | .hbm, ⟨29, _⟩ => ⟨S_, .f32⟩
  | .hbm, ⟨30, _⟩ => ⟨S2x2x2x8448, .f32⟩
  | .hbm, ⟨31, _⟩ => ⟨S2x2x2x8448x1, .f32⟩
  | .hbm, ⟨32, _⟩ => ⟨S2x2x2x8448x8448, .f32⟩
  | .hbm, ⟨33, _⟩ => ⟨S2x2x2x8448x8448, .f32⟩
  | .hbm, ⟨34, _⟩ => ⟨S2x2x2x8448x8448, .f32⟩
  | .hbm, ⟨35, _⟩ => ⟨S2x2x64x2x8448, .f32⟩
  | .hbm, ⟨36, _⟩ => ⟨S2x2x2x8448x64, .f32⟩
  | .hbm, ⟨37, _⟩ => ⟨S_, .f32⟩
  | .hbm, ⟨38, _⟩ => ⟨S2x2x2x8448, .f32⟩
  | .hbm, ⟨39, _⟩ => ⟨S2x2x2x8448x1, .f32⟩
  | .hbm, ⟨40, _⟩ => ⟨S2x2x2x8448x64, .f32⟩
  | .hbm, ⟨41, _⟩ => ⟨S2x2x2x8448x64, .f32⟩
  | .hbm, ⟨42, _⟩ => ⟨S2x8448x2x2x64, .f32⟩
  | .hbm, ⟨43, _⟩ => ⟨S2x8448x256, .f32⟩
  | .hbm, ⟨44, _⟩ => ⟨S2x8448x256, .bf16⟩
  | _, _ => ⟨S2x8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S167936x512 : Shape := ⟨2, ![167936, 512]⟩
abbrev S328 : Shape := ⟨1, ![328]⟩
abbrev S64 : Shape := ⟨1, ![64]⟩
abbrev S2 : Shape := ⟨1, ![2]⟩
abbrev S2x64x1024x256 : Shape := ⟨4, ![2, 64, 1024, 256]⟩
abbrev S2x64x256x1024 : Shape := ⟨4, ![2, 64, 256, 1024]⟩
abbrev S512x512 : Shape := ⟨2, ![512, 512]⟩
abbrev S1024x256 : Shape := ⟨2, ![1024, 256]⟩
abbrev S256x1024 : Shape := ⟨2, ![256, 1024]⟩
abbrev S3x512x512 : Shape := ⟨3, ![3, 512, 512]⟩
abbrev S3 : Shape := ⟨1, ![3]⟩
abbrev S2x1024x256 : Shape := ⟨3, ![2, 1024, 256]⟩
abbrev S2x256x1024 : Shape := ⟨3, ![2, 256, 1024]⟩
abbrev S2x3 : Shape := ⟨2, ![2, 3]⟩
abbrev S1 : Shape := ⟨1, ![1]⟩
abbrev S1x1 : Shape := ⟨2, ![1, 1]⟩
abbrev S_ : Shape := ⟨0, ![]⟩
abbrev S1x1024x256 : Shape := ⟨3, ![1, 1024, 256]⟩
abbrev S1x1x1024x256 : Shape := ⟨4, ![1, 1, 1024, 256]⟩
abbrev S1x256x1024 : Shape := ⟨3, ![1, 256, 1024]⟩
abbrev S1x1x256x1024 : Shape := ⟨4, ![1, 1, 256, 1024]⟩
abbrev S1x512x512 : Shape := ⟨3, ![1, 512, 512]⟩
abbrev S512x1024 : Shape := ⟨2, ![512, 1024]⟩
abbrev S512x256 : Shape := ⟨2, ![512, 256]⟩

abbrev nBuf : Space → Nat
  | .hbm => 5
  | .vmem => 9
  | .smem => 5
  | _ => 0

abbrev bufTy : (tb : Table) → Fin (tcTables nBuf tb) → BufTy
  | .hbm, ⟨0, _⟩ => ⟨S167936x512, .i32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S167936x512, .i32⟩
  | .local _ .vmem, ⟨0, _⟩ => ⟨S512x512, .i32⟩
  | .local _ .vmem, ⟨1, _⟩ => ⟨S512x512, .i32⟩
  | .local _ .vmem, ⟨2, _⟩ => ⟨S1024x256, .bf16⟩
  | .local _ .vmem, ⟨3, _⟩ => ⟨S1024x256, .bf16⟩
  | .local _ .vmem, ⟨4, _⟩ => ⟨S256x1024, .bf16⟩
  | .local _ .vmem, ⟨5, _⟩ => ⟨S3x512x512, .i32⟩
  | .local _ .vmem, ⟨6, _⟩ => ⟨S2x1024x256, .f32⟩
  | .local _ .vmem, ⟨7, _⟩ => ⟨S2x1024x256, .f32⟩
  | .local _ .vmem, ⟨8, _⟩ => ⟨S2x256x1024, .f32⟩
  | .local _ .smem, ⟨0, _⟩ => ⟨S328, .i32⟩
  | .local _ .smem, ⟨1, _⟩ => ⟨S328, .i32⟩
  | .local _ .smem, ⟨2, _⟩ => ⟨S328, .i32⟩
  | .local _ .smem, ⟨3, _⟩ => ⟨S64, .i32⟩
  | .local _ .smem, ⟨4, _⟩ => ⟨S2, .i32⟩
  | _, _ => ⟨S167936x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev main_arg5 : Ref sig .tc := ⟨.smem, 4, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev cc0_sem0_1 : DmaSem sig := 1

abbrev nD : Nat := 1
abbrev τ : Topo := Topo.v7x

variable {F : FTy → Type} [BitOps F]

abbrev grid0 : Pipeline.Grid := ⟨1, ![328], ![false]⟩

abbrev pre0 : Pipeline.Prefetch sig := ⟨5, ![main_arg1.idx, main_arg2.idx, main_arg3.idx, main_arg4.idx, main_arg5.idx], fun | 0 => main_arg1.names | 1 => main_arg2.names | 2 => main_arg3.names | 3 => main_arg4.names | 4 => main_arg5.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 : Fin 2 → Nat :=
  let c0_i32_12 : BitVec 32 := 0#32
  let c2_i32_13 : BitVec 32 := 2#32
  let v31 : BitVec 32 := Scalar.remsi c0_i32_12 c2_i32_13
  let c0_i32_16 : BitVec 32 := 0#32
  ![v31.toNat, 0]
def k0_off2 : Fin 3 → Nat :=
  let c0_i32_12 : BitVec 32 := 0#32
  let c2_i32_13 : BitVec 32 := 2#32
  let v31 : BitVec 32 := Scalar.remsi c0_i32_12 c2_i32_13
  let c0_i32_17 : BitVec 32 := 0#32
  let c0_i32_18 : BitVec 32 := 0#32
  ![v31.toNat, 0, 0]
def k0_off3 (v32 : BitVec 32) : Fin 4 → Nat :=
  let c0_i32_15 : BitVec 32 := 0#32
  let c0_i32_19 : BitVec 32 := 0#32
  let c0_i32_20 : BitVec 32 := 0#32
  ![0, v32.toNat, 0, 0]
def k0_cond2 (v1 : BitVec 32) : BitVec 1 :=
  let c0_i32_8 : BitVec 32 := 0#32
  let v25 : BitVec 1 := Scalar.cmpi .sgt v1 c0_i32_8
  let v26 : BitVec 32 := Scalar.extui v25
  let c0_i32_9 : BitVec 32 := 0#32
  let v27 : BitVec 1 := Scalar.cmpi .ne v26 c0_i32_9
  v27

def k0_off4 : Fin 2 → Nat :=
  let c0_i32_12 : BitVec 32 := 0#32
  let c2_i32_13 : BitVec 32 := 2#32
  let v31 : BitVec 32 := Scalar.remsi c0_i32_12 c2_i32_13
  let c1_i32_22 : BitVec 32 := 1#32
  ![v31.toNat, 1]
def k0_off5 : Fin 3 → Nat :=
  let c0_i32_12 : BitVec 32 := 0#32
  let c2_i32_13 : BitVec 32 := 2#32
  let v31 : BitVec 32 := Scalar.remsi c0_i32_12 c2_i32_13
  let c0_i32_23 : BitVec 32 := 0#32
  let c0_i32_24 : BitVec 32 := 0#32
  ![v31.toNat, 0, 0]
def k0_off6 : Fin 2 → Nat :=
  let c0_i32_12 : BitVec 32 := 0#32
  let c2_i32_13 : BitVec 32 := 2#32
  let v31 : BitVec 32 := Scalar.remsi c0_i32_12 c2_i32_13
  let c2_i32_28 : BitVec 32 := 2#32
  ![v31.toNat, 2]
def k0_off7 : Fin 3 → Nat :=
  let c0_i32_12 : BitVec 32 := 0#32
  let c2_i32_13 : BitVec 32 := 2#32
  let v31 : BitVec 32 := Scalar.remsi c0_i32_12 c2_i32_13
  let c0_i32_29 : BitVec 32 := 0#32
  let c0_i32_30 : BitVec 32 := 0#32
  ![v31.toNat, 0, 0]
def k0_off8 (v32 : BitVec 32) : Fin 4 → Nat :=
  let c0_i32_27 : BitVec 32 := 0#32
  let c0_i32_31 : BitVec 32 := 0#32
  let c0_i32_32 : BitVec 32 := 0#32
  ![0, v32.toNat, 0, 0]

def k0_chk1 (i : grid0.Coords) (v1 : BitVec 32) (v32 : BitVec 32) : Prop :=
  (∀ (k0_h1 : k0_cond1 i = 1#1), ∀ (k0_h2 : k0_cond2 v1 = 1#1), ∀ a, (k0_off3 v32) a + S1x1x1024x256.size a ≤ S2x64x1024x256.size a) ∧
  (∀ (k0_h1 : k0_cond1 i = 1#1), ∀ (k0_h2 : k0_cond2 v1 = 1#1), ∀ a, (k0_off8 v32) a + S1x1x256x1024.size a ≤ S2x64x256x1024.size a)
theorem k0_off3_inb : ∀ (i : grid0.Coords) (v1 : BitVec 32) (v32 : BitVec 32) (k0_hw1 : k0_chk1 i v1 v32), ∀ (k0_h1 : k0_cond1 i = 1#1), ∀ (k0_h2 : k0_cond2 v1 = 1#1), ∀ a, (k0_off3 v32) a + S1x1x1024x256.size a ≤ S2x64x1024x256.size a := fun i v1 v32 k0_hw1 k0_h1 k0_h2 => k0_hw1.1 k0_h1 k0_h2
theorem k0_off8_inb : ∀ (i : grid0.Coords) (v1 : BitVec 32) (v32 : BitVec 32) (k0_hw1 : k0_chk1 i v1 v32), ∀ (k0_h1 : k0_cond1 i = 1#1), ∀ (k0_h2 : k0_cond2 v1 = 1#1), ∀ a, (k0_off8 v32) a + S1x1x256x1024.size a ≤ S2x64x256x1024.size a := fun i v1 v32 k0_hw1 k0_h1 k0_h2 => k0_hw1.2 k0_h1 k0_h2

def k0_off9 : Fin 2 → Nat :=
  let c1_i32_12 : BitVec 32 := 1#32
  let c2_i32_13 : BitVec 32 := 2#32
  let v31 : BitVec 32 := Scalar.remsi c1_i32_12 c2_i32_13
  let c0_i32_16 : BitVec 32 := 0#32
  ![v31.toNat, 0]
def k0_off10 : Fin 3 → Nat :=
  let c1_i32_12 : BitVec 32 := 1#32
  let c2_i32_13 : BitVec 32 := 2#32
  let v31 : BitVec 32 := Scalar.remsi c1_i32_12 c2_i32_13
  let c0_i32_17 : BitVec 32 := 0#32
  let c0_i32_18 : BitVec 32 := 0#32
  ![v31.toNat, 0, 0]
def k0_off11 (v32 : BitVec 32) : Fin 4 → Nat :=
  let c0_i32_15 : BitVec 32 := 0#32
  let c0_i32_19 : BitVec 32 := 0#32
  let c0_i32_20 : BitVec 32 := 0#32
  ![0, v32.toNat, 0, 0]
def k0_cond3 (v1 : BitVec 32) : BitVec 1 :=
  let c1_i32_10 : BitVec 32 := 1#32
  let v28 : BitVec 1 := Scalar.cmpi .sgt v1 c1_i32_10
  let v29 : BitVec 32 := Scalar.extui v28
  let c0_i32_11 : BitVec 32 := 0#32
  let v30 : BitVec 1 := Scalar.cmpi .ne v29 c0_i32_11
  v30

def k0_off12 : Fin 2 → Nat :=
  let c1_i32_12 : BitVec 32 := 1#32
  let c2_i32_13 : BitVec 32 := 2#32
  let v31 : BitVec 32 := Scalar.remsi c1_i32_12 c2_i32_13
  let c1_i32_22 : BitVec 32 := 1#32
  ![v31.toNat, 1]
def k0_off13 : Fin 3 → Nat :=
  let c1_i32_12 : BitVec 32 := 1#32
  let c2_i32_13 : BitVec 32 := 2#32
  let v31 : BitVec 32 := Scalar.remsi c1_i32_12 c2_i32_13
  let c0_i32_23 : BitVec 32 := 0#32
  let c0_i32_24 : BitVec 32 := 0#32
  ![v31.toNat, 0, 0]
def k0_off14 : Fin 2 → Nat :=
  let c1_i32_12 : BitVec 32 := 1#32
  let c2_i32_13 : BitVec 32 := 2#32
  let v31 : BitVec 32 := Scalar.remsi c1_i32_12 c2_i32_13
  let c2_i32_28 : BitVec 32 := 2#32
  ![v31.toNat, 2]
def k0_off15 : Fin 3 → Nat :=
  let c1_i32_12 : BitVec 32 := 1#32
  let c2_i32_13 : BitVec 32 := 2#32
  let v31 : BitVec 32 := Scalar.remsi c1_i32_12 c2_i32_13
  let c0_i32_29 : BitVec 32 := 0#32
  let c0_i32_30 : BitVec 32 := 0#32
  ![v31.toNat, 0, 0]
def k0_off16 (v32 : BitVec 32) : Fin 4 → Nat :=
  let c0_i32_27 : BitVec 32 := 0#32
  let c0_i32_31 : BitVec 32 := 0#32
  let c0_i32_32 : BitVec 32 := 0#32
  ![0, v32.toNat, 0, 0]

def k0_chk2 (i : grid0.Coords) (v1 : BitVec 32) (v32 : BitVec 32) : Prop :=
  (∀ (k0_h1 : k0_cond1 i = 1#1), ∀ (k0_h3 : k0_cond3 v1 = 1#1), ∀ a, (k0_off11 v32) a + S1x1x1024x256.size a ≤ S2x64x1024x256.size a) ∧
  (∀ (k0_h1 : k0_cond1 i = 1#1), ∀ (k0_h3 : k0_cond3 v1 = 1#1), ∀ a, (k0_off16 v32) a + S1x1x256x1024.size a ≤ S2x64x256x1024.size a)
theorem k0_off11_inb : ∀ (i : grid0.Coords) (v1 : BitVec 32) (v32 : BitVec 32) (k0_hw2 : k0_chk2 i v1 v32), ∀ (k0_h1 : k0_cond1 i = 1#1), ∀ (k0_h3 : k0_cond3 v1 = 1#1), ∀ a, (k0_off11 v32) a + S1x1x1024x256.size a ≤ S2x64x1024x256.size a := fun i v1 v32 k0_hw2 k0_h1 k0_h3 => k0_hw2.1 k0_h1 k0_h3
theorem k0_off16_inb : ∀ (i : grid0.Coords) (v1 : BitVec 32) (v32 : BitVec 32) (k0_hw2 : k0_chk2 i v1 v32), ∀ (k0_h1 : k0_cond1 i = 1#1), ∀ (k0_h3 : k0_cond3 v1 = 1#1), ∀ a, (k0_off16 v32) a + S1x1x256x1024.size a ≤ S2x64x256x1024.size a := fun i v1 v32 k0_hw2 k0_h1 k0_h3 => k0_hw2.2 k0_h1 k0_h3

def k0_cond4 (i : grid0.Coords) : BitVec 1 :=
  let arg0 : BitVec 32 := BitVec.ofNat 32 (i 0).val
  let c0_i32_1 : BitVec 32 := 0#32
  let v6 : BitVec 1 := Scalar.cmpi .eq arg0 c0_i32_1
  let v7 : BitVec 32 := Scalar.extui v6
  let c0_i32_2 : BitVec 32 := 0#32
  let v8 : BitVec 1 := Scalar.cmpi .ne v7 c0_i32_2
  v8

def k0_mult1 : BitVec 32 :=
  let c0_i32_13 : BitVec 32 := 0#32
  c0_i32_13
def k0_off17 : Fin 1 → Nat :=
  let c0_i32_12 : BitVec 32 := 0#32
  let c3_i32 : BitVec 32 := 3#32
  let v31 : BitVec 32 := Scalar.remsi c0_i32_12 c3_i32
  ![v31.toNat]
def k0_off18 : Fin 3 → Nat :=
  let c0_i32_12 : BitVec 32 := 0#32
  let c3_i32 : BitVec 32 := 3#32
  let v31 : BitVec 32 := Scalar.remsi c0_i32_12 c3_i32
  let c0_i32_14 : BitVec 32 := 0#32
  let c0_i32_15 : BitVec 32 := 0#32
  ![v31.toNat, 0, 0]
def k0_mult2 : BitVec 32 :=
  let c512_i32 : BitVec 32 := 512#32
  c512_i32
def k0_off19 : Fin 1 → Nat :=
  let c1_i32_12 : BitVec 32 := 1#32
  let c3_i32 : BitVec 32 := 3#32
  let v31 : BitVec 32 := Scalar.remsi c1_i32_12 c3_i32
  ![v31.toNat]
def k0_off20 : Fin 3 → Nat :=
  let c1_i32_12 : BitVec 32 := 1#32
  let c3_i32 : BitVec 32 := 3#32
  let v31 : BitVec 32 := Scalar.remsi c1_i32_12 c3_i32
  let c0_i32_13 : BitVec 32 := 0#32
  let c0_i32_14 : BitVec 32 := 0#32
  ![v31.toNat, 0, 0]
def k0_mult3 (i : grid0.Coords) : BitVec 32 :=
  let arg0 : BitVec 32 := BitVec.ofNat 32 (i 0).val
  let c2_i32_8 : BitVec 32 := 2#32
  let v25 : BitVec 32 := Scalar.addi arg0 c2_i32_8
  let c512_i32 : BitVec 32 := 512#32
  let v27 : BitVec 32 := Scalar.muli v25 c512_i32
  v27
def k0_off21 (i : grid0.Coords) : Fin 1 → Nat :=
  let arg0 : BitVec 32 := BitVec.ofNat 32 (i 0).val
  let c2_i32_8 : BitVec 32 := 2#32
  let v25 : BitVec 32 := Scalar.addi arg0 c2_i32_8
  let c3_i32 : BitVec 32 := 3#32
  let v26 : BitVec 32 := Scalar.remsi v25 c3_i32
  ![v26.toNat]
def k0_off22 (i : grid0.Coords) : Fin 3 → Nat :=
  let arg0 : BitVec 32 := BitVec.ofNat 32 (i 0).val
  let c2_i32_8 : BitVec 32 := 2#32
  let v25 : BitVec 32 := Scalar.addi arg0 c2_i32_8
  let c3_i32 : BitVec 32 := 3#32
  let v26 : BitVec 32 := Scalar.remsi v25 c3_i32
  let c0_i32_9 : BitVec 32 := 0#32
  let c0_i32_10 : BitVec 32 := 0#32
  ![v26.toNat, 0, 0]
def k0_off23 (i : grid0.Coords) : Fin 2 → Nat :=
  let arg0 : BitVec 32 := BitVec.ofNat 32 (i 0).val
  let c2_i32_8 : BitVec 32 := 2#32
  let v25 : BitVec 32 := Scalar.addi arg0 c2_i32_8
  let c512_i32 : BitVec 32 := 512#32
  let v27 : BitVec 32 := Scalar.muli v25 c512_i32
  let v28 : BitVec 32 := v27
  let c0_i32_11 : BitVec 32 := 0#32
  ![v28.toNat, 0]
def k0_cond7 (i : grid0.Coords) (v0 : BitVec 32) : BitVec 1 :=
  let arg0 : BitVec 32 := BitVec.ofNat 32 (i 0).val
  let c2_i32 : BitVec 32 := 2#32
  let v9 : BitVec 32 := Scalar.addi arg0 c2_i32
  let v10 : BitVec 1 := Scalar.cmpi .slt v9 v0
  let v11 : BitVec 32 := Scalar.extui v10
  let c0_i32_3 : BitVec 32 := 0#32
  let v12 : BitVec 1 := Scalar.cmpi .ne v11 c0_i32_3
  v12

def k0_chk3 (i : grid0.Coords) (v0 : BitVec 32) : Prop :=
  (∀ (k0_h7 : k0_cond7 i v0 = 1#1), ∀ a, (k0_off23 i) a + S512x512.size a ≤ S167936x512.size a)
theorem k0_off23_inb : ∀ (i : grid0.Coords) (v0 : BitVec 32) (k0_hw3 : k0_chk3 i v0), ∀ (k0_h7 : k0_cond7 i v0 = 1#1), ∀ a, (k0_off23 i) a + S512x512.size a ≤ S167936x512.size a := fun i v0 k0_hw3 k0_h7 => k0_hw3 k0_h7

def k0_off24 (i : grid0.Coords) : Fin 1 → Nat :=
  let arg0 : BitVec 32 := BitVec.ofNat 32 (i 0).val
  let v13 : Index := Scalar.indexCast arg0
  ![v13.toNat]
def k0_off25 (i : grid0.Coords) : Fin 1 → Nat :=
  let arg0 : BitVec 32 := BitVec.ofNat 32 (i 0).val
  let v25 : Index := Scalar.indexCast arg0
  ![v25.toNat]
def k0_off26 (v26 : BitVec 32) : Fin 1 → Nat :=
  let v28 : Index := Scalar.indexCast v26
  ![v28.toNat]
def k0_cond8 (i : grid0.Coords) (v0 : BitVec 32) (v14 : BitVec 32) : BitVec 1 :=
  let arg0 : BitVec 32 := BitVec.ofNat 32 (i 0).val
  let v2 : BitVec 1 := Scalar.cmpi .slt arg0 v0
  let c1_i32 : BitVec 32 := 1#32
  let v15 : BitVec 1 := Scalar.cmpi .eq v14 c1_i32
  let v16 : BitVec 1 := Scalar.andi v2 v15
  let v17 : BitVec 32 := Scalar.extui v16
  let c0_i32_4 : BitVec 32 := 0#32
  let v18 : BitVec 1 := Scalar.cmpi .ne v17 c0_i32_4
  v18

def k0_off27 (v26 : BitVec 32) : Fin 2 → Nat :=
  let c2_i32_8 : BitVec 32 := 2#32
  let v27 : BitVec 32 := Scalar.remsi v26 c2_i32_8
  let c0_i32_10 : BitVec 32 := 0#32
  ![v27.toNat, 0]
def k0_off28 (v26 : BitVec 32) : Fin 3 → Nat :=
  let c2_i32_8 : BitVec 32 := 2#32
  let v27 : BitVec 32 := Scalar.remsi v26 c2_i32_8
  let c0_i32_11 : BitVec 32 := 0#32
  let c0_i32_12 : BitVec 32 := 0#32
  ![v27.toNat, 0, 0]
def k0_off29 (v29 : BitVec 32) : Fin 4 → Nat :=
  let c0_i32_9 : BitVec 32 := 0#32
  let c0_i32_13 : BitVec 32 := 0#32
  let c0_i32_14 : BitVec 32 := 0#32
  ![0, v29.toNat, 0, 0]

def k0_off30 (v26 : BitVec 32) : Fin 2 → Nat :=
  let c2_i32_8 : BitVec 32 := 2#32
  let v27 : BitVec 32 := Scalar.remsi v26 c2_i32_8
  let c1_i32_16 : BitVec 32 := 1#32
  ![v27.toNat, 1]
def k0_off31 (v26 : BitVec 32) : Fin 3 → Nat :=
  let c2_i32_8 : BitVec 32 := 2#32
  let v27 : BitVec 32 := Scalar.remsi v26 c2_i32_8
  let c0_i32_17 : BitVec 32 := 0#32
  let c0_i32_18 : BitVec 32 := 0#32
  ![v27.toNat, 0, 0]
def k0_off32 (v26 : BitVec 32) : Fin 2 → Nat :=
  let c2_i32_8 : BitVec 32 := 2#32
  let v27 : BitVec 32 := Scalar.remsi v26 c2_i32_8
  let c2_i32_22 : BitVec 32 := 2#32
  ![v27.toNat, 2]
def k0_off33 (v26 : BitVec 32) : Fin 3 → Nat :=
  let c2_i32_8 : BitVec 32 := 2#32
  let v27 : BitVec 32 := Scalar.remsi v26 c2_i32_8
  let c0_i32_23 : BitVec 32 := 0#32
  let c0_i32_24 : BitVec 32 := 0#32
  ![v27.toNat, 0, 0]
def k0_off34 (v29 : BitVec 32) : Fin 4 → Nat :=
  let c0_i32_21 : BitVec 32 := 0#32
  let c0_i32_25 : BitVec 32 := 0#32
  let c0_i32_26 : BitVec 32 := 0#32
  ![0, v29.toNat, 0, 0]

def k0_chk5 (i : grid0.Coords) (v0 : BitVec 32) (v14 : BitVec 32) (v29 : BitVec 32) : Prop :=
  (∀ (k0_h8 : k0_cond8 i v0 v14 = 1#1), ∀ a, (k0_off29 v29) a + S1x1x1024x256.size a ≤ S2x64x1024x256.size a) ∧
  (∀ (k0_h8 : k0_cond8 i v0 v14 = 1#1), ∀ a, (k0_off34 v29) a + S1x1x256x1024.size a ≤ S2x64x256x1024.size a)
theorem k0_off29_inb : ∀ (i : grid0.Coords) (v0 : BitVec 32) (v14 : BitVec 32) (v29 : BitVec 32) (k0_hw5 : k0_chk5 i v0 v14 v29), ∀ (k0_h8 : k0_cond8 i v0 v14 = 1#1), ∀ a, (k0_off29 v29) a + S1x1x1024x256.size a ≤ S2x64x1024x256.size a := fun i v0 v14 v29 k0_hw5 k0_h8 => k0_hw5.1 k0_h8
theorem k0_off34_inb : ∀ (i : grid0.Coords) (v0 : BitVec 32) (v14 : BitVec 32) (v29 : BitVec 32) (k0_hw5 : k0_chk5 i v0 v14 v29), ∀ (k0_h8 : k0_cond8 i v0 v14 = 1#1), ∀ a, (k0_off34 v29) a + S1x1x256x1024.size a ≤ S2x64x256x1024.size a := fun i v0 v14 v29 k0_hw5 k0_h8 => k0_hw5.2 k0_h8

def k0_off35 (v26 : BitVec 32) : Fin 3 → Nat :=
  let c2_i32_27 : BitVec 32 := 2#32
  let v48 : BitVec 32 := Scalar.remsi v26 c2_i32_27
  let v49 : Index := Scalar.indexCast v48
  let c0_28 : Index := 0#32
  let c0_29 : Index := 0#32
  ![v49.toNat, 0, 0]
def k0_off36 (v26 : BitVec 32) : Fin 3 → Nat :=
  let c2_i32_27 : BitVec 32 := 2#32
  let v48 : BitVec 32 := Scalar.remsi v26 c2_i32_27
  let v63 : Index := Scalar.indexCast v48
  let c0_36 : Index := 0#32
  let c0_37 : Index := 0#32
  ![v63.toNat, 0, 0]
def k0_off37 (v26 : BitVec 32) : Fin 1 → Nat :=
  let c2_i32_42 : BitVec 32 := 2#32
  let v74 : BitVec 32 := Scalar.addi v26 c2_i32_42
  let v76 : Index := Scalar.indexCast v74
  ![v76.toNat]
def k0_cond9 (v1 : BitVec 32) (v26 : BitVec 32) : BitVec 1 :=
  let c2_i32_40 : BitVec 32 := 2#32
  let v70 : BitVec 32 := Scalar.addi v26 c2_i32_40
  let v71 : BitVec 1 := Scalar.cmpi .slt v70 v1
  let v72 : BitVec 32 := Scalar.extui v71
  let c0_i32_41 : BitVec 32 := 0#32
  let v73 : BitVec 1 := Scalar.cmpi .ne v72 c0_i32_41
  v73

def k0_off38 (v26 : BitVec 32) : Fin 2 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_45 : BitVec 32 := 0#32
  ![v75.toNat, 0]
def k0_off39 (v26 : BitVec 32) : Fin 3 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_46 : BitVec 32 := 0#32
  let c0_i32_47 : BitVec 32 := 0#32
  ![v75.toNat, 0, 0]
def k0_off40 (v77 : BitVec 32) : Fin 4 → Nat :=
  let c0_i32_44 : BitVec 32 := 0#32
  let c0_i32_48 : BitVec 32 := 0#32
  let c0_i32_49 : BitVec 32 := 0#32
  ![0, v77.toNat, 0, 0]

def k0_off41 (v26 : BitVec 32) : Fin 2 → Nat :=
  let c2_i32_42 : BitVec 32 := 2#32
  let v74 : BitVec 32 := Scalar.addi v26 c2_i32_42
  let c2_i32_43 : BitVec 32 := 2#32
  let v75 : BitVec 32 := Scalar.remsi v74 c2_i32_43
  let c1_i32_51 : BitVec 32 := 1#32
  ![v75.toNat, 1]
def k0_off42 (v26 : BitVec 32) : Fin 3 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_52 : BitVec 32 := 0#32
  let c0_i32_53 : BitVec 32 := 0#32
  ![v75.toNat, 0, 0]
def k0_off43 (v26 : BitVec 32) : Fin 2 → Nat :=
  let c2_i32_42 : BitVec 32 := 2#32
  let v74 : BitVec 32 := Scalar.addi v26 c2_i32_42
  let c2_i32_43 : BitVec 32 := 2#32
  let v75 : BitVec 32 := Scalar.remsi v74 c2_i32_43
  let c2_i32_57 : BitVec 32 := 2#32
  ![v75.toNat, 2]
def k0_off44 (v26 : BitVec 32) : Fin 3 → Nat :=
  let c2_i32_42 : BitVec 32 := 2#32
  let v74 : BitVec 32 := Scalar.addi v26 c2_i32_42
  let c2_i32_43 : BitVec 32 := 2#32
  let v75 : BitVec 32 := Scalar.remsi v74 c2_i32_43
  let c0_i32_58 : BitVec 32 := 0#32
  let c0_i32_59 : BitVec 32 := 0#32
  ![v75.toNat, 0, 0]

def k0_chk4 (i : grid0.Coords) (v0 : BitVec 32) (v1 : BitVec 32) (v14 : BitVec 32) (v26 : BitVec 32) : Prop :=
  (∀ (k0_h8 : k0_cond8 i v0 v14 = 1#1), ∀ a, (k0_off26 v26) a + S1.size a ≤ S64.size a) ∧
  (∀ (k0_h8 : k0_cond8 i v0 v14 = 1#1), ∀ a, (k0_off27 v26) a + S1x1.size a ≤ S2x3.size a) ∧
  (∀ (k0_h8 : k0_cond8 i v0 v14 = 1#1), ∀ a, (k0_off28 v26) a + S1x1024x256.size a ≤ S2x1024x256.size a) ∧
  (∀ (k0_h8 : k0_cond8 i v0 v14 = 1#1), ∀ a, (k0_off30 v26) a + S1x1.size a ≤ S2x3.size a) ∧
  (∀ (k0_h8 : k0_cond8 i v0 v14 = 1#1), ∀ a, (k0_off31 v26) a + S1x1024x256.size a ≤ S2x1024x256.size a) ∧
  (∀ (k0_h8 : k0_cond8 i v0 v14 = 1#1), ∀ a, (k0_off32 v26) a + S1x1.size a ≤ S2x3.size a) ∧
  (∀ (k0_h8 : k0_cond8 i v0 v14 = 1#1), ∀ a, (k0_off33 v26) a + S1x256x1024.size a ≤ S2x256x1024.size a) ∧
  (∀ (k0_h8 : k0_cond8 i v0 v14 = 1#1), ∀ a, (k0_off35 v26) a + S1x1024x256.size a ≤ S2x1024x256.size a) ∧
  (∀ (k0_h8 : k0_cond8 i v0 v14 = 1#1), ∀ a, (k0_off36 v26) a + S1x256x1024.size a ≤ S2x256x1024.size a) ∧
  (∀ (k0_h8 : k0_cond8 i v0 v14 = 1#1), ∀ (k0_h9 : k0_cond9 v1 v26 = 1#1), ∀ a, (k0_off37 v26) a + S1.size a ≤ S64.size a) ∧
  (∀ (k0_h8 : k0_cond8 i v0 v14 = 1#1), ∀ (k0_h9 : k0_cond9 v1 v26 = 1#1), ∀ a, (k0_off38 v26) a + S1x1.size a ≤ S2x3.size a) ∧
  (∀ (k0_h8 : k0_cond8 i v0 v14 = 1#1), ∀ (k0_h9 : k0_cond9 v1 v26 = 1#1), ∀ a, (k0_off39 v26) a + S1x1024x256.size a ≤ S2x1024x256.size a) ∧
  (∀ (k0_h8 : k0_cond8 i v0 v14 = 1#1), ∀ (k0_h9 : k0_cond9 v1 v26 = 1#1), ∀ a, (k0_off41 v26) a + S1x1.size a ≤ S2x3.size a) ∧
  (∀ (k0_h8 : k0_cond8 i v0 v14 = 1#1), ∀ (k0_h9 : k0_cond9 v1 v26 = 1#1), ∀ a, (k0_off42 v26) a + S1x1024x256.size a ≤ S2x1024x256.size a) ∧
  (∀ (k0_h8 : k0_cond8 i v0 v14 = 1#1), ∀ (k0_h9 : k0_cond9 v1 v26 = 1#1), ∀ a, (k0_off43 v26) a + S1x1.size a ≤ S2x3.size a) ∧
  (∀ (k0_h8 : k0_cond8 i v0 v14 = 1#1), ∀ (k0_h9 : k0_cond9 v1 v26 = 1#1), ∀ a, (k0_off44 v26) a + S1x256x1024.size a ≤ S2x256x1024.size a)
theorem k0_off26_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off26 v26) a + S1.size a ≤ S64.size a := fun i v0 v1 v14 v26 k0_hw4 k0_h8 => k0_hw4.1 k0_h8
theorem k0_off27_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off27 v26) a + S1x1.size a ≤ S2x3.size a := fun i v0 v1 v14 v26 k0_hw4 k0_h8 => k0_hw4.2.1 k0_h8
theorem k0_off28_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off28 v26) a + S1x1024x256.size a ≤ S2x1024x256.size a := fun i v0 v1 v14 v26 k0_hw4 k0_h8 => k0_hw4.2.2.1 k0_h8
theorem k0_off30_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off30 v26) a + S1x1.size a ≤ S2x3.size a := fun i v0 v1 v14 v26 k0_hw4 k0_h8 => k0_hw4.2.2.2.1 k0_h8
theorem k0_off31_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off31 v26) a + S1x1024x256.size a ≤ S2x1024x256.size a := fun i v0 v1 v14 v26 k0_hw4 k0_h8 => k0_hw4.2.2.2.2.1 k0_h8
theorem k0_off32_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off32 v26) a + S1x1.size a ≤ S2x3.size a := fun i v0 v1 v14 v26 k0_hw4 k0_h8 => k0_hw4.2.2.2.2.2.1 k0_h8
theorem k0_off33_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off33 v26) a + S1x256x1024.size a ≤ S2x256x1024.size a := fun i v0 v1 v14 v26 k0_hw4 k0_h8 => k0_hw4.2.2.2.2.2.2.1 k0_h8
theorem k0_off35_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off35 v26) a + S1x1024x256.size a ≤ S2x1024x256.size a := fun i v0 v1 v14 v26 k0_hw4 k0_h8 => k0_hw4.2.2.2.2.2.2.2.1 k0_h8
theorem k0_off36_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ a, (k0_off36 v26) a + S1x256x1024.size a ≤ S2x256x1024.size a := fun i v0 v1 v14 v26 k0_hw4 k0_h8 => k0_hw4.2.2.2.2.2.2.2.2.1 k0_h8
theorem k0_off37_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off37 v26) a + S1.size a ≤ S64.size a := fun i v0 v1 v14 v26 k0_hw4 k0_h8 k0_h9 => k0_hw4.2.2.2.2.2.2.2.2.2.1 k0_h8 k0_h9
theorem k0_off38_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off38 v26) a + S1x1.size a ≤ S2x3.size a := fun i v0 v1 v14 v26 k0_hw4 k0_h8 k0_h9 => k0_hw4.2.2.2.2.2.2.2.2.2.2.1 k0_h8 k0_h9
theorem k0_off39_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off39 v26) a + S1x1024x256.size a ≤ S2x1024x256.size a := fun i v0 v1 v14 v26 k0_hw4 k0_h8 k0_h9 => k0_hw4.2.2.2.2.2.2.2.2.2.2.2.1 k0_h8 k0_h9
theorem k0_off41_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off41 v26) a + S1x1.size a ≤ S2x3.size a := fun i v0 v1 v14 v26 k0_hw4 k0_h8 k0_h9 => k0_hw4.2.2.2.2.2.2.2.2.2.2.2.2.1 k0_h8 k0_h9
theorem k0_off42_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off42 v26) a + S1x1024x256.size a ≤ S2x1024x256.size a := fun i v0 v1 v14 v26 k0_hw4 k0_h8 k0_h9 => k0_hw4.2.2.2.2.2.2.2.2.2.2.2.2.2.1 k0_h8 k0_h9
theorem k0_off43_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off43 v26) a + S1x1.size a ≤ S2x3.size a := fun i v0 v1 v14 v26 k0_hw4 k0_h8 k0_h9 => k0_hw4.2.2.2.2.2.2.2.2.2.2.2.2.2.2.1 k0_h8 k0_h9
theorem k0_off44_inb : ∀ (i : grid0.Coords) (v0 : BitVec 32) (v1 : BitVec 32) (v14 : BitVec 32) (v26 : BitVec 32) (k0_hw4 : k0_chk4 i v0 v1 v14 v26), ∀ (k0_h8 : k0_cond8 i v0 v14 = 1#1), ∀ (k0_h9 : k0_cond9 v1 v26 = 1#1), ∀ a, (k0_off44 v26) a + S1x256x1024.size a ≤ S2x256x1024.size a := fun i v0 v1 v14 v26 k0_hw4 k0_h8 k0_h9 => k0_hw4.2.2.2.2.2.2.2.2.2.2.2.2.2.2.2 k0_h8 k0_h9

def k0_off45 (v77 : BitVec 32) : Fin 4 → Nat :=
  let c0_i32_56 : BitVec 32 := 0#32
  let c0_i32_60 : BitVec 32 := 0#32
  let c0_i32_61 : BitVec 32 := 0#32
  ![0, v77.toNat, 0, 0]

def k0_chk6 (i : grid0.Coords) (v0 : BitVec 32) (v1 : BitVec 32) (v14 : BitVec 32) (v26 : BitVec 32) (v77 : BitVec 32) : Prop :=
  (∀ (k0_h8 : k0_cond8 i v0 v14 = 1#1), ∀ (k0_h9 : k0_cond9 v1 v26 = 1#1), ∀ a, (k0_off40 v77) a + S1x1x1024x256.size a ≤ S2x64x1024x256.size a) ∧
  (∀ (k0_h8 : k0_cond8 i v0 v14 = 1#1), ∀ (k0_h9 : k0_cond9 v1 v26 = 1#1), ∀ a, (k0_off45 v77) a + S1x1x256x1024.size a ≤ S2x64x256x1024.size a)
theorem k0_off40_inb : ∀ (i : grid0.Coords) (v0 : BitVec 32) (v1 : BitVec 32) (v14 : BitVec 32) (v26 : BitVec 32) (v77 : BitVec 32) (k0_hw6 : k0_chk6 i v0 v1 v14 v26 v77), ∀ (k0_h8 : k0_cond8 i v0 v14 = 1#1), ∀ (k0_h9 : k0_cond9 v1 v26 = 1#1), ∀ a, (k0_off40 v77) a + S1x1x1024x256.size a ≤ S2x64x1024x256.size a := fun i v0 v1 v14 v26 v77 k0_hw6 k0_h8 k0_h9 => k0_hw6.1 k0_h8 k0_h9
theorem k0_off45_inb : ∀ (i : grid0.Coords) (v0 : BitVec 32) (v1 : BitVec 32) (v14 : BitVec 32) (v26 : BitVec 32) (v77 : BitVec 32) (k0_hw6 : k0_chk6 i v0 v1 v14 v26 v77), ∀ (k0_h8 : k0_cond8 i v0 v14 = 1#1), ∀ (k0_h9 : k0_cond9 v1 v26 = 1#1), ∀ a, (k0_off45 v77) a + S1x1x256x1024.size a ≤ S2x64x256x1024.size a := fun i v0 v1 v14 v26 v77 k0_hw6 k0_h8 k0_h9 => k0_hw6.2 k0_h8 k0_h9

def k0_mult4 (i : grid0.Coords) : BitVec 32 :=
  let arg0 : BitVec 32 := BitVec.ofNat 32 (i 0).val
  let c512_i32 : BitVec 32 := 512#32
  let v26 : BitVec 32 := Scalar.muli arg0 c512_i32
  v26
def k0_off46 (i : grid0.Coords) : Fin 1 → Nat :=
  let arg0 : BitVec 32 := BitVec.ofNat 32 (i 0).val
  let c3_i32 : BitVec 32 := 3#32
  let v25 : BitVec 32 := Scalar.remsi arg0 c3_i32
  ![v25.toNat]
def k0_off47 (i : grid0.Coords) : Fin 3 → Nat :=
  let arg0 : BitVec 32 := BitVec.ofNat 32 (i 0).val
  let c3_i32 : BitVec 32 := 3#32
  let v25 : BitVec 32 := Scalar.remsi arg0 c3_i32
  let c0_i32_8 : BitVec 32 := 0#32
  let c0_i32_9 : BitVec 32 := 0#32
  ![v25.toNat, 0, 0]
def k0_off48 (i : grid0.Coords) : Fin 2 → Nat :=
  let arg0 : BitVec 32 := BitVec.ofNat 32 (i 0).val
  let c512_i32 : BitVec 32 := 512#32
  let v26 : BitVec 32 := Scalar.muli arg0 c512_i32
  let v27 : BitVec 32 := v26
  let c0_i32_10 : BitVec 32 := 0#32
  ![v27.toNat, 0]
def k0_off49 (i : grid0.Coords) : Fin 3 → Nat :=
  let arg0 : BitVec 32 := BitVec.ofNat 32 (i 0).val
  let c3_i32_11 : BitVec 32 := 3#32
  let v33 : BitVec 32 := Scalar.remsi arg0 c3_i32_11
  let v34 : Index := Scalar.indexCast v33
  let c0_12 : Index := 0#32
  let c0_13 : Index := 0#32
  ![v34.toNat, 0, 0]
def k0_off50 (i : grid0.Coords) : Fin 1 → Nat :=
  let arg0 : BitVec 32 := BitVec.ofNat 32 (i 0).val
  let v38 : Index := Scalar.indexCast arg0
  ![v38.toNat]
def k0_cond10 (i : grid0.Coords) (v0 : BitVec 32) : BitVec 1 :=
  let arg0 : BitVec 32 := BitVec.ofNat 32 (i 0).val
  let v2 : BitVec 1 := Scalar.cmpi .slt arg0 v0
  let v19 : BitVec 32 := Scalar.extui v2
  let c0_i32_5 : BitVec 32 := 0#32
  let v20 : BitVec 1 := Scalar.cmpi .ne v19 c0_i32_5
  v20

def k0_cond11 (i : grid0.Coords) (v21 : BitVec 32) : BitVec 1 :=
  let arg0 : BitVec 32 := BitVec.ofNat 32 (i 0).val
  let v22 : BitVec 1 := Scalar.cmpi .sge arg0 v21
  let v23 : BitVec 32 := Scalar.extui v22
  let c0_i32_7 : BitVec 32 := 0#32
  let v24 : BitVec 1 := Scalar.cmpi .ne v23 c0_i32_7
  v24

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference4.lean ====
abbrev S167936x512 : Shape := ⟨2, ![167936, 512]⟩
abbrev S328 : Shape := ⟨1, ![328]⟩
abbrev S64 : Shape := ⟨1, ![64]⟩
abbrev S2 : Shape := ⟨1, ![2]⟩
abbrev S2x64x1024x256 : Shape := ⟨4, ![2, 64, 1024, 256]⟩
abbrev S2x64x256x1024 : Shape := ⟨4, ![2, 64, 256, 1024]⟩
abbrev S1x64x1024x256 : Shape := ⟨4, ![1, 64, 1024, 256]⟩
abbrev S64x1024x256 : Shape := ⟨3, ![64, 1024, 256]⟩
abbrev S1x64x256x1024 : Shape := ⟨4, ![1, 64, 256, 1024]⟩
abbrev S64x256x1024 : Shape := ⟨3, ![64, 256, 1024]⟩
abbrev S1 : Shape := ⟨1, ![1]⟩
abbrev S512x512 : Shape := ⟨2, ![512, 512]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 5
  | .smem => 4
  | _ => 0

abbrev bufTy : (tb : Table) → Fin (tcTables nBuf tb) → BufTy
  | .hbm, ⟨0, _⟩ => ⟨S167936x512, .i32⟩
  | .hbm, ⟨1, _⟩ => ⟨S328, .i32⟩
  | .hbm, ⟨2, _⟩ => ⟨S328, .i32⟩
  | .hbm, ⟨3, _⟩ => ⟨S328, .i32⟩
  | .hbm, ⟨4, _⟩ => ⟨S64, .i32⟩
  | .hbm, ⟨5, _⟩ => ⟨S2, .i32⟩
  | .hbm, ⟨6, _⟩ => ⟨S2x64x1024x256, .f32⟩
  | .hbm, ⟨7, _⟩ => ⟨S2x64x1024x256, .f32⟩
  | .hbm, ⟨8, _⟩ => ⟨S2x64x256x1024, .f32⟩
  | .hbm, ⟨9, _⟩ => ⟨S1x64x1024x256, .f32⟩
  | .hbm, ⟨10, _⟩ => ⟨S64x1024x256, .f32⟩
  | .hbm, ⟨11, _⟩ => ⟨S1x64x1024x256, .f32⟩
  | .hbm, ⟨12, _⟩ => ⟨S64x1024x256, .f32⟩
  | .hbm, ⟨13, _⟩ => ⟨S1x64x256x1024, .f32⟩
  | .hbm, ⟨14, _⟩ => ⟨S64x256x1024, .f32⟩
  | .hbm, ⟨15, _⟩ => ⟨S167936x512, .i32⟩
  | .local _ .vmem, ⟨0, _⟩ => ⟨S167936x512, .i32⟩
  | .local _ .vmem, ⟨1, _⟩ => ⟨S64x1024x256, .f32⟩
  | .local _ .vmem, ⟨2, _⟩ => ⟨S64x1024x256, .f32⟩
  | .local _ .vmem, ⟨3, _⟩ => ⟨S64x256x1024, .f32⟩
  | .local _ .vmem, ⟨4, _⟩ => ⟨S167936x512, .i32⟩
  | .local _ .smem, ⟨0, _⟩ => ⟨S328, .i32⟩
  | .local _ .smem, ⟨1, _⟩ => ⟨S64, .i32⟩
  | .local _ .smem, ⟨2, _⟩ => ⟨S328, .i32⟩
  | .local _ .smem, ⟨3, _⟩ => ⟨S2, .i32⟩
  | _, _ => ⟨S167936x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c328_i32 : BitVec 32 := 328#32
  let v0 : BitVec 32 := Scalar.addi c0_i32 c328_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let v3 : Index := Scalar.indexCast arg9
  ![v3.toNat]
def k0_off2 (k0_t1 : Fin k0_t1_loop.trips) (v1 : BitVec 32) (v4 : BitVec 32) : Fin 1 → Nat :=
  let c0_i32 : BitVec 32 := 0#32
  let c1_i32 : BitVec 32 := 1#32
  let arg9 : BitVec 32 := Scf.iv c0_i32 c1_i32 k0_t1
  let v2 : BitVec 1 := Scalar.cmpi .slt arg9 v1
  let c0_i32_1 : BitVec 32 := 0#32
  let v5 : BitVec 32 := Scalar.select v2 v4 c0_i32_1
  let v6 : Index := Scalar.indexCast v5
  ![v6.toNat]

def k0_chk1 (k0_t1 : Fin k0_t1_loop.trips) (v1 : BitVec 32) (v4 : BitVec 32) : Prop :=
  (∀ a, (k0_off2 k0_t1 v1 v4) a + S1.size a ≤ S64.size a)
theorem k0_off2_inb : ∀ (k0_t1 : Fin k0_t1_loop.trips) (v1 : BitVec 32) (v4 : BitVec 32) (k0_hw1 : k0_chk1 k0_t1 v1 v4), ∀ a, (k0_off2 k0_t1 v1 v4) a + S1.size a ≤ S64.size a := fun k0_t1 v1 v4 k0_hw1 => k0_hw1

def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  v8
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  let v9 : BitVec 32 := v8
  let v10 : Index := Scalar.indexCast v9
  let c0_2 : Index := 0#32
  ![v10.toNat, 0]
def k0_off4 (k0_t1 : Fin k0_t1_loop.trips) : Fin 1 → Nat :=
  let c0_i32 : BitVec 32 := 0#32
  let c1_i32 : BitVec 32 := 1#32
  let arg9 : BitVec 32 := Scf.iv c0_i32 c1_i32 k0_t1
  let v13 : Index := Scalar.indexCast arg9
  ![v13.toNat]
def k0_off5 (v7 : BitVec 32) : Fin 3 → Nat :=
  let v23 : Index := Scalar.indexCast v7
  let c0_4 : Index := 0#32
  let c0_5 : Index := 0#32
  ![v23.toNat, 0, 0]

def k0_off6 (v7 : BitVec 32) : Fin 3 → Nat :=
  let v43 : Index := Scalar.indexCast v7
  let c0_12 : Index := 0#32
  let c0_13 : Index := 0#32
  ![v43.toNat, 0, 0]

def k0_chk2 (v7 : BitVec 32) : Prop :=
  (∀ a, (k0_off5 v7) a + S1x1024x256.size a ≤ S64x1024x256.size a) ∧
  (∀ a, (k0_off6 v7) a + S1x256x1024.size a ≤ S64x256x1024.size a)
theorem k0_off5_inb : ∀ (v7 : BitVec 32) (k0_hw2 : k0_chk2 v7), ∀ a, (k0_off5 v7) a + S1x1024x256.size a ≤ S64x1024x256.size a := fun v7 k0_hw2 => k0_hw2.1
theorem k0_off6_inb : ∀ (v7 : BitVec 32) (k0_hw2 : k0_chk2 v7), ∀ a, (k0_off6 v7) a + S1x256x1024.size a ≤ S64x256x1024.size a := fun v7 k0_hw2 => k0_hw2.2

def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v8 : BitVec 32 := Scalar.muli arg9 c512_i32
  let v9 : BitVec 32 := v8
  let v53 : Index := Scalar.indexCast v9
  let c0_16 : Index := 0#32
  ![v53.toNat, 0]
abbrev stage0_0 : Fin 1 → Memref sig .tc .smem S328 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S328 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S167936x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S167936x512 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel5.lean ====
abbrev S8x16896x512 : Shape := ⟨3, ![8, 16896, 512]⟩
abbrev S8x16896 : Shape := ⟨2, ![8, 16896]⟩
abbrev S2x8448x512 : Shape := ⟨3, ![2, 8448, 512]⟩
abbrev S2x1024x256 : Shape := ⟨3, ![2, 1024, 256]⟩
abbrev S2x256x1024 : Shape := ⟨3, ![2, 256, 1024]⟩
abbrev S2x8448x1024 : Shape := ⟨3, ![2, 8448, 1024]⟩
abbrev S8x6144 : Shape := ⟨2, ![8, 6144]⟩
abbrev S2x6144 : Shape := ⟨2, ![2, 6144]⟩
abbrev S2x6x1024 : Shape := ⟨3, ![2, 6, 1024]⟩
abbrev S1x6144 : Shape := ⟨2, ![1, 6144]⟩
abbrev S6144 : Shape := ⟨1, ![6144]⟩
abbrev S1x6x1024 : Shape := ⟨3, ![1, 6, 1024]⟩
abbrev S2x1x6x1024 : Shape := ⟨4, ![2, 1, 6, 1024]⟩
abbrev S2x2x6x1024 : Shape := ⟨4, ![2, 2, 6, 1024]⟩
abbrev S16896x8 : Shape := ⟨2, ![16896, 8]⟩
abbrev S2x8448x8 : Shape := ⟨3, ![2, 8448, 8]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S8x256x512 : Shape := ⟨3, ![8, 256, 512]⟩
abbrev S1x256x8 : Shape := ⟨3, ![1, 256, 8]⟩
abbrev S1x256x512 : Shape := ⟨3, ![1, 256, 512]⟩
abbrev S1x1x6x1024 : Shape := ⟨4, ![1, 1, 6, 1024]⟩
abbrev S256x8 : Shape := ⟨2, ![256, 8]⟩
abbrev S256x512 : Shape := ⟨2, ![256, 512]⟩
abbrev S256x1 : Shape := ⟨2, ![256, 1]⟩
abbrev S256x256 : Shape := ⟨2, ![256, 256]⟩
abbrev S1x1x1x1024 : Shape := ⟨4, ![1, 1, 1, 1024]⟩
abbrev S1x1024 : Shape := ⟨2, ![1, 1024]⟩

abbrev nBuf : Space → Nat
  | .hbm => 29
  | .vmem => 15
  | .smem => 0
  | _ => 0

abbrev bufTy : (tb : Table) → Fin (tcTables nBuf tb) → BufTy
  | .hbm, ⟨0, _⟩ => ⟨S8x16896x512, .i32⟩
  | .hbm, ⟨1, _⟩ => ⟨S8x16896, .f32⟩
  | .hbm, ⟨2, _⟩ => ⟨S2x8448x512, .i32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S2x8448x1024, .f32⟩
  | .hbm, ⟨7, _⟩ => ⟨S8x6144, .f32⟩
  | .hbm, ⟨8, _⟩ => ⟨S2x6144, .f32⟩
  | .hbm, ⟨9, _⟩ => ⟨S2x6x1024, .f32⟩
  | .hbm, ⟨10, _⟩ => ⟨S1x6144, .f32⟩
  | .hbm, ⟨11, _⟩ => ⟨S6144, .f32⟩
  | .hbm, ⟨12, _⟩ => ⟨S1x6x1024, .f32⟩
  | .hbm, ⟨13, _⟩ => ⟨S2x6x1024, .f32⟩
  | .hbm, ⟨14, _⟩ => ⟨S2x1x6x1024, .f32⟩
  | .hbm, ⟨15, _⟩ => ⟨S2x1x6x1024, .f32⟩
  | .hbm, ⟨16, _⟩ => ⟨S2x2x6x1024, .f32⟩
  | .hbm, ⟨17, _⟩ => ⟨S16896x8, .f32⟩
  | .hbm, ⟨18, _⟩ => ⟨S2x8448x8, .f32⟩
  | .hbm, ⟨19, _⟩ => ⟨S1x1024x256, .f32⟩
  | .hbm, ⟨20, _⟩ => ⟨S1024x256, .f32⟩
  | .hbm, ⟨21, _⟩ => ⟨S1024x256, .bf16⟩
  | .hbm, ⟨22, _⟩ => ⟨S1x1024x256, .f32⟩
  | .hbm, ⟨23, _⟩ => ⟨S1024x256, .f32⟩
  | .hbm, ⟨24, _⟩ => ⟨S1024x256, .bf16⟩
  | .hbm, ⟨25, _⟩ => ⟨S1x256x1024, .f32⟩
  | .hbm, ⟨26, _⟩ => ⟨S256x1024, .f32⟩
  | .hbm, ⟨27, _⟩ => ⟨S256x1024, .bf16⟩
  | .hbm, ⟨28, _⟩ => ⟨S2x8448x1024, .f32⟩
  | .local _ .vmem, ⟨0, _⟩ => ⟨S8x256x512, .i32⟩
  | .local _ .vmem, ⟨1, _⟩ => ⟨S8x256x512, .i32⟩
  | .local _ .vmem, ⟨2, _⟩ => ⟨S1x256x8, .f32⟩
  | .local _ .vmem, ⟨3, _⟩ => ⟨S1x256x8, .f32⟩
  | .local _ .vmem, ⟨4, _⟩ => ⟨S1x256x512, .i32⟩
  | .local _ .vmem, ⟨5, _⟩ => ⟨S1x256x512, .i32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S1x256x1024, .f32⟩
  | .local _ .vmem, ⟨14, _⟩ => ⟨S1x256x1024, .f32⟩
  | _, _ => ⟨S8x16896x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let v2 : BitVec 32 := Scalar.addi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .sge v0 c1_i32
  let c1_i32_0 : BitVec 32 := 1#32
  let c0_i32_1 : BitVec 32 := 0#32
  let v2 : BitVec 32 := Scalar.select v1 c1_i32_0 c0_i32_1
  let c0_i32_2 : BitVec 32 := 0#32
  let c0_i32_3 : BitVec 32 := 0#32
  let c0_i32_4 : BitVec 32 := 0#32
  ![arg0.toNat, v2.toNat, c0_i32_2.toNat, c0_i32_3.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x16896x512 : Shape := ⟨3, ![8, 16896, 512]⟩
abbrev S8x16896 : Shape := ⟨2, ![8, 16896]⟩
abbrev S2x8448x512 : Shape := ⟨3, ![2, 8448, 512]⟩
abbrev S2x1024x256 : Shape := ⟨3, ![2, 1024, 256]⟩
abbrev S2x256x1024 : Shape := ⟨3, ![2, 256, 1024]⟩
abbrev S2x8448x1024 : Shape := ⟨3, ![2, 8448, 1024]⟩
abbrev S8x6144 : Shape := ⟨2, ![8, 6144]⟩
abbrev S2x8448x512x2 : Shape := ⟨4, ![2, 8448, 512, 2]⟩
abbrev S2x8448x512x1 : Shape := ⟨4, ![2, 8448, 512, 1]⟩
abbrev S1x1024x256 : Shape := ⟨3, ![1, 1024, 256]⟩
abbrev S1024x256 : Shape := ⟨2, ![1024, 256]⟩
abbrev S2x8448x256 : Shape := ⟨3, ![2, 8448, 256]⟩
abbrev S_ : Shape := ⟨0, ![]⟩
abbrev S1x256x1024 : Shape := ⟨3, ![1, 256, 1024]⟩
abbrev S256x1024 : Shape := ⟨2, ![256, 1024]⟩
abbrev S8x16896x1 : Shape := ⟨3, ![8, 16896, 1]⟩
abbrev S8x16896x512x2 : Shape := ⟨4, ![8, 16896, 512, 2]⟩
abbrev S8x16896x512x1 : Shape := ⟨4, ![8, 16896, 512, 1]⟩
abbrev S8x16896x1024 : Shape := ⟨3, ![8, 16896, 1024]⟩
abbrev S16896x1024 : Shape := ⟨2, ![16896, 1024]⟩
abbrev S1x1024 : Shape := ⟨2, ![1, 1024]⟩
abbrev S1024 : Shape := ⟨1, ![1024]⟩
abbrev S2x1024 : Shape := ⟨2, ![2, 1024]⟩
abbrev S2x1x1024 : Shape := ⟨3, ![2, 1, 1024]⟩
abbrev S2x8192x1024 : Shape := ⟨3, ![2, 8192, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x16896x512, .i32⟩
  | .hbm, ⟨1, _⟩ => ⟨S8x16896, .f32⟩
  | .hbm, ⟨2, _⟩ => ⟨S2x8448x512, .i32⟩
  | .hbm, ⟨3, _⟩ => ⟨S2x1024x256, .f32⟩
  | .hbm, ⟨4, _⟩ => ⟨S2x1024x256, .f32⟩
  | .hbm, ⟨5, _⟩ => ⟨S2x256x1024, .f32⟩
  | .hbm, ⟨6, _⟩ => ⟨S2x8448x1024, .f32⟩
  | .hbm, ⟨7, _⟩ => ⟨S8x6144, .f32⟩
  | .hbm, ⟨8, _⟩ => ⟨S2x8448x512x2, .bf16⟩
  | .hbm, ⟨9, _⟩ => ⟨S2x8448x512x2, .f32⟩
  | .hbm, ⟨10, _⟩ => ⟨S2x8448x512x1, .f32⟩
  | .hbm, ⟨11, _⟩ => ⟨S2x8448x512, .f32⟩
  | .hbm, ⟨12, _⟩ => ⟨S2x8448x512x1, .f32⟩
  | .hbm, ⟨13, _⟩ => ⟨S2x8448x512, .f32⟩
  | .hbm, ⟨14, _⟩ => ⟨S2x8448x1024, .f32⟩
  | .hbm, ⟨15, _⟩ => ⟨S1x1024x256, .f32⟩
  | .hbm, ⟨16, _⟩ => ⟨S1024x256, .f32⟩
  | .hbm, ⟨17, _⟩ => ⟨S2x8448x256, .f32⟩
  | .hbm, ⟨18, _⟩ => ⟨S2x8448x256, .f32⟩
  | .hbm, ⟨19, _⟩ => ⟨S2x8448x256, .f32⟩
  | .hbm, ⟨20, _⟩ => ⟨S_, .f32⟩
  | .hbm, ⟨21, _⟩ => ⟨S2x8448x256, .f32⟩
  | .hbm, ⟨22, _⟩ => ⟨S2x8448x256, .f32⟩
  | .hbm, ⟨23, _⟩ => ⟨S_, .f32⟩
  | .hbm, ⟨24, _⟩ => ⟨S2x8448x256, .f32⟩
  | .hbm, ⟨25, _⟩ => ⟨S2x8448x256, .f32⟩
  | .hbm, ⟨26, _⟩ => ⟨S2x8448x256, .f32⟩
  | .hbm, ⟨27, _⟩ => ⟨S1x1024x256, .f32⟩
  | .hbm, ⟨28, _⟩ => ⟨S1024x256, .f32⟩
  | .hbm, ⟨29, _⟩ => ⟨S2x8448x256, .f32⟩
  | .hbm, ⟨30, _⟩ => ⟨S2x8448x256, .f32⟩
  | .hbm, ⟨31, _⟩ => ⟨S1x256x1024, .f32⟩
  | .hbm, ⟨32, _⟩ => ⟨S256x1024, .f32⟩
  | .hbm, ⟨33, _⟩ => ⟨S2x8448x1024, .f32⟩
  | .hbm, ⟨34, _⟩ => ⟨S8x16896x1, .f32⟩
  | .hbm, ⟨35, _⟩ => ⟨S8x16896x512x2, .bf16⟩
  | .hbm, ⟨36, _⟩ => ⟨S8x16896x512x2, .f32⟩
  | .hbm, ⟨37, _⟩ => ⟨S8x16896x512x1, .f32⟩
  | .hbm, ⟨38, _⟩ => ⟨S8x16896x512, .f32⟩
  | .hbm, ⟨39, _⟩ => ⟨S8x16896x512x1, .f32⟩
  | .hbm, ⟨40, _⟩ => ⟨S8x16896x512, .f32⟩
  | .hbm, ⟨41, _⟩ => ⟨S8x16896x1024, .f32⟩
  | .hbm, ⟨42, _⟩ => ⟨S8x16896x1024, .f32⟩
  | .hbm, ⟨43, _⟩ => ⟨S8x16896x1024, .f32⟩
  | .hbm, ⟨44, _⟩ => ⟨S_, .f32⟩
  | .hbm, ⟨45, _⟩ => ⟨S16896x1024, .f32⟩
  | .hbm, ⟨46, _⟩ => ⟨S2x8448x1024, .f32⟩
  | .hbm, ⟨47, _⟩ => ⟨S1x1024, .f32⟩
  | .hbm, ⟨48, _⟩ => ⟨S1024, .f32⟩
  | .hbm, ⟨49, _⟩ => ⟨S2x256x1024, .f32⟩
  | .hbm, ⟨50, _⟩ => ⟨S2x1024, .f32⟩
  | .hbm, ⟨51, _⟩ => ⟨S2x1x1024, .f32⟩
  | .hbm, ⟨52, _⟩ => ⟨S2x8192x1024, .f32⟩
  | .hbm, ⟨53, _⟩ => ⟨S2x8448x1024, .f32⟩
  | .hbm, ⟨54, _⟩ => ⟨S2x8448x1024, .f32⟩
  | .hbm, ⟨55, _⟩ => ⟨S2x8448x1024, .f32⟩
  | .hbm, ⟨56, _⟩ => ⟨S2x8448x1024, .f32⟩
  | _, _ => ⟨S8x16896x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Kernel6.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S8x6144 : Shape := ⟨2, ![8, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel7.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S8x6144 : Shape := ⟨2, ![8, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Proof.CombineRow.lean ====
/- One row of the combine step's result, as ordinary sums: the formula that the kernel's blocks and the reference's arrays are both read to. -/
module

public import Idealize.ShloMosaic.Lib.Pipeline.ValueKit
public import Idealize.ShloMosaic.Lib.BitcastConvert

@[expose] public section

noncomputable section

open Idealize.ShloMosaic

namespace Cert.CombineRow

/-- Lane `k` of a row of 512 words taken as 1024 floats: lanes below 512 are the words' low halves, the others their high halves. -/
def decode (f : Fin 512 → BitVec 32) (k : Fin 1024) : EReal :=
  if h : k.val < 512 then Ideal.ofBits .bf16 ((f ⟨k.val, h⟩).extractLsb' 0 16)
  else Ideal.ofBits .bf16 ((f ⟨k.val - 512, by omega⟩).extractLsb' 16 16)

/-- The token row through a projection. -/
def proj (tok : Fin 512 → BitVec 32) (w : Fin 1024 → Fin 256 → EReal) (k : Fin 256) : EReal :=
  ∑ i : Fin 1024, decode tok i * w i k

/-- The shared expert's hidden row: `silu(gate) · up`. -/
def hidden (tok : Fin 512 → BitVec 32) (wg wu : Fin 1024 → Fin 256 → EReal) (k : Fin 256) : EReal :=
  proj tok wg k * Ideal.div 1 (1 + Ideal.exp (-(proj tok wg k))) * proj tok wu k

/-- The weighted sum of the eight experts' rows. -/
def routed (y : Fin 8 → Fin 512 → BitVec 32) (w : Fin 8 → EReal) (c : Fin 1024) : EReal :=
  ∑ j : Fin 8, w j * decode (y j) c

/-- Lane `c` of the result's row. -/
def out (y : Fin 8 → Fin 512 → BitVec 32) (w : Fin 8 → EReal) (tok : Fin 512 → BitVec 32) (wg wu : Fin 1024 → Fin 256 → EReal)
    (wd : Fin 256 → Fin 1024 → EReal) (x gate : Fin 1024 → EReal) (c : Fin 1024) : EReal :=
  x c + gate c * (routed y w c + ∑ k : Fin 256, hidden tok wg wu k * wd k c)

/-- Operands that agree entry by entry give the same row. -/
theorem out_congr {y y' : Fin 8 → Fin 512 → BitVec 32} {w w' : Fin 8 → EReal} {tok tok' : Fin 512 → BitVec 32} {wg wg' wu wu' : Fin 1024 → Fin 256 → EReal}
    {wd wd' : Fin 256 → Fin 1024 → EReal} {x x' gate gate' : Fin 1024 → EReal} (hy : ∀ j l, y j l = y' j l) (hw : ∀ j, w j = w' j) (ht : ∀ l, tok l = tok' l)
    (hg : ∀ i k, wg i k = wg' i k) (hu : ∀ i k, wu i k = wu' i k) (hd : ∀ k c, wd k c = wd' k c) (hx : ∀ c, x c = x' c) (ha : ∀ c, gate c = gate' c) (c : Fin 1024) :
    out y w tok wg wu wd x gate c = out y' w' tok' wg' wu' wd' x' gate' c := by
  obtain rfl : y = y' := funext fun j => funext (hy j)
  obtain rfl : w = w' := funext hw
  obtain rfl : tok = tok' := funext ht
  obtain rfl : wg = wg' := funext fun j => funext (hg j)
  obtain rfl : wu = wu' := funext fun j => funext (hu j)
  obtain rfl : wd = wd' := funext fun j => funext (hd j)
  obtain rfl : x = x' := funext hx
  obtain rfl : gate = gate' := funext ha
  rfl

end Cert.CombineRow

end
-- ==== Proof.CombineRef.lean ====
/- The reference of the combine step, in pieces: what each part of its result is, over typed variables. -/
module

public import proofs.«01_k».proof.Proof.Gen.ReferenceIdeal.Run
public import proofs.«01_k».proof.Proof.CombineRow

@[expose] public section

set_option maxRecDepth 16384

noncomputable section

open Idealize.ShloMosaic Idealize.ShloMosaic.TcCoe Idealize.SL.Sem

namespace Cert.ReferenceIdeal.Combine

open Cert.ReferenceIdeal Cert.ReferenceIdeal.Gen

/-- The two halves of the token words, as rows of floats: the low halves first, then the high ones. -/
def tokRows (tok : IVec S2x8448x512 32) : FVec Ideal S2x8448x1024 .f32 :=
  concatenate S2x8448x1024 2 [⟨S2x8448x512, (shapeCast _ (extractStridedSlice S2x8448x512x1 ![0, 0, 0, 0] (extf .f32 (bitcastToFloat (F := Ideal) .bf16 (Host.bitcastConvertNarrow S2x8448x512x2 16 tok splits_S2x8448x512_w32_S2x8448x512x2_w16)) bitsLt_bf16_f32) slices_S2x8448x512x2_S2x8448x512x1_0_0_0_0) shapeCasts_S2x8448x512x1_S2x8448x512)⟩, ⟨S2x8448x512, (shapeCast _ (extractStridedSlice S2x8448x512x1 ![0, 0, 0, 1] (extf .f32 (bitcastToFloat (F := Ideal) .bf16 (Host.bitcastConvertNarrow S2x8448x512x2 16 tok splits_S2x8448x512_w32_S2x8448x512x2_w16)) bitsLt_bf16_f32) slices_S2x8448x512x2_S2x8448x512x1_0_0_0_1) shapeCasts_S2x8448x512x1_S2x8448x512)⟩] concatenates_S2x8448x512_S2x8448x512_S2x8448x1024_d2

/-- The same of the experts' words. -/
def expertRows (yg : IVec S8x16896x512 32) : FVec Ideal S8x16896x1024 .f32 :=
  concatenate S8x16896x1024 2 [⟨S8x16896x512, (shapeCast _ (extractStridedSlice S8x16896x512x1 ![0, 0, 0, 0] (extf .f32 (bitcastToFloat (F := Ideal) .bf16 (Host.bitcastConvertNarrow S8x16896x512x2 16 yg splits_S8x16896x512_w32_S8x16896x512x2_w16)) bitsLt_bf16_f32) slices_S8x16896x512x2_S8x16896x512x1_0_0_0_0) shapeCasts_S8x16896x512x1_S8x16896x512)⟩, ⟨S8x16896x512, (shapeCast _ (extractStridedSlice S8x16896x512x1 ![0, 0, 0, 1] (extf .f32 (bitcastToFloat (F := Ideal) .bf16 (Host.bitcastConvertNarrow S8x16896x512x2 16 yg splits_S8x16896x512_w32_S8x16896x512x2_w16)) bitsLt_bf16_f32) slices_S8x16896x512x2_S8x16896x512x1_0_0_0_1) shapeCasts_S8x16896x512x1_S8x16896x512)⟩] concatenates_S8x16896x512_S8x16896x512_S8x16896x1024_d2

/-- The last layer's weight of one of the two projections into the shared expert. -/
def weightIn (w : FVec Ideal S2x1024x256 .f32) : FVec Ideal S1024x256 .f32 :=
  shapeCast _ (extractStridedSlice S1x1024x256 ![1, 0, 0] w slices_S2x1024x256_S1x1024x256_1_0_0) shapeCasts_S1x1024x256_S1024x256

/-- The token rows through one of the two projections. -/
def proj (tok : IVec S2x8448x512 32) (w : FVec Ideal S2x1024x256 .f32) : FVec Ideal S2x8448x256 .f32 :=
  Host.dotGeneral dot_S2x8448x1024_S1024x256_S2x8448x256_2_0_01_1_n_n none (tokRows tok) (weightIn w)

/-- The shared expert's hidden row: `silu` of the gate projection times the up projection. -/
def hidden (tok : IVec S2x8448x512 32) (wg wu : FVec Ideal S2x1024x256 .f32) : FVec Ideal S2x8448x256 .f32 :=
  mulf (mulf (proj tok wg) (Host.divf (broadcastInDim S2x8448x256 ![] bcast_S_S2x8448x256 (constant S_ .f32 0x3F800000#32)) (addf (broadcastInDim S2x8448x256 ![] bcast_S_S2x8448x256 (constant S_ .f32 0x3F800000#32)) (Host.exp (Host.negf (proj tok wg)))))) (proj tok wu)

/-- The shared expert. -/
def shared (tok : IVec S2x8448x512 32) (wg wu : FVec Ideal S2x1024x256 .f32) (wd : FVec Ideal S2x256x1024 .f32) : FVec Ideal S2x8448x1024 .f32 :=
  Host.dotGeneral dot_S2x8448x256_S256x1024_S2x8448x1024_2_0_01_1_n_n none (hidden tok wg wu) (shapeCast _ (extractStridedSlice S1x256x1024 ![1, 0, 0] wd slices_S2x256x1024_S1x256x1024_1_0_0) shapeCasts_S1x256x1024_S256x1024)

/-- The weighted sum of the experts' rows. -/
def routed (yg : IVec S8x16896x512 32) (wt : FVec Ideal S8x16896 .f32) : FVec Ideal S2x8448x1024 .f32 :=
  shapeCast _ (Host.reduceAdd (mulf (broadcastInDim S8x16896x1024 ![0, 1, 2] bcast_S8x16896x1_S8x16896x1024_0_1_2 (broadcastInDim S8x16896x1 ![0, 1] bcast_S8x16896_S8x16896x1_0_1 wt)) (expertRows yg)) (constant S_ .f32 0x00000000#32) reducesTo_S8x16896x1024_S16896x1024_d0 h_S_) shapeCasts_S16896x1024_S2x8448x1024

/-- The whole result: the residual plus the gated sum of the two, on the latent rows. -/
def whole (yg : IVec S8x16896x512 32) (wt : FVec Ideal S8x16896 .f32) (tok : IVec S2x8448x512 32) (wg wu : FVec Ideal S2x1024x256 .f32) (wd : FVec Ideal S2x256x1024 .f32)
    (xs : FVec Ideal S2x8448x1024 .f32) (mod : FVec Ideal S8x6144 .f32) : FVec Ideal S2x8192x1024 .f32 :=
  extractStridedSlice S2x8192x1024 ![0, 256, 0] (addf xs (mulf (broadcastInDim S2x8448x1024 ![0, 1, 2] bcast_S2x1x1024_S2x8448x1024_0_1_2 (broadcastInDim S2x1x1024 ![0, 2] bcast_S2x1024_S2x1x1024_0_2 (extractStridedSlice S2x1024 ![0, 5120] mod slices_S8x6144_S2x1024_0_5120))) (addf (routed yg wt) (shared tok wg wu wd)))) slices_S2x8448x1024_S2x8192x1024_0_256_0

/-- The reference's run ends at `whole` of its arguments. -/
theorem res_eq (m : (ℓ : Loc nD τ sig) → Buf (Elt Ideal) ℓ) (c : Dev nD) :
    Value.res_out0 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-! ## The pieces at an index -/

theorem tokRows_at (tok : IVec S2x8448x512 32) (b : Fin 2) (r : Fin 8448) (k : Fin 1024) :
    tokRows tok (ix3 b r k) = CombineRow.decode (fun l => tok (ix3 b r l)) k := by
  have e (l : Fin 512) (p : Fin 2) : splits_S2x8448x512_w32_S2x8448x512x2_w16.drop (ix4 b r l p) = ix3 b r l := by
    funext a; match a with | ⟨0, _⟩ => rfl | ⟨1, _⟩ => rfl | ⟨2, _⟩ => rfl
  pointwise [tokRows, CombineRow.decode]
  simp only [e]

theorem expertRows_at (yg : IVec S8x16896x512 32) (j : Fin 8) (r : Fin 16896) (k : Fin 1024) :
    expertRows yg (ix3 j r k) = CombineRow.decode (fun l => yg (ix3 j r l)) k := by
  have e (l : Fin 512) (p : Fin 2) : splits_S8x16896x512_w32_S8x16896x512x2_w16.drop (ix4 j r l p) = ix3 j r l := by
    funext a; match a with | ⟨0, _⟩ => rfl | ⟨1, _⟩ => rfl | ⟨2, _⟩ => rfl
  pointwise [expertRows, CombineRow.decode]
  simp only [e]

theorem weightIn_at (w : FVec Ideal S2x1024x256 .f32) (i : Fin 1024) (k : Fin 256) : weightIn w (ix2 i k) = w (ix3 1 i k) := by
  pointwise [weightIn]

theorem proj_at (tok : IVec S2x8448x512 32) (w : FVec Ideal S2x1024x256 .f32) (b : Fin 2) (r : Fin 8448) (k : Fin 256) :
    proj tok w (ix3 b r k) = CombineRow.proj (fun l => tok (ix3 b r l)) (fun i k => w (ix3 1 i k)) k := by
  pointwise [proj, CombineRow.proj]
  exact Finset.sum_congr rfl fun i _ => congrArg₂ (· * ·) (tokRows_at tok b r i) (weightIn_at w i k)

theorem silu_at (g u : FVec Ideal S2x8448x256 .f32) (b : Fin 2) (r : Fin 8448) (k : Fin 256) :
    mulf (mulf g (Host.divf (broadcastInDim S2x8448x256 ![] bcast_S_S2x8448x256 (constant S_ .f32 0x3F800000#32)) (addf (broadcastInDim S2x8448x256 ![] bcast_S_S2x8448x256 (constant S_ .f32 0x3F800000#32)) (Host.exp (Host.negf g))))) u (ix3 b r k)
      = g (ix3 b r k) * Ideal.div 1 (1 + Ideal.exp (-(g (ix3 b r k)))) * u (ix3 b r k) := by
  pointwise

theorem hidden_at (tok : IVec S2x8448x512 32) (wg wu : FVec Ideal S2x1024x256 .f32) (b : Fin 2) (r : Fin 8448) (k : Fin 256) :
    hidden tok wg wu (ix3 b r k) = CombineRow.hidden (fun l => tok (ix3 b r l)) (fun i k => wg (ix3 1 i k)) (fun i k => wu (ix3 1 i k)) k := by
  unfold CombineRow.hidden hidden
  rw [silu_at, proj_at, proj_at]

theorem routed_at (yg : IVec S8x16896x512 32) (wt : FVec Ideal S8x16896 .f32) (b : Fin 2) (r : Fin 8448) (c : Fin 1024) (t : Fin 16896)
    (ht : t.val = b.val * 8448 + r.val) :
    routed yg wt (ix3 b r c) = CombineRow.routed (fun j l => yg (ix3 j t l)) (fun j => wt (ix2 j t)) c := by
  obtain ⟨t, htlt⟩ := t; dsimp only at ht; subst ht
  pointwise [routed, CombineRow.routed]
  exact Finset.sum_congr rfl fun j _ => congrArg₂ (· * ·) rfl (expertRows_at yg j _ c)

theorem shared_at (h : FVec Ideal S2x8448x256 .f32) (wd : FVec Ideal S2x256x1024 .f32) (b : Fin 2) (r : Fin 8448) (c : Fin 1024) :
    Host.dotGeneral dot_S2x8448x256_S256x1024_S2x8448x1024_2_0_01_1_n_n none h (shapeCast _ (extractStridedSlice S1x256x1024 ![1, 0, 0] wd slices_S2x256x1024_S1x256x1024_1_0_0) shapeCasts_S1x256x1024_S256x1024) (ix3 b r c)
      = ∑ k : Fin 256, h (ix3 b r k) * wd (ix3 1 k c) := by
  pointwise

theorem gated_at (xs rt sh : FVec Ideal S2x8448x1024 .f32) (mod : FVec Ideal S8x6144 .f32) (b : Fin 2) (r : Fin 8192) (c : Fin 1024) :
    extractStridedSlice S2x8192x1024 ![0, 256, 0] (addf xs (mulf (broadcastInDim S2x8448x1024 ![0, 1, 2] bcast_S2x1x1024_S2x8448x1024_0_1_2 (broadcastInDim S2x1x1024 ![0, 2] bcast_S2x1024_S2x1x1024_0_2 (extractStridedSlice S2x1024 ![0, 5120] mod slices_S8x6144_S2x1024_0_5120))) (addf rt sh))) slices_S2x8448x1024_S2x8192x1024_0_256_0 (ix3 b r c)
      = xs (ix3 b ⟨256 + r.val, by omega⟩ c) + mod (ix2 ⟨b.val, by omega⟩ ⟨5120 + c.val, by omega⟩) * (rt (ix3 b ⟨256 + r.val, by omega⟩ c) + sh (ix3 b ⟨256 + r.val, by omega⟩ c)) := by
  pointwise

/-- The reference's result at batch `b`, latent row `r`, lane `c`. -/
theorem whole_at (yg : IVec S8x16896x512 32) (wt : FVec Ideal S8x16896 .f32) (tok : IVec S2x8448x512 32) (wg wu : FVec Ideal S2x1024x256 .f32)
    (wd : FVec Ideal S2x256x1024 .f32) (xs : FVec Ideal S2x8448x1024 .f32) (mod : FVec Ideal S8x6144 .f32) (b : Fin 2) (r : Fin 8192) (c : Fin 1024)
    (r' : Fin 8448) (hr : r'.val = 256 + r.val) (t : Fin 16896) (ht : t.val = b.val * 8448 + r'.val) :
    whole yg wt tok wg wu wd xs mod (ix3 b r c)
      = CombineRow.out (fun j l => yg (ix3 j t l)) (fun j => wt (ix2 j t)) (fun l => tok (ix3 b r' l)) (fun i k => wg (ix3 1 i k)) (fun i k => wu (ix3 1 i k))
          (fun k c => wd (ix3 1 k c)) (fun c => xs (ix3 b r' c)) (fun c => mod (ix2 ⟨b.val, by omega⟩ ⟨5120 + c.val, by omega⟩)) c := by
  obtain ⟨r', hrlt⟩ := r'; dsimp only at hr; subst hr
  unfold CombineRow.out whole
  rw [gated_at, routed_at yg wt b _ c t ht, shared, shared_at]
  simp only [hidden_at]

end Cert.ReferenceIdeal.Combine

end
-- ==== Proof.CombineBlock.lean ====
/- What the combine kernel's body stores for one row tile, lane by lane, as the formula of `CombineRow`. -/
module

public import proofs.«01_k».proof.Proof.Gen.KernelIdeal.Value
public import proofs.«01_k».proof.Proof.CombineRow

@[expose] public section

set_option maxRecDepth 16384

noncomputable section

open Idealize.ShloMosaic Idealize.ShloMosaic.TcCoe Idealize.SL.Sem

namespace Cert.KernelIdeal.Combine

open Cert.KernelIdeal Cert.KernelIdeal.Gen

/-! ## The body's value, in pieces -/

/-- The tile's token rows: the words' low halves, then the high ones. -/
def toks (v : Vec Ideal S1x256x512 .i32) : FVec Ideal S256x1024 .bf16 :=
  truncf .bf16 (concatenate S256x1024 1 [⟨S256x512, unpackElementwise 0 (shapeCast S256x512 v shapeCasts_S1x256x512_S256x512)⟩,
    ⟨S256x512, unpackElementwise 1 (shapeCast S256x512 v shapeCasts_S1x256x512_S256x512)⟩] concatenates_S256x512_S256x512_S256x1024_d1) bitsLt_bf16_f32

/-- The token rows through one projection. -/
def proj (h : FVec Ideal S256x1024 .bf16) (w : FVec Ideal S1024x256 .bf16) : FVec Ideal S256x256 .f32 :=
  matmul (φ₂ := .bf16) dot_S256x1024_S1024x256_S256x256_1_0_0_1_n_n none h (shapeCast S1024x256 w shapeCasts_S1024x256_S1024x256) (constant S256x256 .f32 0x00000000#32)

/-- `silu(g) · u`, as the body computes it. -/
def gated (g u : FVec Ideal S256x256 .f32) : FVec Ideal S256x256 .bf16 :=
  truncf .bf16 (mulf (mulf g (divf (broadcast S256x256 (Scalar.ofBits (F := Ideal) .f32 0x3F800000#32))
    (addf (broadcast S256x256 (Scalar.ofBits (F := Ideal) .f32 0x3F800000#32)) (exp (subf (broadcast S256x256 (Scalar.ofBits (F := Ideal) .f32 0x00000000#32)) g))))) u) bitsLt_bf16_f32

/-- The hidden rows through the down projection. -/
def down (h : FVec Ideal S256x256 .bf16) (w : FVec Ideal S256x1024 .bf16) : FVec Ideal S256x1024 .f32 :=
  matmul (φ₂ := .bf16) dot_S256x256_S256x1024_S256x1024_1_0_0_1_n_n none h (shapeCast S256x1024 w shapeCasts_S256x1024_S256x1024) (constant S256x1024 .f32 0x00000000#32)

/-- The residual plus the gated sum. -/
def stored (rt sh : FVec Ideal S256x1024 .f32) (x : FVec Ideal S1x256x1024 .f32) (g : FVec Ideal S1x1x1x1024 .f32) : FVec Ideal S1x256x1024 .f32 :=
  shapeCast S1x256x1024 (addf (shapeCast S256x1024 x shapeCasts_S1x256x1024_S256x1024) (mulf (broadcastTo S256x1024 (shapeCast S1x1024 g shapeCasts_S1x1x1x1024_S1x1024) broadcasts_S1x1024_S256x1024) (addf rt sh))) shapeCasts_S256x1024_S1x256x1024

theorem pay14_eq (v88 : FVec Ideal S256x1024 .f32) (v89 : Vec Ideal S1x256x512 .i32) (v95 v106 : FVec Ideal S1024x256 .bf16) (v111 : FVec Ideal S256x1024 .bf16)
    (v114 : FVec Ideal S1x256x1024 .f32) (v116 : FVec Ideal S1x1x1x1024 .f32) :
    k0_pay14 v88 v89 v95 v106 v111 v114 v116 = stored v88 (down (gated (proj (toks v89) v95) (proj (toks v89) v106)) v111) v114 v116 := rfl

/-- The weighted sum of eight experts' tiles. -/
def weighted (w : FVec Ideal S1x256x8 .f32) (y0 y1 y2 y3 y4 y5 y6 y7 : Vec Ideal S1x256x512 .i32) : FVec Ideal S256x1024 .f32 :=
  k0_pay13 (k0_pay1 w) (k0_pay8 w y0 y1 y2) (k0_pay11 w y0 y1 y2 y3) (k0_pay12 w y3) y4 y5 y6 y7

/-! ## The pieces at a lane -/

theorem toks_at (v : Vec Ideal S1x256x512 .i32) (r : Fin 256) (k : Fin 1024) :
    toks v (ix2 r k) = CombineRow.decode (fun l => v (ix3 0 r l)) k := by
  pointwise [toks, CombineRow.decode]

theorem dotIn_at (h : FVec Ideal S256x1024 .bf16) (w : FVec Ideal S1024x256 .bf16) (r : Fin 256) (k : Fin 256) :
    proj h w (ix2 r k) = ∑ i : Fin 1024, h (ix2 r i) * w (ix2 i k) := by
  pointwise [proj]

theorem proj_at (v : Vec Ideal S1x256x512 .i32) (w : FVec Ideal S1024x256 .bf16) (r : Fin 256) (k : Fin 256) :
    proj (toks v) w (ix2 r k) = CombineRow.proj (fun l => v (ix3 0 r l)) (fun i k => w (ix2 i k)) k := by
  rw [dotIn_at]
  simp only [toks_at]
  rfl

theorem gated_at (g u : FVec Ideal S256x256 .f32) (r k : Fin 256) :
    gated g u (ix2 r k) = g (ix2 r k) * Ideal.div 1 (1 + Ideal.exp (-(g (ix2 r k)))) * u (ix2 r k) := by
  pointwise [gated]
  simp only [zero_sub]

theorem down_at (h : FVec Ideal S256x256 .bf16) (w : FVec Ideal S256x1024 .bf16) (r : Fin 256) (c : Fin 1024) :
    down h w (ix2 r c) = ∑ k : Fin 256, h (ix2 r k) * w (ix2 k c) := by
  pointwise [down]

theorem stored_at (rt sh : FVec Ideal S256x1024 .f32) (x : FVec Ideal S1x256x1024 .f32) (g : FVec Ideal S1x1x1x1024 .f32) (r : Fin 256) (c : Fin 1024) :
    stored rt sh x g (ix3 0 r c) = x (ix3 0 r c) + g (ix4 0 0 0 c) * (rt (ix2 r c) + sh (ix2 r c)) := by
  pointwise [stored]

theorem weighted_at (w : FVec Ideal S1x256x8 .f32) (y : Fin 8 → Vec Ideal S1x256x512 .i32) (r : Fin 256) (c : Fin 1024) :
    weighted w (y 0) (y 1) (y 2) (y 3) (y 4) (y 5) (y 6) (y 7) (ix2 r c)
      = CombineRow.routed (fun j l => y j (ix3 0 r l)) (fun j => w (ix3 0 r j)) c := by
  generalize h0 : y 0 = y0; generalize h1 : y 1 = y1; generalize h2 : y 2 = y2; generalize h3 : y 3 = y3
  generalize h4 : y 4 = y4; generalize h5 : y 5 = y5; generalize h6 : y 6 = y6; generalize h7 : y 7 = y7
  unfold CombineRow.routed
  rw [Fin.sum_univ_eight]
  beta_reduce
  rw [h0, h1, h2, h3, h4, h5, h6, h7]
  pointwise [weighted, k0_pay1, k0_pay2, k0_pay3, k0_pay4, k0_pay5, k0_pay6, k0_pay7, k0_pay8, k0_pay9, k0_pay10, k0_pay11, k0_pay12, k0_pay13, CombineRow.decode]
  split <;> rfl

/-- What the body stores at row `r`, lane `c` of its tile, over its loads. -/
theorem stored_row (w : FVec Ideal S1x256x8 .f32) (y : Fin 8 → Vec Ideal S1x256x512 .i32) (v89 : Vec Ideal S1x256x512 .i32) (v95 v106 : FVec Ideal S1024x256 .bf16)
    (v111 : FVec Ideal S256x1024 .bf16) (v114 : FVec Ideal S1x256x1024 .f32) (v116 : FVec Ideal S1x1x1x1024 .f32) (r : Fin 256) (c : Fin 1024) :
    k0_pay14 (weighted w (y 0) (y 1) (y 2) (y 3) (y 4) (y 5) (y 6) (y 7)) v89 v95 v106 v111 v114 v116 (ix3 0 r c)
      = CombineRow.out (fun j l => y j (ix3 0 r l)) (fun j => w (ix3 0 r j)) (fun l => v89 (ix3 0 r l)) (fun i k => v95 (ix2 i k)) (fun i k => v106 (ix2 i k))
          (fun k c => v111 (ix2 k c)) (fun c => v114 (ix3 0 r c)) (fun c => v116 (ix4 0 0 0 c)) c := by
  rw [pay14_eq, stored_at, weighted_at, down_at]
  simp only [gated_at, proj_at]
  rfl

end Cert.KernelIdeal.Combine

end
-- ==== Proof.CombineValue.lean ====
/- What the combine kernel's result array holds after its run: the reference's result. -/
module

public import proofs.«01_k».proof.Proof.Gen.KernelIdeal.Value
public import proofs.«01_k».proof.Proof.CombineRef
public import proofs.«01_k».proof.Proof.CombineBlock

@[expose] public section

set_option maxRecDepth 16384

noncomputable section

open Idealize.ShloMosaic Idealize.ShloMosaic.TcCoe Idealize.SL.Sem
open Idealize.ShloMosaic.Pipeline (Dat)

namespace Cert.KernelIdeal.Combine

open Cert.KernelIdeal Cert.KernelIdeal.Gen

variable (m : (ℓ : Loc nD τ sig) → Buf (Elt Ideal) ℓ)

/-- Where each window's block stands at point `t`: batch `t / 32`, row tile `t % 32` of the latent rows, which is tile
    `t % 32 + 1` of all the rows. -/
theorem idx : ∀ t : Fin cfg0.N, win0_0.index t = ![0, t.val / 32 * 33 + t.val % 32 + 1, 0]
    ∧ win0_1.index t = ![t.val / 32, t.val % 32 + 1, 0] ∧ win0_2.index t = ![t.val / 32, t.val % 32 + 1, 0]
    ∧ win0_3.index t = ![0, 0] ∧ win0_4.index t = ![0, 0] ∧ win0_5.index t = ![0, 0]
    ∧ win0_6.index t = ![t.val / 32, t.val % 32 + 1, 0] ∧ win0_7.index t = ![t.val / 32, 1, 0, 0]
    ∧ win0_8.index t = ![t.val / 32, t.val % 32, 0] :=
  (by decide +kernel : ∀ t : Fin grid0.N, _)

/-! ## The input blocks of point `t`, read off the argument arrays

Row `r` of tile `t` is row `tileRow t r` of the batch's rows, row `flatRow t r` of all the rows in order. -/

theorem t_lt (t : Fin cfg0.N) : t.val < 64 := by have h := t.isLt; have hN : cfg0.N = 64 := N_0; omega

/-- The batch of point `t`. -/
def batch (t : Fin cfg0.N) : Fin 2 := ⟨t.val / 32, by have := t_lt t; omega⟩
/-- The row of that batch that row `r` of the tile is. -/
def tileRow (t : Fin cfg0.N) (r : Fin 256) : Fin 8448 := ⟨(t.val % 32 + 1) * 256 + r.val, by have := t_lt t; omega⟩
/-- The row of all the batches' rows that row `r` of the tile is. -/
def flatRow (t : Fin cfg0.N) (r : Fin 256) : Fin 16896 := ⟨(t.val / 32 * 33 + t.val % 32 + 1) * 256 + r.val, by have := t_lt t; omega⟩

theorem blk0 (c : Dev nD) (t : Fin cfg0.N) (j : Fin 8) (r : Fin 256) (l : Fin 512) :
    iblk m c 0 t (ix3 j r l) = m ((c : Thread nD τ).loc main_arg0) (ix3 j (flatRow t r) l) := by
  unfold flatRow; blk_ext! [iblk, V, idx t]
theorem blk2 (c : Dev nD) (t : Fin cfg0.N) (r : Fin 256) (l : Fin 512) :
    iblk m c 2 t (ix3 0 r l) = m ((c : Thread nD τ).loc main_arg2) (ix3 (batch t) (tileRow t r) l) := by
  unfold batch tileRow; blk_ext! [iblk, V, idx t]
theorem blk6 (c : Dev nD) (t : Fin cfg0.N) (r : Fin 256) (l : Fin 1024) :
    iblk m c 6 t (ix3 0 r l) = m ((c : Thread nD τ).loc main_arg6) (ix3 (batch t) (tileRow t r) l) := by
  unfold batch tileRow; blk_ext! [iblk, V, idx t]
theorem blk1 (c : Dev nD) (t : Fin cfg0.N) (r : Fin 256) (j : Fin 8) :
    iblk m c 1 t (ix3 0 r j) = m ((c : Thread nD τ).loc main_arg1) (ix2 j (flatRow t r)) := by
  unfold flatRow; blk_ext! [iblk, V, idx t]
theorem blk3 (c : Dev nD) (t : Fin cfg0.N) (i : Fin 1024) (k : Fin 256) :
    iblk m c 3 t (ix2 i k) = m ((c : Thread nD τ).loc main_arg3) (ix3 1 i k) := by
  blk_ext! [iblk, V, idx t]
theorem blk4 (c : Dev nD) (t : Fin cfg0.N) (i : Fin 1024) (k : Fin 256) :
    iblk m c 4 t (ix2 i k) = m ((c : Thread nD τ).loc main_arg4) (ix3 1 i k) := by
  blk_ext! [iblk, V, idx t]
theorem blk5 (c : Dev nD) (t : Fin cfg0.N) (i : Fin 256) (k : Fin 1024) :
    iblk m c 5 t (ix2 i k) = m ((c : Thread nD τ).loc main_arg5) (ix3 1 i k) := by
  blk_ext! [iblk, V, idx t]
theorem blk7 (c : Dev nD) (t : Fin cfg0.N) (k : Fin 1024) :
    iblk m c 7 t (ix4 0 0 5 k) = m ((c : Thread nD τ).loc main_arg7) (ix2 ⟨(batch t).val, by omega⟩ ⟨5120 + k.val, by omega⟩) := by
  unfold batch
  blk_simp [iblk, idx t]; entry_read; pointwise
  rw [dif_neg (by blk_simp [idx t]; omega)]
  blk_ext [idx t]

/-- Where row `r`, lane `k` of point `t`'s block stands in the result: latent row `t % 32 * 256 + r`. -/
def outRow (t : Fin cfg0.N) (r : Fin 256) : Fin 8192 := ⟨t.val % 32 * 256 + r.val, by omega⟩

theorem emb8 (t : Fin cfg0.N) (r : Fin 256) (k : Fin 1024) : ((cfg0.win 8).blk t).view.emb (ix3 0 r k) = ix3 (batch t) (outRow t r) k := by
  unfold batch outRow; blk_ext [idx t]

/-- The words of expert choice `j` in a block of all eight. -/
def slab (X : Vec Ideal S8x256x512 .i32) (j : Fin 8) : Vec Ideal S1x256x512 .i32 := fun z => X (ix3 j (z 1) (z 2))
theorem ld0 (X : Vec Ideal S8x256x512 .i32) : View.ld X r0_1 = slab X 0 := by
  funext z; idx_vars z; unfold slab; pointwise
theorem ld1 (X : Vec Ideal S8x256x512 .i32) : View.ld X r0_2 = slab X 1 := by
  funext z; idx_vars z; unfold slab; pointwise
theorem ld2 (X : Vec Ideal S8x256x512 .i32) : View.ld X r0_3 = slab X 2 := by
  funext z; idx_vars z; unfold slab; pointwise
theorem ld3 (X : Vec Ideal S8x256x512 .i32) : View.ld X r0_4 = slab X 3 := by
  funext z; idx_vars z; unfold slab; pointwise
theorem ld4 (X : Vec Ideal S8x256x512 .i32) : View.ld X r0_5 = slab X 4 := by
  funext z; idx_vars z; unfold slab; pointwise
theorem ld5 (X : Vec Ideal S8x256x512 .i32) : View.ld X r0_6 = slab X 5 := by
  funext z; idx_vars z; unfold slab; pointwise
theorem ld6 (X : Vec Ideal S8x256x512 .i32) : View.ld X r0_7 = slab X 6 := by
  funext z; idx_vars z; unfold slab; pointwise
theorem ld7 (X : Vec Ideal S8x256x512 .i32) : View.ld X r0_8 = slab X 7 := by
  funext z; idx_vars z; unfold slab; pointwise
theorem ldGate (X : Vec Ideal S1x1x6x1024 .f32) : View.ld X r0_13 = fun z => X (ix4 0 0 5 (z 3)) := by
  funext z; idx_vars z; pointwise

open Cert.ReferenceIdeal.Combine in
/-- The result array after the kernel's run is the reference's result, of the same arguments. -/
theorem final (c : Dev nD) : (dats m 0 c).arrAt 8 (cfgs 0).N
    = whole (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  obtain ⟨b, r, k, rfl⟩ : ∃ (b : Fin 1) (r : Fin 256) (k : Fin 1024), y = ix3 b r k := ⟨y 0, y 1, y 2, eq_ix3 y⟩
  obtain rfl : b = 0 := Subsingleton.elim _ _
  rw [emb8]
  refine Eq.trans ?_ (whole_at _ _ _ _ _ _ _ _ (batch t) (outRow t r) k (tileRow t r) ?_ (flatRow t r) ?_).symm
  · blk_simp
    rw [after0_8]; frame_out
    rw [ld0, ld1, ld2, ld3, ld4, ld5, ld6, ld7, ldGate]
    refine (stored_row (iblk m c 1 t) (slab (iblk m c 0 t)) (iblk m c 2 t) (iblk m c 3 t) (iblk m c 4 t) (iblk m c 5 t) (iblk m c 6 t)
      (fun z => iblk m c 7 t (ix4 0 0 5 (z 3))) r k).trans ?_
    exact CombineRow.out_congr (fun j l => blk0 m c t j r l) (fun j => blk1 m c t r j) (fun l => blk2 m c t r l) (fun i k => blk3 m c t i k)
      (fun i k => blk4 m c t i k) (fun i k => blk5 m c t i k) (fun k => blk6 m c t r k) (fun k => blk7 m c t k) k
  · have := t_lt t; unfold outRow tileRow; dsimp only; omega
  · have := t_lt t; unfold flatRow batch tileRow; dsimp only; omega

end Cert.KernelIdeal.Combine

end
-- ==== Proof.CombineClaims.lean ====
/- The claims about the combine call, each from its own run. -/
module

public import proofs.«01_k».proof.Defs
public import proofs.«01_k».proof.Proof.Gen.Kernel.Frame
public import proofs.«01_k».proof.Proof.CombineValue

@[expose] public section

noncomputable section

open Idealize.ShloMosaic Idealize.ShloMosaic.TcCoe Idealize.SL.Sem

namespace Cert.Proof.CombineClaims

/-- The kernel runs, ends with its arguments unchanged and every counter at zero: the generated run. -/
theorem frame_kernel : Cert.quiescent_Kernel := fun m ρ _ => Cert.Kernel.Gen.frame m ρ

/-- The same of its idealization. -/
theorem frame_kernelIdeal : Cert.quiescent_KernelIdeal := fun m ρ _ => Cert.KernelIdeal.Gen.frame m ρ

/-- The reference is host code: its run leaves the arguments as they were, and it declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealization rewrote nothing. -/
theorem preserves_kernel : Cert.preserves_Kernel_KernelIdeal := trivial

/-- From equal arguments the kernel and the reference end with equal results, over the extended reals. -/
theorem algebraic_combine : Cert.algebraic_KernelIdeal_ReferenceIdeal := fun m ρ m' ρ' _ hag =>
  ⟨fun c => Cert.ReferenceIdeal.Value.res_out0 m' c,
    (θ_run Cert.KernelIdeal.defs _ _).mono
      (fun _ h c => ⟨(h c).1.trans ((Cert.KernelIdeal.Combine.final m c).trans (by
        refine Eq.trans ?_ (Cert.ReferenceIdeal.Combine.res_eq m' c).symm
        obtain ⟨h0, h1, h2, h3, h4, h5, h6, h7⟩ := hag c
        rw [h0, h1, h2, h3, h4, h5, h6, h7])), (h c).2⟩)
      (Cert.KernelIdeal.Value.run_blocks (F := Ideal) m ρ),
    Cert.ReferenceIdeal.Value.run (F := Ideal) m' ρ'⟩

end Cert.Proof.CombineClaims

end
-- ==== Proof.ExpertsOps.lean ====
/-
  The routed experts' kernel, named: its buffers, the windows its copies move, and the phases of its body as
  programs of their own — one expert's three weight matrices into a weight slot, one block of token rows into a row
  slot — over literal slots, experts and blocks. The kernel computes its offsets from words it reads; equal offsets
  give these programs, so that everything about a copy is proved once.
-/
module

public import proofs.«01_k».proof.Defs
public import proofs.«01_k».proof.Proof.Gen.Kernel2.Launch
public import proofs.«01_k».proof.Proof.Gen.Kernel2.Skeleton
public import Idealize.ShloMosaic.Lib.Pipeline.Frame
public import Idealize.ShloMosaic.Lib.Ring
public import Idealize.ShloMosaic.Lib.Affine
public import Idealize.ShloMosaic.Lib.Tactic

@[expose] public section

set_option maxRecDepth 16384

noncomputable section

namespace Cert.Proof.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [BitOps F]

/-- The model: the pipeline's resource algebra beside the counters that the kernel's own copies use. -/
abbrev Mo (F : FTy → Type) : Type := MT nD τ sig Unit (Elt F) ℕ (UD sig nD τ) ℕ
abbrev 𝒱₀ : Variants := Variants.none
abbrev Pg (F : FTy → Type) (α : Type) : Type 1 := Prog (TpuEff nD τ sig (Elt F) Λ₀ .tc) α

/-! ## The buffers -/

abbrev xM : Memref sig .tc .hbm S167936x512 .i32 := Memref.whole main_arg0
abbrev gM : Memref sig .tc .hbm S2x64x1024x256 .f32 := Memref.whole main_arg6
abbrev uM : Memref sig .tc .hbm S2x64x1024x256 .f32 := Memref.whole main_arg7
abbrev dM : Memref sig .tc .hbm S2x64x256x1024 .f32 := Memref.whole main_arg8
abbrev nvM : Memref sig .tc .smem S328 .i32 := Memref.whole main_arg1
abbrev newM : Memref sig .tc .smem S328 .i32 := Memref.whole main_arg2
abbrev ordM : Memref sig .tc .smem S328 .i32 := Memref.whole main_arg3
abbrev eoM : Memref sig .tc .smem S64 .i32 := Memref.whole main_arg4
abbrev cntM : Memref sig .tc .smem S2 .i32 := Memref.whole main_arg5
abbrev gS : Memref sig .tc .vmem S1024x256 .bf16 := Memref.whole cc0_scratch0
abbrev uS : Memref sig .tc .vmem S1024x256 .bf16 := Memref.whole cc0_scratch1
abbrev dS : Memref sig .tc .vmem S256x1024 .bf16 := Memref.whole cc0_scratch2
abbrev xR : Memref sig .tc .vmem S3x512x512 .i32 := Memref.whole cc0_scratch3
abbrev gR : Memref sig .tc .vmem S2x1024x256 .f32 := Memref.whole cc0_scratch5
abbrev uR : Memref sig .tc .vmem S2x1024x256 .f32 := Memref.whole cc0_scratch6
abbrev dR : Memref sig .tc .vmem S2x256x1024 .f32 := Memref.whole cc0_scratch7

/-! ## Slots, semaphores, experts and blocks by number -/

abbrev wsOff (s : Fin 2) : Fin 3 → Nat := ![s.val, 0, 0]
abbrev wcOff (s : Fin 2) (j : Fin 3) : Fin 2 → Nat := ![s.val, j.val]
abbrev exOff (e : Fin 64) : Fin 4 → Nat := ![1, e.val, 0, 0]
abbrev xsOff (s : Fin 3) : Fin 3 → Nat := ![s.val, 0, 0]
abbrev xcOff (s : Fin 3) : Fin 1 → Nat := ![s.val]
abbrev bkOff (b : Fin 328) : Fin 2 → Nat := ![512 * b.val, 0]

theorem wgOff_inb (s : Fin 2) : ∀ a, wsOff s a + S1x1024x256.size a ≤ S2x1024x256.size a := by
  have := s.isLt; intro a; fin_cases a
  · show s.val + 1 ≤ 2; omega
  · show 0 + 1024 ≤ 1024; omega
  · show 0 + 256 ≤ 256; omega
theorem wdOff_inb (s : Fin 2) : ∀ a, wsOff s a + S1x256x1024.size a ≤ S2x256x1024.size a := by
  have := s.isLt; intro a; fin_cases a
  · show s.val + 1 ≤ 2; omega
  · show 0 + 256 ≤ 256; omega
  · show 0 + 1024 ≤ 1024; omega
theorem wcOff_inb (s : Fin 2) (j : Fin 3) : ∀ a, wcOff s j a + S1x1.size a ≤ S2x3.size a := by
  have := s.isLt; have := j.isLt; intro a; fin_cases a
  · show s.val + 1 ≤ 2; omega
  · show j.val + 1 ≤ 3; omega
theorem egOff_inb (e : Fin 64) : ∀ a, exOff e a + S1x1x1024x256.size a ≤ S2x64x1024x256.size a := by
  have := e.isLt; intro a; fin_cases a
  · show 1 + 1 ≤ 2; omega
  · show e.val + 1 ≤ 64; omega
  · show 0 + 1024 ≤ 1024; omega
  · show 0 + 256 ≤ 256; omega
theorem edOff_inb (e : Fin 64) : ∀ a, exOff e a + S1x1x256x1024.size a ≤ S2x64x256x1024.size a := by
  have := e.isLt; intro a; fin_cases a
  · show 1 + 1 ≤ 2; omega
  · show e.val + 1 ≤ 64; omega
  · show 0 + 256 ≤ 256; omega
  · show 0 + 1024 ≤ 1024; omega
theorem xsOff_inb (s : Fin 3) : ∀ a, xsOff s a + S1x512x512.size a ≤ S3x512x512.size a := by
  have := s.isLt; intro a; fin_cases a
  · show s.val + 1 ≤ 3; omega
  · show 0 + 512 ≤ 512; omega
  · show 0 + 512 ≤ 512; omega
theorem xcOff_inb (s : Fin 3) : ∀ a, xcOff s a + S1.size a ≤ S3.size a := by
  have := s.isLt; intro a; fin_cases a; show s.val + 1 ≤ 3; omega
theorem bkOff_inb (b : Fin 328) : ∀ a, bkOff b a + S512x512.size a ≤ S167936x512.size a := by
  have := b.isLt; intro a; fin_cases a
  · show 512 * b.val + 512 ≤ 167936; omega
  · show 0 + 512 ≤ 512; omega

abbrev nvOff (b : Fin 328) : Fin 1 → Nat := ![b.val]
theorem nvOff_inb (b : Fin 328) : ∀ a, nvOff b a + S1.size a ≤ S328.size a := by
  have := b.isLt; intro a; fin_cases a; show b.val + 1 ≤ 328; omega

instance (b : Fin 328) : ClosedOff (nvOff b) := ⟨nvOff b, rfl⟩
instance (s : Fin 2) : ClosedOff (wsOff s) := ⟨wsOff s, rfl⟩
instance (s : Fin 3) : ClosedOff (xsOff s) := ⟨xsOff s, rfl⟩
instance (e : Fin 64) : ClosedOff (exOff e) := ⟨exOff e, rfl⟩
instance (b : Fin 328) : ClosedOff (bkOff b) := ⟨bkOff b, rfl⟩

section At
variable (oS : Fin 3 → Nat) (oC : Fin 2 → Nat) (oE : Fin 4 → Nat)

def gSlotAt (h : ∀ a, oS a + S1x1024x256.size a ≤ S2x1024x256.size a) : Memref sig .tc .vmem S1024x256 .f32 :=
  (gR.slice (Rect.unit (s := S2x1024x256) oS S1x1024x256.size h) (fun _ => rfl)).squeeze S1024x256 squeezes_S1x1024x256_S1024x256
def uSlotAt (h : ∀ a, oS a + S1x1024x256.size a ≤ S2x1024x256.size a) : Memref sig .tc .vmem S1024x256 .f32 :=
  (uR.slice (Rect.unit (s := S2x1024x256) oS S1x1024x256.size h) (fun _ => rfl)).squeeze S1024x256 squeezes_S1x1024x256_S1024x256
def dSlotAt (h : ∀ a, oS a + S1x256x1024.size a ≤ S2x256x1024.size a) : Memref sig .tc .vmem S256x1024 .f32 :=
  (dR.slice (Rect.unit (s := S2x256x1024) oS S1x256x1024.size h) (fun _ => rfl)).squeeze S256x1024 squeezes_S1x256x1024_S256x1024
def wSemAt (h : ∀ a, oC a + S1x1.size a ≤ S2x3.size a) : DmaSems sig S_ :=
  (cc0_scratch8.slice (Rect.unit (s := S2x3) oC S1x1.size h)).squeeze S_ squeezes_S1x1_S_
def gExAt (h : ∀ a, oE a + S1x1x1024x256.size a ≤ S2x64x1024x256.size a) : Memref sig .tc .hbm S1024x256 .f32 :=
  (gM.slice (Rect.unit (s := S2x64x1024x256) oE S1x1x1024x256.size h) (fun _ => rfl)).squeeze S1024x256 squeezes_S1x1x1024x256_S1024x256
def uExAt (h : ∀ a, oE a + S1x1x1024x256.size a ≤ S2x64x1024x256.size a) : Memref sig .tc .hbm S1024x256 .f32 :=
  (uM.slice (Rect.unit (s := S2x64x1024x256) oE S1x1x1024x256.size h) (fun _ => rfl)).squeeze S1024x256 squeezes_S1x1x1024x256_S1024x256
def dExAt (h : ∀ a, oE a + S1x1x256x1024.size a ≤ S2x64x256x1024.size a) : Memref sig .tc .hbm S256x1024 .f32 :=
  (dM.slice (Rect.unit (s := S2x64x256x1024) oE S1x1x256x1024.size h) (fun _ => rfl)).squeeze S256x1024 squeezes_S1x1x256x1024_S256x1024
def xSlotAt (h : ∀ a, oS a + S1x512x512.size a ≤ S3x512x512.size a) : Memref sig .tc .vmem S512x512 .i32 :=
  (xR.slice (Rect.unit (s := S3x512x512) oS S1x512x512.size h) (fun _ => rfl)).squeeze S512x512 squeezes_S1x512x512_S512x512
def xSemAt (oX : Fin 1 → Nat) (h : ∀ a, oX a + S1.size a ≤ S3.size a) : DmaSems sig S_ :=
  (cc0_scratch4.slice (Rect.unit (s := S3) oX S1.size h)).squeeze S_ squeezes_S1_S_
def xBlkAt (oB : Fin 2 → Nat) (h : ∀ a, oB a + S512x512.size a ≤ S167936x512.size a) : Memref sig .tc .hbm S512x512 .i32 :=
  xM.slice (Rect.unit (s := S167936x512) oB S512x512.size h) (fun _ => rfl)
end At

def gSlot (s : Fin 2) := gSlotAt (wsOff s) (wgOff_inb s)
def uSlot (s : Fin 2) := uSlotAt (wsOff s) (wgOff_inb s)
def dSlot (s : Fin 2) := dSlotAt (wsOff s) (wdOff_inb s)
def wSem (s : Fin 2) (j : Fin 3) := wSemAt (wcOff s j) (wcOff_inb s j)
def gEx (e : Fin 64) := gExAt (exOff e) (egOff_inb e)
def uEx (e : Fin 64) := uExAt (exOff e) (egOff_inb e)
def dEx (e : Fin 64) := dExAt (exOff e) (edOff_inb e)
def xSlot (s : Fin 3) := xSlotAt (xsOff s) (xsOff_inb s)
def xSem (s : Fin 3) := xSemAt (xcOff s) (xcOff_inb s)
def xBlk (b : Fin 328) := xBlkAt (bkOff b) (bkOff_inb b)

/-! ## The copies as programs -/

/-- Start the copy of one expert's three matrices into a weight slot. -/
def startWOf (eg eu : Memref sig .tc .hbm S1024x256 .f32) (ed : Memref sig .tc .hbm S256x1024 .f32)
    (sg su : Memref sig .tc .vmem S1024x256 .f32) (sd : Memref sig .tc .vmem S256x1024 .f32) (c0 c1 c2 : DmaSems sig S_)
    (heg : eg.view.WordExact) (heu : eu.view.WordExact) (hed : ed.view.WordExact)
    (hsg : sg.view.WordExact) (hsu : su.view.WordExact) (hsd : sd.view.WordExact) : Pg F PUnit := do
  Prog.lift (.enqueueDma eg (.here sg) (.dma c0.sem) heg hsg ⟨Or.inl rfl, trivial⟩)
  Prog.lift (.enqueueDma eu (.here su) (.dma c1.sem) heu hsu ⟨Or.inl rfl, trivial⟩)
  Prog.lift (.enqueueDma ed (.here sd) (.dma c2.sem) hed hsd ⟨Or.inl rfl, trivial⟩)
  pure ⟨⟩

/-- Wait for the three copies, and round the slot's three matrices to bf16 into the buffers the products read. -/
def waitWOf (eg eu : Memref sig .tc .hbm S1024x256 .f32) (ed : Memref sig .tc .hbm S256x1024 .f32)
    (sg su : Memref sig .tc .vmem S1024x256 .f32) (sd : Memref sig .tc .vmem S256x1024 .f32) (c0 c1 c2 : DmaSems sig S_)
    (heg : eg.view.WordExact) (heu : eu.view.WordExact) (hed : ed.view.WordExact)
    (hsg : sg.view.WordExact) (hsu : su.view.WordExact) (hsd : sd.view.WordExact)
    (oL oD : Fin 3 → Nat) (hL : ∀ a, oL a + S1x1024x256.size a ≤ S2x1024x256.size a)
    (hD : ∀ a, oD a + S1x256x1024.size a ≤ S2x256x1024.size a) : Pg F PUnit := do
  Prog.lift (.waitDma2 c0.sem eg sg heg hsg)
  Prog.lift (.waitDma2 c1.sem eu su heu hsu)
  Prog.lift (.waitDma2 c2.sem ed sd hed hsd)
  let v50 : Vec F S1x1024x256 .f32 ← Prog.lift (.load gR (Rect.unit (s := S2x1024x256) oL S1x1024x256.size hL).toLoadRect (View.loadsAt_vmem h_S1x1024x256))
  let v53 : Vec F S1024x256 .bf16 ← Prog.lift (.load gS (Rect.unit (s := S1024x256) ![0, 0] S1024x256.size inb_S1024x256_S1024x256_0_0).toLoadRect (View.loadsAt_vmem h_S1024x256))
  Prog.lift (.store gS (Rect.unit (s := S1024x256) ![0, 0] S1024x256.size inb_S1024x256_S1024x256_0_0) (k0_pay5 v50) Finset.univ (View.stores_vmem h_S1024x256 ((Memref.isWhole_whole _).storeExact_slice rfl _ packedbf16_S1024x256_S1024x256_0_0) (fun _ => rfl)) (.inl rfl))
  let v57 : Vec F S1x1024x256 .f32 ← Prog.lift (.load uR (Rect.unit (s := S2x1024x256) oL S1x1024x256.size hL).toLoadRect (View.loadsAt_vmem h_S1x1024x256))
  let v60 : Vec F S1024x256 .bf16 ← Prog.lift (.load uS (Rect.unit (s := S1024x256) ![0, 0] S1024x256.size inb_S1024x256_S1024x256_0_0).toLoadRect (View.loadsAt_vmem h_S1024x256))
  Prog.lift (.store uS (Rect.unit (s := S1024x256) ![0, 0] S1024x256.size inb_S1024x256_S1024x256_0_0) (k0_pay1 v57) Finset.univ (View.stores_vmem h_S1024x256 ((Memref.isWhole_whole _).storeExact_slice rfl _ packedbf16_S1024x256_S1024x256_0_0) (fun _ => rfl)) (.inl rfl))
  let v64 : Vec F S1x256x1024 .f32 ← Prog.lift (.load dR (Rect.unit (s := S2x256x1024) oD S1x256x1024.size hD).toLoadRect (View.loadsAt_vmem h_S1x256x1024))
  let v67 : Vec F S256x1024 .bf16 ← Prog.lift (.load dS (Rect.unit (s := S256x1024) ![0, 0] S256x1024.size inb_S256x1024_S256x1024_0_0).toLoadRect (View.loadsAt_vmem h_S256x1024))
  Prog.lift (.store dS (Rect.unit (s := S256x1024) ![0, 0] S256x1024.size inb_S256x1024_S256x1024_0_0) (k0_pay2 v64) Finset.univ (View.stores_vmem h_S256x1024 ((Memref.isWhole_whole _).storeExact_slice rfl _ packedbf16_S256x1024_S256x1024_0_0) (fun _ => rfl)) (.inl rfl))
  pure ⟨⟩

/-- Start the copy of one block of rows into a row slot. -/
def startXOf (b : Memref sig .tc .hbm S512x512 .i32) (sl : Memref sig .tc .vmem S512x512 .i32) (cx : DmaSems sig S_)
    (hb : b.view.WordExact) (hs : sl.view.WordExact) : Pg F PUnit := do
  Prog.lift (.enqueueDma b (.here sl) (.dma cx.sem) hb hs ⟨Or.inl rfl, trivial⟩)
  pure ⟨⟩

/-- Wait for a block's copy and compute the block: rows past the count blanked, unpacked, through the expert. -/
def blockOf (b : Memref sig .tc .hbm S512x512 .i32) (sl : Memref sig .tc .vmem S512x512 .i32) (cx : DmaSems sig S_)
    (hb : b.view.WordExact) (hs : sl.view.WordExact) (oL : Fin 3 → Nat) (hL : ∀ a, oL a + S1x512x512.size a ≤ S3x512x512.size a)
    (oN : Fin 1 → Nat) (hN : ∀ a, oN a + S1.size a ≤ S328.size a)
    (o : Memref sig .tc .vmem S512x512 .i32) : Pg F PUnit := do
  Prog.lift (.waitDma2 cx.sem b sl hb hs)
  let v35 : Vec F S1x512x512 .i32 ← Prog.lift (.load xR (Rect.unit (s := S3x512x512) oL S1x512x512.size hL).toLoadRect (View.loadsAt_vmem h_S1x512x512))
  let v39 : Elt F .i32 ← smemLoad nvM (Rect.unit (s := S328) oN S1.size hN) numel1_S1 rfl
  let v48 : Vec F S1024x256 .bf16 ← Prog.lift (.load gS (Rect.unit (s := S1024x256) ![0, 0] S1024x256.size inb_S1024x256_S1024x256_0_0).toLoadRect (View.loadsAt_vmem h_S1024x256))
  let v50 : Vec F S1024x256 .bf16 ← Prog.lift (.load uS (Rect.unit (s := S1024x256) ![0, 0] S1024x256.size inb_S1024x256_S1024x256_0_0).toLoadRect (View.loadsAt_vmem h_S1024x256))
  let v62 : Vec F S256x1024 .bf16 ← Prog.lift (.load dS (Rect.unit (s := S256x1024) ![0, 0] S256x1024.size inb_S256x1024_S256x1024_0_0).toLoadRect (View.loadsAt_vmem h_S256x1024))
  let v67 : Vec F S512x512 .i32 ← Prog.lift (.load o (Rect.unit (s := S512x512) ![0, 0] S512x512.size inb_S512x512_S512x512_0_0).toLoadRect (View.loadsAt_vmem h_S512x512))
  Prog.lift (.store o (Rect.unit (s := S512x512) ![0, 0] S512x512.size inb_S512x512_S512x512_0_0) (k0_pay3 (k0_pay6 v35 v39 v48 v50) v62 (constant S512x1024 .f32 0x00000000#32)) Finset.univ (View.stores_vmem_bits_univ h_S512x512 rfl) (.inl rfl))
  pure ⟨⟩

/-- Store a block of zeros. -/
def zeroBlock (o : Memref sig .tc .vmem S512x512 .i32) : Pg F PUnit := do
  let v26 : Vec F S512x512 .i32 ← Prog.lift (.load o (Rect.unit (s := S512x512) ![0, 0] S512x512.size inb_S512x512_S512x512_0_0).toLoadRect (View.loadsAt_vmem h_S512x512))
  Prog.lift (.store o (Rect.unit (s := S512x512) ![0, 0] S512x512.size inb_S512x512_S512x512_0_0) (k0_pay4) Finset.univ (View.stores_vmem_bits_univ h_S512x512 rfl) (.inl rfl))
  pure ⟨⟩

/-! ## The body's phases -/

section Phases
variable (i : grid0.Coords)

/-- At the first point: start the first two experts' copies, where there are so many. -/
def phA (v1 : BitVec 32) : Pg F PUnit :=
  if k0_h1 : k0_cond1 i = 1#1 then do
    if k0_h2 : k0_cond2 v1 = 1#1 then do
      let v32 : Elt F .i32 ← smemLoad eoM (Rect.unit (s := S64) ![0] S1.size inb_S64_S1_0) numel1_S1 rfl
      have k0_hw1 : k0_chk1 i v1 v32 := (← Prog.lift (TpuEff.assume (k0_chk1 i v1 v32) (k0_chk1.dec i v1 v32))).down
      startWOf (gExAt (k0_off3 v32) (k0_off3_inb i v1 v32 k0_hw1 k0_h1 k0_h2)) (uExAt (k0_off3 v32) (k0_off3_inb i v1 v32 k0_hw1 k0_h1 k0_h2)) (dExAt (k0_off8 v32) (k0_off8_inb i v1 v32 k0_hw1 k0_h1 k0_h2))
        (gSlotAt k0_off2 (k0_off2_inb i k0_h1)) (uSlotAt k0_off5 (k0_off5_inb i k0_h1)) (dSlotAt k0_off7 (k0_off7_inb i k0_h1))
        (wSemAt k0_off1 (k0_off1_inb i k0_h1)) (wSemAt k0_off4 (k0_off4_inb i k0_h1)) (wSemAt k0_off6 (k0_off6_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    if k0_h3 : k0_cond3 v1 = 1#1 then do
      let v32 : Elt F .i32 ← smemLoad eoM (Rect.unit (s := S64) ![1] S1.size inb_S64_S1_1) numel1_S1 rfl
      have k0_hw2 : k0_chk2 i v1 v32 := (← Prog.lift (TpuEff.assume (k0_chk2 i v1 v32) (k0_chk2.dec i v1 v32))).down
      startWOf (gExAt (k0_off11 v32) (k0_off11_inb i v1 v32 k0_hw2 k0_h1 k0_h3)) (uExAt (k0_off11 v32) (k0_off11_inb i v1 v32 k0_hw2 k0_h1 k0_h3)) (dExAt (k0_off16 v32) (k0_off16_inb i v1 v32 k0_hw2 k0_h1 k0_h3))
        (gSlotAt k0_off10 (k0_off10_inb i k0_h1)) (uSlotAt k0_off13 (k0_off13_inb i k0_h1)) (dSlotAt k0_off15 (k0_off15_inb i k0_h1))
        (wSemAt k0_off9 (k0_off9_inb i k0_h1)) (wSemAt k0_off12 (k0_off12_inb i k0_h1)) (wSemAt k0_off14 (k0_off14_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩

/-- The same, followed by a program. -/
def phAK (v1 : BitVec 32) (k : Pg F PUnit) : Pg F PUnit := do
  if k0_h1 : k0_cond1 i = 1#1 then do
    if k0_h2 : k0_cond2 v1 = 1#1 then do
      let v32 : Elt F .i32 ← smemLoad eoM (Rect.unit (s := S64) ![0] S1.size inb_S64_S1_0) numel1_S1 rfl
      have k0_hw1 : k0_chk1 i v1 v32 := (← Prog.lift (TpuEff.assume (k0_chk1 i v1 v32) (k0_chk1.dec i v1 v32))).down
      startWOf (gExAt (k0_off3 v32) (k0_off3_inb i v1 v32 k0_hw1 k0_h1 k0_h2)) (uExAt (k0_off3 v32) (k0_off3_inb i v1 v32 k0_hw1 k0_h1 k0_h2)) (dExAt (k0_off8 v32) (k0_off8_inb i v1 v32 k0_hw1 k0_h1 k0_h2))
        (gSlotAt k0_off2 (k0_off2_inb i k0_h1)) (uSlotAt k0_off5 (k0_off5_inb i k0_h1)) (dSlotAt k0_off7 (k0_off7_inb i k0_h1))
        (wSemAt k0_off1 (k0_off1_inb i k0_h1)) (wSemAt k0_off4 (k0_off4_inb i k0_h1)) (wSemAt k0_off6 (k0_off6_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    if k0_h3 : k0_cond3 v1 = 1#1 then do
      let v32 : Elt F .i32 ← smemLoad eoM (Rect.unit (s := S64) ![1] S1.size inb_S64_S1_1) numel1_S1 rfl
      have k0_hw2 : k0_chk2 i v1 v32 := (← Prog.lift (TpuEff.assume (k0_chk2 i v1 v32) (k0_chk2.dec i v1 v32))).down
      startWOf (gExAt (k0_off11 v32) (k0_off11_inb i v1 v32 k0_hw2 k0_h1 k0_h3)) (uExAt (k0_off11 v32) (k0_off11_inb i v1 v32 k0_hw2 k0_h1 k0_h3)) (dExAt (k0_off16 v32) (k0_off16_inb i v1 v32 k0_hw2 k0_h1 k0_h3))
        (gSlotAt k0_off10 (k0_off10_inb i k0_h1)) (uSlotAt k0_off13 (k0_off13_inb i k0_h1)) (dSlotAt k0_off15 (k0_off15_inb i k0_h1))
        (wSemAt k0_off9 (k0_off9_inb i k0_h1)) (wSemAt k0_off12 (k0_off12_inb i k0_h1)) (wSemAt k0_off14 (k0_off14_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩
  k

/-- At the first point: start the first two blocks' copies, where there are so many. -/
def phX (v0 : BitVec 32) : Pg F PUnit :=
  if k0_h4 : k0_cond4 i = 1#1 then do
    if Scalar.cmpi .ne (Scalar.extui (Scalar.cmpi .sgt v0 0#32) : BitVec 32) 0#32 = 1#1 then do
      startXOf (xBlkAt ![0, 0] inb_S167936x512_S512x512_0_0) (xSlotAt k0_off18 (k0_off18_inb i k0_h4)) (xSemAt k0_off17 (k0_off17_inb i k0_h4))
        (View.wordExact_bits rfl) ((View.wordExact_bits rfl).reshape _ _)
    else do
      pure ⟨⟩
    if Scalar.cmpi .ne (Scalar.extui (Scalar.cmpi .sgt v0 1#32) : BitVec 32) 0#32 = 1#1 then do
      startXOf (xBlkAt ![512, 0] inb_S167936x512_S512x512_512_0) (xSlotAt k0_off20 (k0_off20_inb i k0_h4)) (xSemAt k0_off19 (k0_off19_inb i k0_h4))
        (View.wordExact_bits rfl) ((View.wordExact_bits rfl).reshape _ _)
    else do
      pure ⟨⟩
    pure ⟨⟩
  else do
    pure ⟨⟩

/-- The same, followed by a program. -/
def phXK (v0 : BitVec 32) (k : Pg F PUnit) : Pg F PUnit := do
  if k0_h4 : k0_cond4 i = 1#1 then do
    if Scalar.cmpi .ne (Scalar.extui (Scalar.cmpi .sgt v0 0#32) : BitVec 32) 0#32 = 1#1 then do
      startXOf (xBlkAt ![0, 0] inb_S167936x512_S512x512_0_0) (xSlotAt k0_off18 (k0_off18_inb i k0_h4)) (xSemAt k0_off17 (k0_off17_inb i k0_h4))
        (View.wordExact_bits rfl) ((View.wordExact_bits rfl).reshape _ _)
    else do
      pure ⟨⟩
    if Scalar.cmpi .ne (Scalar.extui (Scalar.cmpi .sgt v0 1#32) : BitVec 32) 0#32 = 1#1 then do
      startXOf (xBlkAt ![512, 0] inb_S167936x512_S512x512_512_0) (xSlotAt k0_off20 (k0_off20_inb i k0_h4)) (xSemAt k0_off19 (k0_off19_inb i k0_h4))
        (View.wordExact_bits rfl) ((View.wordExact_bits rfl).reshape _ _)
    else do
      pure ⟨⟩
    pure ⟨⟩
  else do
    pure ⟨⟩
  k

/-- Start the copy of the block two ahead, if it is used. -/
def phB (v0 : BitVec 32) (k0_hw3 : k0_chk3 i v0) : Pg F PUnit :=
  if k0_h7 : k0_cond7 i v0 = 1#1 then do
    startXOf (xBlkAt (k0_off23 i) (k0_off23_inb i v0 k0_hw3 k0_h7)) (xSlotAt (k0_off22 i) (k0_off22_inb i)) (xSemAt (k0_off21 i) (k0_off21_inb i))
      (View.wordExact_bits rfl) ((View.wordExact_bits rfl).reshape _ _)
  else do
    pure ⟨⟩

/-- The same, followed by a program. -/
def phBK (v0 : BitVec 32) (k0_hw3 : k0_chk3 i v0) (k : Pg F PUnit) : Pg F PUnit := do
  if k0_h7 : k0_cond7 i v0 = 1#1 then do
    startXOf (xBlkAt (k0_off23 i) (k0_off23_inb i v0 k0_hw3 k0_h7)) (xSlotAt (k0_off22 i) (k0_off22_inb i)) (xSemAt (k0_off21 i) (k0_off21_inb i))
      (View.wordExact_bits rfl) ((View.wordExact_bits rfl).reshape _ _)
  else do
    pure ⟨⟩
  k

/-- At a used block that begins an expert: take up that expert's weights, and start the copy of the one two ahead. -/
def phC (v0 v1 v14 : BitVec 32) : Pg F PUnit :=
  if k0_h8 : k0_cond8 i v0 v14 = 1#1 then do
    let v26 : Elt F .i32 ← smemLoad ordM (Rect.unit (s := S328) (k0_off25 i) S1.size (k0_off25_inb i)) numel1_S1 rfl
    have k0_hw4 : k0_chk4 i v0 v1 v14 v26 := (← Prog.lift (TpuEff.assume (k0_chk4 i v0 v1 v14 v26) (k0_chk4.dec i v0 v1 v14 v26))).down
    let v29 : Elt F .i32 ← smemLoad eoM (Rect.unit (s := S64) (k0_off26 v26) S1.size (k0_off26_inb i v0 v1 v14 v26 k0_hw4 k0_h8)) numel1_S1 rfl
    have k0_hw5 : k0_chk5 i v0 v14 v29 := (← Prog.lift (TpuEff.assume (k0_chk5 i v0 v14 v29) (k0_chk5.dec i v0 v14 v29))).down
    waitWOf (gExAt (k0_off29 v29) (k0_off29_inb i v0 v14 v29 k0_hw5 k0_h8)) (uExAt (k0_off29 v29) (k0_off29_inb i v0 v14 v29 k0_hw5 k0_h8)) (dExAt (k0_off34 v29) (k0_off34_inb i v0 v14 v29 k0_hw5 k0_h8))
      (gSlotAt (k0_off28 v26) (k0_off28_inb i v0 v1 v14 v26 k0_hw4 k0_h8)) (uSlotAt (k0_off31 v26) (k0_off31_inb i v0 v1 v14 v26 k0_hw4 k0_h8)) (dSlotAt (k0_off33 v26) (k0_off33_inb i v0 v1 v14 v26 k0_hw4 k0_h8))
      (wSemAt (k0_off27 v26) (k0_off27_inb i v0 v1 v14 v26 k0_hw4 k0_h8)) (wSemAt (k0_off30 v26) (k0_off30_inb i v0 v1 v14 v26 k0_hw4 k0_h8)) (wSemAt (k0_off32 v26) (k0_off32_inb i v0 v1 v14 v26 k0_hw4 k0_h8))
      ((View.wordExact_bits rfl).reshape _ _) ((View.wordExact_bits rfl).reshape _ _) ((View.wordExact_bits rfl).reshape _ _)
      ((View.wordExact_bits rfl).reshape _ _) ((View.wordExact_bits rfl).reshape _ _) ((View.wordExact_bits rfl).reshape _ _)
      (k0_off35 v26) (k0_off36 v26) (k0_off35_inb i v0 v1 v14 v26 k0_hw4 k0_h8) (k0_off36_inb i v0 v1 v14 v26 k0_hw4 k0_h8)
    if k0_h9 : k0_cond9 v1 v26 = 1#1 then do
      let v77 : Elt F .i32 ← smemLoad eoM (Rect.unit (s := S64) (k0_off37 v26) S1.size (k0_off37_inb i v0 v1 v14 v26 k0_hw4 k0_h8 k0_h9)) numel1_S1 rfl
      have k0_hw6 : k0_chk6 i v0 v1 v14 v26 v77 := (← Prog.lift (TpuEff.assume (k0_chk6 i v0 v1 v14 v26 v77) (k0_chk6.dec i v0 v1 v14 v26 v77))).down
      startWOf (gExAt (k0_off40 v77) (k0_off40_inb i v0 v1 v14 v26 v77 k0_hw6 k0_h8 k0_h9)) (uExAt (k0_off40 v77) (k0_off40_inb i v0 v1 v14 v26 v77 k0_hw6 k0_h8 k0_h9)) (dExAt (k0_off45 v77) (k0_off45_inb i v0 v1 v14 v26 v77 k0_hw6 k0_h8 k0_h9))
        (gSlotAt (k0_off39 v26) (k0_off39_inb i v0 v1 v14 v26 k0_hw4 k0_h8 k0_h9)) (uSlotAt (k0_off42 v26) (k0_off42_inb i v0 v1 v14 v26 k0_hw4 k0_h8 k0_h9)) (dSlotAt (k0_off44 v26) (k0_off44_inb i v0 v1 v14 v26 k0_hw4 k0_h8 k0_h9))
        (wSemAt (k0_off38 v26) (k0_off38_inb i v0 v1 v14 v26 k0_hw4 k0_h8 k0_h9)) (wSemAt (k0_off41 v26) (k0_off41_inb i v0 v1 v14 v26 k0_hw4 k0_h8 k0_h9)) (wSemAt (k0_off43 v26) (k0_off43_inb i v0 v1 v14 v26 k0_hw4 k0_h8 k0_h9))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩

/-- The same, followed by a program. -/
def phCK (v0 v1 v14 : BitVec 32) (k : Pg F PUnit) : Pg F PUnit := do
  if k0_h8 : k0_cond8 i v0 v14 = 1#1 then do
    let v26 : Elt F .i32 ← smemLoad ordM (Rect.unit (s := S328) (k0_off25 i) S1.size (k0_off25_inb i)) numel1_S1 rfl
    have k0_hw4 : k0_chk4 i v0 v1 v14 v26 := (← Prog.lift (TpuEff.assume (k0_chk4 i v0 v1 v14 v26) (k0_chk4.dec i v0 v1 v14 v26))).down
    let v29 : Elt F .i32 ← smemLoad eoM (Rect.unit (s := S64) (k0_off26 v26) S1.size (k0_off26_inb i v0 v1 v14 v26 k0_hw4 k0_h8)) numel1_S1 rfl
    have k0_hw5 : k0_chk5 i v0 v14 v29 := (← Prog.lift (TpuEff.assume (k0_chk5 i v0 v14 v29) (k0_chk5.dec i v0 v14 v29))).down
    waitWOf (gExAt (k0_off29 v29) (k0_off29_inb i v0 v14 v29 k0_hw5 k0_h8)) (uExAt (k0_off29 v29) (k0_off29_inb i v0 v14 v29 k0_hw5 k0_h8)) (dExAt (k0_off34 v29) (k0_off34_inb i v0 v14 v29 k0_hw5 k0_h8))
      (gSlotAt (k0_off28 v26) (k0_off28_inb i v0 v1 v14 v26 k0_hw4 k0_h8)) (uSlotAt (k0_off31 v26) (k0_off31_inb i v0 v1 v14 v26 k0_hw4 k0_h8)) (dSlotAt (k0_off33 v26) (k0_off33_inb i v0 v1 v14 v26 k0_hw4 k0_h8))
      (wSemAt (k0_off27 v26) (k0_off27_inb i v0 v1 v14 v26 k0_hw4 k0_h8)) (wSemAt (k0_off30 v26) (k0_off30_inb i v0 v1 v14 v26 k0_hw4 k0_h8)) (wSemAt (k0_off32 v26) (k0_off32_inb i v0 v1 v14 v26 k0_hw4 k0_h8))
      ((View.wordExact_bits rfl).reshape _ _) ((View.wordExact_bits rfl).reshape _ _) ((View.wordExact_bits rfl).reshape _ _)
      ((View.wordExact_bits rfl).reshape _ _) ((View.wordExact_bits rfl).reshape _ _) ((View.wordExact_bits rfl).reshape _ _)
      (k0_off35 v26) (k0_off36 v26) (k0_off35_inb i v0 v1 v14 v26 k0_hw4 k0_h8) (k0_off36_inb i v0 v1 v14 v26 k0_hw4 k0_h8)
    if k0_h9 : k0_cond9 v1 v26 = 1#1 then do
      let v77 : Elt F .i32 ← smemLoad eoM (Rect.unit (s := S64) (k0_off37 v26) S1.size (k0_off37_inb i v0 v1 v14 v26 k0_hw4 k0_h8 k0_h9)) numel1_S1 rfl
      have k0_hw6 : k0_chk6 i v0 v1 v14 v26 v77 := (← Prog.lift (TpuEff.assume (k0_chk6 i v0 v1 v14 v26 v77) (k0_chk6.dec i v0 v1 v14 v26 v77))).down
      startWOf (gExAt (k0_off40 v77) (k0_off40_inb i v0 v1 v14 v26 v77 k0_hw6 k0_h8 k0_h9)) (uExAt (k0_off40 v77) (k0_off40_inb i v0 v1 v14 v26 v77 k0_hw6 k0_h8 k0_h9)) (dExAt (k0_off45 v77) (k0_off45_inb i v0 v1 v14 v26 v77 k0_hw6 k0_h8 k0_h9))
        (gSlotAt (k0_off39 v26) (k0_off39_inb i v0 v1 v14 v26 k0_hw4 k0_h8 k0_h9)) (uSlotAt (k0_off42 v26) (k0_off42_inb i v0 v1 v14 v26 k0_hw4 k0_h8 k0_h9)) (dSlotAt (k0_off44 v26) (k0_off44_inb i v0 v1 v14 v26 k0_hw4 k0_h8 k0_h9))
        (wSemAt (k0_off38 v26) (k0_off38_inb i v0 v1 v14 v26 k0_hw4 k0_h8 k0_h9)) (wSemAt (k0_off41 v26) (k0_off41_inb i v0 v1 v14 v26 k0_hw4 k0_h8 k0_h9)) (wSemAt (k0_off43 v26) (k0_off43_inb i v0 v1 v14 v26 k0_hw4 k0_h8 k0_h9))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩
  k

/-- At a used block: compute it. -/
def phD (v0 : BitVec 32) (o : Memref sig .tc .vmem S512x512 .i32) : Pg F PUnit :=
  if k0_h10 : k0_cond10 i v0 = 1#1 then do
    blockOf (xBlkAt (k0_off48 i) (k0_off48_inb i)) (xSlotAt (k0_off47 i) (k0_off47_inb i)) (xSemAt (k0_off46 i) (k0_off46_inb i))
      (View.wordExact_bits rfl) ((View.wordExact_bits rfl).reshape _ _) (k0_off49 i) (k0_off49_inb i) (k0_off50 i) (k0_off50_inb i) o
  else do
    pure ⟨⟩

/-- The same, followed by a program. -/
def phDK (v0 : BitVec 32) (o : Memref sig .tc .vmem S512x512 .i32) (k : Pg F PUnit) : Pg F PUnit := do
  if k0_h10 : k0_cond10 i v0 = 1#1 then do
    blockOf (xBlkAt (k0_off48 i) (k0_off48_inb i)) (xSlotAt (k0_off47 i) (k0_off47_inb i)) (xSemAt (k0_off46 i) (k0_off46_inb i))
      (View.wordExact_bits rfl) ((View.wordExact_bits rfl).reshape _ _) (k0_off49 i) (k0_off49_inb i) (k0_off50 i) (k0_off50_inb i) o
  else do
    pure ⟨⟩
  k

/-- At an unused block: zeros. -/
def phE (v21 : BitVec 32) (o : Memref sig .tc .vmem S512x512 .i32) : Pg F PUnit :=
  if k0_h11 : k0_cond11 i v21 = 1#1 then do
    zeroBlock o
  else do
    pure ⟨⟩

/-- The same, followed by a program. -/
def phEK (v21 : BitVec 32) (o : Memref sig .tc .vmem S512x512 .i32) (k : Pg F PUnit) : Pg F PUnit := do
  if k0_h11 : k0_cond11 i v21 = 1#1 then do
    zeroBlock o
  else do
    pure ⟨⟩
  k

/-- The kernel's body at one grid point, in its phases. -/
def body (o : Memref sig .tc .vmem S512x512 .i32) : Pg F PUnit := do
  let v0 : Elt F .i32 ← smemLoad cntM (Rect.unit (s := S2) ![0] S1.size inb_S2_S1_0) numel1_S1 rfl
  have k0_hw3 : k0_chk3 i v0 := (← Prog.lift (TpuEff.assume (k0_chk3 i v0) (k0_chk3.dec i v0))).down
  let v1 : Elt F .i32 ← smemLoad cntM (Rect.unit (s := S2) ![1] S1.size inb_S2_S1_1) numel1_S1 rfl
  phAK i v1 (phXK i v0 (phBK i v0 k0_hw3 (do
    let v14 : Elt F .i32 ← smemLoad newM (Rect.unit (s := S328) (k0_off24 i) S1.size (k0_off24_inb i)) numel1_S1 rfl
    phCK i v0 v1 v14 (phDK i v0 o (do
      let v21 : Elt F .i32 ← smemLoad cntM (Rect.unit (s := S2) ![0] S1.size inb_S2_S1_0) numel1_S1 rfl
      phEK i v21 o (pure ⟨⟩))))))

theorem phAK_eq (v1 : BitVec 32) (k : Pg F PUnit) : phAK i v1 k = phA i v1 >>= fun _ => k := by
  unfold phAK phA; dsimp only; split
  · split <;> split <;> rfl
  · rfl

theorem phXK_eq (v0 : BitVec 32) (k : Pg F PUnit) : phXK i v0 k = phX i v0 >>= fun _ => k := by
  unfold phXK phX; dsimp only; split
  · split <;> split <;> rfl
  · rfl

theorem phBK_eq (v0 : BitVec 32) (hw) (k : Pg F PUnit) : phBK i v0 hw k = phB i v0 hw >>= fun _ => k := by
  unfold phBK phB; dsimp only; split <;> rfl

theorem phCK_eq (v0 v1 v14 : BitVec 32) (k : Pg F PUnit) : phCK i v0 v1 v14 k = phC i v0 v1 v14 >>= fun _ => k := by
  unfold phCK phC; dsimp only; split
  · simp only [bind_assoc]
    refine bind_congr fun v26 => bind_congr fun hw4 => bind_congr fun v29 => bind_congr fun hw5 => bind_congr fun _ => ?_
    split <;> rfl
  · rfl

theorem phDK_eq (v0 : BitVec 32) (o) (k : Pg F PUnit) : phDK i v0 o k = phD i v0 o >>= fun _ => k := by
  unfold phDK phD; dsimp only; split <;> rfl

theorem phEK_eq (v21 : BitVec 32) (o) (k : Pg F PUnit) : phEK i v21 o k = phE i v21 o >>= fun _ => k := by
  unfold phEK phE; dsimp only; split <;> rfl

/-- The kernel as the pipeline calls it. -/
abbrev printed (o : Memref sig .tc .vmem S512x512 .i32) (ho : o.IsWhole) : Pg F PUnit :=
  cc0_routed_experts i nvM (Memref.isWhole_whole _) newM (Memref.isWhole_whole _) ordM (Memref.isWhole_whole _) eoM (Memref.isWhole_whole _) cntM (Memref.isWhole_whole _)
    xM (Memref.isWhole_whole _) gM (Memref.isWhole_whole _) uM (Memref.isWhole_whole _) dM (Memref.isWhole_whole _) o ho gS (Memref.isWhole_whole _) uS (Memref.isWhole_whole _)
    dS (Memref.isWhole_whole _) xR (Memref.isWhole_whole _) cc0_scratch4 gR (Memref.isWhole_whole _) uR (Memref.isWhole_whole _) dR (Memref.isWhole_whole _) cc0_scratch8

theorem printed_eq (o : Memref sig .tc .vmem S512x512 .i32) (ho : o.IsWhole) : printed (F := F) i o ho = body i o := by
  unfold printed
  rw [cc0_routed_experts_eq_skeleton]
  unfold cc0_routed_experts_skel
  rw [k0_part1_eq_skeleton, k0_part2_eq_skeleton]
  rfl

end Phases

end Cert.Proof.Experts

end
-- ==== Proof.ExpertsCopies.lean ====
/-
  The copies of the routed experts' kernel, by themselves: one expert's three weight matrices into a weight slot
  (`startW`, `waitW`) and one block of token rows into a row slot (`startX`), over literal slots, experts and
  blocks. The kernel computes its offsets from words it reads; `startWOf_eq` and its companions say that equal
  offsets give these programs, so that everything about a copy is proved once, here.
-/
module

public import proofs.«01_k».proof.Proof.ExpertsOps
public import Idealize.ShloMosaic.Lib.VecWindow
public import Idealize.ShloMosaic.Lib.ValueLayout

@[expose] public section

set_option maxRecDepth 16384

noncomputable section

namespace Cert.Proof.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4 eq_ix3 reshapeEquiv_ix2_1ab reshapeEquiv_ix2_11ab)
open Idealize.ShloMosaic.Pipeline (Dat Cfg Window BodyObligation cellOf UD)

variable {F : FTy → Type} [BitOps F]

theorem entails_of_eq {P Q : sProp (Mo F)} (e : P = Q) : P ⊢ Q := e ▸ .rfl

/-! ## Every view here is exact in words -/

theorem gSlot_we (s) : (gSlot s).view.WordExact := (View.wordExact_bits rfl).reshape _ _
theorem uSlot_we (s) : (uSlot s).view.WordExact := (View.wordExact_bits rfl).reshape _ _
theorem dSlot_we (s) : (dSlot s).view.WordExact := (View.wordExact_bits rfl).reshape _ _
theorem gEx_we (e) : (gEx e).view.WordExact := (View.wordExact_bits rfl).reshape _ _
theorem uEx_we (e) : (uEx e).view.WordExact := (View.wordExact_bits rfl).reshape _ _
theorem dEx_we (e) : (dEx e).view.WordExact := (View.wordExact_bits rfl).reshape _ _
theorem xSlot_we (s) : (xSlot s).view.WordExact := (View.wordExact_bits rfl).reshape _ _
theorem xBlk_we (b) : (xBlk b).view.WordExact := View.wordExact_bits rfl

/-! ## The programs at literal slots -/

def startW (e : Fin 64) (s : Fin 2) : Pg F PUnit :=
  startWOf (gEx e) (uEx e) (dEx e) (gSlot s) (uSlot s) (dSlot s) (wSem s 0) (wSem s 1) (wSem s 2)
    (gEx_we e) (uEx_we e) (dEx_we e) (gSlot_we s) (uSlot_we s) (dSlot_we s)
def waitW (e : Fin 64) (s : Fin 2) : Pg F PUnit :=
  waitWOf (gEx e) (uEx e) (dEx e) (gSlot s) (uSlot s) (dSlot s) (wSem s 0) (wSem s 1) (wSem s 2)
    (gEx_we e) (uEx_we e) (dEx_we e) (gSlot_we s) (uSlot_we s) (dSlot_we s) (wsOff s) (wsOff s) (wgOff_inb s) (wdOff_inb s)
def startX (b : Fin 328) (s : Fin 3) : Pg F PUnit := startXOf (xBlk b) (xSlot s) (xSem s) (xBlk_we b) (xSlot_we s)

def block (b : Fin 328) (s : Fin 3) (o : Memref sig .tc .vmem S512x512 .i32) : Pg F PUnit :=
  blockOf (xBlk b) (xSlot s) (xSem s) (xBlk_we b) (xSlot_we s) (xsOff s) (xsOff_inb s) (nvOff b) (nvOff_inb b) o

theorem startWOf_eq {oE oE' : Fin 4 → Nat} {oS oS' : Fin 3 → Nat} {o0 o1 o2 : Fin 2 → Nat} {oU : Fin 3 → Nat} (e : Fin 64) (s : Fin 2)
    (h1 : oE = exOff e) (h2 : oE' = exOff e) (h3 : oS = wsOff s) (h4 : oU = wsOff s) (h5 : oS' = wsOff s)
    (h6 : o0 = wcOff s 0) (h7 : o1 = wcOff s 1) (h8 : o2 = wcOff s 2) {p1 p2 p3 p4 p5 p6 p7 p8 p9 q1 q2 q3 q4 q5 q6} :
    startWOf (F := F) (gExAt oE p1) (uExAt oE p2) (dExAt oE' p3) (gSlotAt oS p4) (uSlotAt oU p5) (dSlotAt oS' p6) (wSemAt o0 p7) (wSemAt o1 p8) (wSemAt o2 p9) q1 q2 q3 q4 q5 q6
      = startW e s := by
  subst h1 h2 h3 h4 h5 h6 h7 h8; rfl

theorem waitWOf_eq {oE oE' : Fin 4 → Nat} {oS oS' : Fin 3 → Nat} {o0 o1 o2 : Fin 2 → Nat} {oU oL oD : Fin 3 → Nat} (e : Fin 64) (s : Fin 2)
    (h1 : oE = exOff e) (h2 : oE' = exOff e) (h3 : oS = wsOff s) (h4 : oU = wsOff s) (h5 : oS' = wsOff s)
    (h6 : o0 = wcOff s 0) (h7 : o1 = wcOff s 1) (h8 : o2 = wcOff s 2) (h9 : oL = wsOff s) (h10 : oD = wsOff s) {p1 p2 p3 p4 p5 p6 p7 p8 p9 q1 q2 q3 q4 q5 q6 r1 r2} :
    waitWOf (F := F) (gExAt oE p1) (uExAt oE p2) (dExAt oE' p3) (gSlotAt oS p4) (uSlotAt oU p5) (dSlotAt oS' p6) (wSemAt o0 p7) (wSemAt o1 p8) (wSemAt o2 p9) q1 q2 q3 q4 q5 q6 oL oD r1 r2
      = waitW e s := by
  subst h1 h2 h3 h4 h5 h6 h7 h8 h9 h10; rfl

theorem startXOf_eq {oB : Fin 2 → Nat} {oS : Fin 3 → Nat} {oX : Fin 1 → Nat} (b : Fin 328) (s : Fin 3)
    (h1 : oB = bkOff b) (h2 : oS = xsOff s) (h3 : oX = xcOff s) {p1 p2 p3 q1 q2} :
    startXOf (F := F) (xBlkAt oB p1) (xSlotAt oS p2) (xSemAt oX p3) q1 q2 = startX b s := by
  subst h1 h2 h3; rfl

theorem blockOf_eq {oB : Fin 2 → Nat} {oS oL : Fin 3 → Nat} {oX oN : Fin 1 → Nat} (b : Fin 328) (s : Fin 3)
    (h1 : oB = bkOff b) (h2 : oS = xsOff s) (h3 : oX = xcOff s) (h4 : oL = xsOff s) (h5 : oN = nvOff b) {p1 p2 p3 q1 q2 r1 r2} {o} :
    blockOf (F := F) (xBlkAt oB p1) (xSlotAt oS p2) (xSemAt oX p3) q1 q2 oL r1 oN r2 o = block b s o := by
  subst h1 h2 h3 h4 h5; rfl

/-! ## A core's pieces -/

section Pieces
variable (c : Dev nD) (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))

/-- The share of an array's contents that slot `s`'s copies read under. -/
abbrev tk (s : ℕ) : PosShare TreeShare := Transfers.shareTokN fullShare s

abbrev cellW (s : Fin 2) (j : Fin 3) : sProp (Mo F) := semVal ((c : Thread nD τ), SemLoc.dma (wSem s j).sem) 0
abbrev cellX (s : Fin 3) : sProp (Mo F) := semVal ((c : Thread nD τ), SemLoc.dma (xSem s).sem) 0

abbrev slotG (s : Fin 2) (f : Buf (Elt F) ((gSlot s).view.loc (c : Thread nD τ))) : sProp (Mo F) := (gSlot s).view.loc (c : Thread nD τ) ↦[(gSlot s).view.set]{fullShare} f
abbrev slotU (s : Fin 2) (f : Buf (Elt F) ((uSlot s).view.loc (c : Thread nD τ))) : sProp (Mo F) := (uSlot s).view.loc (c : Thread nD τ) ↦[(uSlot s).view.set]{fullShare} f
abbrev slotD (s : Fin 2) (f : Buf (Elt F) ((dSlot s).view.loc (c : Thread nD τ))) : sProp (Mo F) := (dSlot s).view.loc (c : Thread nD τ) ↦[(dSlot s).view.set]{fullShare} f
abbrev slotX (s : Fin 3) (f : Buf (Elt F) ((xSlot s).view.loc (c : Thread nD τ))) : sProp (Mo F) := (xSlot s).view.loc (c : Thread nD τ) ↦[(xSlot s).view.set]{fullShare} f

abbrev tokG (s : ℕ) : sProp (Mo F) := gM.view.loc (c : Thread nD τ) ↦[gM.view.set]{tk s} XG
abbrev tokU (s : ℕ) : sProp (Mo F) := uM.view.loc (c : Thread nD τ) ↦[uM.view.set]{tk s} XU
abbrev tokD (s : ℕ) : sProp (Mo F) := dM.view.loc (c : Thread nD τ) ↦[dM.view.set]{tk s} XD
abbrev tokX (s : ℕ) : sProp (Mo F) := xM.view.loc (c : Thread nD τ) ↦[xM.view.set]{tk s} XX

/-- Expert `e`'s gate matrix, of the layer the kernel reads. -/
abbrev wordsG (e : Fin 64) : S1024x256.Idx → Elt F .f32 := ReadAs.same.apply ((gEx e).view.read (Elt F) XG)
abbrev wordsU (e : Fin 64) : S1024x256.Idx → Elt F .f32 := ReadAs.same.apply ((uEx e).view.read (Elt F) XU)
abbrev wordsD (e : Fin 64) : S256x1024.Idx → Elt F .f32 := ReadAs.same.apply ((dEx e).view.read (Elt F) XD)
abbrev wordsX (b : Fin 328) : S512x512.Idx → Elt F .i32 := ReadAs.same.apply ((xBlk b).view.read (Elt F) XX)

/-- A copy in flight, issued over `f`: it brings the slot with the words landed, and the array's elements it read. -/
abbrev flG (e : Fin 64) (s : Fin 2) (f : Buf (Elt F) ((gSlot s).view.loc (c : Thread nD τ))) : sProp (Mo F) :=
  Transfers.Flight countersEmb (c : Thread nD τ) (SemLoc.dma (wSem s 0).sem) () 32768
    iprop(slotG c s ((gSlot s).view.writes (Elt F) f [⟨Rect.whole S1024x256, wordsG c XG e⟩]) ∗ gM.view.loc (c : Thread nD τ) ↦[(gEx e).view.set]{tk s} XG)
abbrev flU (e : Fin 64) (s : Fin 2) (f : Buf (Elt F) ((uSlot s).view.loc (c : Thread nD τ))) : sProp (Mo F) :=
  Transfers.Flight countersEmb (c : Thread nD τ) (SemLoc.dma (wSem s 1).sem) () 32768
    iprop(slotU c s ((uSlot s).view.writes (Elt F) f [⟨Rect.whole S1024x256, wordsU c XU e⟩]) ∗ uM.view.loc (c : Thread nD τ) ↦[(uEx e).view.set]{tk s} XU)
abbrev flD (e : Fin 64) (s : Fin 2) (f : Buf (Elt F) ((dSlot s).view.loc (c : Thread nD τ))) : sProp (Mo F) :=
  Transfers.Flight countersEmb (c : Thread nD τ) (SemLoc.dma (wSem s 2).sem) () 32768
    iprop(slotD c s ((dSlot s).view.writes (Elt F) f [⟨Rect.whole S256x1024, wordsD c XD e⟩]) ∗ dM.view.loc (c : Thread nD τ) ↦[(dEx e).view.set]{tk s} XD)
abbrev flX (b : Fin 328) (s : Fin 3) (f : Buf (Elt F) ((xSlot s).view.loc (c : Thread nD τ))) : sProp (Mo F) :=
  Transfers.Flight countersEmb (c : Thread nD τ) (SemLoc.dma (xSem s).sem) () 32768
    iprop(slotX c s ((xSlot s).view.writes (Elt F) f [⟨Rect.whole S512x512, wordsX c XX b⟩]) ∗ xM.view.loc (c : Thread nD τ) ↦[(xBlk b).view.set]{tk s} XX)

/-- A row slot at rest, and in flight with block `b`. -/
def XE (s : Fin 3) : sProp (Mo F) := iprop((∃ f, slotX c s f) ∗ cellX c s ∗ tokX c XX s)
def XF (b : Fin 328) (s : Fin 3) : sProp (Mo F) :=
  iprop((∃ f, flX c XX b s f) ∗ xM.view.loc (c : Thread nD τ) ↦[xM.view.set \ (xBlk b).view.set]{tk s} XX)

/-- What is left of a slot's share of an array while the slot's copy is in flight. -/
abbrev restG (e : Fin 64) (s : Fin 2) : sProp (Mo F) := gM.view.loc (c : Thread nD τ) ↦[gM.view.set \ (gEx e).view.set]{tk s} XG
abbrev restU (e : Fin 64) (s : Fin 2) : sProp (Mo F) := uM.view.loc (c : Thread nD τ) ↦[uM.view.set \ (uEx e).view.set]{tk s} XU
abbrev restD (e : Fin 64) (s : Fin 2) : sProp (Mo F) := dM.view.loc (c : Thread nD τ) ↦[dM.view.set \ (dEx e).view.set]{tk s} XD

/-- The three buffers of rounded weights. -/
abbrev scrG (f : Buf (Elt F) (gS.view.loc (c : Thread nD τ))) : sProp (Mo F) := gS.view.loc (c : Thread nD τ) ↦[gS.view.set]{fullShare} f
abbrev scrU (f : Buf (Elt F) (uS.view.loc (c : Thread nD τ))) : sProp (Mo F) := uS.view.loc (c : Thread nD τ) ↦[uS.view.set]{fullShare} f
abbrev scrD (f : Buf (Elt F) (dS.view.loc (c : Thread nD τ))) : sProp (Mo F) := dS.view.loc (c : Thread nD τ) ↦[dS.view.set]{fullShare} f

/-- A weight slot at rest, and in flight with expert `e`. -/
def WE (s : Fin 2) : sProp (Mo F) :=
  iprop(((∃ f, slotG c s f) ∗ (∃ f, slotU c s f) ∗ (∃ f, slotD c s f)) ∗ (cellW c s 0 ∗ cellW c s 1 ∗ cellW c s 2) ∗ (tokG c XG s ∗ tokU c XU s ∗ tokD c XD s))
def WF (e : Fin 64) (s : Fin 2) : sProp (Mo F) :=
  iprop(((∃ f, flG c XG e s f) ∗ (∃ f, flU c XU e s f) ∗ (∃ f, flD c XD e s f))
    ∗ restG c XG e s ∗ restU c XU e s ∗ restD c XD e s)

theorem startX_run (b : Fin 328) (s : Fin 3) :
    XE c XX s ⊢ wp frame (wpE (defs₀ (F := F)) 𝒱₀ (c : Thread nD τ) none) Set.univ (startX b s) (fun _ => XF c XX b s) := by
  unfold startX startXOf XE XF
  iintro ⟨⟨%f, H1⟩, H2, H3⟩
  sl_exec
  sl_step
  isplitl [H2]
  · iexists f; iexact H2
  · iexact H3

theorem startW_run (e : Fin 64) (s : Fin 2) :
    WE c XG XU XD s ⊢ wp frame (wpE (defs₀ (F := F)) 𝒱₀ (c : Thread nD τ) none) Set.univ (startW e s) (fun _ => WF c XG XU XD e s) := by
  unfold startW startWOf gEx uEx dEx gExAt uExAt dExAt WE WF
  iintro ⟨⟨⟨%f1, H1⟩, ⟨%f2, H2⟩, %f3, H3⟩, ⟨H4, H5, H6⟩, H7, H8, H9⟩
  sl_exec
  sl_step
  isplitl [H4 H5 H6]
  · isplitl [H4]
    · iexists f1; iexact H4
    · isplitl [H5]
      · iexists f2; iexact H5
      · iexists f3; iexact H6
  · isplitl [H7]
    · iexact H7
    · isplitl [H8]
      · iexact H8
      · iexact H9

/-! ## What a slot holds after its copy -/

/-- Expert `e`'s three matrices, of layer 1, as a slot's window holds them. -/
def exG (e : Fin 64) : Vec F S1x1024x256 .f32 := fun y => XG (ix4 (1 : Fin 2) e (y 1 : Fin 1024) (y 2 : Fin 256))
def exU (e : Fin 64) : Vec F S1x1024x256 .f32 := fun y => XU (ix4 (1 : Fin 2) e (y 1 : Fin 1024) (y 2 : Fin 256))
def exD (e : Fin 64) : Vec F S1x256x1024 .f32 := fun y => XD (ix4 (1 : Fin 2) e (y 1 : Fin 256) (y 2 : Fin 1024))
/-- Block `b` of the rows. -/
def exX (b : Fin 328) : Vec F S1x512x512 .i32 := fun y => XX (ix2 (⟨512 * b.val + (y 1 : Fin 512).val, by have := b.isLt; have h : (y 1).val < 512 := (y 1).isLt; show 512 * b.val + (y 1).val < 167936; omega⟩ : Fin 167936) (y 2 : Fin 512))

/-- What a view reads after its whole has been written. -/
theorem read_writes_whole {sp : Space} {sh : Shape} {e : EltTy} (v : View sig .tc sp sh e) (f : v.ty.Contents (Elt F)) (w : sh.Idx → Elt F e) :
    v.read (Elt F) (v.writes (Elt F) f [⟨Rect.whole sh, w⟩]) = w := by
  have h := View.read_write_univ (v := v.slice (Rect.whole sh)) (Val := Elt F) f w
  have e : (Rect.whole sh).emb = Function.Embedding.refl _ := by ext y; simp
  funext y
  refine Eq.trans ?_ (congrFun h y)
  show v.read (Elt F) _ y = v.read (Elt F) _ ((Rect.whole sh).emb y)
  rw [e]; rfl

/-- A slot filled whole through its squeezed window, read back through the ring it lies in. -/
theorem load_slot {sp : Space} {n A B : ℕ} {e : EltTy} (m : Memref sig .tc sp ⟨3, ![n, A, B]⟩ e) (off : Fin 3 → ℕ)
    (inb : ∀ a, off a + (![1, A, B] : Fin 3 → ℕ) a ≤ (⟨3, ![n, A, B]⟩ : Shape).size a)
    (hq : (Rect.unit (s := ⟨3, ![n, A, B]⟩) off ![1, A, B] inb).shape.Squeezes ⟨2, ![A, B]⟩) (f) (w : (⟨2, ![A, B]⟩ : Shape).Idx → Elt F e) (a : Fin A) (b : Fin B) :
    m.view.readAt (Elt F) (Rect.unit (s := ⟨3, ![n, A, B]⟩) off ![1, A, B] inb).toLoadRect
      (((m.slice (Rect.unit (s := ⟨3, ![n, A, B]⟩) off ![1, A, B] inb) (fun _ => rfl)).squeeze ⟨2, ![A, B]⟩ hq).view.writes (Elt F) f [⟨Rect.whole ⟨2, ![A, B]⟩, w⟩])
        (ix3 (⟨0, Nat.one_pos⟩ : Fin 1) a b) = w (ix2 a b) := by
  have h := congrFun (read_writes_whole ((m.slice (Rect.unit (s := ⟨3, ![n, A, B]⟩) off ![1, A, B] inb) (fun _ => rfl)).squeeze ⟨2, ![A, B]⟩ hq).view f w) (ix2 a b)
  refine Eq.trans ?_ h
  exact congrArg (fun z => (m.view.slice (Rect.unit (s := ⟨3, ![n, A, B]⟩) off ![1, A, B] inb)).read (Elt F) _ z) (reshapeEquiv_ix2_1ab hq.numel_eq a b).symm

theorem idx_1ab {A B : ℕ} (y : (⟨3, ![1, A, B]⟩ : Shape).Idx) : ∃ (a : Fin A) (b : Fin B), y = ix3 (⟨0, Nat.one_pos⟩ : Fin 1) a b :=
  ⟨y 1, y 2, (eq_ix3 y).trans (congrArg (fun z : Fin 1 => ix3 z (y 1 : Fin A) (y 2 : Fin B)) (Subsingleton.elim _ _))⟩

/-- An expert's matrix through its squeezed window. -/
theorem words_ex {sp : Space} {A B : ℕ} (m : Memref sig .tc sp ⟨4, ![2, 64, A, B]⟩ .f32) (e : Fin 64)
    (inb : ∀ a, exOff e a + (![1, 1, A, B] : Fin 4 → ℕ) a ≤ (⟨4, ![2, 64, A, B]⟩ : Shape).size a)
    (hq : (Rect.unit (s := ⟨4, ![2, 64, A, B]⟩) (exOff e) ![1, 1, A, B] inb).shape.Squeezes ⟨2, ![A, B]⟩) (f) (a : Fin A) (b : Fin B) :
    ((m.slice (Rect.unit (s := ⟨4, ![2, 64, A, B]⟩) (exOff e) ![1, 1, A, B] inb) (fun _ => rfl)).squeeze ⟨2, ![A, B]⟩ hq).view.read (Elt F) f (ix2 a b)
      = m.view.read (Elt F) f (ix4 (1 : Fin 2) e a b) := by
  refine Eq.trans (congrArg (fun z => (m.view.slice (Rect.unit (s := ⟨4, ![2, 64, A, B]⟩) (exOff e) ![1, 1, A, B] inb)).read (Elt F) f z) (reshapeEquiv_ix2_11ab hq.numel_eq a b)) ?_
  refine congrArg (m.view.read (Elt F) f) (funext fun x => Fin.ext ?_)
  match x with
  | ⟨0, _⟩ => rfl
  | ⟨1, _⟩ => show e.val + 1 * 0 = e.val; omega
  | ⟨2, _⟩ => show 0 + 1 * a.val = a.val; omega
  | ⟨3, _⟩ => show 0 + 1 * b.val = b.val; omega

theorem load_slotG (e : Fin 64) (s : Fin 2) (f) :
    gR.view.readAt (Elt F) (Rect.unit (s := S2x1024x256) (wsOff s) S1x1024x256.size (wgOff_inb s)).toLoadRect
      ((gSlot s).view.writes (Elt F) f [⟨Rect.whole S1024x256, wordsG c XG e⟩]) = exG c XG e := by
  funext y
  obtain ⟨a, b, rfl⟩ := idx_1ab y
  exact (load_slot (F := F) gR (wsOff s) (wgOff_inb s) squeezes_S1x1024x256_S1024x256 f (wordsG c XG e) a b).trans (words_ex gM e (egOff_inb e) squeezes_S1x1x1024x256_S1024x256 XG a b)
theorem load_slotU (e : Fin 64) (s : Fin 2) (f) :
    uR.view.readAt (Elt F) (Rect.unit (s := S2x1024x256) (wsOff s) S1x1024x256.size (wgOff_inb s)).toLoadRect
      ((uSlot s).view.writes (Elt F) f [⟨Rect.whole S1024x256, wordsU c XU e⟩]) = exU c XU e := by
  funext y
  obtain ⟨a, b, rfl⟩ := idx_1ab y
  exact (load_slot (F := F) uR (wsOff s) (wgOff_inb s) squeezes_S1x1024x256_S1024x256 f (wordsU c XU e) a b).trans (words_ex uM e (egOff_inb e) squeezes_S1x1x1024x256_S1024x256 XU a b)
theorem load_slotD (e : Fin 64) (s : Fin 2) (f) :
    dR.view.readAt (Elt F) (Rect.unit (s := S2x256x1024) (wsOff s) S1x256x1024.size (wdOff_inb s)).toLoadRect
      ((dSlot s).view.writes (Elt F) f [⟨Rect.whole S256x1024, wordsD c XD e⟩]) = exD c XD e := by
  funext y
  obtain ⟨a, b, rfl⟩ := idx_1ab y
  exact (load_slot (F := F) dR (wsOff s) (wdOff_inb s) squeezes_S1x256x1024_S256x1024 f (wordsD c XD e) a b).trans (words_ex dM e (edOff_inb e) squeezes_S1x1x256x1024_S256x1024 XD a b)
theorem load_slotX (b : Fin 328) (s : Fin 3) (f) :
    xR.view.readAt (Elt F) (Rect.unit (s := S3x512x512) (xsOff s) S1x512x512.size (xsOff_inb s)).toLoadRect
      ((xSlot s).view.writes (Elt F) f [⟨Rect.whole S512x512, wordsX c XX b⟩]) = exX c XX b := by
  funext y
  obtain ⟨p, q, rfl⟩ := idx_1ab y
  refine (load_slot (F := F) xR (xsOff s) (xsOff_inb s) squeezes_S1x512x512_S512x512 f (wordsX c XX b) p q).trans ?_
  refine congrArg XX (funext fun x => Fin.ext ?_)
  match x with
  | ⟨0, _⟩ => show 512 * b.val + 1 * p.val = 512 * b.val + p.val; omega
  | ⟨1, _⟩ => show 0 + 1 * q.val = q.val; omega

/-- The bookkeeping of the waits made so far. -/
abbrev OW : sProp (Mo F) := iprop(∃ W, owes (c : Thread nD τ) 0 W)

/-- The three buffers of rounded weights, at anything, and at expert `e`'s. -/
def S0 : sProp (Mo F) := iprop((∃ f, scrG c f) ∗ (∃ f, scrU c f) ∗ (∃ f, scrD c f))
def SC (e : Fin 64) : sProp (Mo F) :=
  iprop((∃ f, ⌜gS.view.read (Elt F) f = k0_pay5 (exG c XG e)⌝ ∗ scrG c f) ∗ (∃ f, ⌜uS.view.read (Elt F) f = k0_pay1 (exU c XU e)⌝ ∗ scrU c f)
    ∗ (∃ f, ⌜dS.view.read (Elt F) f = k0_pay2 (exD c XD e)⌝ ∗ scrD c f))

theorem waitW_run (e : Fin 64) (s : Fin 2) :
    iprop(OW c ∗ WF c XG XU XD e s ∗ S0 c) ⊢ wp frame (wpE (defs₀ (F := F)) 𝒱₀ (c : Thread nD τ) none) Set.univ (waitW e s)
      (fun _ => iprop(OW c ∗ WE c XG XU XD s ∗ SC c XG XU XD e)) := by
  unfold waitW waitWOf WF WE S0 flG flU flD restG restU restD wordsG wordsU wordsD gEx uEx dEx gExAt uExAt dExAt
  iintro ⟨⟨%W, HW⟩, ⟨⟨⟨%f1, H1⟩, ⟨%f2, H2⟩, %f3, H3⟩, H4, H5, H6⟩, ⟨%f4, H7⟩, ⟨%f5, H8⟩, %f6, H9⟩
  sl_exec
  sl_step
  isplitl [HW]
  · iexists _; iexact HW
  isplitl [H1 H2 H3 H4 H5 H6 H1_dst H2_dst H3_dst]
  · isplitl [H1_dst H2_dst H3_dst]
    · isplitl [H1_dst]
      · iexists _; iexact H1_dst
      isplitl [H2_dst]
      · iexists _; iexact H2_dst
      iexists _; iexact H3_dst
    isplitl [H1 H2 H3]
    · isplitl [H1]; · iexact H1
      isplitl [H2]; · iexact H2
      iexact H3
    isplitl [H4]; · iexact H4
    isplitl [H5]; · iexact H5
    iexact H6
  unfold SC
  isplitl [H7]
  · iexists _
    isplitr
    rotate_left
    · iexact H7
    · ipureintro
      refine (View.read_writes_full _ _ _ _ _).trans ?_
      exact congrArg k0_pay5 (load_slotG c XG e s _)
  isplitl [H8]
  · iexists _
    isplitr
    rotate_left
    · iexact H8
    · ipureintro
      refine (View.read_writes_full _ _ _ _ _).trans ?_
      exact congrArg k0_pay1 (load_slotU c XU e s _)
  · iexists _
    isplitr
    rotate_left
    · iexact H9
    · ipureintro
      refine (View.read_writes_full _ _ _ _ _).trans ?_
      exact congrArg k0_pay2 (load_slotD c XD e s _)

/-! ## A block's value, and the block's program -/

/-- What the kernel stores for block `b` of expert `e`, of whose rows `n` are used. -/
def blkVal (b : Fin 328) (e : Fin 64) (n : BitVec 32) : Vec F S512x512 .i32 :=
  k0_pay3 (k0_pay6 (exX c XX b) n (k0_pay5 (exG c XG e)) (k0_pay1 (exU c XU e))) (k0_pay2 (exD c XD e)) (constant S512x1024 .f32 0x00000000#32)

variable (q : PosShare TreeShare) (TN : Buf (Elt F) (nvM.view.loc (c : Thread nD τ)))

abbrev tabN : sProp (Mo F) := nvM.view.loc (c : Thread nD τ) ↦[nvM.view.set]{q} TN

/-- The staging buffer of the block, at anything, and at a value. -/
abbrev outP (o : Memref sig .tc .vmem S512x512 .i32) (f : Buf (Elt F) (o.view.loc (c : Thread nD τ))) : sProp (Mo F) := o.view.loc (c : Thread nD τ) ↦[o.view.set]{fullShare} f
abbrev outV (o : Memref sig .tc .vmem S512x512 .i32) (v : Vec F S512x512 .i32) : sProp (Mo F) := iprop(∃ f, ⌜o.view.read (Elt F) f = v⌝ ∗ outP c o f)

/-- The word of a table at an index. -/
theorem word_at {n : ℕ} (m : Memref sig .tc .smem ⟨1, ![n]⟩ .i32) (T : m.view.ty.Contents (Elt F)) (off : Fin 1 → ℕ) (k : ℕ) (hk : k < n) (ho : off = ![k])
    (inb : ∀ a, off a + S1.size a ≤ (⟨1, ![n]⟩ : Shape).size a) (x : S1.Idx) :
    m.view.readAt (Elt F) (Rect.unit (s := ⟨1, ![n]⟩) off S1.size inb).toLoadRect T x = m.view.read (Elt F) T (ix1 (⟨k, hk⟩ : Fin n)) := by
  subst ho
  refine congrArg (m.view.read (Elt F) T) (funext fun a => Fin.ext ?_)
  match a with
  | ⟨0, _⟩ =>
    have h : (x 0).val < 1 := (x 0).isLt
    show k + 1 * (x 0).val = k
    omega

theorem block_run (b : Fin 328) (s : Fin 3) (e : Fin 64) (o : Memref sig .tc .vmem S512x512 .i32) (fo) :
    iprop(OW c ∗ XF c XX b s ∗ SC c XG XU XD e ∗ tabN c q TN ∗ outP c o fo) ⊢ wp frame (wpE (defs₀ (F := F)) 𝒱₀ (c : Thread nD τ) none) Set.univ (block b s o)
      (fun _ => iprop(OW c ∗ XE c XX s ∗ SC c XG XU XD e ∗ tabN c q TN ∗ outV c o (blkVal c XX XG XU XD b e (TN (ix1 b))))) := by
  unfold block blockOf XF SC XE flX wordsX xBlk xBlkAt
  iintro ⟨⟨%W, HW⟩, ⟨⟨%f1, H1⟩, H2⟩, ⟨⟨%g, %hg, Hg⟩, ⟨%u, %hu, Hu⟩, %d, %hd, Hd⟩, HN, HO⟩
  sl_exec
  sl_step
  isplitl [HW]
  · iexists _; iexact HW
  isplitl [H1_dst H2 H1]
  · isplitl [H1_dst]
    · iexists _; iexact H1_dst
    isplitl [H1]; · iexact H1
    iexact H2
  isplitl [Hg Hu Hd]
  · isplitl [Hg]
    · iexists g; isplitr; · ipureintro; exact hg
      iexact Hg
    isplitl [Hu]
    · iexists u; isplitr; · ipureintro; exact hu
      iexact Hu
    iexists d; isplitr; · ipureintro; exact hd
    iexact Hd
  isplitl [HN]; · iexact HN
  iexists _
  isplitr
  rotate_left
  · iexact HO
  · ipureintro
    refine (View.read_writes_full _ _ _ _ _).trans ?_
    unfold blkVal
    rw [View.readAt_full, View.readAt_full, View.readAt_full, hg, hu, hd,
      show block_run.sl.v35 c XX b s = exX c XX b from load_slotX c XX b s _, show block_run.sl.r c TN b = TN (ix1 b) from word_at nvM TN _ b.val b.isLt rfl _ _]

theorem zeroBlock_run (o : Memref sig .tc .vmem S512x512 .i32) (fo) :
    iprop(outP c o fo) ⊢ wp frame (wpE (defs₀ (F := F)) 𝒱₀ (c : Thread nD τ) none) Set.univ (zeroBlock o) (fun _ => outV c o k0_pay4) := by
  unfold zeroBlock
  iintro HO
  sl_exec
  sl_step
  iexists _
  isplitr
  rotate_left
  · iexact HO
  · ipureintro
    exact View.read_writes_full _ _ _ _ _

end Pieces

end Cert.Proof.Experts

end
-- ==== Proof.ExpertsWords.lean ====
/-
  The words the routed experts' kernel reads, as numbers: its conditions, its offsets and its side conditions at
  words below 2 ^ 31, and what the precondition says of its five tables.
-/
module

public import proofs.«01_k».proof.Proof.ExpertsCopies

@[expose] public section

set_option maxRecDepth 16384

noncomputable section

namespace Cert.Proof.Experts

open Cert.Kernel2 Cert.Kernel2.Gen
open Idealize.ShloMosaic
open Idealize.ShloMosaic.ValueIdx (ix1 ix2 ix3 ix4)

/-! ## Comparisons and arithmetic of small words -/

theorem flag_iff (b : BitVec 1) : Scalar.cmpi .ne (Scalar.extui b) 0#32 = 1#1 ↔ b = 1#1 := by
  revert b; decide

theorem bool_iff (b : Bool) : BitVec.ofBool b = 1#1 ↔ b = true := by revert b; decide

theorem slt_iff {a b : BitVec 32} (ha : a.toNat < 2 ^ 31) (hb : b.toNat < 2 ^ 31) : Scalar.cmpi .slt a b = 1#1 ↔ a.toNat < b.toNat := by
  show BitVec.ofBool (a.slt b) = 1#1 ↔ _
  rw [bool_iff, BitVec.slt_eq_decide, decide_eq_true_eq, BitVec.toInt_eq_toNat_of_lt (by omega), BitVec.toInt_eq_toNat_of_lt (by omega)]
  omega

theorem sgt_iff {a b : BitVec 32} (ha : a.toNat < 2 ^ 31) (hb : b.toNat < 2 ^ 31) : Scalar.cmpi .sgt a b = 1#1 ↔ b.toNat < a.toNat :=
  slt_iff hb ha

theorem sge_iff {a b : BitVec 32} (ha : a.toNat < 2 ^ 31) (hb : b.toNat < 2 ^ 31) : Scalar.cmpi .sge a b = 1#1 ↔ b.toNat ≤ a.toNat := by
  show BitVec.ofBool (b.sle a) = 1#1 ↔ _
  rw [bool_iff, BitVec.sle_eq_decide, decide_eq_true_eq, BitVec.toInt_eq_toNat_of_lt (by omega), BitVec.toInt_eq_toNat_of_lt (by omega)]
  omega

theorem eq_iff {a b : BitVec 32} : Scalar.cmpi .eq a b = 1#1 ↔ a = b := by
  show BitVec.ofBool (a == b) = 1#1 ↔ _
  rw [bool_iff, beq_iff_eq]

theorem andi_iff (a b : BitVec 1) : Scalar.andi a b = 1#1 ↔ a = 1#1 ∧ b = 1#1 := by revert a b; decide

theorem add2 {w : BitVec 32} (h : w.toNat < 2 ^ 31 - 2) : (Scalar.addi w 2#32).toNat = w.toNat + 2 := by
  show (w + 2#32).toNat = _
  rw [BitVec.toNat_add]; show (w.toNat + 2) % 2 ^ 32 = _; omega

theorem rem2 {w : BitVec 32} (h : w.toNat < 2 ^ 31) : (Scalar.remsi w 2#32).toNat = w.toNat % 2 := by
  have e : Scalar.remsi w 2#32 = w.srem 2#32 := by
    unfold Scalar.remsi IntOp.remsi
    rw [if_neg]
    rintro (h | ⟨-, h⟩) <;> exact absurd h (by decide)
  rw [e, BitVec.srem_eq, show w.msb = false from by rw [BitVec.msb_eq_false_iff_two_mul_lt]; omega, show (2#32).msb = false from rfl]
  show (w % 2#32).toNat = _
  rw [BitVec.toNat_umod]; rfl

theorem mul512 {w : BitVec 32} (h : w.toNat < 2 ^ 22) : (Scalar.muli w 512#32).toNat = 512 * w.toNat := by
  show (w * 512#32).toNat = _
  rw [BitVec.toNat_mul]; show (w.toNat * 512) % 2 ^ 32 = _; omega

/-! ## The grid's point, and the conditions -/

section Conds
variable (i : grid0.Coords)

theorem pt_lt : (i 0).val < 328 := (i 0).isLt
theorem pt_toNat : (BitVec.ofNat 32 (i 0).val).toNat = (i 0).val := by
  have := pt_lt i; rw [BitVec.toNat_ofNat]; omega

theorem cond1_iff : k0_cond1 i = 1#1 ↔ (i 0).val = 0 := by
  refine (flag_iff _).trans (eq_iff.trans ?_)
  rw [← BitVec.toNat_inj, pt_toNat]; rfl
theorem cond4_iff : k0_cond4 i = 1#1 ↔ (i 0).val = 0 := cond1_iff i
theorem cond2_iff {w : BitVec 32} (h : w.toNat < 2 ^ 31) : k0_cond2 w = 1#1 ↔ 0 < w.toNat := (flag_iff _).trans (sgt_iff h (by decide))
theorem cond3_iff {w : BitVec 32} (h : w.toNat < 2 ^ 31) : k0_cond3 w = 1#1 ↔ 1 < w.toNat := (flag_iff _).trans (sgt_iff h (by decide))
theorem cond7_iff {w : BitVec 32} (h : w.toNat < 2 ^ 31) : k0_cond7 i w = 1#1 ↔ (i 0).val + 2 < w.toNat := by
  have e := pt_toNat i
  have l := pt_lt i
  have e2 := add2 (w := BitVec.ofNat 32 (i 0).val) (by omega)
  refine (flag_iff _).trans ((slt_iff (by rw [e2]; omega) h).trans ?_)
  rw [e2, e]
theorem cond8_iff {w v : BitVec 32} (h : w.toNat < 2 ^ 31) : k0_cond8 i w v = 1#1 ↔ (i 0).val < w.toNat ∧ v = 1#32 := by
  have e := pt_toNat i
  have l := pt_lt i
  refine (flag_iff _).trans ((andi_iff _ _).trans (and_congr ((slt_iff (by omega) h).trans ?_) eq_iff))
  rw [e]
theorem cond9_iff {w v : BitVec 32} (h : w.toNat < 2 ^ 31) (hv : v.toNat < 2 ^ 30) : k0_cond9 w v = 1#1 ↔ v.toNat + 2 < w.toNat := by
  have e2 := add2 (w := v) (by omega)
  refine (flag_iff _).trans ((slt_iff (by rw [e2]; omega) h).trans ?_)
  rw [e2]
theorem cond10_iff {w : BitVec 32} (h : w.toNat < 2 ^ 31) : k0_cond10 i w = 1#1 ↔ (i 0).val < w.toNat := by
  have e := pt_toNat i
  have l := pt_lt i
  refine (flag_iff _).trans ((slt_iff (by omega) h).trans ?_)
  rw [e]
theorem cond11_iff {w : BitVec 32} (h : w.toNat < 2 ^ 31) : k0_cond11 i w = 1#1 ↔ w.toNat ≤ (i 0).val := by
  have e := pt_toNat i
  have l := pt_lt i
  refine (flag_iff _).trans ((sge_iff (by omega) h).trans ?_)
  rw [e]
theorem sgt0_iff {w : BitVec 32} (h : w.toNat < 2 ^ 31) : Scalar.cmpi .ne (Scalar.extui (Scalar.cmpi .sgt w 0#32) : BitVec 32) 0#32 = 1#1 ↔ 0 < w.toNat := cond2_iff h
theorem sgt1_iff {w : BitVec 32} (h : w.toNat < 2 ^ 31) : Scalar.cmpi .ne (Scalar.extui (Scalar.cmpi .sgt w 1#32) : BitVec 32) 0#32 = 1#1 ↔ 1 < w.toNat := cond3_iff h

/-! ## Offsets the kernel computes -/

theorem off23_val : k0_off23 i = ![512 * ((i 0).val + 2), 0] := by
  have e := pt_toNat i
  have l := pt_lt i
  have e2 := add2 (w := BitVec.ofNat 32 (i 0).val) (by omega)
  have e3 := mul512 (w := Scalar.addi (BitVec.ofNat 32 (i 0).val) 2#32) (by rw [e2]; omega)
  show ![(Scalar.muli (Scalar.addi (BitVec.ofNat 32 (i 0).val) 2#32) 512#32).toNat, 0] = _
  rw [e3, e2, e]

end Conds

/-- The slot of the `k`-th expert in use, and of a block of rows. -/
abbrev slW (k : ℕ) : Fin 2 := ⟨k % 2, Nat.mod_lt _ (by decide)⟩
abbrev slX (b : ℕ) : Fin 3 := ⟨b % 3, Nat.mod_lt _ (by decide)⟩

section Offs
variable {v : BitVec 32} (h : v.toNat < 64)
include h

theorem ws_at : (![(Scalar.remsi v 2#32).toNat, 0, 0] : Fin 3 → ℕ) = wsOff (slW v.toNat) := by
  rw [rem2 (by omega)]
theorem wc_at (j : Fin 3) : (![(Scalar.remsi v 2#32).toNat, j.val] : Fin 2 → ℕ) = wcOff (slW v.toNat) j := by
  rw [rem2 (by omega)]
theorem ws_at2 : (![(Scalar.remsi (Scalar.addi v 2#32) 2#32).toNat, 0, 0] : Fin 3 → ℕ) = wsOff (slW (v.toNat + 2)) := by
  have e2 := add2 (w := v) (by omega)
  rw [rem2 (by omega), e2]
theorem wc_at2 (j : Fin 3) : (![(Scalar.remsi (Scalar.addi v 2#32) 2#32).toNat, j.val] : Fin 2 → ℕ) = wcOff (slW (v.toNat + 2)) j := by
  have e2 := add2 (w := v) (by omega)
  rw [rem2 (by omega), e2]

theorem off37_val : k0_off37 v = ![v.toNat + 2] := by
  show ![(Scalar.addi v 2#32).toNat] = _
  rw [add2 (by omega)]

end Offs

/-! ## The side conditions -/

theorem inb_of_eq {n : ℕ} {o o' : Fin n → ℕ} {a b : Fin n → ℕ} (e : o = o') (h : ∀ x, o' x + a x ≤ b x) : ∀ x, o x + a x ≤ b x := e ▸ h

theorem off64_inb {k : ℕ} (h : k < 64) : ∀ a, (![k] : Fin 1 → ℕ) a + S1.size a ≤ S64.size a := by
  intro a; fin_cases a; show k + 1 ≤ 64; omega

theorem chk1_of (i) (v1) {v : BitVec 32} (h : v.toNat < 64) : k0_chk1 i v1 v :=
  ⟨fun _ _ => egOff_inb ⟨v.toNat, h⟩, fun _ _ => edOff_inb ⟨v.toNat, h⟩⟩
theorem chk2_of (i) (v1) {v : BitVec 32} (h : v.toNat < 64) : k0_chk2 i v1 v :=
  ⟨fun _ _ => egOff_inb ⟨v.toNat, h⟩, fun _ _ => edOff_inb ⟨v.toNat, h⟩⟩
theorem chk3_of (i) {v0 : BitVec 32} (h : v0.toNat ≤ 328) : k0_chk3 i v0 := fun h7 =>
  have h' := (cond7_iff i (by omega)).mp h7
  inb_of_eq (off23_val i) (bkOff_inb ⟨(i 0).val + 2, by omega⟩)
theorem chk4_of (i) (v0) {v1 : BitVec 32} (v14) {v : BitVec 32} (h1 : v1.toNat ≤ 64) (h : v.toNat < 64) : k0_chk4 i v0 v1 v14 v :=
  ⟨fun _ => off64_inb h, fun _ => inb_of_eq (wc_at h 0) (wcOff_inb _ _), fun _ => inb_of_eq (ws_at h) (wgOff_inb _),
    fun _ => inb_of_eq (wc_at h 1) (wcOff_inb _ _), fun _ => inb_of_eq (ws_at h) (wgOff_inb _),
    fun _ => inb_of_eq (wc_at h 2) (wcOff_inb _ _), fun _ => inb_of_eq (ws_at h) (wdOff_inb _),
    fun _ => inb_of_eq (ws_at h) (wgOff_inb _), fun _ => inb_of_eq (ws_at h) (wdOff_inb _),
    fun _ h9 => have h' := (cond9_iff (w := v1) (by omega) (by omega)).mp h9; inb_of_eq (off37_val h) (off64_inb (by omega)),
    fun _ _ => inb_of_eq (wc_at2 h 0) (wcOff_inb _ _), fun _ _ => inb_of_eq (ws_at2 h) (wgOff_inb _),
    fun _ _ => inb_of_eq (wc_at2 h 1) (wcOff_inb _ _), fun _ _ => inb_of_eq (ws_at2 h) (wgOff_inb _),
    fun _ _ => inb_of_eq (wc_at2 h 2) (wcOff_inb _ _), fun _ _ => inb_of_eq (ws_at2 h) (wdOff_inb _)⟩
theorem chk5_of (i) (v0 v14) {v : BitVec 32} (h : v.toNat < 64) : k0_chk5 i v0 v14 v :=
  ⟨fun _ => egOff_inb ⟨v.toNat, h⟩, fun _ => edOff_inb ⟨v.toNat, h⟩⟩
theorem chk6_of (i) (v0 v1 v14 v26) {v : BitVec 32} (h : v.toNat < 64) : k0_chk6 i v0 v1 v14 v26 v :=
  ⟨fun _ _ => egOff_inb ⟨v.toNat, h⟩, fun _ _ => edOff_inb ⟨v.toNat, h⟩⟩

/-! ## The tables -/

/-- What the precondition says of the tables: how many blocks and experts are in use, which blocks begin an expert,
    and the running number of the expert at each block. -/
structure Fits (TW TO : S328.Idx → BitVec 32) (TE : S64.Idx → BitVec 32) (TC : S2.Idx → BitVec 32) : Prop where
  u1 : 1 ≤ (TC (ix1 0)).toNat
  u2 : (TC (ix1 0)).toNat ≤ 328
  n64 : (TC (ix1 1)).toNat ≤ 64
  nw : ∀ p : Fin 328, TW (ix1 p) = 0#32 ∨ TW (ix1 p) = 1#32
  nw0 : TW (ix1 (⟨0, by decide⟩ : Fin 328)) = 1#32
  od0 : (TO (ix1 (⟨0, by decide⟩ : Fin 328))).toNat = 0
  odS : ∀ (p : ℕ) (h : p + 1 < 328), (TO (ix1 (⟨p + 1, h⟩ : Fin 328))).toNat
    = (TO (ix1 (⟨p, by omega⟩ : Fin 328))).toNat + (TW (ix1 (⟨p + 1, h⟩ : Fin 328))).toNat
  last : ∀ p : Fin 328, p.val + 1 = (TC (ix1 0)).toNat → (TO (ix1 p)).toNat + 1 = (TC (ix1 1)).toNat
  eo : ∀ k : Fin 64, (TE (ix1 k)).toNat < 64

section Tabs
variable (TW TO : S328.Idx → BitVec 32) (TE : S64.Idx → BitVec 32) (TC : S2.Idx → BitVec 32)

/-- How many blocks, and how many experts, are in use. -/
def nU : ℕ := (TC (ix1 0)).toNat
def nO : ℕ := (TC (ix1 1)).toNat
/-- The running number of the expert at block `p`. -/
def od (p : ℕ) : ℕ := if h : p < 328 then (TO (ix1 (⟨p, h⟩ : Fin 328))).toNat else 0
/-- The `k`-th expert in use. -/
def ex (k : ℕ) : Fin 64 := if h : k < 64 then ⟨(TE (ix1 (⟨k, h⟩ : Fin 64))).toNat % 64, Nat.mod_lt _ (by decide)⟩ else 0
/-- How many experts have been taken up before block `p`. -/
def nK (p : ℕ) : ℕ := if p = 0 then 0 else od TO (min p (nU TC) - 1) + 1

theorem od_eq {p : ℕ} (h : p < 328) : od TO p = (TO (ix1 (⟨p, h⟩ : Fin 328))).toNat := dif_pos h

variable {TW TO TE TC} (ft : Fits TW TO TE TC)
include ft

theorem ex_val {k : ℕ} (h : k < 64) : (TE (ix1 (⟨k, h⟩ : Fin 64))).toNat = (ex TE k).val := by
  unfold ex; rw [dif_pos h]; exact (Nat.mod_eq_of_lt (ft.eo _)).symm

theorem od_succ {p : ℕ} (h : p + 1 < 328) : od TO (p + 1) = od TO p + (TW (ix1 (⟨p + 1, h⟩ : Fin 328))).toNat := by
  rw [od_eq TO h, od_eq TO (by omega), ft.odS p h]

theorem od_mono {p q : ℕ} (h : p ≤ q) (hq : q < 328) : od TO p ≤ od TO q := by
  induction q with
  | zero => rw [Nat.le_zero.mp h]
  | succ q ih =>
    rcases Nat.lt_or_ge q p with h' | h'
    · rw [show p = q + 1 by omega]
    · have := ih h' (by omega)
      have := od_succ ft hq
      omega

theorem od_lt {p : ℕ} (h : p < nU TC) : od TO p < nO TC := by
  have h2 : nU TC ≤ 328 := ft.u2
  have e : (TO (ix1 (⟨nU TC - 1, by omega⟩ : Fin 328))).toNat + 1 = nO TC := ft.last ⟨nU TC - 1, by omega⟩ (by show nU TC - 1 + 1 = nU TC; omega)
  have m := od_mono ft (p := p) (q := nU TC - 1) (by omega) (by omega)
  rw [od_eq TO (p := nU TC - 1) (by omega)] at m
  omega

theorem nK_zero : nK TO TC 0 = 0 := if_pos rfl
theorem nK_pos {p : ℕ} (h : 0 < p) : 0 < nK TO TC p := by unfold nK; rw [if_neg (by omega)]; omega
theorem nK_le (p : ℕ) : nK TO TC p ≤ nO TC := by
  have h1 : 1 ≤ nU TC := ft.u1
  unfold nK; split
  · exact Nat.zero_le _
  · exact od_lt ft (by omega)
theorem nK_succ_used {p : ℕ} (h : p < nU TC) : nK TO TC (p + 1) = od TO p + 1 := by
  unfold nK; rw [if_neg (by omega), show min (p + 1) (nU TC) - 1 = p by omega]
theorem nK_new {p : ℕ} (h : p < nU TC) (hp : p < 328) (hn : TW (ix1 (⟨p, hp⟩ : Fin 328)) = 1#32) : nK TO TC p = od TO p := by
  cases p with
  | zero => rw [nK_zero ft, od_eq TO hp, ft.od0]
  | succ p => rw [nK_succ_used ft (by omega), od_succ ft hp, hn]; rfl
theorem nK_old {p : ℕ} (h : p < nU TC) (hp : p < 328) (hn : TW (ix1 (⟨p, hp⟩ : Fin 328)) ≠ 1#32) : 0 < p ∧ nK TO TC (p + 1) = nK TO TC p := by
  cases p with
  | zero => exact absurd ft.nw0 hn
  | succ p =>
    refine ⟨by omega, ?_⟩
    rw [nK_succ_used ft (p := p) (by omega), nK_succ_used ft h, od_succ ft hp, (ft.nw _).resolve_right hn]; rfl
theorem nK_end {p : ℕ} (h : nU TC ≤ p) : nK TO TC p = nO TC := by
  have h1 : 1 ≤ nU TC := ft.u1
  have h2 : nU TC ≤ 328 := ft.u2
  have e : (TO (ix1 (⟨nU TC - 1, by omega⟩ : Fin 328))).toNat + 1 = nO TC := ft.last ⟨nU TC - 1, by omega⟩ (by show nU TC - 1 + 1 = nU TC; omega)
  unfold nK; rw [if_neg (by omega), show min p (nU TC) - 1 = nU TC - 1 by omega, od_eq TO (p := nU TC - 1) (by omega)]
  exact e

end Tabs

end Cert.Proof.Experts

end
-- ==== Proof.ExpertsFit.lean ====
/-
  The precondition read: the printed predicate of the tables, all ones, says what the proof needs of the tables' words.
-/
module

public import proofs.«01_k».proof.Defs
public import proofs.«01_k».proof.Proof.Gen.Pre_tables_fit
public import proofs.«01_k».proof.Proof.ExpertsWords
public import Idealize.ShloMosaic.Lib.StableHlo.Predicate
public import Idealize.ShloMosaic.Lib.Pipeline.Value

@[expose] public section

set_option maxRecDepth 16384

noncomputable section

namespace Cert.Proof.Experts

open Idealize.ShloMosaic
open Idealize.ShloMosaic.ValueIdx (ix1)
open Cert.Pre_tables_fit Cert.Pre_tables_fit.Facts

/-- All ones, each piece of a concatenation of masks is all ones. -/
theorem piece {N n : ℕ} {xs : List ((s : Shape) × (s.Idx → BitVec 1))} {h : Shape.Concatenates (xs.map (·.1)) ⟨1, ![N]⟩ 0}
    (e : concatenate ⟨1, ![N]⟩ 0 xs h = fun _ => 1#1) (k : ℕ) (hk : k < xs.length) (x : (⟨1, ![n]⟩ : Shape).Idx → BitVec 1) (hx : xs[k] = ⟨⟨1, ![n]⟩, x⟩)
    (pre : ℕ) (hpre : (((xs.take k).map (·.1)).map fun s => if h : s.rank = 1 then s.size ((0 : Fin 1).cast h.symm) else 0).sum = pre)
    (hb : pre + n ≤ N) (p : Fin n) : x (ix1 p) = 1#1 := by
  have := concatenate_apply_piece (t := ⟨1, ![N]⟩) 0 xs h (ix1 (⟨pre + p.val, by omega⟩ : Fin N)) k hk ⟨1, ![n]⟩ x hx rfl pre hpre (ix1 p)
    (fun b hb => absurd (Subsingleton.elim _ _) hb) rfl
  rw [← this, e]

theorem or_one {a b : BitVec 1} (h : IntOp.ori a b = 1#1) : a = 1#1 ∨ b = 1#1 := by
  revert h; revert a b; decide

theorem slice_at {N n : ℕ} (o : ℕ) (x : IVec ⟨1, ![N]⟩ 32) (h : (⟨1, ![N]⟩ : Shape).Slices ![o] ⟨1, ![n]⟩) (p : Fin n) (hb : o + p.val < N) :
    extractStridedSlice ⟨1, ![n]⟩ ![o] x h (ix1 p) = x (ix1 ⟨o + p.val, hb⟩) := by
  unfold extractStridedSlice
  congr 1
  funext b
  obtain rfl : b = 0 := Subsingleton.elim _ _
  exact Fin.ext rfl

theorem one_idx (y : S1.Idx) : y = ix1 0 := by
  funext b
  obtain rfl : b = 0 := Subsingleton.elim _ _
  exact Fin.ext (Nat.lt_one_iff.1 (y 0).isLt)

/-- A word of the pair of counts, as the predicate reads it. -/
theorem count_at (x : IVec S2 32) (o : Fin 2) (h : S2.Slices ![o.val] S1) (h' : S1.ShapeCasts S_) (z : S_.Idx) :
    shapeCast S_ (extractStridedSlice S1 ![o.val] x h) h' z = x (ix1 o) := by
  exact (congrArg (extractStridedSlice S1 ![o.val] x h) (one_idx _)).trans (slice_at o.val x h 0 (by have := o.isLt; show o.val + 0 < 2; omega))

variable (x0 : IVec S167936x512 32) (TN TW TO : IVec S328 32) (TE : IVec S64 32) (TC : IVec S2 32)
  (x6 x7 : FVec Bits S2x64x1024x256 .f32) (x8 : FVec Bits S2x64x256x1024 .f32)

theorem words_of (h : Cert.Pre_tables_fit.fn (F := Bits) x0 TN TW TO TE TC x6 x7 x8 = fun _ => 1#1) :
    IntOp.cmpi .sge (TC (ix1 0)) 1#32 = 1#1 ∧ IntOp.cmpi .sle (TC (ix1 0)) 328#32 = 1#1 ∧ IntOp.cmpi .sle (TC (ix1 1)) 64#32 = 1#1
    ∧ (∀ p : Fin 328, TW (ix1 p) = 0#32 ∨ TW (ix1 p) = 1#32) ∧ TW (ix1 (⟨0, by decide⟩ : Fin 328)) = 1#32 ∧ TO (ix1 (⟨0, by decide⟩ : Fin 328)) = 0#32
    ∧ (∀ (p : ℕ) (hp : p + 1 < 328), TO (ix1 (⟨p + 1, hp⟩ : Fin 328)) = TO (ix1 (⟨p, by omega⟩ : Fin 328)) + TW (ix1 (⟨p + 1, hp⟩ : Fin 328)))
    ∧ (∀ p : Fin 328, IntOp.cmpi .ne (BitVec.ofNat 32 p.val) (TC (ix1 0) - 1#32) = 1#1 ∨ TO (ix1 p) + 1#32 = TC (ix1 1))
    ∧ (∀ k : Fin 64, IntOp.cmpi .sge (TE (ix1 k)) 0#32 = 1#1 ∧ IntOp.cmpi .slt (TE (ix1 k)) 64#32 = 1#1) := by
  unfold Cert.Pre_tables_fit.fn Cert.Pre_tables_fit.fn_part1 Cert.Pre_tables_fit.fn_part2 at h
  dsimp only at h
  have p0 := piece h 0 (show 0 < 10 by decide) _ rfl 0 rfl (by decide) (0 : Fin 1)
  have p1 := piece h 1 (show 1 < 10 by decide) _ rfl 1 rfl (by decide) (0 : Fin 1)
  have p2 := piece h 2 (show 2 < 10 by decide) _ rfl 2 rfl (by decide) (0 : Fin 1)
  have p3 := piece h 3 (show 3 < 10 by decide) _ rfl 3 rfl (by decide)
  have p4 := piece h 4 (show 4 < 10 by decide) _ rfl 331 rfl (by decide) (0 : Fin 1)
  have p5 := piece h 5 (show 5 < 10 by decide) _ rfl 332 rfl (by decide) (0 : Fin 1)
  have p6 := piece h 6 (show 6 < 10 by decide) _ rfl 333 rfl (by decide)
  have p7 := piece h 7 (show 7 < 10 by decide) _ rfl 660 rfl (by decide)
  have p8 := piece h 8 (show 8 < 10 by decide) _ rfl 988 rfl (by decide)
  have p9 := piece h 9 (show 9 < 10 by decide) _ rfl 1052 rfl (by decide)
  refine ⟨?_, ?_, ?_, fun p => ?_, ?_, ?_, fun p hp => ?_, fun p => ?_, fun k => ⟨p8 k, p9 k⟩⟩
  · have e := slice_at 0 TC slices_S2_S1_0 (0 : Fin 1) (by decide)
    exact (congrArg (fun w => IntOp.cmpi .sge w 1#32) e).symm.trans p0
  · have e := slice_at 0 TC slices_S2_S1_0 (0 : Fin 1) (by decide)
    exact (congrArg (fun w => IntOp.cmpi .sle w 328#32) e).symm.trans p1
  · have e := slice_at 1 TC slices_S2_S1_1 (0 : Fin 1) (by decide)
    exact (congrArg (fun w => IntOp.cmpi .sle w 64#32) e).symm.trans p2
  · rcases or_one (p3 p) with h | h
    · exact .inl (StableHlo.Predicate.cmpi_eq_iff.1 h)
    · exact .inr (StableHlo.Predicate.cmpi_eq_iff.1 h)
  · have e := slice_at 0 TW slices_S328_S1_0 (0 : Fin 1) (by decide)
    exact e.symm.trans (StableHlo.Predicate.cmpi_eq_iff.1 p4)
  · have e := slice_at 0 TO slices_S328_S1_0 (0 : Fin 1) (by decide)
    exact e.symm.trans (StableHlo.Predicate.cmpi_eq_iff.1 p5)
  · have e1 := slice_at 1 TO slices_S328_S327_1 (⟨p, by omega⟩ : Fin 327) (by show 1 + p < 328; omega)
    have e2 := slice_at 0 TO slices_S328_S327_0 (⟨p, by omega⟩ : Fin 327) (by show 0 + p < 328; omega)
    have e3 := slice_at 1 TW slices_S328_S327_1 (⟨p, by omega⟩ : Fin 327) (by show 1 + p < 328; omega)
    have e := e1.symm.trans ((StableHlo.Predicate.cmpi_eq_iff.1 (p6 ⟨p, by omega⟩)).trans (congrArg₂ (· + ·) e2 e3))
    simp only [Nat.add_comm 1 p, Nat.zero_add] at e
    exact e
  · rcases or_one (p7 p) with h | h
    · refine .inl (Eq.trans ?_ h)
      exact (congrArg (fun w => IntOp.cmpi .ne (BitVec.ofNat 32 p.val) (w - 1#32)) (count_at TC 0 slices_S2_S1_0 shapeCasts_S1_S_ _)).symm
    · refine .inr ((StableHlo.Predicate.cmpi_eq_iff.1 h).trans ?_)
      exact count_at TC 1 slices_S2_S1_1 shapeCasts_S1_S_ _

/-- So the tables fit. -/
theorem fits_of (h : Cert.Pre_tables_fit.fn (F := Bits) x0 TN TW TO TE TC x6 x7 x8 = fun _ => 1#1) : Fits TW TO TE TC := by
  obtain ⟨h1, h2, h3, h4, h5, h6, h7, h8, h9⟩ := words_of x0 TN TW TO TE TC x6 x7 x8 h
  have n0 : (TO (ix1 (⟨0, by decide⟩ : Fin 328))).toNat = 0 := by rw [h6]; rfl
  have nb : ∀ p : Fin 328, (TW (ix1 p)).toNat ≤ 1 := fun p => by rcases h4 p with h | h <;> rw [h] <;> decide
  have nu : 1 ≤ (TC (ix1 0)).toNat ∧ (TC (ix1 0)).toNat ≤ 328 := by
    generalize TC (ix1 0) = w at h1 h2
    simp only [IntOp.cmpi, BitVec.sle, StableHlo.Predicate.ofBool_eq_one_iff, decide_eq_true_eq] at h1 h2
    have e1 : (1#32 : BitVec 32).toInt = 1 := by decide
    have e2 : (328#32 : BitVec 32).toInt = 328 := by decide
    rw [e1] at h1; rw [e2] at h2
    rw [BitVec.toInt_eq_toNat_cond] at h1 h2
    have := w.isLt
    split at h1 <;> omega
  have le : ∀ (p : ℕ) (hp : p < 328), (TO (ix1 (⟨p, hp⟩ : Fin 328))).toNat ≤ p := by
    intro p
    induction p with
    | zero => intro _; exact n0.le
    | succ p ih =>
      intro hp
      have a := ih (by omega)
      have b := nb ⟨p + 1, hp⟩
      rw [h7 p hp, BitVec.toNat_add]
      omega
  have step : ∀ (p : ℕ) (hp : p + 1 < 328), (TO (ix1 (⟨p + 1, hp⟩ : Fin 328))).toNat
      = (TO (ix1 (⟨p, by omega⟩ : Fin 328))).toNat + (TW (ix1 (⟨p + 1, hp⟩ : Fin 328))).toNat := by
    intro p hp
    have a := le p (by omega)
    have b := nb ⟨p + 1, hp⟩
    rw [h7 p hp, BitVec.toNat_add]
    omega
  have last : ∀ p : Fin 328, p.val + 1 = (TC (ix1 0)).toNat → (TO (ix1 p)).toNat + 1 = (TC (ix1 1)).toNat := by
    intro p hp
    have a := le p.val p.isLt
    rcases h8 p with h | h
    · exfalso
      have e : TC (ix1 0) - 1#32 = BitVec.ofNat 32 p.val := by
        apply BitVec.eq_of_toNat_eq
        rw [BitVec.toNat_sub, BitVec.toNat_ofNat, ← hp]
        have := p.isLt
        simp only [BitVec.toNat_ofNat]
        omega
      rw [e] at h
      revert h
      simp [IntOp.cmpi]
    · rw [← h, BitVec.toNat_add]
      have := p.isLt
      simp only [BitVec.toNat_ofNat]
      have a' : (TO (ix1 p)).toNat ≤ p.val := a
      omega
  have n64 : (TC (ix1 1)).toNat ≤ 64 := by
    have a := last ⟨(TC (ix1 0)).toNat - 1, by omega⟩ (by show (TC (ix1 0)).toNat - 1 + 1 = _; omega)
    have b := le ((TC (ix1 0)).toNat - 1) (by omega)
    exact (StableHlo.Predicate.sle_iff_toNat (by omega) (by decide)).1 h3
  have eo : ∀ k : Fin 64, (TE (ix1 k)).toNat < 64 := by
    intro k
    obtain ⟨a, b⟩ := h9 k
    generalize TE (ix1 k) = w at a b
    simp only [IntOp.cmpi, BitVec.sle, BitVec.slt, StableHlo.Predicate.ofBool_eq_one_iff, decide_eq_true_eq] at a b
    have e1 : (0#32 : BitVec 32).toInt = 0 := by decide
    have e2 : (64#32 : BitVec 32).toInt = 64 := by decide
    rw [e1] at a; rw [e2] at b
    rw [BitVec.toInt_eq_toNat_cond] at a b
    have := w.isLt
    split at a <;> omega
  exact ⟨nu.1, nu.2, n64, h4, h5, n0, step, last, eo⟩

end Cert.Proof.Experts

end
-- ==== Proof.ExpertsPhases.lean ====
/-
  The phases of the routed experts' kernel at one grid point, run on the state the loop carries: three row slots, two
  weight slots and the rounded weights of the expert in hand. Before block `p` the copies of blocks `p` and `p + 1`
  are in flight as far as they are used, and so are those of the experts number `nK p` and `nK p + 1`; at a point past
  the last used block everything is at rest.
-/
module

public import proofs.«01_k».proof.Proof.ExpertsWords

@[expose] public section

set_option maxRecDepth 16384

noncomputable section

namespace Cert.Proof.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf UD)

variable {F : FTy → Type} [BitOps F]

/-! ## Running a program in steps -/

section Steps
variable (c : Dev nD)

/-- What a program run on core `c` leaves. -/
abbrev Wp {α : Type} (p : Pg F α) (Q : α → sProp (Mo F)) : sProp (Mo F) := wp frame (wpE (defs₀ (F := F)) 𝒱₀ (c : Thread nD τ) none) Set.univ p Q

variable {c}

theorem run_seq {α β : Type} {A B R : sProp (Mo F)} {p : Pg F α} {f : α → Pg F β} {Q : β → sProp (Mo F)}
    (h1 : A ⊢ Wp c p (fun _ => B)) (h2 : ∀ a, iprop(B ∗ R) ⊢ Wp c (f a) Q) : iprop(A ∗ R) ⊢ Wp c (p >>= f) Q := by
  unfold Wp
  rw [wp_bind]
  exact (sep_mono_left h1).trans ((wp_frame_r _ _ _).trans (wp_mono _ _ _ h2))

/-- The same, of a program that is another one by its equal offsets, with the entry reordered. -/
theorem run_as {α β : Type} {A A' B R : sProp (Mo F)} {p p' : Pg F α} {f : α → Pg F β} {Q : β → sProp (Mo F)}
    (e : p = p') (h1 : A ⊢ Wp c p' (fun _ => B)) (h0 : A' ⊢ iprop(A ∗ R)) (h2 : ∀ a, iprop(B ∗ R) ⊢ Wp c (f a) Q) : A' ⊢ Wp c (p >>= f) Q :=
  h0.trans (run_seq (e ▸ h1) h2)

theorem run_frame {α : Type} {A B R : sProp (Mo F)} {p : Pg F α} (h : A ⊢ Wp c p (fun _ => B)) : iprop(A ∗ R) ⊢ Wp c p (fun _ => iprop(B ∗ R)) :=
  (sep_mono_left h).trans (wp_frame_r _ _ _)
theorem run_imp {α : Type} {A A' : sProp (Mo F)} {B B' : α → sProp (Mo F)} {p : Pg F α} (h0 : A' ⊢ A) (h1 : ∀ a, B a ⊢ B' a) (h : A ⊢ Wp c p B) : A' ⊢ Wp c p B' :=
  h0.trans (h.trans (wp_mono _ _ _ h1))

theorem run_eq {α : Type} {A : sProp (Mo F)} {p p' : Pg F α} {Q : α → sProp (Mo F)} (e : p = p') (h : A ⊢ Wp c p' Q) : A ⊢ Wp c p Q := e ▸ h

theorem run_pure {α : Type} {A : sProp (Mo F)} {a : α} {Q : α → sProp (Mo F)} (h : A ⊢ Q a) : A ⊢ Wp c (pure a) Q :=
  h.trans (le_wp_ret _ _ _ _ _)

theorem run_assume {β : Type} {A : sProp (Mo F)} {P : Prop} {d : Decidable P} {f : PLift P → Pg F β} {Q : β → sProp (Mo F)}
    (h : P) (h2 : ∀ hp, A ⊢ Wp c (f hp) Q) : A ⊢ Wp c (Prog.lift (.assume P d) >>= f) Q :=
  (h2 ⟨h⟩).trans (wp_assume (U := UD sig nD τ) 𝒱₀ (c : Thread nD τ) none Set.univ h)

/-- Reading a table's word. -/
theorem run_word {n : ℕ} {β : Type} {A R : sProp (Mo F)} (m : Memref sig .tc .smem ⟨1, ![n]⟩ .i32) {q : PosShare TreeShare}
    (T : Buf (Elt F) (m.view.loc (c : Thread nD τ))) {off : Fin 1 → ℕ} (k : ℕ) (hk : k < n) (ho : off = ![k])
    (w : BitVec 32) (hw : m.view.read (Elt F) T (ix1 (⟨k, hk⟩ : Fin n)) = w) {inb : ∀ a, off a + S1.size a ≤ (⟨1, ![n]⟩ : Shape).size a} {hn hr} {f : Elt F .i32 → Pg F β} {Q : β → sProp (Mo F)}
    (h0 : A ⊢ iprop((m.view.loc (c : Thread nD τ) ↦[m.view.set]{q} T) ∗ R))
    (h : iprop((m.view.loc (c : Thread nD τ) ↦[m.view.set]{q} T) ∗ R) ⊢ Wp c (f w) Q) : A ⊢ Wp c (smemLoad m (Rect.unit (s := ⟨1, ![n]⟩) off S1.size inb) hn hr >>= f) Q := by
  subst ho hw
  refine h0.trans ?_
  unfold Wp
  iintro ⟨HT, HR⟩
  sl_exec
  rw [show run_word.sl.r m T k = m.view.read (Elt F) T (ix1 (⟨k, hk⟩ : Fin n)) from word_at m T _ k hk rfl _ _]
  iapply h
  isplitl [HT]
  · iexact HT
  · iexact HR

end Steps

/-! ## The state -/

section State
variable (c : Dev nD) (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (q : PosShare TreeShare) (TN TW TO : S328.Idx → BitVec 32) (TE : S64.Idx → BitVec 32) (TC : S2.Idx → BitVec 32)

abbrev tabW : sProp (Mo F) := newM.view.loc (c : Thread nD τ) ↦[newM.view.set]{q} TW
abbrev tabO : sProp (Mo F) := ordM.view.loc (c : Thread nD τ) ↦[ordM.view.set]{q} TO
abbrev tabE : sProp (Mo F) := eoM.view.loc (c : Thread nD τ) ↦[eoM.view.set]{q} TE
abbrev tabC : sProp (Mo F) := cntM.view.loc (c : Thread nD τ) ↦[cntM.view.set]{q} TC

/-- Block `b`'s number, below 328. -/
abbrev bk (b : ℕ) : Fin 328 := ⟨b % 328, Nat.mod_lt _ (by decide)⟩

/-- Block `b`'s slot: the copy in flight if the block is used, else at rest. And so of the `k`-th expert's. -/
def XP (b : ℕ) : sProp (Mo F) := if b < nU TC then XF c XX (bk b) (slX b) else XE c XX (slX b)
def WP (k : ℕ) : sProp (Mo F) := if k < nO TC then WF c XG XU XD (ex TE k) (slW k) else WE c XG XU XD (slW k)

/-- Before point `p`: the row slots, the weight slots, and the rounded weights. -/
def XQ (p : ℕ) : sProp (Mo F) :=
  if p = 0 then iprop(XE c XX (slX 0) ∗ XE c XX (slX 1) ∗ XE c XX (slX 2)) else iprop(XP c XX TC p ∗ XP c XX TC (p + 1) ∗ XE c XX (slX (p + 2)))
def WR (p : ℕ) : sProp (Mo F) := iprop(WP c XG XU XD TE TC (nK TO TC p) ∗ WP c XG XU XD TE TC (nK TO TC p + 1))
def WQ (p : ℕ) : sProp (Mo F) := if p = 0 then iprop(WE c XG XU XD (slW 0) ∗ WE c XG XU XD (slW 1)) else WR c XG XU XD TO TE TC p
def SP (p : ℕ) : sProp (Mo F) := if p = 0 then S0 c else SC c XG XU XD (ex TE (nK TO TC p - 1))

/-- What the loop carries over the tables: the row slots, the weight slots and the rounded weights. -/
def ST (p : ℕ) : sProp (Mo F) := iprop(XQ c XX TC p ∗ WQ c XG XU XD TO TE TC p ∗ SP c XG XU XD TO TE TC p)
/-- The tables. -/
abbrev TB : sProp (Mo F) := iprop(tabN c q TN ∗ tabW c q TW ∗ tabO c q TO ∗ tabE c q TE ∗ tabC c q TC)

/-- What the kernel stores at point `p`. -/
def val (p : ℕ) : Vec F S512x512 .i32 :=
  if p < nU TC then blkVal c XX XG XU XD (bk p) (ex TE (od TO p)) (TN (ix1 (bk p))) else k0_pay4

theorem SC_S0 (e : Fin 64) : SC c XG XU XD e ⊢ S0 (F := F) c := by
  unfold SC S0
  iintro ⟨⟨%g, -, Hg⟩, ⟨%u, -, Hu⟩, %d, -, Hd⟩
  isplitl [Hg]
  · iexists g; iexact Hg
  isplitl [Hu]
  · iexists u; iexact Hu
  · iexists d; iexact Hd

theorem SP_S0 (p : ℕ) : SP c XG XU XD TO TE TC p ⊢ S0 (F := F) c := by
  unfold SP; split
  · exact .rfl
  · exact SC_S0 c XG XU XD _

theorem XP_lt {b : ℕ} (h : b < nU TC) : XP c XX TC b = XF c XX (bk b) (slX b) := if_pos h
theorem XP_ge {b : ℕ} (h : ¬b < nU TC) : XP c XX TC b = XE c XX (slX b) := if_neg h
theorem WP_lt {k : ℕ} (h : k < nO TC) : WP c XG XU XD TE TC k = WF c XG XU XD (ex TE k) (slW k) := if_pos h
theorem WP_ge {k : ℕ} (h : ¬k < nO TC) : WP c XG XU XD TE TC k = WE c XG XU XD (slW k) := if_neg h

theorem slW_add (k : ℕ) : slW (k + 2) = slW k := Fin.ext (by show (k + 2) % 2 = k % 2; omega)
theorem slX_add (k : ℕ) : slX (k + 3) = slX k := Fin.ext (by show (k + 3) % 3 = k % 3; omega)

variable {TN TW TO TE TC}

/-- The start of the `k`-th expert's copies, if there is one. -/
theorem start_run {k : ℕ} (h : k < nO TC) :
    WE c XG XU XD (slW k) ⊢ Wp c (startW (ex TE k) (slW k)) (fun _ => WP c XG XU XD TE TC k) := by
  rw [WP_lt c XG XU XD TE TC h]; exact startW_run c XG XU XD _ _

theorem startB_run {b : ℕ} (h : b < nU TC) :
    XE c XX (slX b) ⊢ Wp c (startX (bk b) (slX b)) (fun _ => XP c XX TC b) := by
  rw [XP_lt c XX TC h]; exact startX_run c XX _ _

variable (ft : Fits TW TO TE TC) (i : grid0.Coords)
include ft

theorem nO_pos : 0 < nO TC := by
  have h1 : 1 ≤ nU TC := ft.u1
  exact Nat.lt_of_le_of_lt (Nat.zero_le _) (od_lt ft (p := 0) (by omega))

theorem ex_off {k : ℕ} (h : k < 64) : (![1, (TE (ix1 (⟨k, h⟩ : Fin 64))).toNat, 0, 0] : Fin 4 → ℕ) = exOff (ex TE k) := by
  rw [ex_val ft h]

theorem phA_rest (v1 : BitVec 32) (h : (i 0).val ≠ 0) : phA (F := F) i v1 = pure ⟨⟩ := by
  unfold phA; rw [dif_neg fun h' => h ((cond1_iff i).mp h')]

theorem phA_first (h : (i 0).val = 0) :
    iprop(tabE c q TE ∗ WE c XG XU XD (slW 0) ∗ WE c XG XU XD (slW 1)) ⊢ Wp c (phA i (TC (ix1 1)))
      (fun _ => iprop(tabE c q TE ∗ WP c XG XU XD TE TC 0 ∗ WP c XG XU XD TE TC 1)) := by
  have l0 : (TC (ix1 1)).toNat < 2 ^ 31 := by have := ft.n64; omega
  have h0 := nO_pos ft
  unfold phA
  rw [dif_pos ((cond1_iff i).mpr h)]
  dsimp only
  rw [dif_pos ((cond2_iff l0).mpr (show 0 < (TC (ix1 1)).toNat from h0))]
  refine run_word (c := c) (q := q) eoM TE 0 (by decide) rfl (TE (ix1 (⟨0, by decide⟩ : Fin 64))) rfl .rfl ?_
  refine run_assume (chk1_of i _ (ft.eo _)) fun hp => ?_
  refine run_as (startWOf_eq (ex TE 0) (slW 0) (ex_off ft (by decide)) (ex_off ft (by decide)) rfl rfl rfl rfl rfl rfl)
    (start_run c XG XU XD (TE := TE) (TC := TC) h0) (R := iprop(tabE c q TE ∗ WE c XG XU XD (slW 1))) ?_ fun _ => ?_
  · iintro ⟨HE, H0, H1⟩
    isplitl [H0]; · iexact H0
    isplitl [HE]; · iexact HE
    iexact H1
  split
  case isTrue h3 =>
    have h1 : 1 < nO TC := (cond3_iff l0).mp h3
    refine run_word (c := c) (q := q) eoM TE 1 (by decide) rfl (TE (ix1 (⟨1, by decide⟩ : Fin 64))) rfl (R := iprop(WP c XG XU XD TE TC 0 ∗ WE c XG XU XD (slW 1))) ?_ ?_
    · iintro ⟨H0, HE, H1⟩
      isplitl [HE]; · iexact HE
      isplitl [H0]; · iexact H0
      iexact H1
    refine run_assume (chk2_of i _ (ft.eo _)) fun hp => ?_
    refine run_as (startWOf_eq (ex TE 1) (slW 1) (ex_off ft (by decide)) (ex_off ft (by decide)) rfl rfl rfl rfl rfl rfl) (start_run c XG XU XD (TE := TE) (TC := TC) h1) (R := iprop(tabE c q TE ∗ WP c XG XU XD TE TC 0)) ?_ fun _ => run_pure ?_
    · iintro ⟨HE, H0, H1⟩
      isplitl [H1]; · iexact H1
      isplitl [HE]; · iexact HE
      iexact H0
    · iintro ⟨H1, HE, H0⟩
      isplitl [HE]; · iexact HE
      isplitl [H0]; · iexact H0
      iexact H1
  case isFalse h3 =>
    refine run_pure ?_
    rw [WP_ge c XG XU XD TE TC (k := 1) fun h => h3 ((cond3_iff l0).mpr h)]
    iintro ⟨H0, HE, H1⟩
    isplitl [HE]; · iexact HE
    isplitl [H0]; · iexact H0
    iexact H1

theorem phX_rest (v0 : BitVec 32) (h : (i 0).val ≠ 0) : phX (F := F) i v0 = pure ⟨⟩ := by
  unfold phX; rw [dif_neg fun h' => h ((cond4_iff i).mp h')]

theorem phX_first (h : (i 0).val = 0) :
    iprop(XE c XX (slX 0) ∗ XE c XX (slX 1)) ⊢ Wp c (phX i (TC (ix1 0))) (fun _ => iprop(XP c XX TC 0 ∗ XP c XX TC 1)) := by
  have l0 : (TC (ix1 0)).toNat < 2 ^ 31 := by have := ft.u2; omega
  have h0 : 0 < nU TC := ft.u1
  unfold phX
  rw [dif_pos ((cond4_iff i).mpr h)]
  dsimp only
  rw [if_pos ((sgt0_iff l0).mpr (show 0 < (TC (ix1 0)).toNat from h0))]
  refine run_as (startXOf_eq (bk 0) (slX 0) rfl rfl rfl) (startB_run c XX (TC := TC) h0) (R := XE c XX (slX 1)) .rfl fun _ => ?_
  split
  case isTrue h3 =>
    have h1 : 1 < nU TC := (sgt1_iff l0).mp h3
    refine run_as (startXOf_eq (bk 1) (slX 1) rfl rfl rfl) (startB_run c XX (TC := TC) h1) (R := XP c XX TC 0) sep_comm fun _ => run_pure sep_comm
  case isFalse h3 =>
    refine run_pure ?_
    rw [XP_ge c XX TC (b := 1) fun h => h3 ((sgt1_iff l0).mpr h)]

theorem phB_run (hw) :
    XE c XX (slX ((i 0).val + 2)) ⊢ Wp c (phB i (TC (ix1 0)) hw) (fun _ => XP c XX TC ((i 0).val + 2)) := by
  have l0 : (TC (ix1 0)).toNat < 2 ^ 31 := by have := ft.u2; omega
  have l2 : nU TC ≤ 328 := ft.u2
  unfold phB
  split
  case isTrue h3 =>
    have h1 : (i 0).val + 2 < nU TC := (cond7_iff i l0).mp h3
    have eb : (![512 * ((i 0).val + 2), 0] : Fin 2 → ℕ) = bkOff (bk ((i 0).val + 2)) := by
      show _ = ![512 * (((i 0).val + 2) % 328), 0]
      rw [Nat.mod_eq_of_lt (show (i 0).val + 2 < 328 by omega)]
    exact run_eq (startXOf_eq (bk ((i 0).val + 2)) (slX ((i 0).val + 2)) ((off23_val i).trans eb) (k0_off22_eq i) (k0_off21_eq i)) (startB_run c XX h1)
  case isFalse h3 =>
    refine run_pure ?_
    rw [XP_ge c XX TC fun h => h3 ((cond7_iff i l0).mpr h)]

theorem phD_run (o : Memref sig .tc .vmem S512x512 .i32) (fo) (hp : (i 0).val < nU TC) :
    iprop(OW c ∗ XP c XX TC (i 0).val ∗ SP c XG XU XD TO TE TC ((i 0).val + 1) ∗ tabN c q TN ∗ outP c o fo) ⊢ Wp c (phD i (TC (ix1 0)) o)
      (fun _ => iprop(OW c ∗ XE c XX (slX (i 0).val) ∗ SP c XG XU XD TO TE TC ((i 0).val + 1) ∗ tabN c q TN ∗ outV c o (val c XX XG XU XD TN TO TE TC (i 0).val))) := by
  have l0 : (TC (ix1 0)).toNat < 2 ^ 31 := by have := ft.u2; omega
  have l2 : nU TC ≤ 328 := ft.u2
  have eb : bk (i 0).val = ⟨(i 0).val, pt_lt i⟩ := Fin.ext (Nat.mod_eq_of_lt (pt_lt i))
  unfold phD
  rw [dif_pos ((cond10_iff i l0).mpr hp), XP_lt c XX TC hp]
  unfold SP val
  rw [if_neg (by omega), if_pos hp, nK_succ_used ft hp, Nat.add_sub_cancel, eb]
  exact run_eq (blockOf_eq ⟨(i 0).val, pt_lt i⟩ (slX (i 0).val) (k0_off48_eq i) (k0_off47_eq i) (k0_off46_eq i) (k0_off49_eq i) (k0_off50_eq i))
    (block_run c XX XG XU XD q TN ⟨(i 0).val, pt_lt i⟩ _ _ o fo)

theorem phD_rest (o : Memref sig .tc .vmem S512x512 .i32) (hp : ¬(i 0).val < nU TC) : phD (F := F) i (TC (ix1 0)) o = pure ⟨⟩ := by
  have l0 : (TC (ix1 0)).toNat < 2 ^ 31 := by have := ft.u2; omega
  unfold phD
  rw [dif_neg fun h => hp ((cond10_iff i l0).mp h)]

theorem phE_run (o : Memref sig .tc .vmem S512x512 .i32) (fo) (hp : ¬(i 0).val < nU TC) :
    outP c o fo ⊢ Wp c (phE i (TC (ix1 0)) o) (fun _ => outV c o (val c XX XG XU XD TN TO TE TC (i 0).val)) := by
  have l0 : (TC (ix1 0)).toNat < 2 ^ 31 := by have := ft.u2; omega
  unfold phE
  rw [dif_pos ((cond11_iff i l0).mpr (Nat.le_of_not_lt hp))]
  unfold val
  rw [if_neg hp]
  exact zeroBlock_run c o fo

theorem phE_rest (o : Memref sig .tc .vmem S512x512 .i32) (hp : (i 0).val < nU TC) : phE (F := F) i (TC (ix1 0)) o = pure ⟨⟩ := by
  have l0 : (TC (ix1 0)).toNat < 2 ^ 31 := by have := ft.u2; omega
  unfold phE
  rw [dif_neg fun h => Nat.not_le_of_gt hp ((cond11_iff i l0).mp h)]

theorem phC_run :
    iprop(OW c ∗ tabO c q TO ∗ tabE c q TE ∗ WR c XG XU XD TO TE TC (i 0).val ∗ SP c XG XU XD TO TE TC (i 0).val)
      ⊢ Wp c (phC i (TC (ix1 0)) (TC (ix1 1)) (TW (ix1 (⟨(i 0).val, pt_lt i⟩ : Fin 328))))
        (fun _ => iprop(OW c ∗ tabO c q TO ∗ tabE c q TE ∗ WR c XG XU XD TO TE TC ((i 0).val + 1) ∗ SP c XG XU XD TO TE TC ((i 0).val + 1))) := by
  have l0 : (TC (ix1 0)).toNat < 2 ^ 31 := by have := ft.u2; omega
  have l1 : (TC (ix1 1)).toNat < 2 ^ 31 := by have := ft.n64; omega
  have n64 : nO TC ≤ 64 := ft.n64
  unfold phC
  split
  case isFalse h8 =>
    refine run_pure ?_
    have e : nK TO TC ((i 0).val + 1) = nK TO TC (i 0).val ∧ 0 < (i 0).val := by
      by_cases hp : (i 0).val < nU TC
      · have := nK_old ft hp (pt_lt i) fun h => h8 ((cond8_iff i l0).mpr ⟨hp, h⟩)
        exact ⟨this.2, this.1⟩
      · have h1 : 1 ≤ nU TC := ft.u1
        exact ⟨(nK_end ft (by omega)).trans (nK_end ft (by omega)).symm, by omega⟩
    unfold WR SP
    rw [e.1, if_neg (by omega), if_neg (by omega)]
  case isTrue h8 =>
    obtain ⟨hp, hn⟩ := (cond8_iff i l0).mp h8
    have hp : (i 0).val < nU TC := hp
    have hk := od_lt ft hp
    have eo := od_eq TO (pt_lt i)
    have hk64 : od TO (i 0).val < 64 := by omega
    have hv : (TO (ix1 (⟨(i 0).val, pt_lt i⟩ : Fin 328))).toNat < 64 := by omega
    have hE : (TE (ix1 (⟨od TO (i 0).val, hk64⟩ : Fin 64))).toNat < 64 := ft.eo _
    have hS : SP c XG XU XD TO TE TC ((i 0).val + 1) = SC c XG XU XD (ex TE (od TO (i 0).val)) := by
      unfold SP; rw [if_neg (by omega), nK_succ_used ft hp, Nat.add_sub_cancel]
    have hR0 : WR c XG XU XD TO TE TC (i 0).val = iprop(WF c XG XU XD (ex TE (od TO (i 0).val)) (slW (od TO (i 0).val)) ∗ WP c XG XU XD TE TC (od TO (i 0).val + 1)) := by
      unfold WR; rw [nK_new ft hp (pt_lt i) hn, WP_lt c XG XU XD TE TC hk]
    have hR1 : WR c XG XU XD TO TE TC ((i 0).val + 1) = iprop(WP c XG XU XD TE TC (od TO (i 0).val + 1) ∗ WP c XG XU XD TE TC (od TO (i 0).val + 2)) := by
      unfold WR; rw [nK_succ_used ft hp]
    rw [hS, hR0, hR1]
    refine run_word (c := c) (q := q) ordM TO (i 0).val (pt_lt i) (k0_off25_eq i) (TO (ix1 (⟨(i 0).val, pt_lt i⟩ : Fin 328))) rfl
      (R := iprop(OW c ∗ tabE c q TE ∗ (WF c XG XU XD (ex TE (od TO (i 0).val)) (slW (od TO (i 0).val)) ∗ WP c XG XU XD TE TC (od TO (i 0).val + 1)) ∗ SP c XG XU XD TO TE TC (i 0).val)) ?_ ?_
    · iintro ⟨HW, HO, HR⟩
      isplitl [HO]; · iexact HO
      isplitl [HW]; · iexact HW
      iexact HR
    refine run_assume (chk4_of i _ _ (show (TC (ix1 1)).toNat ≤ 64 from n64) hv) fun hw4 => ?_
    refine run_word (c := c) (q := q) eoM TE (od TO (i 0).val) hk64 (show ![(TO (ix1 (⟨(i 0).val, pt_lt i⟩ : Fin 328))).toNat] = ![od TO (i 0).val] by rw [eo]) (TE (ix1 (⟨od TO (i 0).val, hk64⟩ : Fin 64))) rfl
      (R := iprop((OW c ∗ WF c XG XU XD (ex TE (od TO (i 0).val)) (slW (od TO (i 0).val)) ∗ S0 c) ∗ tabO c q TO ∗ WP c XG XU XD TE TC (od TO (i 0).val + 1))) ?_ ?_
    · iintro ⟨HO, HW, HE, ⟨HF, HP⟩, HS⟩
      isplitl [HE]; · iexact HE
      isplitl [HW HF HS]
      · isplitl [HW]; · iexact HW
        isplitl [HF]; · iexact HF
        iapply (SP_S0 c XG XU XD TO TE TC (i 0).val); iexact HS
      isplitl [HO]; · iexact HO
      iexact HP
    refine run_assume (chk5_of i _ _ hE) fun hw5 => ?_
    have hs := ws_at hv
    have hc := wc_at hv
    have hs2 := ws_at2 hv
    have hc2 := wc_at2 hv
    rw [← eo] at hs hc hs2 hc2
    refine run_as (waitWOf_eq (ex TE (od TO (i 0).val)) (slW (od TO (i 0).val)) (ex_off ft hk64) (ex_off ft hk64) hs hs hs (hc 0) (hc 1) (hc 2) hs hs)
      (waitW_run c XG XU XD _ _) (R := iprop(tabE c q TE ∗ tabO c q TO ∗ WP c XG XU XD TE TC (od TO (i 0).val + 1))) ?_ fun _ => ?_
    · iintro ⟨HE, HA, HB⟩
      isplitl [HA]; · iexact HA
      isplitl [HE]; · iexact HE
      iexact HB
    split
    case isFalse h9 =>
      refine run_pure ?_
      rw [WP_ge c XG XU XD TE TC (k := od TO (i 0).val + 2) fun h => h9 ((cond9_iff l1 (by omega)).mpr (by rw [← eo]; exact h)), slW_add]
      iintro ⟨⟨HW, HE2, HS⟩, HE, HO, HP⟩
      isplitl [HW]; · iexact HW
      isplitl [HO]; · iexact HO
      isplitl [HE]; · iexact HE
      isplitl [HP HE2]
      · isplitl [HP]; · iexact HP
        iexact HE2
      iexact HS
    case isTrue h9 =>
      have h9' : od TO (i 0).val + 2 < nO TC := by have := (cond9_iff l1 (by omega)).mp h9; rw [← eo] at this; exact this
      have hk2 : od TO (i 0).val + 2 < 64 := by omega
      have hE2 : (TE (ix1 (⟨od TO (i 0).val + 2, hk2⟩ : Fin 64))).toNat < 64 := ft.eo _
      refine run_word (c := c) (q := q) eoM TE (od TO (i 0).val + 2) hk2 ((off37_val hv).trans (by rw [eo])) (TE (ix1 (⟨od TO (i 0).val + 2, hk2⟩ : Fin 64))) rfl
        (R := iprop(WE c XG XU XD (slW (od TO (i 0).val + 2)) ∗ OW c ∗ SC c XG XU XD (ex TE (od TO (i 0).val)) ∗ tabO c q TO ∗ WP c XG XU XD TE TC (od TO (i 0).val + 1))) ?_ ?_
      · rw [slW_add]
        iintro ⟨⟨HW, HE2, HS⟩, HE, HO, HP⟩
        isplitl [HE]; · iexact HE
        isplitl [HE2]; · iexact HE2
        isplitl [HW]; · iexact HW
        isplitl [HS]; · iexact HS
        isplitl [HO]; · iexact HO
        iexact HP
      refine run_assume (chk6_of i _ _ _ _ hE2) fun hw6 => ?_
      refine run_as (startWOf_eq (ex TE (od TO (i 0).val + 2)) (slW (od TO (i 0).val + 2)) (ex_off ft hk2) (ex_off ft hk2) hs2 hs2 hs2 (hc2 0) (hc2 1) (hc2 2))
        (start_run c XG XU XD (TE := TE) (TC := TC) h9')
        (R := iprop(tabE c q TE ∗ OW c ∗ SC c XG XU XD (ex TE (od TO (i 0).val)) ∗ tabO c q TO ∗ WP c XG XU XD TE TC (od TO (i 0).val + 1))) ?_ fun _ => run_pure ?_
      · iintro ⟨HE, HE2, HR⟩
        isplitl [HE2]; · iexact HE2
        isplitl [HE]; · iexact HE
        iexact HR
      · iintro ⟨HP2, HE, HW, HS, HO, HP⟩
        isplitl [HW]; · iexact HW
        isplitl [HO]; · iexact HO
        isplitl [HE]; · iexact HE
        isplitl [HP HP2]
        · isplitl [HP]; · iexact HP
          iexact HP2
        iexact HS

/-! ## The body -/

theorem phA_run :
    iprop(tabE c q TE ∗ WQ c XG XU XD TO TE TC (i 0).val) ⊢ Wp c (phA i (TC (ix1 1)))
      (fun _ => iprop(tabE c q TE ∗ WR c XG XU XD TO TE TC (i 0).val)) := by
  unfold WQ
  split
  case isTrue h =>
    unfold WR
    rw [h, nK_zero ft]
    exact phA_first c XG XU XD q ft i h
  case isFalse h =>
    rw [phA_rest ft i _ h]
    exact run_pure .rfl

theorem phX_run :
    XQ c XX TC (i 0).val ⊢ Wp c (phX i (TC (ix1 0)))
      (fun _ => iprop(XP c XX TC (i 0).val ∗ XP c XX TC ((i 0).val + 1) ∗ XE c XX (slX ((i 0).val + 2)))) := by
  unfold XQ
  split
  case isTrue h =>
    rw [h]
    refine run_imp ?_ (fun _ => ?_) (run_frame (phX_first c XX ft i h) (R := XE c XX (slX 2)))
    · iintro ⟨H0, H1, H2⟩
      isplitl [H0 H1]
      · isplitl [H0]; · iexact H0
        iexact H1
      iexact H2
    · iintro ⟨⟨H0, H1⟩, H2⟩
      isplitl [H0]; · iexact H0
      isplitl [H1]; · iexact H1
      iexact H2
  case isFalse h =>
    rw [phX_rest ft i _ h]
    exact run_pure .rfl

/-- The end of the body: the block, or zeros. -/
theorem phDE_run (o : Memref sig .tc .vmem S512x512 .i32) (fo) :
    iprop(OW c ∗ XP c XX TC (i 0).val ∗ SP c XG XU XD TO TE TC ((i 0).val + 1) ∗ tabN c q TN ∗ tabC c q TC ∗ outP c o fo)
      ⊢ Wp c (phDK i (TC (ix1 0)) o (do
          let v21 : Elt F .i32 ← smemLoad cntM (Rect.unit (s := S2) ![0] S1.size inb_S2_S1_0) numel1_S1 rfl
          phEK i v21 o (pure ⟨⟩)))
        (fun _ => iprop(OW c ∗ XE c XX (slX (i 0).val) ∗ SP c XG XU XD TO TE TC ((i 0).val + 1) ∗ tabN c q TN ∗ tabC c q TC ∗ outV c o (val c XX XG XU XD TN TO TE TC (i 0).val))) := by
  rw [phDK_eq]
  by_cases hp : (i 0).val < nU TC
  · refine run_as rfl (phD_run c XX XG XU XD q ft i o fo hp (TN := TN)) (R := tabC c q TC) ?_ fun _ => ?_
    · iintro ⟨HW, HX, HS, HN, HC, HO⟩
      isplitr [HC]
      · isplitl [HW]; · iexact HW
        isplitl [HX]; · iexact HX
        isplitl [HS]; · iexact HS
        isplitl [HN]; · iexact HN
        iexact HO
      · iexact HC
    refine run_word (c := c) (q := q) cntM TC 0 (by decide) rfl (TC (ix1 0)) rfl
      (R := iprop(OW c ∗ XE c XX (slX (i 0).val) ∗ SP c XG XU XD TO TE TC ((i 0).val + 1) ∗ tabN c q TN ∗ outV c o (val c XX XG XU XD TN TO TE TC (i 0).val))) sep_comm ?_
    rw [phEK_eq, phE_rest ft i o hp]
    refine run_pure ?_
    iintro ⟨HC, HW, HX, HS, HN, HO⟩
    isplitl [HW]; · iexact HW
    isplitl [HX]; · iexact HX
    isplitl [HS]; · iexact HS
    isplitl [HN]; · iexact HN
    isplitl [HC]; · iexact HC
    iexact HO
  · rw [phD_rest ft i o hp]
    show _ ⊢ Wp c (smemLoad cntM (Rect.unit (s := S2) ![0] S1.size inb_S2_S1_0) numel1_S1 rfl >>= fun v21 => phEK i v21 o (pure ⟨⟩)) _
    refine run_word (c := c) (q := q) cntM TC 0 (by decide) rfl (TC (ix1 0)) rfl
      (R := iprop(OW c ∗ XP c XX TC (i 0).val ∗ SP c XG XU XD TO TE TC ((i 0).val + 1) ∗ tabN c q TN ∗ outP c o fo)) ?_ ?_
    · iintro ⟨HW, HX, HS, HN, HC, HO⟩
      isplitl [HC]; · iexact HC
      isplitl [HW]; · iexact HW
      isplitl [HX]; · iexact HX
      isplitl [HS]; · iexact HS
      isplitl [HN]; · iexact HN
      iexact HO
    rw [phEK_eq, XP_ge c XX TC hp]
    refine run_as rfl (phE_run c XX XG XU XD ft i o fo hp (TN := TN)) (R := iprop(tabC c q TC ∗ OW c ∗ XE c XX (slX (i 0).val) ∗ SP c XG XU XD TO TE TC ((i 0).val + 1) ∗ tabN c q TN)) ?_ fun _ => run_pure ?_
    · iintro ⟨HC, HW, HX, HS, HN, HO⟩
      isplitl [HO]; · iexact HO
      isplitl [HC]; · iexact HC
      isplitl [HW]; · iexact HW
      isplitl [HX]; · iexact HX
      isplitl [HS]; · iexact HS
      iexact HN
    · iintro ⟨HO, HC, HW, HX, HS, HN⟩
      isplitl [HW]; · iexact HW
      isplitl [HX]; · iexact HX
      isplitl [HS]; · iexact HS
      isplitl [HN]; · iexact HN
      isplitl [HC]; · iexact HC
      iexact HO

/-- The body at a grid point: from what the loop carries before it to what it carries after it, with the block stored. -/
theorem body_run (o : Memref sig .tc .vmem S512x512 .i32) (fo) :
    iprop(OW c ∗ TB c q TN TW TO TE TC ∗ ST c XX XG XU XD TO TE TC (i 0).val ∗ outP c o fo) ⊢ Wp c (body i o)
      (fun _ => iprop(OW c ∗ TB c q TN TW TO TE TC ∗ ST c XX XG XU XD TO TE TC ((i 0).val + 1) ∗ outV c o (val c XX XG XU XD TN TO TE TC (i 0).val))) := by
  have hXQ : XQ c XX TC ((i 0).val + 1) = iprop(XP c XX TC ((i 0).val + 1) ∗ XP c XX TC ((i 0).val + 2) ∗ XE c XX (slX (i 0).val)) := by
    unfold XQ; rw [if_neg (by omega), show (i 0).val + 1 + 2 = (i 0).val + 3 from rfl, slX_add]
  have hWQ : WQ c XG XU XD TO TE TC ((i 0).val + 1) = WR c XG XU XD TO TE TC ((i 0).val + 1) := by
    unfold WQ; rw [if_neg (by omega)]
  unfold ST body
  rw [hXQ, hWQ]
  refine run_word (c := c) (q := q) cntM TC 0 (by decide) rfl (TC (ix1 0)) rfl
    (R := iprop(OW c ∗ (tabN c q TN ∗ tabW c q TW ∗ tabO c q TO ∗ tabE c q TE) ∗ (XQ c XX TC (i 0).val ∗ WQ c XG XU XD TO TE TC (i 0).val ∗ SP c XG XU XD TO TE TC (i 0).val) ∗ outP c o fo)) ?_ ?_
  · iintro ⟨HW, ⟨HN, HWt, HO, HE, HC⟩, HS, Ho⟩
    isplitl [HC]; · iexact HC
    isplitl [HW]; · iexact HW
    isplitl [HN HWt HO HE]
    · isplitl [HN]; · iexact HN
      isplitl [HWt]; · iexact HWt
      isplitl [HO]; · iexact HO
      iexact HE
    isplitl [HS]; · iexact HS
    iexact Ho
  refine run_assume (chk3_of i ft.u2) fun hw3 => ?_
  refine run_word (c := c) (q := q) cntM TC 1 (by decide) rfl (TC (ix1 1)) rfl
    (R := iprop(OW c ∗ (tabN c q TN ∗ tabW c q TW ∗ tabO c q TO ∗ tabE c q TE) ∗ (XQ c XX TC (i 0).val ∗ WQ c XG XU XD TO TE TC (i 0).val ∗ SP c XG XU XD TO TE TC (i 0).val) ∗ outP c o fo)) .rfl ?_
  rw [phAK_eq]
  refine run_as rfl (phA_run c XG XU XD q ft i)
    (R := iprop(XQ c XX TC (i 0).val ∗ tabC c q TC ∗ OW c ∗ (tabN c q TN ∗ tabW c q TW ∗ tabO c q TO) ∗ SP c XG XU XD TO TE TC (i 0).val ∗ outP c o fo)) ?_ fun _ => ?_
  · iintro ⟨HC, HW, ⟨HN, HWt, HO, HE⟩, ⟨HX, HQ, HS⟩, Ho⟩
    isplitl [HE HQ]
    · isplitl [HE]; · iexact HE
      iexact HQ
    isplitl [HX]; · iexact HX
    isplitl [HC]; · iexact HC
    isplitl [HW]; · iexact HW
    isplitl [HN HWt HO]
    · isplitl [HN]; · iexact HN
      isplitl [HWt]; · iexact HWt
      iexact HO
    isplitl [HS]; · iexact HS
    iexact Ho
  rw [phXK_eq]
  refine run_as rfl (phX_run c XX ft i)
    (R := iprop((tabE c q TE ∗ WR c XG XU XD TO TE TC (i 0).val) ∗ tabC c q TC ∗ OW c ∗ (tabN c q TN ∗ tabW c q TW ∗ tabO c q TO) ∗ SP c XG XU XD TO TE TC (i 0).val ∗ outP c o fo)) ?_ fun _ => ?_
  · iintro ⟨HA, HX, HR⟩
    isplitl [HX]; · iexact HX
    isplitl [HA]; · iexact HA
    iexact HR
  rw [phBK_eq]
  refine run_as rfl (phB_run c XX ft i _)
    (R := iprop(tabW c q TW ∗ (XP c XX TC (i 0).val ∗ XP c XX TC ((i 0).val + 1)) ∗ (tabE c q TE ∗ WR c XG XU XD TO TE TC (i 0).val) ∗ tabC c q TC ∗ OW c ∗ (tabN c q TN ∗ tabO c q TO) ∗ SP c XG XU XD TO TE TC (i 0).val ∗ outP c o fo)) ?_ fun _ => ?_
  · iintro ⟨⟨HX0, HX1, HX2⟩, HA, HC, HW, ⟨HN, HWt, HO⟩, HS, Ho⟩
    isplitl [HX2]; · iexact HX2
    isplitl [HWt]; · iexact HWt
    isplitl [HX0 HX1]
    · isplitl [HX0]; · iexact HX0
      iexact HX1
    isplitl [HA]; · iexact HA
    isplitl [HC]; · iexact HC
    isplitl [HW]; · iexact HW
    isplitl [HN HO]
    · isplitl [HN]; · iexact HN
      iexact HO
    isplitl [HS]; · iexact HS
    iexact Ho
  refine run_word (c := c) (q := q) newM TW (i 0).val (pt_lt i) (k0_off24_eq i) (TW (ix1 (⟨(i 0).val, pt_lt i⟩ : Fin 328))) rfl
    (R := iprop(XP c XX TC ((i 0).val + 2) ∗ (XP c XX TC (i 0).val ∗ XP c XX TC ((i 0).val + 1)) ∗ (tabE c q TE ∗ WR c XG XU XD TO TE TC (i 0).val) ∗ tabC c q TC ∗ OW c ∗ (tabN c q TN ∗ tabO c q TO) ∗ SP c XG XU XD TO TE TC (i 0).val ∗ outP c o fo)) ?_ ?_
  · iintro ⟨HX2, HWt, HR⟩
    isplitl [HWt]; · iexact HWt
    isplitl [HX2]; · iexact HX2
    iexact HR
  rw [phCK_eq]
  refine run_as rfl (phC_run c XG XU XD q ft i)
    (R := iprop(tabW c q TW ∗ XP c XX TC ((i 0).val + 2) ∗ (XP c XX TC (i 0).val ∗ XP c XX TC ((i 0).val + 1)) ∗ tabC c q TC ∗ tabN c q TN ∗ outP c o fo)) ?_ fun _ => ?_
  · iintro ⟨HWt, HX2, HX, ⟨HE, HQ⟩, HC, HW, ⟨HN, HO⟩, HS, Ho⟩
    isplitl [HW HO HE HQ HS]
    · isplitl [HW]; · iexact HW
      isplitl [HO]; · iexact HO
      isplitl [HE]; · iexact HE
      isplitl [HQ]; · iexact HQ
      iexact HS
    isplitl [HWt]; · iexact HWt
    isplitl [HX2]; · iexact HX2
    isplitl [HX]; · iexact HX
    isplitl [HC]; · iexact HC
    isplitl [HN]; · iexact HN
    iexact Ho
  refine run_imp ?_ (fun _ => ?_) (run_frame (phDE_run c XX XG XU XD q ft i o fo (TN := TN))
    (R := iprop(tabW c q TW ∗ XP c XX TC ((i 0).val + 2) ∗ XP c XX TC ((i 0).val + 1) ∗ tabO c q TO ∗ tabE c q TE ∗ WR c XG XU XD TO TE TC ((i 0).val + 1))))
  · iintro ⟨⟨HW, HO, HE, HQ, HS⟩, HWt, HX2, ⟨HX0, HX1⟩, HC, HN, Ho⟩
    isplitl [HW HX0 HS HN HC Ho]
    · isplitl [HW]; · iexact HW
      isplitl [HX0]; · iexact HX0
      isplitl [HS]; · iexact HS
      isplitl [HN]; · iexact HN
      isplitl [HC]; · iexact HC
      iexact Ho
    isplitl [HWt]; · iexact HWt
    isplitl [HX2]; · iexact HX2
    isplitl [HX1]; · iexact HX1
    isplitl [HO]; · iexact HO
    isplitl [HE]; · iexact HE
    iexact HQ
  · iintro ⟨⟨HW, HX0, HS, HN, HC, Ho⟩, HWt, HX2, HX1, HO, HE, HQ⟩
    isplitl [HW]; · iexact HW
    isplitl [HN HWt HO HE HC]
    · isplitl [HN]; · iexact HN
      isplitl [HWt]; · iexact HWt
      isplitl [HO]; · iexact HO
      isplitl [HE]; · iexact HE
      iexact HC
    isplitl [HX0 HX1 HX2 HQ HS]
    · isplitl [HX0 HX1 HX2]
      · isplitl [HX1]; · iexact HX1
        isplitl [HX2]; · iexact HX2
        iexact HX0
      isplitl [HQ]; · iexact HQ
      iexact HS
    iexact Ho

end State

end Cert.Proof.Experts

end
-- ==== Proof.ExpertsFrame.lean ====
/-
  The launch of the routed experts' kernel: the scratch buffers cut into slots, the arrays cut into the shares that the
  slots' copies read under, the loop's invariant made of them, and the run of the whole program — every block of the
  result holding what `val` says, and every argument unchanged.
-/
module

public import proofs.«01_k».proof.Proof.ExpertsPhases

@[expose] public section

set_option maxRecDepth 16384

noncomputable section

namespace Cert.Proof.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf UD)

variable {F : FTy → Type} [BitOps F]

/-! ## The buffers in slots -/

theorem slots2 (Φ : Fin 2 → sProp (Mo F)) : bigSep Finset.univ Φ = iprop(Φ 0 ∗ Φ 1) :=
  bigSep_univ_eq_bigSepL [(0 : Fin 2), (1 : Fin 2)] (by decide) (by decide) Φ
theorem slots3 (Φ : Fin 3 → sProp (Mo F)) : bigSep Finset.univ Φ = iprop(Φ 0 ∗ Φ 1 ∗ Φ 2) :=
  bigSep_univ_eq_bigSepL [(0 : Fin 3), (1 : Fin 3), (2 : Fin 3)] (by decide) (by decide) Φ

/-- Slot `s` of a buffer of slots: the entries whose first coordinate is `s`. -/
theorem mem_slot {n A B : ℕ} (off : Fin 3 → ℕ) (s : ℕ) (h : off = ![s, 0, 0]) (inb : ∀ a, off a + (![1, A, B] : Fin 3 → ℕ) a ≤ (⟨3, ![n, A, B]⟩ : Shape).size a)
    (y : (⟨3, ![n, A, B]⟩ : Shape).Idx) : y ∈ (Rect.unit (s := ⟨3, ![n, A, B]⟩) off ![1, A, B] inb).set ↔ (y 0).val = s := by
  subst h
  rw [Rect.mem_set_unit]
  have h1 : (y 1).val < A := (y 1).isLt
  have h2 : (y 2).val < B := (y 2).isLt
  constructor
  · intro H; have a0 : s ≤ (y 0).val ∧ (y 0).val < s + 1 := H 0; omega
  · intro H i; fin_cases i
    · show s ≤ (y 0).val ∧ (y 0).val < s + 1; omega
    · show 0 ≤ (y 1).val ∧ (y 1).val < 0 + A; omega
    · show 0 ≤ (y 2).val ∧ (y 2).val < 0 + B; omega

abbrev setW (s : Fin 2) : Finset S2x1024x256.Idx := (Rect.unit (s := S2x1024x256) (wsOff s) S1x1024x256.size (wgOff_inb s)).set
abbrev setD (s : Fin 2) : Finset S2x256x1024.Idx := (Rect.unit (s := S2x256x1024) (wsOff s) S1x256x1024.size (wdOff_inb s)).set
abbrev setX (s : Fin 3) : Finset S3x512x512.Idx := (Rect.unit (s := S3x512x512) (xsOff s) S1x512x512.size (xsOff_inb s)).set

theorem mem_setW (s : Fin 2) (y) : y ∈ setW s ↔ (y 0).val = s.val := mem_slot (wsOff s) s.val rfl (wgOff_inb s) y
theorem mem_setD (s : Fin 2) (y) : y ∈ setD s ↔ (y 0).val = s.val := mem_slot (wsOff s) s.val rfl (wdOff_inb s) y
theorem mem_setX (s : Fin 3) (y) : y ∈ setX s ↔ (y 0).val = s.val := mem_slot (xsOff s) s.val rfl (xsOff_inb s) y

theorem setW_disjoint : ∀ s s' : Fin 2, s ≠ s' → Disjoint (setW s) (setW s') := by
  intro s s' hne; rw [Finset.disjoint_left]; intro y hy hy'; rw [mem_setW] at hy hy'; exact hne (Fin.ext (hy.symm.trans hy'))
theorem setD_disjoint : ∀ s s' : Fin 2, s ≠ s' → Disjoint (setD s) (setD s') := by
  intro s s' hne; rw [Finset.disjoint_left]; intro y hy hy'; rw [mem_setD] at hy hy'; exact hne (Fin.ext (hy.symm.trans hy'))
theorem setX_disjoint : ∀ s s' : Fin 3, s ≠ s' → Disjoint (setX s) (setX s') := by
  intro s s' hne; rw [Finset.disjoint_left]; intro y hy hy'; rw [mem_setX] at hy hy'; exact hne (Fin.ext (hy.symm.trans hy'))
theorem setW_cover : (Finset.univ : Finset (Fin 2)).biUnion setW = Finset.univ := by
  ext y; simp only [Finset.mem_biUnion, Finset.mem_univ, true_and, iff_true]; exact ⟨(y 0).cast (by decide), by rw [mem_setW]; rfl⟩
theorem setD_cover : (Finset.univ : Finset (Fin 2)).biUnion setD = Finset.univ := by
  ext y; simp only [Finset.mem_biUnion, Finset.mem_univ, true_and, iff_true]; exact ⟨(y 0).cast (by decide), by rw [mem_setD]; rfl⟩
theorem setX_cover : (Finset.univ : Finset (Fin 3)).biUnion setX = Finset.univ := by
  ext y; simp only [Finset.mem_biUnion, Finset.mem_univ, true_and, iff_true]; exact ⟨(y 0).cast (by decide), by rw [mem_setX]; rfl⟩

theorem gSlot_set (s : Fin 2) : (gSlot s).view.set = setW s := (View.set_reshape _ _).trans (View.set_slice_whole _ _)
theorem uSlot_set (s : Fin 2) : (uSlot s).view.set = setW s := (View.set_reshape _ _).trans (View.set_slice_whole _ _)
theorem dSlot_set (s : Fin 2) : (dSlot s).view.set = setD s := (View.set_reshape _ _).trans (View.set_slice_whole _ _)
theorem xSlot_set (s : Fin 3) : (xSlot s).view.set = setX s := (View.set_reshape _ _).trans (View.set_slice_whole _ _)

section Split
variable (c : Dev nD)

theorem slotG_eq (s f) : slotG (F := F) c s f = ((c : Thread nD τ).loc cc0_scratch5 ↦[setW s]{fullShare} f) := congrArg (fun S => (_ ↦[S]{fullShare} f : sProp (Mo F))) (gSlot_set s)
theorem slotU_eq (s f) : slotU (F := F) c s f = ((c : Thread nD τ).loc cc0_scratch6 ↦[setW s]{fullShare} f) := congrArg (fun S => (_ ↦[S]{fullShare} f : sProp (Mo F))) (uSlot_set s)
theorem slotD_eq (s f) : slotD (F := F) c s f = ((c : Thread nD τ).loc cc0_scratch7 ↦[setD s]{fullShare} f) := congrArg (fun S => (_ ↦[S]{fullShare} f : sProp (Mo F))) (dSlot_set s)
theorem slotX_eq (s f) : slotX (F := F) c s f = ((c : Thread nD τ).loc cc0_scratch3 ↦[setX s]{fullShare} f) := congrArg (fun S => (_ ↦[S]{fullShare} f : sProp (Mo F))) (xSlot_set s)

/-- A buffer of two slots, cut and put together again. -/
theorem cut2 {ℓ : Loc nD τ sig} (I : Fin 2 → Finset (Idx ℓ)) (hd : ∀ s s', s ≠ s' → Disjoint (I s) (I s')) (hc : Finset.univ.biUnion I = Finset.univ) :
    iprop(∃ f : Buf (Elt F) ℓ, ℓ ↦{fullShare} f) ⊢ (iprop((∃ f : Buf (Elt F) ℓ, ℓ ↦[I 0]{fullShare} f) ∗ ∃ f : Buf (Elt F) ℓ, ℓ ↦[I 1]{fullShare} f) : sProp (Mo F)) := by
  iintro ⟨%f, H⟩
  ihave H2 := (entails_of_eq ((Ring.pointsTo_blocks (Ix := Unit) (Name := ℕ) (U := UD sig nD τ) (Lvl := ℕ) (q := fullShare) (ℓ := ℓ) I hd hc f).trans (slots2 _))) $$ H
  icases H2 with ⟨H0, H1⟩
  isplitl [H0]
  · iexists f; iexact H0
  · iexists f; iexact H1
theorem join2 {ℓ : Loc nD τ sig} (I : Fin 2 → Finset (Idx ℓ)) (hd : ∀ s s', s ≠ s' → Disjoint (I s) (I s')) (hc : Finset.univ.biUnion I = Finset.univ) :
    iprop((∃ f : Buf (Elt F) ℓ, ℓ ↦[I 0]{fullShare} f) ∗ ∃ f : Buf (Elt F) ℓ, ℓ ↦[I 1]{fullShare} f) ⊢ (iprop(∃ f : Buf (Elt F) ℓ, ℓ ↦{fullShare} f) : sProp (Mo F)) := by
  iintro ⟨⟨%f0, H0⟩, ⟨%f1, H1⟩⟩
  iapply (Ring.pointsTo_blocks_join_exists (ℓ := ℓ) I hd hc f0)
  irw [slots2]
  isplitl [H0]
  · iexists f0; iexact H0
  · iexists f1; iexact H1
/-- A buffer of three slots likewise. -/
theorem cut3 {ℓ : Loc nD τ sig} (I : Fin 3 → Finset (Idx ℓ)) (hd : ∀ s s', s ≠ s' → Disjoint (I s) (I s')) (hc : Finset.univ.biUnion I = Finset.univ) :
    iprop(∃ f : Buf (Elt F) ℓ, ℓ ↦{fullShare} f)
      ⊢ (iprop((∃ f : Buf (Elt F) ℓ, ℓ ↦[I 0]{fullShare} f) ∗ (∃ f : Buf (Elt F) ℓ, ℓ ↦[I 1]{fullShare} f) ∗ ∃ f : Buf (Elt F) ℓ, ℓ ↦[I 2]{fullShare} f) : sProp (Mo F)) := by
  iintro ⟨%f, H⟩
  ihave H2 := (entails_of_eq ((Ring.pointsTo_blocks (Ix := Unit) (Name := ℕ) (U := UD sig nD τ) (Lvl := ℕ) (q := fullShare) (ℓ := ℓ) I hd hc f).trans (slots3 _))) $$ H
  icases H2 with ⟨H0, H1, H2⟩
  isplitl [H0]
  · iexists f; iexact H0
  isplitl [H1]
  · iexists f; iexact H1
  · iexists f; iexact H2
theorem join3 {ℓ : Loc nD τ sig} (I : Fin 3 → Finset (Idx ℓ)) (hd : ∀ s s', s ≠ s' → Disjoint (I s) (I s')) (hc : Finset.univ.biUnion I = Finset.univ) :
    iprop((∃ f : Buf (Elt F) ℓ, ℓ ↦[I 0]{fullShare} f) ∗ (∃ f : Buf (Elt F) ℓ, ℓ ↦[I 1]{fullShare} f) ∗ ∃ f : Buf (Elt F) ℓ, ℓ ↦[I 2]{fullShare} f)
      ⊢ (iprop(∃ f : Buf (Elt F) ℓ, ℓ ↦{fullShare} f) : sProp (Mo F)) := by
  iintro ⟨⟨%f0, H0⟩, ⟨%f1, H1⟩, ⟨%f2, H2⟩⟩
  iapply (Ring.pointsTo_blocks_join_exists (ℓ := ℓ) I hd hc f0)
  irw [slots3]
  isplitl [H0]
  · iexists f0; iexact H0
  isplitl [H1]
  · iexists f1; iexact H1
  · iexists f2; iexact H2

theorem ex_congr {α : Type} {P Q : α → sProp (Mo F)} (h : ∀ f, P f = Q f) : iprop(∃ f, P f) = iprop(∃ f, Q f) := by rw [show P = Q from funext h]

theorem cutG : (iprop(∃ f : Buf (Elt F) ((c : Thread nD τ).loc cc0_scratch5), ((c : Thread nD τ).loc cc0_scratch5) ↦{fullShare} f) : sProp (Mo F))
    ⊣⊢ iprop((∃ f, slotG c 0 f) ∗ ∃ f, slotG c 1 f) := by
  rw [ex_congr (slotG_eq c 0), ex_congr (slotG_eq c 1)]
  exact ⟨cut2 (ℓ := (c : Thread nD τ).loc cc0_scratch5) setW setW_disjoint setW_cover, join2 (ℓ := (c : Thread nD τ).loc cc0_scratch5) setW setW_disjoint setW_cover⟩
theorem cutU : (iprop(∃ f : Buf (Elt F) ((c : Thread nD τ).loc cc0_scratch6), ((c : Thread nD τ).loc cc0_scratch6) ↦{fullShare} f) : sProp (Mo F))
    ⊣⊢ iprop((∃ f, slotU c 0 f) ∗ ∃ f, slotU c 1 f) := by
  rw [ex_congr (slotU_eq c 0), ex_congr (slotU_eq c 1)]
  exact ⟨cut2 (ℓ := (c : Thread nD τ).loc cc0_scratch6) setW setW_disjoint setW_cover, join2 (ℓ := (c : Thread nD τ).loc cc0_scratch6) setW setW_disjoint setW_cover⟩
theorem cutD : (iprop(∃ f : Buf (Elt F) ((c : Thread nD τ).loc cc0_scratch7), ((c : Thread nD τ).loc cc0_scratch7) ↦{fullShare} f) : sProp (Mo F))
    ⊣⊢ iprop((∃ f, slotD c 0 f) ∗ ∃ f, slotD c 1 f) := by
  rw [ex_congr (slotD_eq c 0), ex_congr (slotD_eq c 1)]
  exact ⟨cut2 (ℓ := (c : Thread nD τ).loc cc0_scratch7) setD setD_disjoint setD_cover, join2 (ℓ := (c : Thread nD τ).loc cc0_scratch7) setD setD_disjoint setD_cover⟩
theorem cutX : (iprop(∃ f : Buf (Elt F) ((c : Thread nD τ).loc cc0_scratch3), ((c : Thread nD τ).loc cc0_scratch3) ↦{fullShare} f) : sProp (Mo F))
    ⊣⊢ iprop((∃ f, slotX c 0 f) ∗ (∃ f, slotX c 1 f) ∗ ∃ f, slotX c 2 f) := by
  rw [ex_congr (slotX_eq c 0), ex_congr (slotX_eq c 1), ex_congr (slotX_eq c 2)]
  exact ⟨cut3 (ℓ := (c : Thread nD τ).loc cc0_scratch3) setX setX_disjoint setX_cover, join3 (ℓ := (c : Thread nD τ).loc cc0_scratch3) setX setX_disjoint setX_cover⟩

/-! ## The arrays in shares -/

theorem toks2 {ℓ : Loc nD τ sig} (f : Buf (Elt F) ℓ) :
    (ℓ ↦{fullShare} f : sProp (Mo F)) ⊣⊢ iprop((ℓ ↦{Transfers.shareDrop fullShare 2} f) ∗ (ℓ ↦{tk 0} f) ∗ (ℓ ↦{tk 1} f)) := by
  have h := Transfers.pointsTo_toks (Ix := Unit) (Name := ℕ) (U := UD sig nD τ) (Lvl := ℕ) (ℓ := ℓ) (S := Finset.univ) (f := f) fullShare 2
  rw [slots2] at h
  exact h
theorem toks3 {ℓ : Loc nD τ sig} (f : Buf (Elt F) ℓ) :
    (ℓ ↦{fullShare} f : sProp (Mo F)) ⊣⊢ iprop((ℓ ↦{Transfers.shareDrop fullShare 3} f) ∗ (ℓ ↦{tk 0} f) ∗ (ℓ ↦{tk 1} f) ∗ (ℓ ↦{tk 2} f)) := by
  have h := Transfers.pointsTo_toks (Ix := Unit) (Name := ℕ) (U := UD sig nD τ) (Lvl := ℕ) (ℓ := ℓ) (S := Finset.univ) (f := f) fullShare 3
  rw [slots3] at h
  exact h

/-- A whole buffer held over its view is held. -/
theorem whole_eq {sp : Space} {s : Shape} {e : EltTy} (m : Memref sig .tc sp s e) (h : m.IsWhole) (q : PosShare TreeShare) (f : Buf (Elt F) (m.view.loc (c : Thread nD τ))) :
    (m.view.loc (c : Thread nD τ) ↦[m.view.set]{q} f : sProp (Mo F)) = (m.view.loc (c : Thread nD τ) ↦{q} f) := by
  rw [show m.view.set = Finset.univ from h.set_eq_univ]

end Split

/-! ## At rest -/

section Rest
variable (c : Dev nD) (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (TN TW TO : S328.Idx → BitVec 32) (TE : S64.Idx → BitVec 32) (TC : S2.Idx → BitVec 32)

/-- Every slot at rest, the rounded weights at anything. -/
def RS : sProp (Mo F) := iprop((XE c XX 0 ∗ XE c XX 1 ∗ XE c XX 2) ∗ (WE c XG XU XD 0 ∗ WE c XG XU XD 1) ∗ S0 c)
/-- What the slots' shares leave of the four arrays. -/
def LO : sProp (Mo F) := iprop((xM.view.loc (c : Thread nD τ) ↦{Transfers.shareDrop fullShare 3} XX) ∗ (gM.view.loc (c : Thread nD τ) ↦{Transfers.shareDrop fullShare 2} XG)
  ∗ (uM.view.loc (c : Thread nD τ) ↦{Transfers.shareDrop fullShare 2} XU) ∗ (dM.view.loc (c : Thread nD τ) ↦{Transfers.shareDrop fullShare 2} XD))

theorem ST_zero : RS c XX XG XU XD ⊢ ST c XX XG XU XD TO TE TC 0 := by
  unfold RS ST XQ WQ SP
  rw [if_pos rfl, if_pos rfl, if_pos rfl]
  exact .rfl

theorem ST_last (ft : Fits TW TO TE TC) : ST c XX XG XU XD TO TE TC 328 ⊢ RS c XX XG XU XD := by
  have h2 : nU TC ≤ 328 := ft.u2
  unfold ST RS XQ WQ WR
  rw [if_neg (by decide), if_neg (by decide), nK_end ft h2, XP_ge c XX TC (by omega), XP_ge c XX TC (by omega), WP_ge c XG XU XD TE TC (by omega), WP_ge c XG XU XD TE TC (by omega)]
  rw [show slX 328 = (1 : Fin 3) from rfl, show slX (328 + 1) = (2 : Fin 3) from rfl, show slX (328 + 2) = (0 : Fin 3) from rfl]
  iintro ⟨⟨H1, H2, H0⟩, ⟨W0, W1⟩, HS⟩
  isplitl [H0 H1 H2]
  · isplitl [H0]; · iexact H0
    isplitl [H1]; · iexact H1
    iexact H2
  isplitl [W0 W1]
  · rcases Nat.mod_two_eq_zero_or_one (nO TC) with h | h
    · rw [show slW (nO TC) = (0 : Fin 2) from Fin.ext h, show slW (nO TC + 1) = (1 : Fin 2) from Fin.ext (by show (nO TC + 1) % 2 = 1; omega)]
      isplitl [W0]; · iexact W0
      iexact W1
    · rw [show slW (nO TC) = (1 : Fin 2) from Fin.ext h, show slW (nO TC + 1) = (0 : Fin 2) from Fin.ext (by show (nO TC + 1) % 2 = 0; omega)]
      isplitl [W1]; · iexact W1
      iexact W0
  · iapply (SP_S0 c XG XU XD TO TE TC 328); iexact HS

end Rest

/-! ## The kernel's own semaphores -/

def osem : Fin 9 → SemLoc sig :=
  ![.dma (xSem 0).sem, .dma (xSem 1).sem, .dma (xSem 2).sem, .dma (wSem 0 0).sem, .dma (wSem 0 1).sem, .dma (wSem 0 2).sem, .dma (wSem 1 0).sem, .dma (wSem 1 1).sem, .dma (wSem 1 2).sem]
theorem ownSemFacts : Pipeline.OwnSemFacts spec0 osem := by decide +kernel
theorem ownSems0_eq (c : Dev nD) : (Pipeline.ownSems0 (Ix := Unit) (Name := ℕ) (U := UD sig nD τ) (Lvl := ℕ) (Val := Elt F) (τ := τ) osem c : sProp (Mo F))
    = iprop(cellX c 0 ∗ cellX c 1 ∗ cellX c 2 ∗ cellW c 0 0 ∗ cellW c 0 1 ∗ cellW c 0 2 ∗ cellW c 1 0 ∗ cellW c 1 1 ∗ cellW c 1 2) := by
  unfold Pipeline.ownSems0
  exact bigSep_univ_eq_bigSepL [(0 : Fin 9), (1 : Fin 9), (2 : Fin 9), (3 : Fin 9), (4 : Fin 9), (5 : Fin 9), (6 : Fin 9), (7 : Fin 9), (8 : Fin 9)] (by decide) (by decide) _

/-! ## The proof data -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables' words at launch. -/
abbrev TNm (c : Dev nD) : S328.Idx → BitVec 32 := V m c main_arg1
abbrev TWm (c : Dev nD) : S328.Idx → BitVec 32 := V m c main_arg2
abbrev TOm (c : Dev nD) : S328.Idx → BitVec 32 := V m c main_arg3
abbrev TEm (c : Dev nD) : S64.Idx → BitVec 32 := V m c main_arg4
abbrev TCm (c : Dev nD) : S2.Idx → BitVec 32 := V m c main_arg5

def adm : (p : Fin 1) → (pcfgs (F := F) p).Adm := fun _ => ⟨fun k => V m (0 : Dev nD) (pre0.ref k), trivial⟩

/-- What the kernel stores at point `p`, of the launch memory. -/
def valM (c : Dev nD) (p : ℕ) : Vec F S512x512 .i32 :=
  val c (V m c main_arg0) (V m c main_arg6) (V m c main_arg7) (V m c main_arg8) (TNm m c) (TOm m c) (TEm m c) (TCm m c) p

/-- What the loop carries before point `p`. -/
def Inv (c : Dev nD) (p : ℕ) : sProp (Mo F) :=
  iprop((∃ r, prngReg c r) ∗ LO c (V m c main_arg0) (V m c main_arg6) (V m c main_arg7) (V m c main_arg8) ∗ TB c fullShare.right (TNm m c) (TWm m c) (TOm m c) (TEm m c) (TCm m c)
    ∗ ST c (V m c main_arg0) (V m c main_arg6) (V m c main_arg7) (V m c main_arg8) (TOm m c) (TEm m c) (TCm m c) p)

abbrev cfgA (p : Fin 1) : Pipeline.Cfg sig Λ₀ := Pipeline.pin (pcfgs (F := F)) (adm m) p

def dats (p : Fin 1) (c : Dev nD) : Dat τ (Elt F) Unit ℕ (UD sig nD τ) ℕ (cfgA m p) c where
  A w := V m c (Pipeline.arrRef spec0 w)
  after w t := match w with
    | ⟨0, _⟩ => valM m c (grid0.coords t 0).val
  Φ t := Inv m c t.val
  q _ := fullShare
  owed _ := 0

theorem coord_eq : ∀ t : Fin grid0.N, (grid0.coords t 0).val = t.val := by decide +kernel

theorem after_w0 (c : Dev nD) (t : Fin (cfgA m 0).N) : (dats m 0 c).after 0 t = valM m c (grid0.coords t 0).val := by dsimp only [dats]; rfl

end Cert.Proof.Experts

end
-- ==== Proof.ExpertsRun.lean ====
/-
  The run of the routed experts' program: the body's obligation at every grid point, the launch, and the frame.
-/
module

public import proofs.«01_k».proof.Proof.ExpertsFrame

@[expose] public section

set_option maxRecDepth 16384

noncomputable section

namespace Cert.Proof.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf UD)

variable {F : FTy → Type} [BitOps F]
variable (m : (ℓ : Loc nD τ sig) → Buf (Elt F) ℓ)

/-- At every point the body stores its block: one of the two branches is taken, whatever the count. -/
theorem flags (a w : BitVec 32) : Scalar.cmpi .slt a w = 1#1 ∨ Scalar.cmpi .sge a w = 1#1 := by
  show BitVec.ofBool (a.slt w) = 1#1 ∨ BitVec.ofBool (w.sle a) = 1#1
  rw [bool_iff, bool_iff, BitVec.slt_iff_toInt_lt, BitVec.sle_iff_toInt_le]
  omega
theorem idle_false (pf : pre0.Contents (Elt F)) (i : grid0.Coords) : idle0 pf 0 i = false := by
  show (!(k0_cond10 i (pf.atD 4 ![0]) == 1#1) && !(k0_cond11 i (pf.atD 4 ![0]) == 1#1)) = false
  rcases flags (BitVec.ofNat 32 (i 0).val) (pf.atD 4 ![0]) with h | h
  · rw [show k0_cond10 i (pf.atD 4 ![0]) = 1#1 from (flag_iff _).2 h]; rfl
  · rw [show k0_cond11 i (pf.atD 4 ![0]) = 1#1 from (flag_iff _).2 h, Bool.and_comm]; rfl

abbrev st (t : Fin (cfgA m 0).N) : Memref sig .tc .vmem S512x512 .i32 := ((cfgA m 0).win 0).stage ((cfgA m 0).slots t 0)

theorem defs_tc : (defs₀ (F := F)) .tc (cfgA m 0).body = fun a => (show Pg F PUnit from cc0_routed_experts (grid0.coords a.1) nvM (Memref.isWhole_whole _) newM (Memref.isWhole_whole _) ordM (Memref.isWhole_whole _) eoM (Memref.isWhole_whole _) cntM (Memref.isWhole_whole _)
    xM (Memref.isWhole_whole _) gM (Memref.isWhole_whole _) uM (Memref.isWhole_whole _) dM (Memref.isWhole_whole _) (spec0_0.stage (a.2 0)) (hstage0_0 ((a.2 0).cast nbuf0_0)) gS (Memref.isWhole_whole _) uS (Memref.isWhole_whole _)
    dS (Memref.isWhole_whole _) xR (Memref.isWhole_whole _) cc0_scratch4 gR (Memref.isWhole_whole _) uR (Memref.isWhole_whole _) dR (Memref.isWhole_whole _) cc0_scratch8) := rfl

theorem prog_eq (t : Fin (cfgA m 0).N) : (defs₀ (F := F)) .tc (cfgA m 0).body ((cfgA m 0).bodyArgs t ((cfgA m 0).slots t)) = body (F := F) (grid0.coords t) (st m t) :=
  (congrFun (defs_tc m) _).trans (printed_eq (grid0.coords t) (st m t) _)

theorem phi_cast (c : Dev nD) (t : Fin (cfgA m 0).N) : (dats m 0 c).Φ t.castSucc = Inv m c (grid0.coords t 0).val := by
  rw [coord_eq]; rfl
theorem phi_succ (c : Dev nD) (t : Fin (cfgA m 0).N) : (dats m 0 c).Φ t.succ = Inv m c ((grid0.coords t 0).val + 1) := by
  rw [coord_eq]; rfl

variable (ft : ∀ c, Fits (TWm m c) (TOm m c) (TEm m c) (TCm m c))
include ft in
set_option backward.isDefEq.respectTransparency.types false in
theorem body_obligation (c : Dev nD) : BodyObligation (dats m 0 c) (defs₀ (F := F)) 𝒱₀ () Set.univ := fun t => by
  rw [bigSep_W0, bigSep_W0]
  dsimp only
  rw [idle_false]
  dsimp only
  rw [after_w0, phi_cast, phi_succ]
  unfold Dat.owesAt Pipeline.owesWithin
  rw [show (dats m 0 c).owed t.castSucc = 0 from rfl, show (dats m 0 c).owed t.succ = 0 from rfl]
  unfold owns Inv valM
  iintro ⟨⟨Hr, HL, HT, HS⟩, ⟨%W, -, HW⟩, ⟨%d1, %gO, -, HO⟩⟩
  sl_rw [prog_eq m t]
  iapply (wp_wand_r _ _ _)
  isplitl [HT HS HW HO]
  · iapply (body_run c (V m c main_arg0) (V m c main_arg6) (V m c main_arg7) (V m c main_arg8) fullShare.right (ft c) (grid0.coords t) (st m t) gO (TN := TNm m c))
    isplitl [HW]; · iexists W; iexact HW
    isplitl [HT]; · iexact HT
    isplitl [HS]; · iexact HS
    iexact HO
  · iintro %u ⟨⟨%W', HW⟩, HT, HS, ⟨%f, %hf, HO⟩⟩
    isplitl [Hr HL HT HS]
    · isplitl [Hr]; · iexact Hr
      isplitl [HL]; · iexact HL
      isplitl [HT]; · iexact HT
      iexact HS
    isplitl [HW]
    · iexists W'; isplitr; · ipureintro; exact fun _ _ => Or.inl trivial
      iexact HW
    iexists f; isplitr; · ipureintro; exact hf
    iexact HO

/-! ## The launch -/

abbrev H0 : Finset (Ref sig .tc) := {main_arg0, main_arg6, main_arg7, main_arg8}

theorem held_eq (c : Dev nD) (Φ : Ref sig .tc → sProp (Mo F)) : bigSep H0 Φ = iprop(Φ main_arg0 ∗ Φ main_arg6 ∗ Φ main_arg7 ∗ Φ main_arg8) := by
  unfold H0
  rw [bigSep_insert (by decide), bigSep_insert (by decide), bigSep_insert (by decide), bigSep_singleton]
  rfl

theorem tables_eq (c : Dev nD) (q : PosShare TreeShare) : (Pipeline.prefHeld pre0 c (fun _ => q) (adm m 0).1 : sProp (Mo F)) = TB c q (TNm m c) (TWm m c) (TOm m c) (TEm m c) (TCm m c) := by
  obtain rfl : c = 0 := Subsingleton.elim _ _
  unfold Pipeline.prefHeld
  rw [bigSep_univ_eq_bigSepL [(0 : Fin 5), (1 : Fin 5), (2 : Fin 5), (3 : Fin 5), (4 : Fin 5)] (by decide) (by decide)]
  unfold TB tabN tabW tabO tabE tabC
  rw [whole_eq _ nvM (Memref.isWhole_whole _), whole_eq _ newM (Memref.isWhole_whole _), whole_eq _ ordM (Memref.isWhole_whole _), whole_eq _ eoM (Memref.isWhole_whole _), whole_eq _ cntM (Memref.isWhole_whole _)]
  rfl

theorem H0_sub : H0 ⊆ Pipeline.restRefsP sig pre0 spec0 := by decide

abbrev PD (c : Dev nD) : sProp (Mo F) := Pipeline.ΦD osem spec0 H0 (V m) c

theorem toRest (c : Dev nD) : PD m c ⊢ iprop((∃ r, prngReg c r) ∗ LO c (V m c main_arg0) (V m c main_arg6) (V m c main_arg7) (V m c main_arg8)
    ∗ RS c (V m c main_arg0) (V m c main_arg6) (V m c main_arg7) (V m c main_arg8)) := by
  unfold PD
  rw [Pipeline.ΦD_eq, scopedRest0_eq, ownSems0_eq, held_eq c]
  unfold RS LO XE WE S0
  iintro ⟨⟨Hs0, Hs1, Hs2, Hs3, Hs5, Hs6, Hs7⟩, Hr, ⟨C0, C1, C2, D0, D1, D2, D3, D4, D5⟩, H0, H6, H7, H8⟩
  ihave Hx := (cutX c).1 $$ Hs3
  icases Hx with ⟨X0, X1, X2⟩
  ihave Hx := (cutG c).1 $$ Hs5
  icases Hx with ⟨G0, G1⟩
  ihave Hx := (cutU c).1 $$ Hs6
  icases Hx with ⟨U0, U1⟩
  ihave Hx := (cutD c).1 $$ Hs7
  icases Hx with ⟨E0, E1⟩
  ihave Hx := (toks3 (V m c main_arg0)).1 $$ H0
  icases Hx with ⟨L0, T0, T1, T2⟩
  ihave Hx := (toks2 (V m c main_arg6)).1 $$ H6
  icases Hx with ⟨L6, P0, P1⟩
  ihave Hx := (toks2 (V m c main_arg7)).1 $$ H7
  icases Hx with ⟨L7, Q0, Q1⟩
  ihave Hx := (toks2 (V m c main_arg8)).1 $$ H8
  icases Hx with ⟨L8, R0, R1⟩
  unfold tokX tokG tokU tokD scrG scrU scrD
  simp only [whole_eq _ xM (Memref.isWhole_whole _), whole_eq _ gM (Memref.isWhole_whole _), whole_eq _ uM (Memref.isWhole_whole _), whole_eq _ dM (Memref.isWhole_whole _),
    whole_eq _ gS (Memref.isWhole_whole _), whole_eq _ uS (Memref.isWhole_whole _), whole_eq _ dS (Memref.isWhole_whole _)]
  isplitl [Hr]; · iexact Hr
  isplitl [L0 L6 L7 L8]
  · isplitl [L0]; · iexact L0
    isplitl [L6]; · iexact L6
    isplitl [L7]; · iexact L7
    iexact L8
  isplitl [X0 X1 X2 C0 C1 C2 T0 T1 T2]
  · isplitl [X0 C0 T0]
    · isplitl [X0]; · iexact X0
      isplitl [C0]; · iexact C0
      iexact T0
    isplitl [X1 C1 T1]
    · isplitl [X1]; · iexact X1
      isplitl [C1]; · iexact C1
      iexact T1
    isplitl [X2]; · iexact X2
    isplitl [C2]; · iexact C2
    iexact T2
  isplitr [Hs0 Hs1 Hs2]
  · isplitl [G0 U0 E0 D0 D1 D2 P0 Q0 R0]
    · isplitl [G0 U0 E0]
      · isplitl [G0]; · iexact G0
        isplitl [U0]; · iexact U0
        iexact E0
      isplitl [D0 D1 D2]
      · isplitl [D0]; · iexact D0
        isplitl [D1]; · iexact D1
        iexact D2
      isplitl [P0]; · iexact P0
      isplitl [Q0]; · iexact Q0
      iexact R0
    isplitl [G1 U1 E1]
    · isplitl [G1]; · iexact G1
      isplitl [U1]; · iexact U1
      iexact E1
    isplitl [D3 D4 D5]
    · isplitl [D3]; · iexact D3
      isplitl [D4]; · iexact D4
      iexact D5
    isplitl [P1]; · iexact P1
    isplitl [Q1]; · iexact Q1
    iexact R1
  isplitl [Hs0]; · iexact Hs0
  isplitl [Hs1]; · iexact Hs1
  iexact Hs2

theorem ofRest (c : Dev nD) : iprop((∃ r, prngReg c r) ∗ LO c (V m c main_arg0) (V m c main_arg6) (V m c main_arg7) (V m c main_arg8)
    ∗ RS c (V m c main_arg0) (V m c main_arg6) (V m c main_arg7) (V m c main_arg8)) ⊢ PD m c := by
  unfold PD
  rw [Pipeline.ΦD_eq, scopedRest0_eq, ownSems0_eq, held_eq c]
  unfold RS LO XE WE S0
  unfold tokX tokG tokU tokD scrG scrU scrD
  simp only [whole_eq _ xM (Memref.isWhole_whole _), whole_eq _ gM (Memref.isWhole_whole _), whole_eq _ uM (Memref.isWhole_whole _), whole_eq _ dM (Memref.isWhole_whole _),
    whole_eq _ gS (Memref.isWhole_whole _), whole_eq _ uS (Memref.isWhole_whole _), whole_eq _ dS (Memref.isWhole_whole _)]
  iintro ⟨Hr, ⟨L0, L6, L7, L8⟩, ⟨⟨X0, C0, T0⟩, ⟨X1, C1, T1⟩, X2, C2, T2⟩, ⟨⟨⟨G0, U0, E0⟩, ⟨D0, D1, D2⟩, P0, Q0, R0⟩, ⟨G1, U1, E1⟩, ⟨D3, D4, D5⟩, P1, Q1, R1⟩, Hs0, Hs1, Hs2⟩
  isplitl [Hs0 Hs1 Hs2 X0 X1 X2 G0 G1 U0 U1 E0 E1]
  · isplitl [Hs0]; · iexact Hs0
    isplitl [Hs1]; · iexact Hs1
    isplitl [Hs2]; · iexact Hs2
    isplitl [X0 X1 X2]
    · iapply (cutX c).2
      isplitl [X0]; · iexact X0
      isplitl [X1]; · iexact X1
      iexact X2
    isplitl [G0 G1]
    · iapply (cutG c).2
      isplitl [G0]; · iexact G0
      iexact G1
    isplitl [U0 U1]
    · iapply (cutU c).2
      isplitl [U0]; · iexact U0
      iexact U1
    iapply (cutD c).2
    isplitl [E0]; · iexact E0
    iexact E1
  isplitl [Hr]; · iexact Hr
  isplitl [C0 C1 C2 D0 D1 D2 D3 D4 D5]
  · isplitl [C0]; · iexact C0
    isplitl [C1]; · iexact C1
    isplitl [C2]; · iexact C2
    isplitl [D0]; · iexact D0
    isplitl [D1]; · iexact D1
    isplitl [D2]; · iexact D2
    isplitl [D3]; · iexact D3
    isplitl [D4]; · iexact D4
    iexact D5
  isplitl [L0 T0 T1 T2]
  · iapply (toks3 (V m c main_arg0)).2
    isplitl [L0]; · iexact L0
    isplitl [T0]; · iexact T0
    isplitl [T1]; · iexact T1
    iexact T2
  isplitl [L6 P0 P1]
  · iapply (toks2 (V m c main_arg6)).2
    isplitl [L6]; · iexact L6
    isplitl [P0]; · iexact P0
    iexact P1
  isplitl [L7 Q0 Q1]
  · iapply (toks2 (V m c main_arg7)).2
    isplitl [L7]; · iexact L7
    isplitl [Q0]; · iexact Q0
    iexact Q1
  iapply (toks2 (V m c main_arg8)).2
  isplitl [L8]; · iexact L8
  isplitl [R0]; · iexact R0
  iexact R1

theorem enter (c : Dev nD) : iprop(PD m c ∗ Pipeline.ΦT pre0 (adm m 0).1 c) ⊢ Inv m c 0 := by
  unfold Pipeline.ΦT Inv
  rw [tables_eq]
  iintro ⟨HD, HT⟩
  ihave H := (toRest m c) $$ HD
  icases H with ⟨Hr, HL, HS⟩
  isplitl [Hr]; · iexact Hr
  isplitl [HL]; · iexact HL
  isplitl [HT]; · iexact HT
  iapply (ST_zero c _ _ _ _ _ _ _); iexact HS

include ft in
theorem leave (c : Dev nD) : Inv m c 328 ⊢ PD m c := by
  unfold Inv
  iintro ⟨Hr, HL, -, HS⟩
  iapply (ofRest m c)
  isplitl [Hr]; · iexact Hr
  isplitl [HL]; · iexact HL
  iapply (ST_last c _ _ _ _ _ _ _ _ (ft c)); iexact HS

include ft in
/-- The run of the whole program. -/
theorem run (g : Dev nD → PrngReg) : θ_run (defs (F := F)) (onTc main) ⟨m, fun _ => 0, g⟩
    (fun r => Pipeline.FramePost (Pipeline.pin pcfgs (adm m)) (dats m) 0 (V m) r ∧ r.2.sem = fun _ => 0) :=
  Pipeline.θ_run_frameP_dma pcfgs (adm m) (dats m) 0 launch0 osem defs₀ 𝒱₀ ownSemFacts H0 H0_sub m g main
    (hbody := fun c => (body_obligation m ft c).loose) (hshare := fun c => (dats m 0 c).share_full fun _ => rfl)
    (howed := fun _ _ => rfl) (V := V m) (hmain := Pipeline.hmainP_region pcfgs 0 defs₀ 𝒱₀ m main (fun c => rfl))
    (hA := fun _ _ => rfl) (hpf := fun c k => by obtain rfl : c = 0 := Subsingleton.elim _ _; rfl)
    (hin := fun c => enter m c) (hout := fun c => leave m ft c)
    (Q' := fun r => Pipeline.FramePost (Pipeline.pin pcfgs (adm m)) (dats m) 0 (V m) r ∧ r.2.sem = fun _ => 0) (hQ' := fun _ h => h)

end Cert.Proof.Experts

end
-- ==== Proof.ExpertsOut.lean ====
/-
  What the routed experts' kernel leaves: its result's array, block after block.
-/
module

public import proofs.«01_k».proof.Proof.ExpertsRun
public import Idealize.ShloMosaic.Lib.Pipeline.ValueKit

@[expose] public section

set_option maxRecDepth 16384

noncomputable section

namespace Cert.Proof.Experts

open Cert.Kernel2 Cert.Kernel2.Gen
open Idealize.ShloMosaic
open Idealize.ShloMosaic.TcCoe Idealize.ShloMosaic.Tactic
open Idealize.SL Idealize.SL.Sem
open Idealize.ShloMosaic.Pipeline (Dat)

variable {F : FTy → Type} [BitOps F]
variable (m : (ℓ : Loc nD τ sig) → Buf (Elt F) ℓ)

/-- The whole result: in each block's rows, the block's value. -/
def whole (c : Dev nD) (y : S167936x512.Idx) : BitVec 32 :=
  valM m c ((y 0).val / 512) (ValueIdx.ix2 (⟨(y 0).val % 512, Nat.mod_lt _ (by decide)⟩ : Fin 512) (y 1))

/-- Every point writes its block back, and a point's block is its own. -/
theorem flush_all : ∀ t : Fin grid0.N, spec0_0.flushAt cc0_transform_4 t = true := by decide +kernel
theorem idx_all : ∀ t : Fin grid0.N, cc0_transform_4 (grid0.coords t) = ![t.val, 0] := by decide +kernel

/-- The blocks cover the array, whatever the tables hold. -/
theorem covers : ((cfgA m 0).win 0).Covers := by
  refine ⟨fun a => ?_, fun β => ?_⟩
  · match a with
    | ⟨0, _⟩ => exact (by decide : 0 < 512)
    | ⟨1, _⟩ => exact (by decide : 0 < 512)
  · have b0 : (β (0 : Fin 2)).val < 328 := lt_of_lt_of_eq (β (0 : Fin 2)).isLt (show (167936 + 512 - 1) / 512 = 328 by decide)
    have b1 : (β (1 : Fin 2)).val < 1 := lt_of_lt_of_eq (β (1 : Fin 2)).isLt (show (512 + 512 - 1) / 512 = 1 by decide)
    refine ⟨(⟨(β (0 : Fin 2)).val, b0⟩ : Fin grid0.N), flush_all _, fun a => ⟨?_, Or.inl rfl⟩⟩
    refine (congrFun (idx_all ⟨(β (0 : Fin 2)).val, b0⟩) a).trans ?_
    match a with
    | ⟨0, _⟩ => rfl
    | ⟨1, _⟩ =>
      show 0 = (β (1 : Fin 2)).val
      omega

/-- The result's array after the run. -/
theorem out_eq (c : Dev nD) : (dats m 0 c).arrAt 0 (cfgA m 0).N = whole m c := by
  refine (dats m 0 c).arrAt_eq_of_covers 0 _ (covers m) fun t _ (y : S512x512.Idx) => ?_
  rw [after_w0]
  have h0 : (y 0).val < 512 := (y 0).isLt
  have e : (((cfgA m 0).win 0).blk t).view.emb y
      = (ValueIdx.ix2 (⟨512 * t.val + (y 0).val, by have h1 : t.val < 328 := t.isLt; omega⟩ : Fin 167936) (y 1) : S167936x512.Idx) := by
    funext a
    refine Fin.ext ?_
    have i0 := congrFun (idx_all t) a
    match a with
    | ⟨0, _⟩ =>
      have i0 : cc0_transform_4 (grid0.coords t) 0 = t.val := congrFun (idx_all t) 0
      show cc0_transform_4 (grid0.coords t) 0 * 512 + 1 * (y 0).val = 512 * t.val + (y 0).val
      rw [i0]; omega
    | ⟨1, _⟩ =>
      have i1 : cc0_transform_4 (grid0.coords t) 1 = 0 := congrFun (idx_all t) 1
      show cc0_transform_4 (grid0.coords t) 1 * 512 + 1 * (y 1).val = (y 1).val
      rw [i1]; omega
  rw [e]
  show valM m c (grid0.coords t 0).val _ = valM m c ((512 * t.val + (y 0).val) / 512) _
  have d1 : (512 * t.val + (y 0).val) / 512 = t.val := by omega
  have d2 : (512 * t.val + (y 0).val) % 512 = (y 0).val := by omega
  rw [coord_eq, d1]
  refine congrArg (valM m c t.val) (funext fun a => Fin.ext ?_)
  match a with
  | ⟨0, _⟩ => exact d2.symm
  | ⟨1, _⟩ => rfl

end Cert.Proof.Experts

end
-- ==== Proof.ExpertsPlain.lean ====
/-
  The reference of the routed experts, run: one program without a grid, which takes the blocks one after another.
-/
module

public import proofs.«01_k».proof.Proof.ExpertsWords
public import proofs.«01_k».proof.Proof.Gen.Reference2.Frame

@[expose] public section

set_option maxRecDepth 16384

noncomputable section

namespace Cert.Proof.Plain

open Cert.Reference2 Cert.Reference2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf ΦA)

variable {F : FTy → Type} [BitOps F]

/-- The proof's resources. -/
abbrev Mo (F : FTy → Type) := MT nD τ sig Unit (Elt F) ℕ (UR sig nD τ) ℕ

abbrev 𝒱₀ : Variants := Variants.none

/-! ## One block's value -/

/-- A block's rows, unpacked to bf16, those past the `n`-th nought. -/
def rowsIn (x : Vec F S512x512 .i32) (n : Elt F .i32) : FVec F S512x1024 .bf16 :=
  have w : Vec F S512x512 .i32 := select (cmpi .slt (iota .tc S512x512 32 [0] iota_S512x512_d0_w32) (broadcast S512x512 n)) x (broadcast S512x512 0#32)
  truncf .bf16 (concatenate S512x1024 1 [⟨S512x512, (unpackElementwise 0 w : FVec F S512x512 .f32)⟩, ⟨S512x512, unpackElementwise 1 w⟩]
    concatenates_S512x512_S512x512_S512x1024_d1) bitsLt_bf16_f32

/-- One expert's gate or up matrix, and its down matrix, rounded. -/
def wIn (w : Vec F S1x1024x256 .f32) : FVec F S1024x256 .bf16 := truncf .bf16 (shapeCast S1024x256 w shapeCasts_S1x1024x256_S1024x256 : FVec F S1024x256 .f32) bitsLt_bf16_f32
def wOut (w : Vec F S1x256x1024 .f32) : FVec F S256x1024 .bf16 := truncf .bf16 (shapeCast S256x1024 w shapeCasts_S1x256x1024_S256x1024 : FVec F S256x1024 .f32) bitsLt_bf16_f32

/-- The hidden rows: the gate, through the sigmoid, times up. -/
def hidden (x : FVec F S512x1024 .bf16) (wg wu : FVec F S1024x256 .bf16) : FVec F S512x256 .bf16 :=
  have g : FVec F S512x256 .f32 := matmul dot_S512x1024_S1024x256_S512x256_1_0_0_1_n_n none x wg (constant S512x256 .f32 0x00000000#32)
  have u : FVec F S512x256 .f32 := matmul dot_S512x1024_S1024x256_S512x256_1_0_0_1_n_n none x wu (constant S512x256 .f32 0x00000000#32)
  truncf .bf16 (mulf (mulf g (divf (broadcast S512x256 (Scalar.ofBits .f32 0x3F800000#32)) (addf (broadcast S512x256 (Scalar.ofBits .f32 0x3F800000#32))
    (exp (subf (broadcast S512x256 (Scalar.ofBits .f32 0x00000000#32)) g))))) u) bitsLt_bf16_f32

/-- The block's result, packed. -/
def packed (h : FVec F S512x256 .bf16) (wd : FVec F S256x1024 .bf16) : IVec S512x512 32 :=
  have y : FVec F S512x1024 .f32 := matmul dot_S512x256_S256x1024_S512x1024_1_0_0_1_n_n none h wd (constant S512x1024 .f32 0x00000000#32)
  packElementwise (extractStridedSlice S512x512 ![0, 0] y slices_S512x1024_o0_0_S512x512 : FVec F S512x512 .f32)
    (extractStridedSlice S512x512 ![0, 512] y slices_S512x1024_o0_512_S512x512)

/-- Block `t` of rows through the expert `e`. -/
def blk (x4 : S167936x512.Idx → Elt F .i32) (x5 x6 : S64x1024x256.Idx → Elt F .f32) (x7 : S64x256x1024.Idx → Elt F .f32)
    (n : Elt F .i32) (t : Fin 328) (e : Fin 64) : IVec S512x512 32 :=
  packed (hidden (rowsIn (fun y => x4 (ix2 (⟨512 * t.val + (y 0).val, by have h1 := t.isLt; have h2 : (y 0).val < 512 := (y 0).isLt; omega⟩ : Fin 167936) (y 1))) n)
    (wIn fun y => x5 (ix3 e (y 1) (y 2))) (wIn fun y => x6 (ix3 e (y 1) (y 2)))) (wOut fun y => x7 (ix3 e (y 1) (y 2)))

/-- The block a row lies in. -/
abbrev blkOf (y : S167936x512.Idx) : Fin 328 := ⟨(y 0).val / 512, by have h : (y 0).val < 167936 := (y 0).isLt; omega⟩

/-- The whole result: at a used block its value, at another 0. -/
def tgt (x0 : S328.Idx → BitVec 32) (x1 : S64.Idx → BitVec 32) (x2 : S328.Idx → BitVec 32) (x3 : S2.Idx → BitVec 32)
    (x4 : S167936x512.Idx → Elt F .i32) (x5 x6 : S64x1024x256.Idx → Elt F .f32) (x7 : S64x256x1024.Idx → Elt F .f32) (y : S167936x512.Idx) : BitVec 32 :=
  if (y 0).val / 512 < Experts.nU x3 then
    blk x4 x5 x6 x7 (x2 (ix1 (blkOf y))) (blkOf y) (Experts.ex x1 (Experts.od x0 ((y 0).val / 512)))
      (ix2 (⟨(y 0).val % 512, Nat.mod_lt _ (by decide)⟩ : Fin 512) (y 1))
  else 0#32

/-! ## Reads -/

theorem trip_lt (k : Fin k0_t1_loop.trips) : k.val < 328 := lt_of_lt_of_le k.isLt k0_t1_abs.2.1

/-- The word of a table at an index. -/
theorem word_at {n : ℕ} (m : Memref sig .tc .smem ⟨1, ![n]⟩ .i32) (T : m.view.ty.Contents (Elt F)) (off : Fin 1 → ℕ) (k : ℕ) (hk : k < n) (ho : off = ![k])
    (inb : ∀ a, off a + S1.size a ≤ (⟨1, ![n]⟩ : Shape).size a) (x : S1.Idx) :
    m.view.readAt (Elt F) (Rect.unit (s := ⟨1, ![n]⟩) off S1.size inb).toLoadRect T x = m.view.read (Elt F) T (ix1 (⟨k, hk⟩ : Fin n)) := by
  subst ho
  refine congrArg (m.view.read (Elt F) T) (funext fun a => Fin.ext ?_)
  match a with
  | ⟨0, _⟩ =>
    have h : (x 0).val < 1 := (x 0).isLt
    show k + 1 * (x 0).val = k
    omega

/-- A block of rows, and one expert's matrix, as a load reads them. -/
theorem rows_at (m : Memref sig .tc .vmem S167936x512 .i32) (T : m.view.ty.Contents (Elt F)) (off : Fin 2 → ℕ) (t : Fin 328) (ho : off = ![512 * t.val, 0])
    (inb : ∀ a, off a + S512x512.size a ≤ S167936x512.size a) :
    m.view.readAt (Elt F) (Rect.unit (s := S167936x512) off S512x512.size inb).toLoadRect T
      = fun y => m.view.read (Elt F) T (ix2 (⟨512 * t.val + (y 0).val, by have h1 := t.isLt; have h2 : (y 0).val < 512 := (y 0).isLt; omega⟩ : Fin 167936) (y 1)) := by
  subst ho
  funext y
  refine congrArg (m.view.read (Elt F) T) (funext fun a => Fin.ext ?_)
  match a with
  | ⟨0, _⟩ => show 512 * t.val + 1 * (y 0).val = 512 * t.val + (y 0).val; omega
  | ⟨1, _⟩ => show 0 + 1 * (y 1).val = (y 1).val; omega

theorem mat_at {a b : ℕ} (m : Memref sig .tc .vmem ⟨3, ![64, a, b]⟩ .f32) (T : m.view.ty.Contents (Elt F)) (off : Fin 3 → ℕ) (e : Fin 64) (ho : off = ![e.val, 0, 0])
    (inb : ∀ x, off x + (⟨3, ![1, a, b]⟩ : Shape).size x ≤ (⟨3, ![64, a, b]⟩ : Shape).size x) :
    m.view.readAt (Elt F) (Rect.unit (s := ⟨3, ![64, a, b]⟩) off (⟨3, ![1, a, b]⟩ : Shape).size inb).toLoadRect T
      = fun y : (⟨3, ![1, a, b]⟩ : Shape).Idx => m.view.read (Elt F) T (ix3 e (y 1) (y 2)) := by
  subst ho
  funext y
  refine congrArg (m.view.read (Elt F) T) (funext fun x => Fin.ext ?_)
  match x with
  | ⟨0, _⟩ =>
    have h : (y 0).val < 1 := (y 0).isLt
    show e.val + 1 * (y 0).val = e.val
    omega
  | ⟨1, _⟩ => show 0 + 1 * (y 1).val = (y 1).val; omega
  | ⟨2, _⟩ => show 0 + 1 * (y 2).val = (y 2).val; omega

/-! ## The words of a trip -/

theorem iv_val (k : Fin k0_t1_loop.trips) : (Scf.iv 0#32 1#32 k.val).toNat = k.val := congrFun (k0_off1_eq k) 0

theorem used_iff (k : Fin k0_t1_loop.trips) {v : BitVec 32} (hv : v.toNat ≤ 328) : Scalar.cmpi .slt (Scf.iv 0#32 1#32 k.val) v = 1#1 ↔ k.val < v.toNat := by
  have h := trip_lt k
  rw [Experts.slt_iff (by rw [iv_val]; omega) (by omega), iv_val]

theorem sel_yes {α : Type} {b : BitVec 1} (h : b = 1#1) (x y : α) : Scalar.select b x y = x := if_pos h
theorem sel_no {α : Type} {b : BitVec 1} (h : ¬b = 1#1) (x y : α) : Scalar.select b x y = y := if_neg h

/-- The number of the expert read at a trip. -/
def nth (x0 : S328.Idx → BitVec 32) (x3 : S2.Idx → BitVec 32) (k : ℕ) : ℕ := if k < Experts.nU x3 then Experts.od x0 k else 0

theorem off2_val (k : Fin k0_t1_loop.trips) (x0 : S328.Idx → BitVec 32) (x3 : S2.Idx → BitVec 32) (hu : (x3 (ix1 0)).toNat ≤ 328) :
    k0_off2 k (x3 (ix1 0)) (x0 (ix1 (⟨k.val, trip_lt k⟩ : Fin 328))) = ![nth x0 x3 k.val] := by
  show ![(Scalar.select (Scalar.cmpi .slt (Scf.iv 0#32 1#32 k.val) (x3 (ix1 0))) (x0 (ix1 (⟨k.val, trip_lt k⟩ : Fin 328))) 0#32).toNat] = _
  unfold nth Experts.nU
  by_cases h : k.val < (x3 (ix1 0)).toNat
  · rw [if_pos h, sel_yes ((used_iff k hu).mpr h), Experts.od_eq x0 (trip_lt k)]
  · rw [if_neg h, sel_no fun h' => h ((used_iff k hu).mp h')]; rfl

theorem chk1_of (k : Fin k0_t1_loop.trips) (v1 v4 : BitVec 32) {n : ℕ} (e : k0_off2 k v1 v4 = ![n]) (h : n < 64) : k0_chk1 k v1 v4 := by
  unfold k0_chk1
  rw [e]
  intro a
  match a with
  | ⟨0, _⟩ => show n + 1 ≤ 64; omega

theorem chk2_of {v : BitVec 32} (h : v.toNat < 64) : k0_chk2 v := by
  constructor
  · intro a
    match a with
    | ⟨0, _⟩ => show v.toNat + 1 ≤ 64; omega
    | ⟨1, _⟩ => show 0 + 1024 ≤ 1024; omega
    | ⟨2, _⟩ => show 0 + 256 ≤ 256; omega
  · intro a
    match a with
    | ⟨0, _⟩ => show v.toNat + 1 ≤ 64; omega
    | ⟨1, _⟩ => show 0 + 256 ≤ 256; omega
    | ⟨2, _⟩ => show 0 + 1024 ≤ 1024; omega

section Run
variable (c : Dev nD) (M0 : Memref sig .tc .smem S328 .i32) (h0 : M0.IsWhole) (M1 : Memref sig .tc .smem S64 .i32) (h1 : M1.IsWhole)
  (M2 : Memref sig .tc .smem S328 .i32) (h2 : M2.IsWhole) (M3 : Memref sig .tc .smem S2 .i32) (h3 : M3.IsWhole)
  (M4 : Memref sig .tc .vmem S167936x512 .i32) (h4 : M4.IsWhole) (M5 : Memref sig .tc .vmem S64x1024x256 .f32) (h5 : M5.IsWhole)
  (M6 : Memref sig .tc .vmem S64x1024x256 .f32) (h6 : M6.IsWhole) (M7 : Memref sig .tc .vmem S64x256x1024 .f32) (h7 : M7.IsWhole)
  (M8 : Memref sig .tc .vmem S167936x512 .i32) (h8 : M8.IsWhole)
  (f0 : Buf (Elt F) (M0.view.loc (c : Thread nD τ))) (f1 : Buf (Elt F) (M1.view.loc (c : Thread nD τ)))
  (f2 : Buf (Elt F) (M2.view.loc (c : Thread nD τ))) (f3 : Buf (Elt F) (M3.view.loc (c : Thread nD τ)))
  (f4 : Buf (Elt F) (M4.view.loc (c : Thread nD τ))) (f5 : Buf (Elt F) (M5.view.loc (c : Thread nD τ)))
  (f6 : Buf (Elt F) (M6.view.loc (c : Thread nD τ))) (f7 : Buf (Elt F) (M7.view.loc (c : Thread nD τ)))

/-- The first eight memrefs as the body finds and leaves them. -/
abbrev ins : sProp (Mo F) :=
  iprop((M0.view.loc (c : Thread nD τ) ↦[M0.view.set]{fullShare} f0) ∗ (M1.view.loc (c : Thread nD τ) ↦[M1.view.set]{fullShare} f1)
    ∗ (M2.view.loc (c : Thread nD τ) ↦[M2.view.set]{fullShare} f2) ∗ (M3.view.loc (c : Thread nD τ) ↦[M3.view.set]{fullShare} f3)
    ∗ (M4.view.loc (c : Thread nD τ) ↦[M4.view.set]{fullShare} f4) ∗ (M5.view.loc (c : Thread nD τ) ↦[M5.view.set]{fullShare} f5)
    ∗ (M6.view.loc (c : Thread nD τ) ↦[M6.view.set]{fullShare} f6) ∗ (M7.view.loc (c : Thread nD τ) ↦[M7.view.set]{fullShare} f7))

/-- The result's memref: the blocks before the `k`-th hold their values. -/
abbrev inv (G : S167936x512.Idx → BitVec 32) (k : ℕ) (_ : PUnit.{1}) : sProp (Mo F) :=
  iprop(ins c M0 M1 M2 M3 M4 M5 M6 M7 f0 f1 f2 f3 f4 f5 f6 f7
    ∗ ∃ g, (M8.view.loc (c : Thread nD τ) ↦[M8.view.set]{fullShare} g)
      ∗ ⌜∀ y : S167936x512.Idx, (y 0).val < 512 * k → M8.view.read (Elt F) g y = G y⌝)

set_option maxHeartbeats 2000000 in
/-- The whole body: from its inputs the result's memref is left at `tgt` of them. -/
theorem body_run {x0 x2 : S328.Idx → BitVec 32} {x1 : S64.Idx → BitVec 32} {x3 : S2.Idx → BitVec 32}
    {x4 : S167936x512.Idx → Elt F .i32} {x5 x6 : S64x1024x256.Idx → Elt F .f32} {x7 : S64x256x1024.Idx → Elt F .f32}
    (e0 : M0.view.read (Elt F) f0 = x0) (e1 : M1.view.read (Elt F) f1 = x1) (e2 : M2.view.read (Elt F) f2 = x2) (e3 : M3.view.read (Elt F) f3 = x3)
    (e4 : M4.view.read (Elt F) f4 = x4) (e5 : M5.view.read (Elt F) f5 = x5) (e6 : M6.view.read (Elt F) f6 = x6) (e7 : M7.view.read (Elt F) f7 = x7)
    {TW : S328.Idx → BitVec 32} (ft : Experts.Fits TW x0 x1 x3) (d) (Q : PUnit.{1} → sProp (Mo F)) :
    iprop(ins c M0 M1 M2 M3 M4 M5 M6 M7 f0 f1 f2 f3 f4 f5 f6 f7 ∗ (M8.view.loc (c : Thread nD τ) ↦[M8.view.set]{fullShare} d)
        ∗ (∀ g, ⌜M8.view.read (Elt F) g = tgt x0 x1 x2 x3 x4 x5 x6 x7⌝ -∗
          iprop(ins c M0 M1 M2 M3 M4 M5 M6 M7 f0 f1 f2 f3 f4 f5 f6 f7 ∗ (M8.view.loc (c : Thread nD τ) ↦[M8.view.set]{fullShare} g)) -∗ Q ⟨⟩))
      ⊢ wp frame (wpE (defs₀ (F := F)) 𝒱₀ (c : Thread nD τ) none) Set.univ
        (cc0__experts_plain M0 h0 M1 h1 M2 h2 M3 h3 M4 h4 M5 h5 M6 h6 M7 h7 M8 h8) Q := by
  iintro ⟨⟨H0, H1, H2, H3, H4, H5, H6, H7⟩, H8, Hk⟩
  sl_unfold [cc0__experts_plain]
  sl_exec
  sl_for (inv c M0 M1 M2 M3 M4 M5 M6 M7 M8 f0 f1 f2 f3 f4 f5 f6 f7 (tgt x0 x1 x2 x3 x4 x5 x6 x7)) $$ [H0 H1 H2 H3 H4 H5 H6 H7 H8]
  case region =>
    intro k _
    unfold inv
    iintro ⟨⟨H0, H1, H2, H3, H4, H5, H6, H7⟩, %g, H8, %hg⟩
    have hk := trip_lt k
    have hu : (x3 (ix1 0)).toNat ≤ 328 := ft.u2
    have hn : nth x0 x3 k.val < 64 := by
      unfold nth
      split
      case isTrue h =>
        have h1 := Experts.od_lt ft h
        have h2 : Experts.nO x3 ≤ 64 := ft.n64
        omega
      case isFalse => decide
    have ho := off2_val k x0 x3 hu
    sl_exec
    have w3 : body_run.sl.r c M3 f3 = x3 (ix1 0) := (word_at M3 f3 _ 0 (by decide) rfl _ _).trans (congrFun e3 _)
    have w0 : body_run.sl.r_1 c M0 f0 k = x0 (ix1 (⟨k.val, hk⟩ : Fin 328)) := (word_at M0 f0 _ k.val hk (k0_off1_eq k) _ _).trans (congrFun e0 _)
    have q1 : k0_chk1 k (body_run.sl.r c M3 f3) (body_run.sl.r_1 c M0 f0 k) := by
      rw [w3, w0]; exact chk1_of k _ _ ho hn
    sl_exec
    have w1 : body_run.sl.r_2 c M0 M1 M3 f0 f1 f3 k q1 = x1 (ix1 (⟨nth x0 x3 k.val, hn⟩ : Fin 64)) :=
      (word_at M1 f1 _ _ hn (by rw [w3, w0]; exact ho) _ _).trans (congrFun e1 _)
    have we : (body_run.sl.r_2 c M0 M1 M3 f0 f1 f3 k q1).toNat = (Experts.ex x1 (nth x0 x3 k.val)).val := by
      rw [w1]; exact Experts.ex_val ft hn
    have q2 : k0_chk2 (body_run.sl.r_2 c M0 M1 M3 f0 f1 f3 k q1) := chk2_of (by rw [we]; exact Fin.isLt _)
    sl_exec
    sl_step
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexists _
    isplitl [H8]; · iexact H8
    ipureintro
    intro y hy
    have v : ∀ z, body_run.sl.v52 c M0 M1 M2 M3 M4 M5 M6 M7 f0 f1 f2 f3 f4 f5 f6 f7 k q1 q2 z
        = if k.val < Experts.nU x3 then blk x4 x5 x6 x7 (x2 (ix1 (⟨k.val, hk⟩ : Fin 328))) ⟨k.val, hk⟩ (Experts.ex x1 (nth x0 x3 k.val)) z else 0#32 := by
      intro z
      have e : body_run.sl.v52 c M0 M1 M2 M3 M4 M5 M6 M7 f0 f1 f2 f3 f4 f5 f6 f7 k q1 q2
          = Scalar.select (Scalar.cmpi .slt (Scf.iv 0#32 1#32 k.val) (body_run.sl.r c M3 f3))
            (packed (hidden (rowsIn (M4.view.readAt (Elt F) (Rect.unit (s := S167936x512) (k0_off3 k) S512x512.size (k0_off3_inb k)).toLoadRect f4)
                (M2.view.readAt (Elt F) (Rect.unit (s := S328) (k0_off4 k) S1.size (k0_off4_inb k)).toLoadRect f2 (Shape.Idx.first (numel1_S1.symm ▸ Nat.one_pos))))
              (wIn (M5.view.readAt (Elt F) (Rect.unit (s := S64x1024x256) (k0_off5 _) S1x1024x256.size (k0_off5_inb _ q2)).toLoadRect f5))
              (wIn (M6.view.readAt (Elt F) (Rect.unit (s := S64x1024x256) (k0_off5 _) S1x1024x256.size (k0_off5_inb _ q2)).toLoadRect f6)))
              (wOut (M7.view.readAt (Elt F) (Rect.unit (s := S64x256x1024) (k0_off6 _) S1x256x1024.size (k0_off6_inb _ q2)).toLoadRect f7)))
            (broadcast S512x512 0#32) := rfl
      have o5 : k0_off5 (body_run.sl.r_2 c M0 M1 M3 f0 f1 f3 k q1) = ![(Experts.ex x1 (nth x0 x3 k.val)).val, 0, 0] := by rw [← we]; rfl
      have o6 : k0_off6 (body_run.sl.r_2 c M0 M1 M3 f0 f1 f3 k q1) = ![(Experts.ex x1 (nth x0 x3 k.val)).val, 0, 0] := by rw [← we]; rfl
      rw [e, w3, rows_at M4 f4 _ ⟨k.val, hk⟩ (k0_off3_eq k), word_at M2 f2 _ k.val hk (k0_off4_eq k),
        mat_at M5 f5 _ _ o5, mat_at M6 f6 _ _ o5, mat_at M7 f7 _ _ o6, e2, e4, e5, e6, e7]
      by_cases h : k.val < Experts.nU x3
      · rw [if_pos h, sel_yes ((used_iff k hu).mpr h)]; rfl
      · rw [if_neg h, sel_no fun h' => h ((used_iff k hu).mp h')]; rfl
    by_cases hlo : 512 * k.val ≤ (y 0).val
    · have hd : (y 0).val / 512 = k.val := by omega
      rw [View.read_writes_cons_unit_of_mem _ _ _ _ _ _ (ix2 (⟨(y 0).val % 512, Nat.mod_lt _ (by decide)⟩ : Fin 512) (y 1) : S512x512.Idx) (k0_off7_eq k) ?_]
      · rw [v]
        unfold tgt nth blkOf
        by_cases h : k.val < Experts.nU x3
        · simp only [hd, if_pos h]
        · simp only [hd, if_neg h]
      · intro a
        match a with
        | ⟨0, _⟩ => show (y 0).val = 512 * k.val + (y 0).val % 512; omega
        | ⟨1, _⟩ => show (y 1).val = 0 + (y 1).val; omega
    · rw [View.read_writes_cons_unit_of_not_mem _ _ _ _ _ _ (k0_off7_eq k) 0 (.inl (by show (y 0).val < 512 * k.val; omega))]
      exact hg y (by omega)
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexists d
      isplitl [H8]; · iexact H8
      ipureintro
      intro y hy
      omega
  · iintro %acc ⟨HI, %g, H8, %hg⟩
    sl_exec
    sl_step
    ispecialize Hk $$ %g
    iapply Hk
    · ipureintro
      have ht : Scf.trips k0_t1_loop.lb k0_t1_loop.ub k0_t1_loop.st = 328 := by decide
      funext y
      refine hg y ?_
      rw [ht]
      have h : (y 0).val < 167936 := (y 0).isLt
      omega
    · isplitl [HI]; · iexact HI
      iexact H8

end Run

/-! ## The launch -/

variable (m : (ℓ : Loc nD τ sig) → Buf (Elt F) ℓ) (ρ : Dev nD → PrngReg)

/-- The tables and the matrices the region finds. -/
abbrev TN (c : Dev nD) : S328.Idx → BitVec 32 := m ((c : Thread nD τ).loc main_arg1)
abbrev TO (c : Dev nD) : S328.Idx → BitVec 32 := m ((c : Thread nD τ).loc main_arg3)
abbrev TE (c : Dev nD) : S64.Idx → BitVec 32 := m ((c : Thread nD τ).loc main_arg4)
abbrev TC (c : Dev nD) : S2.Idx → BitVec 32 := m ((c : Thread nD τ).loc main_arg5)

/-- The result. -/
def res (c : Dev nD) : S167936x512.Idx → BitVec 32 :=
  tgt (TO m c) (TE m c) (TN m c) (TC m c) (m ((c : Thread nD τ).loc main_arg0)) (V m c main_v1) (V m c main_v3) (V m c main_v5)

/-- What the body leaves: each input at its block, the result at `res`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => res m c
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = res m c := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- A window's block is its whole array. -/
theorem blk0 (c : Dev nD) (t : Fin cfg0.N) : iblk m c 0 t = V m c main_arg3 := by
  funext y
  refine congrArg (V m c main_arg3) (funext fun a => Fin.ext ?_)
  match a with
  | ⟨0, _⟩ => show 0 * 328 + 1 * (y 0).val = (y 0).val; omega
theorem blk1 (c : Dev nD) (t : Fin cfg0.N) : iblk m c 1 t = V m c main_arg4 := by
  funext y
  refine congrArg (V m c main_arg4) (funext fun a => Fin.ext ?_)
  match a with
  | ⟨0, _⟩ => show 0 * 64 + 1 * (y 0).val = (y 0).val; omega
theorem blk2 (c : Dev nD) (t : Fin cfg0.N) : iblk m c 2 t = V m c main_arg1 := by
  funext y
  refine congrArg (V m c main_arg1) (funext fun a => Fin.ext ?_)
  match a with
  | ⟨0, _⟩ => show 0 * 328 + 1 * (y 0).val = (y 0).val; omega
theorem blk3 (c : Dev nD) (t : Fin cfg0.N) : iblk m c 3 t = V m c main_arg5 := by
  funext y
  refine congrArg (V m c main_arg5) (funext fun a => Fin.ext ?_)
  match a with
  | ⟨0, _⟩ => show 0 * 2 + 1 * (y 0).val = (y 0).val; omega
theorem blk4 (c : Dev nD) (t : Fin cfg0.N) : iblk m c 4 t = V m c main_arg0 := by
  funext y
  refine congrArg (V m c main_arg0) (funext fun a => Fin.ext ?_)
  match a with
  | ⟨0, _⟩ => show 0 * 167936 + 1 * (y 0).val = (y 0).val; omega
  | ⟨1, _⟩ => show 0 * 512 + 1 * (y 1).val = (y 1).val; omega
theorem blk5 (c : Dev nD) (t : Fin cfg0.N) : iblk m c 5 t = V m c main_v1 := by
  funext y
  refine congrArg (V m c main_v1) (funext fun a => Fin.ext ?_)
  match a with
  | ⟨0, _⟩ => show 0 * 64 + 1 * (y 0).val = (y 0).val; omega
  | ⟨1, _⟩ => show 0 * 1024 + 1 * (y 1).val = (y 1).val; omega
  | ⟨2, _⟩ => show 0 * 256 + 1 * (y 2).val = (y 2).val; omega
theorem blk6 (c : Dev nD) (t : Fin cfg0.N) : iblk m c 6 t = V m c main_v3 := by
  funext y
  refine congrArg (V m c main_v3) (funext fun a => Fin.ext ?_)
  match a with
  | ⟨0, _⟩ => show 0 * 64 + 1 * (y 0).val = (y 0).val; omega
  | ⟨1, _⟩ => show 0 * 1024 + 1 * (y 1).val = (y 1).val; omega
  | ⟨2, _⟩ => show 0 * 256 + 1 * (y 2).val = (y 2).val; omega
theorem blk7 (c : Dev nD) (t : Fin cfg0.N) : iblk m c 7 t = V m c main_v5 := by
  funext y
  refine congrArg (V m c main_v5) (funext fun a => Fin.ext ?_)
  match a with
  | ⟨0, _⟩ => show 0 * 64 + 1 * (y 0).val = (y 0).val; omega
  | ⟨1, _⟩ => show 0 * 256 + 1 * (y 1).val = (y 1).val; omega
  | ⟨2, _⟩ => show 0 * 1024 + 1 * (y 2).val = (y 2).val; omega

/-- The body at its one point. -/
theorem body_obligation {TW : S328.Idx → BitVec 32} (c : Dev nD) (ft : Experts.Fits TW (TO m c) (TE m c) (TC m c)) :
    BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8]
  unfold owns
  iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩,
    ⟨%d5, %f5, %e5, H5⟩, ⟨%d6, %f6, %e6, H6⟩, ⟨%d7, %f7, %e7, H7⟩, ⟨%d8, %f8, -, H8⟩⟩
  iapply (body_run c _ _ _ _ _ _ _ _ _ _ _ _ _ _ _ _ _ _ f0 f1 f2 f3 f4 f5 f6 f7
    (e0.trans ((blk0 m c t).trans (V_main_arg3 m c))) (e1.trans ((blk1 m c t).trans (V_main_arg4 m c))) (e2.trans ((blk2 m c t).trans (V_main_arg1 m c)))
    (e3.trans ((blk3 m c t).trans (V_main_arg5 m c))) (e4.trans ((blk4 m c t).trans (V_main_arg0 m c))) (e5.trans (blk5 m c t))
    (e6.trans (blk6 m c t)) (e7.trans (blk7 m c t)) ft f8 _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iintro %g %hg ⟨⟨H0, H1, H2, H3, H4, H5, H6, H7⟩, H8⟩
  isplitl [HΦ]; · iexact HΦ
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists g; isplitr; · ipureintro; exact hg
  iexact H8

set_option backward.isDefEq.respectTransparency.types false in
/-- The whole program's run. -/
theorem run_main {TW : Dev nD → S328.Idx → BitVec 32} (ft : ∀ c, Experts.Fits (TW c) (TO m c) (TE m c) (TC m c)) :
    θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c (ft c)).loose) (hshare := fun c => (dats m 0 c).share_full fun _ => rfl)
    (howed := fun _ _ => rfl) (V := V m) (hmain := hmain m 𝒱₀) (hA := fun _ _ => rfl) (hΦ := fun _ _ => rfl)

end Cert.Proof.Plain

end
-- ==== Proof.ExpertsPlainOut.lean ====
/-
  What the routed experts' reference leaves: its result's array, and every argument unchanged.
-/
module

public import proofs.«01_k».proof.Proof.ExpertsPlain
public import Idealize.ShloMosaic.Lib.Pipeline.ValueKit

@[expose] public section

set_option maxRecDepth 16384

noncomputable section

namespace Cert.Proof.Plain

open Cert.Reference2 Cert.Reference2.Gen
open Idealize.ShloMosaic
open Idealize.ShloMosaic.TcCoe Idealize.ShloMosaic.Tactic
open Idealize.SL Idealize.SL.Sem
open Idealize.ShloMosaic.Pipeline (Dat)

variable {F : FTy → Type} [BitOps F]
variable (m : (ℓ : Loc nD τ sig) → Buf (Elt F) ℓ) (ρ : Dev nD → PrngReg)

/-- The result's array after the run. -/
theorem out_eq (c : Dev nD) : (dats m 0 c).arrAt 8 cfg0.N = res m c := by
  refine (dats m 0 c).arrAt_eq_of_covers 8 _ (by decide +kernel) fun t _ y => ?_
  rw [after0_8]
  have e : ((cfg0.win 8).blk t).view.emb y = y := by
    funext a
    refine Fin.ext ?_
    match a with
    | ⟨0, _⟩ => show 0 * 167936 + 1 * (y 0).val = (y 0).val; omega
    | ⟨1, _⟩ => show 0 * 512 + 1 * (y 1).val = (y 1).val; omega
  rw [e]
  rfl

end Cert.Proof.Plain

end
-- ==== Proof.ExpertsSame.lean ====
/-
  The kernel's result and the reference's, the same: block by block, the same operations on the same rows and the
  same expert's matrices.
-/
module

public import proofs.«01_k».proof.Proof.ExpertsOut
public import proofs.«01_k».proof.Proof.ExpertsPlainOut

@[expose] public section

set_option maxRecDepth 16384

noncomputable section

namespace Cert.Proof.Same

open Idealize.ShloMosaic
open Idealize.ShloMosaic.TcCoe Idealize.ShloMosaic.Tactic
open Idealize.SL Idealize.SL.Sem

variable {F : FTy → Type} [BitOps F]

/-- One layer's matrices of all its experts, cut out of both layers'. -/
abbrev layer {a b : ℕ} (w : (⟨4, ![2, 64, a, b]⟩ : Shape).Idx → Elt F .f32) : (⟨3, ![64, a, b]⟩ : Shape).Idx → Elt F .f32 :=
  fun y => w (ValueIdx.ix4 (1 : Fin 2) (y 0) (y 1) (y 2))

section Weights

variable (m : (ℓ : Loc Cert.Reference2.nD Cert.Reference2.τ Cert.Reference2.sig) → Buf (Elt F) ℓ)

open Cert.Reference2 Cert.Reference2.Gen in
/-- The slice and the reshape on the host cut the layer out. -/
theorem cut {a b : ℕ} (w : (⟨4, ![2, 64, a, b]⟩ : Shape).Idx → Elt F .f32)
    (h : (⟨4, ![2, 64, a, b]⟩ : Shape).Slices ![1, 0, 0, 0] ⟨4, ![1, 64, a, b]⟩) (h' : (⟨4, ![1, 64, a, b]⟩ : Shape).ShapeCasts ⟨3, ![64, a, b]⟩) :
    shapeCast ⟨3, ![64, a, b]⟩ (extractStridedSlice ⟨4, ![1, 64, a, b]⟩ ![1, 0, 0, 0] w h) h' = layer w := by
  funext y
  rw [shapeCast_dropUnit_apply (n := 3) ![64, a, b]]
  refine extractStridedSlice_apply ![1, 0, 0, 0] w h _ _ fun x => ?_
  match x with
  | ⟨0, _⟩ => rfl
  | ⟨1, _⟩ => exact (Nat.zero_add _).symm
  | ⟨2, _⟩ => exact (Nat.zero_add _).symm
  | ⟨3, _⟩ => exact (Nat.zero_add _).symm

open Cert.Reference2 Cert.Reference2.Gen in
theorem gate_eq (c : Dev nD) : V m c main_v1 = layer (m ((c : Thread nD τ).loc main_arg6)) := by
  refine Eq.trans ?_ (cut (m ((c : Thread nD τ).loc main_arg6)) slices_S2x64x1024x256_S1x64x1024x256_1_0_0_0 shapeCasts_S1x64x1024x256_S64x1024x256)
  show StableHlo.after hostOps0 _ (Proc.devRef .tc main_v1) = _
  after_results
  rfl

open Cert.Reference2 Cert.Reference2.Gen in
theorem up_eq (c : Dev nD) : V m c main_v3 = layer (m ((c : Thread nD τ).loc main_arg7)) := by
  refine Eq.trans ?_ (cut (m ((c : Thread nD τ).loc main_arg7)) slices_S2x64x1024x256_S1x64x1024x256_1_0_0_0 shapeCasts_S1x64x1024x256_S64x1024x256)
  show StableHlo.after hostOps0 _ (Proc.devRef .tc main_v3) = _
  after_results
  rfl

open Cert.Reference2 Cert.Reference2.Gen in
theorem down_eq (c : Dev nD) : V m c main_v5 = layer (m ((c : Thread nD τ).loc main_arg8)) := by
  refine Eq.trans ?_ (cut (m ((c : Thread nD τ).loc main_arg8)) slices_S2x64x256x1024_S1x64x256x1024_1_0_0_0 shapeCasts_S1x64x256x1024_S64x256x1024)
  show StableHlo.after hostOps0 _ (Proc.devRef .tc main_v5) = _
  after_results
  rfl

end Weights

/-- A block through an expert, in the kernel and in the reference. -/
theorem blk_eq (c : Dev Cert.Kernel2.nD) (XX : Cert.Kernel2.S167936x512.Idx → Elt F .i32) (XG XU : Cert.Kernel2.S2x64x1024x256.Idx → Elt F .f32)
    (XD : Cert.Kernel2.S2x64x256x1024.Idx → Elt F .f32) (b : Fin 328) (e : Fin 64) (n : BitVec 32) :
    Experts.blkVal (F := F) c XX XG XU XD b e n = Plain.blk XX (layer XG) (layer XU) (layer XD) n b e := by
  have hx : shapeCast Cert.Kernel2.S512x512 (Experts.exX (F := F) c XX b) Cert.Kernel2.Facts₀.shapeCasts_S1x512x512_S512x512
      = fun y => XX (ValueIdx.ix2 (⟨512 * b.val + (y 0).val, by have h1 := b.isLt; have h2 : (y 0).val < 512 := (y 0).isLt; omega⟩ : Fin 167936) (y 1)) := by
    funext y
    rw [shapeCast_dropUnit_apply (n := 2) ![512, 512]]
    rfl
  unfold Experts.blkVal Cert.Kernel2.Gen.k0_pay3 Cert.Kernel2.Gen.k0_pay6 Cert.Kernel2.Gen.k0_pay5 Cert.Kernel2.Gen.k0_pay1 Cert.Kernel2.Gen.k0_pay2
  dsimp only
  rw [hx, shapeCast_self, shapeCast_self, shapeCast_self]
  rfl

/-- A word of the kernel's result is the reference's. -/
theorem val_eq (c : Dev Cert.Kernel2.nD) (XX : Cert.Kernel2.S167936x512.Idx → Elt F .i32) (XG XU : Cert.Kernel2.S2x64x1024x256.Idx → Elt F .f32)
    (XD : Cert.Kernel2.S2x64x256x1024.Idx → Elt F .f32) (TN TO : Cert.Kernel2.S328.Idx → BitVec 32) (TE : Cert.Kernel2.S64.Idx → BitVec 32)
    (TC : Cert.Kernel2.S2.Idx → BitVec 32) (y : Cert.Kernel2.S167936x512.Idx) :
    Experts.val (F := F) c XX XG XU XD TN TO TE TC ((y 0).val / 512) (ValueIdx.ix2 (⟨(y 0).val % 512, Nat.mod_lt _ (by decide)⟩ : Fin 512) (y 1))
      = Plain.tgt TO TE TN TC XX (layer XG) (layer XU) (layer XD) y := by
  have e : Experts.bk ((y 0).val / 512) = Plain.blkOf y := Fin.ext (Nat.mod_eq_of_lt (Plain.blkOf y).isLt)
  unfold Experts.val Plain.tgt
  by_cases h : (y 0).val / 512 < Experts.nU TC
  · rw [if_pos h, if_pos h, e, blk_eq]
  · rw [if_neg h, if_neg h]
    rfl

/-- From equal arguments the whole results are the same. -/
theorem whole_eq (m : (ℓ : Loc Cert.Kernel2.nD Cert.Kernel2.τ Cert.Kernel2.sig) → Buf (Elt F) ℓ)
    (m' : (ℓ : Loc Cert.Reference2.nD Cert.Reference2.τ Cert.Reference2.sig) → Buf (Elt F) ℓ) (c : Dev Cert.Kernel2.nD)
    (h0 : m' ((c.tc : Thread Cert.Reference2.nD Cert.Reference2.τ).loc Cert.Reference2.main_arg0) = m ((c.tc : Thread Cert.Kernel2.nD Cert.Kernel2.τ).loc Cert.Kernel2.main_arg0))
    (h1 : m' ((c.tc : Thread Cert.Reference2.nD Cert.Reference2.τ).loc Cert.Reference2.main_arg1) = m ((c.tc : Thread Cert.Kernel2.nD Cert.Kernel2.τ).loc Cert.Kernel2.main_arg1))
    (h3 : m' ((c.tc : Thread Cert.Reference2.nD Cert.Reference2.τ).loc Cert.Reference2.main_arg3) = m ((c.tc : Thread Cert.Kernel2.nD Cert.Kernel2.τ).loc Cert.Kernel2.main_arg3))
    (h4 : m' ((c.tc : Thread Cert.Reference2.nD Cert.Reference2.τ).loc Cert.Reference2.main_arg4) = m ((c.tc : Thread Cert.Kernel2.nD Cert.Kernel2.τ).loc Cert.Kernel2.main_arg4))
    (h5 : m' ((c.tc : Thread Cert.Reference2.nD Cert.Reference2.τ).loc Cert.Reference2.main_arg5) = m ((c.tc : Thread Cert.Kernel2.nD Cert.Kernel2.τ).loc Cert.Kernel2.main_arg5))
    (h6 : m' ((c.tc : Thread Cert.Reference2.nD Cert.Reference2.τ).loc Cert.Reference2.main_arg6) = m ((c.tc : Thread Cert.Kernel2.nD Cert.Kernel2.τ).loc Cert.Kernel2.main_arg6))
    (h7 : m' ((c.tc : Thread Cert.Reference2.nD Cert.Reference2.τ).loc Cert.Reference2.main_arg7) = m ((c.tc : Thread Cert.Kernel2.nD Cert.Kernel2.τ).loc Cert.Kernel2.main_arg7))
    (h8 : m' ((c.tc : Thread Cert.Reference2.nD Cert.Reference2.τ).loc Cert.Reference2.main_arg8) = m ((c.tc : Thread Cert.Kernel2.nD Cert.Kernel2.τ).loc Cert.Kernel2.main_arg8)) :
    Plain.res m' c = Experts.whole m c := by
  funext y
  refine Eq.trans ?_ (val_eq (F := F) c _ _ _ _ _ _ _ _ y).symm
  unfold Plain.res
  rw [gate_eq, up_eq, down_eq]
  unfold Plain.TO Plain.TE Plain.TN Plain.TC
  rw [h0, h1, h3, h4, h5, h6, h7, h8]

end Cert.Proof.Same

end
-- ==== Proof.ExpertsClaims.lean ====
/- The claims about the routed experts' call, from the two runs. -/
module

public import proofs.«01_k».proof.Defs
public import proofs.«01_k».proof.Proof.ExpertsFit
public import proofs.«01_k».proof.Proof.ExpertsSame

@[expose] public section

set_option maxRecDepth 16384

noncomputable section

open Idealize.ShloMosaic Idealize.ShloMosaic.TcCoe Idealize.SL.Sem

namespace Cert.Proof.ExpertsClaims

section Kernel

open Cert.Kernel2 Cert.Kernel2.Gen

/-- The kernel's run on tables that fit: its result at every element, its arguments unchanged, every counter at zero. -/
theorem run_kernel (m : (ℓ : Loc nD τ sig) → Buf (Elt Bits) ℓ) (g : Dev nD → PrngReg) (h : Cert.Pre_Kernel2 m) :
    θ_run (defs (F := Bits)) (onTc (τ := τ) (main (F := Bits))) ⟨m, fun _ => 0, g⟩ (fun r =>
      (∀ c : Dev nD, r.2.mem ((c.tc : Thread nD τ).loc main_v0) = Experts.whole m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) :=
  (θ_run defs _ _).mono (fun r h => ⟨fun c => ⟨((h.1 c).1 0).trans (Experts.out_eq m c),
      (h.1 c).2 main_arg0 (Pipeline.mem_restRefs_of main_arg0 (by decide) (by decide : ∀ w, (spec0 w).arr.view.ref ≠ main_arg0)),
      (h.1 c).2 main_arg1 (Pipeline.mem_restRefs_of main_arg1 (by decide) (by decide : ∀ w, (spec0 w).arr.view.ref ≠ main_arg1)),
      (h.1 c).2 main_arg2 (Pipeline.mem_restRefs_of main_arg2 (by decide) (by decide : ∀ w, (spec0 w).arr.view.ref ≠ main_arg2)),
      (h.1 c).2 main_arg3 (Pipeline.mem_restRefs_of main_arg3 (by decide) (by decide : ∀ w, (spec0 w).arr.view.ref ≠ main_arg3)),
      (h.1 c).2 main_arg4 (Pipeline.mem_restRefs_of main_arg4 (by decide) (by decide : ∀ w, (spec0 w).arr.view.ref ≠ main_arg4)),
      (h.1 c).2 main_arg5 (Pipeline.mem_restRefs_of main_arg5 (by decide) (by decide : ∀ w, (spec0 w).arr.view.ref ≠ main_arg5)),
      (h.1 c).2 main_arg6 (Pipeline.mem_restRefs_of main_arg6 (by decide) (by decide : ∀ w, (spec0 w).arr.view.ref ≠ main_arg6)),
      (h.1 c).2 main_arg7 (Pipeline.mem_restRefs_of main_arg7 (by decide) (by decide : ∀ w, (spec0 w).arr.view.ref ≠ main_arg7)),
      (h.1 c).2 main_arg8 (Pipeline.mem_restRefs_of main_arg8 (by decide) (by decide : ∀ w, (spec0 w).arr.view.ref ≠ main_arg8))⟩, h.2⟩)
    (Experts.run m (fun c => Experts.fits_of _ _ _ _ _ _ _ _ _ (h c)) g)

/-- The kernel leaves its arguments and ends quiet. -/
theorem frame_kernel2 : Cert.quiescent_Kernel2 := fun m g h =>
  (θ_run defs _ _).mono (fun _ h => ⟨fun c => (h.1 c).2, h.2⟩) (run_kernel m g h)

end Kernel

section Reference

open Cert.Reference2 Cert.Reference2.Gen

/-- The reference's run on tables that fit, the same way. -/
theorem run_reference (m : (ℓ : Loc nD τ sig) → Buf (Elt Bits) ℓ) (g : Dev nD → PrngReg) (h : Cert.Pre_Reference2 m) :
    θ_run (defs (F := Bits)) (onTc (τ := τ) (main (F := Bits))) ⟨m, fun _ => 0, g⟩ (fun r =>
      (∀ c : Dev nD, r.2.mem ((c.tc : Thread nD τ).loc main_v6) = Plain.res m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) := by
  have ft : ∀ c : Dev nD, Experts.Fits (m ((c : Thread nD τ).loc main_arg2)) (Plain.TO m c) (Plain.TE m c) (Plain.TC m c) :=
    fun c => Experts.fits_of _ _ _ _ _ _ _ _ _ (h c)
  have R := Plain.run_main m g ft
  have A := frame_of m g (Plain.dats m) (fun _ _ => rfl) ((θ_run defs _ _).mono (fun _ h => h.1) R)
  refine (θ_run defs _ _).mono (fun r h => ?_) (θ_run_and R A)
  exact ⟨fun c => ⟨((h.1.1 c).1 8).trans (Plain.out_eq m c), h.2 c⟩, h.1.2⟩

/-- The reference leaves its arguments and ends quiet. -/
theorem frame_reference2 : Cert.quiescent_Reference2 := fun m g h =>
  (θ_run defs _ _).mono (fun _ h => ⟨fun c => (h.1 c).2, h.2⟩) (run_reference m g h)

end Reference

/-- On tables that fit the kernel and the reference end with the same words, bit for bit. -/
theorem bitexact_experts : Cert.bitexact_Kernel2_Reference2 := fun m g m' g' h hag =>
  ⟨fun c => Experts.whole m c,
    (θ_run Cert.Kernel2.defs _ _).mono (fun _ h c => h.1 c) (run_kernel m g h),
    (θ_run Cert.Reference2.defs _ _).mono
      (fun _ h c => by
        obtain ⟨h0, h1, h2, h3, h4, h5, h6, h7, h8⟩ := hag c
        exact ⟨((h.1 c).1).trans (Same.whole_eq m m' c h0 h1 h3 h4 h5 h6 h7 h8), (h.1 c).2⟩)
      (run_reference m' g' fun c => by
        obtain ⟨h0, h1, h2, h3, h4, h5, h6, h7, h8⟩ := hag c
        have h := h c
        rw [← h0, ← h1, ← h2, ← h3, ← h4, ← h5, ← h6, ← h7, ← h8] at h
        exact h)⟩

end Cert.Proof.ExpertsClaims

end
-- ==== Proof.FirstOps.lean ====
/-
  The routed experts' kernel, named: its buffers, the windows its copies move, and the phases of its body as
  programs of their own — one expert's three weight matrices into a weight slot, one block of token rows into a
  row slot — over literal slots, experts and blocks. The kernel computes its offsets from words it reads; equal
  offsets give these programs, so that everything about a copy is proved once.
-/
module

public import proofs.«01_k».proof.Defs
public import proofs.«01_k».proof.Proof.Gen.Kernel4.Launch
public import proofs.«01_k».proof.Proof.Gen.Kernel4.Skeleton
public import Idealize.ShloMosaic.Lib.Pipeline.Frame
public import Idealize.ShloMosaic.Lib.Ring
public import Idealize.ShloMosaic.Lib.Affine
public import Idealize.ShloMosaic.Lib.Tactic

@[expose] public section

set_option maxRecDepth 16384

noncomputable section

namespace Cert.Proof.First

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UD)

variable {F : FTy → Type} [BitOps F]

/-- The model: the pipeline's resource algebra beside the counters that the kernel's own copies use. -/
abbrev Mo (F : FTy → Type) : Type := MT nD τ sig Unit (Elt F) ℕ (UD sig nD τ) ℕ
abbrev 𝒱₀ : Variants := Variants.none
abbrev Pg (F : FTy → Type) (α : Type) : Type 1 := Prog (TpuEff nD τ sig (Elt F) Λ₀ .tc) α

/-! ## The buffers -/

abbrev xM : Memref sig .tc .hbm S167936x512 .i32 := Memref.whole main_arg0
abbrev gM : Memref sig .tc .hbm S2x64x1024x256 .f32 := Memref.whole main_arg6
abbrev uM : Memref sig .tc .hbm S2x64x1024x256 .f32 := Memref.whole main_arg7
abbrev dM : Memref sig .tc .hbm S2x64x256x1024 .f32 := Memref.whole main_arg8
abbrev nvM : Memref sig .tc .smem S328 .i32 := Memref.whole main_arg1
abbrev newM : Memref sig .tc .smem S328 .i32 := Memref.whole main_arg2
abbrev ordM : Memref sig .tc .smem S328 .i32 := Memref.whole main_arg3
abbrev eoM : Memref sig .tc .smem S64 .i32 := Memref.whole main_arg4
abbrev cntM : Memref sig .tc .smem S2 .i32 := Memref.whole main_arg5
abbrev gS : Memref sig .tc .vmem S1024x256 .bf16 := Memref.whole cc0_scratch0
abbrev uS : Memref sig .tc .vmem S1024x256 .bf16 := Memref.whole cc0_scratch1
abbrev dS : Memref sig .tc .vmem S256x1024 .bf16 := Memref.whole cc0_scratch2
abbrev xR : Memref sig .tc .vmem S3x512x512 .i32 := Memref.whole cc0_scratch3
abbrev gR : Memref sig .tc .vmem S2x1024x256 .f32 := Memref.whole cc0_scratch5
abbrev uR : Memref sig .tc .vmem S2x1024x256 .f32 := Memref.whole cc0_scratch6
abbrev dR : Memref sig .tc .vmem S2x256x1024 .f32 := Memref.whole cc0_scratch7

/-! ## Slots, semaphores, experts and blocks by number -/

abbrev wsOff (s : Fin 2) : Fin 3 → Nat := ![s.val, 0, 0]
abbrev wcOff (s : Fin 2) (j : Fin 3) : Fin 2 → Nat := ![s.val, j.val]
abbrev exOff (e : Fin 64) : Fin 4 → Nat := ![0, e.val, 0, 0]
abbrev xsOff (s : Fin 3) : Fin 3 → Nat := ![s.val, 0, 0]
abbrev xcOff (s : Fin 3) : Fin 1 → Nat := ![s.val]
abbrev bkOff (b : Fin 328) : Fin 2 → Nat := ![512 * b.val, 0]

theorem wgOff_inb (s : Fin 2) : ∀ a, wsOff s a + S1x1024x256.size a ≤ S2x1024x256.size a := by
  have := s.isLt; intro a; fin_cases a
  · show s.val + 1 ≤ 2; omega
  · show 0 + 1024 ≤ 1024; omega
  · show 0 + 256 ≤ 256; omega
theorem wdOff_inb (s : Fin 2) : ∀ a, wsOff s a + S1x256x1024.size a ≤ S2x256x1024.size a := by
  have := s.isLt; intro a; fin_cases a
  · show s.val + 1 ≤ 2; omega
  · show 0 + 256 ≤ 256; omega
  · show 0 + 1024 ≤ 1024; omega
theorem wcOff_inb (s : Fin 2) (j : Fin 3) : ∀ a, wcOff s j a + S1x1.size a ≤ S2x3.size a := by
  have := s.isLt; have := j.isLt; intro a; fin_cases a
  · show s.val + 1 ≤ 2; omega
  · show j.val + 1 ≤ 3; omega
theorem egOff_inb (e : Fin 64) : ∀ a, exOff e a + S1x1x1024x256.size a ≤ S2x64x1024x256.size a := by
  have := e.isLt; intro a; fin_cases a
  · show 0 + 1 ≤ 2; omega
  · show e.val + 1 ≤ 64; omega
  · show 0 + 1024 ≤ 1024; omega
  · show 0 + 256 ≤ 256; omega
theorem edOff_inb (e : Fin 64) : ∀ a, exOff e a + S1x1x256x1024.size a ≤ S2x64x256x1024.size a := by
  have := e.isLt; intro a; fin_cases a
  · show 0 + 1 ≤ 2; omega
  · show e.val + 1 ≤ 64; omega
  · show 0 + 256 ≤ 256; omega
  · show 0 + 1024 ≤ 1024; omega
theorem xsOff_inb (s : Fin 3) : ∀ a, xsOff s a + S1x512x512.size a ≤ S3x512x512.size a := by
  have := s.isLt; intro a; fin_cases a
  · show s.val + 1 ≤ 3; omega
  · show 0 + 512 ≤ 512; omega
  · show 0 + 512 ≤ 512; omega
theorem xcOff_inb (s : Fin 3) : ∀ a, xcOff s a + S1.size a ≤ S3.size a := by
  have := s.isLt; intro a; fin_cases a; show s.val + 1 ≤ 3; omega
theorem bkOff_inb (b : Fin 328) : ∀ a, bkOff b a + S512x512.size a ≤ S167936x512.size a := by
  have := b.isLt; intro a; fin_cases a
  · show 512 * b.val + 512 ≤ 167936; omega
  · show 0 + 512 ≤ 512; omega

abbrev nvOff (b : Fin 328) : Fin 1 → Nat := ![b.val]
theorem nvOff_inb (b : Fin 328) : ∀ a, nvOff b a + S1.size a ≤ S328.size a := by
  have := b.isLt; intro a; fin_cases a; show b.val + 1 ≤ 328; omega

instance (b : Fin 328) : ClosedOff (nvOff b) := ⟨nvOff b, rfl⟩
instance (s : Fin 2) : ClosedOff (wsOff s) := ⟨wsOff s, rfl⟩
instance (s : Fin 3) : ClosedOff (xsOff s) := ⟨xsOff s, rfl⟩
instance (e : Fin 64) : ClosedOff (exOff e) := ⟨exOff e, rfl⟩
instance (b : Fin 328) : ClosedOff (bkOff b) := ⟨bkOff b, rfl⟩

section At
variable (oS : Fin 3 → Nat) (oC : Fin 2 → Nat) (oE : Fin 4 → Nat)

def gSlotAt (h : ∀ a, oS a + S1x1024x256.size a ≤ S2x1024x256.size a) : Memref sig .tc .vmem S1024x256 .f32 :=
  (gR.slice (Rect.unit (s := S2x1024x256) oS S1x1024x256.size h) (fun _ => rfl)).squeeze S1024x256 squeezes_S1x1024x256_S1024x256
def uSlotAt (h : ∀ a, oS a + S1x1024x256.size a ≤ S2x1024x256.size a) : Memref sig .tc .vmem S1024x256 .f32 :=
  (uR.slice (Rect.unit (s := S2x1024x256) oS S1x1024x256.size h) (fun _ => rfl)).squeeze S1024x256 squeezes_S1x1024x256_S1024x256
def dSlotAt (h : ∀ a, oS a + S1x256x1024.size a ≤ S2x256x1024.size a) : Memref sig .tc .vmem S256x1024 .f32 :=
  (dR.slice (Rect.unit (s := S2x256x1024) oS S1x256x1024.size h) (fun _ => rfl)).squeeze S256x1024 squeezes_S1x256x1024_S256x1024
def wSemAt (h : ∀ a, oC a + S1x1.size a ≤ S2x3.size a) : DmaSems sig S_ :=
  (cc0_scratch8.slice (Rect.unit (s := S2x3) oC S1x1.size h)).squeeze S_ squeezes_S1x1_S_
def gExAt (h : ∀ a, oE a + S1x1x1024x256.size a ≤ S2x64x1024x256.size a) : Memref sig .tc .hbm S1024x256 .f32 :=
  (gM.slice (Rect.unit (s := S2x64x1024x256) oE S1x1x1024x256.size h) (fun _ => rfl)).squeeze S1024x256 squeezes_S1x1x1024x256_S1024x256
def uExAt (h : ∀ a, oE a + S1x1x1024x256.size a ≤ S2x64x1024x256.size a) : Memref sig .tc .hbm S1024x256 .f32 :=
  (uM.slice (Rect.unit (s := S2x64x1024x256) oE S1x1x1024x256.size h) (fun _ => rfl)).squeeze S1024x256 squeezes_S1x1x1024x256_S1024x256
def dExAt (h : ∀ a, oE a + S1x1x256x1024.size a ≤ S2x64x256x1024.size a) : Memref sig .tc .hbm S256x1024 .f32 :=
  (dM.slice (Rect.unit (s := S2x64x256x1024) oE S1x1x256x1024.size h) (fun _ => rfl)).squeeze S256x1024 squeezes_S1x1x256x1024_S256x1024
def xSlotAt (h : ∀ a, oS a + S1x512x512.size a ≤ S3x512x512.size a) : Memref sig .tc .vmem S512x512 .i32 :=
  (xR.slice (Rect.unit (s := S3x512x512) oS S1x512x512.size h) (fun _ => rfl)).squeeze S512x512 squeezes_S1x512x512_S512x512
def xSemAt (oX : Fin 1 → Nat) (h : ∀ a, oX a + S1.size a ≤ S3.size a) : DmaSems sig S_ :=
  (cc0_scratch4.slice (Rect.unit (s := S3) oX S1.size h)).squeeze S_ squeezes_S1_S_
def xBlkAt (oB : Fin 2 → Nat) (h : ∀ a, oB a + S512x512.size a ≤ S167936x512.size a) : Memref sig .tc .hbm S512x512 .i32 :=
  xM.slice (Rect.unit (s := S167936x512) oB S512x512.size h) (fun _ => rfl)
end At

def gSlot (s : Fin 2) := gSlotAt (wsOff s) (wgOff_inb s)
def uSlot (s : Fin 2) := uSlotAt (wsOff s) (wgOff_inb s)
def dSlot (s : Fin 2) := dSlotAt (wsOff s) (wdOff_inb s)
def wSem (s : Fin 2) (j : Fin 3) := wSemAt (wcOff s j) (wcOff_inb s j)
def gEx (e : Fin 64) := gExAt (exOff e) (egOff_inb e)
def uEx (e : Fin 64) := uExAt (exOff e) (egOff_inb e)
def dEx (e : Fin 64) := dExAt (exOff e) (edOff_inb e)
def xSlot (s : Fin 3) := xSlotAt (xsOff s) (xsOff_inb s)
def xSem (s : Fin 3) := xSemAt (xcOff s) (xcOff_inb s)
def xBlk (b : Fin 328) := xBlkAt (bkOff b) (bkOff_inb b)

/-! ## The copies as programs -/

/-- Start the copy of one expert's three matrices into a weight slot. -/
def startWOf (eg eu : Memref sig .tc .hbm S1024x256 .f32) (ed : Memref sig .tc .hbm S256x1024 .f32)
    (sg su : Memref sig .tc .vmem S1024x256 .f32) (sd : Memref sig .tc .vmem S256x1024 .f32) (c0 c1 c2 : DmaSems sig S_)
    (heg : eg.view.WordExact) (heu : eu.view.WordExact) (hed : ed.view.WordExact)
    (hsg : sg.view.WordExact) (hsu : su.view.WordExact) (hsd : sd.view.WordExact) : Pg F PUnit := do
  Prog.lift (.enqueueDma eg (.here sg) (.dma c0.sem) heg hsg ⟨Or.inl rfl, trivial⟩)
  Prog.lift (.enqueueDma eu (.here su) (.dma c1.sem) heu hsu ⟨Or.inl rfl, trivial⟩)
  Prog.lift (.enqueueDma ed (.here sd) (.dma c2.sem) hed hsd ⟨Or.inl rfl, trivial⟩)
  pure ⟨⟩

/-- Wait for the three copies, and round the slot's three matrices to bf16 into the buffers the products read. -/
def waitWOf (eg eu : Memref sig .tc .hbm S1024x256 .f32) (ed : Memref sig .tc .hbm S256x1024 .f32)
    (sg su : Memref sig .tc .vmem S1024x256 .f32) (sd : Memref sig .tc .vmem S256x1024 .f32) (c0 c1 c2 : DmaSems sig S_)
    (heg : eg.view.WordExact) (heu : eu.view.WordExact) (hed : ed.view.WordExact)
    (hsg : sg.view.WordExact) (hsu : su.view.WordExact) (hsd : sd.view.WordExact)
    (oL oD : Fin 3 → Nat) (hL : ∀ a, oL a + S1x1024x256.size a ≤ S2x1024x256.size a)
    (hD : ∀ a, oD a + S1x256x1024.size a ≤ S2x256x1024.size a) : Pg F PUnit := do
  Prog.lift (.waitDma2 c0.sem eg sg heg hsg)
  Prog.lift (.waitDma2 c1.sem eu su heu hsu)
  Prog.lift (.waitDma2 c2.sem ed sd hed hsd)
  let v50 : Vec F S1x1024x256 .f32 ← Prog.lift (.load gR (Rect.unit (s := S2x1024x256) oL S1x1024x256.size hL).toLoadRect (View.loadsAt_vmem h_S1x1024x256))
  let v53 : Vec F S1024x256 .bf16 ← Prog.lift (.load gS (Rect.unit (s := S1024x256) ![0, 0] S1024x256.size inb_S1024x256_S1024x256_0_0).toLoadRect (View.loadsAt_vmem h_S1024x256))
  Prog.lift (.store gS (Rect.unit (s := S1024x256) ![0, 0] S1024x256.size inb_S1024x256_S1024x256_0_0) (k0_pay5 v50) Finset.univ (View.stores_vmem h_S1024x256 ((Memref.isWhole_whole _).storeExact_slice rfl _ packedbf16_S1024x256_S1024x256_0_0) (fun _ => rfl)) (.inl rfl))
  let v57 : Vec F S1x1024x256 .f32 ← Prog.lift (.load uR (Rect.unit (s := S2x1024x256) oL S1x1024x256.size hL).toLoadRect (View.loadsAt_vmem h_S1x1024x256))
  let v60 : Vec F S1024x256 .bf16 ← Prog.lift (.load uS (Rect.unit (s := S1024x256) ![0, 0] S1024x256.size inb_S1024x256_S1024x256_0_0).toLoadRect (View.loadsAt_vmem h_S1024x256))
  Prog.lift (.store uS (Rect.unit (s := S1024x256) ![0, 0] S1024x256.size inb_S1024x256_S1024x256_0_0) (k0_pay1 v57) Finset.univ (View.stores_vmem h_S1024x256 ((Memref.isWhole_whole _).storeExact_slice rfl _ packedbf16_S1024x256_S1024x256_0_0) (fun _ => rfl)) (.inl rfl))
  let v64 : Vec F S1x256x1024 .f32 ← Prog.lift (.load dR (Rect.unit (s := S2x256x1024) oD S1x256x1024.size hD).toLoadRect (View.loadsAt_vmem h_S1x256x1024))
  let v67 : Vec F S256x1024 .bf16 ← Prog.lift (.load dS (Rect.unit (s := S256x1024) ![0, 0] S256x1024.size inb_S256x1024_S256x1024_0_0).toLoadRect (View.loadsAt_vmem h_S256x1024))
  Prog.lift (.store dS (Rect.unit (s := S256x1024) ![0, 0] S256x1024.size inb_S256x1024_S256x1024_0_0) (k0_pay2 v64) Finset.univ (View.stores_vmem h_S256x1024 ((Memref.isWhole_whole _).storeExact_slice rfl _ packedbf16_S256x1024_S256x1024_0_0) (fun _ => rfl)) (.inl rfl))
  pure ⟨⟩

/-- Start the copy of one block of rows into a row slot. -/
def startXOf (b : Memref sig .tc .hbm S512x512 .i32) (sl : Memref sig .tc .vmem S512x512 .i32) (cx : DmaSems sig S_)
    (hb : b.view.WordExact) (hs : sl.view.WordExact) : Pg F PUnit := do
  Prog.lift (.enqueueDma b (.here sl) (.dma cx.sem) hb hs ⟨Or.inl rfl, trivial⟩)
  pure ⟨⟩

/-- Wait for a block's copy and compute the block: rows past the count blanked, unpacked, through the expert. -/
def blockOf (b : Memref sig .tc .hbm S512x512 .i32) (sl : Memref sig .tc .vmem S512x512 .i32) (cx : DmaSems sig S_)
    (hb : b.view.WordExact) (hs : sl.view.WordExact) (oL : Fin 3 → Nat) (hL : ∀ a, oL a + S1x512x512.size a ≤ S3x512x512.size a)
    (oN : Fin 1 → Nat) (hN : ∀ a, oN a + S1.size a ≤ S328.size a)
    (o : Memref sig .tc .vmem S512x512 .i32) : Pg F PUnit := do
  Prog.lift (.waitDma2 cx.sem b sl hb hs)
  let v35 : Vec F S1x512x512 .i32 ← Prog.lift (.load xR (Rect.unit (s := S3x512x512) oL S1x512x512.size hL).toLoadRect (View.loadsAt_vmem h_S1x512x512))
  let v39 : Elt F .i32 ← smemLoad nvM (Rect.unit (s := S328) oN S1.size hN) numel1_S1 rfl
  let v48 : Vec F S1024x256 .bf16 ← Prog.lift (.load gS (Rect.unit (s := S1024x256) ![0, 0] S1024x256.size inb_S1024x256_S1024x256_0_0).toLoadRect (View.loadsAt_vmem h_S1024x256))
  let v50 : Vec F S1024x256 .bf16 ← Prog.lift (.load uS (Rect.unit (s := S1024x256) ![0, 0] S1024x256.size inb_S1024x256_S1024x256_0_0).toLoadRect (View.loadsAt_vmem h_S1024x256))
  let v62 : Vec F S256x1024 .bf16 ← Prog.lift (.load dS (Rect.unit (s := S256x1024) ![0, 0] S256x1024.size inb_S256x1024_S256x1024_0_0).toLoadRect (View.loadsAt_vmem h_S256x1024))
  let v67 : Vec F S512x512 .i32 ← Prog.lift (.load o (Rect.unit (s := S512x512) ![0, 0] S512x512.size inb_S512x512_S512x512_0_0).toLoadRect (View.loadsAt_vmem h_S512x512))
  Prog.lift (.store o (Rect.unit (s := S512x512) ![0, 0] S512x512.size inb_S512x512_S512x512_0_0) (k0_pay3 (k0_pay6 v35 v39 v48 v50) v62 (constant S512x1024 .f32 0x00000000#32)) Finset.univ (View.stores_vmem_bits_univ h_S512x512 rfl) (.inl rfl))
  pure ⟨⟩

/-- Store a block of zeros. -/
def zeroBlock (o : Memref sig .tc .vmem S512x512 .i32) : Pg F PUnit := do
  let v26 : Vec F S512x512 .i32 ← Prog.lift (.load o (Rect.unit (s := S512x512) ![0, 0] S512x512.size inb_S512x512_S512x512_0_0).toLoadRect (View.loadsAt_vmem h_S512x512))
  Prog.lift (.store o (Rect.unit (s := S512x512) ![0, 0] S512x512.size inb_S512x512_S512x512_0_0) (k0_pay4) Finset.univ (View.stores_vmem_bits_univ h_S512x512 rfl) (.inl rfl))
  pure ⟨⟩

/-! ## The body's phases -/

section Phases
variable (i : grid0.Coords)

/-- At the first point: start the first two experts' copies, where there are so many. -/
def phA (v1 : BitVec 32) : Pg F PUnit :=
  if k0_h1 : k0_cond1 i = 1#1 then do
    if k0_h2 : k0_cond2 v1 = 1#1 then do
      let v32 : Elt F .i32 ← smemLoad eoM (Rect.unit (s := S64) ![0] S1.size inb_S64_S1_0) numel1_S1 rfl
      have k0_hw1 : k0_chk1 i v1 v32 := (← Prog.lift (TpuEff.assume (k0_chk1 i v1 v32) (k0_chk1.dec i v1 v32))).down
      startWOf (gExAt (k0_off3 v32) (k0_off3_inb i v1 v32 k0_hw1 k0_h1 k0_h2)) (uExAt (k0_off3 v32) (k0_off3_inb i v1 v32 k0_hw1 k0_h1 k0_h2)) (dExAt (k0_off8 v32) (k0_off8_inb i v1 v32 k0_hw1 k0_h1 k0_h2))
        (gSlotAt k0_off2 (k0_off2_inb i k0_h1)) (uSlotAt k0_off5 (k0_off5_inb i k0_h1)) (dSlotAt k0_off7 (k0_off7_inb i k0_h1))
        (wSemAt k0_off1 (k0_off1_inb i k0_h1)) (wSemAt k0_off4 (k0_off4_inb i k0_h1)) (wSemAt k0_off6 (k0_off6_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    if k0_h3 : k0_cond3 v1 = 1#1 then do
      let v32 : Elt F .i32 ← smemLoad eoM (Rect.unit (s := S64) ![1] S1.size inb_S64_S1_1) numel1_S1 rfl
      have k0_hw2 : k0_chk2 i v1 v32 := (← Prog.lift (TpuEff.assume (k0_chk2 i v1 v32) (k0_chk2.dec i v1 v32))).down
      startWOf (gExAt (k0_off11 v32) (k0_off11_inb i v1 v32 k0_hw2 k0_h1 k0_h3)) (uExAt (k0_off11 v32) (k0_off11_inb i v1 v32 k0_hw2 k0_h1 k0_h3)) (dExAt (k0_off16 v32) (k0_off16_inb i v1 v32 k0_hw2 k0_h1 k0_h3))
        (gSlotAt k0_off10 (k0_off10_inb i k0_h1)) (uSlotAt k0_off13 (k0_off13_inb i k0_h1)) (dSlotAt k0_off15 (k0_off15_inb i k0_h1))
        (wSemAt k0_off9 (k0_off9_inb i k0_h1)) (wSemAt k0_off12 (k0_off12_inb i k0_h1)) (wSemAt k0_off14 (k0_off14_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩

/-- The same, followed by a program. -/
def phAK (v1 : BitVec 32) (k : Pg F PUnit) : Pg F PUnit := do
  if k0_h1 : k0_cond1 i = 1#1 then do
    if k0_h2 : k0_cond2 v1 = 1#1 then do
      let v32 : Elt F .i32 ← smemLoad eoM (Rect.unit (s := S64) ![0] S1.size inb_S64_S1_0) numel1_S1 rfl
      have k0_hw1 : k0_chk1 i v1 v32 := (← Prog.lift (TpuEff.assume (k0_chk1 i v1 v32) (k0_chk1.dec i v1 v32))).down
      startWOf (gExAt (k0_off3 v32) (k0_off3_inb i v1 v32 k0_hw1 k0_h1 k0_h2)) (uExAt (k0_off3 v32) (k0_off3_inb i v1 v32 k0_hw1 k0_h1 k0_h2)) (dExAt (k0_off8 v32) (k0_off8_inb i v1 v32 k0_hw1 k0_h1 k0_h2))
        (gSlotAt k0_off2 (k0_off2_inb i k0_h1)) (uSlotAt k0_off5 (k0_off5_inb i k0_h1)) (dSlotAt k0_off7 (k0_off7_inb i k0_h1))
        (wSemAt k0_off1 (k0_off1_inb i k0_h1)) (wSemAt k0_off4 (k0_off4_inb i k0_h1)) (wSemAt k0_off6 (k0_off6_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    if k0_h3 : k0_cond3 v1 = 1#1 then do
      let v32 : Elt F .i32 ← smemLoad eoM (Rect.unit (s := S64) ![1] S1.size inb_S64_S1_1) numel1_S1 rfl
      have k0_hw2 : k0_chk2 i v1 v32 := (← Prog.lift (TpuEff.assume (k0_chk2 i v1 v32) (k0_chk2.dec i v1 v32))).down
      startWOf (gExAt (k0_off11 v32) (k0_off11_inb i v1 v32 k0_hw2 k0_h1 k0_h3)) (uExAt (k0_off11 v32) (k0_off11_inb i v1 v32 k0_hw2 k0_h1 k0_h3)) (dExAt (k0_off16 v32) (k0_off16_inb i v1 v32 k0_hw2 k0_h1 k0_h3))
        (gSlotAt k0_off10 (k0_off10_inb i k0_h1)) (uSlotAt k0_off13 (k0_off13_inb i k0_h1)) (dSlotAt k0_off15 (k0_off15_inb i k0_h1))
        (wSemAt k0_off9 (k0_off9_inb i k0_h1)) (wSemAt k0_off12 (k0_off12_inb i k0_h1)) (wSemAt k0_off14 (k0_off14_inb i k0_h1))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩
  k

/-- At the first point: start the first two blocks' copies, where there are so many. -/
def phX (v0 : BitVec 32) : Pg F PUnit :=
  if k0_h4 : k0_cond4 i = 1#1 then do
    if Scalar.cmpi .ne (Scalar.extui (Scalar.cmpi .sgt v0 0#32) : BitVec 32) 0#32 = 1#1 then do
      startXOf (xBlkAt ![0, 0] inb_S167936x512_S512x512_0_0) (xSlotAt k0_off18 (k0_off18_inb i k0_h4)) (xSemAt k0_off17 (k0_off17_inb i k0_h4))
        (View.wordExact_bits rfl) ((View.wordExact_bits rfl).reshape _ _)
    else do
      pure ⟨⟩
    if Scalar.cmpi .ne (Scalar.extui (Scalar.cmpi .sgt v0 1#32) : BitVec 32) 0#32 = 1#1 then do
      startXOf (xBlkAt ![512, 0] inb_S167936x512_S512x512_512_0) (xSlotAt k0_off20 (k0_off20_inb i k0_h4)) (xSemAt k0_off19 (k0_off19_inb i k0_h4))
        (View.wordExact_bits rfl) ((View.wordExact_bits rfl).reshape _ _)
    else do
      pure ⟨⟩
    pure ⟨⟩
  else do
    pure ⟨⟩

/-- The same, followed by a program. -/
def phXK (v0 : BitVec 32) (k : Pg F PUnit) : Pg F PUnit := do
  if k0_h4 : k0_cond4 i = 1#1 then do
    if Scalar.cmpi .ne (Scalar.extui (Scalar.cmpi .sgt v0 0#32) : BitVec 32) 0#32 = 1#1 then do
      startXOf (xBlkAt ![0, 0] inb_S167936x512_S512x512_0_0) (xSlotAt k0_off18 (k0_off18_inb i k0_h4)) (xSemAt k0_off17 (k0_off17_inb i k0_h4))
        (View.wordExact_bits rfl) ((View.wordExact_bits rfl).reshape _ _)
    else do
      pure ⟨⟩
    if Scalar.cmpi .ne (Scalar.extui (Scalar.cmpi .sgt v0 1#32) : BitVec 32) 0#32 = 1#1 then do
      startXOf (xBlkAt ![512, 0] inb_S167936x512_S512x512_512_0) (xSlotAt k0_off20 (k0_off20_inb i k0_h4)) (xSemAt k0_off19 (k0_off19_inb i k0_h4))
        (View.wordExact_bits rfl) ((View.wordExact_bits rfl).reshape _ _)
    else do
      pure ⟨⟩
    pure ⟨⟩
  else do
    pure ⟨⟩
  k

/-- Start the copy of the block two ahead, if it is used. -/
def phB (v0 : BitVec 32) (k0_hw3 : k0_chk3 i v0) : Pg F PUnit :=
  if k0_h7 : k0_cond7 i v0 = 1#1 then do
    startXOf (xBlkAt (k0_off23 i) (k0_off23_inb i v0 k0_hw3 k0_h7)) (xSlotAt (k0_off22 i) (k0_off22_inb i)) (xSemAt (k0_off21 i) (k0_off21_inb i))
      (View.wordExact_bits rfl) ((View.wordExact_bits rfl).reshape _ _)
  else do
    pure ⟨⟩

/-- The same, followed by a program. -/
def phBK (v0 : BitVec 32) (k0_hw3 : k0_chk3 i v0) (k : Pg F PUnit) : Pg F PUnit := do
  if k0_h7 : k0_cond7 i v0 = 1#1 then do
    startXOf (xBlkAt (k0_off23 i) (k0_off23_inb i v0 k0_hw3 k0_h7)) (xSlotAt (k0_off22 i) (k0_off22_inb i)) (xSemAt (k0_off21 i) (k0_off21_inb i))
      (View.wordExact_bits rfl) ((View.wordExact_bits rfl).reshape _ _)
  else do
    pure ⟨⟩
  k

/-- At a used block that begins an expert: take up that expert's weights, and start the copy of the one two ahead. -/
def phC (v0 v1 v14 : BitVec 32) : Pg F PUnit :=
  if k0_h8 : k0_cond8 i v0 v14 = 1#1 then do
    let v26 : Elt F .i32 ← smemLoad ordM (Rect.unit (s := S328) (k0_off25 i) S1.size (k0_off25_inb i)) numel1_S1 rfl
    have k0_hw4 : k0_chk4 i v0 v1 v14 v26 := (← Prog.lift (TpuEff.assume (k0_chk4 i v0 v1 v14 v26) (k0_chk4.dec i v0 v1 v14 v26))).down
    let v29 : Elt F .i32 ← smemLoad eoM (Rect.unit (s := S64) (k0_off26 v26) S1.size (k0_off26_inb i v0 v1 v14 v26 k0_hw4 k0_h8)) numel1_S1 rfl
    have k0_hw5 : k0_chk5 i v0 v14 v29 := (← Prog.lift (TpuEff.assume (k0_chk5 i v0 v14 v29) (k0_chk5.dec i v0 v14 v29))).down
    waitWOf (gExAt (k0_off29 v29) (k0_off29_inb i v0 v14 v29 k0_hw5 k0_h8)) (uExAt (k0_off29 v29) (k0_off29_inb i v0 v14 v29 k0_hw5 k0_h8)) (dExAt (k0_off34 v29) (k0_off34_inb i v0 v14 v29 k0_hw5 k0_h8))
      (gSlotAt (k0_off28 v26) (k0_off28_inb i v0 v1 v14 v26 k0_hw4 k0_h8)) (uSlotAt (k0_off31 v26) (k0_off31_inb i v0 v1 v14 v26 k0_hw4 k0_h8)) (dSlotAt (k0_off33 v26) (k0_off33_inb i v0 v1 v14 v26 k0_hw4 k0_h8))
      (wSemAt (k0_off27 v26) (k0_off27_inb i v0 v1 v14 v26 k0_hw4 k0_h8)) (wSemAt (k0_off30 v26) (k0_off30_inb i v0 v1 v14 v26 k0_hw4 k0_h8)) (wSemAt (k0_off32 v26) (k0_off32_inb i v0 v1 v14 v26 k0_hw4 k0_h8))
      ((View.wordExact_bits rfl).reshape _ _) ((View.wordExact_bits rfl).reshape _ _) ((View.wordExact_bits rfl).reshape _ _)
      ((View.wordExact_bits rfl).reshape _ _) ((View.wordExact_bits rfl).reshape _ _) ((View.wordExact_bits rfl).reshape _ _)
      (k0_off35 v26) (k0_off36 v26) (k0_off35_inb i v0 v1 v14 v26 k0_hw4 k0_h8) (k0_off36_inb i v0 v1 v14 v26 k0_hw4 k0_h8)
    if k0_h9 : k0_cond9 v1 v26 = 1#1 then do
      let v77 : Elt F .i32 ← smemLoad eoM (Rect.unit (s := S64) (k0_off37 v26) S1.size (k0_off37_inb i v0 v1 v14 v26 k0_hw4 k0_h8 k0_h9)) numel1_S1 rfl
      have k0_hw6 : k0_chk6 i v0 v1 v14 v26 v77 := (← Prog.lift (TpuEff.assume (k0_chk6 i v0 v1 v14 v26 v77) (k0_chk6.dec i v0 v1 v14 v26 v77))).down
      startWOf (gExAt (k0_off40 v77) (k0_off40_inb i v0 v1 v14 v26 v77 k0_hw6 k0_h8 k0_h9)) (uExAt (k0_off40 v77) (k0_off40_inb i v0 v1 v14 v26 v77 k0_hw6 k0_h8 k0_h9)) (dExAt (k0_off45 v77) (k0_off45_inb i v0 v1 v14 v26 v77 k0_hw6 k0_h8 k0_h9))
        (gSlotAt (k0_off39 v26) (k0_off39_inb i v0 v1 v14 v26 k0_hw4 k0_h8 k0_h9)) (uSlotAt (k0_off42 v26) (k0_off42_inb i v0 v1 v14 v26 k0_hw4 k0_h8 k0_h9)) (dSlotAt (k0_off44 v26) (k0_off44_inb i v0 v1 v14 v26 k0_hw4 k0_h8 k0_h9))
        (wSemAt (k0_off38 v26) (k0_off38_inb i v0 v1 v14 v26 k0_hw4 k0_h8 k0_h9)) (wSemAt (k0_off41 v26) (k0_off41_inb i v0 v1 v14 v26 k0_hw4 k0_h8 k0_h9)) (wSemAt (k0_off43 v26) (k0_off43_inb i v0 v1 v14 v26 k0_hw4 k0_h8 k0_h9))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩

/-- The same, followed by a program. -/
def phCK (v0 v1 v14 : BitVec 32) (k : Pg F PUnit) : Pg F PUnit := do
  if k0_h8 : k0_cond8 i v0 v14 = 1#1 then do
    let v26 : Elt F .i32 ← smemLoad ordM (Rect.unit (s := S328) (k0_off25 i) S1.size (k0_off25_inb i)) numel1_S1 rfl
    have k0_hw4 : k0_chk4 i v0 v1 v14 v26 := (← Prog.lift (TpuEff.assume (k0_chk4 i v0 v1 v14 v26) (k0_chk4.dec i v0 v1 v14 v26))).down
    let v29 : Elt F .i32 ← smemLoad eoM (Rect.unit (s := S64) (k0_off26 v26) S1.size (k0_off26_inb i v0 v1 v14 v26 k0_hw4 k0_h8)) numel1_S1 rfl
    have k0_hw5 : k0_chk5 i v0 v14 v29 := (← Prog.lift (TpuEff.assume (k0_chk5 i v0 v14 v29) (k0_chk5.dec i v0 v14 v29))).down
    waitWOf (gExAt (k0_off29 v29) (k0_off29_inb i v0 v14 v29 k0_hw5 k0_h8)) (uExAt (k0_off29 v29) (k0_off29_inb i v0 v14 v29 k0_hw5 k0_h8)) (dExAt (k0_off34 v29) (k0_off34_inb i v0 v14 v29 k0_hw5 k0_h8))
      (gSlotAt (k0_off28 v26) (k0_off28_inb i v0 v1 v14 v26 k0_hw4 k0_h8)) (uSlotAt (k0_off31 v26) (k0_off31_inb i v0 v1 v14 v26 k0_hw4 k0_h8)) (dSlotAt (k0_off33 v26) (k0_off33_inb i v0 v1 v14 v26 k0_hw4 k0_h8))
      (wSemAt (k0_off27 v26) (k0_off27_inb i v0 v1 v14 v26 k0_hw4 k0_h8)) (wSemAt (k0_off30 v26) (k0_off30_inb i v0 v1 v14 v26 k0_hw4 k0_h8)) (wSemAt (k0_off32 v26) (k0_off32_inb i v0 v1 v14 v26 k0_hw4 k0_h8))
      ((View.wordExact_bits rfl).reshape _ _) ((View.wordExact_bits rfl).reshape _ _) ((View.wordExact_bits rfl).reshape _ _)
      ((View.wordExact_bits rfl).reshape _ _) ((View.wordExact_bits rfl).reshape _ _) ((View.wordExact_bits rfl).reshape _ _)
      (k0_off35 v26) (k0_off36 v26) (k0_off35_inb i v0 v1 v14 v26 k0_hw4 k0_h8) (k0_off36_inb i v0 v1 v14 v26 k0_hw4 k0_h8)
    if k0_h9 : k0_cond9 v1 v26 = 1#1 then do
      let v77 : Elt F .i32 ← smemLoad eoM (Rect.unit (s := S64) (k0_off37 v26) S1.size (k0_off37_inb i v0 v1 v14 v26 k0_hw4 k0_h8 k0_h9)) numel1_S1 rfl
      have k0_hw6 : k0_chk6 i v0 v1 v14 v26 v77 := (← Prog.lift (TpuEff.assume (k0_chk6 i v0 v1 v14 v26 v77) (k0_chk6.dec i v0 v1 v14 v26 v77))).down
      startWOf (gExAt (k0_off40 v77) (k0_off40_inb i v0 v1 v14 v26 v77 k0_hw6 k0_h8 k0_h9)) (uExAt (k0_off40 v77) (k0_off40_inb i v0 v1 v14 v26 v77 k0_hw6 k0_h8 k0_h9)) (dExAt (k0_off45 v77) (k0_off45_inb i v0 v1 v14 v26 v77 k0_hw6 k0_h8 k0_h9))
        (gSlotAt (k0_off39 v26) (k0_off39_inb i v0 v1 v14 v26 k0_hw4 k0_h8 k0_h9)) (uSlotAt (k0_off42 v26) (k0_off42_inb i v0 v1 v14 v26 k0_hw4 k0_h8 k0_h9)) (dSlotAt (k0_off44 v26) (k0_off44_inb i v0 v1 v14 v26 k0_hw4 k0_h8 k0_h9))
        (wSemAt (k0_off38 v26) (k0_off38_inb i v0 v1 v14 v26 k0_hw4 k0_h8 k0_h9)) (wSemAt (k0_off41 v26) (k0_off41_inb i v0 v1 v14 v26 k0_hw4 k0_h8 k0_h9)) (wSemAt (k0_off43 v26) (k0_off43_inb i v0 v1 v14 v26 k0_hw4 k0_h8 k0_h9))
        ((View.wordExact_bits rfl).reshape _ _) ((View.wordExact_bits rfl).reshape _ _) ((View.wordExact_bits rfl).reshape _ _)
        ((View.wordExact_bits rfl).reshape _ _) ((View.wordExact_bits rfl).reshape _ _) ((View.wordExact_bits rfl).reshape _ _)
    else do
      pure ⟨⟩
    pure ⟨⟩
  else do
    pure ⟨⟩
  k

/-- At a used block: compute it. -/
def phD (v0 : BitVec 32) (o : Memref sig .tc .vmem S512x512 .i32) : Pg F PUnit :=
  if k0_h10 : k0_cond10 i v0 = 1#1 then do
    blockOf (xBlkAt (k0_off48 i) (k0_off48_inb i)) (xSlotAt (k0_off47 i) (k0_off47_inb i)) (xSemAt (k0_off46 i) (k0_off46_inb i))
      (View.wordExact_bits rfl) ((View.wordExact_bits rfl).reshape _ _) (k0_off49 i) (k0_off49_inb i) (k0_off50 i) (k0_off50_inb i) o
  else do
    pure ⟨⟩

/-- The same, followed by a program. -/
def phDK (v0 : BitVec 32) (o : Memref sig .tc .vmem S512x512 .i32) (k : Pg F PUnit) : Pg F PUnit := do
  if k0_h10 : k0_cond10 i v0 = 1#1 then do
    blockOf (xBlkAt (k0_off48 i) (k0_off48_inb i)) (xSlotAt (k0_off47 i) (k0_off47_inb i)) (xSemAt (k0_off46 i) (k0_off46_inb i))
      (View.wordExact_bits rfl) ((View.wordExact_bits rfl).reshape _ _) (k0_off49 i) (k0_off49_inb i) (k0_off50 i) (k0_off50_inb i) o
  else do
    pure ⟨⟩
  k

/-- At an unused block: zeros. -/
def phE (v21 : BitVec 32) (o : Memref sig .tc .vmem S512x512 .i32) : Pg F PUnit :=
  if k0_h11 : k0_cond11 i v21 = 1#1 then do
    zeroBlock o
  else do
    pure ⟨⟩

/-- The same, followed by a program. -/
def phEK (v21 : BitVec 32) (o : Memref sig .tc .vmem S512x512 .i32) (k : Pg F PUnit) : Pg F PUnit := do
  if k0_h11 : k0_cond11 i v21 = 1#1 then do
    zeroBlock o
  else do
    pure ⟨⟩
  k

/-- The kernel's body at one grid point, in its phases. -/
def body (o : Memref sig .tc .vmem S512x512 .i32) : Pg F PUnit := do
  let v0 : Elt F .i32 ← smemLoad cntM (Rect.unit (s := S2) ![0] S1.size inb_S2_S1_0) numel1_S1 rfl
  have k0_hw3 : k0_chk3 i v0 := (← Prog.lift (TpuEff.assume (k0_chk3 i v0) (k0_chk3.dec i v0))).down
  let v1 : Elt F .i32 ← smemLoad cntM (Rect.unit (s := S2) ![1] S1.size inb_S2_S1_1) numel1_S1 rfl
  phAK i v1 (phXK i v0 (phBK i v0 k0_hw3 (do
    let v14 : Elt F .i32 ← smemLoad newM (Rect.unit (s := S328) (k0_off24 i) S1.size (k0_off24_inb i)) numel1_S1 rfl
    phCK i v0 v1 v14 (phDK i v0 o (do
      let v21 : Elt F .i32 ← smemLoad cntM (Rect.unit (s := S2) ![0] S1.size inb_S2_S1_0) numel1_S1 rfl
      phEK i v21 o (pure ⟨⟩))))))

theorem phAK_eq (v1 : BitVec 32) (k : Pg F PUnit) : phAK i v1 k = phA i v1 >>= fun _ => k := by
  unfold phAK phA; dsimp only; split
  · split <;> split <;> rfl
  · rfl

theorem phXK_eq (v0 : BitVec 32) (k : Pg F PUnit) : phXK i v0 k = phX i v0 >>= fun _ => k := by
  unfold phXK phX; dsimp only; split
  · split <;> split <;> rfl
  · rfl

theorem phBK_eq (v0 : BitVec 32) (hw) (k : Pg F PUnit) : phBK i v0 hw k = phB i v0 hw >>= fun _ => k := by
  unfold phBK phB; dsimp only; split <;> rfl

theorem phCK_eq (v0 v1 v14 : BitVec 32) (k : Pg F PUnit) : phCK i v0 v1 v14 k = phC i v0 v1 v14 >>= fun _ => k := by
  unfold phCK phC; dsimp only; split
  · simp only [bind_assoc]
    refine bind_congr fun v26 => bind_congr fun hw4 => bind_congr fun v29 => bind_congr fun hw5 => bind_congr fun _ => ?_
    split <;> rfl
  · rfl

theorem phDK_eq (v0 : BitVec 32) (o) (k : Pg F PUnit) : phDK i v0 o k = phD i v0 o >>= fun _ => k := by
  unfold phDK phD; dsimp only; split <;> rfl

theorem phEK_eq (v21 : BitVec 32) (o) (k : Pg F PUnit) : phEK i v21 o k = phE i v21 o >>= fun _ => k := by
  unfold phEK phE; dsimp only; split <;> rfl

/-- The kernel as the pipeline calls it. -/
abbrev printed (o : Memref sig .tc .vmem S512x512 .i32) (ho : o.IsWhole) : Pg F PUnit :=
  cc0_routed_experts i nvM (Memref.isWhole_whole _) newM (Memref.isWhole_whole _) ordM (Memref.isWhole_whole _) eoM (Memref.isWhole_whole _) cntM (Memref.isWhole_whole _)
    xM (Memref.isWhole_whole _) gM (Memref.isWhole_whole _) uM (Memref.isWhole_whole _) dM (Memref.isWhole_whole _) o ho gS (Memref.isWhole_whole _) uS (Memref.isWhole_whole _)
    dS (Memref.isWhole_whole _) xR (Memref.isWhole_whole _) cc0_scratch4 gR (Memref.isWhole_whole _) uR (Memref.isWhole_whole _) dR (Memref.isWhole_whole _) cc0_scratch8

theorem printed_eq (o : Memref sig .tc .vmem S512x512 .i32) (ho : o.IsWhole) : printed (F := F) i o ho = body i o := by
  unfold printed
  rw [cc0_routed_experts_eq_skeleton]
  unfold cc0_routed_experts_skel
  rw [k0_part1_eq_skeleton, k0_part2_eq_skeleton]
  rfl

end Phases

end Cert.Proof.First

end
-- ==== Proof.FirstCopies.lean ====
/-
  The copies of the first layer's routed experts' kernel, by themselves: one expert's three weight matrices into
  a weight slot (`startW`, `waitW`) and one block of token rows into a row slot (`startX`), over literal slots,
  experts and blocks. The kernel computes its offsets from words it reads; `startWOf_eq` and its companions say
  that equal offsets give these programs, so that everything about a copy is proved once, here.
-/
module

public import proofs.«01_k».proof.Proof.FirstOps
public import Idealize.ShloMosaic.Lib.VecWindow
public import Idealize.ShloMosaic.Lib.ValueLayout

@[expose] public section

set_option maxRecDepth 16384

noncomputable section

namespace Cert.Proof.First

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4 eq_ix3 reshapeEquiv_ix2_1ab reshapeEquiv_ix2_11ab)
open Idealize.ShloMosaic.Pipeline (Dat Cfg Window BodyObligation cellOf UD)

variable {F : FTy → Type} [BitOps F]

theorem entails_of_eq {P Q : sProp (Mo F)} (e : P = Q) : P ⊢ Q := e ▸ .rfl

/-! ## Every view here is exact in words -/

theorem gSlot_we (s) : (gSlot s).view.WordExact := (View.wordExact_bits rfl).reshape _ _
theorem uSlot_we (s) : (uSlot s).view.WordExact := (View.wordExact_bits rfl).reshape _ _
theorem dSlot_we (s) : (dSlot s).view.WordExact := (View.wordExact_bits rfl).reshape _ _
theorem gEx_we (e) : (gEx e).view.WordExact := (View.wordExact_bits rfl).reshape _ _
theorem uEx_we (e) : (uEx e).view.WordExact := (View.wordExact_bits rfl).reshape _ _
theorem dEx_we (e) : (dEx e).view.WordExact := (View.wordExact_bits rfl).reshape _ _
theorem xSlot_we (s) : (xSlot s).view.WordExact := (View.wordExact_bits rfl).reshape _ _
theorem xBlk_we (b) : (xBlk b).view.WordExact := View.wordExact_bits rfl

/-! ## The programs at literal slots -/

def startW (e : Fin 64) (s : Fin 2) : Pg F PUnit :=
  startWOf (gEx e) (uEx e) (dEx e) (gSlot s) (uSlot s) (dSlot s) (wSem s 0) (wSem s 1) (wSem s 2)
    (gEx_we e) (uEx_we e) (dEx_we e) (gSlot_we s) (uSlot_we s) (dSlot_we s)
def waitW (e : Fin 64) (s : Fin 2) : Pg F PUnit :=
  waitWOf (gEx e) (uEx e) (dEx e) (gSlot s) (uSlot s) (dSlot s) (wSem s 0) (wSem s 1) (wSem s 2)
    (gEx_we e) (uEx_we e) (dEx_we e) (gSlot_we s) (uSlot_we s) (dSlot_we s) (wsOff s) (wsOff s) (wgOff_inb s) (wdOff_inb s)
def startX (b : Fin 328) (s : Fin 3) : Pg F PUnit := startXOf (xBlk b) (xSlot s) (xSem s) (xBlk_we b) (xSlot_we s)

def block (b : Fin 328) (s : Fin 3) (o : Memref sig .tc .vmem S512x512 .i32) : Pg F PUnit :=
  blockOf (xBlk b) (xSlot s) (xSem s) (xBlk_we b) (xSlot_we s) (xsOff s) (xsOff_inb s) (nvOff b) (nvOff_inb b) o

theorem startWOf_eq {oE oE' : Fin 4 → Nat} {oS oS' : Fin 3 → Nat} {o0 o1 o2 : Fin 2 → Nat} {oU : Fin 3 → Nat} (e : Fin 64) (s : Fin 2)
    (h1 : oE = exOff e) (h2 : oE' = exOff e) (h3 : oS = wsOff s) (h4 : oU = wsOff s) (h5 : oS' = wsOff s)
    (h6 : o0 = wcOff s 0) (h7 : o1 = wcOff s 1) (h8 : o2 = wcOff s 2) {p1 p2 p3 p4 p5 p6 p7 p8 p9 q1 q2 q3 q4 q5 q6} :
    startWOf (F := F) (gExAt oE p1) (uExAt oE p2) (dExAt oE' p3) (gSlotAt oS p4) (uSlotAt oU p5) (dSlotAt oS' p6) (wSemAt o0 p7) (wSemAt o1 p8) (wSemAt o2 p9) q1 q2 q3 q4 q5 q6
      = startW e s := by
  subst h1 h2 h3 h4 h5 h6 h7 h8; rfl

theorem waitWOf_eq {oE oE' : Fin 4 → Nat} {oS oS' : Fin 3 → Nat} {o0 o1 o2 : Fin 2 → Nat} {oU oL oD : Fin 3 → Nat} (e : Fin 64) (s : Fin 2)
    (h1 : oE = exOff e) (h2 : oE' = exOff e) (h3 : oS = wsOff s) (h4 : oU = wsOff s) (h5 : oS' = wsOff s)
    (h6 : o0 = wcOff s 0) (h7 : o1 = wcOff s 1) (h8 : o2 = wcOff s 2) (h9 : oL = wsOff s) (h10 : oD = wsOff s) {p1 p2 p3 p4 p5 p6 p7 p8 p9 q1 q2 q3 q4 q5 q6 r1 r2} :
    waitWOf (F := F) (gExAt oE p1) (uExAt oE p2) (dExAt oE' p3) (gSlotAt oS p4) (uSlotAt oU p5) (dSlotAt oS' p6) (wSemAt o0 p7) (wSemAt o1 p8) (wSemAt o2 p9) q1 q2 q3 q4 q5 q6 oL oD r1 r2
      = waitW e s := by
  subst h1 h2 h3 h4 h5 h6 h7 h8 h9 h10; rfl

theorem startXOf_eq {oB : Fin 2 → Nat} {oS : Fin 3 → Nat} {oX : Fin 1 → Nat} (b : Fin 328) (s : Fin 3)
    (h1 : oB = bkOff b) (h2 : oS = xsOff s) (h3 : oX = xcOff s) {p1 p2 p3 q1 q2} :
    startXOf (F := F) (xBlkAt oB p1) (xSlotAt oS p2) (xSemAt oX p3) q1 q2 = startX b s := by
  subst h1 h2 h3; rfl

theorem blockOf_eq {oB : Fin 2 → Nat} {oS oL : Fin 3 → Nat} {oX oN : Fin 1 → Nat} (b : Fin 328) (s : Fin 3)
    (h1 : oB = bkOff b) (h2 : oS = xsOff s) (h3 : oX = xcOff s) (h4 : oL = xsOff s) (h5 : oN = nvOff b) {p1 p2 p3 q1 q2 r1 r2} {o} :
    blockOf (F := F) (xBlkAt oB p1) (xSlotAt oS p2) (xSemAt oX p3) q1 q2 oL r1 oN r2 o = block b s o := by
  subst h1 h2 h3 h4 h5; rfl

/-! ## A core's pieces -/

section Pieces
variable (c : Dev nD) (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))

/-- The share of an array's contents that slot `s`'s copies read under. -/
abbrev tk (s : ℕ) : PosShare TreeShare := Transfers.shareTokN fullShare s

abbrev cellW (s : Fin 2) (j : Fin 3) : sProp (Mo F) := semVal ((c : Thread nD τ), SemLoc.dma (wSem s j).sem) 0
abbrev cellX (s : Fin 3) : sProp (Mo F) := semVal ((c : Thread nD τ), SemLoc.dma (xSem s).sem) 0

abbrev slotG (s : Fin 2) (f : Buf (Elt F) ((gSlot s).view.loc (c : Thread nD τ))) : sProp (Mo F) := (gSlot s).view.loc (c : Thread nD τ) ↦[(gSlot s).view.set]{fullShare} f
abbrev slotU (s : Fin 2) (f : Buf (Elt F) ((uSlot s).view.loc (c : Thread nD τ))) : sProp (Mo F) := (uSlot s).view.loc (c : Thread nD τ) ↦[(uSlot s).view.set]{fullShare} f
abbrev slotD (s : Fin 2) (f : Buf (Elt F) ((dSlot s).view.loc (c : Thread nD τ))) : sProp (Mo F) := (dSlot s).view.loc (c : Thread nD τ) ↦[(dSlot s).view.set]{fullShare} f
abbrev slotX (s : Fin 3) (f : Buf (Elt F) ((xSlot s).view.loc (c : Thread nD τ))) : sProp (Mo F) := (xSlot s).view.loc (c : Thread nD τ) ↦[(xSlot s).view.set]{fullShare} f

abbrev tokG (s : ℕ) : sProp (Mo F) := gM.view.loc (c : Thread nD τ) ↦[gM.view.set]{tk s} XG
abbrev tokU (s : ℕ) : sProp (Mo F) := uM.view.loc (c : Thread nD τ) ↦[uM.view.set]{tk s} XU
abbrev tokD (s : ℕ) : sProp (Mo F) := dM.view.loc (c : Thread nD τ) ↦[dM.view.set]{tk s} XD
abbrev tokX (s : ℕ) : sProp (Mo F) := xM.view.loc (c : Thread nD τ) ↦[xM.view.set]{tk s} XX

/-- Expert `e`'s gate matrix, of the layer the kernel reads. -/
abbrev wordsG (e : Fin 64) : S1024x256.Idx → Elt F .f32 := ReadAs.same.apply ((gEx e).view.read (Elt F) XG)
abbrev wordsU (e : Fin 64) : S1024x256.Idx → Elt F .f32 := ReadAs.same.apply ((uEx e).view.read (Elt F) XU)
abbrev wordsD (e : Fin 64) : S256x1024.Idx → Elt F .f32 := ReadAs.same.apply ((dEx e).view.read (Elt F) XD)
abbrev wordsX (b : Fin 328) : S512x512.Idx → Elt F .i32 := ReadAs.same.apply ((xBlk b).view.read (Elt F) XX)

/-- A copy in flight, issued over `f`: it brings the slot with the words landed, and the array's elements it read. -/
abbrev flG (e : Fin 64) (s : Fin 2) (f : Buf (Elt F) ((gSlot s).view.loc (c : Thread nD τ))) : sProp (Mo F) :=
  Transfers.Flight countersEmb (c : Thread nD τ) (SemLoc.dma (wSem s 0).sem) () 32768
    iprop(slotG c s ((gSlot s).view.writes (Elt F) f [⟨Rect.whole S1024x256, wordsG c XG e⟩]) ∗ gM.view.loc (c : Thread nD τ) ↦[(gEx e).view.set]{tk s} XG)
abbrev flU (e : Fin 64) (s : Fin 2) (f : Buf (Elt F) ((uSlot s).view.loc (c : Thread nD τ))) : sProp (Mo F) :=
  Transfers.Flight countersEmb (c : Thread nD τ) (SemLoc.dma (wSem s 1).sem) () 32768
    iprop(slotU c s ((uSlot s).view.writes (Elt F) f [⟨Rect.whole S1024x256, wordsU c XU e⟩]) ∗ uM.view.loc (c : Thread nD τ) ↦[(uEx e).view.set]{tk s} XU)
abbrev flD (e : Fin 64) (s : Fin 2) (f : Buf (Elt F) ((dSlot s).view.loc (c : Thread nD τ))) : sProp (Mo F) :=
  Transfers.Flight countersEmb (c : Thread nD τ) (SemLoc.dma (wSem s 2).sem) () 32768
    iprop(slotD c s ((dSlot s).view.writes (Elt F) f [⟨Rect.whole S256x1024, wordsD c XD e⟩]) ∗ dM.view.loc (c : Thread nD τ) ↦[(dEx e).view.set]{tk s} XD)
abbrev flX (b : Fin 328) (s : Fin 3) (f : Buf (Elt F) ((xSlot s).view.loc (c : Thread nD τ))) : sProp (Mo F) :=
  Transfers.Flight countersEmb (c : Thread nD τ) (SemLoc.dma (xSem s).sem) () 32768
    iprop(slotX c s ((xSlot s).view.writes (Elt F) f [⟨Rect.whole S512x512, wordsX c XX b⟩]) ∗ xM.view.loc (c : Thread nD τ) ↦[(xBlk b).view.set]{tk s} XX)

/-- A row slot at rest, and in flight with block `b`. -/
def XE (s : Fin 3) : sProp (Mo F) := iprop((∃ f, slotX c s f) ∗ cellX c s ∗ tokX c XX s)
def XF (b : Fin 328) (s : Fin 3) : sProp (Mo F) :=
  iprop((∃ f, flX c XX b s f) ∗ xM.view.loc (c : Thread nD τ) ↦[xM.view.set \ (xBlk b).view.set]{tk s} XX)

/-- What is left of a slot's share of an array while the slot's copy is in flight. -/
abbrev restG (e : Fin 64) (s : Fin 2) : sProp (Mo F) := gM.view.loc (c : Thread nD τ) ↦[gM.view.set \ (gEx e).view.set]{tk s} XG
abbrev restU (e : Fin 64) (s : Fin 2) : sProp (Mo F) := uM.view.loc (c : Thread nD τ) ↦[uM.view.set \ (uEx e).view.set]{tk s} XU
abbrev restD (e : Fin 64) (s : Fin 2) : sProp (Mo F) := dM.view.loc (c : Thread nD τ) ↦[dM.view.set \ (dEx e).view.set]{tk s} XD

/-- The three buffers of rounded weights. -/
abbrev scrG (f : Buf (Elt F) (gS.view.loc (c : Thread nD τ))) : sProp (Mo F) := gS.view.loc (c : Thread nD τ) ↦[gS.view.set]{fullShare} f
abbrev scrU (f : Buf (Elt F) (uS.view.loc (c : Thread nD τ))) : sProp (Mo F) := uS.view.loc (c : Thread nD τ) ↦[uS.view.set]{fullShare} f
abbrev scrD (f : Buf (Elt F) (dS.view.loc (c : Thread nD τ))) : sProp (Mo F) := dS.view.loc (c : Thread nD τ) ↦[dS.view.set]{fullShare} f

/-- A weight slot at rest, and in flight with expert `e`. -/
def WE (s : Fin 2) : sProp (Mo F) :=
  iprop(((∃ f, slotG c s f) ∗ (∃ f, slotU c s f) ∗ (∃ f, slotD c s f)) ∗ (cellW c s 0 ∗ cellW c s 1 ∗ cellW c s 2) ∗ (tokG c XG s ∗ tokU c XU s ∗ tokD c XD s))
def WF (e : Fin 64) (s : Fin 2) : sProp (Mo F) :=
  iprop(((∃ f, flG c XG e s f) ∗ (∃ f, flU c XU e s f) ∗ (∃ f, flD c XD e s f))
    ∗ restG c XG e s ∗ restU c XU e s ∗ restD c XD e s)

theorem startX_run (b : Fin 328) (s : Fin 3) :
    XE c XX s ⊢ wp frame (wpE (defs₀ (F := F)) 𝒱₀ (c : Thread nD τ) none) Set.univ (startX b s) (fun _ => XF c XX b s) := by
  unfold startX startXOf XE XF
  iintro ⟨⟨%f, H1⟩, H2, H3⟩
  sl_exec
  sl_step
  isplitl [H2]
  · iexists f; iexact H2
  · iexact H3

theorem startW_run (e : Fin 64) (s : Fin 2) :
    WE c XG XU XD s ⊢ wp frame (wpE (defs₀ (F := F)) 𝒱₀ (c : Thread nD τ) none) Set.univ (startW e s) (fun _ => WF c XG XU XD e s) := by
  unfold startW startWOf gEx uEx dEx gExAt uExAt dExAt WE WF
  iintro ⟨⟨⟨%f1, H1⟩, ⟨%f2, H2⟩, %f3, H3⟩, ⟨H4, H5, H6⟩, H7, H8, H9⟩
  sl_exec
  sl_step
  isplitl [H4 H5 H6]
  · isplitl [H4]
    · iexists f1; iexact H4
    · isplitl [H5]
      · iexists f2; iexact H5
      · iexists f3; iexact H6
  · isplitl [H7]
    · iexact H7
    · isplitl [H8]
      · iexact H8
      · iexact H9

/-! ## What a slot holds after its copy -/

/-- Expert `e`'s three matrices, of layer 1, as a slot's window holds them. -/
def exG (e : Fin 64) : Vec F S1x1024x256 .f32 := fun y => XG (ix4 (0 : Fin 2) e (y 1 : Fin 1024) (y 2 : Fin 256))
def exU (e : Fin 64) : Vec F S1x1024x256 .f32 := fun y => XU (ix4 (0 : Fin 2) e (y 1 : Fin 1024) (y 2 : Fin 256))
def exD (e : Fin 64) : Vec F S1x256x1024 .f32 := fun y => XD (ix4 (0 : Fin 2) e (y 1 : Fin 256) (y 2 : Fin 1024))
/-- Block `b` of the rows. -/
def exX (b : Fin 328) : Vec F S1x512x512 .i32 := fun y => XX (ix2 (⟨512 * b.val + (y 1 : Fin 512).val, by have := b.isLt; have h : (y 1).val < 512 := (y 1).isLt; show 512 * b.val + (y 1).val < 167936; omega⟩ : Fin 167936) (y 2 : Fin 512))

/-- What a view reads after its whole has been written. -/
theorem read_writes_whole {sp : Space} {sh : Shape} {e : EltTy} (v : View sig .tc sp sh e) (f : v.ty.Contents (Elt F)) (w : sh.Idx → Elt F e) :
    v.read (Elt F) (v.writes (Elt F) f [⟨Rect.whole sh, w⟩]) = w := by
  have h := View.read_write_univ (v := v.slice (Rect.whole sh)) (Val := Elt F) f w
  have e : (Rect.whole sh).emb = Function.Embedding.refl _ := by ext y; simp
  funext y
  refine Eq.trans ?_ (congrFun h y)
  show v.read (Elt F) _ y = v.read (Elt F) _ ((Rect.whole sh).emb y)
  rw [e]; rfl

/-- A slot filled whole through its squeezed window, read back through the ring it lies in. -/
theorem load_slot {sp : Space} {n A B : ℕ} {e : EltTy} (m : Memref sig .tc sp ⟨3, ![n, A, B]⟩ e) (off : Fin 3 → ℕ)
    (inb : ∀ a, off a + (![1, A, B] : Fin 3 → ℕ) a ≤ (⟨3, ![n, A, B]⟩ : Shape).size a)
    (hq : (Rect.unit (s := ⟨3, ![n, A, B]⟩) off ![1, A, B] inb).shape.Squeezes ⟨2, ![A, B]⟩) (f) (w : (⟨2, ![A, B]⟩ : Shape).Idx → Elt F e) (a : Fin A) (b : Fin B) :
    m.view.readAt (Elt F) (Rect.unit (s := ⟨3, ![n, A, B]⟩) off ![1, A, B] inb).toLoadRect
      (((m.slice (Rect.unit (s := ⟨3, ![n, A, B]⟩) off ![1, A, B] inb) (fun _ => rfl)).squeeze ⟨2, ![A, B]⟩ hq).view.writes (Elt F) f [⟨Rect.whole ⟨2, ![A, B]⟩, w⟩])
        (ix3 (⟨0, Nat.one_pos⟩ : Fin 1) a b) = w (ix2 a b) := by
  have h := congrFun (read_writes_whole ((m.slice (Rect.unit (s := ⟨3, ![n, A, B]⟩) off ![1, A, B] inb) (fun _ => rfl)).squeeze ⟨2, ![A, B]⟩ hq).view f w) (ix2 a b)
  refine Eq.trans ?_ h
  exact congrArg (fun z => (m.view.slice (Rect.unit (s := ⟨3, ![n, A, B]⟩) off ![1, A, B] inb)).read (Elt F) _ z) (reshapeEquiv_ix2_1ab hq.numel_eq a b).symm

theorem idx_1ab {A B : ℕ} (y : (⟨3, ![1, A, B]⟩ : Shape).Idx) : ∃ (a : Fin A) (b : Fin B), y = ix3 (⟨0, Nat.one_pos⟩ : Fin 1) a b :=
  ⟨y 1, y 2, (eq_ix3 y).trans (congrArg (fun z : Fin 1 => ix3 z (y 1 : Fin A) (y 2 : Fin B)) (Subsingleton.elim _ _))⟩

/-- An expert's matrix through its squeezed window. -/
theorem words_ex {sp : Space} {A B : ℕ} (m : Memref sig .tc sp ⟨4, ![2, 64, A, B]⟩ .f32) (e : Fin 64)
    (inb : ∀ a, exOff e a + (![1, 1, A, B] : Fin 4 → ℕ) a ≤ (⟨4, ![2, 64, A, B]⟩ : Shape).size a)
    (hq : (Rect.unit (s := ⟨4, ![2, 64, A, B]⟩) (exOff e) ![1, 1, A, B] inb).shape.Squeezes ⟨2, ![A, B]⟩) (f) (a : Fin A) (b : Fin B) :
    ((m.slice (Rect.unit (s := ⟨4, ![2, 64, A, B]⟩) (exOff e) ![1, 1, A, B] inb) (fun _ => rfl)).squeeze ⟨2, ![A, B]⟩ hq).view.read (Elt F) f (ix2 a b)
      = m.view.read (Elt F) f (ix4 (0 : Fin 2) e a b) := by
  refine Eq.trans (congrArg (fun z => (m.view.slice (Rect.unit (s := ⟨4, ![2, 64, A, B]⟩) (exOff e) ![1, 1, A, B] inb)).read (Elt F) f z) (reshapeEquiv_ix2_11ab hq.numel_eq a b)) ?_
  refine congrArg (m.view.read (Elt F) f) (funext fun x => Fin.ext ?_)
  match x with
  | ⟨0, _⟩ => rfl
  | ⟨1, _⟩ => show e.val + 1 * 0 = e.val; omega
  | ⟨2, _⟩ => show 0 + 1 * a.val = a.val; omega
  | ⟨3, _⟩ => show 0 + 1 * b.val = b.val; omega

theorem load_slotG (e : Fin 64) (s : Fin 2) (f) :
    gR.view.readAt (Elt F) (Rect.unit (s := S2x1024x256) (wsOff s) S1x1024x256.size (wgOff_inb s)).toLoadRect
      ((gSlot s).view.writes (Elt F) f [⟨Rect.whole S1024x256, wordsG c XG e⟩]) = exG c XG e := by
  funext y
  obtain ⟨a, b, rfl⟩ := idx_1ab y
  exact (load_slot (F := F) gR (wsOff s) (wgOff_inb s) squeezes_S1x1024x256_S1024x256 f (wordsG c XG e) a b).trans (words_ex gM e (egOff_inb e) squeezes_S1x1x1024x256_S1024x256 XG a b)
theorem load_slotU (e : Fin 64) (s : Fin 2) (f) :
    uR.view.readAt (Elt F) (Rect.unit (s := S2x1024x256) (wsOff s) S1x1024x256.size (wgOff_inb s)).toLoadRect
      ((uSlot s).view.writes (Elt F) f [⟨Rect.whole S1024x256, wordsU c XU e⟩]) = exU c XU e := by
  funext y
  obtain ⟨a, b, rfl⟩ := idx_1ab y
  exact (load_slot (F := F) uR (wsOff s) (wgOff_inb s) squeezes_S1x1024x256_S1024x256 f (wordsU c XU e) a b).trans (words_ex uM e (egOff_inb e) squeezes_S1x1x1024x256_S1024x256 XU a b)
theorem load_slotD (e : Fin 64) (s : Fin 2) (f) :
    dR.view.readAt (Elt F) (Rect.unit (s := S2x256x1024) (wsOff s) S1x256x1024.size (wdOff_inb s)).toLoadRect
      ((dSlot s).view.writes (Elt F) f [⟨Rect.whole S256x1024, wordsD c XD e⟩]) = exD c XD e := by
  funext y
  obtain ⟨a, b, rfl⟩ := idx_1ab y
  exact (load_slot (F := F) dR (wsOff s) (wdOff_inb s) squeezes_S1x256x1024_S256x1024 f (wordsD c XD e) a b).trans (words_ex dM e (edOff_inb e) squeezes_S1x1x256x1024_S256x1024 XD a b)
theorem load_slotX (b : Fin 328) (s : Fin 3) (f) :
    xR.view.readAt (Elt F) (Rect.unit (s := S3x512x512) (xsOff s) S1x512x512.size (xsOff_inb s)).toLoadRect
      ((xSlot s).view.writes (Elt F) f [⟨Rect.whole S512x512, wordsX c XX b⟩]) = exX c XX b := by
  funext y
  obtain ⟨p, q, rfl⟩ := idx_1ab y
  refine (load_slot (F := F) xR (xsOff s) (xsOff_inb s) squeezes_S1x512x512_S512x512 f (wordsX c XX b) p q).trans ?_
  refine congrArg XX (funext fun x => Fin.ext ?_)
  match x with
  | ⟨0, _⟩ => show 512 * b.val + 1 * p.val = 512 * b.val + p.val; omega
  | ⟨1, _⟩ => show 0 + 1 * q.val = q.val; omega

/-- The bookkeeping of the waits made so far. -/
abbrev OW : sProp (Mo F) := iprop(∃ W, owes (c : Thread nD τ) 0 W)

/-- The three buffers of rounded weights, at anything, and at expert `e`'s. -/
def S0 : sProp (Mo F) := iprop((∃ f, scrG c f) ∗ (∃ f, scrU c f) ∗ (∃ f, scrD c f))
def SC (e : Fin 64) : sProp (Mo F) :=
  iprop((∃ f, ⌜gS.view.read (Elt F) f = k0_pay5 (exG c XG e)⌝ ∗ scrG c f) ∗ (∃ f, ⌜uS.view.read (Elt F) f = k0_pay1 (exU c XU e)⌝ ∗ scrU c f)
    ∗ (∃ f, ⌜dS.view.read (Elt F) f = k0_pay2 (exD c XD e)⌝ ∗ scrD c f))

theorem waitW_run (e : Fin 64) (s : Fin 2) :
    iprop(OW c ∗ WF c XG XU XD e s ∗ S0 c) ⊢ wp frame (wpE (defs₀ (F := F)) 𝒱₀ (c : Thread nD τ) none) Set.univ (waitW e s)
      (fun _ => iprop(OW c ∗ WE c XG XU XD s ∗ SC c XG XU XD e)) := by
  unfold waitW waitWOf WF WE S0 flG flU flD restG restU restD wordsG wordsU wordsD gEx uEx dEx gExAt uExAt dExAt
  iintro ⟨⟨%W, HW⟩, ⟨⟨⟨%f1, H1⟩, ⟨%f2, H2⟩, %f3, H3⟩, H4, H5, H6⟩, ⟨%f4, H7⟩, ⟨%f5, H8⟩, %f6, H9⟩
  sl_exec
  sl_step
  isplitl [HW]
  · iexists _; iexact HW
  isplitl [H1 H2 H3 H4 H5 H6 H1_dst H2_dst H3_dst]
  · isplitl [H1_dst H2_dst H3_dst]
    · isplitl [H1_dst]
      · iexists _; iexact H1_dst
      isplitl [H2_dst]
      · iexists _; iexact H2_dst
      iexists _; iexact H3_dst
    isplitl [H1 H2 H3]
    · isplitl [H1]; · iexact H1
      isplitl [H2]; · iexact H2
      iexact H3
    isplitl [H4]; · iexact H4
    isplitl [H5]; · iexact H5
    iexact H6
  unfold SC
  isplitl [H7]
  · iexists _
    isplitr
    rotate_left
    · iexact H7
    · ipureintro
      refine (View.read_writes_full _ _ _ _ _).trans ?_
      exact congrArg k0_pay5 (load_slotG c XG e s _)
  isplitl [H8]
  · iexists _
    isplitr
    rotate_left
    · iexact H8
    · ipureintro
      refine (View.read_writes_full _ _ _ _ _).trans ?_
      exact congrArg k0_pay1 (load_slotU c XU e s _)
  · iexists _
    isplitr
    rotate_left
    · iexact H9
    · ipureintro
      refine (View.read_writes_full _ _ _ _ _).trans ?_
      exact congrArg k0_pay2 (load_slotD c XD e s _)

/-! ## A block's value, and the block's program -/

/-- What the kernel stores for block `b` of expert `e`, of whose rows `n` are used. -/
def blkVal (b : Fin 328) (e : Fin 64) (n : BitVec 32) : Vec F S512x512 .i32 :=
  k0_pay3 (k0_pay6 (exX c XX b) n (k0_pay5 (exG c XG e)) (k0_pay1 (exU c XU e))) (k0_pay2 (exD c XD e)) (constant S512x1024 .f32 0x00000000#32)

variable (q : PosShare TreeShare) (TN : Buf (Elt F) (nvM.view.loc (c : Thread nD τ)))

abbrev tabN : sProp (Mo F) := nvM.view.loc (c : Thread nD τ) ↦[nvM.view.set]{q} TN

/-- The staging buffer of the block, at anything, and at a value. -/
abbrev outP (o : Memref sig .tc .vmem S512x512 .i32) (f : Buf (Elt F) (o.view.loc (c : Thread nD τ))) : sProp (Mo F) := o.view.loc (c : Thread nD τ) ↦[o.view.set]{fullShare} f
abbrev outV (o : Memref sig .tc .vmem S512x512 .i32) (v : Vec F S512x512 .i32) : sProp (Mo F) := iprop(∃ f, ⌜o.view.read (Elt F) f = v⌝ ∗ outP c o f)

/-- The word of a table at an index. -/
theorem word_at {n : ℕ} (m : Memref sig .tc .smem ⟨1, ![n]⟩ .i32) (T : m.view.ty.Contents (Elt F)) (off : Fin 1 → ℕ) (k : ℕ) (hk : k < n) (ho : off = ![k])
    (inb : ∀ a, off a + S1.size a ≤ (⟨1, ![n]⟩ : Shape).size a) (x : S1.Idx) :
    m.view.readAt (Elt F) (Rect.unit (s := ⟨1, ![n]⟩) off S1.size inb).toLoadRect T x = m.view.read (Elt F) T (ix1 (⟨k, hk⟩ : Fin n)) := by
  subst ho
  refine congrArg (m.view.read (Elt F) T) (funext fun a => Fin.ext ?_)
  match a with
  | ⟨0, _⟩ =>
    have h : (x 0).val < 1 := (x 0).isLt
    show k + 1 * (x 0).val = k
    omega

theorem block_run (b : Fin 328) (s : Fin 3) (e : Fin 64) (o : Memref sig .tc .vmem S512x512 .i32) (fo) :
    iprop(OW c ∗ XF c XX b s ∗ SC c XG XU XD e ∗ tabN c q TN ∗ outP c o fo) ⊢ wp frame (wpE (defs₀ (F := F)) 𝒱₀ (c : Thread nD τ) none) Set.univ (block b s o)
      (fun _ => iprop(OW c ∗ XE c XX s ∗ SC c XG XU XD e ∗ tabN c q TN ∗ outV c o (blkVal c XX XG XU XD b e (TN (ix1 b))))) := by
  unfold block blockOf XF SC XE flX wordsX xBlk xBlkAt
  iintro ⟨⟨%W, HW⟩, ⟨⟨%f1, H1⟩, H2⟩, ⟨⟨%g, %hg, Hg⟩, ⟨%u, %hu, Hu⟩, %d, %hd, Hd⟩, HN, HO⟩
  sl_exec
  sl_step
  isplitl [HW]
  · iexists _; iexact HW
  isplitl [H1_dst H2 H1]
  · isplitl [H1_dst]
    · iexists _; iexact H1_dst
    isplitl [H1]; · iexact H1
    iexact H2
  isplitl [Hg Hu Hd]
  · isplitl [Hg]
    · iexists g; isplitr; · ipureintro; exact hg
      iexact Hg
    isplitl [Hu]
    · iexists u; isplitr; · ipureintro; exact hu
      iexact Hu
    iexists d; isplitr; · ipureintro; exact hd
    iexact Hd
  isplitl [HN]; · iexact HN
  iexists _
  isplitr
  rotate_left
  · iexact HO
  · ipureintro
    refine (View.read_writes_full _ _ _ _ _).trans ?_
    unfold blkVal
    rw [View.readAt_full, View.readAt_full, View.readAt_full, hg, hu, hd,
      show block_run.sl.v35 c XX b s = exX c XX b from load_slotX c XX b s _, show block_run.sl.r c TN b = TN (ix1 b) from word_at nvM TN _ b.val b.isLt rfl _ _]

theorem zeroBlock_run (o : Memref sig .tc .vmem S512x512 .i32) (fo) :
    iprop(outP c o fo) ⊢ wp frame (wpE (defs₀ (F := F)) 𝒱₀ (c : Thread nD τ) none) Set.univ (zeroBlock o) (fun _ => outV c o k0_pay4) := by
  unfold zeroBlock
  iintro HO
  sl_exec
  sl_step
  iexists _
  isplitr
  rotate_left
  · iexact HO
  · ipureintro
    exact View.read_writes_full _ _ _ _ _

end Pieces

end Cert.Proof.First

end
-- ==== Proof.FirstWords.lean ====
/-
  The words the first layer's routed experts' kernel reads, as numbers: its conditions, its offsets and its side
  conditions at words below 2 ^ 31, and what the precondition says of its five tables.
-/
module

public import proofs.«01_k».proof.Proof.FirstCopies
public import proofs.«01_k».proof.Proof.ExpertsWords

@[expose] public section

set_option maxRecDepth 16384

noncomputable section

namespace Cert.Proof.First

open Cert.Kernel4 Cert.Kernel4.Gen
open Idealize.ShloMosaic
open Cert.Proof.Experts (flag_iff bool_iff slt_iff sgt_iff sge_iff eq_iff andi_iff add2 rem2 mul512)
open Idealize.ShloMosaic.ValueIdx (ix1 ix2 ix3 ix4)

/-! ## The grid's point, and the conditions -/

section Conds
variable (i : grid0.Coords)

theorem pt_lt : (i 0).val < 328 := (i 0).isLt
theorem pt_toNat : (BitVec.ofNat 32 (i 0).val).toNat = (i 0).val := by
  have := pt_lt i; rw [BitVec.toNat_ofNat]; omega

theorem cond1_iff : k0_cond1 i = 1#1 ↔ (i 0).val = 0 := by
  refine (flag_iff _).trans (eq_iff.trans ?_)
  rw [← BitVec.toNat_inj, pt_toNat]; rfl
theorem cond4_iff : k0_cond4 i = 1#1 ↔ (i 0).val = 0 := cond1_iff i
theorem cond2_iff {w : BitVec 32} (h : w.toNat < 2 ^ 31) : k0_cond2 w = 1#1 ↔ 0 < w.toNat := (flag_iff _).trans (sgt_iff h (by decide))
theorem cond3_iff {w : BitVec 32} (h : w.toNat < 2 ^ 31) : k0_cond3 w = 1#1 ↔ 1 < w.toNat := (flag_iff _).trans (sgt_iff h (by decide))
theorem cond7_iff {w : BitVec 32} (h : w.toNat < 2 ^ 31) : k0_cond7 i w = 1#1 ↔ (i 0).val + 2 < w.toNat := by
  have e := pt_toNat i
  have l := pt_lt i
  have e2 := add2 (w := BitVec.ofNat 32 (i 0).val) (by omega)
  refine (flag_iff _).trans ((slt_iff (by rw [e2]; omega) h).trans ?_)
  rw [e2, e]
theorem cond8_iff {w v : BitVec 32} (h : w.toNat < 2 ^ 31) : k0_cond8 i w v = 1#1 ↔ (i 0).val < w.toNat ∧ v = 1#32 := by
  have e := pt_toNat i
  have l := pt_lt i
  refine (flag_iff _).trans ((andi_iff _ _).trans (and_congr ((slt_iff (by omega) h).trans ?_) eq_iff))
  rw [e]
theorem cond9_iff {w v : BitVec 32} (h : w.toNat < 2 ^ 31) (hv : v.toNat < 2 ^ 30) : k0_cond9 w v = 1#1 ↔ v.toNat + 2 < w.toNat := by
  have e2 := add2 (w := v) (by omega)
  refine (flag_iff _).trans ((slt_iff (by rw [e2]; omega) h).trans ?_)
  rw [e2]
theorem cond10_iff {w : BitVec 32} (h : w.toNat < 2 ^ 31) : k0_cond10 i w = 1#1 ↔ (i 0).val < w.toNat := by
  have e := pt_toNat i
  have l := pt_lt i
  refine (flag_iff _).trans ((slt_iff (by omega) h).trans ?_)
  rw [e]
theorem cond11_iff {w : BitVec 32} (h : w.toNat < 2 ^ 31) : k0_cond11 i w = 1#1 ↔ w.toNat ≤ (i 0).val := by
  have e := pt_toNat i
  have l := pt_lt i
  refine (flag_iff _).trans ((sge_iff (by omega) h).trans ?_)
  rw [e]
theorem sgt0_iff {w : BitVec 32} (h : w.toNat < 2 ^ 31) : Scalar.cmpi .ne (Scalar.extui (Scalar.cmpi .sgt w 0#32) : BitVec 32) 0#32 = 1#1 ↔ 0 < w.toNat := cond2_iff h
theorem sgt1_iff {w : BitVec 32} (h : w.toNat < 2 ^ 31) : Scalar.cmpi .ne (Scalar.extui (Scalar.cmpi .sgt w 1#32) : BitVec 32) 0#32 = 1#1 ↔ 1 < w.toNat := cond3_iff h

/-! ## Offsets the kernel computes -/

theorem off23_val : k0_off23 i = ![512 * ((i 0).val + 2), 0] := by
  have e := pt_toNat i
  have l := pt_lt i
  have e2 := add2 (w := BitVec.ofNat 32 (i 0).val) (by omega)
  have e3 := mul512 (w := Scalar.addi (BitVec.ofNat 32 (i 0).val) 2#32) (by rw [e2]; omega)
  show ![(Scalar.muli (Scalar.addi (BitVec.ofNat 32 (i 0).val) 2#32) 512#32).toNat, 0] = _
  rw [e3, e2, e]

end Conds

/-- The slot of the `k`-th expert in use, and of a block of rows. -/
abbrev slW (k : ℕ) : Fin 2 := ⟨k % 2, Nat.mod_lt _ (by decide)⟩
abbrev slX (b : ℕ) : Fin 3 := ⟨b % 3, Nat.mod_lt _ (by decide)⟩

section Offs
variable {v : BitVec 32} (h : v.toNat < 64)
include h

theorem ws_at : (![(Scalar.remsi v 2#32).toNat, 0, 0] : Fin 3 → ℕ) = wsOff (slW v.toNat) := by
  rw [rem2 (by omega)]
theorem wc_at (j : Fin 3) : (![(Scalar.remsi v 2#32).toNat, j.val] : Fin 2 → ℕ) = wcOff (slW v.toNat) j := by
  rw [rem2 (by omega)]
theorem ws_at2 : (![(Scalar.remsi (Scalar.addi v 2#32) 2#32).toNat, 0, 0] : Fin 3 → ℕ) = wsOff (slW (v.toNat + 2)) := by
  have e2 := add2 (w := v) (by omega)
  rw [rem2 (by omega), e2]
theorem wc_at2 (j : Fin 3) : (![(Scalar.remsi (Scalar.addi v 2#32) 2#32).toNat, j.val] : Fin 2 → ℕ) = wcOff (slW (v.toNat + 2)) j := by
  have e2 := add2 (w := v) (by omega)
  rw [rem2 (by omega), e2]

theorem off37_val : k0_off37 v = ![v.toNat + 2] := by
  show ![(Scalar.addi v 2#32).toNat] = _
  rw [add2 (by omega)]

end Offs

/-! ## The side conditions -/

theorem inb_of_eq {n : ℕ} {o o' : Fin n → ℕ} {a b : Fin n → ℕ} (e : o = o') (h : ∀ x, o' x + a x ≤ b x) : ∀ x, o x + a x ≤ b x := e ▸ h

theorem off64_inb {k : ℕ} (h : k < 64) : ∀ a, (![k] : Fin 1 → ℕ) a + S1.size a ≤ S64.size a := by
  intro a; fin_cases a; show k + 1 ≤ 64; omega

theorem chk1_of (i) (v1) {v : BitVec 32} (h : v.toNat < 64) : k0_chk1 i v1 v :=
  ⟨fun _ _ => egOff_inb ⟨v.toNat, h⟩, fun _ _ => edOff_inb ⟨v.toNat, h⟩⟩
theorem chk2_of (i) (v1) {v : BitVec 32} (h : v.toNat < 64) : k0_chk2 i v1 v :=
  ⟨fun _ _ => egOff_inb ⟨v.toNat, h⟩, fun _ _ => edOff_inb ⟨v.toNat, h⟩⟩
theorem chk3_of (i) {v0 : BitVec 32} (h : v0.toNat ≤ 328) : k0_chk3 i v0 := fun h7 =>
  have h' := (cond7_iff i (by omega)).mp h7
  inb_of_eq (off23_val i) (bkOff_inb ⟨(i 0).val + 2, by omega⟩)
theorem chk4_of (i) (v0) {v1 : BitVec 32} (v14) {v : BitVec 32} (h1 : v1.toNat ≤ 64) (h : v.toNat < 64) : k0_chk4 i v0 v1 v14 v :=
  ⟨fun _ => off64_inb h, fun _ => inb_of_eq (wc_at h 0) (wcOff_inb _ _), fun _ => inb_of_eq (ws_at h) (wgOff_inb _),
    fun _ => inb_of_eq (wc_at h 1) (wcOff_inb _ _), fun _ => inb_of_eq (ws_at h) (wgOff_inb _),
    fun _ => inb_of_eq (wc_at h 2) (wcOff_inb _ _), fun _ => inb_of_eq (ws_at h) (wdOff_inb _),
    fun _ => inb_of_eq (ws_at h) (wgOff_inb _), fun _ => inb_of_eq (ws_at h) (wdOff_inb _),
    fun _ h9 => have h' := (cond9_iff (w := v1) (by omega) (by omega)).mp h9; inb_of_eq (off37_val h) (off64_inb (by omega)),
    fun _ _ => inb_of_eq (wc_at2 h 0) (wcOff_inb _ _), fun _ _ => inb_of_eq (ws_at2 h) (wgOff_inb _),
    fun _ _ => inb_of_eq (wc_at2 h 1) (wcOff_inb _ _), fun _ _ => inb_of_eq (ws_at2 h) (wgOff_inb _),
    fun _ _ => inb_of_eq (wc_at2 h 2) (wcOff_inb _ _), fun _ _ => inb_of_eq (ws_at2 h) (wdOff_inb _)⟩
theorem chk5_of (i) (v0 v14) {v : BitVec 32} (h : v.toNat < 64) : k0_chk5 i v0 v14 v :=
  ⟨fun _ => egOff_inb ⟨v.toNat, h⟩, fun _ => edOff_inb ⟨v.toNat, h⟩⟩
theorem chk6_of (i) (v0 v1 v14 v26) {v : BitVec 32} (h : v.toNat < 64) : k0_chk6 i v0 v1 v14 v26 v :=
  ⟨fun _ _ => egOff_inb ⟨v.toNat, h⟩, fun _ _ => edOff_inb ⟨v.toNat, h⟩⟩

end Cert.Proof.First

end
-- ==== Proof.FirstPhases.lean ====
/-
  The phases of the first layer's routed experts' kernel at one grid point, run on the state the loop carries:
  three row slots, two weight slots and the rounded weights of the expert in hand. Before block `p` the copies of
  blocks `p` and `p + 1` are in flight as far as they are used, and so are those of the experts number `nK p` and
  `nK p + 1`; at a point past the last used block everything is at rest.
-/
module

public import proofs.«01_k».proof.Proof.FirstWords

@[expose] public section

set_option maxRecDepth 16384

noncomputable section

namespace Cert.Proof.First

open Cert.Kernel4 Cert.Kernel4.Gen
open Idealize.ShloMosaic
open Cert.Proof.Experts (flag_iff bool_iff slt_iff sgt_iff sge_iff eq_iff andi_iff add2 rem2 mul512 Fits nU nO od ex nK od_eq ex_val od_succ od_mono od_lt nK_zero nK_pos nK_le nK_succ_used nK_new nK_old nK_end)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf UD)

variable {F : FTy → Type} [BitOps F]

/-! ## Running a program in steps -/

section Steps
variable (c : Dev nD)

/-- What a program run on core `c` leaves. -/
abbrev Wp {α : Type} (p : Pg F α) (Q : α → sProp (Mo F)) : sProp (Mo F) := wp frame (wpE (defs₀ (F := F)) 𝒱₀ (c : Thread nD τ) none) Set.univ p Q

variable {c}

theorem run_seq {α β : Type} {A B R : sProp (Mo F)} {p : Pg F α} {f : α → Pg F β} {Q : β → sProp (Mo F)}
    (h1 : A ⊢ Wp c p (fun _ => B)) (h2 : ∀ a, iprop(B ∗ R) ⊢ Wp c (f a) Q) : iprop(A ∗ R) ⊢ Wp c (p >>= f) Q := by
  unfold Wp
  rw [wp_bind]
  exact (sep_mono_left h1).trans ((wp_frame_r _ _ _).trans (wp_mono _ _ _ h2))

/-- The same, of a program that is another one by its equal offsets, with the entry reordered. -/
theorem run_as {α β : Type} {A A' B R : sProp (Mo F)} {p p' : Pg F α} {f : α → Pg F β} {Q : β → sProp (Mo F)}
    (e : p = p') (h1 : A ⊢ Wp c p' (fun _ => B)) (h0 : A' ⊢ iprop(A ∗ R)) (h2 : ∀ a, iprop(B ∗ R) ⊢ Wp c (f a) Q) : A' ⊢ Wp c (p >>= f) Q :=
  h0.trans (run_seq (e ▸ h1) h2)

theorem run_frame {α : Type} {A B R : sProp (Mo F)} {p : Pg F α} (h : A ⊢ Wp c p (fun _ => B)) : iprop(A ∗ R) ⊢ Wp c p (fun _ => iprop(B ∗ R)) :=
  (sep_mono_left h).trans (wp_frame_r _ _ _)
theorem run_imp {α : Type} {A A' : sProp (Mo F)} {B B' : α → sProp (Mo F)} {p : Pg F α} (h0 : A' ⊢ A) (h1 : ∀ a, B a ⊢ B' a) (h : A ⊢ Wp c p B) : A' ⊢ Wp c p B' :=
  h0.trans (h.trans (wp_mono _ _ _ h1))

theorem run_eq {α : Type} {A : sProp (Mo F)} {p p' : Pg F α} {Q : α → sProp (Mo F)} (e : p = p') (h : A ⊢ Wp c p' Q) : A ⊢ Wp c p Q := e ▸ h

theorem run_pure {α : Type} {A : sProp (Mo F)} {a : α} {Q : α → sProp (Mo F)} (h : A ⊢ Q a) : A ⊢ Wp c (pure a) Q :=
  h.trans (le_wp_ret _ _ _ _ _)

theorem run_assume {β : Type} {A : sProp (Mo F)} {P : Prop} {d : Decidable P} {f : PLift P → Pg F β} {Q : β → sProp (Mo F)}
    (h : P) (h2 : ∀ hp, A ⊢ Wp c (f hp) Q) : A ⊢ Wp c (Prog.lift (.assume P d) >>= f) Q :=
  (h2 ⟨h⟩).trans (wp_assume (U := UD sig nD τ) 𝒱₀ (c : Thread nD τ) none Set.univ h)

/-- Reading a table's word. -/
theorem run_word {n : ℕ} {β : Type} {A R : sProp (Mo F)} (m : Memref sig .tc .smem ⟨1, ![n]⟩ .i32) {q : PosShare TreeShare}
    (T : Buf (Elt F) (m.view.loc (c : Thread nD τ))) {off : Fin 1 → ℕ} (k : ℕ) (hk : k < n) (ho : off = ![k])
    (w : BitVec 32) (hw : m.view.read (Elt F) T (ix1 (⟨k, hk⟩ : Fin n)) = w) {inb : ∀ a, off a + S1.size a ≤ (⟨1, ![n]⟩ : Shape).size a} {hn hr} {f : Elt F .i32 → Pg F β} {Q : β → sProp (Mo F)}
    (h0 : A ⊢ iprop((m.view.loc (c : Thread nD τ) ↦[m.view.set]{q} T) ∗ R))
    (h : iprop((m.view.loc (c : Thread nD τ) ↦[m.view.set]{q} T) ∗ R) ⊢ Wp c (f w) Q) : A ⊢ Wp c (smemLoad m (Rect.unit (s := ⟨1, ![n]⟩) off S1.size inb) hn hr >>= f) Q := by
  subst ho hw
  refine h0.trans ?_
  unfold Wp
  iintro ⟨HT, HR⟩
  sl_exec
  rw [show run_word.sl.r m T k = m.view.read (Elt F) T (ix1 (⟨k, hk⟩ : Fin n)) from word_at m T _ k hk rfl _ _]
  iapply h
  isplitl [HT]
  · iexact HT
  · iexact HR

end Steps

/-! ## The state -/

section State
variable (c : Dev nD) (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (q : PosShare TreeShare) (TN TW TO : S328.Idx → BitVec 32) (TE : S64.Idx → BitVec 32) (TC : S2.Idx → BitVec 32)

abbrev tabW : sProp (Mo F) := newM.view.loc (c : Thread nD τ) ↦[newM.view.set]{q} TW
abbrev tabO : sProp (Mo F) := ordM.view.loc (c : Thread nD τ) ↦[ordM.view.set]{q} TO
abbrev tabE : sProp (Mo F) := eoM.view.loc (c : Thread nD τ) ↦[eoM.view.set]{q} TE
abbrev tabC : sProp (Mo F) := cntM.view.loc (c : Thread nD τ) ↦[cntM.view.set]{q} TC

/-- Block `b`'s number, below 328. -/
abbrev bk (b : ℕ) : Fin 328 := ⟨b % 328, Nat.mod_lt _ (by decide)⟩

/-- Block `b`'s slot: the copy in flight if the block is used, else at rest. And so of the `k`-th expert's. -/
def XP (b : ℕ) : sProp (Mo F) := if b < nU TC then XF c XX (bk b) (slX b) else XE c XX (slX b)
def WP (k : ℕ) : sProp (Mo F) := if k < nO TC then WF c XG XU XD (ex TE k) (slW k) else WE c XG XU XD (slW k)

/-- Before point `p`: the row slots, the weight slots, and the rounded weights. -/
def XQ (p : ℕ) : sProp (Mo F) :=
  if p = 0 then iprop(XE c XX (slX 0) ∗ XE c XX (slX 1) ∗ XE c XX (slX 2)) else iprop(XP c XX TC p ∗ XP c XX TC (p + 1) ∗ XE c XX (slX (p + 2)))
def WR (p : ℕ) : sProp (Mo F) := iprop(WP c XG XU XD TE TC (nK TO TC p) ∗ WP c XG XU XD TE TC (nK TO TC p + 1))
def WQ (p : ℕ) : sProp (Mo F) := if p = 0 then iprop(WE c XG XU XD (slW 0) ∗ WE c XG XU XD (slW 1)) else WR c XG XU XD TO TE TC p
def SP (p : ℕ) : sProp (Mo F) := if p = 0 then S0 c else SC c XG XU XD (ex TE (nK TO TC p - 1))

/-- What the loop carries over the tables: the row slots, the weight slots and the rounded weights. -/
def ST (p : ℕ) : sProp (Mo F) := iprop(XQ c XX TC p ∗ WQ c XG XU XD TO TE TC p ∗ SP c XG XU XD TO TE TC p)
/-- The tables. -/
abbrev TB : sProp (Mo F) := iprop(tabN c q TN ∗ tabW c q TW ∗ tabO c q TO ∗ tabE c q TE ∗ tabC c q TC)

/-- What the kernel stores at point `p`. -/
def val (p : ℕ) : Vec F S512x512 .i32 :=
  if p < nU TC then blkVal c XX XG XU XD (bk p) (ex TE (od TO p)) (TN (ix1 (bk p))) else k0_pay4

theorem SC_S0 (e : Fin 64) : SC c XG XU XD e ⊢ S0 (F := F) c := by
  unfold SC S0
  iintro ⟨⟨%g, -, Hg⟩, ⟨%u, -, Hu⟩, %d, -, Hd⟩
  isplitl [Hg]
  · iexists g; iexact Hg
  isplitl [Hu]
  · iexists u; iexact Hu
  · iexists d; iexact Hd

theorem SP_S0 (p : ℕ) : SP c XG XU XD TO TE TC p ⊢ S0 (F := F) c := by
  unfold SP; split
  · exact .rfl
  · exact SC_S0 c XG XU XD _

theorem XP_lt {b : ℕ} (h : b < nU TC) : XP c XX TC b = XF c XX (bk b) (slX b) := if_pos h
theorem XP_ge {b : ℕ} (h : ¬b < nU TC) : XP c XX TC b = XE c XX (slX b) := if_neg h
theorem WP_lt {k : ℕ} (h : k < nO TC) : WP c XG XU XD TE TC k = WF c XG XU XD (ex TE k) (slW k) := if_pos h
theorem WP_ge {k : ℕ} (h : ¬k < nO TC) : WP c XG XU XD TE TC k = WE c XG XU XD (slW k) := if_neg h

theorem slW_add (k : ℕ) : slW (k + 2) = slW k := Fin.ext (by show (k + 2) % 2 = k % 2; omega)
theorem slX_add (k : ℕ) : slX (k + 3) = slX k := Fin.ext (by show (k + 3) % 3 = k % 3; omega)

variable {TN TW TO TE TC}

/-- The start of the `k`-th expert's copies, if there is one. -/
theorem start_run {k : ℕ} (h : k < nO TC) :
    WE c XG XU XD (slW k) ⊢ Wp c (startW (ex TE k) (slW k)) (fun _ => WP c XG XU XD TE TC k) := by
  rw [WP_lt c XG XU XD TE TC h]; exact startW_run c XG XU XD _ _

theorem startB_run {b : ℕ} (h : b < nU TC) :
    XE c XX (slX b) ⊢ Wp c (startX (bk b) (slX b)) (fun _ => XP c XX TC b) := by
  rw [XP_lt c XX TC h]; exact startX_run c XX _ _

variable (ft : Fits TW TO TE TC) (i : grid0.Coords)
include ft

theorem nO_pos : 0 < nO TC := by
  have h1 : 1 ≤ nU TC := ft.u1
  exact Nat.lt_of_le_of_lt (Nat.zero_le _) (od_lt ft (p := 0) (by omega))

theorem ex_off {k : ℕ} (h : k < 64) : (![0, (TE (ix1 (⟨k, h⟩ : Fin 64))).toNat, 0, 0] : Fin 4 → ℕ) = exOff (ex TE k) := by
  rw [ex_val ft h]

theorem phA_rest (v1 : BitVec 32) (h : (i 0).val ≠ 0) : phA (F := F) i v1 = pure ⟨⟩ := by
  unfold phA; rw [dif_neg fun h' => h ((cond1_iff i).mp h')]

theorem phA_first (h : (i 0).val = 0) :
    iprop(tabE c q TE ∗ WE c XG XU XD (slW 0) ∗ WE c XG XU XD (slW 1)) ⊢ Wp c (phA i (TC (ix1 1)))
      (fun _ => iprop(tabE c q TE ∗ WP c XG XU XD TE TC 0 ∗ WP c XG XU XD TE TC 1)) := by
  have l0 : (TC (ix1 1)).toNat < 2 ^ 31 := by have := ft.n64; omega
  have h0 := nO_pos ft
  unfold phA
  rw [dif_pos ((cond1_iff i).mpr h)]
  dsimp only
  rw [dif_pos ((cond2_iff l0).mpr (show 0 < (TC (ix1 1)).toNat from h0))]
  refine run_word (c := c) (q := q) eoM TE 0 (by decide) rfl (TE (ix1 (⟨0, by decide⟩ : Fin 64))) rfl .rfl ?_
  refine run_assume (chk1_of i _ (ft.eo _)) fun hp => ?_
  refine run_as (startWOf_eq (ex TE 0) (slW 0) (ex_off ft (by decide)) (ex_off ft (by decide)) rfl rfl rfl rfl rfl rfl)
    (start_run c XG XU XD (TE := TE) (TC := TC) h0) (R := iprop(tabE c q TE ∗ WE c XG XU XD (slW 1))) ?_ fun _ => ?_
  · iintro ⟨HE, H0, H1⟩
    isplitl [H0]; · iexact H0
    isplitl [HE]; · iexact HE
    iexact H1
  split
  case isTrue h3 =>
    have h1 : 1 < nO TC := (cond3_iff l0).mp h3
    refine run_word (c := c) (q := q) eoM TE 1 (by decide) rfl (TE (ix1 (⟨1, by decide⟩ : Fin 64))) rfl (R := iprop(WP c XG XU XD TE TC 0 ∗ WE c XG XU XD (slW 1))) ?_ ?_
    · iintro ⟨H0, HE, H1⟩
      isplitl [HE]; · iexact HE
      isplitl [H0]; · iexact H0
      iexact H1
    refine run_assume (chk2_of i _ (ft.eo _)) fun hp => ?_
    refine run_as (startWOf_eq (ex TE 1) (slW 1) (ex_off ft (by decide)) (ex_off ft (by decide)) rfl rfl rfl rfl rfl rfl) (start_run c XG XU XD (TE := TE) (TC := TC) h1) (R := iprop(tabE c q TE ∗ WP c XG XU XD TE TC 0)) ?_ fun _ => run_pure ?_
    · iintro ⟨HE, H0, H1⟩
      isplitl [H1]; · iexact H1
      isplitl [HE]; · iexact HE
      iexact H0
    · iintro ⟨H1, HE, H0⟩
      isplitl [HE]; · iexact HE
      isplitl [H0]; · iexact H0
      iexact H1
  case isFalse h3 =>
    refine run_pure ?_
    rw [WP_ge c XG XU XD TE TC (k := 1) fun h => h3 ((cond3_iff l0).mpr h)]
    iintro ⟨H0, HE, H1⟩
    isplitl [HE]; · iexact HE
    isplitl [H0]; · iexact H0
    iexact H1

theorem phX_rest (v0 : BitVec 32) (h : (i 0).val ≠ 0) : phX (F := F) i v0 = pure ⟨⟩ := by
  unfold phX; rw [dif_neg fun h' => h ((cond4_iff i).mp h')]

theorem phX_first (h : (i 0).val = 0) :
    iprop(XE c XX (slX 0) ∗ XE c XX (slX 1)) ⊢ Wp c (phX i (TC (ix1 0))) (fun _ => iprop(XP c XX TC 0 ∗ XP c XX TC 1)) := by
  have l0 : (TC (ix1 0)).toNat < 2 ^ 31 := by have := ft.u2; omega
  have h0 : 0 < nU TC := ft.u1
  unfold phX
  rw [dif_pos ((cond4_iff i).mpr h)]
  dsimp only
  rw [if_pos ((sgt0_iff l0).mpr (show 0 < (TC (ix1 0)).toNat from h0))]
  refine run_as (startXOf_eq (bk 0) (slX 0) rfl rfl rfl) (startB_run c XX (TC := TC) h0) (R := XE c XX (slX 1)) .rfl fun _ => ?_
  split
  case isTrue h3 =>
    have h1 : 1 < nU TC := (sgt1_iff l0).mp h3
    refine run_as (startXOf_eq (bk 1) (slX 1) rfl rfl rfl) (startB_run c XX (TC := TC) h1) (R := XP c XX TC 0) sep_comm fun _ => run_pure sep_comm
  case isFalse h3 =>
    refine run_pure ?_
    rw [XP_ge c XX TC (b := 1) fun h => h3 ((sgt1_iff l0).mpr h)]

theorem phB_run (hw) :
    XE c XX (slX ((i 0).val + 2)) ⊢ Wp c (phB i (TC (ix1 0)) hw) (fun _ => XP c XX TC ((i 0).val + 2)) := by
  have l0 : (TC (ix1 0)).toNat < 2 ^ 31 := by have := ft.u2; omega
  have l2 : nU TC ≤ 328 := ft.u2
  unfold phB
  split
  case isTrue h3 =>
    have h1 : (i 0).val + 2 < nU TC := (cond7_iff i l0).mp h3
    have eb : (![512 * ((i 0).val + 2), 0] : Fin 2 → ℕ) = bkOff (bk ((i 0).val + 2)) := by
      show _ = ![512 * (((i 0).val + 2) % 328), 0]
      rw [Nat.mod_eq_of_lt (show (i 0).val + 2 < 328 by omega)]
    exact run_eq (startXOf_eq (bk ((i 0).val + 2)) (slX ((i 0).val + 2)) ((off23_val i).trans eb) (k0_off22_eq i) (k0_off21_eq i)) (startB_run c XX h1)
  case isFalse h3 =>
    refine run_pure ?_
    rw [XP_ge c XX TC fun h => h3 ((cond7_iff i l0).mpr h)]

theorem phD_run (o : Memref sig .tc .vmem S512x512 .i32) (fo) (hp : (i 0).val < nU TC) :
    iprop(OW c ∗ XP c XX TC (i 0).val ∗ SP c XG XU XD TO TE TC ((i 0).val + 1) ∗ tabN c q TN ∗ outP c o fo) ⊢ Wp c (phD i (TC (ix1 0)) o)
      (fun _ => iprop(OW c ∗ XE c XX (slX (i 0).val) ∗ SP c XG XU XD TO TE TC ((i 0).val + 1) ∗ tabN c q TN ∗ outV c o (val c XX XG XU XD TN TO TE TC (i 0).val))) := by
  have l0 : (TC (ix1 0)).toNat < 2 ^ 31 := by have := ft.u2; omega
  have l2 : nU TC ≤ 328 := ft.u2
  have eb : bk (i 0).val = ⟨(i 0).val, pt_lt i⟩ := Fin.ext (Nat.mod_eq_of_lt (pt_lt i))
  unfold phD
  rw [dif_pos ((cond10_iff i l0).mpr hp), XP_lt c XX TC hp]
  unfold SP val
  rw [if_neg (by omega), if_pos hp, nK_succ_used ft hp, Nat.add_sub_cancel, eb]
  exact run_eq (blockOf_eq ⟨(i 0).val, pt_lt i⟩ (slX (i 0).val) (k0_off48_eq i) (k0_off47_eq i) (k0_off46_eq i) (k0_off49_eq i) (k0_off50_eq i))
    (block_run c XX XG XU XD q TN ⟨(i 0).val, pt_lt i⟩ _ _ o fo)

theorem phD_rest (o : Memref sig .tc .vmem S512x512 .i32) (hp : ¬(i 0).val < nU TC) : phD (F := F) i (TC (ix1 0)) o = pure ⟨⟩ := by
  have l0 : (TC (ix1 0)).toNat < 2 ^ 31 := by have := ft.u2; omega
  unfold phD
  rw [dif_neg fun h => hp ((cond10_iff i l0).mp h)]

theorem phE_run (o : Memref sig .tc .vmem S512x512 .i32) (fo) (hp : ¬(i 0).val < nU TC) :
    outP c o fo ⊢ Wp c (phE i (TC (ix1 0)) o) (fun _ => outV c o (val c XX XG XU XD TN TO TE TC (i 0).val)) := by
  have l0 : (TC (ix1 0)).toNat < 2 ^ 31 := by have := ft.u2; omega
  unfold phE
  rw [dif_pos ((cond11_iff i l0).mpr (Nat.le_of_not_lt hp))]
  unfold val
  rw [if_neg hp]
  exact zeroBlock_run c o fo

theorem phE_rest (o : Memref sig .tc .vmem S512x512 .i32) (hp : (i 0).val < nU TC) : phE (F := F) i (TC (ix1 0)) o = pure ⟨⟩ := by
  have l0 : (TC (ix1 0)).toNat < 2 ^ 31 := by have := ft.u2; omega
  unfold phE
  rw [dif_neg fun h => Nat.not_le_of_gt hp ((cond11_iff i l0).mp h)]

theorem phC_run :
    iprop(OW c ∗ tabO c q TO ∗ tabE c q TE ∗ WR c XG XU XD TO TE TC (i 0).val ∗ SP c XG XU XD TO TE TC (i 0).val)
      ⊢ Wp c (phC i (TC (ix1 0)) (TC (ix1 1)) (TW (ix1 (⟨(i 0).val, pt_lt i⟩ : Fin 328))))
        (fun _ => iprop(OW c ∗ tabO c q TO ∗ tabE c q TE ∗ WR c XG XU XD TO TE TC ((i 0).val + 1) ∗ SP c XG XU XD TO TE TC ((i 0).val + 1))) := by
  have l0 : (TC (ix1 0)).toNat < 2 ^ 31 := by have := ft.u2; omega
  have l1 : (TC (ix1 1)).toNat < 2 ^ 31 := by have := ft.n64; omega
  have n64 : nO TC ≤ 64 := ft.n64
  unfold phC
  split
  case isFalse h8 =>
    refine run_pure ?_
    have e : nK TO TC ((i 0).val + 1) = nK TO TC (i 0).val ∧ 0 < (i 0).val := by
      by_cases hp : (i 0).val < nU TC
      · have := nK_old ft hp (pt_lt i) fun h => h8 ((cond8_iff i l0).mpr ⟨hp, h⟩)
        exact ⟨this.2, this.1⟩
      · have h1 : 1 ≤ nU TC := ft.u1
        exact ⟨(nK_end ft (by omega)).trans (nK_end ft (by omega)).symm, by omega⟩
    unfold WR SP
    rw [e.1, if_neg (by omega), if_neg (by omega)]
  case isTrue h8 =>
    obtain ⟨hp, hn⟩ := (cond8_iff i l0).mp h8
    have hp : (i 0).val < nU TC := hp
    have hk := od_lt ft hp
    have eo := od_eq TO (pt_lt i)
    have hk64 : od TO (i 0).val < 64 := by omega
    have hv : (TO (ix1 (⟨(i 0).val, pt_lt i⟩ : Fin 328))).toNat < 64 := by omega
    have hE : (TE (ix1 (⟨od TO (i 0).val, hk64⟩ : Fin 64))).toNat < 64 := ft.eo _
    have hS : SP c XG XU XD TO TE TC ((i 0).val + 1) = SC c XG XU XD (ex TE (od TO (i 0).val)) := by
      unfold SP; rw [if_neg (by omega), nK_succ_used ft hp, Nat.add_sub_cancel]
    have hR0 : WR c XG XU XD TO TE TC (i 0).val = iprop(WF c XG XU XD (ex TE (od TO (i 0).val)) (slW (od TO (i 0).val)) ∗ WP c XG XU XD TE TC (od TO (i 0).val + 1)) := by
      unfold WR; rw [nK_new ft hp (pt_lt i) hn, WP_lt c XG XU XD TE TC hk]
    have hR1 : WR c XG XU XD TO TE TC ((i 0).val + 1) = iprop(WP c XG XU XD TE TC (od TO (i 0).val + 1) ∗ WP c XG XU XD TE TC (od TO (i 0).val + 2)) := by
      unfold WR; rw [nK_succ_used ft hp]
    rw [hS, hR0, hR1]
    refine run_word (c := c) (q := q) ordM TO (i 0).val (pt_lt i) (k0_off25_eq i) (TO (ix1 (⟨(i 0).val, pt_lt i⟩ : Fin 328))) rfl
      (R := iprop(OW c ∗ tabE c q TE ∗ (WF c XG XU XD (ex TE (od TO (i 0).val)) (slW (od TO (i 0).val)) ∗ WP c XG XU XD TE TC (od TO (i 0).val + 1)) ∗ SP c XG XU XD TO TE TC (i 0).val)) ?_ ?_
    · iintro ⟨HW, HO, HR⟩
      isplitl [HO]; · iexact HO
      isplitl [HW]; · iexact HW
      iexact HR
    refine run_assume (chk4_of i _ _ (show (TC (ix1 1)).toNat ≤ 64 from n64) hv) fun hw4 => ?_
    refine run_word (c := c) (q := q) eoM TE (od TO (i 0).val) hk64 (show ![(TO (ix1 (⟨(i 0).val, pt_lt i⟩ : Fin 328))).toNat] = ![od TO (i 0).val] by rw [eo]) (TE (ix1 (⟨od TO (i 0).val, hk64⟩ : Fin 64))) rfl
      (R := iprop((OW c ∗ WF c XG XU XD (ex TE (od TO (i 0).val)) (slW (od TO (i 0).val)) ∗ S0 c) ∗ tabO c q TO ∗ WP c XG XU XD TE TC (od TO (i 0).val + 1))) ?_ ?_
    · iintro ⟨HO, HW, HE, ⟨HF, HP⟩, HS⟩
      isplitl [HE]; · iexact HE
      isplitl [HW HF HS]
      · isplitl [HW]; · iexact HW
        isplitl [HF]; · iexact HF
        iapply (SP_S0 c XG XU XD TO TE TC (i 0).val); iexact HS
      isplitl [HO]; · iexact HO
      iexact HP
    refine run_assume (chk5_of i _ _ hE) fun hw5 => ?_
    have hs := ws_at hv
    have hc := wc_at hv
    have hs2 := ws_at2 hv
    have hc2 := wc_at2 hv
    rw [← eo] at hs hc hs2 hc2
    refine run_as (waitWOf_eq (ex TE (od TO (i 0).val)) (slW (od TO (i 0).val)) (ex_off ft hk64) (ex_off ft hk64) hs hs hs (hc 0) (hc 1) (hc 2) hs hs)
      (waitW_run c XG XU XD _ _) (R := iprop(tabE c q TE ∗ tabO c q TO ∗ WP c XG XU XD TE TC (od TO (i 0).val + 1))) ?_ fun _ => ?_
    · iintro ⟨HE, HA, HB⟩
      isplitl [HA]; · iexact HA
      isplitl [HE]; · iexact HE
      iexact HB
    split
    case isFalse h9 =>
      refine run_pure ?_
      rw [WP_ge c XG XU XD TE TC (k := od TO (i 0).val + 2) fun h => h9 ((cond9_iff l1 (by omega)).mpr (by rw [← eo]; exact h)), slW_add]
      iintro ⟨⟨HW, HE2, HS⟩, HE, HO, HP⟩
      isplitl [HW]; · iexact HW
      isplitl [HO]; · iexact HO
      isplitl [HE]; · iexact HE
      isplitl [HP HE2]
      · isplitl [HP]; · iexact HP
        iexact HE2
      iexact HS
    case isTrue h9 =>
      have h9' : od TO (i 0).val + 2 < nO TC := by have := (cond9_iff l1 (by omega)).mp h9; rw [← eo] at this; exact this
      have hk2 : od TO (i 0).val + 2 < 64 := by omega
      have hE2 : (TE (ix1 (⟨od TO (i 0).val + 2, hk2⟩ : Fin 64))).toNat < 64 := ft.eo _
      refine run_word (c := c) (q := q) eoM TE (od TO (i 0).val + 2) hk2 ((off37_val hv).trans (by rw [eo])) (TE (ix1 (⟨od TO (i 0).val + 2, hk2⟩ : Fin 64))) rfl
        (R := iprop(WE c XG XU XD (slW (od TO (i 0).val + 2)) ∗ OW c ∗ SC c XG XU XD (ex TE (od TO (i 0).val)) ∗ tabO c q TO ∗ WP c XG XU XD TE TC (od TO (i 0).val + 1))) ?_ ?_
      · rw [slW_add]
        iintro ⟨⟨HW, HE2, HS⟩, HE, HO, HP⟩
        isplitl [HE]; · iexact HE
        isplitl [HE2]; · iexact HE2
        isplitl [HW]; · iexact HW
        isplitl [HS]; · iexact HS
        isplitl [HO]; · iexact HO
        iexact HP
      refine run_assume (chk6_of i _ _ _ _ hE2) fun hw6 => ?_
      refine run_as (startWOf_eq (ex TE (od TO (i 0).val + 2)) (slW (od TO (i 0).val + 2)) (ex_off ft hk2) (ex_off ft hk2) hs2 hs2 hs2 (hc2 0) (hc2 1) (hc2 2))
        (start_run c XG XU XD (TE := TE) (TC := TC) h9')
        (R := iprop(tabE c q TE ∗ OW c ∗ SC c XG XU XD (ex TE (od TO (i 0).val)) ∗ tabO c q TO ∗ WP c XG XU XD TE TC (od TO (i 0).val + 1))) ?_ fun _ => run_pure ?_
      · iintro ⟨HE, HE2, HR⟩
        isplitl [HE2]; · iexact HE2
        isplitl [HE]; · iexact HE
        iexact HR
      · iintro ⟨HP2, HE, HW, HS, HO, HP⟩
        isplitl [HW]; · iexact HW
        isplitl [HO]; · iexact HO
        isplitl [HE]; · iexact HE
        isplitl [HP HP2]
        · isplitl [HP]; · iexact HP
          iexact HP2
        iexact HS

/-! ## The body -/

theorem phA_run :
    iprop(tabE c q TE ∗ WQ c XG XU XD TO TE TC (i 0).val) ⊢ Wp c (phA i (TC (ix1 1)))
      (fun _ => iprop(tabE c q TE ∗ WR c XG XU XD TO TE TC (i 0).val)) := by
  unfold WQ
  split
  case isTrue h =>
    unfold WR
    rw [h, nK_zero ft]
    exact phA_first c XG XU XD q ft i h
  case isFalse h =>
    rw [phA_rest ft i _ h]
    exact run_pure .rfl

theorem phX_run :
    XQ c XX TC (i 0).val ⊢ Wp c (phX i (TC (ix1 0)))
      (fun _ => iprop(XP c XX TC (i 0).val ∗ XP c XX TC ((i 0).val + 1) ∗ XE c XX (slX ((i 0).val + 2)))) := by
  unfold XQ
  split
  case isTrue h =>
    rw [h]
    refine run_imp ?_ (fun _ => ?_) (run_frame (phX_first c XX ft i h) (R := XE c XX (slX 2)))
    · iintro ⟨H0, H1, H2⟩
      isplitl [H0 H1]
      · isplitl [H0]; · iexact H0
        iexact H1
      iexact H2
    · iintro ⟨⟨H0, H1⟩, H2⟩
      isplitl [H0]; · iexact H0
      isplitl [H1]; · iexact H1
      iexact H2
  case isFalse h =>
    rw [phX_rest ft i _ h]
    exact run_pure .rfl

/-- The end of the body: the block, or zeros. -/
theorem phDE_run (o : Memref sig .tc .vmem S512x512 .i32) (fo) :
    iprop(OW c ∗ XP c XX TC (i 0).val ∗ SP c XG XU XD TO TE TC ((i 0).val + 1) ∗ tabN c q TN ∗ tabC c q TC ∗ outP c o fo)
      ⊢ Wp c (phDK i (TC (ix1 0)) o (do
          let v21 : Elt F .i32 ← smemLoad cntM (Rect.unit (s := S2) ![0] S1.size inb_S2_S1_0) numel1_S1 rfl
          phEK i v21 o (pure ⟨⟩)))
        (fun _ => iprop(OW c ∗ XE c XX (slX (i 0).val) ∗ SP c XG XU XD TO TE TC ((i 0).val + 1) ∗ tabN c q TN ∗ tabC c q TC ∗ outV c o (val c XX XG XU XD TN TO TE TC (i 0).val))) := by
  rw [phDK_eq]
  by_cases hp : (i 0).val < nU TC
  · refine run_as rfl (phD_run c XX XG XU XD q ft i o fo hp (TN := TN)) (R := tabC c q TC) ?_ fun _ => ?_
    · iintro ⟨HW, HX, HS, HN, HC, HO⟩
      isplitr [HC]
      · isplitl [HW]; · iexact HW
        isplitl [HX]; · iexact HX
        isplitl [HS]; · iexact HS
        isplitl [HN]; · iexact HN
        iexact HO
      · iexact HC
    refine run_word (c := c) (q := q) cntM TC 0 (by decide) rfl (TC (ix1 0)) rfl
      (R := iprop(OW c ∗ XE c XX (slX (i 0).val) ∗ SP c XG XU XD TO TE TC ((i 0).val + 1) ∗ tabN c q TN ∗ outV c o (val c XX XG XU XD TN TO TE TC (i 0).val))) sep_comm ?_
    rw [phEK_eq, phE_rest ft i o hp]
    refine run_pure ?_
    iintro ⟨HC, HW, HX, HS, HN, HO⟩
    isplitl [HW]; · iexact HW
    isplitl [HX]; · iexact HX
    isplitl [HS]; · iexact HS
    isplitl [HN]; · iexact HN
    isplitl [HC]; · iexact HC
    iexact HO
  · rw [phD_rest ft i o hp]
    show _ ⊢ Wp c (smemLoad cntM (Rect.unit (s := S2) ![0] S1.size inb_S2_S1_0) numel1_S1 rfl >>= fun v21 => phEK i v21 o (pure ⟨⟩)) _
    refine run_word (c := c) (q := q) cntM TC 0 (by decide) rfl (TC (ix1 0)) rfl
      (R := iprop(OW c ∗ XP c XX TC (i 0).val ∗ SP c XG XU XD TO TE TC ((i 0).val + 1) ∗ tabN c q TN ∗ outP c o fo)) ?_ ?_
    · iintro ⟨HW, HX, HS, HN, HC, HO⟩
      isplitl [HC]; · iexact HC
      isplitl [HW]; · iexact HW
      isplitl [HX]; · iexact HX
      isplitl [HS]; · iexact HS
      isplitl [HN]; · iexact HN
      iexact HO
    rw [phEK_eq, XP_ge c XX TC hp]
    refine run_as rfl (phE_run c XX XG XU XD ft i o fo hp (TN := TN)) (R := iprop(tabC c q TC ∗ OW c ∗ XE c XX (slX (i 0).val) ∗ SP c XG XU XD TO TE TC ((i 0).val + 1) ∗ tabN c q TN)) ?_ fun _ => run_pure ?_
    · iintro ⟨HC, HW, HX, HS, HN, HO⟩
      isplitl [HO]; · iexact HO
      isplitl [HC]; · iexact HC
      isplitl [HW]; · iexact HW
      isplitl [HX]; · iexact HX
      isplitl [HS]; · iexact HS
      iexact HN
    · iintro ⟨HO, HC, HW, HX, HS, HN⟩
      isplitl [HW]; · iexact HW
      isplitl [HX]; · iexact HX
      isplitl [HS]; · iexact HS
      isplitl [HN]; · iexact HN
      isplitl [HC]; · iexact HC
      iexact HO

/-- The body at a grid point: from what the loop carries before it to what it carries after it, with the block stored. -/
theorem body_run (o : Memref sig .tc .vmem S512x512 .i32) (fo) :
    iprop(OW c ∗ TB c q TN TW TO TE TC ∗ ST c XX XG XU XD TO TE TC (i 0).val ∗ outP c o fo) ⊢ Wp c (body i o)
      (fun _ => iprop(OW c ∗ TB c q TN TW TO TE TC ∗ ST c XX XG XU XD TO TE TC ((i 0).val + 1) ∗ outV c o (val c XX XG XU XD TN TO TE TC (i 0).val))) := by
  have hXQ : XQ c XX TC ((i 0).val + 1) = iprop(XP c XX TC ((i 0).val + 1) ∗ XP c XX TC ((i 0).val + 2) ∗ XE c XX (slX (i 0).val)) := by
    unfold XQ; rw [if_neg (by omega), show (i 0).val + 1 + 2 = (i 0).val + 3 from rfl, slX_add]
  have hWQ : WQ c XG XU XD TO TE TC ((i 0).val + 1) = WR c XG XU XD TO TE TC ((i 0).val + 1) := by
    unfold WQ; rw [if_neg (by omega)]
  unfold ST body
  rw [hXQ, hWQ]
  refine run_word (c := c) (q := q) cntM TC 0 (by decide) rfl (TC (ix1 0)) rfl
    (R := iprop(OW c ∗ (tabN c q TN ∗ tabW c q TW ∗ tabO c q TO ∗ tabE c q TE) ∗ (XQ c XX TC (i 0).val ∗ WQ c XG XU XD TO TE TC (i 0).val ∗ SP c XG XU XD TO TE TC (i 0).val) ∗ outP c o fo)) ?_ ?_
  · iintro ⟨HW, ⟨HN, HWt, HO, HE, HC⟩, HS, Ho⟩
    isplitl [HC]; · iexact HC
    isplitl [HW]; · iexact HW
    isplitl [HN HWt HO HE]
    · isplitl [HN]; · iexact HN
      isplitl [HWt]; · iexact HWt
      isplitl [HO]; · iexact HO
      iexact HE
    isplitl [HS]; · iexact HS
    iexact Ho
  refine run_assume (chk3_of i ft.u2) fun hw3 => ?_
  refine run_word (c := c) (q := q) cntM TC 1 (by decide) rfl (TC (ix1 1)) rfl
    (R := iprop(OW c ∗ (tabN c q TN ∗ tabW c q TW ∗ tabO c q TO ∗ tabE c q TE) ∗ (XQ c XX TC (i 0).val ∗ WQ c XG XU XD TO TE TC (i 0).val ∗ SP c XG XU XD TO TE TC (i 0).val) ∗ outP c o fo)) .rfl ?_
  rw [phAK_eq]
  refine run_as rfl (phA_run c XG XU XD q ft i)
    (R := iprop(XQ c XX TC (i 0).val ∗ tabC c q TC ∗ OW c ∗ (tabN c q TN ∗ tabW c q TW ∗ tabO c q TO) ∗ SP c XG XU XD TO TE TC (i 0).val ∗ outP c o fo)) ?_ fun _ => ?_
  · iintro ⟨HC, HW, ⟨HN, HWt, HO, HE⟩, ⟨HX, HQ, HS⟩, Ho⟩
    isplitl [HE HQ]
    · isplitl [HE]; · iexact HE
      iexact HQ
    isplitl [HX]; · iexact HX
    isplitl [HC]; · iexact HC
    isplitl [HW]; · iexact HW
    isplitl [HN HWt HO]
    · isplitl [HN]; · iexact HN
      isplitl [HWt]; · iexact HWt
      iexact HO
    isplitl [HS]; · iexact HS
    iexact Ho
  rw [phXK_eq]
  refine run_as rfl (phX_run c XX ft i)
    (R := iprop((tabE c q TE ∗ WR c XG XU XD TO TE TC (i 0).val) ∗ tabC c q TC ∗ OW c ∗ (tabN c q TN ∗ tabW c q TW ∗ tabO c q TO) ∗ SP c XG XU XD TO TE TC (i 0).val ∗ outP c o fo)) ?_ fun _ => ?_
  · iintro ⟨HA, HX, HR⟩
    isplitl [HX]; · iexact HX
    isplitl [HA]; · iexact HA
    iexact HR
  rw [phBK_eq]
  refine run_as rfl (phB_run c XX ft i _)
    (R := iprop(tabW c q TW ∗ (XP c XX TC (i 0).val ∗ XP c XX TC ((i 0).val + 1)) ∗ (tabE c q TE ∗ WR c XG XU XD TO TE TC (i 0).val) ∗ tabC c q TC ∗ OW c ∗ (tabN c q TN ∗ tabO c q TO) ∗ SP c XG XU XD TO TE TC (i 0).val ∗ outP c o fo)) ?_ fun _ => ?_
  · iintro ⟨⟨HX0, HX1, HX2⟩, HA, HC, HW, ⟨HN, HWt, HO⟩, HS, Ho⟩
    isplitl [HX2]; · iexact HX2
    isplitl [HWt]; · iexact HWt
    isplitl [HX0 HX1]
    · isplitl [HX0]; · iexact HX0
      iexact HX1
    isplitl [HA]; · iexact HA
    isplitl [HC]; · iexact HC
    isplitl [HW]; · iexact HW
    isplitl [HN HO]
    · isplitl [HN]; · iexact HN
      iexact HO
    isplitl [HS]; · iexact HS
    iexact Ho
  refine run_word (c := c) (q := q) newM TW (i 0).val (pt_lt i) (k0_off24_eq i) (TW (ix1 (⟨(i 0).val, pt_lt i⟩ : Fin 328))) rfl
    (R := iprop(XP c XX TC ((i 0).val + 2) ∗ (XP c XX TC (i 0).val ∗ XP c XX TC ((i 0).val + 1)) ∗ (tabE c q TE ∗ WR c XG XU XD TO TE TC (i 0).val) ∗ tabC c q TC ∗ OW c ∗ (tabN c q TN ∗ tabO c q TO) ∗ SP c XG XU XD TO TE TC (i 0).val ∗ outP c o fo)) ?_ ?_
  · iintro ⟨HX2, HWt, HR⟩
    isplitl [HWt]; · iexact HWt
    isplitl [HX2]; · iexact HX2
    iexact HR
  rw [phCK_eq]
  refine run_as rfl (phC_run c XG XU XD q ft i)
    (R := iprop(tabW c q TW ∗ XP c XX TC ((i 0).val + 2) ∗ (XP c XX TC (i 0).val ∗ XP c XX TC ((i 0).val + 1)) ∗ tabC c q TC ∗ tabN c q TN ∗ outP c o fo)) ?_ fun _ => ?_
  · iintro ⟨HWt, HX2, HX, ⟨HE, HQ⟩, HC, HW, ⟨HN, HO⟩, HS, Ho⟩
    isplitl [HW HO HE HQ HS]
    · isplitl [HW]; · iexact HW
      isplitl [HO]; · iexact HO
      isplitl [HE]; · iexact HE
      isplitl [HQ]; · iexact HQ
      iexact HS
    isplitl [HWt]; · iexact HWt
    isplitl [HX2]; · iexact HX2
    isplitl [HX]; · iexact HX
    isplitl [HC]; · iexact HC
    isplitl [HN]; · iexact HN
    iexact Ho
  refine run_imp ?_ (fun _ => ?_) (run_frame (phDE_run c XX XG XU XD q ft i o fo (TN := TN))
    (R := iprop(tabW c q TW ∗ XP c XX TC ((i 0).val + 2) ∗ XP c XX TC ((i 0).val + 1) ∗ tabO c q TO ∗ tabE c q TE ∗ WR c XG XU XD TO TE TC ((i 0).val + 1))))
  · iintro ⟨⟨HW, HO, HE, HQ, HS⟩, HWt, HX2, ⟨HX0, HX1⟩, HC, HN, Ho⟩
    isplitl [HW HX0 HS HN HC Ho]
    · isplitl [HW]; · iexact HW
      isplitl [HX0]; · iexact HX0
      isplitl [HS]; · iexact HS
      isplitl [HN]; · iexact HN
      isplitl [HC]; · iexact HC
      iexact Ho
    isplitl [HWt]; · iexact HWt
    isplitl [HX2]; · iexact HX2
    isplitl [HX1]; · iexact HX1
    isplitl [HO]; · iexact HO
    isplitl [HE]; · iexact HE
    iexact HQ
  · iintro ⟨⟨HW, HX0, HS, HN, HC, Ho⟩, HWt, HX2, HX1, HO, HE, HQ⟩
    isplitl [HW]; · iexact HW
    isplitl [HN HWt HO HE HC]
    · isplitl [HN]; · iexact HN
      isplitl [HWt]; · iexact HWt
      isplitl [HO]; · iexact HO
      isplitl [HE]; · iexact HE
      iexact HC
    isplitl [HX0 HX1 HX2 HQ HS]
    · isplitl [HX0 HX1 HX2]
      · isplitl [HX1]; · iexact HX1
        isplitl [HX2]; · iexact HX2
        iexact HX0
      isplitl [HQ]; · iexact HQ
      iexact HS
    iexact Ho

end State

end Cert.Proof.First

end
-- ==== Proof.FirstFrame.lean ====
/-
  The launch of the first layer's routed experts' kernel: the scratch buffers cut into slots, the arrays cut into
  the shares that the slots' copies read under, the loop's invariant made of them, and the run of the whole
  program — every block of the result holding what `val` says, and every argument unchanged.
-/
module

public import proofs.«01_k».proof.Proof.FirstPhases

@[expose] public section

set_option maxRecDepth 16384

noncomputable section

namespace Cert.Proof.First

open Cert.Kernel4 Cert.Kernel4.Gen
open Idealize.ShloMosaic
open Cert.Proof.Experts (flag_iff bool_iff slt_iff sgt_iff sge_iff eq_iff andi_iff add2 rem2 mul512 Fits nU nO od ex nK od_eq ex_val od_succ od_mono od_lt nK_zero nK_pos nK_le nK_succ_used nK_new nK_old nK_end)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf UD)

variable {F : FTy → Type} [BitOps F]

/-! ## The buffers in slots -/

theorem slots2 (Φ : Fin 2 → sProp (Mo F)) : bigSep Finset.univ Φ = iprop(Φ 0 ∗ Φ 1) :=
  bigSep_univ_eq_bigSepL [(0 : Fin 2), (1 : Fin 2)] (by decide) (by decide) Φ
theorem slots3 (Φ : Fin 3 → sProp (Mo F)) : bigSep Finset.univ Φ = iprop(Φ 0 ∗ Φ 1 ∗ Φ 2) :=
  bigSep_univ_eq_bigSepL [(0 : Fin 3), (1 : Fin 3), (2 : Fin 3)] (by decide) (by decide) Φ

/-- Slot `s` of a buffer of slots: the entries whose first coordinate is `s`. -/
theorem mem_slot {n A B : ℕ} (off : Fin 3 → ℕ) (s : ℕ) (h : off = ![s, 0, 0]) (inb : ∀ a, off a + (![1, A, B] : Fin 3 → ℕ) a ≤ (⟨3, ![n, A, B]⟩ : Shape).size a)
    (y : (⟨3, ![n, A, B]⟩ : Shape).Idx) : y ∈ (Rect.unit (s := ⟨3, ![n, A, B]⟩) off ![1, A, B] inb).set ↔ (y 0).val = s := by
  subst h
  rw [Rect.mem_set_unit]
  have h1 : (y 1).val < A := (y 1).isLt
  have h2 : (y 2).val < B := (y 2).isLt
  constructor
  · intro H; have a0 : s ≤ (y 0).val ∧ (y 0).val < s + 1 := H 0; omega
  · intro H i; fin_cases i
    · show s ≤ (y 0).val ∧ (y 0).val < s + 1; omega
    · show 0 ≤ (y 1).val ∧ (y 1).val < 0 + A; omega
    · show 0 ≤ (y 2).val ∧ (y 2).val < 0 + B; omega

abbrev setW (s : Fin 2) : Finset S2x1024x256.Idx := (Rect.unit (s := S2x1024x256) (wsOff s) S1x1024x256.size (wgOff_inb s)).set
abbrev setD (s : Fin 2) : Finset S2x256x1024.Idx := (Rect.unit (s := S2x256x1024) (wsOff s) S1x256x1024.size (wdOff_inb s)).set
abbrev setX (s : Fin 3) : Finset S3x512x512.Idx := (Rect.unit (s := S3x512x512) (xsOff s) S1x512x512.size (xsOff_inb s)).set

theorem mem_setW (s : Fin 2) (y) : y ∈ setW s ↔ (y 0).val = s.val := mem_slot (wsOff s) s.val rfl (wgOff_inb s) y
theorem mem_setD (s : Fin 2) (y) : y ∈ setD s ↔ (y 0).val = s.val := mem_slot (wsOff s) s.val rfl (wdOff_inb s) y
theorem mem_setX (s : Fin 3) (y) : y ∈ setX s ↔ (y 0).val = s.val := mem_slot (xsOff s) s.val rfl (xsOff_inb s) y

theorem setW_disjoint : ∀ s s' : Fin 2, s ≠ s' → Disjoint (setW s) (setW s') := by
  intro s s' hne; rw [Finset.disjoint_left]; intro y hy hy'; rw [mem_setW] at hy hy'; exact hne (Fin.ext (hy.symm.trans hy'))
theorem setD_disjoint : ∀ s s' : Fin 2, s ≠ s' → Disjoint (setD s) (setD s') := by
  intro s s' hne; rw [Finset.disjoint_left]; intro y hy hy'; rw [mem_setD] at hy hy'; exact hne (Fin.ext (hy.symm.trans hy'))
theorem setX_disjoint : ∀ s s' : Fin 3, s ≠ s' → Disjoint (setX s) (setX s') := by
  intro s s' hne; rw [Finset.disjoint_left]; intro y hy hy'; rw [mem_setX] at hy hy'; exact hne (Fin.ext (hy.symm.trans hy'))
theorem setW_cover : (Finset.univ : Finset (Fin 2)).biUnion setW = Finset.univ := by
  ext y; simp only [Finset.mem_biUnion, Finset.mem_univ, true_and, iff_true]; exact ⟨(y 0).cast (by decide), by rw [mem_setW]; rfl⟩
theorem setD_cover : (Finset.univ : Finset (Fin 2)).biUnion setD = Finset.univ := by
  ext y; simp only [Finset.mem_biUnion, Finset.mem_univ, true_and, iff_true]; exact ⟨(y 0).cast (by decide), by rw [mem_setD]; rfl⟩
theorem setX_cover : (Finset.univ : Finset (Fin 3)).biUnion setX = Finset.univ := by
  ext y; simp only [Finset.mem_biUnion, Finset.mem_univ, true_and, iff_true]; exact ⟨(y 0).cast (by decide), by rw [mem_setX]; rfl⟩

theorem gSlot_set (s : Fin 2) : (gSlot s).view.set = setW s := (View.set_reshape _ _).trans (View.set_slice_whole _ _)
theorem uSlot_set (s : Fin 2) : (uSlot s).view.set = setW s := (View.set_reshape _ _).trans (View.set_slice_whole _ _)
theorem dSlot_set (s : Fin 2) : (dSlot s).view.set = setD s := (View.set_reshape _ _).trans (View.set_slice_whole _ _)
theorem xSlot_set (s : Fin 3) : (xSlot s).view.set = setX s := (View.set_reshape _ _).trans (View.set_slice_whole _ _)

section Split
variable (c : Dev nD)

theorem slotG_eq (s f) : slotG (F := F) c s f = ((c : Thread nD τ).loc cc0_scratch5 ↦[setW s]{fullShare} f) := congrArg (fun S => (_ ↦[S]{fullShare} f : sProp (Mo F))) (gSlot_set s)
theorem slotU_eq (s f) : slotU (F := F) c s f = ((c : Thread nD τ).loc cc0_scratch6 ↦[setW s]{fullShare} f) := congrArg (fun S => (_ ↦[S]{fullShare} f : sProp (Mo F))) (uSlot_set s)
theorem slotD_eq (s f) : slotD (F := F) c s f = ((c : Thread nD τ).loc cc0_scratch7 ↦[setD s]{fullShare} f) := congrArg (fun S => (_ ↦[S]{fullShare} f : sProp (Mo F))) (dSlot_set s)
theorem slotX_eq (s f) : slotX (F := F) c s f = ((c : Thread nD τ).loc cc0_scratch3 ↦[setX s]{fullShare} f) := congrArg (fun S => (_ ↦[S]{fullShare} f : sProp (Mo F))) (xSlot_set s)

/-- A buffer of two slots, cut and put together again. -/
theorem cut2 {ℓ : Loc nD τ sig} (I : Fin 2 → Finset (Idx ℓ)) (hd : ∀ s s', s ≠ s' → Disjoint (I s) (I s')) (hc : Finset.univ.biUnion I = Finset.univ) :
    iprop(∃ f : Buf (Elt F) ℓ, ℓ ↦{fullShare} f) ⊢ (iprop((∃ f : Buf (Elt F) ℓ, ℓ ↦[I 0]{fullShare} f) ∗ ∃ f : Buf (Elt F) ℓ, ℓ ↦[I 1]{fullShare} f) : sProp (Mo F)) := by
  iintro ⟨%f, H⟩
  ihave H2 := (entails_of_eq ((Ring.pointsTo_blocks (Ix := Unit) (Name := ℕ) (U := UD sig nD τ) (Lvl := ℕ) (q := fullShare) (ℓ := ℓ) I hd hc f).trans (slots2 _))) $$ H
  icases H2 with ⟨H0, H1⟩
  isplitl [H0]
  · iexists f; iexact H0
  · iexists f; iexact H1
theorem join2 {ℓ : Loc nD τ sig} (I : Fin 2 → Finset (Idx ℓ)) (hd : ∀ s s', s ≠ s' → Disjoint (I s) (I s')) (hc : Finset.univ.biUnion I = Finset.univ) :
    iprop((∃ f : Buf (Elt F) ℓ, ℓ ↦[I 0]{fullShare} f) ∗ ∃ f : Buf (Elt F) ℓ, ℓ ↦[I 1]{fullShare} f) ⊢ (iprop(∃ f : Buf (Elt F) ℓ, ℓ ↦{fullShare} f) : sProp (Mo F)) := by
  iintro ⟨⟨%f0, H0⟩, ⟨%f1, H1⟩⟩
  iapply (Ring.pointsTo_blocks_join_exists (ℓ := ℓ) I hd hc f0)
  irw [slots2]
  isplitl [H0]
  · iexists f0; iexact H0
  · iexists f1; iexact H1
/-- A buffer of three slots likewise. -/
theorem cut3 {ℓ : Loc nD τ sig} (I : Fin 3 → Finset (Idx ℓ)) (hd : ∀ s s', s ≠ s' → Disjoint (I s) (I s')) (hc : Finset.univ.biUnion I = Finset.univ) :
    iprop(∃ f : Buf (Elt F) ℓ, ℓ ↦{fullShare} f)
      ⊢ (iprop((∃ f : Buf (Elt F) ℓ, ℓ ↦[I 0]{fullShare} f) ∗ (∃ f : Buf (Elt F) ℓ, ℓ ↦[I 1]{fullShare} f) ∗ ∃ f : Buf (Elt F) ℓ, ℓ ↦[I 2]{fullShare} f) : sProp (Mo F)) := by
  iintro ⟨%f, H⟩
  ihave H2 := (entails_of_eq ((Ring.pointsTo_blocks (Ix := Unit) (Name := ℕ) (U := UD sig nD τ) (Lvl := ℕ) (q := fullShare) (ℓ := ℓ) I hd hc f).trans (slots3 _))) $$ H
  icases H2 with ⟨H0, H1, H2⟩
  isplitl [H0]
  · iexists f; iexact H0
  isplitl [H1]
  · iexists f; iexact H1
  · iexists f; iexact H2
theorem join3 {ℓ : Loc nD τ sig} (I : Fin 3 → Finset (Idx ℓ)) (hd : ∀ s s', s ≠ s' → Disjoint (I s) (I s')) (hc : Finset.univ.biUnion I = Finset.univ) :
    iprop((∃ f : Buf (Elt F) ℓ, ℓ ↦[I 0]{fullShare} f) ∗ (∃ f : Buf (Elt F) ℓ, ℓ ↦[I 1]{fullShare} f) ∗ ∃ f : Buf (Elt F) ℓ, ℓ ↦[I 2]{fullShare} f)
      ⊢ (iprop(∃ f : Buf (Elt F) ℓ, ℓ ↦{fullShare} f) : sProp (Mo F)) := by
  iintro ⟨⟨%f0, H0⟩, ⟨%f1, H1⟩, ⟨%f2, H2⟩⟩
  iapply (Ring.pointsTo_blocks_join_exists (ℓ := ℓ) I hd hc f0)
  irw [slots3]
  isplitl [H0]
  · iexists f0; iexact H0
  isplitl [H1]
  · iexists f1; iexact H1
  · iexists f2; iexact H2

theorem ex_congr {α : Type} {P Q : α → sProp (Mo F)} (h : ∀ f, P f = Q f) : iprop(∃ f, P f) = iprop(∃ f, Q f) := by rw [show P = Q from funext h]

theorem cutG : (iprop(∃ f : Buf (Elt F) ((c : Thread nD τ).loc cc0_scratch5), ((c : Thread nD τ).loc cc0_scratch5) ↦{fullShare} f) : sProp (Mo F))
    ⊣⊢ iprop((∃ f, slotG c 0 f) ∗ ∃ f, slotG c 1 f) := by
  rw [ex_congr (slotG_eq c 0), ex_congr (slotG_eq c 1)]
  exact ⟨cut2 (ℓ := (c : Thread nD τ).loc cc0_scratch5) setW setW_disjoint setW_cover, join2 (ℓ := (c : Thread nD τ).loc cc0_scratch5) setW setW_disjoint setW_cover⟩
theorem cutU : (iprop(∃ f : Buf (Elt F) ((c : Thread nD τ).loc cc0_scratch6), ((c : Thread nD τ).loc cc0_scratch6) ↦{fullShare} f) : sProp (Mo F))
    ⊣⊢ iprop((∃ f, slotU c 0 f) ∗ ∃ f, slotU c 1 f) := by
  rw [ex_congr (slotU_eq c 0), ex_congr (slotU_eq c 1)]
  exact ⟨cut2 (ℓ := (c : Thread nD τ).loc cc0_scratch6) setW setW_disjoint setW_cover, join2 (ℓ := (c : Thread nD τ).loc cc0_scratch6) setW setW_disjoint setW_cover⟩
theorem cutD : (iprop(∃ f : Buf (Elt F) ((c : Thread nD τ).loc cc0_scratch7), ((c : Thread nD τ).loc cc0_scratch7) ↦{fullShare} f) : sProp (Mo F))
    ⊣⊢ iprop((∃ f, slotD c 0 f) ∗ ∃ f, slotD c 1 f) := by
  rw [ex_congr (slotD_eq c 0), ex_congr (slotD_eq c 1)]
  exact ⟨cut2 (ℓ := (c : Thread nD τ).loc cc0_scratch7) setD setD_disjoint setD_cover, join2 (ℓ := (c : Thread nD τ).loc cc0_scratch7) setD setD_disjoint setD_cover⟩
theorem cutX : (iprop(∃ f : Buf (Elt F) ((c : Thread nD τ).loc cc0_scratch3), ((c : Thread nD τ).loc cc0_scratch3) ↦{fullShare} f) : sProp (Mo F))
    ⊣⊢ iprop((∃ f, slotX c 0 f) ∗ (∃ f, slotX c 1 f) ∗ ∃ f, slotX c 2 f) := by
  rw [ex_congr (slotX_eq c 0), ex_congr (slotX_eq c 1), ex_congr (slotX_eq c 2)]
  exact ⟨cut3 (ℓ := (c : Thread nD τ).loc cc0_scratch3) setX setX_disjoint setX_cover, join3 (ℓ := (c : Thread nD τ).loc cc0_scratch3) setX setX_disjoint setX_cover⟩

/-! ## The arrays in shares -/

theorem toks2 {ℓ : Loc nD τ sig} (f : Buf (Elt F) ℓ) :
    (ℓ ↦{fullShare} f : sProp (Mo F)) ⊣⊢ iprop((ℓ ↦{Transfers.shareDrop fullShare 2} f) ∗ (ℓ ↦{tk 0} f) ∗ (ℓ ↦{tk 1} f)) := by
  have h := Transfers.pointsTo_toks (Ix := Unit) (Name := ℕ) (U := UD sig nD τ) (Lvl := ℕ) (ℓ := ℓ) (S := Finset.univ) (f := f) fullShare 2
  rw [slots2] at h
  exact h
theorem toks3 {ℓ : Loc nD τ sig} (f : Buf (Elt F) ℓ) :
    (ℓ ↦{fullShare} f : sProp (Mo F)) ⊣⊢ iprop((ℓ ↦{Transfers.shareDrop fullShare 3} f) ∗ (ℓ ↦{tk 0} f) ∗ (ℓ ↦{tk 1} f) ∗ (ℓ ↦{tk 2} f)) := by
  have h := Transfers.pointsTo_toks (Ix := Unit) (Name := ℕ) (U := UD sig nD τ) (Lvl := ℕ) (ℓ := ℓ) (S := Finset.univ) (f := f) fullShare 3
  rw [slots3] at h
  exact h

/-- A whole buffer held over its view is held. -/
theorem whole_eq {sp : Space} {s : Shape} {e : EltTy} (m : Memref sig .tc sp s e) (h : m.IsWhole) (q : PosShare TreeShare) (f : Buf (Elt F) (m.view.loc (c : Thread nD τ))) :
    (m.view.loc (c : Thread nD τ) ↦[m.view.set]{q} f : sProp (Mo F)) = (m.view.loc (c : Thread nD τ) ↦{q} f) := by
  rw [show m.view.set = Finset.univ from h.set_eq_univ]

end Split

/-! ## At rest -/

section Rest
variable (c : Dev nD) (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (TN TW TO : S328.Idx → BitVec 32) (TE : S64.Idx → BitVec 32) (TC : S2.Idx → BitVec 32)

/-- Every slot at rest, the rounded weights at anything. -/
def RS : sProp (Mo F) := iprop((XE c XX 0 ∗ XE c XX 1 ∗ XE c XX 2) ∗ (WE c XG XU XD 0 ∗ WE c XG XU XD 1) ∗ S0 c)
/-- What the slots' shares leave of the four arrays. -/
def LO : sProp (Mo F) := iprop((xM.view.loc (c : Thread nD τ) ↦{Transfers.shareDrop fullShare 3} XX) ∗ (gM.view.loc (c : Thread nD τ) ↦{Transfers.shareDrop fullShare 2} XG)
  ∗ (uM.view.loc (c : Thread nD τ) ↦{Transfers.shareDrop fullShare 2} XU) ∗ (dM.view.loc (c : Thread nD τ) ↦{Transfers.shareDrop fullShare 2} XD))

theorem ST_zero : RS c XX XG XU XD ⊢ ST c XX XG XU XD TO TE TC 0 := by
  unfold RS ST XQ WQ SP
  rw [if_pos rfl, if_pos rfl, if_pos rfl]
  exact .rfl

theorem ST_last (ft : Fits TW TO TE TC) : ST c XX XG XU XD TO TE TC 328 ⊢ RS c XX XG XU XD := by
  have h2 : nU TC ≤ 328 := ft.u2
  unfold ST RS XQ WQ WR
  rw [if_neg (by decide), if_neg (by decide), nK_end ft h2, XP_ge c XX TC (by omega), XP_ge c XX TC (by omega), WP_ge c XG XU XD TE TC (by omega), WP_ge c XG XU XD TE TC (by omega)]
  rw [show slX 328 = (1 : Fin 3) from rfl, show slX (328 + 1) = (2 : Fin 3) from rfl, show slX (328 + 2) = (0 : Fin 3) from rfl]
  iintro ⟨⟨H1, H2, H0⟩, ⟨W0, W1⟩, HS⟩
  isplitl [H0 H1 H2]
  · isplitl [H0]; · iexact H0
    isplitl [H1]; · iexact H1
    iexact H2
  isplitl [W0 W1]
  · rcases Nat.mod_two_eq_zero_or_one (nO TC) with h | h
    · rw [show slW (nO TC) = (0 : Fin 2) from Fin.ext h, show slW (nO TC + 1) = (1 : Fin 2) from Fin.ext (by show (nO TC + 1) % 2 = 1; omega)]
      isplitl [W0]; · iexact W0
      iexact W1
    · rw [show slW (nO TC) = (1 : Fin 2) from Fin.ext h, show slW (nO TC + 1) = (0 : Fin 2) from Fin.ext (by show (nO TC + 1) % 2 = 0; omega)]
      isplitl [W1]; · iexact W1
      iexact W0
  · iapply (SP_S0 c XG XU XD TO TE TC 328); iexact HS

end Rest

/-! ## The kernel's own semaphores -/

def osem : Fin 9 → SemLoc sig :=
  ![.dma (xSem 0).sem, .dma (xSem 1).sem, .dma (xSem 2).sem, .dma (wSem 0 0).sem, .dma (wSem 0 1).sem, .dma (wSem 0 2).sem, .dma (wSem 1 0).sem, .dma (wSem 1 1).sem, .dma (wSem 1 2).sem]
theorem ownSemFacts : Pipeline.OwnSemFacts spec0 osem := by decide +kernel
theorem ownSems0_eq (c : Dev nD) : (Pipeline.ownSems0 (Ix := Unit) (Name := ℕ) (U := UD sig nD τ) (Lvl := ℕ) (Val := Elt F) (τ := τ) osem c : sProp (Mo F))
    = iprop(cellX c 0 ∗ cellX c 1 ∗ cellX c 2 ∗ cellW c 0 0 ∗ cellW c 0 1 ∗ cellW c 0 2 ∗ cellW c 1 0 ∗ cellW c 1 1 ∗ cellW c 1 2) := by
  unfold Pipeline.ownSems0
  exact bigSep_univ_eq_bigSepL [(0 : Fin 9), (1 : Fin 9), (2 : Fin 9), (3 : Fin 9), (4 : Fin 9), (5 : Fin 9), (6 : Fin 9), (7 : Fin 9), (8 : Fin 9)] (by decide) (by decide) _

/-! ## The proof data -/

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables' words at launch. -/
abbrev TNm (c : Dev nD) : S328.Idx → BitVec 32 := V m c main_arg1
abbrev TWm (c : Dev nD) : S328.Idx → BitVec 32 := V m c main_arg2
abbrev TOm (c : Dev nD) : S328.Idx → BitVec 32 := V m c main_arg3
abbrev TEm (c : Dev nD) : S64.Idx → BitVec 32 := V m c main_arg4
abbrev TCm (c : Dev nD) : S2.Idx → BitVec 32 := V m c main_arg5

def adm : (p : Fin 1) → (pcfgs (F := F) p).Adm := fun _ => ⟨fun k => V m (0 : Dev nD) (pre0.ref k), trivial⟩

/-- What the kernel stores at point `p`, of the launch memory. -/
def valM (c : Dev nD) (p : ℕ) : Vec F S512x512 .i32 :=
  val c (V m c main_arg0) (V m c main_arg6) (V m c main_arg7) (V m c main_arg8) (TNm m c) (TOm m c) (TEm m c) (TCm m c) p

/-- What the loop carries before point `p`. -/
def Inv (c : Dev nD) (p : ℕ) : sProp (Mo F) :=
  iprop((∃ r, prngReg c r) ∗ LO c (V m c main_arg0) (V m c main_arg6) (V m c main_arg7) (V m c main_arg8) ∗ TB c fullShare.right (TNm m c) (TWm m c) (TOm m c) (TEm m c) (TCm m c)
    ∗ ST c (V m c main_arg0) (V m c main_arg6) (V m c main_arg7) (V m c main_arg8) (TOm m c) (TEm m c) (TCm m c) p)

abbrev cfgA (p : Fin 1) : Pipeline.Cfg sig Λ₀ := Pipeline.pin (pcfgs (F := F)) (adm m) p

def dats (p : Fin 1) (c : Dev nD) : Dat τ (Elt F) Unit ℕ (UD sig nD τ) ℕ (cfgA m p) c where
  A w := V m c (Pipeline.arrRef spec0 w)
  after w t := match w with
    | ⟨0, _⟩ => valM m c (grid0.coords t 0).val
  Φ t := Inv m c t.val
  q _ := fullShare
  owed _ := 0

theorem coord_eq : ∀ t : Fin grid0.N, (grid0.coords t 0).val = t.val := by decide +kernel

theorem after_w0 (c : Dev nD) (t : Fin (cfgA m 0).N) : (dats m 0 c).after 0 t = valM m c (grid0.coords t 0).val := by dsimp only [dats]; rfl

end Cert.Proof.First

end
-- ==== Proof.FirstRun.lean ====
/-
  The run of the first layer's routed experts' program: the body's obligation at every grid point, the launch,
  and the frame.
-/
module

public import proofs.«01_k».proof.Proof.FirstFrame

@[expose] public section

set_option maxRecDepth 16384

noncomputable section

namespace Cert.Proof.First

open Cert.Kernel4 Cert.Kernel4.Gen
open Idealize.ShloMosaic
open Cert.Proof.Experts (flag_iff bool_iff slt_iff sgt_iff sge_iff eq_iff andi_iff add2 rem2 mul512 Fits nU nO od ex nK od_eq ex_val od_succ od_mono od_lt nK_zero nK_pos nK_le nK_succ_used nK_new nK_old nK_end)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf UD)

variable {F : FTy → Type} [BitOps F]
variable (m : (ℓ : Loc nD τ sig) → Buf (Elt F) ℓ)

/-- At every point the body stores its block: one of the two branches is taken, whatever the count. -/
theorem flags (a w : BitVec 32) : Scalar.cmpi .slt a w = 1#1 ∨ Scalar.cmpi .sge a w = 1#1 := by
  show BitVec.ofBool (a.slt w) = 1#1 ∨ BitVec.ofBool (w.sle a) = 1#1
  rw [bool_iff, bool_iff, BitVec.slt_iff_toInt_lt, BitVec.sle_iff_toInt_le]
  omega
theorem idle_false (pf : pre0.Contents (Elt F)) (i : grid0.Coords) : idle0 pf 0 i = false := by
  show (!(k0_cond10 i (pf.atD 4 ![0]) == 1#1) && !(k0_cond11 i (pf.atD 4 ![0]) == 1#1)) = false
  rcases flags (BitVec.ofNat 32 (i 0).val) (pf.atD 4 ![0]) with h | h
  · rw [show k0_cond10 i (pf.atD 4 ![0]) = 1#1 from (flag_iff _).2 h]; rfl
  · rw [show k0_cond11 i (pf.atD 4 ![0]) = 1#1 from (flag_iff _).2 h, Bool.and_comm]; rfl

abbrev st (t : Fin (cfgA m 0).N) : Memref sig .tc .vmem S512x512 .i32 := ((cfgA m 0).win 0).stage ((cfgA m 0).slots t 0)

theorem defs_tc : (defs₀ (F := F)) .tc (cfgA m 0).body = fun a => (show Pg F PUnit from cc0_routed_experts (grid0.coords a.1) nvM (Memref.isWhole_whole _) newM (Memref.isWhole_whole _) ordM (Memref.isWhole_whole _) eoM (Memref.isWhole_whole _) cntM (Memref.isWhole_whole _)
    xM (Memref.isWhole_whole _) gM (Memref.isWhole_whole _) uM (Memref.isWhole_whole _) dM (Memref.isWhole_whole _) (spec0_0.stage (a.2 0)) (hstage0_0 ((a.2 0).cast nbuf0_0)) gS (Memref.isWhole_whole _) uS (Memref.isWhole_whole _)
    dS (Memref.isWhole_whole _) xR (Memref.isWhole_whole _) cc0_scratch4 gR (Memref.isWhole_whole _) uR (Memref.isWhole_whole _) dR (Memref.isWhole_whole _) cc0_scratch8) := rfl

theorem prog_eq (t : Fin (cfgA m 0).N) : (defs₀ (F := F)) .tc (cfgA m 0).body ((cfgA m 0).bodyArgs t ((cfgA m 0).slots t)) = body (F := F) (grid0.coords t) (st m t) :=
  (congrFun (defs_tc m) _).trans (printed_eq (grid0.coords t) (st m t) _)

theorem phi_cast (c : Dev nD) (t : Fin (cfgA m 0).N) : (dats m 0 c).Φ t.castSucc = Inv m c (grid0.coords t 0).val := by
  rw [coord_eq]; rfl
theorem phi_succ (c : Dev nD) (t : Fin (cfgA m 0).N) : (dats m 0 c).Φ t.succ = Inv m c ((grid0.coords t 0).val + 1) := by
  rw [coord_eq]; rfl

variable (ft : ∀ c, Fits (TWm m c) (TOm m c) (TEm m c) (TCm m c))
include ft in
set_option backward.isDefEq.respectTransparency.types false in
theorem body_obligation (c : Dev nD) : BodyObligation (dats m 0 c) (defs₀ (F := F)) 𝒱₀ () Set.univ := fun t => by
  rw [bigSep_W0, bigSep_W0]
  dsimp only
  rw [idle_false]
  dsimp only
  rw [after_w0, phi_cast, phi_succ]
  unfold Dat.owesAt Pipeline.owesWithin
  rw [show (dats m 0 c).owed t.castSucc = 0 from rfl, show (dats m 0 c).owed t.succ = 0 from rfl]
  unfold owns Inv valM
  iintro ⟨⟨Hr, HL, HT, HS⟩, ⟨%W, -, HW⟩, ⟨%d1, %gO, -, HO⟩⟩
  sl_rw [prog_eq m t]
  iapply (wp_wand_r _ _ _)
  isplitl [HT HS HW HO]
  · iapply (body_run c (V m c main_arg0) (V m c main_arg6) (V m c main_arg7) (V m c main_arg8) fullShare.right (ft c) (grid0.coords t) (st m t) gO (TN := TNm m c))
    isplitl [HW]; · iexists W; iexact HW
    isplitl [HT]; · iexact HT
    isplitl [HS]; · iexact HS
    iexact HO
  · iintro %u ⟨⟨%W', HW⟩, HT, HS, ⟨%f, %hf, HO⟩⟩
    isplitl [Hr HL HT HS]
    · isplitl [Hr]; · iexact Hr
      isplitl [HL]; · iexact HL
      isplitl [HT]; · iexact HT
      iexact HS
    isplitl [HW]
    · iexists W'; isplitr; · ipureintro; exact fun _ _ => Or.inl trivial
      iexact HW
    iexists f; isplitr; · ipureintro; exact hf
    iexact HO

/-! ## The launch -/

abbrev H0 : Finset (Ref sig .tc) := {main_arg0, main_arg6, main_arg7, main_arg8}

theorem held_eq (c : Dev nD) (Φ : Ref sig .tc → sProp (Mo F)) : bigSep H0 Φ = iprop(Φ main_arg0 ∗ Φ main_arg6 ∗ Φ main_arg7 ∗ Φ main_arg8) := by
  unfold H0
  rw [bigSep_insert (by decide), bigSep_insert (by decide), bigSep_insert (by decide), bigSep_singleton]
  rfl

theorem tables_eq (c : Dev nD) (q : PosShare TreeShare) : (Pipeline.prefHeld pre0 c (fun _ => q) (adm m 0).1 : sProp (Mo F)) = TB c q (TNm m c) (TWm m c) (TOm m c) (TEm m c) (TCm m c) := by
  obtain rfl : c = 0 := Subsingleton.elim _ _
  unfold Pipeline.prefHeld
  rw [bigSep_univ_eq_bigSepL [(0 : Fin 5), (1 : Fin 5), (2 : Fin 5), (3 : Fin 5), (4 : Fin 5)] (by decide) (by decide)]
  unfold TB tabN tabW tabO tabE tabC
  rw [whole_eq _ nvM (Memref.isWhole_whole _), whole_eq _ newM (Memref.isWhole_whole _), whole_eq _ ordM (Memref.isWhole_whole _), whole_eq _ eoM (Memref.isWhole_whole _), whole_eq _ cntM (Memref.isWhole_whole _)]
  rfl

theorem H0_sub : H0 ⊆ Pipeline.restRefsP sig pre0 spec0 := by decide

abbrev PD (c : Dev nD) : sProp (Mo F) := Pipeline.ΦD osem spec0 H0 (V m) c

theorem toRest (c : Dev nD) : PD m c ⊢ iprop((∃ r, prngReg c r) ∗ LO c (V m c main_arg0) (V m c main_arg6) (V m c main_arg7) (V m c main_arg8)
    ∗ RS c (V m c main_arg0) (V m c main_arg6) (V m c main_arg7) (V m c main_arg8)) := by
  unfold PD
  rw [Pipeline.ΦD_eq, scopedRest0_eq, ownSems0_eq, held_eq c]
  unfold RS LO XE WE S0
  iintro ⟨⟨Hs0, Hs1, Hs2, Hs3, Hs5, Hs6, Hs7⟩, Hr, ⟨C0, C1, C2, D0, D1, D2, D3, D4, D5⟩, H0, H6, H7, H8⟩
  ihave Hx := (cutX c).1 $$ Hs3
  icases Hx with ⟨X0, X1, X2⟩
  ihave Hx := (cutG c).1 $$ Hs5
  icases Hx with ⟨G0, G1⟩
  ihave Hx := (cutU c).1 $$ Hs6
  icases Hx with ⟨U0, U1⟩
  ihave Hx := (cutD c).1 $$ Hs7
  icases Hx with ⟨E0, E1⟩
  ihave Hx := (toks3 (V m c main_arg0)).1 $$ H0
  icases Hx with ⟨L0, T0, T1, T2⟩
  ihave Hx := (toks2 (V m c main_arg6)).1 $$ H6
  icases Hx with ⟨L6, P0, P1⟩
  ihave Hx := (toks2 (V m c main_arg7)).1 $$ H7
  icases Hx with ⟨L7, Q0, Q1⟩
  ihave Hx := (toks2 (V m c main_arg8)).1 $$ H8
  icases Hx with ⟨L8, R0, R1⟩
  unfold tokX tokG tokU tokD scrG scrU scrD
  simp only [whole_eq _ xM (Memref.isWhole_whole _), whole_eq _ gM (Memref.isWhole_whole _), whole_eq _ uM (Memref.isWhole_whole _), whole_eq _ dM (Memref.isWhole_whole _),
    whole_eq _ gS (Memref.isWhole_whole _), whole_eq _ uS (Memref.isWhole_whole _), whole_eq _ dS (Memref.isWhole_whole _)]
  isplitl [Hr]; · iexact Hr
  isplitl [L0 L6 L7 L8]
  · isplitl [L0]; · iexact L0
    isplitl [L6]; · iexact L6
    isplitl [L7]; · iexact L7
    iexact L8
  isplitl [X0 X1 X2 C0 C1 C2 T0 T1 T2]
  · isplitl [X0 C0 T0]
    · isplitl [X0]; · iexact X0
      isplitl [C0]; · iexact C0
      iexact T0
    isplitl [X1 C1 T1]
    · isplitl [X1]; · iexact X1
      isplitl [C1]; · iexact C1
      iexact T1
    isplitl [X2]; · iexact X2
    isplitl [C2]; · iexact C2
    iexact T2
  isplitr [Hs0 Hs1 Hs2]
  · isplitl [G0 U0 E0 D0 D1 D2 P0 Q0 R0]
    · isplitl [G0 U0 E0]
      · isplitl [G0]; · iexact G0
        isplitl [U0]; · iexact U0
        iexact E0
      isplitl [D0 D1 D2]
      · isplitl [D0]; · iexact D0
        isplitl [D1]; · iexact D1
        iexact D2
      isplitl [P0]; · iexact P0
      isplitl [Q0]; · iexact Q0
      iexact R0
    isplitl [G1 U1 E1]
    · isplitl [G1]; · iexact G1
      isplitl [U1]; · iexact U1
      iexact E1
    isplitl [D3 D4 D5]
    · isplitl [D3]; · iexact D3
      isplitl [D4]; · iexact D4
      iexact D5
    isplitl [P1]; · iexact P1
    isplitl [Q1]; · iexact Q1
    iexact R1
  isplitl [Hs0]; · iexact Hs0
  isplitl [Hs1]; · iexact Hs1
  iexact Hs2

theorem ofRest (c : Dev nD) : iprop((∃ r, prngReg c r) ∗ LO c (V m c main_arg0) (V m c main_arg6) (V m c main_arg7) (V m c main_arg8)
    ∗ RS c (V m c main_arg0) (V m c main_arg6) (V m c main_arg7) (V m c main_arg8)) ⊢ PD m c := by
  unfold PD
  rw [Pipeline.ΦD_eq, scopedRest0_eq, ownSems0_eq, held_eq c]
  unfold RS LO XE WE S0
  unfold tokX tokG tokU tokD scrG scrU scrD
  simp only [whole_eq _ xM (Memref.isWhole_whole _), whole_eq _ gM (Memref.isWhole_whole _), whole_eq _ uM (Memref.isWhole_whole _), whole_eq _ dM (Memref.isWhole_whole _),
    whole_eq _ gS (Memref.isWhole_whole _), whole_eq _ uS (Memref.isWhole_whole _), whole_eq _ dS (Memref.isWhole_whole _)]
  iintro ⟨Hr, ⟨L0, L6, L7, L8⟩, ⟨⟨X0, C0, T0⟩, ⟨X1, C1, T1⟩, X2, C2, T2⟩, ⟨⟨⟨G0, U0, E0⟩, ⟨D0, D1, D2⟩, P0, Q0, R0⟩, ⟨G1, U1, E1⟩, ⟨D3, D4, D5⟩, P1, Q1, R1⟩, Hs0, Hs1, Hs2⟩
  isplitl [Hs0 Hs1 Hs2 X0 X1 X2 G0 G1 U0 U1 E0 E1]
  · isplitl [Hs0]; · iexact Hs0
    isplitl [Hs1]; · iexact Hs1
    isplitl [Hs2]; · iexact Hs2
    isplitl [X0 X1 X2]
    · iapply (cutX c).2
      isplitl [X0]; · iexact X0
      isplitl [X1]; · iexact X1
      iexact X2
    isplitl [G0 G1]
    · iapply (cutG c).2
      isplitl [G0]; · iexact G0
      iexact G1
    isplitl [U0 U1]
    · iapply (cutU c).2
      isplitl [U0]; · iexact U0
      iexact U1
    iapply (cutD c).2
    isplitl [E0]; · iexact E0
    iexact E1
  isplitl [Hr]; · iexact Hr
  isplitl [C0 C1 C2 D0 D1 D2 D3 D4 D5]
  · isplitl [C0]; · iexact C0
    isplitl [C1]; · iexact C1
    isplitl [C2]; · iexact C2
    isplitl [D0]; · iexact D0
    isplitl [D1]; · iexact D1
    isplitl [D2]; · iexact D2
    isplitl [D3]; · iexact D3
    isplitl [D4]; · iexact D4
    iexact D5
  isplitl [L0 T0 T1 T2]
  · iapply (toks3 (V m c main_arg0)).2
    isplitl [L0]; · iexact L0
    isplitl [T0]; · iexact T0
    isplitl [T1]; · iexact T1
    iexact T2
  isplitl [L6 P0 P1]
  · iapply (toks2 (V m c main_arg6)).2
    isplitl [L6]; · iexact L6
    isplitl [P0]; · iexact P0
    iexact P1
  isplitl [L7 Q0 Q1]
  · iapply (toks2 (V m c main_arg7)).2
    isplitl [L7]; · iexact L7
    isplitl [Q0]; · iexact Q0
    iexact Q1
  iapply (toks2 (V m c main_arg8)).2
  isplitl [L8]; · iexact L8
  isplitl [R0]; · iexact R0
  iexact R1

theorem enter (c : Dev nD) : iprop(PD m c ∗ Pipeline.ΦT pre0 (adm m 0).1 c) ⊢ Inv m c 0 := by
  unfold Pipeline.ΦT Inv
  rw [tables_eq]
  iintro ⟨HD, HT⟩
  ihave H := (toRest m c) $$ HD
  icases H with ⟨Hr, HL, HS⟩
  isplitl [Hr]; · iexact Hr
  isplitl [HL]; · iexact HL
  isplitl [HT]; · iexact HT
  iapply (ST_zero c _ _ _ _ _ _ _); iexact HS

include ft in
theorem leave (c : Dev nD) : Inv m c 328 ⊢ PD m c := by
  unfold Inv
  iintro ⟨Hr, HL, -, HS⟩
  iapply (ofRest m c)
  isplitl [Hr]; · iexact Hr
  isplitl [HL]; · iexact HL
  iapply (ST_last c _ _ _ _ _ _ _ _ (ft c)); iexact HS

include ft in
/-- The run of the whole program. -/
theorem run (g : Dev nD → PrngReg) : θ_run (defs (F := F)) (onTc main) ⟨m, fun _ => 0, g⟩
    (fun r => Pipeline.FramePost (Pipeline.pin pcfgs (adm m)) (dats m) 0 (V m) r ∧ r.2.sem = fun _ => 0) :=
  Pipeline.θ_run_frameP_dma pcfgs (adm m) (dats m) 0 launch0 osem defs₀ 𝒱₀ ownSemFacts H0 H0_sub m g main
    (hbody := fun c => (body_obligation m ft c).loose) (hshare := fun c => (dats m 0 c).share_full fun _ => rfl)
    (howed := fun _ _ => rfl) (V := V m) (hmain := Pipeline.hmainP_region pcfgs 0 defs₀ 𝒱₀ m main (fun c => rfl))
    (hA := fun _ _ => rfl) (hpf := fun c k => by obtain rfl : c = 0 := Subsingleton.elim _ _; rfl)
    (hin := fun c => enter m c) (hout := fun c => leave m ft c)
    (Q' := fun r => Pipeline.FramePost (Pipeline.pin pcfgs (adm m)) (dats m) 0 (V m) r ∧ r.2.sem = fun _ => 0) (hQ' := fun _ h => h)

end Cert.Proof.First

end
-- ==== Proof.FirstOut.lean ====
/-
  What the first layer's routed experts' kernel leaves: its result's array, block after block.
-/
module

public import proofs.«01_k».proof.Proof.FirstRun
public import Idealize.ShloMosaic.Lib.Pipeline.ValueKit

@[expose] public section

set_option maxRecDepth 16384

noncomputable section

namespace Cert.Proof.First

open Cert.Kernel4 Cert.Kernel4.Gen
open Idealize.ShloMosaic
open Cert.Proof.Experts (flag_iff bool_iff slt_iff sgt_iff sge_iff eq_iff andi_iff add2 rem2 mul512 Fits nU nO od ex nK od_eq ex_val od_succ od_mono od_lt nK_zero nK_pos nK_le nK_succ_used nK_new nK_old nK_end)
open Idealize.ShloMosaic.TcCoe Idealize.ShloMosaic.Tactic
open Idealize.SL Idealize.SL.Sem
open Idealize.ShloMosaic.Pipeline (Dat)

variable {F : FTy → Type} [BitOps F]
variable (m : (ℓ : Loc nD τ sig) → Buf (Elt F) ℓ)

/-- The whole result: in each block's rows, the block's value. -/
def whole (c : Dev nD) (y : S167936x512.Idx) : BitVec 32 :=
  valM m c ((y 0).val / 512) (ValueIdx.ix2 (⟨(y 0).val % 512, Nat.mod_lt _ (by decide)⟩ : Fin 512) (y 1))

/-- Every point writes its block back, and a point's block is its own. -/
theorem flush_all : ∀ t : Fin grid0.N, spec0_0.flushAt cc0_transform_4 t = true := by decide +kernel
theorem idx_all : ∀ t : Fin grid0.N, cc0_transform_4 (grid0.coords t) = ![t.val, 0] := by decide +kernel

/-- The blocks cover the array, whatever the tables hold. -/
theorem covers : ((cfgA m 0).win 0).Covers := by
  refine ⟨fun a => ?_, fun β => ?_⟩
  · match a with
    | ⟨0, _⟩ => exact (by decide : 0 < 512)
    | ⟨1, _⟩ => exact (by decide : 0 < 512)
  · have b0 : (β (0 : Fin 2)).val < 328 := lt_of_lt_of_eq (β (0 : Fin 2)).isLt (show (167936 + 512 - 1) / 512 = 328 by decide)
    have b1 : (β (1 : Fin 2)).val < 1 := lt_of_lt_of_eq (β (1 : Fin 2)).isLt (show (512 + 512 - 1) / 512 = 1 by decide)
    refine ⟨(⟨(β (0 : Fin 2)).val, b0⟩ : Fin grid0.N), flush_all _, fun a => ⟨?_, Or.inl rfl⟩⟩
    refine (congrFun (idx_all ⟨(β (0 : Fin 2)).val, b0⟩) a).trans ?_
    match a with
    | ⟨0, _⟩ => rfl
    | ⟨1, _⟩ =>
      show 0 = (β (1 : Fin 2)).val
      omega

/-- The result's array after the run. -/
theorem out_eq (c : Dev nD) : (dats m 0 c).arrAt 0 (cfgA m 0).N = whole m c := by
  refine (dats m 0 c).arrAt_eq_of_covers 0 _ (covers m) fun t _ (y : S512x512.Idx) => ?_
  rw [after_w0]
  have h0 : (y 0).val < 512 := (y 0).isLt
  have e : (((cfgA m 0).win 0).blk t).view.emb y
      = (ValueIdx.ix2 (⟨512 * t.val + (y 0).val, by have h1 : t.val < 328 := t.isLt; omega⟩ : Fin 167936) (y 1) : S167936x512.Idx) := by
    funext a
    refine Fin.ext ?_
    have i0 := congrFun (idx_all t) a
    match a with
    | ⟨0, _⟩ =>
      have i0 : cc0_transform_4 (grid0.coords t) 0 = t.val := congrFun (idx_all t) 0
      show cc0_transform_4 (grid0.coords t) 0 * 512 + 1 * (y 0).val = 512 * t.val + (y 0).val
      rw [i0]; omega
    | ⟨1, _⟩ =>
      have i1 : cc0_transform_4 (grid0.coords t) 1 = 0 := congrFun (idx_all t) 1
      show cc0_transform_4 (grid0.coords t) 1 * 512 + 1 * (y 1).val = (y 1).val
      rw [i1]; omega
  rw [e]
  show valM m c (grid0.coords t 0).val _ = valM m c ((512 * t.val + (y 0).val) / 512) _
  have d1 : (512 * t.val + (y 0).val) / 512 = t.val := by omega
  have d2 : (512 * t.val + (y 0).val) % 512 = (y 0).val := by omega
  rw [coord_eq, d1]
  refine congrArg (valM m c t.val) (funext fun a => Fin.ext ?_)
  match a with
  | ⟨0, _⟩ => exact d2.symm
  | ⟨1, _⟩ => rfl

end Cert.Proof.First

end
-- ==== Proof.FirstPlain.lean ====
/-
  The reference of the first layer's routed experts, run: one program without a grid, which takes the blocks one
  after another.
-/
module

public import proofs.«01_k».proof.Proof.FirstWords
public import proofs.«01_k».proof.Proof.Gen.Reference4.Frame

@[expose] public section

set_option maxRecDepth 16384

noncomputable section

namespace Cert.Proof.FirstPlain

open Cert.Reference4 Cert.Reference4.Gen
open Idealize.ShloMosaic
open Cert.Proof.Experts (flag_iff bool_iff slt_iff sgt_iff sge_iff eq_iff andi_iff add2 rem2 mul512 Fits nU nO od ex nK od_eq ex_val od_succ od_mono od_lt nK_zero nK_pos nK_le nK_succ_used nK_new nK_old nK_end)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 ix4)
open Idealize.ShloMosaic.Pipeline (Dat Cfg Window BodyObligation cellOf ΦA)

variable {F : FTy → Type} [BitOps F]

/-- The proof's resources. -/
abbrev Mo (F : FTy → Type) := MT nD τ sig Unit (Elt F) ℕ (UR sig nD τ) ℕ

abbrev 𝒱₀ : Variants := Variants.none

/-! ## One block's value -/

/-- A block's rows, unpacked to bf16, those past the `n`-th nought. -/
def rowsIn (x : Vec F S512x512 .i32) (n : Elt F .i32) : FVec F S512x1024 .bf16 :=
  have w : Vec F S512x512 .i32 := select (cmpi .slt (iota .tc S512x512 32 [0] iota_S512x512_d0_w32) (broadcast S512x512 n)) x (broadcast S512x512 0#32)
  truncf .bf16 (concatenate S512x1024 1 [⟨S512x512, (unpackElementwise 0 w : FVec F S512x512 .f32)⟩, ⟨S512x512, unpackElementwise 1 w⟩]
    concatenates_S512x512_S512x512_S512x1024_d1) bitsLt_bf16_f32

/-- One expert's gate or up matrix, and its down matrix, rounded. -/
def wIn (w : Vec F S1x1024x256 .f32) : FVec F S1024x256 .bf16 := truncf .bf16 (shapeCast S1024x256 w shapeCasts_S1x1024x256_S1024x256 : FVec F S1024x256 .f32) bitsLt_bf16_f32
def wOut (w : Vec F S1x256x1024 .f32) : FVec F S256x1024 .bf16 := truncf .bf16 (shapeCast S256x1024 w shapeCasts_S1x256x1024_S256x1024 : FVec F S256x1024 .f32) bitsLt_bf16_f32

/-- The hidden rows: the gate, through the sigmoid, times up. -/
def hidden (x : FVec F S512x1024 .bf16) (wg wu : FVec F S1024x256 .bf16) : FVec F S512x256 .bf16 :=
  have g : FVec F S512x256 .f32 := matmul dot_S512x1024_S1024x256_S512x256_1_0_0_1_n_n none x wg (constant S512x256 .f32 0x00000000#32)
  have u : FVec F S512x256 .f32 := matmul dot_S512x1024_S1024x256_S512x256_1_0_0_1_n_n none x wu (constant S512x256 .f32 0x00000000#32)
  truncf .bf16 (mulf (mulf g (divf (broadcast S512x256 (Scalar.ofBits .f32 0x3F800000#32)) (addf (broadcast S512x256 (Scalar.ofBits .f32 0x3F800000#32))
    (exp (subf (broadcast S512x256 (Scalar.ofBits .f32 0x00000000#32)) g))))) u) bitsLt_bf16_f32

/-- The block's result, packed. -/
def packed (h : FVec F S512x256 .bf16) (wd : FVec F S256x1024 .bf16) : IVec S512x512 32 :=
  have y : FVec F S512x1024 .f32 := matmul dot_S512x256_S256x1024_S512x1024_1_0_0_1_n_n none h wd (constant S512x1024 .f32 0x00000000#32)
  packElementwise (extractStridedSlice S512x512 ![0, 0] y slices_S512x1024_o0_0_S512x512 : FVec F S512x512 .f32)
    (extractStridedSlice S512x512 ![0, 512] y slices_S512x1024_o0_512_S512x512)

/-- Block `t` of rows through the expert `e`. -/
def blk (x4 : S167936x512.Idx → Elt F .i32) (x5 x6 : S64x1024x256.Idx → Elt F .f32) (x7 : S64x256x1024.Idx → Elt F .f32)
    (n : Elt F .i32) (t : Fin 328) (e : Fin 64) : IVec S512x512 32 :=
  packed (hidden (rowsIn (fun y => x4 (ix2 (⟨512 * t.val + (y 0).val, by have h1 := t.isLt; have h2 : (y 0).val < 512 := (y 0).isLt; omega⟩ : Fin 167936) (y 1))) n)
    (wIn fun y => x5 (ix3 e (y 1) (y 2))) (wIn fun y => x6 (ix3 e (y 1) (y 2)))) (wOut fun y => x7 (ix3 e (y 1) (y 2)))

/-- The block a row lies in. -/
abbrev blkOf (y : S167936x512.Idx) : Fin 328 := ⟨(y 0).val / 512, by have h : (y 0).val < 167936 := (y 0).isLt; omega⟩

/-- The whole result: at a used block its value, at another 0. -/
def tgt (x0 : S328.Idx → BitVec 32) (x1 : S64.Idx → BitVec 32) (x2 : S328.Idx → BitVec 32) (x3 : S2.Idx → BitVec 32)
    (x4 : S167936x512.Idx → Elt F .i32) (x5 x6 : S64x1024x256.Idx → Elt F .f32) (x7 : S64x256x1024.Idx → Elt F .f32) (y : S167936x512.Idx) : BitVec 32 :=
  if (y 0).val / 512 < Experts.nU x3 then
    blk x4 x5 x6 x7 (x2 (ix1 (blkOf y))) (blkOf y) (Experts.ex x1 (Experts.od x0 ((y 0).val / 512)))
      (ix2 (⟨(y 0).val % 512, Nat.mod_lt _ (by decide)⟩ : Fin 512) (y 1))
  else 0#32

/-! ## Reads -/

theorem trip_lt (k : Fin k0_t1_loop.trips) : k.val < 328 := lt_of_lt_of_le k.isLt k0_t1_abs.2.1

/-- The word of a table at an index. -/
theorem word_at {n : ℕ} (m : Memref sig .tc .smem ⟨1, ![n]⟩ .i32) (T : m.view.ty.Contents (Elt F)) (off : Fin 1 → ℕ) (k : ℕ) (hk : k < n) (ho : off = ![k])
    (inb : ∀ a, off a + S1.size a ≤ (⟨1, ![n]⟩ : Shape).size a) (x : S1.Idx) :
    m.view.readAt (Elt F) (Rect.unit (s := ⟨1, ![n]⟩) off S1.size inb).toLoadRect T x = m.view.read (Elt F) T (ix1 (⟨k, hk⟩ : Fin n)) := by
  subst ho
  refine congrArg (m.view.read (Elt F) T) (funext fun a => Fin.ext ?_)
  match a with
  | ⟨0, _⟩ =>
    have h : (x 0).val < 1 := (x 0).isLt
    show k + 1 * (x 0).val = k
    omega

/-- A block of rows, and one expert's matrix, as a load reads them. -/
theorem rows_at (m : Memref sig .tc .vmem S167936x512 .i32) (T : m.view.ty.Contents (Elt F)) (off : Fin 2 → ℕ) (t : Fin 328) (ho : off = ![512 * t.val, 0])
    (inb : ∀ a, off a + S512x512.size a ≤ S167936x512.size a) :
    m.view.readAt (Elt F) (Rect.unit (s := S167936x512) off S512x512.size inb).toLoadRect T
      = fun y => m.view.read (Elt F) T (ix2 (⟨512 * t.val + (y 0).val, by have h1 := t.isLt; have h2 : (y 0).val < 512 := (y 0).isLt; omega⟩ : Fin 167936) (y 1)) := by
  subst ho
  funext y
  refine congrArg (m.view.read (Elt F) T) (funext fun a => Fin.ext ?_)
  match a with
  | ⟨0, _⟩ => show 512 * t.val + 1 * (y 0).val = 512 * t.val + (y 0).val; omega
  | ⟨1, _⟩ => show 0 + 1 * (y 1).val = (y 1).val; omega

theorem mat_at {a b : ℕ} (m : Memref sig .tc .vmem ⟨3, ![64, a, b]⟩ .f32) (T : m.view.ty.Contents (Elt F)) (off : Fin 3 → ℕ) (e : Fin 64) (ho : off = ![e.val, 0, 0])
    (inb : ∀ x, off x + (⟨3, ![1, a, b]⟩ : Shape).size x ≤ (⟨3, ![64, a, b]⟩ : Shape).size x) :
    m.view.readAt (Elt F) (Rect.unit (s := ⟨3, ![64, a, b]⟩) off (⟨3, ![1, a, b]⟩ : Shape).size inb).toLoadRect T
      = fun y : (⟨3, ![1, a, b]⟩ : Shape).Idx => m.view.read (Elt F) T (ix3 e (y 1) (y 2)) := by
  subst ho
  funext y
  refine congrArg (m.view.read (Elt F) T) (funext fun x => Fin.ext ?_)
  match x with
  | ⟨0, _⟩ =>
    have h : (y 0).val < 1 := (y 0).isLt
    show e.val + 1 * (y 0).val = e.val
    omega
  | ⟨1, _⟩ => show 0 + 1 * (y 1).val = (y 1).val; omega
  | ⟨2, _⟩ => show 0 + 1 * (y 2).val = (y 2).val; omega

/-! ## The words of a trip -/

theorem iv_val (k : Fin k0_t1_loop.trips) : (Scf.iv 0#32 1#32 k.val).toNat = k.val := congrFun (k0_off1_eq k) 0

theorem used_iff (k : Fin k0_t1_loop.trips) {v : BitVec 32} (hv : v.toNat ≤ 328) : Scalar.cmpi .slt (Scf.iv 0#32 1#32 k.val) v = 1#1 ↔ k.val < v.toNat := by
  have h := trip_lt k
  rw [Experts.slt_iff (by rw [iv_val]; omega) (by omega), iv_val]

theorem sel_yes {α : Type} {b : BitVec 1} (h : b = 1#1) (x y : α) : Scalar.select b x y = x := if_pos h
theorem sel_no {α : Type} {b : BitVec 1} (h : ¬b = 1#1) (x y : α) : Scalar.select b x y = y := if_neg h

/-- The number of the expert read at a trip. -/
def nth (x0 : S328.Idx → BitVec 32) (x3 : S2.Idx → BitVec 32) (k : ℕ) : ℕ := if k < Experts.nU x3 then Experts.od x0 k else 0

theorem off2_val (k : Fin k0_t1_loop.trips) (x0 : S328.Idx → BitVec 32) (x3 : S2.Idx → BitVec 32) (hu : (x3 (ix1 0)).toNat ≤ 328) :
    k0_off2 k (x3 (ix1 0)) (x0 (ix1 (⟨k.val, trip_lt k⟩ : Fin 328))) = ![nth x0 x3 k.val] := by
  show ![(Scalar.select (Scalar.cmpi .slt (Scf.iv 0#32 1#32 k.val) (x3 (ix1 0))) (x0 (ix1 (⟨k.val, trip_lt k⟩ : Fin 328))) 0#32).toNat] = _
  unfold nth Experts.nU
  by_cases h : k.val < (x3 (ix1 0)).toNat
  · rw [if_pos h, sel_yes ((used_iff k hu).mpr h), Experts.od_eq x0 (trip_lt k)]
  · rw [if_neg h, sel_no fun h' => h ((used_iff k hu).mp h')]; rfl

theorem chk1_of (k : Fin k0_t1_loop.trips) (v1 v4 : BitVec 32) {n : ℕ} (e : k0_off2 k v1 v4 = ![n]) (h : n < 64) : k0_chk1 k v1 v4 := by
  unfold k0_chk1
  rw [e]
  intro a
  match a with
  | ⟨0, _⟩ => show n + 1 ≤ 64; omega

theorem chk2_of {v : BitVec 32} (h : v.toNat < 64) : k0_chk2 v := by
  constructor
  · intro a
    match a with
    | ⟨0, _⟩ => show v.toNat + 1 ≤ 64; omega
    | ⟨1, _⟩ => show 0 + 1024 ≤ 1024; omega
    | ⟨2, _⟩ => show 0 + 256 ≤ 256; omega
  · intro a
    match a with
    | ⟨0, _⟩ => show v.toNat + 1 ≤ 64; omega
    | ⟨1, _⟩ => show 0 + 256 ≤ 256; omega
    | ⟨2, _⟩ => show 0 + 1024 ≤ 1024; omega

section Run
variable (c : Dev nD) (M0 : Memref sig .tc .smem S328 .i32) (h0 : M0.IsWhole) (M1 : Memref sig .tc .smem S64 .i32) (h1 : M1.IsWhole)
  (M2 : Memref sig .tc .smem S328 .i32) (h2 : M2.IsWhole) (M3 : Memref sig .tc .smem S2 .i32) (h3 : M3.IsWhole)
  (M4 : Memref sig .tc .vmem S167936x512 .i32) (h4 : M4.IsWhole) (M5 : Memref sig .tc .vmem S64x1024x256 .f32) (h5 : M5.IsWhole)
  (M6 : Memref sig .tc .vmem S64x1024x256 .f32) (h6 : M6.IsWhole) (M7 : Memref sig .tc .vmem S64x256x1024 .f32) (h7 : M7.IsWhole)
  (M8 : Memref sig .tc .vmem S167936x512 .i32) (h8 : M8.IsWhole)
  (f0 : Buf (Elt F) (M0.view.loc (c : Thread nD τ))) (f1 : Buf (Elt F) (M1.view.loc (c : Thread nD τ)))
  (f2 : Buf (Elt F) (M2.view.loc (c : Thread nD τ))) (f3 : Buf (Elt F) (M3.view.loc (c : Thread nD τ)))
  (f4 : Buf (Elt F) (M4.view.loc (c : Thread nD τ))) (f5 : Buf (Elt F) (M5.view.loc (c : Thread nD τ)))
  (f6 : Buf (Elt F) (M6.view.loc (c : Thread nD τ))) (f7 : Buf (Elt F) (M7.view.loc (c : Thread nD τ)))

/-- The first eight memrefs as the body finds and leaves them. -/
abbrev ins : sProp (Mo F) :=
  iprop((M0.view.loc (c : Thread nD τ) ↦[M0.view.set]{fullShare} f0) ∗ (M1.view.loc (c : Thread nD τ) ↦[M1.view.set]{fullShare} f1)
    ∗ (M2.view.loc (c : Thread nD τ) ↦[M2.view.set]{fullShare} f2) ∗ (M3.view.loc (c : Thread nD τ) ↦[M3.view.set]{fullShare} f3)
    ∗ (M4.view.loc (c : Thread nD τ) ↦[M4.view.set]{fullShare} f4) ∗ (M5.view.loc (c : Thread nD τ) ↦[M5.view.set]{fullShare} f5)
    ∗ (M6.view.loc (c : Thread nD τ) ↦[M6.view.set]{fullShare} f6) ∗ (M7.view.loc (c : Thread nD τ) ↦[M7.view.set]{fullShare} f7))

/-- The result's memref: the blocks before the `k`-th hold their values. -/
abbrev inv (G : S167936x512.Idx → BitVec 32) (k : ℕ) (_ : PUnit.{1}) : sProp (Mo F) :=
  iprop(ins c M0 M1 M2 M3 M4 M5 M6 M7 f0 f1 f2 f3 f4 f5 f6 f7
    ∗ ∃ g, (M8.view.loc (c : Thread nD τ) ↦[M8.view.set]{fullShare} g)
      ∗ ⌜∀ y : S167936x512.Idx, (y 0).val < 512 * k → M8.view.read (Elt F) g y = G y⌝)

set_option maxHeartbeats 2000000 in
/-- The whole body: from its inputs the result's memref is left at `tgt` of them. -/
theorem body_run {x0 x2 : S328.Idx → BitVec 32} {x1 : S64.Idx → BitVec 32} {x3 : S2.Idx → BitVec 32}
    {x4 : S167936x512.Idx → Elt F .i32} {x5 x6 : S64x1024x256.Idx → Elt F .f32} {x7 : S64x256x1024.Idx → Elt F .f32}
    (e0 : M0.view.read (Elt F) f0 = x0) (e1 : M1.view.read (Elt F) f1 = x1) (e2 : M2.view.read (Elt F) f2 = x2) (e3 : M3.view.read (Elt F) f3 = x3)
    (e4 : M4.view.read (Elt F) f4 = x4) (e5 : M5.view.read (Elt F) f5 = x5) (e6 : M6.view.read (Elt F) f6 = x6) (e7 : M7.view.read (Elt F) f7 = x7)
    {TW : S328.Idx → BitVec 32} (ft : Experts.Fits TW x0 x1 x3) (d) (Q : PUnit.{1} → sProp (Mo F)) :
    iprop(ins c M0 M1 M2 M3 M4 M5 M6 M7 f0 f1 f2 f3 f4 f5 f6 f7 ∗ (M8.view.loc (c : Thread nD τ) ↦[M8.view.set]{fullShare} d)
        ∗ (∀ g, ⌜M8.view.read (Elt F) g = tgt x0 x1 x2 x3 x4 x5 x6 x7⌝ -∗
          iprop(ins c M0 M1 M2 M3 M4 M5 M6 M7 f0 f1 f2 f3 f4 f5 f6 f7 ∗ (M8.view.loc (c : Thread nD τ) ↦[M8.view.set]{fullShare} g)) -∗ Q ⟨⟩))
      ⊢ wp frame (wpE (defs₀ (F := F)) 𝒱₀ (c : Thread nD τ) none) Set.univ
        (cc0__experts_plain M0 h0 M1 h1 M2 h2 M3 h3 M4 h4 M5 h5 M6 h6 M7 h7 M8 h8) Q := by
  iintro ⟨⟨H0, H1, H2, H3, H4, H5, H6, H7⟩, H8, Hk⟩
  sl_unfold [cc0__experts_plain]
  sl_exec
  sl_for (inv c M0 M1 M2 M3 M4 M5 M6 M7 M8 f0 f1 f2 f3 f4 f5 f6 f7 (tgt x0 x1 x2 x3 x4 x5 x6 x7)) $$ [H0 H1 H2 H3 H4 H5 H6 H7 H8]
  case region =>
    intro k _
    unfold inv
    iintro ⟨⟨H0, H1, H2, H3, H4, H5, H6, H7⟩, %g, H8, %hg⟩
    have hk := trip_lt k
    have hu : (x3 (ix1 0)).toNat ≤ 328 := ft.u2
    have hn : nth x0 x3 k.val < 64 := by
      unfold nth
      split
      case isTrue h =>
        have h1 := Experts.od_lt ft h
        have h2 : Experts.nO x3 ≤ 64 := ft.n64
        omega
      case isFalse => decide
    have ho := off2_val k x0 x3 hu
    sl_exec
    have w3 : body_run.sl.r c M3 f3 = x3 (ix1 0) := (word_at M3 f3 _ 0 (by decide) rfl _ _).trans (congrFun e3 _)
    have w0 : body_run.sl.r_1 c M0 f0 k = x0 (ix1 (⟨k.val, hk⟩ : Fin 328)) := (word_at M0 f0 _ k.val hk (k0_off1_eq k) _ _).trans (congrFun e0 _)
    have q1 : k0_chk1 k (body_run.sl.r c M3 f3) (body_run.sl.r_1 c M0 f0 k) := by
      rw [w3, w0]; exact chk1_of k _ _ ho hn
    sl_exec
    have w1 : body_run.sl.r_2 c M0 M1 M3 f0 f1 f3 k q1 = x1 (ix1 (⟨nth x0 x3 k.val, hn⟩ : Fin 64)) :=
      (word_at M1 f1 _ _ hn (by rw [w3, w0]; exact ho) _ _).trans (congrFun e1 _)
    have we : (body_run.sl.r_2 c M0 M1 M3 f0 f1 f3 k q1).toNat = (Experts.ex x1 (nth x0 x3 k.val)).val := by
      rw [w1]; exact Experts.ex_val ft hn
    have q2 : k0_chk2 (body_run.sl.r_2 c M0 M1 M3 f0 f1 f3 k q1) := chk2_of (by rw [we]; exact Fin.isLt _)
    sl_exec
    sl_step
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexists _
    isplitl [H8]; · iexact H8
    ipureintro
    intro y hy
    have v : ∀ z, body_run.sl.v52 c M0 M1 M2 M3 M4 M5 M6 M7 f0 f1 f2 f3 f4 f5 f6 f7 k q1 q2 z
        = if k.val < Experts.nU x3 then blk x4 x5 x6 x7 (x2 (ix1 (⟨k.val, hk⟩ : Fin 328))) ⟨k.val, hk⟩ (Experts.ex x1 (nth x0 x3 k.val)) z else 0#32 := by
      intro z
      have e : body_run.sl.v52 c M0 M1 M2 M3 M4 M5 M6 M7 f0 f1 f2 f3 f4 f5 f6 f7 k q1 q2
          = Scalar.select (Scalar.cmpi .slt (Scf.iv 0#32 1#32 k.val) (body_run.sl.r c M3 f3))
            (packed (hidden (rowsIn (M4.view.readAt (Elt F) (Rect.unit (s := S167936x512) (k0_off3 k) S512x512.size (k0_off3_inb k)).toLoadRect f4)
                (M2.view.readAt (Elt F) (Rect.unit (s := S328) (k0_off4 k) S1.size (k0_off4_inb k)).toLoadRect f2 (Shape.Idx.first (numel1_S1.symm ▸ Nat.one_pos))))
              (wIn (M5.view.readAt (Elt F) (Rect.unit (s := S64x1024x256) (k0_off5 _) S1x1024x256.size (k0_off5_inb _ q2)).toLoadRect f5))
              (wIn (M6.view.readAt (Elt F) (Rect.unit (s := S64x1024x256) (k0_off5 _) S1x1024x256.size (k0_off5_inb _ q2)).toLoadRect f6)))
              (wOut (M7.view.readAt (Elt F) (Rect.unit (s := S64x256x1024) (k0_off6 _) S1x256x1024.size (k0_off6_inb _ q2)).toLoadRect f7)))
            (broadcast S512x512 0#32) := rfl
      have o5 : k0_off5 (body_run.sl.r_2 c M0 M1 M3 f0 f1 f3 k q1) = ![(Experts.ex x1 (nth x0 x3 k.val)).val, 0, 0] := by rw [← we]; rfl
      have o6 : k0_off6 (body_run.sl.r_2 c M0 M1 M3 f0 f1 f3 k q1) = ![(Experts.ex x1 (nth x0 x3 k.val)).val, 0, 0] := by rw [← we]; rfl
      rw [e, w3, rows_at M4 f4 _ ⟨k.val, hk⟩ (k0_off3_eq k), word_at M2 f2 _ k.val hk (k0_off4_eq k),
        mat_at M5 f5 _ _ o5, mat_at M6 f6 _ _ o5, mat_at M7 f7 _ _ o6, e2, e4, e5, e6, e7]
      by_cases h : k.val < Experts.nU x3
      · rw [if_pos h, sel_yes ((used_iff k hu).mpr h)]; rfl
      · rw [if_neg h, sel_no fun h' => h ((used_iff k hu).mp h')]; rfl
    by_cases hlo : 512 * k.val ≤ (y 0).val
    · have hd : (y 0).val / 512 = k.val := by omega
      rw [View.read_writes_cons_unit_of_mem _ _ _ _ _ _ (ix2 (⟨(y 0).val % 512, Nat.mod_lt _ (by decide)⟩ : Fin 512) (y 1) : S512x512.Idx) (k0_off7_eq k) ?_]
      · rw [v]
        unfold tgt nth blkOf
        by_cases h : k.val < Experts.nU x3
        · simp only [hd, if_pos h]
        · simp only [hd, if_neg h]
      · intro a
        match a with
        | ⟨0, _⟩ => show (y 0).val = 512 * k.val + (y 0).val % 512; omega
        | ⟨1, _⟩ => show (y 1).val = 0 + (y 1).val; omega
    · rw [View.read_writes_cons_unit_of_not_mem _ _ _ _ _ _ (k0_off7_eq k) 0 (.inl (by show (y 0).val < 512 * k.val; omega))]
      exact hg y (by omega)
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexists d
      isplitl [H8]; · iexact H8
      ipureintro
      intro y hy
      omega
  · iintro %acc ⟨HI, %g, H8, %hg⟩
    sl_exec
    sl_step
    ispecialize Hk $$ %g
    iapply Hk
    · ipureintro
      have ht : Scf.trips k0_t1_loop.lb k0_t1_loop.ub k0_t1_loop.st = 328 := by decide
      funext y
      refine hg y ?_
      rw [ht]
      have h : (y 0).val < 167936 := (y 0).isLt
      omega
    · isplitl [HI]; · iexact HI
      iexact H8

end Run

/-! ## The launch -/

variable (m : (ℓ : Loc nD τ sig) → Buf (Elt F) ℓ) (ρ : Dev nD → PrngReg)

/-- The tables and the matrices the region finds. -/
abbrev TN (c : Dev nD) : S328.Idx → BitVec 32 := m ((c : Thread nD τ).loc main_arg1)
abbrev TO (c : Dev nD) : S328.Idx → BitVec 32 := m ((c : Thread nD τ).loc main_arg3)
abbrev TE (c : Dev nD) : S64.Idx → BitVec 32 := m ((c : Thread nD τ).loc main_arg4)
abbrev TC (c : Dev nD) : S2.Idx → BitVec 32 := m ((c : Thread nD τ).loc main_arg5)

/-- The result. -/
def res (c : Dev nD) : S167936x512.Idx → BitVec 32 :=
  tgt (TO m c) (TE m c) (TN m c) (TC m c) (m ((c : Thread nD τ).loc main_arg0)) (V m c main_v1) (V m c main_v3) (V m c main_v5)

/-- What the body leaves: each input at its block, the result at `res`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => res m c
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = res m c := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- A window's block is its whole array. -/
theorem blk0 (c : Dev nD) (t : Fin cfg0.N) : iblk m c 0 t = V m c main_arg3 := by
  funext y
  refine congrArg (V m c main_arg3) (funext fun a => Fin.ext ?_)
  match a with
  | ⟨0, _⟩ => show 0 * 328 + 1 * (y 0).val = (y 0).val; omega
theorem blk1 (c : Dev nD) (t : Fin cfg0.N) : iblk m c 1 t = V m c main_arg4 := by
  funext y
  refine congrArg (V m c main_arg4) (funext fun a => Fin.ext ?_)
  match a with
  | ⟨0, _⟩ => show 0 * 64 + 1 * (y 0).val = (y 0).val; omega
theorem blk2 (c : Dev nD) (t : Fin cfg0.N) : iblk m c 2 t = V m c main_arg1 := by
  funext y
  refine congrArg (V m c main_arg1) (funext fun a => Fin.ext ?_)
  match a with
  | ⟨0, _⟩ => show 0 * 328 + 1 * (y 0).val = (y 0).val; omega
theorem blk3 (c : Dev nD) (t : Fin cfg0.N) : iblk m c 3 t = V m c main_arg5 := by
  funext y
  refine congrArg (V m c main_arg5) (funext fun a => Fin.ext ?_)
  match a with
  | ⟨0, _⟩ => show 0 * 2 + 1 * (y 0).val = (y 0).val; omega
theorem blk4 (c : Dev nD) (t : Fin cfg0.N) : iblk m c 4 t = V m c main_arg0 := by
  funext y
  refine congrArg (V m c main_arg0) (funext fun a => Fin.ext ?_)
  match a with
  | ⟨0, _⟩ => show 0 * 167936 + 1 * (y 0).val = (y 0).val; omega
  | ⟨1, _⟩ => show 0 * 512 + 1 * (y 1).val = (y 1).val; omega
theorem blk5 (c : Dev nD) (t : Fin cfg0.N) : iblk m c 5 t = V m c main_v1 := by
  funext y
  refine congrArg (V m c main_v1) (funext fun a => Fin.ext ?_)
  match a with
  | ⟨0, _⟩ => show 0 * 64 + 1 * (y 0).val = (y 0).val; omega
  | ⟨1, _⟩ => show 0 * 1024 + 1 * (y 1).val = (y 1).val; omega
  | ⟨2, _⟩ => show 0 * 256 + 1 * (y 2).val = (y 2).val; omega
theorem blk6 (c : Dev nD) (t : Fin cfg0.N) : iblk m c 6 t = V m c main_v3 := by
  funext y
  refine congrArg (V m c main_v3) (funext fun a => Fin.ext ?_)
  match a with
  | ⟨0, _⟩ => show 0 * 64 + 1 * (y 0).val = (y 0).val; omega
  | ⟨1, _⟩ => show 0 * 1024 + 1 * (y 1).val = (y 1).val; omega
  | ⟨2, _⟩ => show 0 * 256 + 1 * (y 2).val = (y 2).val; omega
theorem blk7 (c : Dev nD) (t : Fin cfg0.N) : iblk m c 7 t = V m c main_v5 := by
  funext y
  refine congrArg (V m c main_v5) (funext fun a => Fin.ext ?_)
  match a with
  | ⟨0, _⟩ => show 0 * 64 + 1 * (y 0).val = (y 0).val; omega
  | ⟨1, _⟩ => show 0 * 256 + 1 * (y 1).val = (y 1).val; omega
  | ⟨2, _⟩ => show 0 * 1024 + 1 * (y 2).val = (y 2).val; omega

/-- The body at its one point. -/
theorem body_obligation {TW : S328.Idx → BitVec 32} (c : Dev nD) (ft : Experts.Fits TW (TO m c) (TE m c) (TC m c)) :
    BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8]
  unfold owns
  iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩,
    ⟨%d5, %f5, %e5, H5⟩, ⟨%d6, %f6, %e6, H6⟩, ⟨%d7, %f7, %e7, H7⟩, ⟨%d8, %f8, -, H8⟩⟩
  iapply (body_run c _ _ _ _ _ _ _ _ _ _ _ _ _ _ _ _ _ _ f0 f1 f2 f3 f4 f5 f6 f7
    (e0.trans ((blk0 m c t).trans (V_main_arg3 m c))) (e1.trans ((blk1 m c t).trans (V_main_arg4 m c))) (e2.trans ((blk2 m c t).trans (V_main_arg1 m c)))
    (e3.trans ((blk3 m c t).trans (V_main_arg5 m c))) (e4.trans ((blk4 m c t).trans (V_main_arg0 m c))) (e5.trans (blk5 m c t))
    (e6.trans (blk6 m c t)) (e7.trans (blk7 m c t)) ft f8 _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iintro %g %hg ⟨⟨H0, H1, H2, H3, H4, H5, H6, H7⟩, H8⟩
  isplitl [HΦ]; · iexact HΦ
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists g; isplitr; · ipureintro; exact hg
  iexact H8

set_option backward.isDefEq.respectTransparency.types false in
/-- The whole program's run. -/
theorem run_main {TW : Dev nD → S328.Idx → BitVec 32} (ft : ∀ c, Experts.Fits (TW c) (TO m c) (TE m c) (TC m c)) :
    θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c (ft c)).loose) (hshare := fun c => (dats m 0 c).share_full fun _ => rfl)
    (howed := fun _ _ => rfl) (V := V m) (hmain := hmain m 𝒱₀) (hA := fun _ _ => rfl) (hΦ := fun _ _ => rfl)

end Cert.Proof.FirstPlain

end
-- ==== Proof.FirstPlainOut.lean ====
/-
  What the first layer's routed experts' reference leaves: its result's array, and every argument unchanged.
-/
module

public import proofs.«01_k».proof.Proof.FirstPlain
public import Idealize.ShloMosaic.Lib.Pipeline.ValueKit

@[expose] public section

set_option maxRecDepth 16384

noncomputable section

namespace Cert.Proof.FirstPlain

open Cert.Reference4 Cert.Reference4.Gen
open Idealize.ShloMosaic
open Cert.Proof.Experts (flag_iff bool_iff slt_iff sgt_iff sge_iff eq_iff andi_iff add2 rem2 mul512 Fits nU nO od ex nK od_eq ex_val od_succ od_mono od_lt nK_zero nK_pos nK_le nK_succ_used nK_new nK_old nK_end)
open Idealize.ShloMosaic.TcCoe Idealize.ShloMosaic.Tactic
open Idealize.SL Idealize.SL.Sem
open Idealize.ShloMosaic.Pipeline (Dat)

variable {F : FTy → Type} [BitOps F]
variable (m : (ℓ : Loc nD τ sig) → Buf (Elt F) ℓ) (ρ : Dev nD → PrngReg)

/-- The result's array after the run. -/
theorem out_eq (c : Dev nD) : (dats m 0 c).arrAt 8 cfg0.N = res m c := by
  refine (dats m 0 c).arrAt_eq_of_covers 8 _ (by decide +kernel) fun t _ y => ?_
  rw [after0_8]
  have e : ((cfg0.win 8).blk t).view.emb y = y := by
    funext a
    refine Fin.ext ?_
    match a with
    | ⟨0, _⟩ => show 0 * 167936 + 1 * (y 0).val = (y 0).val; omega
    | ⟨1, _⟩ => show 0 * 512 + 1 * (y 1).val = (y 1).val; omega
  rw [e]
  rfl

end Cert.Proof.FirstPlain

end
-- ==== Proof.FirstSame.lean ====
/-
  The kernel's result and the reference's, the same: block by block, the same operations on the same rows and the
  same expert's matrices.
-/
module

public import proofs.«01_k».proof.Proof.FirstOut
public import proofs.«01_k».proof.Proof.FirstPlainOut

@[expose] public section

set_option maxRecDepth 16384

noncomputable section

namespace Cert.Proof.FirstSame

open Idealize.ShloMosaic
open Idealize.ShloMosaic.TcCoe Idealize.ShloMosaic.Tactic
open Idealize.SL Idealize.SL.Sem

variable {F : FTy → Type} [BitOps F]

/-- One layer's matrices of all its experts, cut out of both layers'. -/
abbrev layer {a b : ℕ} (w : (⟨4, ![2, 64, a, b]⟩ : Shape).Idx → Elt F .f32) : (⟨3, ![64, a, b]⟩ : Shape).Idx → Elt F .f32 :=
  fun y => w (ValueIdx.ix4 (0 : Fin 2) (y 0) (y 1) (y 2))

section Weights

variable (m : (ℓ : Loc Cert.Reference4.nD Cert.Reference4.τ Cert.Reference4.sig) → Buf (Elt F) ℓ)

open Cert.Reference4 Cert.Reference4.Gen in
/-- The slice and the reshape on the host cut the layer out. -/
theorem cut {a b : ℕ} (w : (⟨4, ![2, 64, a, b]⟩ : Shape).Idx → Elt F .f32)
    (h : (⟨4, ![2, 64, a, b]⟩ : Shape).Slices ![0, 0, 0, 0] ⟨4, ![1, 64, a, b]⟩) (h' : (⟨4, ![1, 64, a, b]⟩ : Shape).ShapeCasts ⟨3, ![64, a, b]⟩) :
    shapeCast ⟨3, ![64, a, b]⟩ (extractStridedSlice ⟨4, ![1, 64, a, b]⟩ ![0, 0, 0, 0] w h) h' = layer w := by
  funext y
  rw [shapeCast_dropUnit_apply (n := 3) ![64, a, b]]
  refine extractStridedSlice_apply ![0, 0, 0, 0] w h _ _ fun x => ?_
  match x with
  | ⟨0, _⟩ => rfl
  | ⟨1, _⟩ => exact (Nat.zero_add _).symm
  | ⟨2, _⟩ => exact (Nat.zero_add _).symm
  | ⟨3, _⟩ => exact (Nat.zero_add _).symm

open Cert.Reference4 Cert.Reference4.Gen in
theorem gate_eq (c : Dev nD) : V m c main_v1 = layer (m ((c : Thread nD τ).loc main_arg6)) := by
  refine Eq.trans ?_ (cut (m ((c : Thread nD τ).loc main_arg6)) slices_S2x64x1024x256_S1x64x1024x256_0_0_0_0 shapeCasts_S1x64x1024x256_S64x1024x256)
  show StableHlo.after hostOps0 _ (Proc.devRef .tc main_v1) = _
  after_results
  rfl

open Cert.Reference4 Cert.Reference4.Gen in
theorem up_eq (c : Dev nD) : V m c main_v3 = layer (m ((c : Thread nD τ).loc main_arg7)) := by
  refine Eq.trans ?_ (cut (m ((c : Thread nD τ).loc main_arg7)) slices_S2x64x1024x256_S1x64x1024x256_0_0_0_0 shapeCasts_S1x64x1024x256_S64x1024x256)
  show StableHlo.after hostOps0 _ (Proc.devRef .tc main_v3) = _
  after_results
  rfl

open Cert.Reference4 Cert.Reference4.Gen in
theorem down_eq (c : Dev nD) : V m c main_v5 = layer (m ((c : Thread nD τ).loc main_arg8)) := by
  refine Eq.trans ?_ (cut (m ((c : Thread nD τ).loc main_arg8)) slices_S2x64x256x1024_S1x64x256x1024_0_0_0_0 shapeCasts_S1x64x256x1024_S64x256x1024)
  show StableHlo.after hostOps0 _ (Proc.devRef .tc main_v5) = _
  after_results
  rfl

end Weights

/-- A block through an expert, in the kernel and in the reference. -/
theorem blk_eq (c : Dev Cert.Kernel4.nD) (XX : Cert.Kernel4.S167936x512.Idx → Elt F .i32) (XG XU : Cert.Kernel4.S2x64x1024x256.Idx → Elt F .f32)
    (XD : Cert.Kernel4.S2x64x256x1024.Idx → Elt F .f32) (b : Fin 328) (e : Fin 64) (n : BitVec 32) :
    First.blkVal (F := F) c XX XG XU XD b e n = FirstPlain.blk XX (layer XG) (layer XU) (layer XD) n b e := by
  have hx : shapeCast Cert.Kernel4.S512x512 (First.exX (F := F) c XX b) Cert.Kernel4.Facts₀.shapeCasts_S1x512x512_S512x512
      = fun y => XX (ValueIdx.ix2 (⟨512 * b.val + (y 0).val, by have h1 := b.isLt; have h2 : (y 0).val < 512 := (y 0).isLt; omega⟩ : Fin 167936) (y 1)) := by
    funext y
    rw [shapeCast_dropUnit_apply (n := 2) ![512, 512]]
    rfl
  unfold First.blkVal Cert.Kernel4.Gen.k0_pay3 Cert.Kernel4.Gen.k0_pay6 Cert.Kernel4.Gen.k0_pay5 Cert.Kernel4.Gen.k0_pay1 Cert.Kernel4.Gen.k0_pay2
  dsimp only
  rw [hx, shapeCast_self, shapeCast_self, shapeCast_self]
  rfl

/-- A word of the kernel's result is the reference's. -/
theorem val_eq (c : Dev Cert.Kernel4.nD) (XX : Cert.Kernel4.S167936x512.Idx → Elt F .i32) (XG XU : Cert.Kernel4.S2x64x1024x256.Idx → Elt F .f32)
    (XD : Cert.Kernel4.S2x64x256x1024.Idx → Elt F .f32) (TN TO : Cert.Kernel4.S328.Idx → BitVec 32) (TE : Cert.Kernel4.S64.Idx → BitVec 32)
    (TC : Cert.Kernel4.S2.Idx → BitVec 32) (y : Cert.Kernel4.S167936x512.Idx) :
    First.val (F := F) c XX XG XU XD TN TO TE TC ((y 0).val / 512) (ValueIdx.ix2 (⟨(y 0).val % 512, Nat.mod_lt _ (by decide)⟩ : Fin 512) (y 1))
      = FirstPlain.tgt TO TE TN TC XX (layer XG) (layer XU) (layer XD) y := by
  have e : First.bk ((y 0).val / 512) = FirstPlain.blkOf y := Fin.ext (Nat.mod_eq_of_lt (FirstPlain.blkOf y).isLt)
  unfold First.val FirstPlain.tgt
  by_cases h : (y 0).val / 512 < Experts.nU TC
  · rw [if_pos h, if_pos h, e, blk_eq]
  · rw [if_neg h, if_neg h]
    rfl

/-- From equal arguments the whole results are the same. -/
theorem whole_eq (m : (ℓ : Loc Cert.Kernel4.nD Cert.Kernel4.τ Cert.Kernel4.sig) → Buf (Elt F) ℓ)
    (m' : (ℓ : Loc Cert.Reference4.nD Cert.Reference4.τ Cert.Reference4.sig) → Buf (Elt F) ℓ) (c : Dev Cert.Kernel4.nD)
    (h0 : m' ((c.tc : Thread Cert.Reference4.nD Cert.Reference4.τ).loc Cert.Reference4.main_arg0) = m ((c.tc : Thread Cert.Kernel4.nD Cert.Kernel4.τ).loc Cert.Kernel4.main_arg0))
    (h1 : m' ((c.tc : Thread Cert.Reference4.nD Cert.Reference4.τ).loc Cert.Reference4.main_arg1) = m ((c.tc : Thread Cert.Kernel4.nD Cert.Kernel4.τ).loc Cert.Kernel4.main_arg1))
    (h3 : m' ((c.tc : Thread Cert.Reference4.nD Cert.Reference4.τ).loc Cert.Reference4.main_arg3) = m ((c.tc : Thread Cert.Kernel4.nD Cert.Kernel4.τ).loc Cert.Kernel4.main_arg3))
    (h4 : m' ((c.tc : Thread Cert.Reference4.nD Cert.Reference4.τ).loc Cert.Reference4.main_arg4) = m ((c.tc : Thread Cert.Kernel4.nD Cert.Kernel4.τ).loc Cert.Kernel4.main_arg4))
    (h5 : m' ((c.tc : Thread Cert.Reference4.nD Cert.Reference4.τ).loc Cert.Reference4.main_arg5) = m ((c.tc : Thread Cert.Kernel4.nD Cert.Kernel4.τ).loc Cert.Kernel4.main_arg5))
    (h6 : m' ((c.tc : Thread Cert.Reference4.nD Cert.Reference4.τ).loc Cert.Reference4.main_arg6) = m ((c.tc : Thread Cert.Kernel4.nD Cert.Kernel4.τ).loc Cert.Kernel4.main_arg6))
    (h7 : m' ((c.tc : Thread Cert.Reference4.nD Cert.Reference4.τ).loc Cert.Reference4.main_arg7) = m ((c.tc : Thread Cert.Kernel4.nD Cert.Kernel4.τ).loc Cert.Kernel4.main_arg7))
    (h8 : m' ((c.tc : Thread Cert.Reference4.nD Cert.Reference4.τ).loc Cert.Reference4.main_arg8) = m ((c.tc : Thread Cert.Kernel4.nD Cert.Kernel4.τ).loc Cert.Kernel4.main_arg8)) :
    FirstPlain.res m' c = First.whole m c := by
  funext y
  refine Eq.trans ?_ (val_eq (F := F) c _ _ _ _ _ _ _ _ y).symm
  unfold FirstPlain.res
  rw [gate_eq, up_eq, down_eq]
  unfold FirstPlain.TO FirstPlain.TE FirstPlain.TN FirstPlain.TC
  rw [h0, h1, h3, h4, h5, h6, h7, h8]

end Cert.Proof.FirstSame

end
-- ==== Proof.FirstClaims.lean ====
/- The claims about the first layer's routed experts' call, from the two runs. -/
module

public import proofs.«01_k».proof.Defs
public import proofs.«01_k».proof.Proof.ExpertsFit
public import proofs.«01_k».proof.Proof.FirstSame

@[expose] public section

set_option maxRecDepth 16384

noncomputable section

open Idealize.ShloMosaic Idealize.ShloMosaic.TcCoe Idealize.SL.Sem

namespace Cert.Proof.FirstClaims

section Kernel

open Cert.Kernel4 Cert.Kernel4.Gen

/-- The kernel's run on tables that fit: its result at every element, its arguments unchanged, every counter at zero. -/
theorem run_kernel (m : (ℓ : Loc nD τ sig) → Buf (Elt Bits) ℓ) (g : Dev nD → PrngReg) (h : Cert.Pre_Kernel4 m) :
    θ_run (defs (F := Bits)) (onTc (τ := τ) (main (F := Bits))) ⟨m, fun _ => 0, g⟩ (fun r =>
      (∀ c : Dev nD, r.2.mem ((c.tc : Thread nD τ).loc main_v0) = First.whole m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) :=
  (θ_run defs _ _).mono (fun r h => ⟨fun c => ⟨((h.1 c).1 0).trans (First.out_eq m c),
      (h.1 c).2 main_arg0 (Pipeline.mem_restRefs_of main_arg0 (by decide) (by decide : ∀ w, (spec0 w).arr.view.ref ≠ main_arg0)),
      (h.1 c).2 main_arg1 (Pipeline.mem_restRefs_of main_arg1 (by decide) (by decide : ∀ w, (spec0 w).arr.view.ref ≠ main_arg1)),
      (h.1 c).2 main_arg2 (Pipeline.mem_restRefs_of main_arg2 (by decide) (by decide : ∀ w, (spec0 w).arr.view.ref ≠ main_arg2)),
      (h.1 c).2 main_arg3 (Pipeline.mem_restRefs_of main_arg3 (by decide) (by decide : ∀ w, (spec0 w).arr.view.ref ≠ main_arg3)),
      (h.1 c).2 main_arg4 (Pipeline.mem_restRefs_of main_arg4 (by decide) (by decide : ∀ w, (spec0 w).arr.view.ref ≠ main_arg4)),
      (h.1 c).2 main_arg5 (Pipeline.mem_restRefs_of main_arg5 (by decide) (by decide : ∀ w, (spec0 w).arr.view.ref ≠ main_arg5)),
      (h.1 c).2 main_arg6 (Pipeline.mem_restRefs_of main_arg6 (by decide) (by decide : ∀ w, (spec0 w).arr.view.ref ≠ main_arg6)),
      (h.1 c).2 main_arg7 (Pipeline.mem_restRefs_of main_arg7 (by decide) (by decide : ∀ w, (spec0 w).arr.view.ref ≠ main_arg7)),
      (h.1 c).2 main_arg8 (Pipeline.mem_restRefs_of main_arg8 (by decide) (by decide : ∀ w, (spec0 w).arr.view.ref ≠ main_arg8))⟩, h.2⟩)
    (First.run m (fun c => Experts.fits_of _ _ _ _ _ _ _ _ _ (h c)) g)

/-- The kernel leaves its arguments and ends quiet. -/
theorem frame_kernel4 : Cert.quiescent_Kernel4 := fun m g h =>
  (θ_run defs _ _).mono (fun _ h => ⟨fun c => (h.1 c).2, h.2⟩) (run_kernel m g h)

end Kernel

section Reference

open Cert.Reference4 Cert.Reference4.Gen

/-- The reference's run on tables that fit, the same way. -/
theorem run_reference (m : (ℓ : Loc nD τ sig) → Buf (Elt Bits) ℓ) (g : Dev nD → PrngReg) (h : Cert.Pre_Reference4 m) :
    θ_run (defs (F := Bits)) (onTc (τ := τ) (main (F := Bits))) ⟨m, fun _ => 0, g⟩ (fun r =>
      (∀ c : Dev nD, r.2.mem ((c.tc : Thread nD τ).loc main_v6) = FirstPlain.res m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) := by
  have ft : ∀ c : Dev nD, Experts.Fits (m ((c : Thread nD τ).loc main_arg2)) (FirstPlain.TO m c) (FirstPlain.TE m c) (FirstPlain.TC m c) :=
    fun c => Experts.fits_of _ _ _ _ _ _ _ _ _ (h c)
  have R := FirstPlain.run_main m g ft
  have A := frame_of m g (FirstPlain.dats m) (fun _ _ => rfl) ((θ_run defs _ _).mono (fun _ h => h.1) R)
  refine (θ_run defs _ _).mono (fun r h => ?_) (θ_run_and R A)
  exact ⟨fun c => ⟨((h.1.1 c).1 8).trans (FirstPlain.out_eq m c), h.2 c⟩, h.1.2⟩

/-- The reference leaves its arguments and ends quiet. -/
theorem frame_reference4 : Cert.quiescent_Reference4 := fun m g h =>
  (θ_run defs _ _).mono (fun _ h => ⟨fun c => (h.1 c).2, h.2⟩) (run_reference m g h)

end Reference

/-- On tables that fit the kernel and the reference end with the same words, bit for bit. -/
theorem bitexact_first : Cert.bitexact_Kernel4_Reference4 := fun m g m' g' h hag =>
  ⟨fun c => First.whole m c,
    (θ_run Cert.Kernel4.defs _ _).mono (fun _ h c => h.1 c) (run_kernel m g h),
    (θ_run Cert.Reference4.defs _ _).mono
      (fun _ h c => by
        obtain ⟨h0, h1, h2, h3, h4, h5, h6, h7, h8⟩ := hag c
        exact ⟨((h.1 c).1).trans (FirstSame.whole_eq m m' c h0 h1 h3 h4 h5 h6 h7 h8), (h.1 c).2⟩)
      (run_reference m' g' fun c => by
        obtain ⟨h0, h1, h2, h3, h4, h5, h6, h7, h8⟩ := hag c
        have h := h c
        rw [← h0, ← h1, ← h2, ← h3, ← h4, ← h5, ← h6, ← h7, ← h8] at h
        exact h)⟩

end Cert.Proof.FirstClaims

end
-- ==== Proof.AttnMath.lean ====
/- Softmax over a row of scores, taken in parts: the running maximum and the running sums of the global attention's body, over the extended reals. -/
module

public import Idealize.ShloMosaic.Lib.Pipeline.ValueKit

@[expose] public section

noncomputable section

open Idealize.ShloMosaic

namespace Cert.AttnMath

/-- A power of two is the exponential to base two, at the infinities too. -/
theorem pow_two_eq (x : EReal) : Ideal.pow ((2 : ℝ) : EReal) x = Ideal.exp2 x := by
  induction x with
  | bot => rw [Ideal.pow_coe_bot, Ideal.exp2_bot]; norm_num
  | top => rw [Ideal.pow_coe_top, Ideal.exp2_top]; norm_num
  | coe r => rfl

/-- A nonnegative real factor goes into a sum. -/
theorem mul_sum_of_nonneg {ι : Type} (S : Finset ι) (f : ι → EReal) {x : EReal} (h0 : 0 ≤ x) (ht : x ≠ ⊤) :
    x * ∑ j ∈ S, f j = ∑ j ∈ S, x * f j := by
  classical
  induction S using Finset.induction_on with
  | empty => simp
  | insert a S ha ih => rw [Finset.sum_insert ha, Finset.sum_insert ha, EReal.left_distrib_of_nonneg_of_ne_top h0 ht, ih]

/-- Sums taken against one maximum, brought to a later and larger one. -/
theorem rescale {ι : Type} (S : Finset ι) (s v : ι → EReal) (M M' : EReal) (hM : M ≤ M') (hs : ∀ j ∈ S, s j ≤ M) :
    Ideal.exp2 (M - M') * ∑ j ∈ S, Ideal.exp2 (s j - M) * v j = ∑ j ∈ S, Ideal.exp2 (s j - M') * v j := by
  induction M' with
  | top =>
    rw [EReal.sub_top, Ideal.exp2_bot, zero_mul]
    exact (Finset.sum_eq_zero fun j _ => by rw [EReal.sub_top, Ideal.exp2_bot, zero_mul]).symm
  | bot =>
    obtain rfl : M = ⊥ := le_bot_iff.mp hM
    rw [EReal.bot_sub, Ideal.exp2_bot, zero_mul]
    exact (Finset.sum_eq_zero fun j hj => by rw [le_bot_iff.mp (hs j hj), EReal.bot_sub, Ideal.exp2_bot, zero_mul]).symm
  | coe r' =>
    induction M with
    | top => exact absurd (le_antisymm hM le_top) (EReal.coe_ne_top r').symm
    | bot =>
      rw [EReal.bot_sub, Ideal.exp2_bot, zero_mul]
      exact (Finset.sum_eq_zero fun j hj => by rw [le_bot_iff.mp (hs j hj), EReal.bot_sub, Ideal.exp2_bot, zero_mul]).symm
    | coe r =>
      rw [← EReal.coe_sub, Ideal.exp2_coe, mul_sum_of_nonneg S _ (x := ((Real.rpow 2 (r - r') : ℝ) : EReal)) (EReal.coe_nonneg.mpr (Real.rpow_nonneg (by norm_num) _)) (EReal.coe_ne_top _)]
      refine Finset.sum_congr rfl fun j hj => ?_
      rw [← mul_assoc]
      congr 1
      have h := hs j hj
      generalize s j = x at h
      induction x with
      | top => exact absurd (le_antisymm h le_top) (EReal.coe_ne_top r).symm
      | bot => rw [EReal.bot_sub, EReal.bot_sub, Ideal.exp2_bot, mul_zero]
      | coe y =>
        rw [← EReal.coe_sub, ← EReal.coe_sub, Ideal.exp2_coe, Ideal.exp2_coe, ← EReal.coe_mul]
        congr 1
        refine (Real.rpow_add (by norm_num : (0 : ℝ) < 2) _ _).symm.trans ?_
        congr 1
        ring

/-- The largest of the first `n` scores (`⊥` of none). -/
def top (s : ℕ → EReal) (n : ℕ) : EReal := (Finset.range n).sup s

/-- The first `n` values, each weighted by `2 ^ (score - largest score)`. -/
def wsum (s v : ℕ → EReal) (n : ℕ) : EReal := ∑ j ∈ Finset.range n, Ideal.exp2 (s j - top s n) * v j

/-- The softmax-weighted mean of the first `n` values. -/
def soft (s v : ℕ → EReal) (n : ℕ) : EReal := Ideal.div (wsum s v n) (wsum s (fun _ => 1) n)

theorem top_zero (s : ℕ → EReal) : top s 0 = ⊥ := rfl

theorem wsum_zero (s v : ℕ → EReal) : wsum s v 0 = 0 := rfl

theorem range_add (n k : ℕ) : Finset.range (n + k) = (Finset.range n).disjUnion ((Finset.range k).map (addLeftEmbedding n))
    (Finset.disjoint_range_addLeftEmbedding n _) := by
  ext x
  simp only [Finset.mem_range, Finset.mem_disjUnion, Finset.mem_map, addLeftEmbedding_apply]
  constructor
  · intro h
    by_cases hx : x < n
    · exact .inl hx
    · exact .inr ⟨x - n, by omega, by omega⟩
  · rintro (h | ⟨y, hy, rfl⟩) <;> omega

/-- The largest score of `n + k`: the larger of the first `n`'s and the next `k`'s. -/
theorem top_add (s : ℕ → EReal) (n k : ℕ) : top s (n + k) = max (top s n) (Finset.univ.sup fun x : Fin k => s (n + x.val)) := by
  have h : (Finset.univ.sup fun x : Fin k => s (n + x.val)) = (Finset.range k).sup fun x => s (n + x) := by
    apply le_antisymm
    · exact Finset.sup_le fun x _ => Finset.le_sup (f := fun x => s (n + x)) (Finset.mem_range.mpr x.isLt)
    · exact Finset.sup_le fun x hx => Finset.le_sup (f := fun x : Fin k => s (n + x.val)) (Finset.mem_univ ⟨x, Finset.mem_range.mp hx⟩)
  rw [h]
  apply le_antisymm
  · refine Finset.sup_le fun x hx => ?_
    by_cases hn : x < n
    · exact le_max_of_le_left (Finset.le_sup (f := s) (Finset.mem_range.mpr hn))
    · refine le_max_of_le_right ?_
      have := Finset.le_sup (f := fun x => s (n + x)) (s := Finset.range k) (b := x - n) (Finset.mem_range.mpr (by have := Finset.mem_range.mp hx; omega))
      simpa [Nat.add_sub_cancel' (not_lt.mp hn)] using this
  · refine max_le (Finset.sup_le fun x hx => Finset.le_sup (f := s) (Finset.mem_range.mpr (by have := Finset.mem_range.mp hx; omega))) ?_
    exact Finset.sup_le fun x hx => Finset.le_sup (f := s) (Finset.mem_range.mpr (by have := Finset.mem_range.mp hx; omega))

/-- The weighted sum of `n + k`: the first `n`'s brought to the new maximum, and the next `k`'s. -/
theorem wsum_add (s v : ℕ → EReal) (n k : ℕ) : wsum s v (n + k)
    = Ideal.exp2 (top s n - top s (n + k)) * wsum s v n + ∑ x : Fin k, Ideal.exp2 (s (n + x.val) - top s (n + k)) * v (n + x.val) := by
  unfold wsum
  rw [rescale (Finset.range n) s v (top s n) (top s (n + k)) (by rw [top_add]; exact le_max_left _ _) (fun j hj => Finset.le_sup (f := s) hj),
    Finset.sum_range_add (fun j => Ideal.exp2 (s j - top s (n + k)) * v j) n k,
    Finset.sum_range (fun x => Ideal.exp2 (s (n + x) - top s (n + k)) * v (n + x))]

/-- Scores past the first `n` that are `⊥` change nothing: the maximum … -/
theorem top_bot (s s' : ℕ → EReal) (n k : ℕ) (h : ∀ j, j < n → s' j = s j) (hb : ∀ j, n ≤ j → s' j = ⊥) : top s' (n + k) = top s n := by
  rw [top_add]
  have e : (Finset.univ.sup fun x : Fin k => s' (n + x.val)) = ⊥ := by
    refine le_bot_iff.mp (Finset.sup_le fun x _ => ?_)
    rw [hb _ (Nat.le_add_right _ _)]
  rw [e, max_bot_right]
  exact Finset.sup_congr rfl fun j hj => h j (Finset.mem_range.mp hj)

/-- … and the weighted sum. -/
theorem wsum_bot (s s' v : ℕ → EReal) (n k : ℕ) (h : ∀ j, j < n → s' j = s j) (hb : ∀ j, n ≤ j → s' j = ⊥) : wsum s' v (n + k) = wsum s v n := by
  unfold wsum
  rw [top_bot s s' n k h hb, Finset.sum_range_add (fun j => Ideal.exp2 (s' j - top s n) * v j) n k]
  have e : ∑ x ∈ Finset.range k, Ideal.exp2 (s' (n + x) - top s n) * v (n + x) = 0 := by
    refine Finset.sum_eq_zero fun x _ => ?_
    rw [hb _ (Nat.le_add_right _ _), EReal.bot_sub, Ideal.exp2_bot, zero_mul]
  rw [e, add_zero]
  exact Finset.sum_congr rfl fun j hj => by rw [h j (Finset.mem_range.mp hj)]

theorem soft_bot (s s' v : ℕ → EReal) (n k : ℕ) (h : ∀ j, j < n → s' j = s j) (hb : ∀ j, n ≤ j → s' j = ⊥) : soft s' v (n + k) = soft s v n := by
  unfold soft
  rw [wsum_bot s s' v n k h hb, wsum_bot s s' _ n k h hb]

/-- Over all `n` entries of a row, as the reference takes them. -/
theorem top_univ (s : ℕ → EReal) (n : ℕ) : top s n = Finset.univ.sup fun x : Fin n => s x.val := by
  have := top_add s 0 n
  rw [Nat.zero_add, top_zero, max_bot_left] at this
  simpa using this

theorem wsum_univ (s v : ℕ → EReal) (n : ℕ) : wsum s v n = ∑ x : Fin n, Ideal.exp2 (s x.val - top s n) * v x.val :=
  Finset.sum_range _

end Cert.AttnMath

end
-- ==== Proof.AttnRow.lean ====
/- The mathematics of the global attention at one row and column, over the arrays as given. -/
module

public import proofs.«01_k».proof.Proof.AttnMath

@[expose] public section

noncomputable section

open Idealize.ShloMosaic

namespace Cert.AttnMath

/-- Query row `i` (head `g` of group `h`) against key `j`. -/
def scores (q : (⟨3, ![2, 8448, 256]⟩ : Shape).Idx → EReal) (k : (⟨3, ![2, 8448, 128]⟩ : Shape).Idx → EReal) (b : Fin 2) (i : Fin 8448) (g h : Fin 2) (j : ℕ) : EReal :=
  if hj : j < 8448 then ∑ d : Fin 64, q (ix3 b i ⟨g.val * 128 + h.val * 64 + d.val, by omega⟩) * k (ix3 b ⟨j, hj⟩ ⟨h.val * 64 + d.val, by omega⟩) else 0

/-- Column `d` of group `h`'s values at key `j`. -/
def values (v : (⟨3, ![2, 8448, 128]⟩ : Shape).Idx → EReal) (b : Fin 2) (h : Fin 2) (d : Fin 64) (j : ℕ) : EReal :=
  if hj : j < 8448 then v (ix3 b ⟨j, hj⟩ ⟨h.val * 64 + d.val, by omega⟩) else 0

/-- How many keys a row sees: a context row the context's, a latent row all. -/
def seen (i : Fin 8448) : ℕ := if i.val < 256 then 256 else 8448

/-- The attention's result at row `i`, head `g` of group `h`, column `d`. -/
def attn (q : (⟨3, ![2, 8448, 256]⟩ : Shape).Idx → EReal) (k v : (⟨3, ![2, 8448, 128]⟩ : Shape).Idx → EReal) (b : Fin 2) (i : Fin 8448) (g h : Fin 2) (d : Fin 64) : EReal :=
  soft (scores q k b i g h) (values v b h d) (seen i)

end Cert.AttnMath

end
-- ==== Proof.AttnStep.lean ====
/- One block of keys taken into one half of a stack: what the attention body's payloads hold at an index. -/
module

public import proofs.«01_k».proof.Proof.Gen.Kernel3Ideal.Value
public import proofs.«01_k».proof.Proof.AttnMath

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

theorem negInf_eq : Ideal.ofBits .f32 4286578688#32 = ⊥ := by
  simp [Ideal.ofBits, Ideal.ieee]

theorem fold_max_eq {ι : Type} [Fintype ι] (f : ι → EReal) : Finset.fold max (Ideal.ofBits .f32 4286578688#32) f Finset.univ = Finset.univ.sup f := by
  rw [negInf_eq]; rfl

/-! ## A full block of 2816 keys -/

theorem payM (K : FVec Ideal S1x2816x128 .bf16) (Q : FVec Ideal S1x512x128 .bf16) (M : FVec Ideal S1x512x1 .f32) (r : Fin 512) :
    k0_pay59 (F := Ideal) (k0_pay21 K Q M) (ix3 0 r 0)
      = max (M (ix3 0 r 0)) (Finset.univ.sup fun x : Fin 2816 => ∑ l : Fin 128, Q (ix3 0 r l) * K (ix3 0 x l)) := by
  pointwise [k0_pay59, k0_pay21, k0_pay20, k0_pay18, k0_pay17]
  rw [fold_max_eq]

theorem payA (K : FVec Ideal S1x2816x128 .bf16) (Q : FVec Ideal S1x512x128 .bf16) (M : FVec Ideal S1x512x1 .f32) (V : FVec Ideal S1x2816x128 .bf16)
    (A : FVec Ideal S1x512x128 .f32) (r : Fin 512) (l : Fin 128) :
    k0_pay22 (F := Ideal) K Q M V A (ix3 0 r l)
      = Ideal.exp2 (M (ix3 0 r 0) - max (M (ix3 0 r 0)) (Finset.univ.sup fun x : Fin 2816 => ∑ l : Fin 128, Q (ix3 0 r l) * K (ix3 0 x l))) * A (ix3 0 r l)
        + ∑ x : Fin 2816, Ideal.exp2 ((∑ l : Fin 128, Q (ix3 0 r l) * K (ix3 0 x l))
            - max (M (ix3 0 r 0)) (Finset.univ.sup fun x : Fin 2816 => ∑ l : Fin 128, Q (ix3 0 r l) * K (ix3 0 x l))) * V (ix3 0 x l) := by
  have e : k0_pay21 (F := Ideal) K Q M (ix2 r 0) = max (M (ix3 0 r 0)) (Finset.univ.sup fun x : Fin 2816 => ∑ l : Fin 128, Q (ix3 0 r l) * K (ix3 0 x l)) := by
    pointwise [k0_pay21, k0_pay20, k0_pay18, k0_pay17]
    rw [fold_max_eq]
  rw [← e]
  unfold k0_pay22
  generalize k0_pay21 (F := Ideal) K Q M = W
  pointwise [k0_pay20, k0_pay18, k0_pay17]
  rfl

/-! ## The 256 context keys -/

theorem payMc (K : FVec Ideal S1x256x128 .bf16) (Q : FVec Ideal S1x512x128 .bf16) (M : FVec Ideal S1x512x1 .f32) (r : Fin 512) :
    k0_pay64 (F := Ideal) (k0_pay27 K Q M) (ix3 0 r 0)
      = max (M (ix3 0 r 0)) (Finset.univ.sup fun x : Fin 256 => ∑ l : Fin 128, Q (ix3 0 r l) * K (ix3 0 x l)) := by
  pointwise [k0_pay64, k0_pay27, k0_pay26, k0_pay24, k0_pay23]
  rw [fold_max_eq]

theorem payAc (K : FVec Ideal S1x256x128 .bf16) (Q : FVec Ideal S1x512x128 .bf16) (M : FVec Ideal S1x512x1 .f32) (V : FVec Ideal S1x256x128 .bf16)
    (A : FVec Ideal S1x512x128 .f32) (r : Fin 512) (l : Fin 128) :
    k0_pay28 (F := Ideal) K Q M V A (ix3 0 r l)
      = Ideal.exp2 (M (ix3 0 r 0) - max (M (ix3 0 r 0)) (Finset.univ.sup fun x : Fin 256 => ∑ l : Fin 128, Q (ix3 0 r l) * K (ix3 0 x l))) * A (ix3 0 r l)
        + ∑ x : Fin 256, Ideal.exp2 ((∑ l : Fin 128, Q (ix3 0 r l) * K (ix3 0 x l))
            - max (M (ix3 0 r 0)) (Finset.univ.sup fun x : Fin 256 => ∑ l : Fin 128, Q (ix3 0 r l) * K (ix3 0 x l))) * V (ix3 0 x l) := by
  have e : k0_pay27 (F := Ideal) K Q M (ix2 r 0) = max (M (ix3 0 r 0)) (Finset.univ.sup fun x : Fin 256 => ∑ l : Fin 128, Q (ix3 0 r l) * K (ix3 0 x l)) := by
    pointwise [k0_pay27, k0_pay26, k0_pay24, k0_pay23]
    rw [fold_max_eq]
  rw [← e]
  unfold k0_pay28
  generalize k0_pay27 (F := Ideal) K Q M = W
  pointwise [k0_pay26, k0_pay24, k0_pay23]
  rfl

end Cert.Kernel3Ideal.Attn

end
-- ==== Proof.AttnStack.lean ====
/- The stack of query heads that the attention body makes of a tile, and the output tile it makes of a stack of sums. -/
module

public import proofs.«01_k».proof.Proof.Gen.Kernel3Ideal.Value
public import proofs.«01_k».proof.Proof.AttnMath

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

/-- A select by "lane below 64". -/
theorem select_lt64 {α : Type} (l : ℕ) (hl : l < 256) (a b : α) :
    Scalar.select (IntOp.cmpi .slt (BitVec.ofNat 32 l) 64#32) a b = if l < 64 then a else b := by
  have h : ∀ l : Fin 256, IntOp.cmpi .slt (BitVec.ofNat 32 l.val) 64#32 = if l.val < 64 then 1#1 else 0#1 := by decide +kernel
  rw [h ⟨l, hl⟩]
  dsimp only
  split <;> rfl

/-! ## The stacked queries

Rows `[0, 256)` and `[256, 512)` hold heads 0 and 1 of the first key/value head (lanes below 64, the others zeroed), rows `[512, 768)` and
`[768, 1024)` those of the second (lanes from 64 on). -/

/-- Row `r`, lane `l` of the stack made of a block of 256 query rows. -/
def stacked (q : Fin 256 → Fin 256 → EReal) (r : Fin 1024) (l : Fin 128) : EReal :=
  if l.val < 64 ↔ r.val < 512 then q ⟨r.val % 256, by omega⟩ ⟨r.val / 256 % 2 * 128 + l.val, by omega⟩ else 0

theorem pay12_at (q : FVec Ideal S1x256x256 .bf16) (r : Fin 1024) (l : Fin 128) :
    k0_pay12 (F := Ideal) q (ix3 0 r l) = stacked (fun a b => q (ix3 0 a b)) r l := by
  have hz : ∀ i, (broadcast S256x128 (Scalar.ofBits (F := Ideal) .bf16 0x0000#16) : FVec Ideal S256x128 .bf16) i = 0 :=
    fun _ => Ideal.ofBits_zero_bf16
  unfold k0_pay12
  dsimp only
  generalize (broadcast S256x128 (Scalar.ofBits (F := Ideal) .bf16 0x0000#16) : FVec Ideal S256x128 .bf16) = Z at hz ⊢
  pointwise [stacked]
  simp only [select_lt64 l.val (by omega), hz]
  split_ifs <;> first
    | omega
    | rfl
    | exact (if_neg (by omega)).symm
    | exact Eq.trans (congrArg q (congrArg₂ (ix3 0) (Fin.ext (by dsimp only <;> omega)) (Fin.ext (by dsimp only <;> omega))))
        (if_pos (by omega)).symm

/-! ## The output tile of a stack -/

/-- Row `r`, column `c` of the output tile: the weighted sum of its head over the sum of the weights, which stands 64 lanes away. -/
def finish (A : Fin 1024 → Fin 128 → EReal) (r c : Fin 256) : EReal :=
  Ideal.div (A ⟨c.val % 128 / 64 * 512 + c.val / 128 * 256 + r.val, by omega⟩ ⟨c.val % 128, by omega⟩)
    (A ⟨c.val % 128 / 64 * 512 + c.val / 128 * 256 + r.val, by omega⟩ ⟨(c.val + 64) % 128, by omega⟩)

theorem pay53_at (A : FVec Ideal S1x1024x128 .f32) (r c : Fin 256) :
    k0_pay53 (F := Ideal) A (ix3 0 r c) = finish (fun a b => A (ix3 0 a b)) r c := by
  pointwise [k0_pay53, finish]
  simp only [select_lt64 c.val (by omega), select_lt64 (c.val - 128) (by omega)]
  split_ifs <;> exact congrArg₂ Ideal.div
    (congrArg A (congrArg₂ (ix3 0) (Fin.ext (by dsimp only <;> omega)) (Fin.ext (by dsimp only <;> omega))))
    (congrArg A (congrArg₂ (ix3 0) (Fin.ext (by dsimp only <;> omega)) (Fin.ext (by dsimp only <;> omega))))

end Cert.Kernel3Ideal.Attn

end
-- ==== Proof.AttnPiece.lean ====
/- The pieces that one point of the attention grid writes, read at an index: how the loads of a piece read the carried arrays, and what the two
halves of a stack then hold. -/
module

public import proofs.«01_k».proof.Proof.AttnStep
public import proofs.«01_k».proof.Proof.AttnStack
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

/-! ## Reading a list of pieces -/

theorem canon_hit {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

theorem canon_miss {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y := by
  refine View.canon_cons_of_not_mem _ L ?_
  rw [Rect.mem_set_unit]
  intro hall
  have := hall a
  omega

/-- A load through a rectangle reads the array at the offsets plus the position. -/
theorem ld_at {s : Shape} {e : EltTy} {off size : Fin s.rank → ℕ} (inb : ∀ a, off a + size a ≤ s.size a) (X : s.Idx → Elt Ideal e)
    (x : (Rect.unit off size inb).shape.Idx) (y : s.Idx) (hx : ∀ a, (y a).val = off a + (x a).val) :
    View.ld X (Rect.unit off size inb) x = X y := by
  refine congrArg X (funext fun a => Fin.ext ?_)
  show off a + 1 * (x a).val = (y a).val
  rw [hx a, Nat.one_mul]

section Pairs

variable {W : ℕ} (n : ℕ) (u : Fin 3) (r : Fin 1024) (z : Fin W)

/-- The two halves of stack `n`, where the index lies in that stack. -/
theorem canon_pair (hu : u.val = n)
    (i1 : ∀ a, (![n, 512, 0] : Fin 3 → ℕ) a + (![1, 512, W] : Fin 3 → ℕ) a ≤ (⟨3, ![3, 1024, W]⟩ : Shape).size a)
    (i0 : ∀ a, (![n, 0, 0] : Fin 3 → ℕ) a + (![1, 512, W] : Fin 3 → ℕ) a ≤ (⟨3, ![3, 1024, W]⟩ : Shape).size a)
    (p1 p0 : (⟨3, ![1, 512, W]⟩ : Shape).Idx → Elt Ideal .f32) (L : List (View.Piece (Elt Ideal) (⟨3, ![3, 1024, W]⟩ : Shape) .f32)) (X : EReal)
    (h1 : ∀ p : Fin 512, r.val = 512 + p.val → p1 (ix3 0 p z) = X) (h0 : ∀ p : Fin 512, r.val = 0 + p.val → p0 (ix3 0 p z) = X) :
    View.canon ((⟨Rect.unit ![n, 512, 0] ![1, 512, W] i1, p1⟩ : View.Piece (Elt Ideal) (⟨3, ![3, 1024, W]⟩ : Shape) .f32)
      :: (⟨Rect.unit ![n, 0, 0] ![1, 512, W] i0, p0⟩ : View.Piece (Elt Ideal) (⟨3, ![3, 1024, W]⟩ : Shape) .f32) :: L) (ix3 u r z) = X := by
  by_cases hr : r.val < 512
  · rw [canon_miss (s := ⟨3, ![3, 1024, W]⟩) i1 p1 _ (ix3 u r z) (1 : Fin 3) (Or.inl hr)]
    exact (canon_hit (s := ⟨3, ![3, 1024, W]⟩) i0 p0 _ (ix3 u r z) (ix3 0 ⟨r.val, hr⟩ z) (fun (a : Fin 3) => by
      fin_cases a
      · exact hu
      · exact (Nat.zero_add _).symm
      · exact (Nat.zero_add _).symm)).trans (h0 ⟨r.val, hr⟩ (Nat.zero_add _).symm)
  · exact (canon_hit (s := ⟨3, ![3, 1024, W]⟩) i1 p1 _ (ix3 u r z) (ix3 0 ⟨r.val - 512, by omega⟩ z) (fun (a : Fin 3) => by
      fin_cases a
      · exact hu
      · show r.val = 512 + (r.val - 512); omega
      · exact (Nat.zero_add _).symm)).trans (h1 ⟨r.val - 512, by omega⟩ (by show r.val = 512 + (r.val - 512); omega))

/-- The two halves of stack `n`, where the index lies in another stack. -/
theorem canon_pair_miss (hu : u.val ≠ n)
    (i1 : ∀ a, (![n, 512, 0] : Fin 3 → ℕ) a + (![1, 512, W] : Fin 3 → ℕ) a ≤ (⟨3, ![3, 1024, W]⟩ : Shape).size a)
    (i0 : ∀ a, (![n, 0, 0] : Fin 3 → ℕ) a + (![1, 512, W] : Fin 3 → ℕ) a ≤ (⟨3, ![3, 1024, W]⟩ : Shape).size a)
    (p1 p0 : (⟨3, ![1, 512, W]⟩ : Shape).Idx → Elt Ideal .f32) (L : List (View.Piece (Elt Ideal) (⟨3, ![3, 1024, W]⟩ : Shape) .f32)) :
    View.canon ((⟨Rect.unit ![n, 512, 0] ![1, 512, W] i1, p1⟩ : View.Piece (Elt Ideal) (⟨3, ![3, 1024, W]⟩ : Shape) .f32)
      :: (⟨Rect.unit ![n, 0, 0] ![1, 512, W] i0, p0⟩ : View.Piece (Elt Ideal) (⟨3, ![3, 1024, W]⟩ : Shape) .f32) :: L) (ix3 u r z)
      = View.canon L (ix3 u r z) := by
  have h : u.val < n ∨ n + 1 ≤ u.val := by omega
  rw [canon_miss (s := ⟨3, ![3, 1024, W]⟩) i1 p1 _ (ix3 u r z) (0 : Fin 3) h,
    canon_miss (s := ⟨3, ![3, 1024, W]⟩) i0 p0 _ (ix3 u r z) (0 : Fin 3) h]

variable {sig' : RefSig} {κ : Kind} {sp : Space} (v : View sig' κ sp (⟨3, ![3, 1024, W]⟩ : Shape) .f32) (f : v.ty.Contents (Elt Ideal))

/-- As `canon_pair`, over an array that held something before. -/
theorem read_pair (hu : u.val = n)
    (i1 : ∀ a, (![n, 512, 0] : Fin 3 → ℕ) a + (![1, 512, W] : Fin 3 → ℕ) a ≤ (⟨3, ![3, 1024, W]⟩ : Shape).size a)
    (i0 : ∀ a, (![n, 0, 0] : Fin 3 → ℕ) a + (![1, 512, W] : Fin 3 → ℕ) a ≤ (⟨3, ![3, 1024, W]⟩ : Shape).size a)
    (p1 p0 : (⟨3, ![1, 512, W]⟩ : Shape).Idx → Elt Ideal .f32) (L : List (View.Piece (Elt Ideal) (⟨3, ![3, 1024, W]⟩ : Shape) .f32)) (X : EReal)
    (h1 : ∀ p : Fin 512, r.val = 512 + p.val → p1 (ix3 0 p z) = X) (h0 : ∀ p : Fin 512, r.val = 0 + p.val → p0 (ix3 0 p z) = X) :
    v.read (Elt Ideal) (v.writes (Elt Ideal) f ((⟨Rect.unit ![n, 512, 0] ![1, 512, W] i1, p1⟩ : View.Piece (Elt Ideal) (⟨3, ![3, 1024, W]⟩ : Shape) .f32)
      :: (⟨Rect.unit ![n, 0, 0] ![1, 512, W] i0, p0⟩ : View.Piece (Elt Ideal) (⟨3, ![3, 1024, W]⟩ : Shape) .f32) :: L)) (ix3 u r z) = X := by
  by_cases hr : r.val < 512
  · rw [View.read_writes_cons_unit_of_not_mem (s := ⟨3, ![3, 1024, W]⟩) v f i1 p1 _ (ix3 u r z) rfl (1 : Fin 3) (Or.inl hr)]
    exact (View.read_writes_cons_unit_of_mem (s := ⟨3, ![3, 1024, W]⟩) v f i0 p0 _ (ix3 u r z) (ix3 0 ⟨r.val, hr⟩ z) rfl (fun (a : Fin 3) => by
      fin_cases a
      · exact hu
      · exact (Nat.zero_add _).symm
      · exact (Nat.zero_add _).symm)).trans (h0 ⟨r.val, hr⟩ (Nat.zero_add _).symm)
  · exact (View.read_writes_cons_unit_of_mem (s := ⟨3, ![3, 1024, W]⟩) v f i1 p1 _ (ix3 u r z) (ix3 0 ⟨r.val - 512, by omega⟩ z) rfl (fun (a : Fin 3) => by
      fin_cases a
      · exact hu
      · show r.val = 512 + (r.val - 512); omega
      · exact (Nat.zero_add _).symm)).trans (h1 ⟨r.val - 512, by omega⟩ (by show r.val = 512 + (r.val - 512); omega))

/-- As `canon_pair_miss`, over an array that held something before. -/
theorem read_pair_miss (hu : u.val ≠ n)
    (i1 : ∀ a, (![n, 512, 0] : Fin 3 → ℕ) a + (![1, 512, W] : Fin 3 → ℕ) a ≤ (⟨3, ![3, 1024, W]⟩ : Shape).size a)
    (i0 : ∀ a, (![n, 0, 0] : Fin 3 → ℕ) a + (![1, 512, W] : Fin 3 → ℕ) a ≤ (⟨3, ![3, 1024, W]⟩ : Shape).size a)
    (p1 p0 : (⟨3, ![1, 512, W]⟩ : Shape).Idx → Elt Ideal .f32) (L : List (View.Piece (Elt Ideal) (⟨3, ![3, 1024, W]⟩ : Shape) .f32)) :
    v.read (Elt Ideal) (v.writes (Elt Ideal) f ((⟨Rect.unit ![n, 512, 0] ![1, 512, W] i1, p1⟩ : View.Piece (Elt Ideal) (⟨3, ![3, 1024, W]⟩ : Shape) .f32)
      :: (⟨Rect.unit ![n, 0, 0] ![1, 512, W] i0, p0⟩ : View.Piece (Elt Ideal) (⟨3, ![3, 1024, W]⟩ : Shape) .f32) :: L)) (ix3 u r z)
      = v.read (Elt Ideal) (v.writes (Elt Ideal) f L) (ix3 u r z) := by
  have h : u.val < n ∨ n + 1 ≤ u.val := by omega
  rw [View.read_writes_cons_unit_of_not_mem (s := ⟨3, ![3, 1024, W]⟩) v f i1 p1 _ (ix3 u r z) rfl (0 : Fin 3) h,
    View.read_writes_cons_unit_of_not_mem (s := ⟨3, ![3, 1024, W]⟩) v f i0 p0 _ (ix3 u r z) rfl (0 : Fin 3) h]

/-- A load of half a stack. -/
theorem ld_half {e : EltTy} {o : ℕ} {p : Fin 512} (hu : u.val = n) (hr : r.val = o + p.val)
    (i : ∀ a, (![n, o, 0] : Fin 3 → ℕ) a + (![1, 512, W] : Fin 3 → ℕ) a ≤ (⟨3, ![3, 1024, W]⟩ : Shape).size a)
    (X : (⟨3, ![3, 1024, W]⟩ : Shape).Idx → Elt Ideal e) :
    View.ld X (Rect.unit ![n, o, 0] ![1, 512, W] i) (ix3 0 p z) = X (ix3 u r z) :=
  ld_at (s := ⟨3, ![3, 1024, W]⟩) i X (ix3 0 p z) (ix3 u r z) (fun (a : Fin 3) => by
    fin_cases a
    · exact hu
    · exact hr
    · exact (Nat.zero_add _).symm)

end Pairs

/-! ## The stacked queries, written whole and read by halves -/

/-- The three stacks of a block of 768 query rows. -/
def stackOf (Q : FVec Ideal S1x768x256 .bf16) (u : Fin 3) (r : Fin 1024) (l : Fin 128) : EReal :=
  stacked (fun a b => Q (ix3 0 ⟨256 * u.val + a.val, by omega⟩ b)) r l

theorem pay12_ld (Q : FVec Ideal S1x768x256 .bf16) (u : Fin 3) (k : ℕ) (hk : k = 256 * u.val)
    (i : ∀ a, (![0, k, 0] : Fin 3 → ℕ) a + (![1, 256, 256] : Fin 3 → ℕ) a ≤ S1x768x256.size a) (r : Fin 1024) (l : Fin 128) :
    k0_pay12 (F := Ideal) (View.ld (Val := Elt Ideal) (e' := .bf16) Q (Rect.unit ![0, k, 0] ![1, 256, 256] i)) (ix3 0 r l) = stackOf Q u r l := by
  rw [pay12_at]
  refine congrArg (fun q => stacked q r l) (funext fun a => funext fun b => ?_)
  exact ld_at (s := S1x768x256) (e := .bf16) i Q (ix3 0 a b) (ix3 0 ⟨256 * u.val + a.val, by omega⟩ b) (fun (d : Fin 3) => by
    fin_cases d
    · rfl
    · show 256 * u.val + a.val = k + a.val; rw [hk]
    · exact (Nat.zero_add _).symm)

theorem q_load {sig' : RefSig} {κ : Kind} {sp : Space} (v : View sig' κ sp S3x1024x128 .bf16) (n o k : ℕ) (u : Fin 3) (r : Fin 1024) (p : Fin 512) (l : Fin 128)
    (hu : u.val = n) (hk : k = 256 * n) (hr : r.val = o + p.val) (Q : FVec Ideal S1x768x256 .bf16)
    (i : ∀ a, (![0, k, 0] : Fin 3 → ℕ) a + (![1, 256, 256] : Fin 3 → ℕ) a ≤ S1x768x256.size a)
    (i1 : ∀ a, (![n, 0, 0] : Fin 3 → ℕ) a + (![1, 1024, 128] : Fin 3 → ℕ) a ≤ S3x1024x128.size a)
    (i2 : ∀ a, (![n, o, 0] : Fin 3 → ℕ) a + (![1, 512, 128] : Fin 3 → ℕ) a ≤ S3x1024x128.size a)
    (L : List (View.Piece (Elt Ideal) S3x1024x128 .bf16)) :
    (v.readCov ((⟨Rect.unit ![n, 0, 0] ![1, 1024, 128] i1,
        k0_pay12 (F := Ideal) (View.ld (Val := Elt Ideal) (e' := .bf16) Q (Rect.unit ![0, k, 0] ![1, 256, 256] i))⟩ : View.Piece (Elt Ideal) S3x1024x128 .bf16) :: L)
      (Rect.unit (s := S3x1024x128) ![n, o, 0] ![1, 512, 128] i2).toLoadRect : (⟨3, ![1, 512, 128]⟩ : Shape).Idx → Elt Ideal .bf16) (ix3 0 p l)
      = stackOf Q u r l := by
  rw [View.readCov_eq_canon', ← pay12_ld Q u k (by rw [hk, hu]) i r l]
  refine canon_hit (s := S3x1024x128) (e := .bf16) i1 _ L _ (ix3 0 r l) (fun (a : Fin 3) => ?_)
  fin_cases a
  · rfl
  · show o + 1 * p.val = 0 + r.val; omega
  · show 0 + 1 * l.val = 0 + l.val; omega

theorem q_canon (Q : FVec Ideal S1x768x256 .bf16) (u : Fin 3) (r : Fin 1024) (l : Fin 128)
    (i0 : ∀ a, (![0, 0, 0] : Fin 3 → ℕ) a + (![1, 256, 256] : Fin 3 → ℕ) a ≤ S1x768x256.size a)
    (i1 : ∀ a, (![0, 256, 0] : Fin 3 → ℕ) a + (![1, 256, 256] : Fin 3 → ℕ) a ≤ S1x768x256.size a)
    (i2 : ∀ a, (![0, 512, 0] : Fin 3 → ℕ) a + (![1, 256, 256] : Fin 3 → ℕ) a ≤ S1x768x256.size a)
    (j0 : ∀ a, (![0, 0, 0] : Fin 3 → ℕ) a + (![1, 1024, 128] : Fin 3 → ℕ) a ≤ S3x1024x128.size a)
    (j1 : ∀ a, (![1, 0, 0] : Fin 3 → ℕ) a + (![1, 1024, 128] : Fin 3 → ℕ) a ≤ S3x1024x128.size a)
    (j2 : ∀ a, (![2, 0, 0] : Fin 3 → ℕ) a + (![1, 1024, 128] : Fin 3 → ℕ) a ≤ S3x1024x128.size a) :
    View.canon
      [(⟨Rect.unit ![2, 0, 0] ![1, 1024, 128] j2,
        k0_pay12 (F := Ideal) (View.ld (Val := Elt Ideal) (e' := .bf16) Q (Rect.unit ![0, 512, 0] ![1, 256, 256] i2))⟩ : View.Piece (Elt Ideal) S3x1024x128 .bf16),
       ⟨Rect.unit ![1, 0, 0] ![1, 1024, 128] j1,
        k0_pay12 (F := Ideal) (View.ld (Val := Elt Ideal) (e' := .bf16) Q (Rect.unit ![0, 256, 0] ![1, 256, 256] i1))⟩,
       ⟨Rect.unit ![0, 0, 0] ![1, 1024, 128] j0,
        k0_pay12 (F := Ideal) (View.ld (Val := Elt Ideal) (e' := .bf16) Q (Rect.unit ![0, 0, 0] ![1, 256, 256] i0))⟩] (ix3 u r l) = stackOf Q u r l := by
  have key : ∀ n : ℕ, u.val = n → ∀ a : Fin 3, ((ix3 u r l : S3x1024x128.Idx) a).val
      = (![n, 0, 0] : Fin 3 → ℕ) a + ((ix3 0 r l : (⟨3, ![1, 1024, 128]⟩ : Shape).Idx) a).val := by
    intro n hn a
    fin_cases a
    · exact hn
    · exact (Nat.zero_add _).symm
    · exact (Nat.zero_add _).symm
  have hu : u.val = 0 ∨ u.val = 1 ∨ u.val = 2 := by omega
  rcases hu with hu | hu | hu
  · rw [canon_miss (s := S3x1024x128) j2 _ _ (ix3 u r l) (0 : Fin 3) (Or.inl (by show u.val < 2; omega)),
      canon_miss (s := S3x1024x128) j1 _ _ (ix3 u r l) (0 : Fin 3) (Or.inl (by show u.val < 1; omega))]
    exact (canon_hit (s := S3x1024x128) j0 _ _ (ix3 u r l) (ix3 0 r l) (key 0 hu)).trans (pay12_ld Q u 0 (by omega) i0 r l)
  · rw [canon_miss (s := S3x1024x128) j2 _ _ (ix3 u r l) (0 : Fin 3) (Or.inl (by show u.val < 2; omega))]
    exact (canon_hit (s := S3x1024x128) j1 _ _ (ix3 u r l) (ix3 0 r l) (key 1 hu)).trans (pay12_ld Q u 256 (by omega) i1 r l)
  · exact (canon_hit (s := S3x1024x128) j2 _ _ (ix3 u r l) (ix3 0 r l) (key 2 hu)).trans (pay12_ld Q u 512 (by omega) i2 r l)

/-! ## One step of the running maximum and sums -/

/-- The scores of stacked row `(u, r)` against the keys of a block. -/
def score (q : Fin 3 → Fin 1024 → Fin 128 → EReal) (K : FVec Ideal S1x2816x128 .bf16) (u : Fin 3) (r : Fin 1024) (x : Fin 2816) : EReal :=
  ∑ l : Fin 128, q u r l * K (ix3 0 x l)

/-- The maximum after the first `n` keys of a block. -/
def newM (n : ℕ) (hn : n ≤ 2816) (q : Fin 3 → Fin 1024 → Fin 128 → EReal) (K : FVec Ideal S1x2816x128 .bf16) (mx : FVec Ideal S3x1024x1 .f32)
    (u : Fin 3) (r : Fin 1024) : EReal :=
  max (mx (ix3 u r 0)) (Finset.univ.sup fun x : Fin n => score q K u r (x.castLE hn))

/-- The sums after the first `n` keys of a block. -/
def newA (n : ℕ) (hn : n ≤ 2816) (q : Fin 3 → Fin 1024 → Fin 128 → EReal) (K : FVec Ideal S1x2816x128 .bf16) (V : FVec Ideal S1x2816x256 .bf16)
    (mx : FVec Ideal S3x1024x1 .f32) (ac : FVec Ideal S3x1024x128 .f32) (u : Fin 3) (r : Fin 1024) (l : Fin 128) : EReal :=
  Ideal.exp2 (mx (ix3 u r 0) - newM n hn q K mx u r) * ac (ix3 u r l)
    + ∑ x : Fin n, Ideal.exp2 (score q K u r (x.castLE hn) - newM n hn q K mx u r)
        * V (ix3 0 (x.castLE hn) ⟨r.val / 512 * 128 + l.val, by omega⟩)

section Core

variable (u : Fin 3) (r : Fin 1024) (p : Fin 512)
  (q : Fin 3 → Fin 1024 → Fin 128 → EReal) (K : FVec Ideal S1x2816x128 .bf16) (V : FVec Ideal S1x2816x256 .bf16)
  (mx : FVec Ideal S3x1024x1 .f32) (ac : FVec Ideal S3x1024x128 .f32) (Q : FVec Ideal S1x512x128 .bf16)
  (M : FVec Ideal S1x512x1 .f32) (A : FVec Ideal S1x512x128 .f32)
  (hQ : ∀ l, Q (ix3 0 p l) = q u r l) (hM : M (ix3 0 p 0) = mx (ix3 u r 0))

include hQ hM

theorem coreM : k0_pay59 (F := Ideal) (k0_pay21 K Q M) (ix3 0 p 0) = newM 2816 le_rfl q K mx u r := by
  rw [payM, hM]
  simp only [hQ]
  rfl

theorem coreA (l : Fin 128) (W : FVec Ideal S1x2816x128 .bf16)
    (hW : ∀ x : Fin 2816, W (ix3 0 x l) = V (ix3 0 x ⟨r.val / 512 * 128 + l.val, by omega⟩)) (hA : A (ix3 0 p l) = ac (ix3 u r l)) :
    k0_pay22 (F := Ideal) K Q M W A (ix3 0 p l) = newA 2816 le_rfl q K V mx ac u r l := by
  rw [payA, hM, hA]
  simp only [hQ, hW]
  rfl

theorem coreMc (K' : FVec Ideal S1x256x128 .bf16) (hK : ∀ (x : Fin 256) (l : Fin 128), K' (ix3 0 x l) = K (ix3 0 (x.castLE (by omega)) l)) :
    k0_pay64 (F := Ideal) (k0_pay27 K' Q M) (ix3 0 p 0) = newM 256 (by omega) q K mx u r := by
  rw [payMc, hM]
  simp only [hQ, hK]
  rfl

theorem coreAc (K' : FVec Ideal S1x256x128 .bf16) (hK : ∀ (x : Fin 256) (l : Fin 128), K' (ix3 0 x l) = K (ix3 0 (x.castLE (by omega)) l))
    (l : Fin 128) (W : FVec Ideal S1x256x128 .bf16)
    (hW : ∀ x : Fin 256, W (ix3 0 x l) = V (ix3 0 (x.castLE (by omega)) ⟨r.val / 512 * 128 + l.val, by omega⟩))
    (hA : A (ix3 0 p l) = ac (ix3 u r l)) :
    k0_pay28 (F := Ideal) K' Q M W A (ix3 0 p l) = newA 256 (by omega) q K V mx ac u r l := by
  rw [payAc, hM, hA]
  simp only [hQ, hK, hW]
  rfl

end Core

section Steps

variable (n o : ℕ) (u : Fin 3) (r : Fin 1024) {p : Fin 512} (hu : u.val = n) (hr : r.val = o + p.val)
  (q : Fin 3 → Fin 1024 → Fin 128 → EReal) (K : FVec Ideal S1x2816x128 .bf16) (V : FVec Ideal S1x2816x256 .bf16)
  (mx : FVec Ideal S3x1024x1 .f32) (ac : FVec Ideal S3x1024x128 .f32) (Q : FVec Ideal S1x512x128 .bf16)
  (hQ : ∀ l, Q (ix3 0 p l) = q u r l)
  (im : ∀ a, (![n, o, 0] : Fin 3 → ℕ) a + (![1, 512, 1] : Fin 3 → ℕ) a ≤ S3x1024x1.size a)
  (ia : ∀ a, (![n, o, 0] : Fin 3 → ℕ) a + (![1, 512, 128] : Fin 3 → ℕ) a ≤ S3x1024x128.size a)

include hu hr hQ

theorem stepM : k0_pay59 (F := Ideal) (k0_pay21 K Q (View.ld (Val := Elt Ideal) (e' := .f32) mx (Rect.unit ![n, o, 0] ![1, 512, 1] im))) (ix3 0 p 0)
    = newM 2816 le_rfl q K mx u r := by
  exact coreM u r p q K mx Q _ hQ (ld_half (e := .f32) n u r 0 hu hr im mx)

theorem stepA (vo : ℕ) (hvo : r.val / 512 * 128 = vo) (l : Fin 128)
    (iv : ∀ a, (![0, 0, vo] : Fin 3 → ℕ) a + (![1, 2816, 128] : Fin 3 → ℕ) a ≤ S1x2816x256.size a) :
    k0_pay22 (F := Ideal) K Q (View.ld (Val := Elt Ideal) (e' := .f32) mx (Rect.unit ![n, o, 0] ![1, 512, 1] im))
      (View.ld (Val := Elt Ideal) (e' := .bf16) V (Rect.unit ![0, 0, vo] ![1, 2816, 128] iv))
      (View.ld (Val := Elt Ideal) (e' := .f32) ac (Rect.unit ![n, o, 0] ![1, 512, 128] ia)) (ix3 0 p l)
    = newA 2816 le_rfl q K V mx ac u r l := by
  have hv : ∀ x : Fin 2816, View.ld (Val := Elt Ideal) (e' := .bf16) V (Rect.unit ![0, 0, vo] ![1, 2816, 128] iv) (ix3 0 x l)
      = V (ix3 0 x ⟨r.val / 512 * 128 + l.val, by omega⟩) := fun x =>
    ld_at (s := S1x2816x256) (e := .bf16) iv V (ix3 0 x l) (ix3 0 x ⟨r.val / 512 * 128 + l.val, by omega⟩) (fun (a : Fin 3) => by
      fin_cases a
      · rfl
      · exact (Nat.zero_add _).symm
      · show r.val / 512 * 128 + l.val = vo + l.val; rw [hvo])
  exact coreA u r p q K V mx ac Q _ _ hQ (ld_half (e := .f32) n u r 0 hu hr im mx) l _ hv (ld_half (e := .f32) n u r l hu hr ia ac)

theorem stepMc (ik : ∀ a, (![0, 0, 0] : Fin 3 → ℕ) a + (![1, 256, 128] : Fin 3 → ℕ) a ≤ S1x2816x128.size a) :
    k0_pay64 (F := Ideal) (k0_pay27 (View.ld (Val := Elt Ideal) (e' := .bf16) K (Rect.unit ![0, 0, 0] ![1, 256, 128] ik)) Q
      (View.ld (Val := Elt Ideal) (e' := .f32) mx (Rect.unit ![n, o, 0] ![1, 512, 1] im))) (ix3 0 p 0)
    = newM 256 (by omega) q K mx u r := by
  have hk : ∀ (x : Fin 256) (l : Fin 128), View.ld (Val := Elt Ideal) (e' := .bf16) K (Rect.unit ![0, 0, 0] ![1, 256, 128] ik) (ix3 0 x l)
      = K (ix3 0 (x.castLE (by omega)) l) := fun x l =>
    ld_at (s := S1x2816x128) (e := .bf16) ik K (ix3 0 x l) (ix3 0 (x.castLE (by omega)) l) (fun (a : Fin 3) => by
      fin_cases a <;> exact (Nat.zero_add _).symm)
  exact coreMc u r p q K mx Q _ hQ (ld_half (e := .f32) n u r 0 hu hr im mx) _ hk

theorem stepAc (vo : ℕ) (hvo : r.val / 512 * 128 = vo) (l : Fin 128)
    (ik : ∀ a, (![0, 0, 0] : Fin 3 → ℕ) a + (![1, 256, 128] : Fin 3 → ℕ) a ≤ S1x2816x128.size a)
    (iv : ∀ a, (![0, 0, vo] : Fin 3 → ℕ) a + (![1, 256, 128] : Fin 3 → ℕ) a ≤ S1x2816x256.size a) :
    k0_pay28 (F := Ideal) (View.ld (Val := Elt Ideal) (e' := .bf16) K (Rect.unit ![0, 0, 0] ![1, 256, 128] ik)) Q
      (View.ld (Val := Elt Ideal) (e' := .f32) mx (Rect.unit ![n, o, 0] ![1, 512, 1] im))
      (View.ld (Val := Elt Ideal) (e' := .bf16) V (Rect.unit ![0, 0, vo] ![1, 256, 128] iv))
      (View.ld (Val := Elt Ideal) (e' := .f32) ac (Rect.unit ![n, o, 0] ![1, 512, 128] ia)) (ix3 0 p l)
    = newA 256 (by omega) q K V mx ac u r l := by
  have hk : ∀ (x : Fin 256) (l : Fin 128), View.ld (Val := Elt Ideal) (e' := .bf16) K (Rect.unit ![0, 0, 0] ![1, 256, 128] ik) (ix3 0 x l)
      = K (ix3 0 (x.castLE (by omega)) l) := fun x l =>
    ld_at (s := S1x2816x128) (e := .bf16) ik K (ix3 0 x l) (ix3 0 (x.castLE (by omega)) l) (fun (a : Fin 3) => by
      fin_cases a <;> exact (Nat.zero_add _).symm)
  have hv : ∀ x : Fin 256, View.ld (Val := Elt Ideal) (e' := .bf16) V (Rect.unit ![0, 0, vo] ![1, 256, 128] iv) (ix3 0 x l)
      = V (ix3 0 (x.castLE (by omega)) ⟨r.val / 512 * 128 + l.val, by omega⟩) := fun x =>
    ld_at (s := S1x2816x256) (e := .bf16) iv V (ix3 0 x l) (ix3 0 (x.castLE (by omega)) ⟨r.val / 512 * 128 + l.val, by omega⟩) (fun (a : Fin 3) => by
      fin_cases a
      · rfl
      · exact (Nat.zero_add _).symm
      · show r.val / 512 * 128 + l.val = vo + l.val; rw [hvo])
  exact coreAc u r p q K V mx ac Q _ _ hQ (ld_half (e := .f32) n u r 0 hu hr im mx) _ hk l _ hv (ld_half (e := .f32) n u r l hu hr ia ac)

end Steps

/-! ## One spelling for the pieces

The three stacks and two halves of the body go through the same operations under different names. -/

section Names

variable (K : FVec Ideal S1x2816x128 .bf16) (K' : FVec Ideal S1x256x128 .bf16) (Q : FVec Ideal S1x512x128 .bf16) (M : FVec Ideal S1x512x1 .f32)
  (V : FVec Ideal S1x2816x128 .bf16) (V' : FVec Ideal S1x256x128 .bf16) (A : FVec Ideal S1x512x128 .f32) (q : FVec Ideal S1x256x256 .bf16)

theorem nM0 : k0_pay63 (F := Ideal) (k0_pay19 K Q) M = k0_pay59 (k0_pay21 K Q M) := rfl
theorem nM1 : k0_pay69 (F := Ideal) (k0_pay33 K Q M) = k0_pay59 (k0_pay21 K Q M) := rfl
theorem nM2 : k0_pay73 (F := Ideal) (k0_pay31 K Q) M = k0_pay59 (k0_pay21 K Q M) := rfl
theorem nM3 : k0_pay1 (F := Ideal) (k0_pay45 K Q M) = k0_pay59 (k0_pay21 K Q M) := rfl
theorem nM4 : k0_pay5 (F := Ideal) (k0_pay43 K Q) M = k0_pay59 (k0_pay21 K Q M) := rfl
theorem nM5 : k0_pay68 (F := Ideal) (k0_pay25 K' Q) M = k0_pay64 (k0_pay27 K' Q M) := rfl
theorem nA0 : k0_pay62 (F := Ideal) (k0_pay19 K Q) M V A = k0_pay22 K Q M V A := rfl
theorem nA1 : k0_pay34 (F := Ideal) K Q M V A = k0_pay22 K Q M V A := rfl
theorem nA2 : k0_pay72 (F := Ideal) (k0_pay31 K Q) M V A = k0_pay22 K Q M V A := rfl
theorem nA3 : k0_pay46 (F := Ideal) K Q M V A = k0_pay22 K Q M V A := rfl
theorem nA4 : k0_pay4 (F := Ideal) (k0_pay43 K Q) M V A = k0_pay22 K Q M V A := rfl
theorem nA5 : k0_pay67 (F := Ideal) (k0_pay25 K' Q) M V' A = k0_pay28 K' Q M V' A := rfl
theorem nQ1 : k0_pay13 (F := Ideal) q = k0_pay12 q := rfl
theorem nQ2 : k0_pay56 (F := Ideal) (k0_pay14 q) k0_pay15 (k0_pay16 q) = k0_pay12 q := rfl

theorem nO1 (A : FVec Ideal S1x1024x128 .f32) : k0_pay54 (F := Ideal) A = k0_pay53 A := rfl
theorem nO2 (A : FVec Ideal S1x1024x128 .f32) : k0_pay11 (F := Ideal) (k0_pay55 A) 64#32 = k0_pay53 A := rfl

theorem pay57_at (i : S3x1024x1.Idx) : k0_pay57 (F := Ideal) i = ⊥ := negInf_eq
theorem pay58_at (i : S3x1024x128.Idx) : k0_pay58 (F := Ideal) i = 0 := Ideal.ofBits_zero_f32

end Names

/-! ## The output tile -/

/-- A load of a whole stack after writes to it. -/
theorem cov_load {sig' : RefSig} {κ : Kind} {sp : Space} (v : View sig' κ sp S3x1024x128 .f32) (n : ℕ) (u : Fin 3) (r : Fin 1024) (l : Fin 128)
    (hu : u.val = n) (i : ∀ a, (![n, 0, 0] : Fin 3 → ℕ) a + (![1, 1024, 128] : Fin 3 → ℕ) a ≤ S3x1024x128.size a)
    (L : List (View.Piece (Elt Ideal) S3x1024x128 .f32)) :
    (v.readCov L (Rect.unit (s := S3x1024x128) ![n, 0, 0] ![1, 1024, 128] i).toLoadRect : (⟨3, ![1, 1024, 128]⟩ : Shape).Idx → Elt Ideal .f32) (ix3 0 r l)
      = View.canon L (ix3 u r l) := by
  rw [View.readCov_eq_canon']
  refine congrArg (View.canon L) (funext fun (a : Fin 3) => Fin.ext ?_)
  fin_cases a
  · show n + 1 * 0 = u.val; omega
  · show 0 + 1 * r.val = r.val; omega
  · show 0 + 1 * l.val = l.val; omega

/-- A load of a whole stack of what the point found. -/
theorem ld_stack (n : ℕ) (u : Fin 3) (r : Fin 1024) (l : Fin 128) (hu : u.val = n)
    (i : ∀ a, (![n, 0, 0] : Fin 3 → ℕ) a + (![1, 1024, 128] : Fin 3 → ℕ) a ≤ S3x1024x128.size a) (X : FVec Ideal S3x1024x128 .f32) :
    (View.ld (Val := Elt Ideal) (e' := .f32) X (Rect.unit (s := S3x1024x128) ![n, 0, 0] ![1, 1024, 128] i) : (⟨3, ![1, 1024, 128]⟩ : Shape).Idx → Elt Ideal .f32) (ix3 0 r l) = X (ix3 u r l) :=
  ld_at (s := S3x1024x128) (e := .f32) i X (ix3 0 r l) (ix3 u r l) (fun (a : Fin 3) => by
    fin_cases a
    · exact hu
    · exact (Nat.zero_add _).symm
    · exact (Nat.zero_add _).symm)

/-- The three output pieces, each of which finishes its stack. -/
theorem out_canon (p2 p1 p0 : FVec Ideal S1x1024x128 .f32) (u : Fin 3) (a b : Fin 256) (X : Fin 1024 → Fin 128 → EReal)
    (i0 : ∀ a, (![0, 0, 0] : Fin 3 → ℕ) a + (![1, 256, 256] : Fin 3 → ℕ) a ≤ S1x768x256.size a)
    (i1 : ∀ a, (![0, 256, 0] : Fin 3 → ℕ) a + (![1, 256, 256] : Fin 3 → ℕ) a ≤ S1x768x256.size a)
    (i2 : ∀ a, (![0, 512, 0] : Fin 3 → ℕ) a + (![1, 256, 256] : Fin 3 → ℕ) a ≤ S1x768x256.size a)
    (h2 : u.val = 2 → ∀ r l, p2 (ix3 0 r l) = X r l) (h1 : u.val = 1 → ∀ r l, p1 (ix3 0 r l) = X r l)
    (h0 : u.val = 0 → ∀ r l, p0 (ix3 0 r l) = X r l) :
    View.canon
      [(⟨Rect.unit ![0, 512, 0] ![1, 256, 256] i2, k0_pay53 (F := Ideal) p2⟩ : View.Piece (Elt Ideal) S1x768x256 .bf16),
       ⟨Rect.unit ![0, 256, 0] ![1, 256, 256] i1, k0_pay53 (F := Ideal) p1⟩,
       ⟨Rect.unit ![0, 0, 0] ![1, 256, 256] i0, k0_pay53 (F := Ideal) p0⟩] (ix3 0 ⟨256 * u.val + a.val, by omega⟩ b) = finish X a b := by
  have key : ∀ n : ℕ, 256 * u.val = n → ∀ d : Fin 3, ((ix3 0 ⟨256 * u.val + a.val, by omega⟩ b : S1x768x256.Idx) d).val
      = (![0, n, 0] : Fin 3 → ℕ) d + ((ix3 0 a b : (⟨3, ![1, 256, 256]⟩ : Shape).Idx) d).val := by
    intro n hn d
    fin_cases d
    · rfl
    · show 256 * u.val + a.val = n + a.val; omega
    · exact (Nat.zero_add _).symm
  have fin : ∀ p : FVec Ideal S1x1024x128 .f32, (∀ r l, p (ix3 0 r l) = X r l) → k0_pay53 (F := Ideal) p (ix3 0 a b) = finish X a b := by
    intro p hp
    rw [pay53_at]
    exact congrArg (fun A => finish A a b) (funext fun r => funext fun l => hp r l)
  have hu : u.val = 0 ∨ u.val = 1 ∨ u.val = 2 := by omega
  rcases hu with hu | hu | hu
  · rw [canon_miss (s := S1x768x256) i2 _ _ (ix3 0 ⟨256 * u.val + a.val, by omega⟩ b) (1 : Fin 3) (Or.inl (by show 256 * u.val + a.val < 512; omega)),
      canon_miss (s := S1x768x256) i1 _ _ (ix3 0 ⟨256 * u.val + a.val, by omega⟩ b) (1 : Fin 3) (Or.inl (by show 256 * u.val + a.val < 256; omega))]
    exact (canon_hit (s := S1x768x256) i0 _ _ (ix3 0 ⟨256 * u.val + a.val, by omega⟩ b) (ix3 0 a b) (key 0 (by omega))).trans (fin p0 (h0 hu))
  · rw [canon_miss (s := S1x768x256) i2 _ _ (ix3 0 ⟨256 * u.val + a.val, by omega⟩ b) (1 : Fin 3) (Or.inl (by show 256 * u.val + a.val < 512; omega))]
    exact (canon_hit (s := S1x768x256) i1 _ _ (ix3 0 ⟨256 * u.val + a.val, by omega⟩ b) (ix3 0 a b) (key 256 (by omega))).trans (fin p1 (h1 hu))
  · exact (canon_hit (s := S1x768x256) i2 _ _ (ix3 0 ⟨256 * u.val + a.val, by omega⟩ b) (ix3 0 a b) (key 512 (by omega))).trans (fin p2 (h2 hu))

end Cert.Kernel3Ideal.Attn

end
-- ==== Proof.AttnBlock.lean ====
/- The blocks of the attention grid's points, read off the argument arrays. -/
module

public import proofs.«01_k».proof.Proof.AttnPiece

@[expose] public section

set_option maxRecDepth 16384

noncomputable section

open Idealize.ShloMosaic Idealize.ShloMosaic.TcCoe Idealize.SL.Sem
open Idealize.ShloMosaic.Pipeline (Dat)

namespace Cert.Kernel3Ideal.Attn

open Cert.Kernel3Ideal Cert.Kernel3Ideal.Gen

variable (m : (ℓ : Loc nD τ sig) → Buf (Elt Ideal) ℓ)

/-- Where each window's block stands at point `t`: batch `t / 33`, row tile `t / 3 % 11` of the queries, key tile `t % 3`. -/
theorem idx : ∀ t : Fin cfg0.N, win0_0.index t = ![t.val / 33, t.val / 3 % 11, 0]
    ∧ win0_1.index t = ![t.val / 33, t.val % 3, 0] ∧ win0_2.index t = ![t.val / 33, t.val % 3, 0]
    ∧ win0_3.index t = ![t.val / 33, t.val / 3 % 11, 0] :=
  (by decide +kernel : ∀ t : Fin grid0.N, _)

theorem t_lt (t : Fin cfg0.N) : t.val < 66 := by have h := t.isLt; have hN : cfg0.N = 66 := N_0; omega

/-- The batch of point `t`. -/
def batch (t : Fin cfg0.N) : Fin 2 := ⟨t.val / 33, by have := t_lt t; omega⟩
/-- The query row that row `r` of the tile is. -/
def qRow (t : Fin cfg0.N) (r : Fin 768) : Fin 8448 := ⟨t.val / 3 % 11 * 768 + r.val, by have := t_lt t; omega⟩
/-- The key that row `x` of the tile is. -/
def key (t : Fin cfg0.N) (x : Fin 2816) : Fin 8448 := ⟨t.val % 3 * 2816 + x.val, by have := t_lt t; omega⟩

theorem blk0 (c : Dev nD) (t : Fin cfg0.N) (r : Fin 768) (l : Fin 256) :
    iblk m c 0 t (ix3 0 r l) = m ((c : Thread nD τ).loc main_arg0) (ix3 (batch t) (qRow t r) l) := by
  unfold batch qRow; blk_ext! [iblk, V, idx t]

theorem blk1 (c : Dev nD) (t : Fin cfg0.N) (x : Fin 2816) (l : Fin 128) :
    iblk m c 1 t (ix3 0 x l) = m ((c : Thread nD τ).loc main_arg1) (ix3 (batch t) (key t x) l) := by
  unfold batch key; blk_ext! [iblk, V, idx t]

/-- What the host makes of the values: each head's 64 columns, with ones in the other head's place. -/
def withOnes (v : FVec Ideal S2x8448x128 .f32) : FVec Ideal S2x8448x256 .bf16 :=
  truncf .bf16 (concatenate S2x8448x256 2
    [⟨S2x8448x128, select (cmpi .slt (iotaInDim S2x8448x128 32 2) (broadcastInDim S2x8448x128 ![] bcast_S_S2x8448x128 (constantI S_ 32 64#32))) v
      (broadcastInDim S2x8448x128 ![] bcast_S_S2x8448x128 (constant S_ .f32 0x3F800000#32))⟩,
     ⟨S2x8448x128, select (cmpi .slt (iotaInDim S2x8448x128 32 2) (broadcastInDim S2x8448x128 ![] bcast_S_S2x8448x128 (constantI S_ 32 64#32)))
      (broadcastInDim S2x8448x128 ![] bcast_S_S2x8448x128 (constant S_ .f32 0x3F800000#32)) v⟩]
    concatenates_S2x8448x128_S2x8448x128_S2x8448x256_d2) bitsLt_bf16_f32

theorem host_v (c : Dev nD) : V m c main_v6 = withOnes (m ((c : Thread nD τ).loc main_arg2)) := by
  show StableHlo.after [hostOps0, hostOps0_1, hostOps0_2, hostOps0_3, hostOps0_4].flatten (fun b => m (c, b)) (Proc.tc.devRef main_v6) = _
  simp only [hostOps0, hostOps0_1, hostOps0_2, hostOps0_3, hostOps0_4, List.flatten_cons, List.flatten_nil, List.cons_append, List.nil_append, List.append_nil,
    StableHlo.TRef.ternary, StableHlo.TRef.unary, StableHlo.TRef.toBuf, StableHlo.TRef.ofBuf, cast_eq]
  after_results_simp <;> rfl

theorem select_lt64' {α : Type} (l : Fin 128) (a b : α) :
    Scalar.select (IntOp.cmpi .slt (BitVec.ofNat 32 l.val) 64#32) a b = if l.val < 64 then a else b := select_lt64 l.val (by omega) a b

theorem withOnes_at (v : FVec Ideal S2x8448x128 .f32) (b : Fin 2) (x : Fin 8448) (g : Fin 2) (l : Fin 128) :
    withOnes v (ix3 b x ⟨g.val * 128 + l.val, by omega⟩) = if l.val / 64 = g.val then v (ix3 b x l) else (1 : EReal) := by
  pointwise [withOnes]
  by_cases hg : g.val = 0
  · rw [dif_pos (by omega), select_lt64 (g.val * 128 + l.val) (by omega)]
    have e : (⟨g.val * 128 + l.val, by omega⟩ : Fin 128) = l := Fin.ext (by show g.val * 128 + l.val = l.val; omega)
    rw [e]
    by_cases h : l.val < 64
    · rw [if_pos (by omega), if_pos (by omega)]
    · rw [if_neg (by omega), if_neg (by omega)]
  · rw [dif_neg (by omega), select_lt64 (g.val * 128 + l.val - 128) (by omega)]
    have e : (⟨g.val * 128 + l.val - 128, by omega⟩ : Fin 128) = l := Fin.ext (by show g.val * 128 + l.val - 128 = l.val; omega)
    rw [e]
    by_cases h : l.val < 64
    · rw [if_pos (by omega), if_neg (by omega)]
    · rw [if_neg (by omega), if_pos (by omega)]

/-- The values' block: in each 128 columns the values of one head, and ones beside them. -/
theorem blk2 (c : Dev nD) (t : Fin cfg0.N) (x : Fin 2816) (g : Fin 2) (l : Fin 128) :
    iblk m c 2 t (ix3 0 x ⟨g.val * 128 + l.val, by omega⟩)
      = if l.val / 64 = g.val then m ((c : Thread nD τ).loc main_arg2) (ix3 (batch t) (key t x) l) else (1 : EReal) := by
  have e : iblk m c 2 t (ix3 0 x ⟨g.val * 128 + l.val, by omega⟩)
      = V m c main_v6 (ix3 (batch t) (key t x) ⟨g.val * 128 + l.val, by omega⟩) := by
    unfold batch key; blk_ext! [iblk, idx t]
  rw [e, host_v, withOnes_at]

theorem emb3 (t : Fin cfg0.N) (r : Fin 768) (k : Fin 256) : ((cfg0.win 3).blk t).view.emb (ix3 0 r k) = ix3 (batch t) (qRow t r) k := by
  unfold batch qRow; blk_ext [idx t]

end Cert.Kernel3Ideal.Attn

end
-- ==== Proof.AttnA.lean ====
/- The first point of a batch: the first stack sees the 256 context keys only, the others the whole block. -/
module

public import proofs.«01_k».proof.Proof.AttnPiece

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

variable (m : (ℓ : Loc nD τ sig) → Buf (Elt Ideal) ℓ)

theorem A_q (c : Dev nD) (t : Fin cfg0.N) (h0 : t.val % 3 = 0) (h1 : ¬1 ≤ t.val / 3 % 11)
    (h2 : t.val % 33 = 0) (h7 : ¬t.val % 3 = 2)
    (u : Fin 3) (r : Fin 1024) (l : Fin 128) :
    (outsAt0 m c t.val t.isLt).2.1 (ix3 u r l) = stackOf (iblk m c 0 t) u r l := by
  rw [outsAt0_A m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  simp only [read_unread_whole, nM0, nM1, nM2, nM3, nM4, nM5, nA0, nA1, nA2, nA3, nA4, nA5, nQ1, nQ2]
  exact q_canon _ u r l _ _ _ _ _ _

theorem A_m (c : Dev nD) (t : Fin cfg0.N) (h0 : t.val % 3 = 0) (h1 : ¬1 ≤ t.val / 3 % 11)
    (h2 : t.val % 33 = 0) (h7 : ¬t.val % 3 = 2)
    (u : Fin 3) (r : Fin 1024) :
    (outsAt0 m c t.val t.isLt).2.2.1 (ix3 u r 0)
      = if u.val = 0 then newM 256 (by omega) (stackOf (iblk m c 0 t)) (iblk m c 1 t) (k0_pay57) u r
      else newM 2816 le_rfl (stackOf (iblk m c 0 t)) (iblk m c 1 t) (k0_pay57) u r := by
  rw [outsAt0_A m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · rw [if_pos hu]
    refine (canon_pair_miss 2 u r 0 (by omega) _ _ _ _ _).trans ?_
    refine (canon_pair_miss 1 u r 0 (by omega) _ _ _ _ _).trans ?_
    refine canon_pair 0 u r 0 hu _ _ _ _ _ _ (fun p hp => ?_) (fun p hp => ?_)
    · exact stepMc 0 512 u r hu hp _ _ _ _ (fun l' => q_load _ 0 512 0 u r p l' hu rfl hp _ _ _ _ _) _ _
    · exact stepMc 0 0 u r hu hp _ _ _ _ (fun l' => q_load _ 0 0 0 u r p l' hu rfl hp _ _ _ _ _) _ _
  · rw [if_neg (by omega)]
    refine (canon_pair_miss 2 u r 0 (by omega) _ _ _ _ _).trans ?_
    refine canon_pair 1 u r 0 hu _ _ _ _ _ _ (fun p hp => ?_) (fun p hp => ?_)
    · exact stepM 1 512 u r hu hp _ _ _ _ (fun l' => q_load _ 1 512 256 u r p l' hu rfl hp _ _ _ _ _) _
    · exact stepM 1 0 u r hu hp _ _ _ _ (fun l' => q_load _ 1 0 256 u r p l' hu rfl hp _ _ _ _ _) _
  · rw [if_neg (by omega)]
    refine canon_pair 2 u r 0 hu _ _ _ _ _ _ (fun p hp => ?_) (fun p hp => ?_)
    · exact stepM 2 512 u r hu hp _ _ _ _ (fun l' => q_load _ 2 512 512 u r p l' hu rfl hp _ _ _ _ _) _
    · exact stepM 2 0 u r hu hp _ _ _ _ (fun l' => q_load _ 2 0 512 u r p l' hu rfl hp _ _ _ _ _) _

theorem A_a (c : Dev nD) (t : Fin cfg0.N) (h0 : t.val % 3 = 0) (h1 : ¬1 ≤ t.val / 3 % 11)
    (h2 : t.val % 33 = 0) (h7 : ¬t.val % 3 = 2)
    (u : Fin 3) (r : Fin 1024) (l : Fin 128) :
    (outsAt0 m c t.val t.isLt).2.2.2 (ix3 u r l)
      = if u.val = 0 then newA 256 (by omega) (stackOf (iblk m c 0 t)) (iblk m c 1 t) (iblk m c 2 t) (k0_pay57) (k0_pay58) u r l
      else newA 2816 le_rfl (stackOf (iblk m c 0 t)) (iblk m c 1 t) (iblk m c 2 t) (k0_pay57) (k0_pay58) u r l := by
  rw [outsAt0_A m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · rw [if_pos hu]
    refine (canon_pair_miss 2 u r l (by omega) _ _ _ _ _).trans ?_
    refine (canon_pair_miss 1 u r l (by omega) _ _ _ _ _).trans ?_
    refine canon_pair 0 u r l hu _ _ _ _ _ _ (fun p hp => ?_) (fun p hp => ?_)
    · exact stepAc 0 512 u r hu hp _ _ _ _ _ _ (fun l' => q_load _ 0 512 0 u r p l' hu rfl hp _ _ _ _ _) _ _ 128 (by omega) l _ _
    · exact stepAc 0 0 u r hu hp _ _ _ _ _ _ (fun l' => q_load _ 0 0 0 u r p l' hu rfl hp _ _ _ _ _) _ _ 0 (by omega) l _ _
  · rw [if_neg (by omega)]
    refine (canon_pair_miss 2 u r l (by omega) _ _ _ _ _).trans ?_
    refine canon_pair 1 u r l hu _ _ _ _ _ _ (fun p hp => ?_) (fun p hp => ?_)
    · exact stepA 1 512 u r hu hp _ _ _ _ _ _ (fun l' => q_load _ 1 512 256 u r p l' hu rfl hp _ _ _ _ _) _ _ 128 (by omega) l _
    · exact stepA 1 0 u r hu hp _ _ _ _ _ _ (fun l' => q_load _ 1 0 256 u r p l' hu rfl hp _ _ _ _ _) _ _ 0 (by omega) l _
  · rw [if_neg (by omega)]
    refine canon_pair 2 u r l hu _ _ _ _ _ _ (fun p hp => ?_) (fun p hp => ?_)
    · exact stepA 2 512 u r hu hp _ _ _ _ _ _ (fun l' => q_load _ 2 512 512 u r p l' hu rfl hp _ _ _ _ _) _ _ 128 (by omega) l _
    · exact stepA 2 0 u r hu hp _ _ _ _ _ _ (fun l' => q_load _ 2 0 512 u r p l' hu rfl hp _ _ _ _ _) _ _ 0 (by omega) l _

end Cert.Kernel3Ideal.Attn

end
-- ==== Proof.AttnB.lean ====
/- The second point of a batch's first row of the grid: the context stack is left as it is. -/
module

public import proofs.«01_k».proof.Proof.AttnPiece

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

variable (m : (ℓ : Loc nD τ sig) → Buf (Elt Ideal) ℓ)

theorem B_q (c : Dev nD) (t : Fin cfg0.N) (h0 : ¬t.val % 3 = 0) (h1 : ¬1 ≤ t.val / 3 % 11)
    (h2 : ¬t.val % 33 = 0) (h7 : ¬t.val % 3 = 2) :
    (outsAt0 m c t.val t.isLt).2.1 = (outsAt0 m c (t.val - 1) (by have := t.isLt; omega)).2.1 := by
  rw [outsAt0_B m c t h0 h1 h2 h7]
  dsimp only
  first
    | rfl
    | (frame_open; rfl)
    | (frame_open; frame_out; exact read_unread_whole _ _ _)

theorem B_m (c : Dev nD) (t : Fin cfg0.N) (h0 : ¬t.val % 3 = 0) (h1 : ¬1 ≤ t.val / 3 % 11)
    (h2 : ¬t.val % 33 = 0) (h7 : ¬t.val % 3 = 2)
    (u : Fin 3) (r : Fin 1024) :
    (outsAt0 m c t.val t.isLt).2.2.1 (ix3 u r 0)
      = if u.val = 0 then (outsAt0 m c (t.val - 1) (by have := t.isLt; omega)).2.2.1 (ix3 u r 0)
      else newM 2816 le_rfl (fun a b d => (outsAt0 m c (t.val - 1) (by have := t.isLt; omega)).2.1 (ix3 a b d)) (iblk m c 1 t) ((outsAt0 m c (t.val - 1) (by have := t.isLt; omega)).2.2.1) u r := by
  rw [outsAt0_B m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · rw [if_pos hu]
    refine (read_pair_miss 2 u r 0 _ _ (by omega) _ _ _ _ _).trans ?_
    refine (read_pair_miss 1 u r 0 _ _ (by omega) _ _ _ _ _).trans ?_
    rw [View.writes_nil, read_unread_whole]
  · rw [if_neg (by omega)]
    refine (read_pair_miss 2 u r 0 _ _ (by omega) _ _ _ _ _).trans ?_
    refine read_pair 1 u r 0 _ _ hu _ _ _ _ _ _ (fun p hp => ?_) (fun p hp => ?_)
    · exact stepM 1 512 u r hu hp _ _ _ _ (fun l' => ld_half (e := .bf16) 1 u r l' hu hp _ _) _
    · exact stepM 1 0 u r hu hp _ _ _ _ (fun l' => ld_half (e := .bf16) 1 u r l' hu hp _ _) _
  · rw [if_neg (by omega)]
    refine read_pair 2 u r 0 _ _ hu _ _ _ _ _ _ (fun p hp => ?_) (fun p hp => ?_)
    · exact stepM 2 512 u r hu hp _ _ _ _ (fun l' => ld_half (e := .bf16) 2 u r l' hu hp _ _) _
    · exact stepM 2 0 u r hu hp _ _ _ _ (fun l' => ld_half (e := .bf16) 2 u r l' hu hp _ _) _

theorem B_a (c : Dev nD) (t : Fin cfg0.N) (h0 : ¬t.val % 3 = 0) (h1 : ¬1 ≤ t.val / 3 % 11)
    (h2 : ¬t.val % 33 = 0) (h7 : ¬t.val % 3 = 2)
    (u : Fin 3) (r : Fin 1024) (l : Fin 128) :
    (outsAt0 m c t.val t.isLt).2.2.2 (ix3 u r l)
      = if u.val = 0 then (outsAt0 m c (t.val - 1) (by have := t.isLt; omega)).2.2.2 (ix3 u r l)
      else newA 2816 le_rfl (fun a b d => (outsAt0 m c (t.val - 1) (by have := t.isLt; omega)).2.1 (ix3 a b d)) (iblk m c 1 t) (iblk m c 2 t) ((outsAt0 m c (t.val - 1) (by have := t.isLt; omega)).2.2.1) ((outsAt0 m c (t.val - 1) (by have := t.isLt; omega)).2.2.2) u r l := by
  rw [outsAt0_B m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · rw [if_pos hu]
    refine (read_pair_miss 2 u r l _ _ (by omega) _ _ _ _ _).trans ?_
    refine (read_pair_miss 1 u r l _ _ (by omega) _ _ _ _ _).trans ?_
    rw [View.writes_nil, read_unread_whole]
  · rw [if_neg (by omega)]
    refine (read_pair_miss 2 u r l _ _ (by omega) _ _ _ _ _).trans ?_
    refine read_pair 1 u r l _ _ hu _ _ _ _ _ _ (fun p hp => ?_) (fun p hp => ?_)
    · exact stepA 1 512 u r hu hp _ _ _ _ _ _ (fun l' => ld_half (e := .bf16) 1 u r l' hu hp _ _) _ _ 128 (by omega) l _
    · exact stepA 1 0 u r hu hp _ _ _ _ _ _ (fun l' => ld_half (e := .bf16) 1 u r l' hu hp _ _) _ _ 0 (by omega) l _
  · rw [if_neg (by omega)]
    refine read_pair 2 u r l _ _ hu _ _ _ _ _ _ (fun p hp => ?_) (fun p hp => ?_)
    · exact stepA 2 512 u r hu hp _ _ _ _ _ _ (fun l' => ld_half (e := .bf16) 2 u r l' hu hp _ _) _ _ 128 (by omega) l _
    · exact stepA 2 0 u r hu hp _ _ _ _ _ _ (fun l' => ld_half (e := .bf16) 2 u r l' hu hp _ _) _ _ 0 (by omega) l _

end Cert.Kernel3Ideal.Attn

end
-- ==== Proof.AttnC.lean ====
/- The last point of a batch's first row of the grid: the context stack is left as it is. -/
module

public import proofs.«01_k».proof.Proof.AttnPiece

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

variable (m : (ℓ : Loc nD τ sig) → Buf (Elt Ideal) ℓ)

theorem C_q (c : Dev nD) (t : Fin cfg0.N) (h0 : ¬t.val % 3 = 0) (h1 : ¬1 ≤ t.val / 3 % 11)
    (h2 : ¬t.val % 33 = 0) (h7 : t.val % 3 = 2) :
    (outsAt0 m c t.val t.isLt).2.1 = (outsAt0 m c (t.val - 1) (by have := t.isLt; omega)).2.1 := by
  rw [outsAt0_C m c t h0 h1 h2 h7]
  dsimp only
  first
    | rfl
    | (frame_open; rfl)
    | (frame_open; frame_out; exact read_unread_whole _ _ _)

theorem C_m (c : Dev nD) (t : Fin cfg0.N) (h0 : ¬t.val % 3 = 0) (h1 : ¬1 ≤ t.val / 3 % 11)
    (h2 : ¬t.val % 33 = 0) (h7 : t.val % 3 = 2)
    (u : Fin 3) (r : Fin 1024) :
    (outsAt0 m c t.val t.isLt).2.2.1 (ix3 u r 0)
      = if u.val = 0 then (outsAt0 m c (t.val - 1) (by have := t.isLt; omega)).2.2.1 (ix3 u r 0)
      else newM 2816 le_rfl (fun a b d => (outsAt0 m c (t.val - 1) (by have := t.isLt; omega)).2.1 (ix3 a b d)) (iblk m c 1 t) ((outsAt0 m c (t.val - 1) (by have := t.isLt; omega)).2.2.1) u r := by
  rw [outsAt0_C m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · rw [if_pos hu]
    refine (read_pair_miss 2 u r 0 _ _ (by omega) _ _ _ _ _).trans ?_
    refine (read_pair_miss 1 u r 0 _ _ (by omega) _ _ _ _ _).trans ?_
    rw [View.writes_nil, read_unread_whole]
  · rw [if_neg (by omega)]
    refine (read_pair_miss 2 u r 0 _ _ (by omega) _ _ _ _ _).trans ?_
    refine read_pair 1 u r 0 _ _ hu _ _ _ _ _ _ (fun p hp => ?_) (fun p hp => ?_)
    · exact stepM 1 512 u r hu hp _ _ _ _ (fun l' => ld_half (e := .bf16) 1 u r l' hu hp _ _) _
    · exact stepM 1 0 u r hu hp _ _ _ _ (fun l' => ld_half (e := .bf16) 1 u r l' hu hp _ _) _
  · rw [if_neg (by omega)]
    refine read_pair 2 u r 0 _ _ hu _ _ _ _ _ _ (fun p hp => ?_) (fun p hp => ?_)
    · exact stepM 2 512 u r hu hp _ _ _ _ (fun l' => ld_half (e := .bf16) 2 u r l' hu hp _ _) _
    · exact stepM 2 0 u r hu hp _ _ _ _ (fun l' => ld_half (e := .bf16) 2 u r l' hu hp _ _) _

theorem C_a (c : Dev nD) (t : Fin cfg0.N) (h0 : ¬t.val % 3 = 0) (h1 : ¬1 ≤ t.val / 3 % 11)
    (h2 : ¬t.val % 33 = 0) (h7 : t.val % 3 = 2)
    (u : Fin 3) (r : Fin 1024) (l : Fin 128) :
    (outsAt0 m c t.val t.isLt).2.2.2 (ix3 u r l)
      = if u.val = 0 then (outsAt0 m c (t.val - 1) (by have := t.isLt; omega)).2.2.2 (ix3 u r l)
      else newA 2816 le_rfl (fun a b d => (outsAt0 m c (t.val - 1) (by have := t.isLt; omega)).2.1 (ix3 a b d)) (iblk m c 1 t) (iblk m c 2 t) ((outsAt0 m c (t.val - 1) (by have := t.isLt; omega)).2.2.1) ((outsAt0 m c (t.val - 1) (by have := t.isLt; omega)).2.2.2) u r l := by
  rw [outsAt0_C m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · rw [if_pos hu]
    refine (read_pair_miss 2 u r l _ _ (by omega) _ _ _ _ _).trans ?_
    refine (read_pair_miss 1 u r l _ _ (by omega) _ _ _ _ _).trans ?_
    rw [View.writes_nil, read_unread_whole]
  · rw [if_neg (by omega)]
    refine (read_pair_miss 2 u r l _ _ (by omega) _ _ _ _ _).trans ?_
    refine read_pair 1 u r l _ _ hu _ _ _ _ _ _ (fun p hp => ?_) (fun p hp => ?_)
    · exact stepA 1 512 u r hu hp _ _ _ _ _ _ (fun l' => ld_half (e := .bf16) 1 u r l' hu hp _ _) _ _ 128 (by omega) l _
    · exact stepA 1 0 u r hu hp _ _ _ _ _ _ (fun l' => ld_half (e := .bf16) 1 u r l' hu hp _ _) _ _ 0 (by omega) l _
  · rw [if_neg (by omega)]
    refine read_pair 2 u r l _ _ hu _ _ _ _ _ _ (fun p hp => ?_) (fun p hp => ?_)
    · exact stepA 2 512 u r hu hp _ _ _ _ _ _ (fun l' => ld_half (e := .bf16) 2 u r l' hu hp _ _) _ _ 128 (by omega) l _
    · exact stepA 2 0 u r hu hp _ _ _ _ _ _ (fun l' => ld_half (e := .bf16) 2 u r l' hu hp _ _) _ _ 0 (by omega) l _

theorem C_out (c : Dev nD) (t : Fin cfg0.N) (h0 : ¬t.val % 3 = 0) (h1 : ¬1 ≤ t.val / 3 % 11)
    (h2 : ¬t.val % 33 = 0) (h7 : t.val % 3 = 2)
    (u : Fin 3) (a b : Fin 256) :
    (outsAt0 m c t.val t.isLt).1 (ix3 0 ⟨256 * u.val + a.val, by omega⟩ b)
      = finish (fun r l => if u.val = 0 then (outsAt0 m c (t.val - 1) (by have := t.isLt; omega)).2.2.2 (ix3 u r l)
        else newA 2816 le_rfl (fun a b d => (outsAt0 m c (t.val - 1) (by have := t.isLt; omega)).2.1 (ix3 a b d)) (iblk m c 1 t) (iblk m c 2 t) ((outsAt0 m c (t.val - 1) (by have := t.isLt; omega)).2.2.1) ((outsAt0 m c (t.val - 1) (by have := t.isLt; omega)).2.2.2) u r l) a b := by
  rw [outsAt0_C m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2, nO1, nO2]
  refine out_canon _ _ _ u a b _ _ _ _ (fun hu r l => ?_) (fun hu r l => ?_) (fun hu r l => ?_)
  · rw [if_neg (by omega)]
    refine (cov_load _ 2 u r l hu _ _).trans ?_
    refine canon_pair 2 u r l hu _ _ _ _ _ _ (fun p hp => ?_) (fun p hp => ?_)
    · exact stepA 2 512 u r hu hp _ _ _ _ _ _ (fun l' => ld_half (e := .bf16) 2 u r l' hu hp _ _) _ _ 128 (by omega) l _
    · exact stepA 2 0 u r hu hp _ _ _ _ _ _ (fun l' => ld_half (e := .bf16) 2 u r l' hu hp _ _) _ _ 0 (by omega) l _
  · rw [if_neg (by omega)]
    refine (cov_load _ 1 u r l hu _ _).trans ?_
    refine canon_pair 1 u r l hu _ _ _ _ _ _ (fun p hp => ?_) (fun p hp => ?_)
    · exact stepA 1 512 u r hu hp _ _ _ _ _ _ (fun l' => ld_half (e := .bf16) 1 u r l' hu hp _ _) _ _ 128 (by omega) l _
    · exact stepA 1 0 u r hu hp _ _ _ _ _ _ (fun l' => ld_half (e := .bf16) 1 u r l' hu hp _ _) _ _ 0 (by omega) l _
  · rw [if_pos hu]
    exact ld_stack 0 u r l hu _ _

end Cert.Kernel3Ideal.Attn

end
-- ==== Proof.AttnD.lean ====
/- The first point of a later row of the grid. -/
module

public import proofs.«01_k».proof.Proof.AttnPiece

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

variable (m : (ℓ : Loc nD τ sig) → Buf (Elt Ideal) ℓ)

theorem D_q (c : Dev nD) (t : Fin cfg0.N) (h0 : t.val % 3 = 0) (h1 : 1 ≤ t.val / 3 % 11)
    (h2 : ¬t.val % 33 = 0) (h7 : ¬t.val % 3 = 2)
    (u : Fin 3) (r : Fin 1024) (l : Fin 128) :
    (outsAt0 m c t.val t.isLt).2.1 (ix3 u r l) = stackOf (iblk m c 0 t) u r l := by
  rw [outsAt0_D m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  simp only [read_unread_whole, nM0, nM1, nM2, nM3, nM4, nM5, nA0, nA1, nA2, nA3, nA4, nA5, nQ1, nQ2]
  exact q_canon _ u r l _ _ _ _ _ _

theorem D_m (c : Dev nD) (t : Fin cfg0.N) (h0 : t.val % 3 = 0) (h1 : 1 ≤ t.val / 3 % 11)
    (h2 : ¬t.val % 33 = 0) (h7 : ¬t.val % 3 = 2)
    (u : Fin 3) (r : Fin 1024) :
    (outsAt0 m c t.val t.isLt).2.2.1 (ix3 u r 0)
      = newM 2816 le_rfl (stackOf (iblk m c 0 t)) (iblk m c 1 t) (k0_pay57) u r := by
  rw [outsAt0_D m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · refine (canon_pair_miss 2 u r 0 (by omega) _ _ _ _ _).trans ?_
    refine (canon_pair_miss 1 u r 0 (by omega) _ _ _ _ _).trans ?_
    refine canon_pair 0 u r 0 hu _ _ _ _ _ _ (fun p hp => ?_) (fun p hp => ?_)
    · exact stepM 0 512 u r hu hp _ _ _ _ (fun l' => q_load _ 0 512 0 u r p l' hu rfl hp _ _ _ _ _) _
    · exact stepM 0 0 u r hu hp _ _ _ _ (fun l' => q_load _ 0 0 0 u r p l' hu rfl hp _ _ _ _ _) _
  · refine (canon_pair_miss 2 u r 0 (by omega) _ _ _ _ _).trans ?_
    refine canon_pair 1 u r 0 hu _ _ _ _ _ _ (fun p hp => ?_) (fun p hp => ?_)
    · exact stepM 1 512 u r hu hp _ _ _ _ (fun l' => q_load _ 1 512 256 u r p l' hu rfl hp _ _ _ _ _) _
    · exact stepM 1 0 u r hu hp _ _ _ _ (fun l' => q_load _ 1 0 256 u r p l' hu rfl hp _ _ _ _ _) _
  · refine canon_pair 2 u r 0 hu _ _ _ _ _ _ (fun p hp => ?_) (fun p hp => ?_)
    · exact stepM 2 512 u r hu hp _ _ _ _ (fun l' => q_load _ 2 512 512 u r p l' hu rfl hp _ _ _ _ _) _
    · exact stepM 2 0 u r hu hp _ _ _ _ (fun l' => q_load _ 2 0 512 u r p l' hu rfl hp _ _ _ _ _) _

theorem D_a (c : Dev nD) (t : Fin cfg0.N) (h0 : t.val % 3 = 0) (h1 : 1 ≤ t.val / 3 % 11)
    (h2 : ¬t.val % 33 = 0) (h7 : ¬t.val % 3 = 2)
    (u : Fin 3) (r : Fin 1024) (l : Fin 128) :
    (outsAt0 m c t.val t.isLt).2.2.2 (ix3 u r l)
      = newA 2816 le_rfl (stackOf (iblk m c 0 t)) (iblk m c 1 t) (iblk m c 2 t) (k0_pay57) (k0_pay58) u r l := by
  rw [outsAt0_D m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · refine (canon_pair_miss 2 u r l (by omega) _ _ _ _ _).trans ?_
    refine (canon_pair_miss 1 u r l (by omega) _ _ _ _ _).trans ?_
    refine canon_pair 0 u r l hu _ _ _ _ _ _ (fun p hp => ?_) (fun p hp => ?_)
    · exact stepA 0 512 u r hu hp _ _ _ _ _ _ (fun l' => q_load _ 0 512 0 u r p l' hu rfl hp _ _ _ _ _) _ _ 128 (by omega) l _
    · exact stepA 0 0 u r hu hp _ _ _ _ _ _ (fun l' => q_load _ 0 0 0 u r p l' hu rfl hp _ _ _ _ _) _ _ 0 (by omega) l _
  · refine (canon_pair_miss 2 u r l (by omega) _ _ _ _ _).trans ?_
    refine canon_pair 1 u r l hu _ _ _ _ _ _ (fun p hp => ?_) (fun p hp => ?_)
    · exact stepA 1 512 u r hu hp _ _ _ _ _ _ (fun l' => q_load _ 1 512 256 u r p l' hu rfl hp _ _ _ _ _) _ _ 128 (by omega) l _
    · exact stepA 1 0 u r hu hp _ _ _ _ _ _ (fun l' => q_load _ 1 0 256 u r p l' hu rfl hp _ _ _ _ _) _ _ 0 (by omega) l _
  · refine canon_pair 2 u r l hu _ _ _ _ _ _ (fun p hp => ?_) (fun p hp => ?_)
    · exact stepA 2 512 u r hu hp _ _ _ _ _ _ (fun l' => q_load _ 2 512 512 u r p l' hu rfl hp _ _ _ _ _) _ _ 128 (by omega) l _
    · exact stepA 2 0 u r hu hp _ _ _ _ _ _ (fun l' => q_load _ 2 0 512 u r p l' hu rfl hp _ _ _ _ _) _ _ 0 (by omega) l _

end Cert.Kernel3Ideal.Attn

end
-- ==== Proof.AttnE.lean ====
/- The second point of a later row of the grid. -/
module

public import proofs.«01_k».proof.Proof.AttnPiece

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

variable (m : (ℓ : Loc nD τ sig) → Buf (Elt Ideal) ℓ)

theorem E_q (c : Dev nD) (t : Fin cfg0.N) (h0 : ¬t.val % 3 = 0) (h1 : 1 ≤ t.val / 3 % 11)
    (h2 : ¬t.val % 33 = 0) (h7 : ¬t.val % 3 = 2) :
    (outsAt0 m c t.val t.isLt).2.1 = (outsAt0 m c (t.val - 1) (by have := t.isLt; omega)).2.1 := by
  rw [outsAt0_E m c t h0 h1 h2 h7]
  dsimp only
  first
    | rfl
    | (frame_open; rfl)
    | (frame_open; frame_out; exact read_unread_whole _ _ _)

theorem E_m (c : Dev nD) (t : Fin cfg0.N) (h0 : ¬t.val % 3 = 0) (h1 : 1 ≤ t.val / 3 % 11)
    (h2 : ¬t.val % 33 = 0) (h7 : ¬t.val % 3 = 2)
    (u : Fin 3) (r : Fin 1024) :
    (outsAt0 m c t.val t.isLt).2.2.1 (ix3 u r 0)
      = newM 2816 le_rfl (fun a b d => (outsAt0 m c (t.val - 1) (by have := t.isLt; omega)).2.1 (ix3 a b d)) (iblk m c 1 t) ((outsAt0 m c (t.val - 1) (by have := t.isLt; omega)).2.2.1) u r := by
  rw [outsAt0_E m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · refine (canon_pair_miss 2 u r 0 (by omega) _ _ _ _ _).trans ?_
    refine (canon_pair_miss 1 u r 0 (by omega) _ _ _ _ _).trans ?_
    refine canon_pair 0 u r 0 hu _ _ _ _ _ _ (fun p hp => ?_) (fun p hp => ?_)
    · exact stepM 0 512 u r hu hp _ _ _ _ (fun l' => ld_half (e := .bf16) 0 u r l' hu hp _ _) _
    · exact stepM 0 0 u r hu hp _ _ _ _ (fun l' => ld_half (e := .bf16) 0 u r l' hu hp _ _) _
  · refine (canon_pair_miss 2 u r 0 (by omega) _ _ _ _ _).trans ?_
    refine canon_pair 1 u r 0 hu _ _ _ _ _ _ (fun p hp => ?_) (fun p hp => ?_)
    · exact stepM 1 512 u r hu hp _ _ _ _ (fun l' => ld_half (e := .bf16) 1 u r l' hu hp _ _) _
    · exact stepM 1 0 u r hu hp _ _ _ _ (fun l' => ld_half (e := .bf16) 1 u r l' hu hp _ _) _
  · refine canon_pair 2 u r 0 hu _ _ _ _ _ _ (fun p hp => ?_) (fun p hp => ?_)
    · exact stepM 2 512 u r hu hp _ _ _ _ (fun l' => ld_half (e := .bf16) 2 u r l' hu hp _ _) _
    · exact stepM 2 0 u r hu hp _ _ _ _ (fun l' => ld_half (e := .bf16) 2 u r l' hu hp _ _) _

theorem E_a (c : Dev nD) (t : Fin cfg0.N) (h0 : ¬t.val % 3 = 0) (h1 : 1 ≤ t.val / 3 % 11)
    (h2 : ¬t.val % 33 = 0) (h7 : ¬t.val % 3 = 2)
    (u : Fin 3) (r : Fin 1024) (l : Fin 128) :
    (outsAt0 m c t.val t.isLt).2.2.2 (ix3 u r l)
      = newA 2816 le_rfl (fun a b d => (outsAt0 m c (t.val - 1) (by have := t.isLt; omega)).2.1 (ix3 a b d)) (iblk m c 1 t) (iblk m c 2 t) ((outsAt0 m c (t.val - 1) (by have := t.isLt; omega)).2.2.1) ((outsAt0 m c (t.val - 1) (by have := t.isLt; omega)).2.2.2) u r l := by
  rw [outsAt0_E m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · refine (canon_pair_miss 2 u r l (by omega) _ _ _ _ _).trans ?_
    refine (canon_pair_miss 1 u r l (by omega) _ _ _ _ _).trans ?_
    refine canon_pair 0 u r l hu _ _ _ _ _ _ (fun p hp => ?_) (fun p hp => ?_)
    · exact stepA 0 512 u r hu hp _ _ _ _ _ _ (fun l' => ld_half (e := .bf16) 0 u r l' hu hp _ _) _ _ 128 (by omega) l _
    · exact stepA 0 0 u r hu hp _ _ _ _ _ _ (fun l' => ld_half (e := .bf16) 0 u r l' hu hp _ _) _ _ 0 (by omega) l _
  · refine (canon_pair_miss 2 u r l (by omega) _ _ _ _ _).trans ?_
    refine canon_pair 1 u r l hu _ _ _ _ _ _ (fun p hp => ?_) (fun p hp => ?_)
    · exact stepA 1 512 u r hu hp _ _ _ _ _ _ (fun l' => ld_half (e := .bf16) 1 u r l' hu hp _ _) _ _ 128 (by omega) l _
    · exact stepA 1 0 u r hu hp _ _ _ _ _ _ (fun l' => ld_half (e := .bf16) 1 u r l' hu hp _ _) _ _ 0 (by omega) l _
  · refine canon_pair 2 u r l hu _ _ _ _ _ _ (fun p hp => ?_) (fun p hp => ?_)
    · exact stepA 2 512 u r hu hp _ _ _ _ _ _ (fun l' => ld_half (e := .bf16) 2 u r l' hu hp _ _) _ _ 128 (by omega) l _
    · exact stepA 2 0 u r hu hp _ _ _ _ _ _ (fun l' => ld_half (e := .bf16) 2 u r l' hu hp _ _) _ _ 0 (by omega) l _

end Cert.Kernel3Ideal.Attn

end
-- ==== Proof.AttnF.lean ====
/- The last point of a later row of the grid. -/
module

public import proofs.«01_k».proof.Proof.AttnPiece

@[expose] public section

set_option maxRecDepth 16384

noncomputable section

open Idealize.ShloMosaic Idealize.ShloMosaic.TcCoe Idealize.SL.Sem

namespace Cert.Kernel3Ideal.Attn

open Cert.Kernel3Ideal Cert.Kernel3Ideal.Gen

variable (m : (ℓ : Loc nD τ sig) → Buf (Elt Ideal) ℓ)

theorem F_q (c : Dev nD) (t : Fin cfg0.N) (h0 : ¬t.val % 3 = 0) (h1 : 1 ≤ t.val / 3 % 11)
    (h2 : ¬t.val % 33 = 0) (h7 : t.val % 3 = 2) :
    (outsAt0 m c t.val t.isLt).2.1 = (outsAt0 m c (t.val - 1) (by have := t.isLt; omega)).2.1 := by
  rw [outsAt0_F m c t h0 h1 h2 h7]
  dsimp only
  first
    | rfl
    | (frame_open; rfl)
    | (frame_open; frame_out; exact read_unread_whole _ _ _)

theorem F_m (c : Dev nD) (t : Fin cfg0.N) (h0 : ¬t.val % 3 = 0) (h1 : 1 ≤ t.val / 3 % 11)
    (h2 : ¬t.val % 33 = 0) (h7 : t.val % 3 = 2)
    (u : Fin 3) (r : Fin 1024) :
    (outsAt0 m c t.val t.isLt).2.2.1 (ix3 u r 0)
      = newM 2816 le_rfl (fun a b d => (outsAt0 m c (t.val - 1) (by have := t.isLt; omega)).2.1 (ix3 a b d)) (iblk m c 1 t) ((outsAt0 m c (t.val - 1) (by have := t.isLt; omega)).2.2.1) u r := by
  rw [outsAt0_F m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · refine (canon_pair_miss 2 u r 0 (by omega) _ _ _ _ _).trans ?_
    refine (canon_pair_miss 1 u r 0 (by omega) _ _ _ _ _).trans ?_
    refine canon_pair 0 u r 0 hu _ _ _ _ _ _ (fun p hp => ?_) (fun p hp => ?_)
    · exact stepM 0 512 u r hu hp _ _ _ _ (fun l' => ld_half (e := .bf16) 0 u r l' hu hp _ _) _
    · exact stepM 0 0 u r hu hp _ _ _ _ (fun l' => ld_half (e := .bf16) 0 u r l' hu hp _ _) _
  · refine (canon_pair_miss 2 u r 0 (by omega) _ _ _ _ _).trans ?_
    refine canon_pair 1 u r 0 hu _ _ _ _ _ _ (fun p hp => ?_) (fun p hp => ?_)
    · exact stepM 1 512 u r hu hp _ _ _ _ (fun l' => ld_half (e := .bf16) 1 u r l' hu hp _ _) _
    · exact stepM 1 0 u r hu hp _ _ _ _ (fun l' => ld_half (e := .bf16) 1 u r l' hu hp _ _) _
  · refine canon_pair 2 u r 0 hu _ _ _ _ _ _ (fun p hp => ?_) (fun p hp => ?_)
    · exact stepM 2 512 u r hu hp _ _ _ _ (fun l' => ld_half (e := .bf16) 2 u r l' hu hp _ _) _
    · exact stepM 2 0 u r hu hp _ _ _ _ (fun l' => ld_half (e := .bf16) 2 u r l' hu hp _ _) _

theorem F_a (c : Dev nD) (t : Fin cfg0.N) (h0 : ¬t.val % 3 = 0) (h1 : 1 ≤ t.val / 3 % 11)
    (h2 : ¬t.val % 33 = 0) (h7 : t.val % 3 = 2)
    (u : Fin 3) (r : Fin 1024) (l : Fin 128) :
    (outsAt0 m c t.val t.isLt).2.2.2 (ix3 u r l)
      = newA 2816 le_rfl (fun a b d => (outsAt0 m c (t.val - 1) (by have := t.isLt; omega)).2.1 (ix3 a b d)) (iblk m c 1 t) (iblk m c 2 t) ((outsAt0 m c (t.val - 1) (by have := t.isLt; omega)).2.2.1) ((outsAt0 m c (t.val - 1) (by have := t.isLt; omega)).2.2.2) u r l := by
  rw [outsAt0_F m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2]
  have hu : u.val = 0 ∨ u.val = 1 ∨ u.val = 2 := by omega
  rcases hu with hu | hu | hu
  · refine (canon_pair_miss 2 u r l (by omega) _ _ _ _ _).trans ?_
    refine (canon_pair_miss 1 u r l (by omega) _ _ _ _ _).trans ?_
    refine canon_pair 0 u r l hu _ _ _ _ _ _ (fun p hp => ?_) (fun p hp => ?_)
    · exact stepA 0 512 u r hu hp _ _ _ _ _ _ (fun l' => ld_half (e := .bf16) 0 u r l' hu hp _ _) _ _ 128 (by omega) l _
    · exact stepA 0 0 u r hu hp _ _ _ _ _ _ (fun l' => ld_half (e := .bf16) 0 u r l' hu hp _ _) _ _ 0 (by omega) l _
  · refine (canon_pair_miss 2 u r l (by omega) _ _ _ _ _).trans ?_
    refine canon_pair 1 u r l hu _ _ _ _ _ _ (fun p hp => ?_) (fun p hp => ?_)
    · exact stepA 1 512 u r hu hp _ _ _ _ _ _ (fun l' => ld_half (e := .bf16) 1 u r l' hu hp _ _) _ _ 128 (by omega) l _
    · exact stepA 1 0 u r hu hp _ _ _ _ _ _ (fun l' => ld_half (e := .bf16) 1 u r l' hu hp _ _) _ _ 0 (by omega) l _
  · refine canon_pair 2 u r l hu _ _ _ _ _ _ (fun p hp => ?_) (fun p hp => ?_)
    · exact stepA 2 512 u r hu hp _ _ _ _ _ _ (fun l' => ld_half (e := .bf16) 2 u r l' hu hp _ _) _ _ 128 (by omega) l _
    · exact stepA 2 0 u r hu hp _ _ _ _ _ _ (fun l' => ld_half (e := .bf16) 2 u r l' hu hp _ _) _ _ 0 (by omega) l _

theorem F_out (c : Dev nD) (t : Fin cfg0.N) (h0 : ¬t.val % 3 = 0) (h1 : 1 ≤ t.val / 3 % 11)
    (h2 : ¬t.val % 33 = 0) (h7 : t.val % 3 = 2)
    (u : Fin 3) (a b : Fin 256) :
    (outsAt0 m c t.val t.isLt).1 (ix3 0 ⟨256 * u.val + a.val, by omega⟩ b)
      = finish (fun r l => newA 2816 le_rfl (fun a b d => (outsAt0 m c (t.val - 1) (by have := t.isLt; omega)).2.1 (ix3 a b d)) (iblk m c 1 t) (iblk m c 2 t) ((outsAt0 m c (t.val - 1) (by have := t.isLt; omega)).2.2.1) ((outsAt0 m c (t.val - 1) (by have := t.isLt; omega)).2.2.2) u r l) a b := by
  rw [outsAt0_F m c t h0 h1 h2 h7]
  dsimp only
  frame_open
  simp (disch := decide) only [↓ View.readCov_skip, ↓ View.readCov_cons_toLoadRect, ↓ View.readCov_fill]
  frame_out
  generalize iblk m c 0 t = Q, iblk m c 1 t = K, iblk m c 2 t = V
  generalize (outsAt0 m c (t.val - 1) (by have := t.isLt; omega)).2.1 = x0,
    (outsAt0 m c (t.val - 1) (by have := t.isLt; omega)).2.2.1 = x1, (outsAt0 m c (t.val - 1) (by have := t.isLt; omega)).2.2.2 = x2
  simp only [read_unread_whole, nM0, nM1, nM2, nM3, nM4, nM5, nA0, nA1, nA2, nA3, nA4, nA5, nQ1, nQ2, nO1, nO2]
  refine out_canon _ _ _ u a b _ _ _ _ (fun hu r l => ?_) (fun hu r l => ?_) (fun hu r l => ?_)
  · refine (cov_load _ 2 u r l hu _ _).trans ?_
    refine canon_pair 2 u r l hu _ _ _ _ _ _ (fun p hp => ?_) (fun p hp => ?_)
    · exact stepA 2 512 u r hu hp _ _ _ _ _ _ (fun l' => ld_half (e := .bf16) 2 u r l' hu hp _ _) _ _ 128 (by omega) l _
    · exact stepA 2 0 u r hu hp _ _ _ _ _ _ (fun l' => ld_half (e := .bf16) 2 u r l' hu hp _ _) _ _ 0 (by omega) l _
  · refine (cov_load _ 1 u r l hu _ _).trans ?_
    refine canon_pair 1 u r l hu _ _ _ _ _ _ (fun p hp => ?_) (fun p hp => ?_)
    · exact stepA 1 512 u r hu hp _ _ _ _ _ _ (fun l' => ld_half (e := .bf16) 1 u r l' hu hp _ _) _ _ 128 (by omega) l _
    · exact stepA 1 0 u r hu hp _ _ _ _ _ _ (fun l' => ld_half (e := .bf16) 1 u r l' hu hp _ _) _ _ 0 (by omega) l _
  · refine (cov_load _ 0 u r l hu _ _).trans ?_
    refine canon_pair 0 u r l hu _ _ _ _ _ _ (fun p hp => ?_) (fun p hp => ?_)
    · exact stepA 0 512 u r hu hp _ _ _ _ _ _ (fun l' => ld_half (e := .bf16) 0 u r l' hu hp _ _) _ _ 128 (by omega) l _
    · exact stepA 0 0 u r hu hp _ _ _ _ _ _ (fun l' => ld_half (e := .bf16) 0 u r l' hu hp _ _) _ _ 0 (by omega) l _

end Cert.Kernel3Ideal.Attn

end
-- ==== Proof.AttnFold.lean ====
/- What the carried arrays of the attention grid hold after each point: the running maximum and the weighted sums over the keys seen so far. -/
module

public import proofs.«01_k».proof.Proof.AttnRow
public import proofs.«01_k».proof.Proof.AttnBlock
public import proofs.«01_k».proof.Proof.AttnA
public import proofs.«01_k».proof.Proof.AttnB
public import proofs.«01_k».proof.Proof.AttnC
public import proofs.«01_k».proof.Proof.AttnD
public import proofs.«01_k».proof.Proof.AttnE
public import proofs.«01_k».proof.Proof.AttnF

@[expose] public section

set_option maxRecDepth 16384

noncomputable section

open Idealize.ShloMosaic Idealize.ShloMosaic.TcCoe Idealize.SL.Sem
open Cert.AttnMath

namespace Cert.Kernel3Ideal.Attn

open Cert.Kernel3Ideal Cert.Kernel3Ideal.Gen

/-! ## One step, as a step of `top` and `wsum` -/

theorem newM_top (n k : ℕ) (hk : k ≤ 2816) (q : Fin 3 → Fin 1024 → Fin 128 → EReal) (K : FVec Ideal S1x2816x128 .bf16) (mx : FVec Ideal S3x1024x1 .f32)
    (u : Fin 3) (r : Fin 1024) (s : ℕ → EReal) (hm : mx (ix3 u r 0) = top s n) (hs : ∀ x : Fin k, score q K u r (x.castLE hk) = s (n + x.val)) :
    newM k hk q K mx u r = top s (n + k) := by
  unfold newM
  rw [hm, top_add]
  simp only [hs]

theorem newA_wsum (n k : ℕ) (hk : k ≤ 2816) (q : Fin 3 → Fin 1024 → Fin 128 → EReal) (K : FVec Ideal S1x2816x128 .bf16) (V : FVec Ideal S1x2816x256 .bf16)
    (mx : FVec Ideal S3x1024x1 .f32) (ac : FVec Ideal S3x1024x128 .f32) (u : Fin 3) (r : Fin 1024) (l : Fin 128) (s v : ℕ → EReal)
    (hm : mx (ix3 u r 0) = top s n) (ha : ac (ix3 u r l) = wsum s v n) (hs : ∀ x : Fin k, score q K u r (x.castLE hk) = s (n + x.val))
    (hv : ∀ x : Fin k, V (ix3 0 (x.castLE hk) ⟨r.val / 512 * 128 + l.val, by omega⟩) = v (n + x.val)) :
    newA k hk q K V mx ac u r l = wsum s v (n + k) := by
  unfold newA
  rw [newM_top n k hk q K mx u r s hm hs, hm, ha, wsum_add]
  simp only [hs, hv]

/-- A zeroed lane adds nothing to a score. -/
theorem lanes (Q : Fin 256 → Fin 256 → EReal) (r : Fin 1024) (k : Fin 128 → EReal) :
    ∑ l : Fin 128, stacked Q r l * k l
      = ∑ d : Fin 64, Q ⟨r.val % 256, by omega⟩ ⟨r.val / 256 % 2 * 128 + r.val / 512 * 64 + d.val, by omega⟩ * k ⟨r.val / 512 * 64 + d.val, by omega⟩ := by
  have e := Fin.sum_univ_add (a := 64) (b := 64) (fun l : Fin 128 => stacked Q r l * k l)
  refine e.trans ?_
  by_cases h : r.val < 512
  · have z : ∑ i : Fin 64, stacked Q r (Fin.natAdd 64 i) * k (Fin.natAdd 64 i) = 0 := Finset.sum_eq_zero fun i _ => by
      have hi : ¬ ((Fin.natAdd 64 i : Fin 128).val < 64 ↔ r.val < 512) := by simp only [Fin.val_natAdd]; omega
      unfold stacked
      rw [if_neg hi, zero_mul]
    refine (congrArg (_ + ·) z).trans ((add_zero _).trans (Finset.sum_congr rfl fun i _ => ?_))
    have hi : ((Fin.castAdd 64 i : Fin 128).val < 64 ↔ r.val < 512) := by simp only [Fin.val_castAdd]; omega
    show stacked Q r (Fin.castAdd 64 i) * k (Fin.castAdd 64 i) = _
    unfold stacked
    rw [if_pos hi]
    exact congrArg₂ (· * ·) (congrArg (Q _) (Fin.ext (by simp only [Fin.val_castAdd]; omega))) (congrArg k (Fin.ext (by simp only [Fin.val_castAdd]; omega)))
  · have z : ∑ i : Fin 64, stacked Q r (Fin.castAdd 64 i) * k (Fin.castAdd 64 i) = 0 := Finset.sum_eq_zero fun i _ => by
      have hi : ¬ ((Fin.castAdd 64 i : Fin 128).val < 64 ↔ r.val < 512) := by simp only [Fin.val_castAdd]; omega
      unfold stacked
      rw [if_neg hi, zero_mul]
    refine (congrArg (· + _) z).trans ((zero_add _).trans (Finset.sum_congr rfl fun i _ => ?_))
    have hi : ((Fin.natAdd 64 i : Fin 128).val < 64 ↔ r.val < 512) := by simp only [Fin.val_natAdd]; omega
    show stacked Q r (Fin.natAdd 64 i) * k (Fin.natAdd 64 i) = _
    unfold stacked
    rw [if_pos hi]
    exact congrArg₂ (· * ·) (congrArg (Q _) (Fin.ext (by simp only [Fin.val_natAdd]; omega))) (congrArg k (Fin.ext (by simp only [Fin.val_natAdd]; omega)))

variable (m : (ℓ : Loc nD τ sig) → Buf (Elt Ideal) ℓ)

/-! ## The scores and values that stacked row `(u, r)` of a point's tile sees -/

def gOf (r : Fin 1024) : Fin 2 := ⟨r.val / 256 % 2, by omega⟩
def hOf (r : Fin 1024) : Fin 2 := ⟨r.val / 512, by omega⟩

/-- The scores of a stacked row, over all keys. -/
def sAt (c : Dev nD) (t : Fin cfg0.N) (u : Fin 3) (r : Fin 1024) : ℕ → EReal :=
  scores (m ((c : Thread nD τ).loc main_arg0)) (m ((c : Thread nD τ).loc main_arg1)) (batch t) (qRow t ⟨256 * u.val + r.val % 256, by omega⟩) (gOf r) (hOf r)

/-- The values in a lane of a stacked row: its head's, or ones. -/
def vAt (c : Dev nD) (t : Fin cfg0.N) (r : Fin 1024) (l : Fin 128) : ℕ → EReal :=
  if l.val / 64 = r.val / 512 then values (m ((c : Thread nD τ).loc main_arg2)) (batch t) (hOf r) ⟨l.val % 64, by omega⟩ else fun _ => 1

theorem score_tile (c : Dev nD) (t : Fin cfg0.N) (u : Fin 3) (r : Fin 1024) (x : Fin 2816) :
    score (stackOf (iblk m c 0 t)) (iblk m c 1 t) u r x = sAt m c t u r (t.val % 3 * 2816 + x.val) := by
  unfold score stackOf
  rw [lanes]
  unfold sAt scores
  rw [dif_pos (by omega)]
  refine Finset.sum_congr rfl fun d _ => ?_
  exact congrArg₂ (· * ·) (blk0 m c t _ _) (blk1 m c t x _)

theorem v_tile (c : Dev nD) (t : Fin cfg0.N) (r : Fin 1024) (l : Fin 128) (x : Fin 2816) :
    iblk m c 2 t (ix3 0 x ⟨r.val / 512 * 128 + l.val, by omega⟩) = vAt m c t r l (t.val % 3 * 2816 + x.val) := by
  refine (blk2 m c t x (hOf r) l).trans ?_
  unfold vAt
  by_cases h : l.val / 64 = r.val / 512
  · rw [if_pos h]
    refine (if_pos h).trans ?_
    unfold values
    rw [dif_pos (by omega)]
    exact congrArg (m ((c : Thread nD τ).loc main_arg2)) (congrArg (ix3 (batch t) (key t x)) (Fin.ext (by show l.val = r.val / 512 * 64 + l.val % 64; omega)))
  · rw [if_neg h]
    exact if_neg h

/-- Points of one tile see the same queries and values. -/
theorem batch_pred (t s : Fin cfg0.N) (h : s.val / 3 = t.val / 3) : batch s = batch t := Fin.ext (by show s.val / 33 = t.val / 33; omega)

theorem qRow_pred (t s : Fin cfg0.N) (h : s.val / 3 = t.val / 3) (r : Fin 768) : qRow s r = qRow t r :=
  Fin.ext (by show s.val / 3 % 11 * 768 + r.val = t.val / 3 % 11 * 768 + r.val; rw [h])

theorem sAt_pred (c : Dev nD) (t s : Fin cfg0.N) (h : s.val / 3 = t.val / 3) (u : Fin 3) (r : Fin 1024) : sAt m c s u r = sAt m c t u r := by
  unfold sAt; rw [batch_pred t s h, qRow_pred t s h]

theorem vAt_pred (c : Dev nD) (t s : Fin cfg0.N) (h : s.val / 3 = t.val / 3) (r : Fin 1024) (l : Fin 128) : vAt m c s r l = vAt m c t r l := by
  unfold vAt; rw [batch_pred t s h]

theorem stack_pred (c : Dev nD) (t s : Fin cfg0.N) (h : s.val / 3 = t.val / 3) (u : Fin 3) (r : Fin 1024) (l : Fin 128) :
    stackOf (iblk m c 0 s) u r l = stackOf (iblk m c 0 t) u r l := by
  unfold stackOf
  refine congrArg (fun q => stacked q r l) (funext fun a => funext fun b => ?_)
  refine (blk0 m c s _ b).trans (Eq.trans ?_ (blk0 m c t _ b).symm)
  rw [batch_pred t s h, qRow_pred t s h]

/-! ## The carried arrays -/

/-- After point `t` the carried queries are the tile's. -/
def QInv (c : Dev nD) (t : Fin cfg0.N) : Prop := ∀ u r l, (outsAt0 m c t.val t.isLt).2.1 (ix3 u r l) = stackOf (iblk m c 0 t) u r l

/-- After point `t` row `(u, r)` of the carried maximum and sums are those of the first `n` keys. -/
def Inv (c : Dev nD) (t : Fin cfg0.N) (u : Fin 3) (r : Fin 1024) (n : ℕ) : Prop :=
  (outsAt0 m c t.val t.isLt).2.2.1 (ix3 u r 0) = top (sAt m c t u r) n
    ∧ ∀ l, (outsAt0 m c t.val t.isLt).2.2.2 (ix3 u r l) = wsum (sAt m c t u r) (vAt m c t r l) n

section First

variable (c : Dev nD) (t : Fin cfg0.N) (u : Fin 3) (r : Fin 1024) (k : ℕ) (hk : k ≤ 2816) (h0 : t.val % 3 = 0)

include h0

theorem first_m : newM k hk (stackOf (iblk m c 0 t)) (iblk m c 1 t) k0_pay57 u r = top (sAt m c t u r) k := by
  rw [newM_top 0 k hk _ _ _ u r (sAt m c t u r) (pay57_at _) (fun x => by
    rw [score_tile m c t u r (x.castLE hk), h0]; exact congrArg _ (by simp)), Nat.zero_add]

theorem first_a (l : Fin 128) : newA k hk (stackOf (iblk m c 0 t)) (iblk m c 1 t) (iblk m c 2 t) k0_pay57 k0_pay58 u r l
    = wsum (sAt m c t u r) (vAt m c t r l) k := by
  rw [newA_wsum 0 k hk _ _ _ _ _ u r l (sAt m c t u r) (vAt m c t r l) (pay57_at _) (pay58_at _) (fun x => by
    rw [score_tile m c t u r (x.castLE hk), h0]; exact congrArg _ (by simp)) (fun x => by
    rw [v_tile m c t r l (x.castLE hk), h0]; exact congrArg _ (by simp)), Nat.zero_add]

end First

section Next

variable (c : Dev nD) (t : Fin cfg0.N) (u : Fin 3) (r : Fin 1024) (h0 : ¬ t.val % 3 = 0) (n : ℕ) (hn : n = t.val % 3 * 2816)
  (hq : QInv m c ⟨t.val - 1, by have := t.isLt; omega⟩) (hi : Inv m c ⟨t.val - 1, by have := t.isLt; omega⟩ u r n)

include h0 hn hq hi

theorem next_score (x : Fin 2816) :
    score (fun a b d => (outsAt0 m c (t.val - 1) (by have := t.isLt; omega)).2.1 (ix3 a b d)) (iblk m c 1 t) u r x = sAt m c t u r (n + x.val) := by
  rw [hn, ← score_tile]
  refine Finset.sum_congr rfl fun l _ => congrArg (· * _) ?_
  exact (hq u r l).trans (stack_pred m c t ⟨t.val - 1, by have := t.isLt; omega⟩ (by show (t.val - 1) / 3 = t.val / 3; omega) u r l)

theorem next_m : newM 2816 le_rfl (fun a b d => (outsAt0 m c (t.val - 1) (by have := t.isLt; omega)).2.1 (ix3 a b d)) (iblk m c 1 t)
    ((outsAt0 m c (t.val - 1) (by have := t.isLt; omega)).2.2.1) u r = top (sAt m c t u r) (n + 2816) :=
  newM_top n 2816 le_rfl _ _ _ u r (sAt m c t u r)
    (hi.1.trans (by rw [sAt_pred m c t ⟨t.val - 1, by have := t.isLt; omega⟩ (by show (t.val - 1) / 3 = t.val / 3; omega)]))
    (fun x => next_score m c t u r h0 n hn hq hi x)

theorem next_a (l : Fin 128) : newA 2816 le_rfl (fun a b d => (outsAt0 m c (t.val - 1) (by have := t.isLt; omega)).2.1 (ix3 a b d)) (iblk m c 1 t) (iblk m c 2 t)
    ((outsAt0 m c (t.val - 1) (by have := t.isLt; omega)).2.2.1) ((outsAt0 m c (t.val - 1) (by have := t.isLt; omega)).2.2.2) u r l
    = wsum (sAt m c t u r) (vAt m c t r l) (n + 2816) :=
  newA_wsum n 2816 le_rfl _ _ _ _ _ u r l (sAt m c t u r) (vAt m c t r l)
    (hi.1.trans (by rw [sAt_pred m c t ⟨t.val - 1, by have := t.isLt; omega⟩ (by show (t.val - 1) / 3 = t.val / 3; omega)]))
    ((hi.2 l).trans (by rw [sAt_pred m c t ⟨t.val - 1, by have := t.isLt; omega⟩ (by show (t.val - 1) / 3 = t.val / 3; omega),
      vAt_pred m c t ⟨t.val - 1, by have := t.isLt; omega⟩ (by show (t.val - 1) / 3 = t.val / 3; omega)]))
    (fun x => next_score m c t u r h0 n hn hq hi x)
    (fun x => by rw [hn]; exact v_tile m c t r l x)

end Next

/-- How many keys row group `u` of point `t`'s tile has seen once the point is done. -/
def count (t : Fin cfg0.N) (u : Fin 3) : ℕ := if t.val / 3 % 11 = 0 ∧ u.val = 0 then 256 else t.val % 3 * 2816 + 2816

theorem inv0 (c : Dev nD) (t : Fin cfg0.N) (h0 : t.val % 3 = 0) : QInv m c t ∧ ∀ u r, Inv m c t u r (count t u) := by
  have ht := t_lt t
  by_cases h1 : 1 ≤ t.val / 3 % 11
  · have h2 : ¬ t.val % 33 = 0 := by omega
    have h7 : ¬ t.val % 3 = 2 := by omega
    refine ⟨fun u r l => D_q m c t h0 h1 h2 h7 u r l, fun u r => ?_⟩
    have hc : count t u = 2816 := by unfold count; rw [if_neg (by omega), h0, Nat.zero_mul, Nat.zero_add]
    rw [hc]
    exact ⟨(D_m m c t h0 h1 h2 h7 u r).trans (first_m m c t u r _ _ h0), fun l => (D_a m c t h0 h1 h2 h7 u r l).trans (first_a m c t u r _ _ h0 l)⟩
  · have h2 : t.val % 33 = 0 := by omega
    have h7 : ¬ t.val % 3 = 2 := by omega
    refine ⟨fun u r l => A_q m c t h0 h1 h2 h7 u r l, fun u r => ?_⟩
    by_cases hu : u.val = 0
    · have hc : count t u = 256 := by unfold count; rw [if_pos (by omega)]
      rw [hc]
      exact ⟨(A_m m c t h0 h1 h2 h7 u r).trans ((if_pos hu).trans (first_m m c t u r _ _ h0)),
        fun l => (A_a m c t h0 h1 h2 h7 u r l).trans ((if_pos hu).trans (first_a m c t u r _ _ h0 l))⟩
    · have hc : count t u = 2816 := by unfold count; rw [if_neg (by omega), h0, Nat.zero_mul, Nat.zero_add]
      rw [hc]
      exact ⟨(A_m m c t h0 h1 h2 h7 u r).trans ((if_neg hu).trans (first_m m c t u r _ _ h0)),
        fun l => (A_a m c t h0 h1 h2 h7 u r l).trans ((if_neg hu).trans (first_a m c t u r _ _ h0 l))⟩

theorem inv1 (c : Dev nD) (t : Fin cfg0.N) (h : t.val % 3 = 1) : QInv m c t ∧ ∀ u r, Inv m c t u r (count t u) := by
  have ht := t_lt t
  have h0 : ¬ t.val % 3 = 0 := by omega
  have h2 : ¬ t.val % 33 = 0 := by omega
  have h7 : ¬ t.val % 3 = 2 := by omega
  have hp : (t.val - 1) / 3 = t.val / 3 := by omega
  obtain ⟨hq, hi⟩ := inv0 m c ⟨t.val - 1, by have := t.isLt; omega⟩ (by show (t.val - 1) % 3 = 0; omega)
  by_cases h1 : 1 ≤ t.val / 3 % 11
  · refine ⟨fun u r l => (congrFun (E_q m c t h0 h1 h2 h7) _).trans ((hq u r l).trans (stack_pred m c t _ hp u r l)), fun u r => ?_⟩
    have hc : count t u = 2816 + 2816 := by unfold count; rw [if_neg (by omega), h]
    have hi' := hi u r
    have hc' : count ⟨t.val - 1, by have := t.isLt; omega⟩ u = 2816 := by
      unfold count; rw [if_neg (by dsimp only; omega)]; dsimp only; omega
    rw [hc'] at hi'
    rw [hc]
    exact ⟨(E_m m c t h0 h1 h2 h7 u r).trans (next_m m c t u r h0 2816 (by omega) hq hi'),
      fun l => (E_a m c t h0 h1 h2 h7 u r l).trans (next_a m c t u r h0 2816 (by omega) hq hi' l)⟩
  · refine ⟨fun u r l => (congrFun (B_q m c t h0 h1 h2 h7) _).trans ((hq u r l).trans (stack_pred m c t _ hp u r l)), fun u r => ?_⟩
    have hi' := hi u r
    by_cases hu : u.val = 0
    · have hc : count t u = 256 := by unfold count; rw [if_pos (by omega)]
      have hc' : count ⟨t.val - 1, by have := t.isLt; omega⟩ u = 256 := by unfold count; rw [if_pos (by dsimp only; omega)]
      rw [hc'] at hi'
      rw [hc]
      exact ⟨(B_m m c t h0 h1 h2 h7 u r).trans ((if_pos hu).trans (hi'.1.trans (by rw [sAt_pred m c t _ hp]))),
        fun l => (B_a m c t h0 h1 h2 h7 u r l).trans ((if_pos hu).trans ((hi'.2 l).trans (by rw [sAt_pred m c t _ hp, vAt_pred m c t _ hp])))⟩
    · have hc : count t u = 2816 + 2816 := by unfold count; rw [if_neg (by omega), h]
      have hc' : count ⟨t.val - 1, by have := t.isLt; omega⟩ u = 2816 := by
        unfold count; rw [if_neg (by dsimp only; omega)]; dsimp only; omega
      rw [hc'] at hi'
      rw [hc]
      exact ⟨(B_m m c t h0 h1 h2 h7 u r).trans ((if_neg hu).trans (next_m m c t u r h0 2816 (by omega) hq hi')),
        fun l => (B_a m c t h0 h1 h2 h7 u r l).trans ((if_neg hu).trans (next_a m c t u r h0 2816 (by omega) hq hi' l))⟩

/-! ## The output tile -/

/-- A finished stack, column by column: the weighted mean of the head's values. -/
theorem finish_soft (c : Dev nD) (t : Fin cfg0.N) (u : Fin 3) (a : Fin 256) (g h : Fin 2) (d : Fin 64) (n : ℕ) :
    finish (fun r l => wsum (sAt m c t u r) (vAt m c t r l) n) a ⟨g.val * 128 + h.val * 64 + d.val, by omega⟩
      = soft (scores (m ((c : Thread nD τ).loc main_arg0)) (m ((c : Thread nD τ).loc main_arg1)) (batch t) (qRow t ⟨256 * u.val + a.val, by omega⟩) g h)
          (values (m ((c : Thread nD τ).loc main_arg2)) (batch t) h d) n := by
  have main : ∀ (R : Fin 1024) (l l' : Fin 128), R.val = h.val * 512 + g.val * 256 + a.val → l.val = h.val * 64 + d.val → l'.val = (1 - h.val) * 64 + d.val →
      Ideal.div (wsum (sAt m c t u R) (vAt m c t R l) n) (wsum (sAt m c t u R) (vAt m c t R l') n)
        = soft (scores (m ((c : Thread nD τ).loc main_arg0)) (m ((c : Thread nD τ).loc main_arg1)) (batch t) (qRow t ⟨256 * u.val + a.val, by omega⟩) g h)
          (values (m ((c : Thread nD τ).loc main_arg2)) (batch t) h d) n := by
    intro R l l' hR hl hl'
    have e1 : gOf R = g := Fin.ext (by show R.val / 256 % 2 = g.val; omega)
    have e2 : hOf R = h := Fin.ext (by show R.val / 512 = h.val; omega)
    have e3 : (⟨256 * u.val + R.val % 256, by omega⟩ : Fin 768) = ⟨256 * u.val + a.val, by omega⟩ := Fin.ext (by show 256 * u.val + R.val % 256 = 256 * u.val + a.val; omega)
    have e4 : (⟨l.val % 64, by omega⟩ : Fin 64) = d := Fin.ext (by show l.val % 64 = d.val; omega)
    unfold soft sAt vAt
    rw [if_pos (by omega), if_neg (by omega), e1, e2, e3, e4]
  exact main _ _ _ (by show (g.val * 128 + h.val * 64 + d.val) % 128 / 64 * 512 + (g.val * 128 + h.val * 64 + d.val) / 128 * 256 + a.val = _; omega)
    (by show (g.val * 128 + h.val * 64 + d.val) % 128 = _; omega) (by show (g.val * 128 + h.val * 64 + d.val + 64) % 128 = _; omega)

/-- What a tile's last point leaves in the output block. -/
theorem out_soft (c : Dev nD) (t : Fin cfg0.N) (h7 : t.val % 3 = 2) (u : Fin 3) (a : Fin 256) (g h : Fin 2) (d : Fin 64) :
    (outsAt0 m c t.val t.isLt).1 (ix3 0 ⟨256 * u.val + a.val, by omega⟩ ⟨g.val * 128 + h.val * 64 + d.val, by omega⟩)
      = attn (m ((c : Thread nD τ).loc main_arg0)) (m ((c : Thread nD τ).loc main_arg1)) (m ((c : Thread nD τ).loc main_arg2)) (batch t)
          (qRow t ⟨256 * u.val + a.val, by omega⟩) g h d := by
  have ht := t_lt t
  have h0 : ¬ t.val % 3 = 0 := by omega
  have h2 : ¬ t.val % 33 = 0 := by omega
  have hp : (t.val - 1) / 3 = t.val / 3 := by omega
  obtain ⟨hq, hi⟩ := inv1 m c ⟨t.val - 1, by have := t.isLt; omega⟩ (by show (t.val - 1) % 3 = 1; omega)
  unfold attn
  by_cases hu : t.val / 3 % 11 = 0 ∧ u.val = 0
  · have hs : seen (qRow t ⟨256 * u.val + a.val, by omega⟩) = 256 := if_pos (by show t.val / 3 % 11 * 768 + (256 * u.val + a.val) < 256; omega)
    rw [hs, ← finish_soft]
    refine (C_out m c t h0 (by omega) h2 h7 u a _).trans (congrArg (fun X => finish X a _) (funext fun r => funext fun l => ?_))
    have hi' := hi u r
    have hc' : count ⟨t.val - 1, by have := t.isLt; omega⟩ u = 256 := by unfold count; rw [if_pos (by dsimp only; omega)]
    rw [hc'] at hi'
    exact (if_pos hu.2).trans ((hi'.2 l).trans (by rw [sAt_pred m c t _ hp, vAt_pred m c t _ hp]))
  · have hs : seen (qRow t ⟨256 * u.val + a.val, by omega⟩) = 8448 := if_neg (by show ¬ t.val / 3 % 11 * 768 + (256 * u.val + a.val) < 256; omega)
    have hc' : count ⟨t.val - 1, by have := t.isLt; omega⟩ u = 5632 := by
      unfold count; rw [if_neg (by dsimp only; omega)]; dsimp only; omega
    rw [hs, ← finish_soft]
    by_cases h1 : 1 ≤ t.val / 3 % 11
    · refine (F_out m c t h0 h1 h2 h7 u a _).trans (congrArg (fun X => finish X a _) (funext fun r => funext fun l => ?_))
      have hi' := hi u r
      rw [hc'] at hi'
      exact next_a m c t u r h0 5632 (by omega) hq hi' l
    · refine (C_out m c t h0 h1 h2 h7 u a _).trans (congrArg (fun X => finish X a _) (funext fun r => funext fun l => ?_))
      have hi' := hi u r
      rw [hc'] at hi'
      exact (if_neg (by omega)).trans (next_a m c t u r h0 5632 (by omega) hq hi' l)

end Cert.Kernel3Ideal.Attn

end
-- ==== Proof.AttnValue.lean ====
/- What the attention kernel's result array holds after its run. -/
module

public import proofs.«01_k».proof.Proof.AttnFold

@[expose] public section

set_option maxRecDepth 16384

noncomputable section

open Idealize.ShloMosaic Idealize.ShloMosaic.TcCoe Idealize.SL.Sem
open Idealize.ShloMosaic.Pipeline (Dat)
open Cert.AttnMath

namespace Cert.Kernel3Ideal.Attn

open Cert.Kernel3Ideal Cert.Kernel3Ideal.Gen

variable (m : (ℓ : Loc nD τ sig) → Buf (Elt Ideal) ℓ)

/-- An array that holds the attention at every row and column is the result array after the kernel's run. -/
theorem final (c : Dev nD) (R : FVec Ideal S2x8448x256 .bf16)
    (hR : ∀ (b : Fin 2) (i : Fin 8448) (g h : Fin 2) (d : Fin 64), R (ix3 b i ⟨g.val * 128 + h.val * 64 + d.val, by omega⟩)
      = attn (m ((c : Thread nD τ).loc main_arg0)) (m ((c : Thread nD τ).loc main_arg1)) (m ((c : Thread nD τ).loc main_arg2)) b i g h d) :
    (dats m 0 c).arrAt 3 cfg0.N = R := by
  refine (dats m 0 c).arrAt_eq_of_covers 3 _ (by decide +kernel) fun t hf y => ?_
  obtain ⟨z, r, l, rfl⟩ : ∃ (z : Fin 1) (r : Fin 768) (l : Fin 256), y = ix3 z r l := ⟨y 0, y 1, y 2, eq_ix3 y⟩
  obtain rfl : z = 0 := Subsingleton.elim _ _
  rw [emb3]
  have h7 : t.val % 3 = 2 := (flush0_3 t).mp hf
  have er : r = ⟨256 * (r.val / 256) + r.val % 256, by omega⟩ := Fin.ext (by show r.val = 256 * (r.val / 256) + r.val % 256; omega)
  have el : l = ⟨l.val / 128 * 128 + l.val % 128 / 64 * 64 + l.val % 64, by omega⟩ := Fin.ext (by
    show l.val = l.val / 128 * 128 + l.val % 128 / 64 * 64 + l.val % 64; omega)
  have key := out_soft m c t h7 ⟨r.val / 256, by omega⟩ ⟨r.val % 256, by omega⟩ ⟨l.val / 128, by omega⟩ ⟨l.val % 128 / 64, by omega⟩ ⟨l.val % 64, by omega⟩
  have hR' := hR (batch t) (qRow t ⟨256 * (r.val / 256) + r.val % 256, by omega⟩) ⟨l.val / 128, by omega⟩ ⟨l.val % 128 / 64, by omega⟩ ⟨l.val % 64, by omega⟩
  dsimp only at key hR'
  rw [← er, ← el] at key
  rw [← er, ← el] at hR'
  refine Eq.trans ?_ (key.trans hR'.symm)
  blk_simp
  rw [after0_3]

end Cert.Kernel3Ideal.Attn

end
-- ==== Proof.AttnRef.lean ====
/- The attention reference's result, piece by piece, and at an index as the formula of `AttnRow`. -/
module

public import proofs.«01_k».proof.Proof.Gen.Reference3Ideal.Run
public import proofs.«01_k».proof.Proof.AttnRow

@[expose] public section

set_option maxRecDepth 16384

noncomputable section

open Idealize.ShloMosaic Idealize.ShloMosaic.TcCoe Idealize.SL.Sem
open Cert.AttnMath

namespace Cert.Reference3Ideal.Attn

open Cert.Reference3Ideal Cert.Reference3Ideal.Gen

/-- Which keys a row sees. -/
def mask : IVec S2x2x2x8448x8448 1 :=
  broadcastInDim S2x2x2x8448x8448 ![3, 4] bcast_S8448x8448_S2x2x2x8448x8448_3_4 (ori (broadcastInDim S8448x8448 ![0, 1] bcast_S8448x1_S8448x8448_0_1 (cmpi .sge (broadcastInDim S8448x1 ![0] bcast_S8448_S8448x1_0 (iotaInDim S8448 32 0)) (broadcastInDim S8448x1 ![] bcast_S_S8448x1 (constantI S_ 32 256#32)))) (broadcastInDim S8448x8448 ![0, 1] bcast_S1x8448_S8448x8448_0_1 (cmpi .slt (broadcastInDim S1x8448 ![1] bcast_S8448_S1x8448_1 (iotaInDim S8448 32 0)) (broadcastInDim S1x8448 ![] bcast_S_S1x8448 (constantI S_ 32 256#32)))))

/-- Every query against every key. -/
def rawScores (q : FVec Ideal S2x8448x256 .bf16) (k : FVec Ideal S2x8448x128 .bf16) : FVec Ideal S2x2x2x8448x8448 .f32 :=
  transpose S2x2x2x8448x8448 [0, 4, 1, 3, 2] (Host.dotGeneral dot_S2x8448x2x64_S2x8448x2x2x64_S2x2x8448x8448x2_3_4_1_12_02_03 none (extf .f32 (shapeCast _ k shapeCasts_S2x8448x128_S2x8448x2x64) bitsLt_bf16_f32) (extf .f32 (shapeCast _ q shapeCasts_S2x8448x256_S2x8448x2x2x64) bitsLt_bf16_f32)) transposes_S2x2x8448x8448x2_S2x2x2x8448x8448_0_4_1_3_2

/-- The scores, `-∞` where the key is not seen. -/
def masked (q : FVec Ideal S2x8448x256 .bf16) (k : FVec Ideal S2x8448x128 .bf16) : FVec Ideal S2x2x2x8448x8448 .f32 :=
  select mask (rawScores q k) (broadcastInDim S2x2x2x8448x8448 ![] bcast_S_S2x2x2x8448x8448 (id (constant S_ .f32 0xFF800000#32)))

/-- Each row's largest score. -/
def largest (q : FVec Ideal S2x8448x256 .bf16) (k : FVec Ideal S2x8448x128 .bf16) : FVec Ideal S2x2x2x8448 .f32 :=
  Host.reduce FloatOps.maximumf (masked q k) (constant S_ .f32 0xFF800000#32) reducesTo_S2x2x2x8448x8448_S2x2x2x8448_d4 h_S_

/-- The softmax's weights, not yet divided by their sum. -/
def weights (q : FVec Ideal S2x8448x256 .bf16) (k : FVec Ideal S2x8448x128 .bf16) : FVec Ideal S2x2x2x8448x8448 .f32 :=
  Host.powf (broadcastInDim S2x2x2x8448x8448 ![] bcast_S_S2x2x2x8448x8448 (constant S_ .f32 0x40000000#32)) (subf (masked q k) (broadcastInDim S2x2x2x8448x8448 ![0, 1, 2, 3, 4] bcast_S2x2x2x8448x1_S2x2x2x8448x8448_0_1_2_3_4 (broadcastInDim S2x2x2x8448x1 ![0, 1, 2, 3] bcast_S2x2x2x8448_S2x2x2x8448x1_0_1_2_3 (largest q k))))

/-- The values, weighted and summed. -/
def weighted (q : FVec Ideal S2x8448x256 .bf16) (k : FVec Ideal S2x8448x128 .bf16) (v : FVec Ideal S2x8448x128 .f32) : FVec Ideal S2x2x2x8448x64 .f32 :=
  transpose S2x2x2x8448x64 [0, 3, 1, 4, 2] (Host.dotGeneral dot_S2x8448x2x64_S2x2x2x8448x8448_S2x2x64x2x8448_1_4_3_13_02_02 none (shapeCast _ v shapeCasts_S2x8448x128_S2x8448x2x64) (weights q k)) transposes_S2x2x64x2x8448_S2x2x2x8448x64_0_3_1_4_2

/-- The sum of the weights. -/
def total (q : FVec Ideal S2x8448x256 .bf16) (k : FVec Ideal S2x8448x128 .bf16) : FVec Ideal S2x2x2x8448 .f32 :=
  Host.reduceAdd (weights q k) (constant S_ .f32 0x00000000#32) reducesTo_S2x2x2x8448x8448_S2x2x2x8448_d4 h_S_

/-- The whole result. -/
def whole (q : FVec Ideal S2x8448x256 .bf16) (k : FVec Ideal S2x8448x128 .bf16) (v : FVec Ideal S2x8448x128 .f32) : FVec Ideal S2x8448x256 .bf16 :=
  truncf .bf16 (shapeCast _ (transpose S2x8448x2x2x64 [0, 3, 1, 2, 4] (Host.divf (weighted q k v) (broadcastInDim S2x2x2x8448x64 ![0, 1, 2, 3, 4] bcast_S2x2x2x8448x1_S2x2x2x8448x64_0_1_2_3_4 (broadcastInDim S2x2x2x8448x1 ![0, 1, 2, 3] bcast_S2x2x2x8448_S2x2x2x8448x1_0_1_2_3 (total q k)))) transposes_S2x2x2x8448x64_S2x8448x2x2x64_0_3_1_2_4) shapeCasts_S2x8448x2x2x64_S2x8448x256) bitsLt_bf16_f32

/-- The reference's run ends at `whole` of its arguments. -/
theorem res_eq (m : (ℓ : Loc nD τ sig) → Buf (Elt Ideal) ℓ) (c : Dev nD) :
    Value.res_out0 m c = whole (m ((c.tc : Thread nD τ).loc main_arg0)) (m ((c.tc : Thread nD τ).loc main_arg1)) (m ((c.tc : Thread nD τ).loc main_arg2)) := rfl

/-! ## The pieces at an index -/

section At

variable (q : FVec Ideal S2x8448x256 .bf16) (k : FVec Ideal S2x8448x128 .bf16) (v : FVec Ideal S2x8448x128 .f32)
  (b g h : Fin 2) (i j : Fin 8448) (d : Fin 64)

theorem mask_at : mask (ix5 b g h i j) = if i.val < 256 ∧ 256 ≤ j.val then 0#1 else 1#1 := by
  have e1 : ∀ i : Fin 8448, IntOp.cmpi .sge (BitVec.ofNat 32 i.val) 256#32 = if i.val < 256 then 0#1 else 1#1 := by decide +kernel
  have e2 : ∀ j : Fin 8448, IntOp.cmpi .slt (BitVec.ofNat 32 j.val) 256#32 = if j.val < 256 then 1#1 else 0#1 := by decide +kernel
  pointwise [mask]
  rw [e1, e2]
  by_cases hi : i.val < 256 <;> by_cases hj : j.val < 256
  · rw [if_pos hi, if_pos hj, if_neg (by omega)]; rfl
  · rw [if_pos hi, if_neg hj, if_pos (by omega)]; rfl
  · rw [if_neg hi, if_pos hj, if_neg (by omega)]; rfl
  · rw [if_neg hi, if_neg hj, if_neg (by omega)]; rfl

theorem rawScores_at : rawScores q k (ix5 b g h i j) = scores q k b i g h j.val := by
  pointwise [rawScores]
  unfold scores
  rw [dif_pos j.isLt]
  exact Finset.sum_congr rfl fun x _ => mul_comm _ _

theorem negInf_eq : Ideal.ofBits .f32 4286578688#32 = ⊥ := by simp [Ideal.ofBits, Ideal.ieee]

theorem two_eq : Ideal.ofBits .f32 1073741824#32 = ((2 : ℝ) : EReal) := by
  simp [Ideal.ofBits, Ideal.ieee]
  rw [← EReal.coe_mul]
  exact congrArg _ (by norm_num)

theorem masked_at : masked q k (ix5 b g h i j) = if i.val < 256 ∧ 256 ≤ j.val then ⊥ else scores q k b i g h j.val := by
  have e : masked q k (ix5 b g h i j) = Scalar.select (mask (ix5 b g h i j)) (rawScores q k (ix5 b g h i j)) (Ideal.ofBits .f32 0xFF800000#32) := by
    pointwise [masked]
    rfl
  rw [e, mask_at, rawScores_at]
  split
  · exact negInf_eq
  · rfl

theorem largest_at : largest q k (ix4 b g h i) = Finset.univ.sup fun j : Fin 8448 => masked q k (ix5 b g h i j) := by
  pointwise [largest]
  rw [negInf_eq]
  rfl

theorem weights_at : weights q k (ix5 b g h i j) = Ideal.exp2 (masked q k (ix5 b g h i j) - largest q k (ix4 b g h i)) := by
  pointwise [weights]
  rw [two_eq, pow_two_eq]

theorem weighted_at : weighted q k v (ix5 b g h i d) = ∑ j : Fin 8448, v (ix3 b j ⟨h.val * 64 + d.val, by omega⟩) * weights q k (ix5 b g h i j) := by
  pointwise [weighted]

theorem total_at : total q k (ix4 b g h i) = ∑ j : Fin 8448, weights q k (ix5 b g h i j) := by
  pointwise [total]

theorem whole_div : whole q k v (ix3 b i ⟨g.val * 128 + h.val * 64 + d.val, by omega⟩) = Ideal.div (weighted q k v (ix5 b g h i d)) (total q k (ix4 b g h i)) := by
  pointwise [whole]

/-- A row's scores as the reference has them: `-∞` at the keys a context row does not see. -/
def shown (q : FVec Ideal S2x8448x256 .bf16) (k : FVec Ideal S2x8448x128 .bf16) (b g h : Fin 2) (i : Fin 8448) (j : ℕ) : EReal :=
  if i.val < 256 ∧ 256 ≤ j then ⊥ else scores q k b i g h j

theorem whole_shown : whole q k v (ix3 b i ⟨g.val * 128 + h.val * 64 + d.val, by omega⟩) = soft (shown q k b g h i) (values v b h d) 8448 := by
  have em : ∀ j : Fin 8448, masked q k (ix5 b g h i j) = shown q k b g h i j.val := fun j => masked_at q k b g h i j
  have el : largest q k (ix4 b g h i) = top (shown q k b g h i) 8448 := by
    rw [largest_at, top_univ]
    simp only [em]
  have ew : ∀ j : Fin 8448, weights q k (ix5 b g h i j) = Ideal.exp2 (shown q k b g h i j.val - top (shown q k b g h i) 8448) := fun j => by
    rw [weights_at, em, el]
  have ev : ∀ j : Fin 8448, values v b h d j.val = v (ix3 b j ⟨h.val * 64 + d.val, by omega⟩) := fun j => dif_pos j.isLt
  rw [whole_div, weighted_at, total_at]
  unfold soft
  rw [wsum_univ, wsum_univ]
  refine congrArg₂ Ideal.div (Finset.sum_congr rfl fun j _ => ?_) (Finset.sum_congr rfl fun j _ => ?_)
  · rw [ew, ev, mul_comm]
  · rw [ew, mul_one]

/-- The reference's result at a row and column. -/
theorem whole_at : whole q k v (ix3 b i ⟨g.val * 128 + h.val * 64 + d.val, by omega⟩) = attn q k v b i g h d := by
  rw [whole_shown]
  unfold attn
  by_cases hi : i.val < 256
  · have hs : seen i = 256 := if_pos hi
    rw [hs]
    exact soft_bot (scores q k b i g h) (shown q k b g h i) (values v b h d) 256 8192 (fun j hj => if_neg (by omega)) (fun j hj => if_pos ⟨hi, hj⟩)
  · have hs : seen i = 8448 := if_neg hi
    rw [hs]
    exact congrArg (fun s => soft s (values v b h d) 8448) (funext fun j => if_neg (by omega))

end At

end Cert.Reference3Ideal.Attn

end
-- ==== Proof.AttnClaims.lean ====
/- The claims about the attention call, each from its own run. -/
module

public import proofs.«01_k».proof.Defs
public import proofs.«01_k».proof.Proof.Gen.Kernel3.Frame
public import proofs.«01_k».proof.Proof.Gen.Kernel3Ideal.Frame
public import proofs.«01_k».proof.Proof.AttnValue
public import proofs.«01_k».proof.Proof.AttnRef

@[expose] public section

noncomputable section

open Idealize.ShloMosaic Idealize.ShloMosaic.TcCoe Idealize.SL.Sem

namespace Cert.Proof.AttnClaims

/-- The kernel runs, ends with its arguments unchanged and every counter at zero: the generated run. -/
theorem frame_kernel3 : Cert.quiescent_Kernel3 := fun m ρ _ => Cert.Kernel3.Gen.frame m ρ

/-- The same of its idealization. -/
theorem frame_kernel3Ideal : Cert.quiescent_Kernel3Ideal := fun m ρ _ => Cert.Kernel3Ideal.Gen.frame m ρ

/-- The reference is host code: its run leaves the arguments as they were, and it declares no semaphore. -/
theorem frame_reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The idealization rewrote nothing. -/
theorem preserves_kernel3 : Cert.preserves_Kernel3_Kernel3Ideal := trivial

/-- From equal arguments the kernel and the reference end with equal results, over the extended reals. -/
theorem algebraic_attn : Cert.algebraic_Kernel3Ideal_Reference3Ideal := fun m ρ m' ρ' _ hag =>
  ⟨fun c => Cert.Reference3Ideal.Value.res_out0 m' c,
    (θ_run Cert.Kernel3Ideal.defs _ _).mono
      (fun _ h c => ⟨(h c).1.trans ((Cert.Kernel3Ideal.Attn.final m c _
          (fun b i g h d => Cert.Reference3Ideal.Attn.whole_at _ _ _ b g h i d)).trans (by
        refine Eq.trans ?_ (Cert.Reference3Ideal.Attn.res_eq m' c).symm
        obtain ⟨h0, h1, h2⟩ := hag c
        rw [h0, h1, h2])), (h c).2⟩)
      (Cert.Kernel3Ideal.Value.run_blocks (F := Ideal) m ρ),
    Cert.Reference3Ideal.Value.run (F := Ideal) m' ρ'⟩

end Cert.Proof.AttnClaims

end
-- ==== Proof.FirstCombineRef.lean ====
/- The reference of the first layer's combine step, in pieces. The rows and the weighted sum are the last layer's
   (`CombineRef`); the matrices are the first layer's, and each row has its own gate. -/
module

public import proofs.«01_k».proof.Proof.Gen.Reference5Ideal.Run
public import proofs.«01_k».proof.Proof.CombineRef

@[expose] public section

set_option maxRecDepth 16384

noncomputable section

open Idealize.ShloMosaic Idealize.ShloMosaic.TcCoe Idealize.SL.Sem

namespace Cert.Reference5Ideal.Combine

open Cert.Reference5Ideal Cert.Reference5Ideal.Gen
open Cert.ReferenceIdeal.Combine (tokRows routed tokRows_at routed_at silu_at)

/-- The first layer's weight of one of the two projections into the shared expert. -/
def weightIn (w : FVec Ideal S2x1024x256 .f32) : FVec Ideal S1024x256 .f32 :=
  shapeCast _ (extractStridedSlice S1x1024x256 ![0, 0, 0] w slices_S2x1024x256_S1x1024x256_0_0_0) shapeCasts_S1x1024x256_S1024x256

/-- The token rows through one of the two projections. -/
def proj (tok : IVec S2x8448x512 32) (w : FVec Ideal S2x1024x256 .f32) : FVec Ideal S2x8448x256 .f32 :=
  Host.dotGeneral dot_S2x8448x1024_S1024x256_S2x8448x256_2_0_01_1_n_n none (tokRows tok) (weightIn w)

/-- The shared expert's hidden row: `silu` of the gate projection times the up projection. -/
def hidden (tok : IVec S2x8448x512 32) (wg wu : FVec Ideal S2x1024x256 .f32) : FVec Ideal S2x8448x256 .f32 :=
  mulf (mulf (proj tok wg) (Host.divf (broadcastInDim S2x8448x256 ![] bcast_S_S2x8448x256 (constant S_ .f32 0x3F800000#32)) (addf (broadcastInDim S2x8448x256 ![] bcast_S_S2x8448x256 (constant S_ .f32 0x3F800000#32)) (Host.exp (Host.negf (proj tok wg)))))) (proj tok wu)

/-- The first layer's weight of the down projection. -/
def weightOut (wd : FVec Ideal S2x256x1024 .f32) : FVec Ideal S256x1024 .f32 :=
  shapeCast _ (extractStridedSlice S1x256x1024 ![0, 0, 0] wd slices_S2x256x1024_S1x256x1024_0_0_0) shapeCasts_S1x256x1024_S256x1024

/-- The shared expert. -/
def shared (tok : IVec S2x8448x512 32) (wg wu : FVec Ideal S2x1024x256 .f32) (wd : FVec Ideal S2x256x1024 .f32) : FVec Ideal S2x8448x1024 .f32 :=
  Host.dotGeneral dot_S2x8448x256_S256x1024_S2x8448x1024_2_0_01_1_n_n none (hidden tok wg wu) (weightOut wd)

/-- The context's gate, on each context row. -/
def ctxGates (mod : FVec Ideal S8x6144 .f32) : FVec Ideal S2x256x1024 .f32 :=
  broadcastInDim S2x256x1024 ![2] bcast_S1024_S2x256x1024_2 (shapeCast _ (extractStridedSlice S1x1024 ![2, 5120] mod slices_S8x6144_S1x1024_2_5120) shapeCasts_S1x1024_S1024)

/-- Each batch's gate, on each of its latent rows. -/
def latGates (mod : FVec Ideal S8x6144 .f32) : FVec Ideal S2x8192x1024 .f32 :=
  broadcastInDim S2x8192x1024 ![0, 1, 2] bcast_S2x1x1024_S2x8192x1024_0_1_2 (broadcastInDim S2x1x1024 ![0, 2] bcast_S2x1024_S2x1x1024_0_2 (extractStridedSlice S2x1024 ![0, 5120] mod slices_S8x6144_S2x1024_0_5120))

/-- The gate of each row: the context rows first. -/
def gates (mod : FVec Ideal S8x6144 .f32) : FVec Ideal S2x8448x1024 .f32 :=
  concatenate S2x8448x1024 1 [⟨S2x256x1024, ctxGates mod⟩, ⟨S2x8192x1024, latGates mod⟩] concatenates_S2x256x1024_S2x8192x1024_S2x8448x1024_d1

/-- The whole result: the residual plus the gated sum of the two. -/
def whole (yg : IVec S8x16896x512 32) (wt : FVec Ideal S8x16896 .f32) (tok : IVec S2x8448x512 32) (wg wu : FVec Ideal S2x1024x256 .f32) (wd : FVec Ideal S2x256x1024 .f32)
    (xs : FVec Ideal S2x8448x1024 .f32) (mod : FVec Ideal S8x6144 .f32) : FVec Ideal S2x8448x1024 .f32 :=
  addf xs (mulf (gates mod) (addf (routed yg wt) (shared tok wg wu wd)))

/-- The reference's run ends at `whole` of its arguments. -/
theorem res_eq (m : (ℓ : Loc nD τ sig) → Buf (Elt Ideal) ℓ) (c : Dev nD) :
    Value.res_out0 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-! ## The pieces at an index -/

theorem weightIn_at (w : FVec Ideal S2x1024x256 .f32) (i : Fin 1024) (k : Fin 256) : weightIn w (ix2 i k) = w (ix3 0 i k) := by
  pointwise [weightIn]

theorem proj_at (tok : IVec S2x8448x512 32) (w : FVec Ideal S2x1024x256 .f32) (b : Fin 2) (r : Fin 8448) (k : Fin 256) :
    proj tok w (ix3 b r k) = CombineRow.proj (fun l => tok (ix3 b r l)) (fun i k => w (ix3 0 i k)) k := by
  pointwise [proj, CombineRow.proj]
  exact Finset.sum_congr rfl fun i _ => congrArg₂ (· * ·) (tokRows_at tok b r i) (weightIn_at w i k)

theorem hidden_at (tok : IVec S2x8448x512 32) (wg wu : FVec Ideal S2x1024x256 .f32) (b : Fin 2) (r : Fin 8448) (k : Fin 256) :
    hidden tok wg wu (ix3 b r k) = CombineRow.hidden (fun l => tok (ix3 b r l)) (fun i k => wg (ix3 0 i k)) (fun i k => wu (ix3 0 i k)) k := by
  refine (silu_at (proj tok wg) (proj tok wu) b r k).trans ?_
  rw [proj_at, proj_at]
  rfl

theorem shared_at (tok : IVec S2x8448x512 32) (wg wu : FVec Ideal S2x1024x256 .f32) (wd : FVec Ideal S2x256x1024 .f32) (b : Fin 2) (r : Fin 8448) (c : Fin 1024) :
    shared tok wg wu wd (ix3 b r c) = ∑ k : Fin 256, hidden tok wg wu (ix3 b r k) * wd (ix3 0 k c) := by
  unfold shared
  generalize hidden tok wg wu = h
  pointwise [weightOut]

/-- The modulation row that gates row `r` of batch `b`. -/
def modRow (b : Fin 2) (r : Fin 8448) : Fin 8 := if r.val < 256 then 2 else ⟨b.val, by omega⟩

theorem ctxGates_at (mod : FVec Ideal S8x6144 .f32) (b : Fin 2) (r : Fin 256) (c : Fin 1024) :
    ctxGates mod (ix3 b r c) = mod (ix2 2 ⟨5120 + c.val, by omega⟩) := by
  pointwise [ctxGates]

theorem latGates_at (mod : FVec Ideal S8x6144 .f32) (b : Fin 2) (r : Fin 8192) (c : Fin 1024) :
    latGates mod (ix3 b r c) = mod (ix2 ⟨b.val, by omega⟩ ⟨5120 + c.val, by omega⟩) := by
  pointwise [latGates]

theorem gates_at (mod : FVec Ideal S8x6144 .f32) (b : Fin 2) (r : Fin 8448) (c : Fin 1024) :
    gates mod (ix3 b r c) = mod (ix2 (modRow b r) ⟨5120 + c.val, by omega⟩) := by
  unfold modRow gates
  have hb : ∀ a : Fin 3, a ≠ 1 → a = 0 ∨ a = 2 := by decide
  by_cases h : r.val < 256
  · rw [if_pos h]
    refine (concatenate_apply_piece (t := S2x8448x1024) 1 [⟨S2x256x1024, ctxGates mod⟩, ⟨S2x8192x1024, latGates mod⟩] _ (ix3 b r c) 0 Nat.zero_lt_two S2x256x1024 (ctxGates mod) rfl rfl 0 rfl (ix3 b ⟨r.val, h⟩ c)
      (fun a ha => ?_) (by show 0 + r.val = r.val; omega)).trans (ctxGates_at mod b _ c)
    rcases hb a ha with rfl | rfl <;> rfl
  · rw [if_neg h]
    refine (concatenate_apply_piece (t := S2x8448x1024) 1 [⟨S2x256x1024, ctxGates mod⟩, ⟨S2x8192x1024, latGates mod⟩] _ (ix3 b r c) 1 Nat.one_lt_two S2x8192x1024 (latGates mod) rfl rfl 256 rfl (ix3 b ⟨r.val - 256, by omega⟩ c)
      (fun a ha => ?_) (by show 256 + (r.val - 256) = r.val; omega)).trans (latGates_at mod b _ c)
    rcases hb a ha with rfl | rfl <;> rfl

theorem gated_at (xs g rt sh : FVec Ideal S2x8448x1024 .f32) (y : S2x8448x1024.Idx) :
    addf xs (mulf g (addf rt sh)) y = xs y + g y * (rt y + sh y) := by
  pointwise

/-- The reference's result at batch `b`, row `r`, lane `c`. -/
theorem whole_at (yg : IVec S8x16896x512 32) (wt : FVec Ideal S8x16896 .f32) (tok : IVec S2x8448x512 32) (wg wu : FVec Ideal S2x1024x256 .f32)
    (wd : FVec Ideal S2x256x1024 .f32) (xs : FVec Ideal S2x8448x1024 .f32) (mod : FVec Ideal S8x6144 .f32) (b : Fin 2) (r : Fin 8448) (c : Fin 1024)
    (t : Fin 16896) (ht : t.val = b.val * 8448 + r.val) :
    whole yg wt tok wg wu wd xs mod (ix3 b r c)
      = CombineRow.out (fun j l => yg (ix3 j t l)) (fun j => wt (ix2 j t)) (fun l => tok (ix3 b r l)) (fun i k => wg (ix3 0 i k)) (fun i k => wu (ix3 0 i k))
          (fun k c => wd (ix3 0 k c)) (fun c => xs (ix3 b r c)) (fun c => mod (ix2 (modRow b r) ⟨5120 + c.val, by omega⟩)) c := by
  unfold CombineRow.out whole
  rw [gated_at, gates_at, routed_at yg wt b r c t ht, shared_at]
  simp only [hidden_at]

end Cert.Reference5Ideal.Combine

end
-- ==== Proof.FirstCombineValue.lean ====
/- What the first layer's combine kernel's result array holds after its run: the reference's result. -/
module

public import proofs.«01_k».proof.Proof.Gen.Kernel5Ideal.Value
public import proofs.«01_k».proof.Proof.FirstCombineRef
public import proofs.«01_k».proof.Proof.CombineValue

@[expose] public section

set_option maxRecDepth 16384

noncomputable section

open Idealize.ShloMosaic Idealize.ShloMosaic.TcCoe Idealize.SL.Sem
open Idealize.ShloMosaic.Pipeline (Dat)

namespace Cert.Kernel5Ideal.Combine

open Cert.Kernel5Ideal Cert.Kernel5Ideal.Gen
open Cert.KernelIdeal.Combine (slab stored_row)

variable (m : (ℓ : Loc nD τ sig) → Buf (Elt Ideal) ℓ)

/-- Where each window's block stands at point `t`: batch `t / 33`, row tile `t % 33`, the first tile the context's. -/
theorem idx : ∀ t : Fin cfg0.N, win0_0.index t = ![0, t.val / 33 * 33 + t.val % 33, 0]
    ∧ win0_1.index t = ![t.val / 33, t.val % 33, 0] ∧ win0_2.index t = ![t.val / 33, t.val % 33, 0]
    ∧ win0_3.index t = ![0, 0] ∧ win0_4.index t = ![0, 0] ∧ win0_5.index t = ![0, 0]
    ∧ win0_6.index t = ![t.val / 33, t.val % 33, 0]
    ∧ win0_8.index t = ![t.val / 33, t.val % 33, 0] :=
  (by decide +kernel : ∀ t : Fin grid0.N, _)

/-- The modulation rows' block: the context's at a batch's first tile, the batch's own at the others. -/
theorem idx_ctx : ∀ t : Fin cfg0.N, t.val % 33 = 0 → win0_7.index t = ![t.val / 33, 0, 0, 0] :=
  (by decide +kernel : ∀ t : Fin grid0.N, _)
theorem idx_lat : ∀ t : Fin cfg0.N, t.val % 33 ≠ 0 → win0_7.index t = ![t.val / 33, 1, 0, 0] :=
  (by decide +kernel : ∀ t : Fin grid0.N, _)

/-! ## The input blocks of point `t`, read off the argument arrays

Row `r` of tile `t` is row `tileRow t r` of the batch's rows, row `flatRow t r` of all the rows in order. -/

theorem t_lt (t : Fin cfg0.N) : t.val < 66 := by have h := t.isLt; have hN : cfg0.N = 66 := N_0; omega

/-- The batch of point `t`. -/
def batch (t : Fin cfg0.N) : Fin 2 := ⟨t.val / 33, by have := t_lt t; omega⟩
/-- The row of that batch that row `r` of the tile is. -/
def tileRow (t : Fin cfg0.N) (r : Fin 256) : Fin 8448 := ⟨t.val % 33 * 256 + r.val, by have := t_lt t; omega⟩
/-- The row of all the batches' rows that row `r` of the tile is. -/
def flatRow (t : Fin cfg0.N) (r : Fin 256) : Fin 16896 := ⟨(t.val / 33 * 33 + t.val % 33) * 256 + r.val, by have := t_lt t; omega⟩

theorem blk0 (c : Dev nD) (t : Fin cfg0.N) (j : Fin 8) (r : Fin 256) (l : Fin 512) :
    iblk m c 0 t (ix3 j r l) = m ((c : Thread nD τ).loc main_arg0) (ix3 j (flatRow t r) l) := by
  unfold flatRow; blk_ext! [iblk, V, idx t]
theorem blk2 (c : Dev nD) (t : Fin cfg0.N) (r : Fin 256) (l : Fin 512) :
    iblk m c 2 t (ix3 0 r l) = m ((c : Thread nD τ).loc main_arg2) (ix3 (batch t) (tileRow t r) l) := by
  unfold batch tileRow; blk_ext! [iblk, V, idx t]
theorem blk6 (c : Dev nD) (t : Fin cfg0.N) (r : Fin 256) (l : Fin 1024) :
    iblk m c 6 t (ix3 0 r l) = m ((c : Thread nD τ).loc main_arg6) (ix3 (batch t) (tileRow t r) l) := by
  unfold batch tileRow; blk_ext! [iblk, V, idx t]
theorem blk1 (c : Dev nD) (t : Fin cfg0.N) (r : Fin 256) (j : Fin 8) :
    iblk m c 1 t (ix3 0 r j) = m ((c : Thread nD τ).loc main_arg1) (ix2 j (flatRow t r)) := by
  unfold flatRow; blk_ext! [iblk, V, idx t]
theorem blk3 (c : Dev nD) (t : Fin cfg0.N) (i : Fin 1024) (k : Fin 256) :
    iblk m c 3 t (ix2 i k) = m ((c : Thread nD τ).loc main_arg3) (ix3 0 i k) := by
  blk_ext! [iblk, V, idx t]
theorem blk4 (c : Dev nD) (t : Fin cfg0.N) (i : Fin 1024) (k : Fin 256) :
    iblk m c 4 t (ix2 i k) = m ((c : Thread nD τ).loc main_arg4) (ix3 0 i k) := by
  blk_ext! [iblk, V, idx t]
theorem blk5 (c : Dev nD) (t : Fin cfg0.N) (i : Fin 256) (k : Fin 1024) :
    iblk m c 5 t (ix2 i k) = m ((c : Thread nD τ).loc main_arg5) (ix3 0 i k) := by
  blk_ext! [iblk, V, idx t]
theorem blk7_ctx (c : Dev nD) (t : Fin cfg0.N) (h : t.val % 33 = 0) (k : Fin 1024) :
    iblk m c 7 t (ix4 0 0 5 k) = m ((c : Thread nD τ).loc main_arg7) (ix2 2 ⟨5120 + k.val, by omega⟩) := by
  blk_simp [iblk, idx_ctx t h]; entry_read; pointwise
  rw [dif_pos (by blk_simp [idx_ctx t h]; omega)]
  blk_ext [idx_ctx t h]
theorem blk7_lat (c : Dev nD) (t : Fin cfg0.N) (h : t.val % 33 ≠ 0) (k : Fin 1024) :
    iblk m c 7 t (ix4 0 0 5 k) = m ((c : Thread nD τ).loc main_arg7) (ix2 ⟨(batch t).val, by omega⟩ ⟨5120 + k.val, by omega⟩) := by
  unfold batch
  blk_simp [iblk, idx_lat t h]; entry_read; pointwise
  rw [dif_neg (by blk_simp [idx_lat t h]; omega)]
  blk_ext [idx_lat t h]

open Cert.Reference5Ideal.Combine (modRow) in
theorem blk7 (c : Dev nD) (t : Fin cfg0.N) (r : Fin 256) (k : Fin 1024) :
    iblk m c 7 t (ix4 0 0 5 k) = m ((c : Thread nD τ).loc main_arg7) (ix2 (modRow (batch t) (tileRow t r)) ⟨5120 + k.val, by omega⟩) := by
  have hr := r.isLt
  unfold modRow
  by_cases h : t.val % 33 = 0
  · rw [if_pos (by unfold tileRow; dsimp only; omega)]
    exact blk7_ctx m c t h k
  · rw [if_neg (by unfold tileRow; dsimp only; omega)]
    exact blk7_lat m c t h k

/-- Where row `r`, lane `k` of point `t`'s block stands in the result. -/
theorem emb8 (t : Fin cfg0.N) (r : Fin 256) (k : Fin 1024) : ((cfg0.win 8).blk t).view.emb (ix3 0 r k) = ix3 (batch t) (tileRow t r) k := by
  unfold batch tileRow; blk_ext [idx t]

/-! The body loads the words of one expert choice at a time, and its tile is the last layer's (`CombineBlock`). -/

theorem ld0 (X : Vec Ideal S8x256x512 .i32) : View.ld X r0_1 = slab X 0 := Cert.KernelIdeal.Combine.ld0 X
theorem ld1 (X : Vec Ideal S8x256x512 .i32) : View.ld X r0_2 = slab X 1 := Cert.KernelIdeal.Combine.ld1 X
theorem ld2 (X : Vec Ideal S8x256x512 .i32) : View.ld X r0_3 = slab X 2 := Cert.KernelIdeal.Combine.ld2 X
theorem ld3 (X : Vec Ideal S8x256x512 .i32) : View.ld X r0_4 = slab X 3 := Cert.KernelIdeal.Combine.ld3 X
theorem ld4 (X : Vec Ideal S8x256x512 .i32) : View.ld X r0_5 = slab X 4 := Cert.KernelIdeal.Combine.ld4 X
theorem ld5 (X : Vec Ideal S8x256x512 .i32) : View.ld X r0_6 = slab X 5 := Cert.KernelIdeal.Combine.ld5 X
theorem ld6 (X : Vec Ideal S8x256x512 .i32) : View.ld X r0_7 = slab X 6 := Cert.KernelIdeal.Combine.ld6 X
theorem ld7 (X : Vec Ideal S8x256x512 .i32) : View.ld X r0_8 = slab X 7 := Cert.KernelIdeal.Combine.ld7 X
theorem ldGate (X : Vec Ideal S1x1x6x1024 .f32) : View.ld X r0_13 = fun z => X (ix4 0 0 5 (z 3)) := Cert.KernelIdeal.Combine.ldGate X

open Cert.Reference5Ideal.Combine in
/-- The result array after the kernel's run is the reference's result, of the same arguments. -/
theorem final (c : Dev nD) : (dats m 0 c).arrAt 8 (cfgs 0).N
    = whole (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  obtain ⟨b, r, k, rfl⟩ : ∃ (b : Fin 1) (r : Fin 256) (k : Fin 1024), y = ix3 b r k := ⟨y 0, y 1, y 2, eq_ix3 y⟩
  obtain rfl : b = 0 := Subsingleton.elim _ _
  rw [emb8]
  refine Eq.trans ?_ (whole_at _ _ _ _ _ _ _ _ (batch t) (tileRow t r) k (flatRow t r) ?_).symm
  · blk_simp
    rw [after0_8]; frame_out
    rw [ld0, ld1, ld2, ld3, ld4, ld5, ld6, ld7, ldGate]
    refine (stored_row (iblk m c 1 t) (slab (iblk m c 0 t)) (iblk m c 2 t) (iblk m c 3 t) (iblk m c 4 t) (iblk m c 5 t) (iblk m c 6 t)
      (fun z => iblk m c 7 t (ix4 0 0 5 (z 3))) r k).trans ?_
    exact CombineRow.out_congr (fun j l => blk0 m c t j r l) (fun j => blk1 m c t r j) (fun l => blk2 m c t r l) (fun i k => blk3 m c t i k)
      (fun i k => blk4 m c t i k) (fun i k => blk5 m c t i k) (fun k => blk6 m c t r k) (fun k => blk7 m c t r k) k
  · have := t_lt t; unfold flatRow batch tileRow; dsimp only; omega

end Cert.Kernel5Ideal.Combine

end
-- ==== Proof.FirstCombineClaims.lean ====
/- The claims about the first layer's combine call, each from its own run. -/
module

public import proofs.«01_k».proof.Defs
public import proofs.«01_k».proof.Proof.Gen.Kernel5.Frame
public import proofs.«01_k».proof.Proof.FirstCombineValue

@[expose] public section

noncomputable section

open Idealize.ShloMosaic Idealize.ShloMosaic.TcCoe Idealize.SL.Sem

namespace Cert.Proof.FirstCombineClaims

/-- The kernel runs, ends with its arguments unchanged and every counter at zero: the generated run. -/
theorem frame_kernel5 : Cert.quiescent_Kernel5 := fun m ρ _ => Cert.Kernel5.Gen.frame m ρ

/-- The same of its idealization. -/
theorem frame_kernel5Ideal : Cert.quiescent_Kernel5Ideal := fun m ρ _ => Cert.Kernel5Ideal.Gen.frame m ρ

/-- The reference is host code: its run leaves the arguments as they were, and it declares no semaphore. -/
theorem frame_reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The idealization rewrote nothing. -/
theorem preserves_kernel5 : Cert.preserves_Kernel5_Kernel5Ideal := trivial

/-- From equal arguments the kernel and the reference end with equal results, over the extended reals. -/
theorem algebraic_first_combine : Cert.algebraic_Kernel5Ideal_Reference5Ideal := fun m ρ m' ρ' _ hag =>
  ⟨fun c => Cert.Reference5Ideal.Value.res_out0 m' c,
    (θ_run Cert.Kernel5Ideal.defs _ _).mono
      (fun _ h c => ⟨(h c).1.trans ((Cert.Kernel5Ideal.Combine.final m c).trans (by
        refine Eq.trans ?_ (Cert.Reference5Ideal.Combine.res_eq m' c).symm
        obtain ⟨h0, h1, h2, h3, h4, h5, h6, h7⟩ := hag c
        rw [h0, h1, h2, h3, h4, h5, h6, h7])), (h c).2⟩)
      (Cert.Kernel5Ideal.Value.run_blocks (F := Ideal) m ρ),
    Cert.Reference5Ideal.Value.run (F := Ideal) m' ρ'⟩

end Cert.Proof.FirstCombineClaims

end
-- ==== Proof.ModRow.lean ====
/- One entry of the modulation rows, as a formula: a conditioning row through `silu`, a column of the layer's matrix,
   and the column's bias. -/
module

public import Idealize.ShloMosaic.Lib.Pipeline.ValueKit

@[expose] public section

noncomputable section

open Idealize.ShloMosaic

namespace Cert.ModRow

/-- `x / (1 + e^(-x))`. -/
def silu (x : EReal) : EReal := x * Ideal.div 1 (1 + Ideal.exp (-x))

/-- The row `x` through `silu`, times the column `w`, plus the bias `b`. -/
def out (x w : Fin 1024 → EReal) (b : EReal) : EReal := (∑ i : Fin 1024, silu (x i) * w i) + b

end Cert.ModRow

end
-- ==== Proof.ModFirst.lean ====
/- The first layer's modulation rows: the kernel's result array and the reference's, each entry the formula of `ModRow`,
   and the claims about the call. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.ModRow

@[expose] public section

set_option maxRecDepth 16384

noncomputable section

open Idealize.ShloMosaic Idealize.ShloMosaic.TcCoe Idealize.SL.Sem
open Idealize.ShloMosaic.Pipeline (Dat)

namespace Cert.Reference7Ideal.Mod

open Cert.Reference7Ideal Cert.Reference7Ideal.Gen

/-- The conditioning rows through `silu`. -/
def active (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- The layer's matrix. -/
def matrix (w : FVec Ideal S2x1024x6144 .f32) : FVec Ideal S1024x6144 .f32 :=
  shapeCast _ (extractStridedSlice S1x1024x6144 ![0, 0, 0] w slices_S2x1024x6144_S1x1024x6144_0_0_0) shapeCasts_S1x1024x6144_S1024x6144

/-- The layer's bias, on every row. -/
def bias (b : FVec Ideal S2x6144 .f32) : FVec Ideal S8x6144 .f32 :=
  broadcastInDim S8x6144 ![0, 1] bcast_S1x6144_S8x6144_0_1 (broadcastInDim S1x6144 ![1] bcast_S6144_S1x6144_1
    (shapeCast _ (extractStridedSlice S1x6144 ![0, 0] b slices_S2x6144_S1x6144_0_0) shapeCasts_S1x6144_S6144))

/-- The whole result. -/
def whole (x : FVec Ideal S8x1024 .f32) (w : FVec Ideal S2x1024x6144 .f32) (b : FVec Ideal S2x6144 .f32) : FVec Ideal S8x6144 .f32 :=
  addf (Host.dotGeneral dot_S8x1024_S1024x6144_S8x6144_1_0_0_1_n_n none (active x) (matrix w)) (bias b)

/-- The reference's run ends at `whole` of its arguments, with the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = whole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

theorem active_at (x : FVec Ideal S8x1024 .f32) (r : Fin 8) (i : Fin 1024) : active x (ix2 r i) = ModRow.silu (x (ix2 r i)) := by
  pointwise [active, ModRow.silu]

theorem matrix_at (w : FVec Ideal S2x1024x6144 .f32) (i : Fin 1024) (k : Fin 6144) : matrix w (ix2 i k) = w (ix3 0 i k) := by
  pointwise [matrix]

theorem bias_at (b : FVec Ideal S2x6144 .f32) (r : Fin 8) (k : Fin 6144) : bias b (ix2 r k) = b (ix2 0 k) := by
  pointwise [bias]

theorem product_at (x : FVec Ideal S8x1024 .f32) (w : FVec Ideal S1024x6144 .f32) (b : FVec Ideal S8x6144 .f32) (r : Fin 8) (k : Fin 6144) :
    addf (Host.dotGeneral dot_S8x1024_S1024x6144_S8x6144_1_0_0_1_n_n none x w) b (ix2 r k)
      = (∑ i : Fin 1024, x (ix2 r i) * w (ix2 i k)) + b (ix2 r k) := by
  pointwise

/-- The reference's result at row `r`, lane `k`. -/
theorem whole_at (x : FVec Ideal S8x1024 .f32) (w : FVec Ideal S2x1024x6144 .f32) (b : FVec Ideal S2x6144 .f32) (r : Fin 8) (k : Fin 6144) :
    whole x w b (ix2 r k) = ModRow.out (fun i => x (ix2 r i)) (fun i => w (ix3 0 i k)) (b (ix2 0 k)) := by
  unfold whole ModRow.out
  rw [product_at, bias_at]
  simp only [active_at, matrix_at]

end Cert.Reference7Ideal.Mod

namespace Cert.Kernel7Ideal.Mod

open Cert.Kernel7Ideal Cert.Kernel7Ideal.Gen

/-- The conditioning rows through `silu`, as the body computes it. -/
def active (x : FVec Ideal S8x1024 .f32) : FVec Ideal S8x1024 .f32 :=
  mulf x (divf (broadcast S8x1024 (Scalar.ofBits (F := Ideal) .f32 0x3F800000#32))
    (addf (broadcast S8x1024 (Scalar.ofBits (F := Ideal) .f32 0x3F800000#32)) (exp (subf (broadcast S8x1024 (Scalar.ofBits (F := Ideal) .f32 0x00000000#32)) x))))

/-- The active rows through one block of columns, plus the block's bias. -/
def product (x : FVec Ideal S8x1024 .f32) (w : FVec Ideal S1x1024x1024 .f32) (b : FVec Ideal S1x1x1024 .f32) : FVec Ideal S8x1024 .f32 :=
  addf (matmul dot_S8x1024_S1024x1024_S8x1024_1_0_0_1_n_n (some .fp32) x (shapeCast S1024x1024 w shapeCasts_S1x1024x1024_S1024x1024) (constant S8x1024 .f32 0x00000000#32))
    (broadcastTo S8x1024 (shapeCast S1x1024 b shapeCasts_S1x1x1024_S1x1024) broadcasts_S1x1024_S8x1024)

theorem pay1_eq (x : FVec Ideal S8x1024 .f32) (w : FVec Ideal S1x1024x1024 .f32) (b : FVec Ideal S1x1x1024 .f32) :
    k0_pay1 (F := Ideal) x w b = product (active x) w b := rfl

theorem active_at (x : FVec Ideal S8x1024 .f32) (r : Fin 8) (i : Fin 1024) : active x (ix2 r i) = ModRow.silu (x (ix2 r i)) := by
  pointwise [active, ModRow.silu]
  simp only [zero_sub]

theorem product_at (x : FVec Ideal S8x1024 .f32) (w : FVec Ideal S1x1024x1024 .f32) (b : FVec Ideal S1x1x1024 .f32) (r : Fin 8) (k : Fin 1024) :
    product x w b (ix2 r k) = (∑ i : Fin 1024, x (ix2 r i) * w (ix3 0 i k)) + b (ix3 0 0 k) := by
  pointwise [product]

/-- What the body stores at row `r`, lane `k` of its block. -/
theorem stored_at (x : FVec Ideal S8x1024 .f32) (w : FVec Ideal S1x1024x1024 .f32) (b : FVec Ideal S1x1x1024 .f32) (r : Fin 8) (k : Fin 1024) :
    k0_pay1 (F := Ideal) x w b (ix2 r k) = ModRow.out (fun i => x (ix2 r i)) (fun i => w (ix3 0 i k)) (b (ix3 0 0 k)) := by
  rw [pay1_eq, product_at]
  simp only [active_at]
  rfl

variable (m : (ℓ : Loc nD τ sig) → Buf (Elt Ideal) ℓ)

/-- Where each window's block stands at point `t`: block `t` of the columns. -/
theorem idx : ∀ t : Fin cfg0.N, win0_0.index t = ![0, 0] ∧ win0_1.index t = ![0, 0, t.val] ∧ win0_2.index t = ![0, 0, t.val]
    ∧ win0_3.index t = ![0, t.val] :=
  (by decide +kernel : ∀ t : Fin grid0.N, _)

theorem t_lt (t : Fin cfg0.N) : t.val < 6 := by have h := t.isLt; have hN : cfg0.N = 6 := N_0; omega

/-- The column of the result that lane `k` of block `t` is. -/
def col (t : Fin cfg0.N) (k : Fin 1024) : Fin 6144 := ⟨t.val * 1024 + k.val, by have := t_lt t; omega⟩

theorem blk0 (c : Dev nD) (t : Fin cfg0.N) (r : Fin 8) (i : Fin 1024) :
    iblk m c 0 t (ix2 r i) = m ((c : Thread nD τ).loc main_arg0) (ix2 r i) := by
  blk_ext! [iblk, V, idx t]
theorem blk1 (c : Dev nD) (t : Fin cfg0.N) (i k : Fin 1024) :
    iblk m c 1 t (ix3 0 i k) = m ((c : Thread nD τ).loc main_arg1) (ix3 0 i (col t k)) := by
  unfold col; blk_ext! [iblk, V, idx t]
theorem blk2 (c : Dev nD) (t : Fin cfg0.N) (k : Fin 1024) :
    iblk m c 2 t (ix3 0 0 k) = m ((c : Thread nD τ).loc main_arg2) (ix2 0 (col t k)) := by
  unfold col; blk_ext! [iblk, V, idx t]

/-- Where row `r`, lane `k` of point `t`'s block stands in the result. -/
theorem emb3 (t : Fin cfg0.N) (r : Fin 8) (k : Fin 1024) : ((cfg0.win 3).blk t).view.emb (ix2 r k) = ix2 r (col t k) := by
  unfold col; blk_ext [idx t]

open Cert.Reference7Ideal.Mod (whole whole_at) in
/-- The result array after the kernel's run is the reference's result, of the same arguments. -/
theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, k, rfl⟩ : ∃ (r : Fin 8) (k : Fin 1024), y = ix2 r k := ⟨y 0, y 1, eq_ix2 y⟩
  rw [emb3]
  refine Eq.trans ?_ (whole_at _ _ _ r (col t k)).symm
  blk_simp
  rw [after0_3]; frame_out
  refine (stored_at (iblk m c 0 t) (iblk m c 1 t) (iblk m c 2 t) r k).trans ?_
  simp only [blk0, blk1, blk2]

end Cert.Kernel7Ideal.Mod

namespace Cert.Proof.ModFirst

/-- The kernel runs, ends with its arguments unchanged and every counter at zero: the generated run. -/
theorem frame_kernel7 : Cert.quiescent_Kernel7 := fun m ρ _ => Cert.Kernel7.Gen.frame m ρ

/-- The same of its idealization. -/
theorem frame_kernel7Ideal : Cert.quiescent_Kernel7Ideal := fun m ρ _ => Cert.Kernel7Ideal.Gen.frame m ρ

/-- The reference is host code: its run leaves the arguments as they were, and it declares no semaphore. -/
theorem frame_reference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The idealization rewrote nothing. -/
theorem preserves_kernel7 : Cert.preserves_Kernel7_Kernel7Ideal := trivial

/-- From equal arguments the kernel and the reference end with equal results, over the extended reals. -/
theorem algebraic_mod_first : Cert.algebraic_Kernel7Ideal_Reference7Ideal := fun m ρ m' ρ' _ hag =>
  ⟨fun c => Cert.Reference7Ideal.Mod.whole (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2)),
    (θ_run Cert.Kernel7Ideal.defs _ _).mono
      (fun _ h c => ⟨(h c).1.trans ((Cert.Kernel7Ideal.Mod.final m c).trans (by
        obtain ⟨h0, h1, h2⟩ := hag c
        beta_reduce
        rw [h0, h1, h2])), (h c).2⟩)
      (Cert.Kernel7Ideal.Value.run_blocks (F := Ideal) m ρ),
    Cert.Reference7Ideal.Mod.run m' ρ'⟩

end Cert.Proof.ModFirst

end
-- ==== Proof.ModLast.lean ====
/- The last layer's modulation rows: the kernel's result array and the reference's, each entry the formula of `ModRow`,
   and the claims about the call. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.ModRow

@[expose] public section

set_option maxRecDepth 16384

noncomputable section

open Idealize.ShloMosaic Idealize.ShloMosaic.TcCoe Idealize.SL.Sem
open Idealize.ShloMosaic.Pipeline (Dat)

namespace Cert.Reference6Ideal.Mod

open Cert.Reference6Ideal Cert.Reference6Ideal.Gen

/-- The conditioning rows through `silu`. -/
def active (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

/-- The layer's matrix. -/
def matrix (w : FVec Ideal S2x1024x6144 .f32) : FVec Ideal S1024x6144 .f32 :=
  shapeCast _ (extractStridedSlice S1x1024x6144 ![1, 0, 0] w slices_S2x1024x6144_S1x1024x6144_1_0_0) shapeCasts_S1x1024x6144_S1024x6144

/-- The layer's bias, on every row. -/
def bias (b : FVec Ideal S2x6144 .f32) : FVec Ideal S8x6144 .f32 :=
  broadcastInDim S8x6144 ![0, 1] bcast_S1x6144_S8x6144_0_1 (broadcastInDim S1x6144 ![1] bcast_S6144_S1x6144_1
    (shapeCast _ (extractStridedSlice S1x6144 ![1, 0] b slices_S2x6144_S1x6144_1_0) shapeCasts_S1x6144_S6144))

/-- The whole result. -/
def whole (x : FVec Ideal S8x1024 .f32) (w : FVec Ideal S2x1024x6144 .f32) (b : FVec Ideal S2x6144 .f32) : FVec Ideal S8x6144 .f32 :=
  addf (Host.dotGeneral dot_S8x1024_S1024x6144_S8x6144_1_0_0_1_n_n none (active x) (matrix w)) (bias b)

/-- The reference's run ends at `whole` of its arguments, with the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = whole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

theorem active_at (x : FVec Ideal S8x1024 .f32) (r : Fin 8) (i : Fin 1024) : active x (ix2 r i) = ModRow.silu (x (ix2 r i)) := by
  pointwise [active, ModRow.silu]

theorem matrix_at (w : FVec Ideal S2x1024x6144 .f32) (i : Fin 1024) (k : Fin 6144) : matrix w (ix2 i k) = w (ix3 1 i k) := by
  pointwise [matrix]

theorem bias_at (b : FVec Ideal S2x6144 .f32) (r : Fin 8) (k : Fin 6144) : bias b (ix2 r k) = b (ix2 1 k) := by
  pointwise [bias]

theorem product_at (x : FVec Ideal S8x1024 .f32) (w : FVec Ideal S1024x6144 .f32) (b : FVec Ideal S8x6144 .f32) (r : Fin 8) (k : Fin 6144) :
    addf (Host.dotGeneral dot_S8x1024_S1024x6144_S8x6144_1_0_0_1_n_n none x w) b (ix2 r k)
      = (∑ i : Fin 1024, x (ix2 r i) * w (ix2 i k)) + b (ix2 r k) := by
  pointwise

/-- The reference's result at row `r`, lane `k`. -/
theorem whole_at (x : FVec Ideal S8x1024 .f32) (w : FVec Ideal S2x1024x6144 .f32) (b : FVec Ideal S2x6144 .f32) (r : Fin 8) (k : Fin 6144) :
    whole x w b (ix2 r k) = ModRow.out (fun i => x (ix2 r i)) (fun i => w (ix3 1 i k)) (b (ix2 1 k)) := by
  unfold whole ModRow.out
  rw [product_at, bias_at]
  simp only [active_at, matrix_at]

end Cert.Reference6Ideal.Mod

namespace Cert.Kernel6Ideal.Mod

open Cert.Kernel6Ideal Cert.Kernel6Ideal.Gen

/-- The conditioning rows through `silu`, as the body computes it. -/
def active (x : FVec Ideal S8x1024 .f32) : FVec Ideal S8x1024 .f32 :=
  mulf x (divf (broadcast S8x1024 (Scalar.ofBits (F := Ideal) .f32 0x3F800000#32))
    (addf (broadcast S8x1024 (Scalar.ofBits (F := Ideal) .f32 0x3F800000#32)) (exp (subf (broadcast S8x1024 (Scalar.ofBits (F := Ideal) .f32 0x00000000#32)) x))))

/-- The active rows through one block of columns, plus the block's bias. -/
def product (x : FVec Ideal S8x1024 .f32) (w : FVec Ideal S1x1024x1024 .f32) (b : FVec Ideal S1x1x1024 .f32) : FVec Ideal S8x1024 .f32 :=
  addf (matmul dot_S8x1024_S1024x1024_S8x1024_1_0_0_1_n_n (some .fp32) x (shapeCast S1024x1024 w shapeCasts_S1x1024x1024_S1024x1024) (constant S8x1024 .f32 0x00000000#32))
    (broadcastTo S8x1024 (shapeCast S1x1024 b shapeCasts_S1x1x1024_S1x1024) broadcasts_S1x1024_S8x1024)

theorem pay1_eq (x : FVec Ideal S8x1024 .f32) (w : FVec Ideal S1x1024x1024 .f32) (b : FVec Ideal S1x1x1024 .f32) :
    k0_pay1 (F := Ideal) x w b = product (active x) w b := rfl

theorem active_at (x : FVec Ideal S8x1024 .f32) (r : Fin 8) (i : Fin 1024) : active x (ix2 r i) = ModRow.silu (x (ix2 r i)) := by
  pointwise [active, ModRow.silu]
  simp only [zero_sub]

theorem product_at (x : FVec Ideal S8x1024 .f32) (w : FVec Ideal S1x1024x1024 .f32) (b : FVec Ideal S1x1x1024 .f32) (r : Fin 8) (k : Fin 1024) :
    product x w b (ix2 r k) = (∑ i : Fin 1024, x (ix2 r i) * w (ix3 0 i k)) + b (ix3 0 0 k) := by
  pointwise [product]

/-- What the body stores at row `r`, lane `k` of its block. -/
theorem stored_at (x : FVec Ideal S8x1024 .f32) (w : FVec Ideal S1x1024x1024 .f32) (b : FVec Ideal S1x1x1024 .f32) (r : Fin 8) (k : Fin 1024) :
    k0_pay1 (F := Ideal) x w b (ix2 r k) = ModRow.out (fun i => x (ix2 r i)) (fun i => w (ix3 0 i k)) (b (ix3 0 0 k)) := by
  rw [pay1_eq, product_at]
  simp only [active_at]
  rfl

variable (m : (ℓ : Loc nD τ sig) → Buf (Elt Ideal) ℓ)

/-- Where each window's block stands at point `t`: block `t` of the columns. -/
theorem idx : ∀ t : Fin cfg0.N, win0_0.index t = ![0, 0] ∧ win0_1.index t = ![1, 0, t.val] ∧ win0_2.index t = ![1, 0, t.val]
    ∧ win0_3.index t = ![0, t.val] :=
  (by decide +kernel : ∀ t : Fin grid0.N, _)

theorem t_lt (t : Fin cfg0.N) : t.val < 6 := by have h := t.isLt; have hN : cfg0.N = 6 := N_0; omega

/-- The column of the result that lane `k` of block `t` is. -/
def col (t : Fin cfg0.N) (k : Fin 1024) : Fin 6144 := ⟨t.val * 1024 + k.val, by have := t_lt t; omega⟩

theorem blk0 (c : Dev nD) (t : Fin cfg0.N) (r : Fin 8) (i : Fin 1024) :
    iblk m c 0 t (ix2 r i) = m ((c : Thread nD τ).loc main_arg0) (ix2 r i) := by
  blk_ext! [iblk, V, idx t]
theorem blk1 (c : Dev nD) (t : Fin cfg0.N) (i k : Fin 1024) :
    iblk m c 1 t (ix3 0 i k) = m ((c : Thread nD τ).loc main_arg1) (ix3 1 i (col t k)) := by
  unfold col; blk_ext! [iblk, V, idx t]
theorem blk2 (c : Dev nD) (t : Fin cfg0.N) (k : Fin 1024) :
    iblk m c 2 t (ix3 0 0 k) = m ((c : Thread nD τ).loc main_arg2) (ix2 1 (col t k)) := by
  unfold col; blk_ext! [iblk, V, idx t]

/-- Where row `r`, lane `k` of point `t`'s block stands in the result. -/
theorem emb3 (t : Fin cfg0.N) (r : Fin 8) (k : Fin 1024) : ((cfg0.win 3).blk t).view.emb (ix2 r k) = ix2 r (col t k) := by
  unfold col; blk_ext [idx t]

open Cert.Reference6Ideal.Mod (whole whole_at) in
/-- The result array after the kernel's run is the reference's result, of the same arguments. -/
theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, k, rfl⟩ : ∃ (r : Fin 8) (k : Fin 1024), y = ix2 r k := ⟨y 0, y 1, eq_ix2 y⟩
  rw [emb3]
  refine Eq.trans ?_ (whole_at _ _ _ r (col t k)).symm
  blk_simp
  rw [after0_3]; frame_out
  refine (stored_at (iblk m c 0 t) (iblk m c 1 t) (iblk m c 2 t) r k).trans ?_
  simp only [blk0, blk1, blk2]

end Cert.Kernel6Ideal.Mod

namespace Cert.Proof.ModLast

/-- The kernel runs, ends with its arguments unchanged and every counter at zero: the generated run. -/
theorem frame_kernel6 : Cert.quiescent_Kernel6 := fun m ρ _ => Cert.Kernel6.Gen.frame m ρ

/-- The same of its idealization. -/
theorem frame_kernel6Ideal : Cert.quiescent_Kernel6Ideal := fun m ρ _ => Cert.Kernel6Ideal.Gen.frame m ρ

/-- The reference is host code: its run leaves the arguments as they were, and it declares no semaphore. -/
theorem frame_reference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The idealization rewrote nothing. -/
theorem preserves_kernel6 : Cert.preserves_Kernel6_Kernel6Ideal := trivial

/-- From equal arguments the kernel and the reference end with equal results, over the extended reals. -/
theorem algebraic_mod_last : Cert.algebraic_Kernel6Ideal_Reference6Ideal := fun m ρ m' ρ' _ hag =>
  ⟨fun c => Cert.Reference6Ideal.Mod.whole (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)),
    (θ_run Cert.Kernel6Ideal.defs _ _).mono
      (fun _ h c => ⟨(h c).1.trans ((Cert.Kernel6Ideal.Mod.final m c).trans (by
        obtain ⟨h0, h1, h2⟩ := hag c
        beta_reduce
        rw [h0, h1, h2])), (h c).2⟩)
      (Cert.Kernel6Ideal.Value.run_blocks (F := Ideal) m ρ),
    Cert.Reference6Ideal.Mod.run m' ρ'⟩

end Cert.Proof.ModLast

end
-- ==== Proof.lean ====
module

public import proofs.«01_k».proof.Defs
public import proofs.«01_k».proof.Proof.CombineClaims
public import proofs.«01_k».proof.Proof.ExpertsClaims
public import proofs.«01_k».proof.Proof.FirstClaims
public import proofs.«01_k».proof.Proof.AttnClaims
public import proofs.«01_k».proof.Proof.FirstCombineClaims
public import proofs.«01_k».proof.Proof.ModFirst
public import proofs.«01_k».proof.Proof.ModLast

@[expose] public section

noncomputable section

namespace Cert.Proof

open Cert.Proof.CombineClaims Cert.Proof.ExpertsClaims Cert.Proof.FirstClaims Cert.Proof.AttnClaims Cert.Proof.FirstCombineClaims
open Cert.Proof.ModLast Cert.Proof.ModFirst

theorem claim : Cert.Claim :=
  ⟨Cert.Kernel.Gen.facts, Cert.KernelIdeal.Gen.facts, Cert.ReferenceIdeal.Gen.facts, Cert.Kernel2.Gen.facts, Cert.Reference2.Gen.facts,
    Cert.Kernel3.Gen.facts, Cert.Kernel3Ideal.Gen.facts, Cert.Reference3Ideal.Gen.facts, Cert.Kernel4.Gen.facts, Cert.Reference4.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_tables_fit.Gen.facts,
    frame_kernel, frame_kernelIdeal, frame_referenceIdeal, frame_kernel2, frame_reference2, frame_kernel3,
    frame_kernel3Ideal, frame_reference3Ideal, frame_kernel4, frame_reference4, frame_kernel5, frame_kernel5Ideal, frame_reference5Ideal,
    frame_kernel6, frame_kernel6Ideal, frame_reference6Ideal, frame_kernel7, frame_kernel7Ideal, frame_reference7Ideal,
    preserves_kernel, algebraic_combine, bitexact_experts,
    preserves_kernel3, algebraic_attn, bitexact_first, preserves_kernel5, algebraic_first_combine,
    preserves_kernel6, algebraic_mod_last, preserves_kernel7, algebraic_mod_first⟩

end Cert.Proof

end
